-- ==== Defs.lean ====
def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelAttnQ (m : (ℓ : Loc Cert.KernelAttnQ.nD Cert.KernelAttnQ.τ Cert.KernelAttnQ.sig) → Buf (Elt Bits) ℓ) : Prop :=
  True

def Pre_KernelAttnQIdeal (m : (ℓ : Loc Cert.KernelAttnQIdeal.nD Cert.KernelAttnQIdeal.τ Cert.KernelAttnQIdeal.sig) → Buf (Elt Ideal) ℓ) : Prop :=
  True

def Pre_KernelAttnQIdeal_attention_finite [hPre_attention_finite : Cert.Pre_attention_finite.Facts] (m : (ℓ : Loc Cert.KernelAttnQIdeal.nD Cert.KernelAttnQIdeal.τ Cert.KernelAttnQIdeal.sig) → Buf (Elt Ideal) ℓ) : Prop :=
  ∀ c : Dev Cert.KernelAttnQIdeal.nD,
    (Cert.Pre_attention_finite.fn (F := Ideal) (m ((c.tc : Thread Cert.KernelAttnQIdeal.nD Cert.KernelAttnQIdeal.τ).loc Cert.KernelAttnQIdeal.main_arg0)) (m ((c.tc : Thread Cert.KernelAttnQIdeal.nD Cert.KernelAttnQIdeal.τ).loc Cert.KernelAttnQIdeal.main_arg1)) (m ((c.tc : Thread Cert.KernelAttnQIdeal.nD Cert.KernelAttnQIdeal.τ).loc Cert.KernelAttnQIdeal.main_arg2)) (m ((c.tc : Thread Cert.KernelAttnQIdeal.nD Cert.KernelAttnQIdeal.τ).loc Cert.KernelAttnQIdeal.main_arg3)) (m ((c.tc : Thread Cert.KernelAttnQIdeal.nD Cert.KernelAttnQIdeal.τ).loc Cert.KernelAttnQIdeal.main_arg4))) = (fun _ => 1#1)

def Pre_ReferenceAttnQIdeal (m : (ℓ : Loc Cert.ReferenceAttnQIdeal.nD Cert.ReferenceAttnQIdeal.τ Cert.ReferenceAttnQIdeal.sig) → Buf (Elt Ideal) ℓ) : Prop :=
  True

def Pre_ReferenceAttnQIdeal_attention_finite [hPre_attention_finite : Cert.Pre_attention_finite.Facts] (m : (ℓ : Loc Cert.ReferenceAttnQIdeal.nD Cert.ReferenceAttnQIdeal.τ Cert.ReferenceAttnQIdeal.sig) → Buf (Elt Ideal) ℓ) : Prop :=
  ∀ c : Dev Cert.ReferenceAttnQIdeal.nD,
    (Cert.Pre_attention_finite.fn (F := Ideal) (m ((c.tc : Thread Cert.ReferenceAttnQIdeal.nD Cert.ReferenceAttnQIdeal.τ).loc Cert.ReferenceAttnQIdeal.main_arg0)) (m ((c.tc : Thread Cert.ReferenceAttnQIdeal.nD Cert.ReferenceAttnQIdeal.τ).loc Cert.ReferenceAttnQIdeal.main_arg1)) (m ((c.tc : Thread Cert.ReferenceAttnQIdeal.nD Cert.ReferenceAttnQIdeal.τ).loc Cert.ReferenceAttnQIdeal.main_arg2)) (m ((c.tc : Thread Cert.ReferenceAttnQIdeal.nD Cert.ReferenceAttnQIdeal.τ).loc Cert.ReferenceAttnQIdeal.main_arg3)) (m ((c.tc : Thread Cert.ReferenceAttnQIdeal.nD Cert.ReferenceAttnQIdeal.τ).loc Cert.ReferenceAttnQIdeal.main_arg4))) = (fun _ => 1#1)

def Pre_KernelAttnKv (m : (ℓ : Loc Cert.KernelAttnKv.nD Cert.KernelAttnKv.τ Cert.KernelAttnKv.sig) → Buf (Elt Bits) ℓ) : Prop :=
  True

def Pre_KernelAttnKvIdeal (m : (ℓ : Loc Cert.KernelAttnKvIdeal.nD Cert.KernelAttnKvIdeal.τ Cert.KernelAttnKvIdeal.sig) → Buf (Elt Ideal) ℓ) : Prop :=
  True

def Pre_KernelAttnKvIdeal_attention_finite [hPre_attention_finite : Cert.Pre_attention_finite.Facts] (m : (ℓ : Loc Cert.KernelAttnKvIdeal.nD Cert.KernelAttnKvIdeal.τ Cert.KernelAttnKvIdeal.sig) → Buf (Elt Ideal) ℓ) : Prop :=
  ∀ c : Dev Cert.KernelAttnKvIdeal.nD,
    (Cert.Pre_attention_finite.fn (F := Ideal) (m ((c.tc : Thread Cert.KernelAttnKvIdeal.nD Cert.KernelAttnKvIdeal.τ).loc Cert.KernelAttnKvIdeal.main_arg0)) (m ((c.tc : Thread Cert.KernelAttnKvIdeal.nD Cert.KernelAttnKvIdeal.τ).loc Cert.KernelAttnKvIdeal.main_arg1)) (m ((c.tc : Thread Cert.KernelAttnKvIdeal.nD Cert.KernelAttnKvIdeal.τ).loc Cert.KernelAttnKvIdeal.main_arg2)) (m ((c.tc : Thread Cert.KernelAttnKvIdeal.nD Cert.KernelAttnKvIdeal.τ).loc Cert.KernelAttnKvIdeal.main_arg3)) (m ((c.tc : Thread Cert.KernelAttnKvIdeal.nD Cert.KernelAttnKvIdeal.τ).loc Cert.KernelAttnKvIdeal.main_arg4))) = (fun _ => 1#1)

def Pre_ReferenceAttnKvIdeal (m : (ℓ : Loc Cert.ReferenceAttnKvIdeal.nD Cert.ReferenceAttnKvIdeal.τ Cert.ReferenceAttnKvIdeal.sig) → Buf (Elt Ideal) ℓ) : Prop :=
  True

def Pre_ReferenceAttnKvIdeal_attention_finite [hPre_attention_finite : Cert.Pre_attention_finite.Facts] (m : (ℓ : Loc Cert.ReferenceAttnKvIdeal.nD Cert.ReferenceAttnKvIdeal.τ Cert.ReferenceAttnKvIdeal.sig) → Buf (Elt Ideal) ℓ) : Prop :=
  ∀ c : Dev Cert.ReferenceAttnKvIdeal.nD,
    (Cert.Pre_attention_finite.fn (F := Ideal) (m ((c.tc : Thread Cert.ReferenceAttnKvIdeal.nD Cert.ReferenceAttnKvIdeal.τ).loc Cert.ReferenceAttnKvIdeal.main_arg0)) (m ((c.tc : Thread Cert.ReferenceAttnKvIdeal.nD Cert.ReferenceAttnKvIdeal.τ).loc Cert.ReferenceAttnKvIdeal.main_arg1)) (m ((c.tc : Thread Cert.ReferenceAttnKvIdeal.nD Cert.ReferenceAttnKvIdeal.τ).loc Cert.ReferenceAttnKvIdeal.main_arg2)) (m ((c.tc : Thread Cert.ReferenceAttnKvIdeal.nD Cert.ReferenceAttnKvIdeal.τ).loc Cert.ReferenceAttnKvIdeal.main_arg3)) (m ((c.tc : Thread Cert.ReferenceAttnKvIdeal.nD Cert.ReferenceAttnKvIdeal.τ).loc Cert.ReferenceAttnKvIdeal.main_arg4))) = (fun _ => 1#1)

def Pre_KernelRms (m : (ℓ : Loc Cert.KernelRms.nD Cert.KernelRms.τ Cert.KernelRms.sig) → Buf (Elt Bits) ℓ) : Prop :=
  True

def Pre_KernelRmsIdeal (m : (ℓ : Loc Cert.KernelRmsIdeal.nD Cert.KernelRmsIdeal.τ Cert.KernelRmsIdeal.sig) → Buf (Elt Ideal) ℓ) : Prop :=
  True

def Pre_KernelRmsIdeal_rms_finite [hPre_rms_finite : Cert.Pre_rms_finite.Facts] (m : (ℓ : Loc Cert.KernelRmsIdeal.nD Cert.KernelRmsIdeal.τ Cert.KernelRmsIdeal.sig) → Buf (Elt Ideal) ℓ) : Prop :=
  ∀ c : Dev Cert.KernelRmsIdeal.nD,
    (Cert.Pre_rms_finite.fn (F := Ideal) (m ((c.tc : Thread Cert.KernelRmsIdeal.nD Cert.KernelRmsIdeal.τ).loc Cert.KernelRmsIdeal.main_arg0)) (m ((c.tc : Thread Cert.KernelRmsIdeal.nD Cert.KernelRmsIdeal.τ).loc Cert.KernelRmsIdeal.main_arg1)) (m ((c.tc : Thread Cert.KernelRmsIdeal.nD Cert.KernelRmsIdeal.τ).loc Cert.KernelRmsIdeal.main_arg2)) (m ((c.tc : Thread Cert.KernelRmsIdeal.nD Cert.KernelRmsIdeal.τ).loc Cert.KernelRmsIdeal.main_arg3))) = (fun _ => 1#1)

def Pre_ReferenceRmsIdeal (m : (ℓ : Loc Cert.ReferenceRmsIdeal.nD Cert.ReferenceRmsIdeal.τ Cert.ReferenceRmsIdeal.sig) → Buf (Elt Ideal) ℓ) : Prop :=
  True

def Pre_ReferenceRmsIdeal_rms_finite [hPre_rms_finite : Cert.Pre_rms_finite.Facts] (m : (ℓ : Loc Cert.ReferenceRmsIdeal.nD Cert.ReferenceRmsIdeal.τ Cert.ReferenceRmsIdeal.sig) → Buf (Elt Ideal) ℓ) : Prop :=
  ∀ c : Dev Cert.ReferenceRmsIdeal.nD,
    (Cert.Pre_rms_finite.fn (F := Ideal) (m ((c.tc : Thread Cert.ReferenceRmsIdeal.nD Cert.ReferenceRmsIdeal.τ).loc Cert.ReferenceRmsIdeal.main_arg0)) (m ((c.tc : Thread Cert.ReferenceRmsIdeal.nD Cert.ReferenceRmsIdeal.τ).loc Cert.ReferenceRmsIdeal.main_arg1)) (m ((c.tc : Thread Cert.ReferenceRmsIdeal.nD Cert.ReferenceRmsIdeal.τ).loc Cert.ReferenceRmsIdeal.main_arg2)) (m ((c.tc : Thread Cert.ReferenceRmsIdeal.nD Cert.ReferenceRmsIdeal.τ).loc Cert.ReferenceRmsIdeal.main_arg3))) = (fun _ => 1#1)

def Pre_KernelQkNorm (m : (ℓ : Loc Cert.KernelQkNorm.nD Cert.KernelQkNorm.τ Cert.KernelQkNorm.sig) → Buf (Elt Bits) ℓ) : Prop :=
  True

def Pre_KernelQkNormIdeal (m : (ℓ : Loc Cert.KernelQkNormIdeal.nD Cert.KernelQkNormIdeal.τ Cert.KernelQkNormIdeal.sig) → Buf (Elt Ideal) ℓ) : Prop :=
  True

def Pre_KernelQkNormIdeal_qk_norm_finite [hPre_qk_norm_finite : Cert.Pre_qk_norm_finite.Facts] (m : (ℓ : Loc Cert.KernelQkNormIdeal.nD Cert.KernelQkNormIdeal.τ Cert.KernelQkNormIdeal.sig) → Buf (Elt Ideal) ℓ) : Prop :=
  ∀ c : Dev Cert.KernelQkNormIdeal.nD,
    (Cert.Pre_qk_norm_finite.fn (F := Ideal) (m ((c.tc : Thread Cert.KernelQkNormIdeal.nD Cert.KernelQkNormIdeal.τ).loc Cert.KernelQkNormIdeal.main_arg0)) (m ((c.tc : Thread Cert.KernelQkNormIdeal.nD Cert.KernelQkNormIdeal.τ).loc Cert.KernelQkNormIdeal.main_arg1)) (m ((c.tc : Thread Cert.KernelQkNormIdeal.nD Cert.KernelQkNormIdeal.τ).loc Cert.KernelQkNormIdeal.main_arg2)) (m ((c.tc : Thread Cert.KernelQkNormIdeal.nD Cert.KernelQkNormIdeal.τ).loc Cert.KernelQkNormIdeal.main_arg3)) (m ((c.tc : Thread Cert.KernelQkNormIdeal.nD Cert.KernelQkNormIdeal.τ).loc Cert.KernelQkNormIdeal.main_arg4))) = (fun _ => 1#1)

def Pre_ReferenceQkNormIdeal (m : (ℓ : Loc Cert.ReferenceQkNormIdeal.nD Cert.ReferenceQkNormIdeal.τ Cert.ReferenceQkNormIdeal.sig) → Buf (Elt Ideal) ℓ) : Prop :=
  True

def Pre_ReferenceQkNormIdeal_qk_norm_finite [hPre_qk_norm_finite : Cert.Pre_qk_norm_finite.Facts] (m : (ℓ : Loc Cert.ReferenceQkNormIdeal.nD Cert.ReferenceQkNormIdeal.τ Cert.ReferenceQkNormIdeal.sig) → Buf (Elt Ideal) ℓ) : Prop :=
  ∀ c : Dev Cert.ReferenceQkNormIdeal.nD,
    (Cert.Pre_qk_norm_finite.fn (F := Ideal) (m ((c.tc : Thread Cert.ReferenceQkNormIdeal.nD Cert.ReferenceQkNormIdeal.τ).loc Cert.ReferenceQkNormIdeal.main_arg0)) (m ((c.tc : Thread Cert.ReferenceQkNormIdeal.nD Cert.ReferenceQkNormIdeal.τ).loc Cert.ReferenceQkNormIdeal.main_arg1)) (m ((c.tc : Thread Cert.ReferenceQkNormIdeal.nD Cert.ReferenceQkNormIdeal.τ).loc Cert.ReferenceQkNormIdeal.main_arg2)) (m ((c.tc : Thread Cert.ReferenceQkNormIdeal.nD Cert.ReferenceQkNormIdeal.τ).loc Cert.ReferenceQkNormIdeal.main_arg3)) (m ((c.tc : Thread Cert.ReferenceQkNormIdeal.nD Cert.ReferenceQkNormIdeal.τ).loc Cert.ReferenceQkNormIdeal.main_arg4))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_ffn_finite [hPre_ffn_finite : Cert.Pre_ffn_finite.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_ffn_finite [hPre_ffn_finite : Cert.Pre_ffn_finite.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))) = (fun _ => 1#1)

def Pre_KernelForget (m : (ℓ : Loc Cert.KernelForget.nD Cert.KernelForget.τ Cert.KernelForget.sig) → Buf (Elt Bits) ℓ) : Prop :=
  True

def Pre_KernelForgetIdeal (m : (ℓ : Loc Cert.KernelForgetIdeal.nD Cert.KernelForgetIdeal.τ Cert.KernelForgetIdeal.sig) → Buf (Elt Ideal) ℓ) : Prop :=
  True

def Pre_ReferenceForgetIdeal (m : (ℓ : Loc Cert.ReferenceForgetIdeal.nD Cert.ReferenceForgetIdeal.τ Cert.ReferenceForgetIdeal.sig) → Buf (Elt Ideal) ℓ) : Prop :=
  True

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_pool_finite [hPre_pool_finite : Cert.Pre_pool_finite.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_pool_finite.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))) = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_pool_finite [hPre_pool_finite : Cert.Pre_pool_finite.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_pool_finite.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))) = (fun _ => 1#1)

def Pre_KernelAttnFwd (m : (ℓ : Loc Cert.KernelAttnFwd.nD Cert.KernelAttnFwd.τ Cert.KernelAttnFwd.sig) → Buf (Elt Bits) ℓ) : Prop :=
  True

def Pre_KernelAttnFwdIdeal (m : (ℓ : Loc Cert.KernelAttnFwdIdeal.nD Cert.KernelAttnFwdIdeal.τ Cert.KernelAttnFwdIdeal.sig) → Buf (Elt Ideal) ℓ) : Prop :=
  True

def Pre_KernelAttnFwdIdeal_attn_fwd_finite [hPre_attn_fwd_finite : Cert.Pre_attn_fwd_finite.Facts] (m : (ℓ : Loc Cert.KernelAttnFwdIdeal.nD Cert.KernelAttnFwdIdeal.τ Cert.KernelAttnFwdIdeal.sig) → Buf (Elt Ideal) ℓ) : Prop :=
  ∀ c : Dev Cert.KernelAttnFwdIdeal.nD,
    (Cert.Pre_attn_fwd_finite.fn (F := Ideal) (m ((c.tc : Thread Cert.KernelAttnFwdIdeal.nD Cert.KernelAttnFwdIdeal.τ).loc Cert.KernelAttnFwdIdeal.main_arg0)) (m ((c.tc : Thread Cert.KernelAttnFwdIdeal.nD Cert.KernelAttnFwdIdeal.τ).loc Cert.KernelAttnFwdIdeal.main_arg1)) (m ((c.tc : Thread Cert.KernelAttnFwdIdeal.nD Cert.KernelAttnFwdIdeal.τ).loc Cert.KernelAttnFwdIdeal.main_arg2)) (m ((c.tc : Thread Cert.KernelAttnFwdIdeal.nD Cert.KernelAttnFwdIdeal.τ).loc Cert.KernelAttnFwdIdeal.main_arg3))) = (fun _ => 1#1)

def Pre_ReferenceAttnFwdIdeal (m : (ℓ : Loc Cert.ReferenceAttnFwdIdeal.nD Cert.ReferenceAttnFwdIdeal.τ Cert.ReferenceAttnFwdIdeal.sig) → Buf (Elt Ideal) ℓ) : Prop :=
  True

def Pre_ReferenceAttnFwdIdeal_attn_fwd_finite [hPre_attn_fwd_finite : Cert.Pre_attn_fwd_finite.Facts] (m : (ℓ : Loc Cert.ReferenceAttnFwdIdeal.nD Cert.ReferenceAttnFwdIdeal.τ Cert.ReferenceAttnFwdIdeal.sig) → Buf (Elt Ideal) ℓ) : Prop :=
  ∀ c : Dev Cert.ReferenceAttnFwdIdeal.nD,
    (Cert.Pre_attn_fwd_finite.fn (F := Ideal) (m ((c.tc : Thread Cert.ReferenceAttnFwdIdeal.nD Cert.ReferenceAttnFwdIdeal.τ).loc Cert.ReferenceAttnFwdIdeal.main_arg0)) (m ((c.tc : Thread Cert.ReferenceAttnFwdIdeal.nD Cert.ReferenceAttnFwdIdeal.τ).loc Cert.ReferenceAttnFwdIdeal.main_arg1)) (m ((c.tc : Thread Cert.ReferenceAttnFwdIdeal.nD Cert.ReferenceAttnFwdIdeal.τ).loc Cert.ReferenceAttnFwdIdeal.main_arg2)) (m ((c.tc : Thread Cert.ReferenceAttnFwdIdeal.nD Cert.ReferenceAttnFwdIdeal.τ).loc Cert.ReferenceAttnFwdIdeal.main_arg3))) = (fun _ => 1#1)

def Pre_KernelRmsFwd (m : (ℓ : Loc Cert.KernelRmsFwd.nD Cert.KernelRmsFwd.τ Cert.KernelRmsFwd.sig) → Buf (Elt Bits) ℓ) : Prop :=
  True

def Pre_KernelRmsFwdIdeal (m : (ℓ : Loc Cert.KernelRmsFwdIdeal.nD Cert.KernelRmsFwdIdeal.τ Cert.KernelRmsFwdIdeal.sig) → Buf (Elt Ideal) ℓ) : Prop :=
  True

def Pre_ReferenceRmsFwdIdeal (m : (ℓ : Loc Cert.ReferenceRmsFwdIdeal.nD Cert.ReferenceRmsFwdIdeal.τ Cert.ReferenceRmsFwdIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_ReferencePrepIdeal (m : (ℓ : Loc Cert.ReferencePrepIdeal.nD Cert.ReferencePrepIdeal.τ Cert.ReferencePrepIdeal.sig) → Buf (Elt Ideal) ℓ) : Prop :=
  True

def Pre_KernelPoolFwd (m : (ℓ : Loc Cert.KernelPoolFwd.nD Cert.KernelPoolFwd.τ Cert.KernelPoolFwd.sig) → Buf (Elt Bits) ℓ) : Prop :=
  True

def Pre_KernelPoolFwdIdeal (m : (ℓ : Loc Cert.KernelPoolFwdIdeal.nD Cert.KernelPoolFwdIdeal.τ Cert.KernelPoolFwdIdeal.sig) → Buf (Elt Ideal) ℓ) : Prop :=
  True

def Pre_KernelPoolFwdIdeal_pool_fwd_finite [hPre_pool_fwd_finite : Cert.Pre_pool_fwd_finite.Facts] (m : (ℓ : Loc Cert.KernelPoolFwdIdeal.nD Cert.KernelPoolFwdIdeal.τ Cert.KernelPoolFwdIdeal.sig) → Buf (Elt Ideal) ℓ) : Prop :=
  ∀ c : Dev Cert.KernelPoolFwdIdeal.nD,
    (Cert.Pre_pool_fwd_finite.fn (F := Ideal) (m ((c.tc : Thread Cert.KernelPoolFwdIdeal.nD Cert.KernelPoolFwdIdeal.τ).loc Cert.KernelPoolFwdIdeal.main_arg0)) (m ((c.tc : Thread Cert.KernelPoolFwdIdeal.nD Cert.KernelPoolFwdIdeal.τ).loc Cert.KernelPoolFwdIdeal.main_arg1)) (m ((c.tc : Thread Cert.KernelPoolFwdIdeal.nD Cert.KernelPoolFwdIdeal.τ).loc Cert.KernelPoolFwdIdeal.main_arg2))) = (fun _ => 1#1)

def Pre_ReferencePoolFwdIdeal (m : (ℓ : Loc Cert.ReferencePoolFwdIdeal.nD Cert.ReferencePoolFwdIdeal.τ Cert.ReferencePoolFwdIdeal.sig) → Buf (Elt Ideal) ℓ) : Prop :=
  True

def Pre_ReferencePoolFwdIdeal_pool_fwd_finite [hPre_pool_fwd_finite : Cert.Pre_pool_fwd_finite.Facts] (m : (ℓ : Loc Cert.ReferencePoolFwdIdeal.nD Cert.ReferencePoolFwdIdeal.τ Cert.ReferencePoolFwdIdeal.sig) → Buf (Elt Ideal) ℓ) : Prop :=
  ∀ c : Dev Cert.ReferencePoolFwdIdeal.nD,
    (Cert.Pre_pool_fwd_finite.fn (F := Ideal) (m ((c.tc : Thread Cert.ReferencePoolFwdIdeal.nD Cert.ReferencePoolFwdIdeal.τ).loc Cert.ReferencePoolFwdIdeal.main_arg0)) (m ((c.tc : Thread Cert.ReferencePoolFwdIdeal.nD Cert.ReferencePoolFwdIdeal.τ).loc Cert.ReferencePoolFwdIdeal.main_arg1)) (m ((c.tc : Thread Cert.ReferencePoolFwdIdeal.nD Cert.ReferencePoolFwdIdeal.τ).loc Cert.ReferencePoolFwdIdeal.main_arg2))) = (fun _ => 1#1)

def Pre_KernelUpGate (m : (ℓ : Loc Cert.KernelUpGate.nD Cert.KernelUpGate.τ Cert.KernelUpGate.sig) → Buf (Elt Bits) ℓ) : Prop :=
  True

def Pre_KernelUpGateIdeal (m : (ℓ : Loc Cert.KernelUpGateIdeal.nD Cert.KernelUpGateIdeal.τ Cert.KernelUpGateIdeal.sig) → Buf (Elt Ideal) ℓ) : Prop :=
  True

def Pre_KernelUpGateIdeal_up_gate_finite [hPre_up_gate_finite : Cert.Pre_up_gate_finite.Facts] (m : (ℓ : Loc Cert.KernelUpGateIdeal.nD Cert.KernelUpGateIdeal.τ Cert.KernelUpGateIdeal.sig) → Buf (Elt Ideal) ℓ) : Prop :=
  ∀ c : Dev Cert.KernelUpGateIdeal.nD,
    (Cert.Pre_up_gate_finite.fn (F := Ideal) (m ((c.tc : Thread Cert.KernelUpGateIdeal.nD Cert.KernelUpGateIdeal.τ).loc Cert.KernelUpGateIdeal.main_arg0)) (m ((c.tc : Thread Cert.KernelUpGateIdeal.nD Cert.KernelUpGateIdeal.τ).loc Cert.KernelUpGateIdeal.main_arg1)) (m ((c.tc : Thread Cert.KernelUpGateIdeal.nD Cert.KernelUpGateIdeal.τ).loc Cert.KernelUpGateIdeal.main_arg2))) = (fun _ => 1#1)

def Pre_ReferenceUpGateIdeal (m : (ℓ : Loc Cert.ReferenceUpGateIdeal.nD Cert.ReferenceUpGateIdeal.τ Cert.ReferenceUpGateIdeal.sig) → Buf (Elt Ideal) ℓ) : Prop :=
  True

def Pre_ReferenceUpGateIdeal_up_gate_finite [hPre_up_gate_finite : Cert.Pre_up_gate_finite.Facts] (m : (ℓ : Loc Cert.ReferenceUpGateIdeal.nD Cert.ReferenceUpGateIdeal.τ Cert.ReferenceUpGateIdeal.sig) → Buf (Elt Ideal) ℓ) : Prop :=
  ∀ c : Dev Cert.ReferenceUpGateIdeal.nD,
    (Cert.Pre_up_gate_finite.fn (F := Ideal) (m ((c.tc : Thread Cert.ReferenceUpGateIdeal.nD Cert.ReferenceUpGateIdeal.τ).loc Cert.ReferenceUpGateIdeal.main_arg0)) (m ((c.tc : Thread Cert.ReferenceUpGateIdeal.nD Cert.ReferenceUpGateIdeal.τ).loc Cert.ReferenceUpGateIdeal.main_arg1)) (m ((c.tc : Thread Cert.ReferenceUpGateIdeal.nD Cert.ReferenceUpGateIdeal.τ).loc Cert.ReferenceUpGateIdeal.main_arg2))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_KernelUpIdeal_up_finite [hPre_up_finite : Cert.Pre_up_finite.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_up_finite.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2))) = (fun _ => 1#1)

def Pre_ReferenceUpIdeal (m : (ℓ : Loc Cert.ReferenceUpIdeal.nD Cert.ReferenceUpIdeal.τ Cert.ReferenceUpIdeal.sig) → Buf (Elt Ideal) ℓ) : Prop :=
  True

def Pre_ReferenceUpIdeal_up_finite [hPre_up_finite : Cert.Pre_up_finite.Facts] (m : (ℓ : Loc Cert.ReferenceUpIdeal.nD Cert.ReferenceUpIdeal.τ Cert.ReferenceUpIdeal.sig) → Buf (Elt Ideal) ℓ) : Prop :=
  ∀ c : Dev Cert.ReferenceUpIdeal.nD,
    (Cert.Pre_up_finite.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2))) = (fun _ => 1#1)

def Pre_KernelForgetFwd (m : (ℓ : Loc Cert.KernelForgetFwd.nD Cert.KernelForgetFwd.τ Cert.KernelForgetFwd.sig) → Buf (Elt Bits) ℓ) : Prop :=
  True

def Pre_KernelForgetFwdIdeal (m : (ℓ : Loc Cert.KernelForgetFwdIdeal.nD Cert.KernelForgetFwdIdeal.τ Cert.KernelForgetFwdIdeal.sig) → Buf (Elt Ideal) ℓ) : Prop :=
  True

def Pre_ReferenceForgetFwdIdeal (m : (ℓ : Loc Cert.ReferenceForgetFwdIdeal.nD Cert.ReferenceForgetFwdIdeal.τ Cert.ReferenceForgetFwdIdeal.sig) → Buf (Elt Ideal) ℓ) : Prop :=
  True

def Pre_KernelMmNn (m : (ℓ : Loc Cert.KernelMmNn.nD Cert.KernelMmNn.τ Cert.KernelMmNn.sig) → Buf (Elt Bits) ℓ) : Prop :=
  True

def Pre_KernelMmNnIdeal (m : (ℓ : Loc Cert.KernelMmNnIdeal.nD Cert.KernelMmNnIdeal.τ Cert.KernelMmNnIdeal.sig) → Buf (Elt Ideal) ℓ) : Prop :=
  True

def Pre_ReferenceMmNnIdeal (m : (ℓ : Loc Cert.ReferenceMmNnIdeal.nD Cert.ReferenceMmNnIdeal.τ Cert.ReferenceMmNnIdeal.sig) → Buf (Elt Ideal) ℓ) : Prop :=
  True

def Pre_KernelMmRes (m : (ℓ : Loc Cert.KernelMmRes.nD Cert.KernelMmRes.τ Cert.KernelMmRes.sig) → Buf (Elt Bits) ℓ) : Prop :=
  True

def Pre_KernelMmResIdeal (m : (ℓ : Loc Cert.KernelMmResIdeal.nD Cert.KernelMmResIdeal.τ Cert.KernelMmResIdeal.sig) → Buf (Elt Ideal) ℓ) : Prop :=
  True

def Pre_ReferenceMmResIdeal (m : (ℓ : Loc Cert.ReferenceMmResIdeal.nD Cert.ReferenceMmResIdeal.τ Cert.ReferenceMmResIdeal.sig) → Buf (Elt Ideal) ℓ) : Prop :=
  True

def Pre_KernelMmNt (m : (ℓ : Loc Cert.KernelMmNt.nD Cert.KernelMmNt.τ Cert.KernelMmNt.sig) → Buf (Elt Bits) ℓ) : Prop :=
  True

def Pre_KernelMmNtIdeal (m : (ℓ : Loc Cert.KernelMmNtIdeal.nD Cert.KernelMmNtIdeal.τ Cert.KernelMmNtIdeal.sig) → Buf (Elt Ideal) ℓ) : Prop :=
  True

def Pre_ReferenceMmNtIdeal (m : (ℓ : Loc Cert.ReferenceMmNtIdeal.nD Cert.ReferenceMmNtIdeal.τ Cert.ReferenceMmNtIdeal.sig) → Buf (Elt Ideal) ℓ) : Prop :=
  True

def Pre_KernelMmSum (m : (ℓ : Loc Cert.KernelMmSum.nD Cert.KernelMmSum.τ Cert.KernelMmSum.sig) → Buf (Elt Bits) ℓ) : Prop :=
  True

def Pre_KernelMmSumIdeal (m : (ℓ : Loc Cert.KernelMmSumIdeal.nD Cert.KernelMmSumIdeal.τ Cert.KernelMmSumIdeal.sig) → Buf (Elt Ideal) ℓ) : Prop :=
  True

def Pre_ReferenceMmSumIdeal (m : (ℓ : Loc Cert.ReferenceMmSumIdeal.nD Cert.ReferenceMmSumIdeal.τ Cert.ReferenceMmSumIdeal.sig) → Buf (Elt Ideal) ℓ) : Prop :=
  True

def Pre_KernelMmTn (m : (ℓ : Loc Cert.KernelMmTn.nD Cert.KernelMmTn.τ Cert.KernelMmTn.sig) → Buf (Elt Bits) ℓ) : Prop :=
  True

def Pre_KernelMmTnIdeal (m : (ℓ : Loc Cert.KernelMmTnIdeal.nD Cert.KernelMmTnIdeal.τ Cert.KernelMmTnIdeal.sig) → Buf (Elt Ideal) ℓ) : Prop :=
  True

def Pre_ReferenceMmTnIdeal (m : (ℓ : Loc Cert.ReferenceMmTnIdeal.nD Cert.ReferenceMmTnIdeal.τ Cert.ReferenceMmTnIdeal.sig) → Buf (Elt Ideal) ℓ) : Prop :=
  True

def Pre_KernelAdamw (m : (ℓ : Loc Cert.KernelAdamw.nD Cert.KernelAdamw.τ Cert.KernelAdamw.sig) → Buf (Elt Bits) ℓ) : Prop :=
  True

def Pre_KernelAdamwIdeal (m : (ℓ : Loc Cert.KernelAdamwIdeal.nD Cert.KernelAdamwIdeal.τ Cert.KernelAdamwIdeal.sig) → Buf (Elt Ideal) ℓ) : Prop :=
  True

def Pre_ReferenceAdamwIdeal (m : (ℓ : Loc Cert.ReferenceAdamwIdeal.nD Cert.ReferenceAdamwIdeal.τ Cert.ReferenceAdamwIdeal.sig) → Buf (Elt Ideal) ℓ) : Prop :=
  True

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1))
      ∧ r.2.sem = fun _ => 0)

def quiescent_KernelAttnQ [hKernelAttnQ : Cert.KernelAttnQ.Facts] : Prop :=
  ∀ (m : (ℓ : Loc Cert.KernelAttnQ.nD Cert.KernelAttnQ.τ Cert.KernelAttnQ.sig) → Buf (Elt Bits) ℓ) (g : Dev Cert.KernelAttnQ.nD → PrngReg), Pre_KernelAttnQ m →
    θ_run (Cert.KernelAttnQ.defs (F := Bits)) (onTc (τ := Cert.KernelAttnQ.τ) (Cert.KernelAttnQ.main (F := Bits))) ⟨m, fun _ => 0, g⟩ (fun r => (∀ c : Dev Cert.KernelAttnQ.nD,
      r.2.mem ((c.tc : Thread Cert.KernelAttnQ.nD Cert.KernelAttnQ.τ).loc Cert.KernelAttnQ.main_arg0) = m ((c.tc : Thread Cert.KernelAttnQ.nD Cert.KernelAttnQ.τ).loc Cert.KernelAttnQ.main_arg0)
      ∧ r.2.mem ((c.tc : Thread Cert.KernelAttnQ.nD Cert.KernelAttnQ.τ).loc Cert.KernelAttnQ.main_arg1) = m ((c.tc : Thread Cert.KernelAttnQ.nD Cert.KernelAttnQ.τ).loc Cert.KernelAttnQ.main_arg1)
      ∧ r.2.mem ((c.tc : Thread Cert.KernelAttnQ.nD Cert.KernelAttnQ.τ).loc Cert.KernelAttnQ.main_arg2) = m ((c.tc : Thread Cert.KernelAttnQ.nD Cert.KernelAttnQ.τ).loc Cert.KernelAttnQ.main_arg2)
      ∧ r.2.mem ((c.tc : Thread Cert.KernelAttnQ.nD Cert.KernelAttnQ.τ).loc Cert.KernelAttnQ.main_arg3) = m ((c.tc : Thread Cert.KernelAttnQ.nD Cert.KernelAttnQ.τ).loc Cert.KernelAttnQ.main_arg3)
      ∧ r.2.mem ((c.tc : Thread Cert.KernelAttnQ.nD Cert.KernelAttnQ.τ).loc Cert.KernelAttnQ.main_arg4) = m ((c.tc : Thread Cert.KernelAttnQ.nD Cert.KernelAttnQ.τ).loc Cert.KernelAttnQ.main_arg4))
      ∧ r.2.sem = fun _ => 0)

def quiescent_KernelAttnQIdeal [hKernelAttnQIdeal : Cert.KernelAttnQIdeal.Facts] : Prop :=
  ∀ (m : (ℓ : Loc Cert.KernelAttnQIdeal.nD Cert.KernelAttnQIdeal.τ Cert.KernelAttnQIdeal.sig) → Buf (Elt Ideal) ℓ) (g : Dev Cert.KernelAttnQIdeal.nD → PrngReg), Pre_KernelAttnQIdeal m →
    θ_run (Cert.KernelAttnQIdeal.defs (F := Ideal)) (onTc (τ := Cert.KernelAttnQIdeal.τ) (Cert.KernelAttnQIdeal.main (F := Ideal))) ⟨m, fun _ => 0, g⟩ (fun r => (∀ c : Dev Cert.KernelAttnQIdeal.nD,
      r.2.mem ((c.tc : Thread Cert.KernelAttnQIdeal.nD Cert.KernelAttnQIdeal.τ).loc Cert.KernelAttnQIdeal.main_arg0) = m ((c.tc : Thread Cert.KernelAttnQIdeal.nD Cert.KernelAttnQIdeal.τ).loc Cert.KernelAttnQIdeal.main_arg0)
      ∧ r.2.mem ((c.tc : Thread Cert.KernelAttnQIdeal.nD Cert.KernelAttnQIdeal.τ).loc Cert.KernelAttnQIdeal.main_arg1) = m ((c.tc : Thread Cert.KernelAttnQIdeal.nD Cert.KernelAttnQIdeal.τ).loc Cert.KernelAttnQIdeal.main_arg1)
      ∧ r.2.mem ((c.tc : Thread Cert.KernelAttnQIdeal.nD Cert.KernelAttnQIdeal.τ).loc Cert.KernelAttnQIdeal.main_arg2) = m ((c.tc : Thread Cert.KernelAttnQIdeal.nD Cert.KernelAttnQIdeal.τ).loc Cert.KernelAttnQIdeal.main_arg2)
      ∧ r.2.mem ((c.tc : Thread Cert.KernelAttnQIdeal.nD Cert.KernelAttnQIdeal.τ).loc Cert.KernelAttnQIdeal.main_arg3) = m ((c.tc : Thread Cert.KernelAttnQIdeal.nD Cert.KernelAttnQIdeal.τ).loc Cert.KernelAttnQIdeal.main_arg3)
      ∧ r.2.mem ((c.tc : Thread Cert.KernelAttnQIdeal.nD Cert.KernelAttnQIdeal.τ).loc Cert.KernelAttnQIdeal.main_arg4) = m ((c.tc : Thread Cert.KernelAttnQIdeal.nD Cert.KernelAttnQIdeal.τ).loc Cert.KernelAttnQIdeal.main_arg4))
      ∧ r.2.sem = fun _ => 0)

def quiescent_KernelAttnQIdeal_pre_attention_finite [hKernelAttnQIdeal : Cert.KernelAttnQIdeal.Facts] [hPre_attention_finite : Cert.Pre_attention_finite.Facts] : Prop :=
  ∀ (m : (ℓ : Loc Cert.KernelAttnQIdeal.nD Cert.KernelAttnQIdeal.τ Cert.KernelAttnQIdeal.sig) → Buf (Elt Ideal) ℓ) (g : Dev Cert.KernelAttnQIdeal.nD → PrngReg), Pre_KernelAttnQIdeal_attention_finite m →
    θ_run (Cert.KernelAttnQIdeal.defs (F := Ideal)) (onTc (τ := Cert.KernelAttnQIdeal.τ) (Cert.KernelAttnQIdeal.main (F := Ideal))) ⟨m, fun _ => 0, g⟩ (fun r => (∀ c : Dev Cert.KernelAttnQIdeal.nD,
      r.2.mem ((c.tc : Thread Cert.KernelAttnQIdeal.nD Cert.KernelAttnQIdeal.τ).loc Cert.KernelAttnQIdeal.main_arg0) = m ((c.tc : Thread Cert.KernelAttnQIdeal.nD Cert.KernelAttnQIdeal.τ).loc Cert.KernelAttnQIdeal.main_arg0)
      ∧ r.2.mem ((c.tc : Thread Cert.KernelAttnQIdeal.nD Cert.KernelAttnQIdeal.τ).loc Cert.KernelAttnQIdeal.main_arg1) = m ((c.tc : Thread Cert.KernelAttnQIdeal.nD Cert.KernelAttnQIdeal.τ).loc Cert.KernelAttnQIdeal.main_arg1)
      ∧ r.2.mem ((c.tc : Thread Cert.KernelAttnQIdeal.nD Cert.KernelAttnQIdeal.τ).loc Cert.KernelAttnQIdeal.main_arg2) = m ((c.tc : Thread Cert.KernelAttnQIdeal.nD Cert.KernelAttnQIdeal.τ).loc Cert.KernelAttnQIdeal.main_arg2)
      ∧ r.2.mem ((c.tc : Thread Cert.KernelAttnQIdeal.nD Cert.KernelAttnQIdeal.τ).loc Cert.KernelAttnQIdeal.main_arg3) = m ((c.tc : Thread Cert.KernelAttnQIdeal.nD Cert.KernelAttnQIdeal.τ).loc Cert.KernelAttnQIdeal.main_arg3)
      ∧ r.2.mem ((c.tc : Thread Cert.KernelAttnQIdeal.nD Cert.KernelAttnQIdeal.τ).loc Cert.KernelAttnQIdeal.main_arg4) = m ((c.tc : Thread Cert.KernelAttnQIdeal.nD Cert.KernelAttnQIdeal.τ).loc Cert.KernelAttnQIdeal.main_arg4))
      ∧ r.2.sem = fun _ => 0)

def quiescent_ReferenceAttnQIdeal [hReferenceAttnQIdeal : Cert.ReferenceAttnQIdeal.Facts] : Prop :=
  ∀ (m : (ℓ : Loc Cert.ReferenceAttnQIdeal.nD Cert.ReferenceAttnQIdeal.τ Cert.ReferenceAttnQIdeal.sig) → Buf (Elt Ideal) ℓ) (g : Dev Cert.ReferenceAttnQIdeal.nD → PrngReg), Pre_ReferenceAttnQIdeal m →
    θ_run (Cert.ReferenceAttnQIdeal.defs (F := Ideal)) (onTc (τ := Cert.ReferenceAttnQIdeal.τ) (Cert.ReferenceAttnQIdeal.main (F := Ideal))) ⟨m, fun _ => 0, g⟩ (fun r => (∀ c : Dev Cert.ReferenceAttnQIdeal.nD,
      r.2.mem ((c.tc : Thread Cert.ReferenceAttnQIdeal.nD Cert.ReferenceAttnQIdeal.τ).loc Cert.ReferenceAttnQIdeal.main_arg0) = m ((c.tc : Thread Cert.ReferenceAttnQIdeal.nD Cert.ReferenceAttnQIdeal.τ).loc Cert.ReferenceAttnQIdeal.main_arg0)
      ∧ r.2.mem ((c.tc : Thread Cert.ReferenceAttnQIdeal.nD Cert.ReferenceAttnQIdeal.τ).loc Cert.ReferenceAttnQIdeal.main_arg1) = m ((c.tc : Thread Cert.ReferenceAttnQIdeal.nD Cert.ReferenceAttnQIdeal.τ).loc Cert.ReferenceAttnQIdeal.main_arg1)
      ∧ r.2.mem ((c.tc : Thread Cert.ReferenceAttnQIdeal.nD Cert.ReferenceAttnQIdeal.τ).loc Cert.ReferenceAttnQIdeal.main_arg2) = m ((c.tc : Thread Cert.ReferenceAttnQIdeal.nD Cert.ReferenceAttnQIdeal.τ).loc Cert.ReferenceAttnQIdeal.main_arg2)
      ∧ r.2.mem ((c.tc : Thread Cert.ReferenceAttnQIdeal.nD Cert.ReferenceAttnQIdeal.τ).loc Cert.ReferenceAttnQIdeal.main_arg3) = m ((c.tc : Thread Cert.ReferenceAttnQIdeal.nD Cert.ReferenceAttnQIdeal.τ).loc Cert.ReferenceAttnQIdeal.main_arg3)
      ∧ r.2.mem ((c.tc : Thread Cert.ReferenceAttnQIdeal.nD Cert.ReferenceAttnQIdeal.τ).loc Cert.ReferenceAttnQIdeal.main_arg4) = m ((c.tc : Thread Cert.ReferenceAttnQIdeal.nD Cert.ReferenceAttnQIdeal.τ).loc Cert.ReferenceAttnQIdeal.main_arg4))
      ∧ r.2.sem = fun _ => 0)

def quiescent_ReferenceAttnQIdeal_pre_attention_finite [hReferenceAttnQIdeal : Cert.ReferenceAttnQIdeal.Facts] [hPre_attention_finite : Cert.Pre_attention_finite.Facts] : Prop :=
  ∀ (m : (ℓ : Loc Cert.ReferenceAttnQIdeal.nD Cert.ReferenceAttnQIdeal.τ Cert.ReferenceAttnQIdeal.sig) → Buf (Elt Ideal) ℓ) (g : Dev Cert.ReferenceAttnQIdeal.nD → PrngReg), Pre_ReferenceAttnQIdeal_attention_finite m →
    θ_run (Cert.ReferenceAttnQIdeal.defs (F := Ideal)) (onTc (τ := Cert.ReferenceAttnQIdeal.τ) (Cert.ReferenceAttnQIdeal.main (F := Ideal))) ⟨m, fun _ => 0, g⟩ (fun r => (∀ c : Dev Cert.ReferenceAttnQIdeal.nD,
      r.2.mem ((c.tc : Thread Cert.ReferenceAttnQIdeal.nD Cert.ReferenceAttnQIdeal.τ).loc Cert.ReferenceAttnQIdeal.main_arg0) = m ((c.tc : Thread Cert.ReferenceAttnQIdeal.nD Cert.ReferenceAttnQIdeal.τ).loc Cert.ReferenceAttnQIdeal.main_arg0)
      ∧ r.2.mem ((c.tc : Thread Cert.ReferenceAttnQIdeal.nD Cert.ReferenceAttnQIdeal.τ).loc Cert.ReferenceAttnQIdeal.main_arg1) = m ((c.tc : Thread Cert.ReferenceAttnQIdeal.nD Cert.ReferenceAttnQIdeal.τ).loc Cert.ReferenceAttnQIdeal.main_arg1)
      ∧ r.2.mem ((c.tc : Thread Cert.ReferenceAttnQIdeal.nD Cert.ReferenceAttnQIdeal.τ).loc Cert.ReferenceAttnQIdeal.main_arg2) = m ((c.tc : Thread Cert.ReferenceAttnQIdeal.nD Cert.ReferenceAttnQIdeal.τ).loc Cert.ReferenceAttnQIdeal.main_arg2)
      ∧ r.2.mem ((c.tc : Thread Cert.ReferenceAttnQIdeal.nD Cert.ReferenceAttnQIdeal.τ).loc Cert.ReferenceAttnQIdeal.main_arg3) = m ((c.tc : Thread Cert.ReferenceAttnQIdeal.nD Cert.ReferenceAttnQIdeal.τ).loc Cert.ReferenceAttnQIdeal.main_arg3)
      ∧ r.2.mem ((c.tc : Thread Cert.ReferenceAttnQIdeal.nD Cert.ReferenceAttnQIdeal.τ).loc Cert.ReferenceAttnQIdeal.main_arg4) = m ((c.tc : Thread Cert.ReferenceAttnQIdeal.nD Cert.ReferenceAttnQIdeal.τ).loc Cert.ReferenceAttnQIdeal.main_arg4))
      ∧ r.2.sem = fun _ => 0)

def quiescent_KernelAttnKv [hKernelAttnKv : Cert.KernelAttnKv.Facts] : Prop :=
  ∀ (m : (ℓ : Loc Cert.KernelAttnKv.nD Cert.KernelAttnKv.τ Cert.KernelAttnKv.sig) → Buf (Elt Bits) ℓ) (g : Dev Cert.KernelAttnKv.nD → PrngReg), Pre_KernelAttnKv m →
    θ_run (Cert.KernelAttnKv.defs (F := Bits)) (onTc (τ := Cert.KernelAttnKv.τ) (Cert.KernelAttnKv.main (F := Bits))) ⟨m, fun _ => 0, g⟩ (fun r => (∀ c : Dev Cert.KernelAttnKv.nD,
      r.2.mem ((c.tc : Thread Cert.KernelAttnKv.nD Cert.KernelAttnKv.τ).loc Cert.KernelAttnKv.main_arg0) = m ((c.tc : Thread Cert.KernelAttnKv.nD Cert.KernelAttnKv.τ).loc Cert.KernelAttnKv.main_arg0)
      ∧ r.2.mem ((c.tc : Thread Cert.KernelAttnKv.nD Cert.KernelAttnKv.τ).loc Cert.KernelAttnKv.main_arg1) = m ((c.tc : Thread Cert.KernelAttnKv.nD Cert.KernelAttnKv.τ).loc Cert.KernelAttnKv.main_arg1)
      ∧ r.2.mem ((c.tc : Thread Cert.KernelAttnKv.nD Cert.KernelAttnKv.τ).loc Cert.KernelAttnKv.main_arg2) = m ((c.tc : Thread Cert.KernelAttnKv.nD Cert.KernelAttnKv.τ).loc Cert.KernelAttnKv.main_arg2)
      ∧ r.2.mem ((c.tc : Thread Cert.KernelAttnKv.nD Cert.KernelAttnKv.τ).loc Cert.KernelAttnKv.main_arg3) = m ((c.tc : Thread Cert.KernelAttnKv.nD Cert.KernelAttnKv.τ).loc Cert.KernelAttnKv.main_arg3)
      ∧ r.2.mem ((c.tc : Thread Cert.KernelAttnKv.nD Cert.KernelAttnKv.τ).loc Cert.KernelAttnKv.main_arg4) = m ((c.tc : Thread Cert.KernelAttnKv.nD Cert.KernelAttnKv.τ).loc Cert.KernelAttnKv.main_arg4))
      ∧ r.2.sem = fun _ => 0)

def quiescent_KernelAttnKvIdeal [hKernelAttnKvIdeal : Cert.KernelAttnKvIdeal.Facts] : Prop :=
  ∀ (m : (ℓ : Loc Cert.KernelAttnKvIdeal.nD Cert.KernelAttnKvIdeal.τ Cert.KernelAttnKvIdeal.sig) → Buf (Elt Ideal) ℓ) (g : Dev Cert.KernelAttnKvIdeal.nD → PrngReg), Pre_KernelAttnKvIdeal m →
    θ_run (Cert.KernelAttnKvIdeal.defs (F := Ideal)) (onTc (τ := Cert.KernelAttnKvIdeal.τ) (Cert.KernelAttnKvIdeal.main (F := Ideal))) ⟨m, fun _ => 0, g⟩ (fun r => (∀ c : Dev Cert.KernelAttnKvIdeal.nD,
      r.2.mem ((c.tc : Thread Cert.KernelAttnKvIdeal.nD Cert.KernelAttnKvIdeal.τ).loc Cert.KernelAttnKvIdeal.main_arg0) = m ((c.tc : Thread Cert.KernelAttnKvIdeal.nD Cert.KernelAttnKvIdeal.τ).loc Cert.KernelAttnKvIdeal.main_arg0)
      ∧ r.2.mem ((c.tc : Thread Cert.KernelAttnKvIdeal.nD Cert.KernelAttnKvIdeal.τ).loc Cert.KernelAttnKvIdeal.main_arg1) = m ((c.tc : Thread Cert.KernelAttnKvIdeal.nD Cert.KernelAttnKvIdeal.τ).loc Cert.KernelAttnKvIdeal.main_arg1)
      ∧ r.2.mem ((c.tc : Thread Cert.KernelAttnKvIdeal.nD Cert.KernelAttnKvIdeal.τ).loc Cert.KernelAttnKvIdeal.main_arg2) = m ((c.tc : Thread Cert.KernelAttnKvIdeal.nD Cert.KernelAttnKvIdeal.τ).loc Cert.KernelAttnKvIdeal.main_arg2)
      ∧ r.2.mem ((c.tc : Thread Cert.KernelAttnKvIdeal.nD Cert.KernelAttnKvIdeal.τ).loc Cert.KernelAttnKvIdeal.main_arg3) = m ((c.tc : Thread Cert.KernelAttnKvIdeal.nD Cert.KernelAttnKvIdeal.τ).loc Cert.KernelAttnKvIdeal.main_arg3)
      ∧ r.2.mem ((c.tc : Thread Cert.KernelAttnKvIdeal.nD Cert.KernelAttnKvIdeal.τ).loc Cert.KernelAttnKvIdeal.main_arg4) = m ((c.tc : Thread Cert.KernelAttnKvIdeal.nD Cert.KernelAttnKvIdeal.τ).loc Cert.KernelAttnKvIdeal.main_arg4))
      ∧ r.2.sem = fun _ => 0)

def quiescent_KernelAttnKvIdeal_pre_attention_finite [hKernelAttnKvIdeal : Cert.KernelAttnKvIdeal.Facts] [hPre_attention_finite : Cert.Pre_attention_finite.Facts] : Prop :=
  ∀ (m : (ℓ : Loc Cert.KernelAttnKvIdeal.nD Cert.KernelAttnKvIdeal.τ Cert.KernelAttnKvIdeal.sig) → Buf (Elt Ideal) ℓ) (g : Dev Cert.KernelAttnKvIdeal.nD → PrngReg), Pre_KernelAttnKvIdeal_attention_finite m →
    θ_run (Cert.KernelAttnKvIdeal.defs (F := Ideal)) (onTc (τ := Cert.KernelAttnKvIdeal.τ) (Cert.KernelAttnKvIdeal.main (F := Ideal))) ⟨m, fun _ => 0, g⟩ (fun r => (∀ c : Dev Cert.KernelAttnKvIdeal.nD,
      r.2.mem ((c.tc : Thread Cert.KernelAttnKvIdeal.nD Cert.KernelAttnKvIdeal.τ).loc Cert.KernelAttnKvIdeal.main_arg0) = m ((c.tc : Thread Cert.KernelAttnKvIdeal.nD Cert.KernelAttnKvIdeal.τ).loc Cert.KernelAttnKvIdeal.main_arg0)
      ∧ r.2.mem ((c.tc : Thread Cert.KernelAttnKvIdeal.nD Cert.KernelAttnKvIdeal.τ).loc Cert.KernelAttnKvIdeal.main_arg1) = m ((c.tc : Thread Cert.KernelAttnKvIdeal.nD Cert.KernelAttnKvIdeal.τ).loc Cert.KernelAttnKvIdeal.main_arg1)
      ∧ r.2.mem ((c.tc : Thread Cert.KernelAttnKvIdeal.nD Cert.KernelAttnKvIdeal.τ).loc Cert.KernelAttnKvIdeal.main_arg2) = m ((c.tc : Thread Cert.KernelAttnKvIdeal.nD Cert.KernelAttnKvIdeal.τ).loc Cert.KernelAttnKvIdeal.main_arg2)
      ∧ r.2.mem ((c.tc : Thread Cert.KernelAttnKvIdeal.nD Cert.KernelAttnKvIdeal.τ).loc Cert.KernelAttnKvIdeal.main_arg3) = m ((c.tc : Thread Cert.KernelAttnKvIdeal.nD Cert.KernelAttnKvIdeal.τ).loc Cert.KernelAttnKvIdeal.main_arg3)
      ∧ r.2.mem ((c.tc : Thread Cert.KernelAttnKvIdeal.nD Cert.KernelAttnKvIdeal.τ).loc Cert.KernelAttnKvIdeal.main_arg4) = m ((c.tc : Thread Cert.KernelAttnKvIdeal.nD Cert.KernelAttnKvIdeal.τ).loc Cert.KernelAttnKvIdeal.main_arg4))
      ∧ r.2.sem = fun _ => 0)

def quiescent_ReferenceAttnKvIdeal [hReferenceAttnKvIdeal : Cert.ReferenceAttnKvIdeal.Facts] : Prop :=
  ∀ (m : (ℓ : Loc Cert.ReferenceAttnKvIdeal.nD Cert.ReferenceAttnKvIdeal.τ Cert.ReferenceAttnKvIdeal.sig) → Buf (Elt Ideal) ℓ) (g : Dev Cert.ReferenceAttnKvIdeal.nD → PrngReg), Pre_ReferenceAttnKvIdeal m →
    θ_run (Cert.ReferenceAttnKvIdeal.defs (F := Ideal)) (onTc (τ := Cert.ReferenceAttnKvIdeal.τ) (Cert.ReferenceAttnKvIdeal.main (F := Ideal))) ⟨m, fun _ => 0, g⟩ (fun r => (∀ c : Dev Cert.ReferenceAttnKvIdeal.nD,
      r.2.mem ((c.tc : Thread Cert.ReferenceAttnKvIdeal.nD Cert.ReferenceAttnKvIdeal.τ).loc Cert.ReferenceAttnKvIdeal.main_arg0) = m ((c.tc : Thread Cert.ReferenceAttnKvIdeal.nD Cert.ReferenceAttnKvIdeal.τ).loc Cert.ReferenceAttnKvIdeal.main_arg0)
      ∧ r.2.mem ((c.tc : Thread Cert.ReferenceAttnKvIdeal.nD Cert.ReferenceAttnKvIdeal.τ).loc Cert.ReferenceAttnKvIdeal.main_arg1) = m ((c.tc : Thread Cert.ReferenceAttnKvIdeal.nD Cert.ReferenceAttnKvIdeal.τ).loc Cert.ReferenceAttnKvIdeal.main_arg1)
      ∧ r.2.mem ((c.tc : Thread Cert.ReferenceAttnKvIdeal.nD Cert.ReferenceAttnKvIdeal.τ).loc Cert.ReferenceAttnKvIdeal.main_arg2) = m ((c.tc : Thread Cert.ReferenceAttnKvIdeal.nD Cert.ReferenceAttnKvIdeal.τ).loc Cert.ReferenceAttnKvIdeal.main_arg2)
      ∧ r.2.mem ((c.tc : Thread Cert.ReferenceAttnKvIdeal.nD Cert.ReferenceAttnKvIdeal.τ).loc Cert.ReferenceAttnKvIdeal.main_arg3) = m ((c.tc : Thread Cert.ReferenceAttnKvIdeal.nD Cert.ReferenceAttnKvIdeal.τ).loc Cert.ReferenceAttnKvIdeal.main_arg3)
      ∧ r.2.mem ((c.tc : Thread Cert.ReferenceAttnKvIdeal.nD Cert.ReferenceAttnKvIdeal.τ).loc Cert.ReferenceAttnKvIdeal.main_arg4) = m ((c.tc : Thread Cert.ReferenceAttnKvIdeal.nD Cert.ReferenceAttnKvIdeal.τ).loc Cert.ReferenceAttnKvIdeal.main_arg4))
      ∧ r.2.sem = fun _ => 0)

def quiescent_ReferenceAttnKvIdeal_pre_attention_finite [hReferenceAttnKvIdeal : Cert.ReferenceAttnKvIdeal.Facts] [hPre_attention_finite : Cert.Pre_attention_finite.Facts] : Prop :=
  ∀ (m : (ℓ : Loc Cert.ReferenceAttnKvIdeal.nD Cert.ReferenceAttnKvIdeal.τ Cert.ReferenceAttnKvIdeal.sig) → Buf (Elt Ideal) ℓ) (g : Dev Cert.ReferenceAttnKvIdeal.nD → PrngReg), Pre_ReferenceAttnKvIdeal_attention_finite m →
    θ_run (Cert.ReferenceAttnKvIdeal.defs (F := Ideal)) (onTc (τ := Cert.ReferenceAttnKvIdeal.τ) (Cert.ReferenceAttnKvIdeal.main (F := Ideal))) ⟨m, fun _ => 0, g⟩ (fun r => (∀ c : Dev Cert.ReferenceAttnKvIdeal.nD,
      r.2.mem ((c.tc : Thread Cert.ReferenceAttnKvIdeal.nD Cert.ReferenceAttnKvIdeal.τ).loc Cert.ReferenceAttnKvIdeal.main_arg0) = m ((c.tc : Thread Cert.ReferenceAttnKvIdeal.nD Cert.ReferenceAttnKvIdeal.τ).loc Cert.ReferenceAttnKvIdeal.main_arg0)
      ∧ r.2.mem ((c.tc : Thread Cert.ReferenceAttnKvIdeal.nD Cert.ReferenceAttnKvIdeal.τ).loc Cert.ReferenceAttnKvIdeal.main_arg1) = m ((c.tc : Thread Cert.ReferenceAttnKvIdeal.nD Cert.ReferenceAttnKvIdeal.τ).loc Cert.ReferenceAttnKvIdeal.main_arg1)
      ∧ r.2.mem ((c.tc : Thread Cert.ReferenceAttnKvIdeal.nD Cert.ReferenceAttnKvIdeal.τ).loc Cert.ReferenceAttnKvIdeal.main_arg2) = m ((c.tc : Thread Cert.ReferenceAttnKvIdeal.nD Cert.ReferenceAttnKvIdeal.τ).loc Cert.ReferenceAttnKvIdeal.main_arg2)
      ∧ r.2.mem ((c.tc : Thread Cert.ReferenceAttnKvIdeal.nD Cert.ReferenceAttnKvIdeal.τ).loc Cert.ReferenceAttnKvIdeal.main_arg3) = m ((c.tc : Thread Cert.ReferenceAttnKvIdeal.nD Cert.ReferenceAttnKvIdeal.τ).loc Cert.ReferenceAttnKvIdeal.main_arg3)
      ∧ r.2.mem ((c.tc : Thread Cert.ReferenceAttnKvIdeal.nD Cert.ReferenceAttnKvIdeal.τ).loc Cert.ReferenceAttnKvIdeal.main_arg4) = m ((c.tc : Thread Cert.ReferenceAttnKvIdeal.nD Cert.ReferenceAttnKvIdeal.τ).loc Cert.ReferenceAttnKvIdeal.main_arg4))
      ∧ r.2.sem = fun _ => 0)

def quiescent_KernelRms [hKernelRms : Cert.KernelRms.Facts] : Prop :=
  ∀ (m : (ℓ : Loc Cert.KernelRms.nD Cert.KernelRms.τ Cert.KernelRms.sig) → Buf (Elt Bits) ℓ) (g : Dev Cert.KernelRms.nD → PrngReg), Pre_KernelRms m →
    θ_run (Cert.KernelRms.defs (F := Bits)) (onTc (τ := Cert.KernelRms.τ) (Cert.KernelRms.main (F := Bits))) ⟨m, fun _ => 0, g⟩ (fun r => (∀ c : Dev Cert.KernelRms.nD,
      r.2.mem ((c.tc : Thread Cert.KernelRms.nD Cert.KernelRms.τ).loc Cert.KernelRms.main_arg0) = m ((c.tc : Thread Cert.KernelRms.nD Cert.KernelRms.τ).loc Cert.KernelRms.main_arg0)
      ∧ r.2.mem ((c.tc : Thread Cert.KernelRms.nD Cert.KernelRms.τ).loc Cert.KernelRms.main_arg1) = m ((c.tc : Thread Cert.KernelRms.nD Cert.KernelRms.τ).loc Cert.KernelRms.main_arg1)
      ∧ r.2.mem ((c.tc : Thread Cert.KernelRms.nD Cert.KernelRms.τ).loc Cert.KernelRms.main_arg2) = m ((c.tc : Thread Cert.KernelRms.nD Cert.KernelRms.τ).loc Cert.KernelRms.main_arg2)
      ∧ r.2.mem ((c.tc : Thread Cert.KernelRms.nD Cert.KernelRms.τ).loc Cert.KernelRms.main_arg3) = m ((c.tc : Thread Cert.KernelRms.nD Cert.KernelRms.τ).loc Cert.KernelRms.main_arg3))
      ∧ r.2.sem = fun _ => 0)

def quiescent_KernelRmsIdeal [hKernelRmsIdeal : Cert.KernelRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
      ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2)
      ∧ r.2.mem ((c.tc : Thread Cert.KernelRmsIdeal.nD Cert.KernelRmsIdeal.τ).loc Cert.KernelRmsIdeal.main_arg3) = m ((c.tc : Thread Cert.KernelRmsIdeal.nD Cert.KernelRmsIdeal.τ).loc Cert.KernelRmsIdeal.main_arg3))
      ∧ r.2.sem = fun _ => 0)

def quiescent_KernelRmsIdeal_pre_rms_finite [hKernelRmsIdeal : Cert.KernelRmsIdeal.Facts] [hPre_rms_finite : Cert.Pre_rms_finite.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal_rms_finite m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
      ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2)
      ∧ r.2.mem ((c.tc : Thread Cert.KernelRmsIdeal.nD Cert.KernelRmsIdeal.τ).loc Cert.KernelRmsIdeal.main_arg3) = m ((c.tc : Thread Cert.KernelRmsIdeal.nD Cert.KernelRmsIdeal.τ).loc Cert.KernelRmsIdeal.main_arg3))
      ∧ r.2.sem = fun _ => 0)

def quiescent_ReferenceRmsIdeal [hReferenceRmsIdeal : Cert.ReferenceRmsIdeal.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1)
      ∧ r.2.mem ((c.tc : Thread Cert.ReferenceRmsIdeal.nD Cert.ReferenceRmsIdeal.τ).loc Cert.ReferenceRmsIdeal.main_arg2) = m ((c.tc : Thread Cert.ReferenceRmsIdeal.nD Cert.ReferenceRmsIdeal.τ).loc Cert.ReferenceRmsIdeal.main_arg2)
      ∧ r.2.mem ((c.tc : Thread Cert.ReferenceRmsIdeal.nD Cert.ReferenceRmsIdeal.τ).loc Cert.ReferenceRmsIdeal.main_arg3) = m ((c.tc : Thread Cert.ReferenceRmsIdeal.nD Cert.ReferenceRmsIdeal.τ).loc Cert.ReferenceRmsIdeal.main_arg3))
      ∧ r.2.sem = fun _ => 0)

def quiescent_ReferenceRmsIdeal_pre_rms_finite [hReferenceRmsIdeal : Cert.ReferenceRmsIdeal.Facts] [hPre_rms_finite : Cert.Pre_rms_finite.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal_rms_finite m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1)
      ∧ r.2.mem ((c.tc : Thread Cert.ReferenceRmsIdeal.nD Cert.ReferenceRmsIdeal.τ).loc Cert.ReferenceRmsIdeal.main_arg2) = m ((c.tc : Thread Cert.ReferenceRmsIdeal.nD Cert.ReferenceRmsIdeal.τ).loc Cert.ReferenceRmsIdeal.main_arg2)
      ∧ r.2.mem ((c.tc : Thread Cert.ReferenceRmsIdeal.nD Cert.ReferenceRmsIdeal.τ).loc Cert.ReferenceRmsIdeal.main_arg3) = m ((c.tc : Thread Cert.ReferenceRmsIdeal.nD Cert.ReferenceRmsIdeal.τ).loc Cert.ReferenceRmsIdeal.main_arg3))
      ∧ r.2.sem = fun _ => 0)

def quiescent_KernelQkNorm [hKernelQkNorm : Cert.KernelQkNorm.Facts] : Prop :=
  ∀ (m : (ℓ : Loc Cert.KernelQkNorm.nD Cert.KernelQkNorm.τ Cert.KernelQkNorm.sig) → Buf (Elt Bits) ℓ) (g : Dev Cert.KernelQkNorm.nD → PrngReg), Pre_KernelQkNorm m →
    θ_run (Cert.KernelQkNorm.defs (F := Bits)) (onTc (τ := Cert.KernelQkNorm.τ) (Cert.KernelQkNorm.main (F := Bits))) ⟨m, fun _ => 0, g⟩ (fun r => (∀ c : Dev Cert.KernelQkNorm.nD,
      r.2.mem ((c.tc : Thread Cert.KernelQkNorm.nD Cert.KernelQkNorm.τ).loc Cert.KernelQkNorm.main_arg0) = m ((c.tc : Thread Cert.KernelQkNorm.nD Cert.KernelQkNorm.τ).loc Cert.KernelQkNorm.main_arg0)
      ∧ r.2.mem ((c.tc : Thread Cert.KernelQkNorm.nD Cert.KernelQkNorm.τ).loc Cert.KernelQkNorm.main_arg1) = m ((c.tc : Thread Cert.KernelQkNorm.nD Cert.KernelQkNorm.τ).loc Cert.KernelQkNorm.main_arg1)
      ∧ r.2.mem ((c.tc : Thread Cert.KernelQkNorm.nD Cert.KernelQkNorm.τ).loc Cert.KernelQkNorm.main_arg2) = m ((c.tc : Thread Cert.KernelQkNorm.nD Cert.KernelQkNorm.τ).loc Cert.KernelQkNorm.main_arg2)
      ∧ r.2.mem ((c.tc : Thread Cert.KernelQkNorm.nD Cert.KernelQkNorm.τ).loc Cert.KernelQkNorm.main_arg3) = m ((c.tc : Thread Cert.KernelQkNorm.nD Cert.KernelQkNorm.τ).loc Cert.KernelQkNorm.main_arg3)
      ∧ r.2.mem ((c.tc : Thread Cert.KernelQkNorm.nD Cert.KernelQkNorm.τ).loc Cert.KernelQkNorm.main_arg4) = m ((c.tc : Thread Cert.KernelQkNorm.nD Cert.KernelQkNorm.τ).loc Cert.KernelQkNorm.main_arg4))
      ∧ r.2.sem = fun _ => 0)

def quiescent_KernelQkNormIdeal [hKernelQkNormIdeal : Cert.KernelQkNormIdeal.Facts] : Prop :=
  ∀ (m : (ℓ : Loc Cert.KernelQkNormIdeal.nD Cert.KernelQkNormIdeal.τ Cert.KernelQkNormIdeal.sig) → Buf (Elt Ideal) ℓ) (g : Dev Cert.KernelQkNormIdeal.nD → PrngReg), Pre_KernelQkNormIdeal m →
    θ_run (Cert.KernelQkNormIdeal.defs (F := Ideal)) (onTc (τ := Cert.KernelQkNormIdeal.τ) (Cert.KernelQkNormIdeal.main (F := Ideal))) ⟨m, fun _ => 0, g⟩ (fun r => (∀ c : Dev Cert.KernelQkNormIdeal.nD,
      r.2.mem ((c.tc : Thread Cert.KernelQkNormIdeal.nD Cert.KernelQkNormIdeal.τ).loc Cert.KernelQkNormIdeal.main_arg0) = m ((c.tc : Thread Cert.KernelQkNormIdeal.nD Cert.KernelQkNormIdeal.τ).loc Cert.KernelQkNormIdeal.main_arg0)
      ∧ r.2.mem ((c.tc : Thread Cert.KernelQkNormIdeal.nD Cert.KernelQkNormIdeal.τ).loc Cert.KernelQkNormIdeal.main_arg1) = m ((c.tc : Thread Cert.KernelQkNormIdeal.nD Cert.KernelQkNormIdeal.τ).loc Cert.KernelQkNormIdeal.main_arg1)
      ∧ r.2.mem ((c.tc : Thread Cert.KernelQkNormIdeal.nD Cert.KernelQkNormIdeal.τ).loc Cert.KernelQkNormIdeal.main_arg2) = m ((c.tc : Thread Cert.KernelQkNormIdeal.nD Cert.KernelQkNormIdeal.τ).loc Cert.KernelQkNormIdeal.main_arg2)
      ∧ r.2.mem ((c.tc : Thread Cert.KernelQkNormIdeal.nD Cert.KernelQkNormIdeal.τ).loc Cert.KernelQkNormIdeal.main_arg3) = m ((c.tc : Thread Cert.KernelQkNormIdeal.nD Cert.KernelQkNormIdeal.τ).loc Cert.KernelQkNormIdeal.main_arg3)
      ∧ r.2.mem ((c.tc : Thread Cert.KernelQkNormIdeal.nD Cert.KernelQkNormIdeal.τ).loc Cert.KernelQkNormIdeal.main_arg4) = m ((c.tc : Thread Cert.KernelQkNormIdeal.nD Cert.KernelQkNormIdeal.τ).loc Cert.KernelQkNormIdeal.main_arg4))
      ∧ r.2.sem = fun _ => 0)

def quiescent_KernelQkNormIdeal_pre_qk_norm_finite [hKernelQkNormIdeal : Cert.KernelQkNormIdeal.Facts] [hPre_qk_norm_finite : Cert.Pre_qk_norm_finite.Facts] : Prop :=
  ∀ (m : (ℓ : Loc Cert.KernelQkNormIdeal.nD Cert.KernelQkNormIdeal.τ Cert.KernelQkNormIdeal.sig) → Buf (Elt Ideal) ℓ) (g : Dev Cert.KernelQkNormIdeal.nD → PrngReg), Pre_KernelQkNormIdeal_qk_norm_finite m →
    θ_run (Cert.KernelQkNormIdeal.defs (F := Ideal)) (onTc (τ := Cert.KernelQkNormIdeal.τ) (Cert.KernelQkNormIdeal.main (F := Ideal))) ⟨m, fun _ => 0, g⟩ (fun r => (∀ c : Dev Cert.KernelQkNormIdeal.nD,
      r.2.mem ((c.tc : Thread Cert.KernelQkNormIdeal.nD Cert.KernelQkNormIdeal.τ).loc Cert.KernelQkNormIdeal.main_arg0) = m ((c.tc : Thread Cert.KernelQkNormIdeal.nD Cert.KernelQkNormIdeal.τ).loc Cert.KernelQkNormIdeal.main_arg0)
      ∧ r.2.mem ((c.tc : Thread Cert.KernelQkNormIdeal.nD Cert.KernelQkNormIdeal.τ).loc Cert.KernelQkNormIdeal.main_arg1) = m ((c.tc : Thread Cert.KernelQkNormIdeal.nD Cert.KernelQkNormIdeal.τ).loc Cert.KernelQkNormIdeal.main_arg1)
      ∧ r.2.mem ((c.tc : Thread Cert.KernelQkNormIdeal.nD Cert.KernelQkNormIdeal.τ).loc Cert.KernelQkNormIdeal.main_arg2) = m ((c.tc : Thread Cert.KernelQkNormIdeal.nD Cert.KernelQkNormIdeal.τ).loc Cert.KernelQkNormIdeal.main_arg2)
      ∧ r.2.mem ((c.tc : Thread Cert.KernelQkNormIdeal.nD Cert.KernelQkNormIdeal.τ).loc Cert.KernelQkNormIdeal.main_arg3) = m ((c.tc : Thread Cert.KernelQkNormIdeal.nD Cert.KernelQkNormIdeal.τ).loc Cert.KernelQkNormIdeal.main_arg3)
      ∧ r.2.mem ((c.tc : Thread Cert.KernelQkNormIdeal.nD Cert.KernelQkNormIdeal.τ).loc Cert.KernelQkNormIdeal.main_arg4) = m ((c.tc : Thread Cert.KernelQkNormIdeal.nD Cert.KernelQkNormIdeal.τ).loc Cert.KernelQkNormIdeal.main_arg4))
      ∧ r.2.sem = fun _ => 0)

def quiescent_ReferenceQkNormIdeal [hReferenceQkNormIdeal : Cert.ReferenceQkNormIdeal.Facts] : Prop :=
  ∀ (m : (ℓ : Loc Cert.ReferenceQkNormIdeal.nD Cert.ReferenceQkNormIdeal.τ Cert.ReferenceQkNormIdeal.sig) → Buf (Elt Ideal) ℓ) (g : Dev Cert.ReferenceQkNormIdeal.nD → PrngReg), Pre_ReferenceQkNormIdeal m →
    θ_run (Cert.ReferenceQkNormIdeal.defs (F := Ideal)) (onTc (τ := Cert.ReferenceQkNormIdeal.τ) (Cert.ReferenceQkNormIdeal.main (F := Ideal))) ⟨m, fun _ => 0, g⟩ (fun r => (∀ c : Dev Cert.ReferenceQkNormIdeal.nD,
      r.2.mem ((c.tc : Thread Cert.ReferenceQkNormIdeal.nD Cert.ReferenceQkNormIdeal.τ).loc Cert.ReferenceQkNormIdeal.main_arg0) = m ((c.tc : Thread Cert.ReferenceQkNormIdeal.nD Cert.ReferenceQkNormIdeal.τ).loc Cert.ReferenceQkNormIdeal.main_arg0)
      ∧ r.2.mem ((c.tc : Thread Cert.ReferenceQkNormIdeal.nD Cert.ReferenceQkNormIdeal.τ).loc Cert.ReferenceQkNormIdeal.main_arg1) = m ((c.tc : Thread Cert.ReferenceQkNormIdeal.nD Cert.ReferenceQkNormIdeal.τ).loc Cert.ReferenceQkNormIdeal.main_arg1)
      ∧ r.2.mem ((c.tc : Thread Cert.ReferenceQkNormIdeal.nD Cert.ReferenceQkNormIdeal.τ).loc Cert.ReferenceQkNormIdeal.main_arg2) = m ((c.tc : Thread Cert.ReferenceQkNormIdeal.nD Cert.ReferenceQkNormIdeal.τ).loc Cert.ReferenceQkNormIdeal.main_arg2)
      ∧ r.2.mem ((c.tc : Thread Cert.ReferenceQkNormIdeal.nD Cert.ReferenceQkNormIdeal.τ).loc Cert.ReferenceQkNormIdeal.main_arg3) = m ((c.tc : Thread Cert.ReferenceQkNormIdeal.nD Cert.ReferenceQkNormIdeal.τ).loc Cert.ReferenceQkNormIdeal.main_arg3)
      ∧ r.2.mem ((c.tc : Thread Cert.ReferenceQkNormIdeal.nD Cert.ReferenceQkNormIdeal.τ).loc Cert.ReferenceQkNormIdeal.main_arg4) = m ((c.tc : Thread Cert.ReferenceQkNormIdeal.nD Cert.ReferenceQkNormIdeal.τ).loc Cert.ReferenceQkNormIdeal.main_arg4))
      ∧ r.2.sem = fun _ => 0)

def quiescent_ReferenceQkNormIdeal_pre_qk_norm_finite [hReferenceQkNormIdeal : Cert.ReferenceQkNormIdeal.Facts] [hPre_qk_norm_finite : Cert.Pre_qk_norm_finite.Facts] : Prop :=
  ∀ (m : (ℓ : Loc Cert.ReferenceQkNormIdeal.nD Cert.ReferenceQkNormIdeal.τ Cert.ReferenceQkNormIdeal.sig) → Buf (Elt Ideal) ℓ) (g : Dev Cert.ReferenceQkNormIdeal.nD → PrngReg), Pre_ReferenceQkNormIdeal_qk_norm_finite m →
    θ_run (Cert.ReferenceQkNormIdeal.defs (F := Ideal)) (onTc (τ := Cert.ReferenceQkNormIdeal.τ) (Cert.ReferenceQkNormIdeal.main (F := Ideal))) ⟨m, fun _ => 0, g⟩ (fun r => (∀ c : Dev Cert.ReferenceQkNormIdeal.nD,
      r.2.mem ((c.tc : Thread Cert.ReferenceQkNormIdeal.nD Cert.ReferenceQkNormIdeal.τ).loc Cert.ReferenceQkNormIdeal.main_arg0) = m ((c.tc : Thread Cert.ReferenceQkNormIdeal.nD Cert.ReferenceQkNormIdeal.τ).loc Cert.ReferenceQkNormIdeal.main_arg0)
      ∧ r.2.mem ((c.tc : Thread Cert.ReferenceQkNormIdeal.nD Cert.ReferenceQkNormIdeal.τ).loc Cert.ReferenceQkNormIdeal.main_arg1) = m ((c.tc : Thread Cert.ReferenceQkNormIdeal.nD Cert.ReferenceQkNormIdeal.τ).loc Cert.ReferenceQkNormIdeal.main_arg1)
      ∧ r.2.mem ((c.tc : Thread Cert.ReferenceQkNormIdeal.nD Cert.ReferenceQkNormIdeal.τ).loc Cert.ReferenceQkNormIdeal.main_arg2) = m ((c.tc : Thread Cert.ReferenceQkNormIdeal.nD Cert.ReferenceQkNormIdeal.τ).loc Cert.ReferenceQkNormIdeal.main_arg2)
      ∧ r.2.mem ((c.tc : Thread Cert.ReferenceQkNormIdeal.nD Cert.ReferenceQkNormIdeal.τ).loc Cert.ReferenceQkNormIdeal.main_arg3) = m ((c.tc : Thread Cert.ReferenceQkNormIdeal.nD Cert.ReferenceQkNormIdeal.τ).loc Cert.ReferenceQkNormIdeal.main_arg3)
      ∧ r.2.mem ((c.tc : Thread Cert.ReferenceQkNormIdeal.nD Cert.ReferenceQkNormIdeal.τ).loc Cert.ReferenceQkNormIdeal.main_arg4) = m ((c.tc : Thread Cert.ReferenceQkNormIdeal.nD Cert.ReferenceQkNormIdeal.τ).loc Cert.ReferenceQkNormIdeal.main_arg4))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_KernelFfnIdeal_pre_ffn_finite [hKernelFfnIdeal : Cert.KernelFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_ffn_finite m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_ReferenceFfnIdeal_pre_ffn_finite [hReferenceFfnIdeal : Cert.ReferenceFfnIdeal.Facts] [hPre_ffn_finite : Cert.Pre_ffn_finite.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_ffn_finite m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelForget [hKernelForget : Cert.KernelForget.Facts] : Prop :=
  ∀ (m : (ℓ : Loc Cert.KernelForget.nD Cert.KernelForget.τ Cert.KernelForget.sig) → Buf (Elt Bits) ℓ) (g : Dev Cert.KernelForget.nD → PrngReg), Pre_KernelForget m →
    θ_run (Cert.KernelForget.defs (F := Bits)) (onTc (τ := Cert.KernelForget.τ) (Cert.KernelForget.main (F := Bits))) ⟨m, fun _ => 0, g⟩ (fun r => (∀ c : Dev Cert.KernelForget.nD,
      r.2.mem ((c.tc : Thread Cert.KernelForget.nD Cert.KernelForget.τ).loc Cert.KernelForget.main_arg0) = m ((c.tc : Thread Cert.KernelForget.nD Cert.KernelForget.τ).loc Cert.KernelForget.main_arg0)
      ∧ r.2.mem ((c.tc : Thread Cert.KernelForget.nD Cert.KernelForget.τ).loc Cert.KernelForget.main_arg1) = m ((c.tc : Thread Cert.KernelForget.nD Cert.KernelForget.τ).loc Cert.KernelForget.main_arg1)
      ∧ r.2.mem ((c.tc : Thread Cert.KernelForget.nD Cert.KernelForget.τ).loc Cert.KernelForget.main_arg2) = m ((c.tc : Thread Cert.KernelForget.nD Cert.KernelForget.τ).loc Cert.KernelForget.main_arg2)
      ∧ r.2.mem ((c.tc : Thread Cert.KernelForget.nD Cert.KernelForget.τ).loc Cert.KernelForget.main_arg3) = m ((c.tc : Thread Cert.KernelForget.nD Cert.KernelForget.τ).loc Cert.KernelForget.main_arg3))
      ∧ r.2.sem = fun _ => 0)

def quiescent_KernelForgetIdeal [hKernelForgetIdeal : Cert.KernelForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg), Pre_KernelForgetIdeal m →
    θ_run (Cert.KernelForgetIdeal.defs (F := Ideal)) (onTc (τ := Cert.KernelForgetIdeal.τ) (Cert.KernelForgetIdeal.main (F := Ideal))) ⟨m, fun _ => 0, g⟩ (fun r => (∀ c : Dev Cert.KernelForgetIdeal.nD,
      r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
      ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1)
      ∧ r.2.mem ((c.tc : Thread Cert.KernelForgetIdeal.nD Cert.KernelForgetIdeal.τ).loc Cert.KernelForgetIdeal.main_arg2) = m ((c.tc : Thread Cert.KernelForgetIdeal.nD Cert.KernelForgetIdeal.τ).loc Cert.KernelForgetIdeal.main_arg2)
      ∧ r.2.mem ((c.tc : Thread Cert.KernelForgetIdeal.nD Cert.KernelForgetIdeal.τ).loc Cert.KernelForgetIdeal.main_arg3) = m ((c.tc : Thread Cert.KernelForgetIdeal.nD Cert.KernelForgetIdeal.τ).loc Cert.KernelForgetIdeal.main_arg3))
      ∧ r.2.sem = fun _ => 0)

def quiescent_ReferenceForgetIdeal [hReferenceForgetIdeal : Cert.ReferenceForgetIdeal.Facts] : Prop :=
  ∀ (m : (ℓ : Loc Cert.ReferenceForgetIdeal.nD Cert.ReferenceForgetIdeal.τ Cert.ReferenceForgetIdeal.sig) → Buf (Elt Ideal) ℓ) (g : Dev Cert.ReferenceForgetIdeal.nD → PrngReg), Pre_ReferenceForgetIdeal m →
    θ_run (Cert.ReferenceForgetIdeal.defs (F := Ideal)) (onTc (τ := Cert.ReferenceForgetIdeal.τ) (Cert.ReferenceForgetIdeal.main (F := Ideal))) ⟨m, fun _ => 0, g⟩ (fun r => (∀ c : Dev Cert.ReferenceForgetIdeal.nD,
      r.2.mem ((c.tc : Thread Cert.ReferenceForgetIdeal.nD Cert.ReferenceForgetIdeal.τ).loc Cert.ReferenceForgetIdeal.main_arg0) = m ((c.tc : Thread Cert.ReferenceForgetIdeal.nD Cert.ReferenceForgetIdeal.τ).loc Cert.ReferenceForgetIdeal.main_arg0)
      ∧ r.2.mem ((c.tc : Thread Cert.ReferenceForgetIdeal.nD Cert.ReferenceForgetIdeal.τ).loc Cert.ReferenceForgetIdeal.main_arg1) = m ((c.tc : Thread Cert.ReferenceForgetIdeal.nD Cert.ReferenceForgetIdeal.τ).loc Cert.ReferenceForgetIdeal.main_arg1)
      ∧ r.2.mem ((c.tc : Thread Cert.ReferenceForgetIdeal.nD Cert.ReferenceForgetIdeal.τ).loc Cert.ReferenceForgetIdeal.main_arg2) = m ((c.tc : Thread Cert.ReferenceForgetIdeal.nD Cert.ReferenceForgetIdeal.τ).loc Cert.ReferenceForgetIdeal.main_arg2)
      ∧ r.2.mem ((c.tc : Thread Cert.ReferenceForgetIdeal.nD Cert.ReferenceForgetIdeal.τ).loc Cert.ReferenceForgetIdeal.main_arg3) = m ((c.tc : Thread Cert.ReferenceForgetIdeal.nD Cert.ReferenceForgetIdeal.τ).loc Cert.ReferenceForgetIdeal.main_arg3))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2)
      ∧ r.2.mem ((c.tc : Thread Cert.KernelPool.nD Cert.KernelPool.τ).loc Cert.KernelPool.main_arg3) = m ((c.tc : Thread Cert.KernelPool.nD Cert.KernelPool.τ).loc Cert.KernelPool.main_arg3))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_KernelPoolIdeal_pre_pool_finite [hKernelPoolIdeal : Cert.KernelPoolIdeal.Facts] [hPre_pool_finite : Cert.Pre_pool_finite.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_pool_finite m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_ReferencePoolIdeal_pre_pool_finite [hReferencePoolIdeal : Cert.ReferencePoolIdeal.Facts] [hPre_pool_finite : Cert.Pre_pool_finite.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_pool_finite m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_KernelAttnFwd [hKernelAttnFwd : Cert.KernelAttnFwd.Facts] : Prop :=
  ∀ (m : (ℓ : Loc Cert.KernelAttnFwd.nD Cert.KernelAttnFwd.τ Cert.KernelAttnFwd.sig) → Buf (Elt Bits) ℓ) (g : Dev Cert.KernelAttnFwd.nD → PrngReg), Pre_KernelAttnFwd m →
    θ_run (Cert.KernelAttnFwd.defs (F := Bits)) (onTc (τ := Cert.KernelAttnFwd.τ) (Cert.KernelAttnFwd.main (F := Bits))) ⟨m, fun _ => 0, g⟩ (fun r => (∀ c : Dev Cert.KernelAttnFwd.nD,
      r.2.mem ((c.tc : Thread Cert.KernelAttnFwd.nD Cert.KernelAttnFwd.τ).loc Cert.KernelAttnFwd.main_arg0) = m ((c.tc : Thread Cert.KernelAttnFwd.nD Cert.KernelAttnFwd.τ).loc Cert.KernelAttnFwd.main_arg0)
      ∧ r.2.mem ((c.tc : Thread Cert.KernelAttnFwd.nD Cert.KernelAttnFwd.τ).loc Cert.KernelAttnFwd.main_arg1) = m ((c.tc : Thread Cert.KernelAttnFwd.nD Cert.KernelAttnFwd.τ).loc Cert.KernelAttnFwd.main_arg1)
      ∧ r.2.mem ((c.tc : Thread Cert.KernelAttnFwd.nD Cert.KernelAttnFwd.τ).loc Cert.KernelAttnFwd.main_arg2) = m ((c.tc : Thread Cert.KernelAttnFwd.nD Cert.KernelAttnFwd.τ).loc Cert.KernelAttnFwd.main_arg2)
      ∧ r.2.mem ((c.tc : Thread Cert.KernelAttnFwd.nD Cert.KernelAttnFwd.τ).loc Cert.KernelAttnFwd.main_arg3) = m ((c.tc : Thread Cert.KernelAttnFwd.nD Cert.KernelAttnFwd.τ).loc Cert.KernelAttnFwd.main_arg3))
      ∧ r.2.sem = fun _ => 0)

def quiescent_KernelAttnFwdIdeal [hKernelAttnFwdIdeal : Cert.KernelAttnFwdIdeal.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
      ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
      ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2)
      ∧ r.2.mem ((c.tc : Thread Cert.KernelAttnFwdIdeal.nD Cert.KernelAttnFwdIdeal.τ).loc Cert.KernelAttnFwdIdeal.main_arg3) = m ((c.tc : Thread Cert.KernelAttnFwdIdeal.nD Cert.KernelAttnFwdIdeal.τ).loc Cert.KernelAttnFwdIdeal.main_arg3))
      ∧ r.2.sem = fun _ => 0)

def quiescent_KernelAttnFwdIdeal_pre_attn_fwd_finite [hKernelAttnFwdIdeal : Cert.KernelAttnFwdIdeal.Facts] [hPre_attn_fwd_finite : Cert.Pre_attn_fwd_finite.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal_attn_fwd_finite m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
      ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
      ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2)
      ∧ r.2.mem ((c.tc : Thread Cert.KernelAttnFwdIdeal.nD Cert.KernelAttnFwdIdeal.τ).loc Cert.KernelAttnFwdIdeal.main_arg3) = m ((c.tc : Thread Cert.KernelAttnFwdIdeal.nD Cert.KernelAttnFwdIdeal.τ).loc Cert.KernelAttnFwdIdeal.main_arg3))
      ∧ r.2.sem = fun _ => 0)

def quiescent_ReferenceAttnFwdIdeal [hReferenceAttnFwdIdeal : Cert.ReferenceAttnFwdIdeal.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0)
      ∧ r.2.mem ((c.tc : Thread Cert.ReferenceAttnFwdIdeal.nD Cert.ReferenceAttnFwdIdeal.τ).loc Cert.ReferenceAttnFwdIdeal.main_arg1) = m ((c.tc : Thread Cert.ReferenceAttnFwdIdeal.nD Cert.ReferenceAttnFwdIdeal.τ).loc Cert.ReferenceAttnFwdIdeal.main_arg1)
      ∧ r.2.mem ((c.tc : Thread Cert.ReferenceAttnFwdIdeal.nD Cert.ReferenceAttnFwdIdeal.τ).loc Cert.ReferenceAttnFwdIdeal.main_arg2) = m ((c.tc : Thread Cert.ReferenceAttnFwdIdeal.nD Cert.ReferenceAttnFwdIdeal.τ).loc Cert.ReferenceAttnFwdIdeal.main_arg2)
      ∧ r.2.mem ((c.tc : Thread Cert.ReferenceAttnFwdIdeal.nD Cert.ReferenceAttnFwdIdeal.τ).loc Cert.ReferenceAttnFwdIdeal.main_arg3) = m ((c.tc : Thread Cert.ReferenceAttnFwdIdeal.nD Cert.ReferenceAttnFwdIdeal.τ).loc Cert.ReferenceAttnFwdIdeal.main_arg3))
      ∧ r.2.sem = fun _ => 0)

def quiescent_ReferenceAttnFwdIdeal_pre_attn_fwd_finite [hReferenceAttnFwdIdeal : Cert.ReferenceAttnFwdIdeal.Facts] [hPre_attn_fwd_finite : Cert.Pre_attn_fwd_finite.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal_attn_fwd_finite m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0)
      ∧ r.2.mem ((c.tc : Thread Cert.ReferenceAttnFwdIdeal.nD Cert.ReferenceAttnFwdIdeal.τ).loc Cert.ReferenceAttnFwdIdeal.main_arg1) = m ((c.tc : Thread Cert.ReferenceAttnFwdIdeal.nD Cert.ReferenceAttnFwdIdeal.τ).loc Cert.ReferenceAttnFwdIdeal.main_arg1)
      ∧ r.2.mem ((c.tc : Thread Cert.ReferenceAttnFwdIdeal.nD Cert.ReferenceAttnFwdIdeal.τ).loc Cert.ReferenceAttnFwdIdeal.main_arg2) = m ((c.tc : Thread Cert.ReferenceAttnFwdIdeal.nD Cert.ReferenceAttnFwdIdeal.τ).loc Cert.ReferenceAttnFwdIdeal.main_arg2)
      ∧ r.2.mem ((c.tc : Thread Cert.ReferenceAttnFwdIdeal.nD Cert.ReferenceAttnFwdIdeal.τ).loc Cert.ReferenceAttnFwdIdeal.main_arg3) = m ((c.tc : Thread Cert.ReferenceAttnFwdIdeal.nD Cert.ReferenceAttnFwdIdeal.τ).loc Cert.ReferenceAttnFwdIdeal.main_arg3))
      ∧ r.2.sem = fun _ => 0)

def quiescent_KernelRmsFwd [hKernelRmsFwd : Cert.KernelRmsFwd.Facts] : Prop :=
  ∀ (m : (ℓ : Loc Cert.KernelRmsFwd.nD Cert.KernelRmsFwd.τ Cert.KernelRmsFwd.sig) → Buf (Elt Bits) ℓ) (g : Dev Cert.KernelRmsFwd.nD → PrngReg), Pre_KernelRmsFwd m →
    θ_run (Cert.KernelRmsFwd.defs (F := Bits)) (onTc (τ := Cert.KernelRmsFwd.τ) (Cert.KernelRmsFwd.main (F := Bits))) ⟨m, fun _ => 0, g⟩ (fun r => (∀ c : Dev Cert.KernelRmsFwd.nD,
      r.2.mem ((c.tc : Thread Cert.KernelRmsFwd.nD Cert.KernelRmsFwd.τ).loc Cert.KernelRmsFwd.main_arg0) = m ((c.tc : Thread Cert.KernelRmsFwd.nD Cert.KernelRmsFwd.τ).loc Cert.KernelRmsFwd.main_arg0)
      ∧ r.2.mem ((c.tc : Thread Cert.KernelRmsFwd.nD Cert.KernelRmsFwd.τ).loc Cert.KernelRmsFwd.main_arg1) = m ((c.tc : Thread Cert.KernelRmsFwd.nD Cert.KernelRmsFwd.τ).loc Cert.KernelRmsFwd.main_arg1))
      ∧ r.2.sem = fun _ => 0)

def quiescent_KernelRmsFwdIdeal [hKernelRmsFwdIdeal : Cert.KernelRmsFwdIdeal.Facts] : Prop :=
  ∀ (m : (ℓ : Loc Cert.KernelRmsFwdIdeal.nD Cert.KernelRmsFwdIdeal.τ Cert.KernelRmsFwdIdeal.sig) → Buf (Elt Ideal) ℓ) (g : Dev Cert.KernelRmsFwdIdeal.nD → PrngReg), Pre_KernelRmsFwdIdeal m →
    θ_run (Cert.KernelRmsFwdIdeal.defs (F := Ideal)) (onTc (τ := Cert.KernelRmsFwdIdeal.τ) (Cert.KernelRmsFwdIdeal.main (F := Ideal))) ⟨m, fun _ => 0, g⟩ (fun r => (∀ c : Dev Cert.KernelRmsFwdIdeal.nD,
      r.2.mem ((c.tc : Thread Cert.KernelRmsFwdIdeal.nD Cert.KernelRmsFwdIdeal.τ).loc Cert.KernelRmsFwdIdeal.main_arg0) = m ((c.tc : Thread Cert.KernelRmsFwdIdeal.nD Cert.KernelRmsFwdIdeal.τ).loc Cert.KernelRmsFwdIdeal.main_arg0)
      ∧ r.2.mem ((c.tc : Thread Cert.KernelRmsFwdIdeal.nD Cert.KernelRmsFwdIdeal.τ).loc Cert.KernelRmsFwdIdeal.main_arg1) = m ((c.tc : Thread Cert.KernelRmsFwdIdeal.nD Cert.KernelRmsFwdIdeal.τ).loc Cert.KernelRmsFwdIdeal.main_arg1))
      ∧ r.2.sem = fun _ => 0)

def quiescent_ReferenceRmsFwdIdeal [hReferenceRmsFwdIdeal : Cert.ReferenceRmsFwdIdeal.Facts] : Prop :=
  ∀ (m : (ℓ : Loc Cert.ReferenceRmsFwdIdeal.nD Cert.ReferenceRmsFwdIdeal.τ Cert.ReferenceRmsFwdIdeal.sig) → Buf (Elt Ideal) ℓ) (g : Dev Cert.ReferenceRmsFwdIdeal.nD → PrngReg), Pre_ReferenceRmsFwdIdeal m →
    θ_run (Cert.ReferenceRmsFwdIdeal.defs (F := Ideal)) (onTc (τ := Cert.ReferenceRmsFwdIdeal.τ) (Cert.ReferenceRmsFwdIdeal.main (F := Ideal))) ⟨m, fun _ => 0, g⟩ (fun r => (∀ c : Dev Cert.ReferenceRmsFwdIdeal.nD,
      r.2.mem ((c.tc : Thread Cert.ReferenceRmsFwdIdeal.nD Cert.ReferenceRmsFwdIdeal.τ).loc Cert.ReferenceRmsFwdIdeal.main_arg0) = m ((c.tc : Thread Cert.ReferenceRmsFwdIdeal.nD Cert.ReferenceRmsFwdIdeal.τ).loc Cert.ReferenceRmsFwdIdeal.main_arg0)
      ∧ r.2.mem ((c.tc : Thread Cert.ReferenceRmsFwdIdeal.nD Cert.ReferenceRmsFwdIdeal.τ).loc Cert.ReferenceRmsFwdIdeal.main_arg1) = m ((c.tc : Thread Cert.ReferenceRmsFwdIdeal.nD Cert.ReferenceRmsFwdIdeal.τ).loc Cert.ReferenceRmsFwdIdeal.main_arg1))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1)
      ∧ r.2.mem ((c.tc : Thread Cert.KernelPrep.nD Cert.KernelPrep.τ).loc Cert.KernelPrep.main_arg2) = m ((c.tc : Thread Cert.KernelPrep.nD Cert.KernelPrep.τ).loc Cert.KernelPrep.main_arg2))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2))
      ∧ r.2.sem = fun _ => 0)

def quiescent_KernelPoolFwd [hKernelPoolFwd : Cert.KernelPoolFwd.Facts] : Prop :=
  ∀ (m : (ℓ : Loc Cert.KernelPoolFwd.nD Cert.KernelPoolFwd.τ Cert.KernelPoolFwd.sig) → Buf (Elt Bits) ℓ) (g : Dev Cert.KernelPoolFwd.nD → PrngReg), Pre_KernelPoolFwd m →
    θ_run (Cert.KernelPoolFwd.defs (F := Bits)) (onTc (τ := Cert.KernelPoolFwd.τ) (Cert.KernelPoolFwd.main (F := Bits))) ⟨m, fun _ => 0, g⟩ (fun r => (∀ c : Dev Cert.KernelPoolFwd.nD,
      r.2.mem ((c.tc : Thread Cert.KernelPoolFwd.nD Cert.KernelPoolFwd.τ).loc Cert.KernelPoolFwd.main_arg0) = m ((c.tc : Thread Cert.KernelPoolFwd.nD Cert.KernelPoolFwd.τ).loc Cert.KernelPoolFwd.main_arg0)
      ∧ r.2.mem ((c.tc : Thread Cert.KernelPoolFwd.nD Cert.KernelPoolFwd.τ).loc Cert.KernelPoolFwd.main_arg1) = m ((c.tc : Thread Cert.KernelPoolFwd.nD Cert.KernelPoolFwd.τ).loc Cert.KernelPoolFwd.main_arg1)
      ∧ r.2.mem ((c.tc : Thread Cert.KernelPoolFwd.nD Cert.KernelPoolFwd.τ).loc Cert.KernelPoolFwd.main_arg2) = m ((c.tc : Thread Cert.KernelPoolFwd.nD Cert.KernelPoolFwd.τ).loc Cert.KernelPoolFwd.main_arg2))
      ∧ r.2.sem = fun _ => 0)

def quiescent_KernelPoolFwdIdeal [hKernelPoolFwdIdeal : Cert.KernelPoolFwdIdeal.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg), Pre_KernelPoolFwdIdeal m →
    θ_run (Cert.KernelPoolFwdIdeal.defs (F := Ideal)) (onTc (τ := Cert.KernelPoolFwdIdeal.τ) (Cert.KernelPoolFwdIdeal.main (F := Ideal))) ⟨m, fun _ => 0, g⟩ (fun r => (∀ c : Dev Cert.KernelPoolFwdIdeal.nD,
      r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
      ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
      ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2))
      ∧ r.2.sem = fun _ => 0)

def quiescent_KernelPoolFwdIdeal_pre_pool_fwd_finite [hKernelPoolFwdIdeal : Cert.KernelPoolFwdIdeal.Facts] [hPre_pool_fwd_finite : Cert.Pre_pool_fwd_finite.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg), Pre_KernelPoolFwdIdeal_pool_fwd_finite m →
    θ_run (Cert.KernelPoolFwdIdeal.defs (F := Ideal)) (onTc (τ := Cert.KernelPoolFwdIdeal.τ) (Cert.KernelPoolFwdIdeal.main (F := Ideal))) ⟨m, fun _ => 0, g⟩ (fun r => (∀ c : Dev Cert.KernelPoolFwdIdeal.nD,
      r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
      ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
      ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2))
      ∧ r.2.sem = fun _ => 0)

def quiescent_ReferencePoolFwdIdeal [hReferencePoolFwdIdeal : Cert.ReferencePoolFwdIdeal.Facts] : Prop :=
  ∀ (m : (ℓ : Loc Cert.ReferencePoolFwdIdeal.nD Cert.ReferencePoolFwdIdeal.τ Cert.ReferencePoolFwdIdeal.sig) → Buf (Elt Ideal) ℓ) (g : Dev Cert.ReferencePoolFwdIdeal.nD → PrngReg), Pre_ReferencePoolFwdIdeal m →
    θ_run (Cert.ReferencePoolFwdIdeal.defs (F := Ideal)) (onTc (τ := Cert.ReferencePoolFwdIdeal.τ) (Cert.ReferencePoolFwdIdeal.main (F := Ideal))) ⟨m, fun _ => 0, g⟩ (fun r => (∀ c : Dev Cert.ReferencePoolFwdIdeal.nD,
      r.2.mem ((c.tc : Thread Cert.ReferencePoolFwdIdeal.nD Cert.ReferencePoolFwdIdeal.τ).loc Cert.ReferencePoolFwdIdeal.main_arg0) = m ((c.tc : Thread Cert.ReferencePoolFwdIdeal.nD Cert.ReferencePoolFwdIdeal.τ).loc Cert.ReferencePoolFwdIdeal.main_arg0)
      ∧ r.2.mem ((c.tc : Thread Cert.ReferencePoolFwdIdeal.nD Cert.ReferencePoolFwdIdeal.τ).loc Cert.ReferencePoolFwdIdeal.main_arg1) = m ((c.tc : Thread Cert.ReferencePoolFwdIdeal.nD Cert.ReferencePoolFwdIdeal.τ).loc Cert.ReferencePoolFwdIdeal.main_arg1)
      ∧ r.2.mem ((c.tc : Thread Cert.ReferencePoolFwdIdeal.nD Cert.ReferencePoolFwdIdeal.τ).loc Cert.ReferencePoolFwdIdeal.main_arg2) = m ((c.tc : Thread Cert.ReferencePoolFwdIdeal.nD Cert.ReferencePoolFwdIdeal.τ).loc Cert.ReferencePoolFwdIdeal.main_arg2))
      ∧ r.2.sem = fun _ => 0)

def quiescent_ReferencePoolFwdIdeal_pre_pool_fwd_finite [hReferencePoolFwdIdeal : Cert.ReferencePoolFwdIdeal.Facts] [hPre_pool_fwd_finite : Cert.Pre_pool_fwd_finite.Facts] : Prop :=
  ∀ (m : (ℓ : Loc Cert.ReferencePoolFwdIdeal.nD Cert.ReferencePoolFwdIdeal.τ Cert.ReferencePoolFwdIdeal.sig) → Buf (Elt Ideal) ℓ) (g : Dev Cert.ReferencePoolFwdIdeal.nD → PrngReg), Pre_ReferencePoolFwdIdeal_pool_fwd_finite m →
    θ_run (Cert.ReferencePoolFwdIdeal.defs (F := Ideal)) (onTc (τ := Cert.ReferencePoolFwdIdeal.τ) (Cert.ReferencePoolFwdIdeal.main (F := Ideal))) ⟨m, fun _ => 0, g⟩ (fun r => (∀ c : Dev Cert.ReferencePoolFwdIdeal.nD,
      r.2.mem ((c.tc : Thread Cert.ReferencePoolFwdIdeal.nD Cert.ReferencePoolFwdIdeal.τ).loc Cert.ReferencePoolFwdIdeal.main_arg0) = m ((c.tc : Thread Cert.ReferencePoolFwdIdeal.nD Cert.ReferencePoolFwdIdeal.τ).loc Cert.ReferencePoolFwdIdeal.main_arg0)
      ∧ r.2.mem ((c.tc : Thread Cert.ReferencePoolFwdIdeal.nD Cert.ReferencePoolFwdIdeal.τ).loc Cert.ReferencePoolFwdIdeal.main_arg1) = m ((c.tc : Thread Cert.ReferencePoolFwdIdeal.nD Cert.ReferencePoolFwdIdeal.τ).loc Cert.ReferencePoolFwdIdeal.main_arg1)
      ∧ r.2.mem ((c.tc : Thread Cert.ReferencePoolFwdIdeal.nD Cert.ReferencePoolFwdIdeal.τ).loc Cert.ReferencePoolFwdIdeal.main_arg2) = m ((c.tc : Thread Cert.ReferencePoolFwdIdeal.nD Cert.ReferencePoolFwdIdeal.τ).loc Cert.ReferencePoolFwdIdeal.main_arg2))
      ∧ r.2.sem = fun _ => 0)

def quiescent_KernelUpGate [hKernelUpGate : Cert.KernelUpGate.Facts] : Prop :=
  ∀ (m : (ℓ : Loc Cert.KernelUpGate.nD Cert.KernelUpGate.τ Cert.KernelUpGate.sig) → Buf (Elt Bits) ℓ) (g : Dev Cert.KernelUpGate.nD → PrngReg), Pre_KernelUpGate m →
    θ_run (Cert.KernelUpGate.defs (F := Bits)) (onTc (τ := Cert.KernelUpGate.τ) (Cert.KernelUpGate.main (F := Bits))) ⟨m, fun _ => 0, g⟩ (fun r => (∀ c : Dev Cert.KernelUpGate.nD,
      r.2.mem ((c.tc : Thread Cert.KernelUpGate.nD Cert.KernelUpGate.τ).loc Cert.KernelUpGate.main_arg0) = m ((c.tc : Thread Cert.KernelUpGate.nD Cert.KernelUpGate.τ).loc Cert.KernelUpGate.main_arg0)
      ∧ r.2.mem ((c.tc : Thread Cert.KernelUpGate.nD Cert.KernelUpGate.τ).loc Cert.KernelUpGate.main_arg1) = m ((c.tc : Thread Cert.KernelUpGate.nD Cert.KernelUpGate.τ).loc Cert.KernelUpGate.main_arg1)
      ∧ r.2.mem ((c.tc : Thread Cert.KernelUpGate.nD Cert.KernelUpGate.τ).loc Cert.KernelUpGate.main_arg2) = m ((c.tc : Thread Cert.KernelUpGate.nD Cert.KernelUpGate.τ).loc Cert.KernelUpGate.main_arg2))
      ∧ r.2.sem = fun _ => 0)

def quiescent_KernelUpGateIdeal [hKernelUpGateIdeal : Cert.KernelUpGateIdeal.Facts] : Prop :=
  ∀ (m : (ℓ : Loc Cert.KernelUpGateIdeal.nD Cert.KernelUpGateIdeal.τ Cert.KernelUpGateIdeal.sig) → Buf (Elt Ideal) ℓ) (g : Dev Cert.KernelUpGateIdeal.nD → PrngReg), Pre_KernelUpGateIdeal m →
    θ_run (Cert.KernelUpGateIdeal.defs (F := Ideal)) (onTc (τ := Cert.KernelUpGateIdeal.τ) (Cert.KernelUpGateIdeal.main (F := Ideal))) ⟨m, fun _ => 0, g⟩ (fun r => (∀ c : Dev Cert.KernelUpGateIdeal.nD,
      r.2.mem ((c.tc : Thread Cert.KernelUpGateIdeal.nD Cert.KernelUpGateIdeal.τ).loc Cert.KernelUpGateIdeal.main_arg0) = m ((c.tc : Thread Cert.KernelUpGateIdeal.nD Cert.KernelUpGateIdeal.τ).loc Cert.KernelUpGateIdeal.main_arg0)
      ∧ r.2.mem ((c.tc : Thread Cert.KernelUpGateIdeal.nD Cert.KernelUpGateIdeal.τ).loc Cert.KernelUpGateIdeal.main_arg1) = m ((c.tc : Thread Cert.KernelUpGateIdeal.nD Cert.KernelUpGateIdeal.τ).loc Cert.KernelUpGateIdeal.main_arg1)
      ∧ r.2.mem ((c.tc : Thread Cert.KernelUpGateIdeal.nD Cert.KernelUpGateIdeal.τ).loc Cert.KernelUpGateIdeal.main_arg2) = m ((c.tc : Thread Cert.KernelUpGateIdeal.nD Cert.KernelUpGateIdeal.τ).loc Cert.KernelUpGateIdeal.main_arg2))
      ∧ r.2.sem = fun _ => 0)

def quiescent_KernelUpGateIdeal_pre_up_gate_finite [hKernelUpGateIdeal : Cert.KernelUpGateIdeal.Facts] [hPre_up_gate_finite : Cert.Pre_up_gate_finite.Facts] : Prop :=
  ∀ (m : (ℓ : Loc Cert.KernelUpGateIdeal.nD Cert.KernelUpGateIdeal.τ Cert.KernelUpGateIdeal.sig) → Buf (Elt Ideal) ℓ) (g : Dev Cert.KernelUpGateIdeal.nD → PrngReg), Pre_KernelUpGateIdeal_up_gate_finite m →
    θ_run (Cert.KernelUpGateIdeal.defs (F := Ideal)) (onTc (τ := Cert.KernelUpGateIdeal.τ) (Cert.KernelUpGateIdeal.main (F := Ideal))) ⟨m, fun _ => 0, g⟩ (fun r => (∀ c : Dev Cert.KernelUpGateIdeal.nD,
      r.2.mem ((c.tc : Thread Cert.KernelUpGateIdeal.nD Cert.KernelUpGateIdeal.τ).loc Cert.KernelUpGateIdeal.main_arg0) = m ((c.tc : Thread Cert.KernelUpGateIdeal.nD Cert.KernelUpGateIdeal.τ).loc Cert.KernelUpGateIdeal.main_arg0)
      ∧ r.2.mem ((c.tc : Thread Cert.KernelUpGateIdeal.nD Cert.KernelUpGateIdeal.τ).loc Cert.KernelUpGateIdeal.main_arg1) = m ((c.tc : Thread Cert.KernelUpGateIdeal.nD Cert.KernelUpGateIdeal.τ).loc Cert.KernelUpGateIdeal.main_arg1)
      ∧ r.2.mem ((c.tc : Thread Cert.KernelUpGateIdeal.nD Cert.KernelUpGateIdeal.τ).loc Cert.KernelUpGateIdeal.main_arg2) = m ((c.tc : Thread Cert.KernelUpGateIdeal.nD Cert.KernelUpGateIdeal.τ).loc Cert.KernelUpGateIdeal.main_arg2))
      ∧ r.2.sem = fun _ => 0)

def quiescent_ReferenceUpGateIdeal [hReferenceUpGateIdeal : Cert.ReferenceUpGateIdeal.Facts] : Prop :=
  ∀ (m : (ℓ : Loc Cert.ReferenceUpGateIdeal.nD Cert.ReferenceUpGateIdeal.τ Cert.ReferenceUpGateIdeal.sig) → Buf (Elt Ideal) ℓ) (g : Dev Cert.ReferenceUpGateIdeal.nD → PrngReg), Pre_ReferenceUpGateIdeal m →
    θ_run (Cert.ReferenceUpGateIdeal.defs (F := Ideal)) (onTc (τ := Cert.ReferenceUpGateIdeal.τ) (Cert.ReferenceUpGateIdeal.main (F := Ideal))) ⟨m, fun _ => 0, g⟩ (fun r => (∀ c : Dev Cert.ReferenceUpGateIdeal.nD,
      r.2.mem ((c.tc : Thread Cert.ReferenceUpGateIdeal.nD Cert.ReferenceUpGateIdeal.τ).loc Cert.ReferenceUpGateIdeal.main_arg0) = m ((c.tc : Thread Cert.ReferenceUpGateIdeal.nD Cert.ReferenceUpGateIdeal.τ).loc Cert.ReferenceUpGateIdeal.main_arg0)
      ∧ r.2.mem ((c.tc : Thread Cert.ReferenceUpGateIdeal.nD Cert.ReferenceUpGateIdeal.τ).loc Cert.ReferenceUpGateIdeal.main_arg1) = m ((c.tc : Thread Cert.ReferenceUpGateIdeal.nD Cert.ReferenceUpGateIdeal.τ).loc Cert.ReferenceUpGateIdeal.main_arg1)
      ∧ r.2.mem ((c.tc : Thread Cert.ReferenceUpGateIdeal.nD Cert.ReferenceUpGateIdeal.τ).loc Cert.ReferenceUpGateIdeal.main_arg2) = m ((c.tc : Thread Cert.ReferenceUpGateIdeal.nD Cert.ReferenceUpGateIdeal.τ).loc Cert.ReferenceUpGateIdeal.main_arg2))
      ∧ r.2.sem = fun _ => 0)

def quiescent_ReferenceUpGateIdeal_pre_up_gate_finite [hReferenceUpGateIdeal : Cert.ReferenceUpGateIdeal.Facts] [hPre_up_gate_finite : Cert.Pre_up_gate_finite.Facts] : Prop :=
  ∀ (m : (ℓ : Loc Cert.ReferenceUpGateIdeal.nD Cert.ReferenceUpGateIdeal.τ Cert.ReferenceUpGateIdeal.sig) → Buf (Elt Ideal) ℓ) (g : Dev Cert.ReferenceUpGateIdeal.nD → PrngReg), Pre_ReferenceUpGateIdeal_up_gate_finite m →
    θ_run (Cert.ReferenceUpGateIdeal.defs (F := Ideal)) (onTc (τ := Cert.ReferenceUpGateIdeal.τ) (Cert.ReferenceUpGateIdeal.main (F := Ideal))) ⟨m, fun _ => 0, g⟩ (fun r => (∀ c : Dev Cert.ReferenceUpGateIdeal.nD,
      r.2.mem ((c.tc : Thread Cert.ReferenceUpGateIdeal.nD Cert.ReferenceUpGateIdeal.τ).loc Cert.ReferenceUpGateIdeal.main_arg0) = m ((c.tc : Thread Cert.ReferenceUpGateIdeal.nD Cert.ReferenceUpGateIdeal.τ).loc Cert.ReferenceUpGateIdeal.main_arg0)
      ∧ r.2.mem ((c.tc : Thread Cert.ReferenceUpGateIdeal.nD Cert.ReferenceUpGateIdeal.τ).loc Cert.ReferenceUpGateIdeal.main_arg1) = m ((c.tc : Thread Cert.ReferenceUpGateIdeal.nD Cert.ReferenceUpGateIdeal.τ).loc Cert.ReferenceUpGateIdeal.main_arg1)
      ∧ r.2.mem ((c.tc : Thread Cert.ReferenceUpGateIdeal.nD Cert.ReferenceUpGateIdeal.τ).loc Cert.ReferenceUpGateIdeal.main_arg2) = m ((c.tc : Thread Cert.ReferenceUpGateIdeal.nD Cert.ReferenceUpGateIdeal.τ).loc Cert.ReferenceUpGateIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_KernelUpIdeal_pre_up_finite [hKernelUpIdeal : Cert.KernelUpIdeal.Facts] [hPre_up_finite : Cert.Pre_up_finite.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal_up_finite m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_ReferenceUpIdeal_pre_up_finite [hReferenceUpIdeal : Cert.ReferenceUpIdeal.Facts] [hPre_up_finite : Cert.Pre_up_finite.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal_up_finite m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelForgetFwd [hKernelForgetFwd : Cert.KernelForgetFwd.Facts] : Prop :=
  ∀ (m : (ℓ : Loc Cert.KernelForgetFwd.nD Cert.KernelForgetFwd.τ Cert.KernelForgetFwd.sig) → Buf (Elt Bits) ℓ) (g : Dev Cert.KernelForgetFwd.nD → PrngReg), Pre_KernelForgetFwd m →
    θ_run (Cert.KernelForgetFwd.defs (F := Bits)) (onTc (τ := Cert.KernelForgetFwd.τ) (Cert.KernelForgetFwd.main (F := Bits))) ⟨m, fun _ => 0, g⟩ (fun r => (∀ c : Dev Cert.KernelForgetFwd.nD,
      r.2.mem ((c.tc : Thread Cert.KernelForgetFwd.nD Cert.KernelForgetFwd.τ).loc Cert.KernelForgetFwd.main_arg0) = m ((c.tc : Thread Cert.KernelForgetFwd.nD Cert.KernelForgetFwd.τ).loc Cert.KernelForgetFwd.main_arg0)
      ∧ r.2.mem ((c.tc : Thread Cert.KernelForgetFwd.nD Cert.KernelForgetFwd.τ).loc Cert.KernelForgetFwd.main_arg1) = m ((c.tc : Thread Cert.KernelForgetFwd.nD Cert.KernelForgetFwd.τ).loc Cert.KernelForgetFwd.main_arg1))
      ∧ r.2.sem = fun _ => 0)

def quiescent_KernelForgetFwdIdeal [hKernelForgetFwdIdeal : Cert.KernelForgetFwdIdeal.Facts] : Prop :=
  ∀ (m : (ℓ : Loc Cert.KernelForgetFwdIdeal.nD Cert.KernelForgetFwdIdeal.τ Cert.KernelForgetFwdIdeal.sig) → Buf (Elt Ideal) ℓ) (g : Dev Cert.KernelForgetFwdIdeal.nD → PrngReg), Pre_KernelForgetFwdIdeal m →
    θ_run (Cert.KernelForgetFwdIdeal.defs (F := Ideal)) (onTc (τ := Cert.KernelForgetFwdIdeal.τ) (Cert.KernelForgetFwdIdeal.main (F := Ideal))) ⟨m, fun _ => 0, g⟩ (fun r => (∀ c : Dev Cert.KernelForgetFwdIdeal.nD,
      r.2.mem ((c.tc : Thread Cert.KernelForgetFwdIdeal.nD Cert.KernelForgetFwdIdeal.τ).loc Cert.KernelForgetFwdIdeal.main_arg0) = m ((c.tc : Thread Cert.KernelForgetFwdIdeal.nD Cert.KernelForgetFwdIdeal.τ).loc Cert.KernelForgetFwdIdeal.main_arg0)
      ∧ r.2.mem ((c.tc : Thread Cert.KernelForgetFwdIdeal.nD Cert.KernelForgetFwdIdeal.τ).loc Cert.KernelForgetFwdIdeal.main_arg1) = m ((c.tc : Thread Cert.KernelForgetFwdIdeal.nD Cert.KernelForgetFwdIdeal.τ).loc Cert.KernelForgetFwdIdeal.main_arg1))
      ∧ r.2.sem = fun _ => 0)

def quiescent_ReferenceForgetFwdIdeal [hReferenceForgetFwdIdeal : Cert.ReferenceForgetFwdIdeal.Facts] : Prop :=
  ∀ (m : (ℓ : Loc Cert.ReferenceForgetFwdIdeal.nD Cert.ReferenceForgetFwdIdeal.τ Cert.ReferenceForgetFwdIdeal.sig) → Buf (Elt Ideal) ℓ) (g : Dev Cert.ReferenceForgetFwdIdeal.nD → PrngReg), Pre_ReferenceForgetFwdIdeal m →
    θ_run (Cert.ReferenceForgetFwdIdeal.defs (F := Ideal)) (onTc (τ := Cert.ReferenceForgetFwdIdeal.τ) (Cert.ReferenceForgetFwdIdeal.main (F := Ideal))) ⟨m, fun _ => 0, g⟩ (fun r => (∀ c : Dev Cert.ReferenceForgetFwdIdeal.nD,
      r.2.mem ((c.tc : Thread Cert.ReferenceForgetFwdIdeal.nD Cert.ReferenceForgetFwdIdeal.τ).loc Cert.ReferenceForgetFwdIdeal.main_arg0) = m ((c.tc : Thread Cert.ReferenceForgetFwdIdeal.nD Cert.ReferenceForgetFwdIdeal.τ).loc Cert.ReferenceForgetFwdIdeal.main_arg0)
      ∧ r.2.mem ((c.tc : Thread Cert.ReferenceForgetFwdIdeal.nD Cert.ReferenceForgetFwdIdeal.τ).loc Cert.ReferenceForgetFwdIdeal.main_arg1) = m ((c.tc : Thread Cert.ReferenceForgetFwdIdeal.nD Cert.ReferenceForgetFwdIdeal.τ).loc Cert.ReferenceForgetFwdIdeal.main_arg1))
      ∧ r.2.sem = fun _ => 0)

def quiescent_KernelMmNn [hKernelMmNn : Cert.KernelMmNn.Facts] : Prop :=
  ∀ (m : (ℓ : Loc Cert.KernelMmNn.nD Cert.KernelMmNn.τ Cert.KernelMmNn.sig) → Buf (Elt Bits) ℓ) (g : Dev Cert.KernelMmNn.nD → PrngReg), Pre_KernelMmNn m →
    θ_run (Cert.KernelMmNn.defs (F := Bits)) (onTc (τ := Cert.KernelMmNn.τ) (Cert.KernelMmNn.main (F := Bits))) ⟨m, fun _ => 0, g⟩ (fun r => (∀ c : Dev Cert.KernelMmNn.nD,
      r.2.mem ((c.tc : Thread Cert.KernelMmNn.nD Cert.KernelMmNn.τ).loc Cert.KernelMmNn.main_arg0) = m ((c.tc : Thread Cert.KernelMmNn.nD Cert.KernelMmNn.τ).loc Cert.KernelMmNn.main_arg0)
      ∧ r.2.mem ((c.tc : Thread Cert.KernelMmNn.nD Cert.KernelMmNn.τ).loc Cert.KernelMmNn.main_arg1) = m ((c.tc : Thread Cert.KernelMmNn.nD Cert.KernelMmNn.τ).loc Cert.KernelMmNn.main_arg1))
      ∧ r.2.sem = fun _ => 0)

def quiescent_KernelMmNnIdeal [hKernelMmNnIdeal : Cert.KernelMmNnIdeal.Facts] : Prop :=
  ∀ (m : (ℓ : Loc Cert.KernelMmNnIdeal.nD Cert.KernelMmNnIdeal.τ Cert.KernelMmNnIdeal.sig) → Buf (Elt Ideal) ℓ) (g : Dev Cert.KernelMmNnIdeal.nD → PrngReg), Pre_KernelMmNnIdeal m →
    θ_run (Cert.KernelMmNnIdeal.defs (F := Ideal)) (onTc (τ := Cert.KernelMmNnIdeal.τ) (Cert.KernelMmNnIdeal.main (F := Ideal))) ⟨m, fun _ => 0, g⟩ (fun r => (∀ c : Dev Cert.KernelMmNnIdeal.nD,
      r.2.mem ((c.tc : Thread Cert.KernelMmNnIdeal.nD Cert.KernelMmNnIdeal.τ).loc Cert.KernelMmNnIdeal.main_arg0) = m ((c.tc : Thread Cert.KernelMmNnIdeal.nD Cert.KernelMmNnIdeal.τ).loc Cert.KernelMmNnIdeal.main_arg0)
      ∧ r.2.mem ((c.tc : Thread Cert.KernelMmNnIdeal.nD Cert.KernelMmNnIdeal.τ).loc Cert.KernelMmNnIdeal.main_arg1) = m ((c.tc : Thread Cert.KernelMmNnIdeal.nD Cert.KernelMmNnIdeal.τ).loc Cert.KernelMmNnIdeal.main_arg1))
      ∧ r.2.sem = fun _ => 0)

def quiescent_ReferenceMmNnIdeal [hReferenceMmNnIdeal : Cert.ReferenceMmNnIdeal.Facts] : Prop :=
  ∀ (m : (ℓ : Loc Cert.ReferenceMmNnIdeal.nD Cert.ReferenceMmNnIdeal.τ Cert.ReferenceMmNnIdeal.sig) → Buf (Elt Ideal) ℓ) (g : Dev Cert.ReferenceMmNnIdeal.nD → PrngReg), Pre_ReferenceMmNnIdeal m →
    θ_run (Cert.ReferenceMmNnIdeal.defs (F := Ideal)) (onTc (τ := Cert.ReferenceMmNnIdeal.τ) (Cert.ReferenceMmNnIdeal.main (F := Ideal))) ⟨m, fun _ => 0, g⟩ (fun r => (∀ c : Dev Cert.ReferenceMmNnIdeal.nD,
      r.2.mem ((c.tc : Thread Cert.ReferenceMmNnIdeal.nD Cert.ReferenceMmNnIdeal.τ).loc Cert.ReferenceMmNnIdeal.main_arg0) = m ((c.tc : Thread Cert.ReferenceMmNnIdeal.nD Cert.ReferenceMmNnIdeal.τ).loc Cert.ReferenceMmNnIdeal.main_arg0)
      ∧ r.2.mem ((c.tc : Thread Cert.ReferenceMmNnIdeal.nD Cert.ReferenceMmNnIdeal.τ).loc Cert.ReferenceMmNnIdeal.main_arg1) = m ((c.tc : Thread Cert.ReferenceMmNnIdeal.nD Cert.ReferenceMmNnIdeal.τ).loc Cert.ReferenceMmNnIdeal.main_arg1))
      ∧ r.2.sem = fun _ => 0)

def quiescent_KernelMmRes [hKernelMmRes : Cert.KernelMmRes.Facts] : Prop :=
  ∀ (m : (ℓ : Loc Cert.KernelMmRes.nD Cert.KernelMmRes.τ Cert.KernelMmRes.sig) → Buf (Elt Bits) ℓ) (g : Dev Cert.KernelMmRes.nD → PrngReg), Pre_KernelMmRes m →
    θ_run (Cert.KernelMmRes.defs (F := Bits)) (onTc (τ := Cert.KernelMmRes.τ) (Cert.KernelMmRes.main (F := Bits))) ⟨m, fun _ => 0, g⟩ (fun r => (∀ c : Dev Cert.KernelMmRes.nD,
      r.2.mem ((c.tc : Thread Cert.KernelMmRes.nD Cert.KernelMmRes.τ).loc Cert.KernelMmRes.main_arg0) = m ((c.tc : Thread Cert.KernelMmRes.nD Cert.KernelMmRes.τ).loc Cert.KernelMmRes.main_arg0)
      ∧ r.2.mem ((c.tc : Thread Cert.KernelMmRes.nD Cert.KernelMmRes.τ).loc Cert.KernelMmRes.main_arg1) = m ((c.tc : Thread Cert.KernelMmRes.nD Cert.KernelMmRes.τ).loc Cert.KernelMmRes.main_arg1)
      ∧ r.2.mem ((c.tc : Thread Cert.KernelMmRes.nD Cert.KernelMmRes.τ).loc Cert.KernelMmRes.main_arg2) = m ((c.tc : Thread Cert.KernelMmRes.nD Cert.KernelMmRes.τ).loc Cert.KernelMmRes.main_arg2))
      ∧ r.2.sem = fun _ => 0)

def quiescent_KernelMmResIdeal [hKernelMmResIdeal : Cert.KernelMmResIdeal.Facts] : Prop :=
  ∀ (m : (ℓ : Loc Cert.KernelMmResIdeal.nD Cert.KernelMmResIdeal.τ Cert.KernelMmResIdeal.sig) → Buf (Elt Ideal) ℓ) (g : Dev Cert.KernelMmResIdeal.nD → PrngReg), Pre_KernelMmResIdeal m →
    θ_run (Cert.KernelMmResIdeal.defs (F := Ideal)) (onTc (τ := Cert.KernelMmResIdeal.τ) (Cert.KernelMmResIdeal.main (F := Ideal))) ⟨m, fun _ => 0, g⟩ (fun r => (∀ c : Dev Cert.KernelMmResIdeal.nD,
      r.2.mem ((c.tc : Thread Cert.KernelMmResIdeal.nD Cert.KernelMmResIdeal.τ).loc Cert.KernelMmResIdeal.main_arg0) = m ((c.tc : Thread Cert.KernelMmResIdeal.nD Cert.KernelMmResIdeal.τ).loc Cert.KernelMmResIdeal.main_arg0)
      ∧ r.2.mem ((c.tc : Thread Cert.KernelMmResIdeal.nD Cert.KernelMmResIdeal.τ).loc Cert.KernelMmResIdeal.main_arg1) = m ((c.tc : Thread Cert.KernelMmResIdeal.nD Cert.KernelMmResIdeal.τ).loc Cert.KernelMmResIdeal.main_arg1)
      ∧ r.2.mem ((c.tc : Thread Cert.KernelMmResIdeal.nD Cert.KernelMmResIdeal.τ).loc Cert.KernelMmResIdeal.main_arg2) = m ((c.tc : Thread Cert.KernelMmResIdeal.nD Cert.KernelMmResIdeal.τ).loc Cert.KernelMmResIdeal.main_arg2))
      ∧ r.2.sem = fun _ => 0)

def quiescent_ReferenceMmResIdeal [hReferenceMmResIdeal : Cert.ReferenceMmResIdeal.Facts] : Prop :=
  ∀ (m : (ℓ : Loc Cert.ReferenceMmResIdeal.nD Cert.ReferenceMmResIdeal.τ Cert.ReferenceMmResIdeal.sig) → Buf (Elt Ideal) ℓ) (g : Dev Cert.ReferenceMmResIdeal.nD → PrngReg), Pre_ReferenceMmResIdeal m →
    θ_run (Cert.ReferenceMmResIdeal.defs (F := Ideal)) (onTc (τ := Cert.ReferenceMmResIdeal.τ) (Cert.ReferenceMmResIdeal.main (F := Ideal))) ⟨m, fun _ => 0, g⟩ (fun r => (∀ c : Dev Cert.ReferenceMmResIdeal.nD,
      r.2.mem ((c.tc : Thread Cert.ReferenceMmResIdeal.nD Cert.ReferenceMmResIdeal.τ).loc Cert.ReferenceMmResIdeal.main_arg0) = m ((c.tc : Thread Cert.ReferenceMmResIdeal.nD Cert.ReferenceMmResIdeal.τ).loc Cert.ReferenceMmResIdeal.main_arg0)
      ∧ r.2.mem ((c.tc : Thread Cert.ReferenceMmResIdeal.nD Cert.ReferenceMmResIdeal.τ).loc Cert.ReferenceMmResIdeal.main_arg1) = m ((c.tc : Thread Cert.ReferenceMmResIdeal.nD Cert.ReferenceMmResIdeal.τ).loc Cert.ReferenceMmResIdeal.main_arg1)
      ∧ r.2.mem ((c.tc : Thread Cert.ReferenceMmResIdeal.nD Cert.ReferenceMmResIdeal.τ).loc Cert.ReferenceMmResIdeal.main_arg2) = m ((c.tc : Thread Cert.ReferenceMmResIdeal.nD Cert.ReferenceMmResIdeal.τ).loc Cert.ReferenceMmResIdeal.main_arg2))
      ∧ r.2.sem = fun _ => 0)

def quiescent_KernelMmNt [hKernelMmNt : Cert.KernelMmNt.Facts] : Prop :=
  ∀ (m : (ℓ : Loc Cert.KernelMmNt.nD Cert.KernelMmNt.τ Cert.KernelMmNt.sig) → Buf (Elt Bits) ℓ) (g : Dev Cert.KernelMmNt.nD → PrngReg), Pre_KernelMmNt m →
    θ_run (Cert.KernelMmNt.defs (F := Bits)) (onTc (τ := Cert.KernelMmNt.τ) (Cert.KernelMmNt.main (F := Bits))) ⟨m, fun _ => 0, g⟩ (fun r => (∀ c : Dev Cert.KernelMmNt.nD,
      r.2.mem ((c.tc : Thread Cert.KernelMmNt.nD Cert.KernelMmNt.τ).loc Cert.KernelMmNt.main_arg0) = m ((c.tc : Thread Cert.KernelMmNt.nD Cert.KernelMmNt.τ).loc Cert.KernelMmNt.main_arg0)
      ∧ r.2.mem ((c.tc : Thread Cert.KernelMmNt.nD Cert.KernelMmNt.τ).loc Cert.KernelMmNt.main_arg1) = m ((c.tc : Thread Cert.KernelMmNt.nD Cert.KernelMmNt.τ).loc Cert.KernelMmNt.main_arg1))
      ∧ r.2.sem = fun _ => 0)

def quiescent_KernelMmNtIdeal [hKernelMmNtIdeal : Cert.KernelMmNtIdeal.Facts] : Prop :=
  ∀ (m : (ℓ : Loc Cert.KernelMmNtIdeal.nD Cert.KernelMmNtIdeal.τ Cert.KernelMmNtIdeal.sig) → Buf (Elt Ideal) ℓ) (g : Dev Cert.KernelMmNtIdeal.nD → PrngReg), Pre_KernelMmNtIdeal m →
    θ_run (Cert.KernelMmNtIdeal.defs (F := Ideal)) (onTc (τ := Cert.KernelMmNtIdeal.τ) (Cert.KernelMmNtIdeal.main (F := Ideal))) ⟨m, fun _ => 0, g⟩ (fun r => (∀ c : Dev Cert.KernelMmNtIdeal.nD,
      r.2.mem ((c.tc : Thread Cert.KernelMmNtIdeal.nD Cert.KernelMmNtIdeal.τ).loc Cert.KernelMmNtIdeal.main_arg0) = m ((c.tc : Thread Cert.KernelMmNtIdeal.nD Cert.KernelMmNtIdeal.τ).loc Cert.KernelMmNtIdeal.main_arg0)
      ∧ r.2.mem ((c.tc : Thread Cert.KernelMmNtIdeal.nD Cert.KernelMmNtIdeal.τ).loc Cert.KernelMmNtIdeal.main_arg1) = m ((c.tc : Thread Cert.KernelMmNtIdeal.nD Cert.KernelMmNtIdeal.τ).loc Cert.KernelMmNtIdeal.main_arg1))
      ∧ r.2.sem = fun _ => 0)

def quiescent_ReferenceMmNtIdeal [hReferenceMmNtIdeal : Cert.ReferenceMmNtIdeal.Facts] : Prop :=
  ∀ (m : (ℓ : Loc Cert.ReferenceMmNtIdeal.nD Cert.ReferenceMmNtIdeal.τ Cert.ReferenceMmNtIdeal.sig) → Buf (Elt Ideal) ℓ) (g : Dev Cert.ReferenceMmNtIdeal.nD → PrngReg), Pre_ReferenceMmNtIdeal m →
    θ_run (Cert.ReferenceMmNtIdeal.defs (F := Ideal)) (onTc (τ := Cert.ReferenceMmNtIdeal.τ) (Cert.ReferenceMmNtIdeal.main (F := Ideal))) ⟨m, fun _ => 0, g⟩ (fun r => (∀ c : Dev Cert.ReferenceMmNtIdeal.nD,
      r.2.mem ((c.tc : Thread Cert.ReferenceMmNtIdeal.nD Cert.ReferenceMmNtIdeal.τ).loc Cert.ReferenceMmNtIdeal.main_arg0) = m ((c.tc : Thread Cert.ReferenceMmNtIdeal.nD Cert.ReferenceMmNtIdeal.τ).loc Cert.ReferenceMmNtIdeal.main_arg0)
      ∧ r.2.mem ((c.tc : Thread Cert.ReferenceMmNtIdeal.nD Cert.ReferenceMmNtIdeal.τ).loc Cert.ReferenceMmNtIdeal.main_arg1) = m ((c.tc : Thread Cert.ReferenceMmNtIdeal.nD Cert.ReferenceMmNtIdeal.τ).loc Cert.ReferenceMmNtIdeal.main_arg1))
      ∧ r.2.sem = fun _ => 0)

def quiescent_KernelMmSum [hKernelMmSum : Cert.KernelMmSum.Facts] : Prop :=
  ∀ (m : (ℓ : Loc Cert.KernelMmSum.nD Cert.KernelMmSum.τ Cert.KernelMmSum.sig) → Buf (Elt Bits) ℓ) (g : Dev Cert.KernelMmSum.nD → PrngReg), Pre_KernelMmSum m →
    θ_run (Cert.KernelMmSum.defs (F := Bits)) (onTc (τ := Cert.KernelMmSum.τ) (Cert.KernelMmSum.main (F := Bits))) ⟨m, fun _ => 0, g⟩ (fun r => (∀ c : Dev Cert.KernelMmSum.nD,
      r.2.mem ((c.tc : Thread Cert.KernelMmSum.nD Cert.KernelMmSum.τ).loc Cert.KernelMmSum.main_arg0) = m ((c.tc : Thread Cert.KernelMmSum.nD Cert.KernelMmSum.τ).loc Cert.KernelMmSum.main_arg0)
      ∧ r.2.mem ((c.tc : Thread Cert.KernelMmSum.nD Cert.KernelMmSum.τ).loc Cert.KernelMmSum.main_arg1) = m ((c.tc : Thread Cert.KernelMmSum.nD Cert.KernelMmSum.τ).loc Cert.KernelMmSum.main_arg1)
      ∧ r.2.mem ((c.tc : Thread Cert.KernelMmSum.nD Cert.KernelMmSum.τ).loc Cert.KernelMmSum.main_arg2) = m ((c.tc : Thread Cert.KernelMmSum.nD Cert.KernelMmSum.τ).loc Cert.KernelMmSum.main_arg2)
      ∧ r.2.mem ((c.tc : Thread Cert.KernelMmSum.nD Cert.KernelMmSum.τ).loc Cert.KernelMmSum.main_arg3) = m ((c.tc : Thread Cert.KernelMmSum.nD Cert.KernelMmSum.τ).loc Cert.KernelMmSum.main_arg3))
      ∧ r.2.sem = fun _ => 0)

def quiescent_KernelMmSumIdeal [hKernelMmSumIdeal : Cert.KernelMmSumIdeal.Facts] : Prop :=
  ∀ (m : (ℓ : Loc Cert.KernelMmSumIdeal.nD Cert.KernelMmSumIdeal.τ Cert.KernelMmSumIdeal.sig) → Buf (Elt Ideal) ℓ) (g : Dev Cert.KernelMmSumIdeal.nD → PrngReg), Pre_KernelMmSumIdeal m →
    θ_run (Cert.KernelMmSumIdeal.defs (F := Ideal)) (onTc (τ := Cert.KernelMmSumIdeal.τ) (Cert.KernelMmSumIdeal.main (F := Ideal))) ⟨m, fun _ => 0, g⟩ (fun r => (∀ c : Dev Cert.KernelMmSumIdeal.nD,
      r.2.mem ((c.tc : Thread Cert.KernelMmSumIdeal.nD Cert.KernelMmSumIdeal.τ).loc Cert.KernelMmSumIdeal.main_arg0) = m ((c.tc : Thread Cert.KernelMmSumIdeal.nD Cert.KernelMmSumIdeal.τ).loc Cert.KernelMmSumIdeal.main_arg0)
      ∧ r.2.mem ((c.tc : Thread Cert.KernelMmSumIdeal.nD Cert.KernelMmSumIdeal.τ).loc Cert.KernelMmSumIdeal.main_arg1) = m ((c.tc : Thread Cert.KernelMmSumIdeal.nD Cert.KernelMmSumIdeal.τ).loc Cert.KernelMmSumIdeal.main_arg1)
      ∧ r.2.mem ((c.tc : Thread Cert.KernelMmSumIdeal.nD Cert.KernelMmSumIdeal.τ).loc Cert.KernelMmSumIdeal.main_arg2) = m ((c.tc : Thread Cert.KernelMmSumIdeal.nD Cert.KernelMmSumIdeal.τ).loc Cert.KernelMmSumIdeal.main_arg2)
      ∧ r.2.mem ((c.tc : Thread Cert.KernelMmSumIdeal.nD Cert.KernelMmSumIdeal.τ).loc Cert.KernelMmSumIdeal.main_arg3) = m ((c.tc : Thread Cert.KernelMmSumIdeal.nD Cert.KernelMmSumIdeal.τ).loc Cert.KernelMmSumIdeal.main_arg3))
      ∧ r.2.sem = fun _ => 0)

def quiescent_ReferenceMmSumIdeal [hReferenceMmSumIdeal : Cert.ReferenceMmSumIdeal.Facts] : Prop :=
  ∀ (m : (ℓ : Loc Cert.ReferenceMmSumIdeal.nD Cert.ReferenceMmSumIdeal.τ Cert.ReferenceMmSumIdeal.sig) → Buf (Elt Ideal) ℓ) (g : Dev Cert.ReferenceMmSumIdeal.nD → PrngReg), Pre_ReferenceMmSumIdeal m →
    θ_run (Cert.ReferenceMmSumIdeal.defs (F := Ideal)) (onTc (τ := Cert.ReferenceMmSumIdeal.τ) (Cert.ReferenceMmSumIdeal.main (F := Ideal))) ⟨m, fun _ => 0, g⟩ (fun r => (∀ c : Dev Cert.ReferenceMmSumIdeal.nD,
      r.2.mem ((c.tc : Thread Cert.ReferenceMmSumIdeal.nD Cert.ReferenceMmSumIdeal.τ).loc Cert.ReferenceMmSumIdeal.main_arg0) = m ((c.tc : Thread Cert.ReferenceMmSumIdeal.nD Cert.ReferenceMmSumIdeal.τ).loc Cert.ReferenceMmSumIdeal.main_arg0)
      ∧ r.2.mem ((c.tc : Thread Cert.ReferenceMmSumIdeal.nD Cert.ReferenceMmSumIdeal.τ).loc Cert.ReferenceMmSumIdeal.main_arg1) = m ((c.tc : Thread Cert.ReferenceMmSumIdeal.nD Cert.ReferenceMmSumIdeal.τ).loc Cert.ReferenceMmSumIdeal.main_arg1)
      ∧ r.2.mem ((c.tc : Thread Cert.ReferenceMmSumIdeal.nD Cert.ReferenceMmSumIdeal.τ).loc Cert.ReferenceMmSumIdeal.main_arg2) = m ((c.tc : Thread Cert.ReferenceMmSumIdeal.nD Cert.ReferenceMmSumIdeal.τ).loc Cert.ReferenceMmSumIdeal.main_arg2)
      ∧ r.2.mem ((c.tc : Thread Cert.ReferenceMmSumIdeal.nD Cert.ReferenceMmSumIdeal.τ).loc Cert.ReferenceMmSumIdeal.main_arg3) = m ((c.tc : Thread Cert.ReferenceMmSumIdeal.nD Cert.ReferenceMmSumIdeal.τ).loc Cert.ReferenceMmSumIdeal.main_arg3))
      ∧ r.2.sem = fun _ => 0)

def quiescent_KernelMmTn [hKernelMmTn : Cert.KernelMmTn.Facts] : Prop :=
  ∀ (m : (ℓ : Loc Cert.KernelMmTn.nD Cert.KernelMmTn.τ Cert.KernelMmTn.sig) → Buf (Elt Bits) ℓ) (g : Dev Cert.KernelMmTn.nD → PrngReg), Pre_KernelMmTn m →
    θ_run (Cert.KernelMmTn.defs (F := Bits)) (onTc (τ := Cert.KernelMmTn.τ) (Cert.KernelMmTn.main (F := Bits))) ⟨m, fun _ => 0, g⟩ (fun r => (∀ c : Dev Cert.KernelMmTn.nD,
      r.2.mem ((c.tc : Thread Cert.KernelMmTn.nD Cert.KernelMmTn.τ).loc Cert.KernelMmTn.main_arg0) = m ((c.tc : Thread Cert.KernelMmTn.nD Cert.KernelMmTn.τ).loc Cert.KernelMmTn.main_arg0)
      ∧ r.2.mem ((c.tc : Thread Cert.KernelMmTn.nD Cert.KernelMmTn.τ).loc Cert.KernelMmTn.main_arg1) = m ((c.tc : Thread Cert.KernelMmTn.nD Cert.KernelMmTn.τ).loc Cert.KernelMmTn.main_arg1))
      ∧ r.2.sem = fun _ => 0)

def quiescent_KernelMmTnIdeal [hKernelMmTnIdeal : Cert.KernelMmTnIdeal.Facts] : Prop :=
  ∀ (m : (ℓ : Loc Cert.KernelMmTnIdeal.nD Cert.KernelMmTnIdeal.τ Cert.KernelMmTnIdeal.sig) → Buf (Elt Ideal) ℓ) (g : Dev Cert.KernelMmTnIdeal.nD → PrngReg), Pre_KernelMmTnIdeal m →
    θ_run (Cert.KernelMmTnIdeal.defs (F := Ideal)) (onTc (τ := Cert.KernelMmTnIdeal.τ) (Cert.KernelMmTnIdeal.main (F := Ideal))) ⟨m, fun _ => 0, g⟩ (fun r => (∀ c : Dev Cert.KernelMmTnIdeal.nD,
      r.2.mem ((c.tc : Thread Cert.KernelMmTnIdeal.nD Cert.KernelMmTnIdeal.τ).loc Cert.KernelMmTnIdeal.main_arg0) = m ((c.tc : Thread Cert.KernelMmTnIdeal.nD Cert.KernelMmTnIdeal.τ).loc Cert.KernelMmTnIdeal.main_arg0)
      ∧ r.2.mem ((c.tc : Thread Cert.KernelMmTnIdeal.nD Cert.KernelMmTnIdeal.τ).loc Cert.KernelMmTnIdeal.main_arg1) = m ((c.tc : Thread Cert.KernelMmTnIdeal.nD Cert.KernelMmTnIdeal.τ).loc Cert.KernelMmTnIdeal.main_arg1))
      ∧ r.2.sem = fun _ => 0)

def quiescent_ReferenceMmTnIdeal [hReferenceMmTnIdeal : Cert.ReferenceMmTnIdeal.Facts] : Prop :=
  ∀ (m : (ℓ : Loc Cert.ReferenceMmTnIdeal.nD Cert.ReferenceMmTnIdeal.τ Cert.ReferenceMmTnIdeal.sig) → Buf (Elt Ideal) ℓ) (g : Dev Cert.ReferenceMmTnIdeal.nD → PrngReg), Pre_ReferenceMmTnIdeal m →
    θ_run (Cert.ReferenceMmTnIdeal.defs (F := Ideal)) (onTc (τ := Cert.ReferenceMmTnIdeal.τ) (Cert.ReferenceMmTnIdeal.main (F := Ideal))) ⟨m, fun _ => 0, g⟩ (fun r => (∀ c : Dev Cert.ReferenceMmTnIdeal.nD,
      r.2.mem ((c.tc : Thread Cert.ReferenceMmTnIdeal.nD Cert.ReferenceMmTnIdeal.τ).loc Cert.ReferenceMmTnIdeal.main_arg0) = m ((c.tc : Thread Cert.ReferenceMmTnIdeal.nD Cert.ReferenceMmTnIdeal.τ).loc Cert.ReferenceMmTnIdeal.main_arg0)
      ∧ r.2.mem ((c.tc : Thread Cert.ReferenceMmTnIdeal.nD Cert.ReferenceMmTnIdeal.τ).loc Cert.ReferenceMmTnIdeal.main_arg1) = m ((c.tc : Thread Cert.ReferenceMmTnIdeal.nD Cert.ReferenceMmTnIdeal.τ).loc Cert.ReferenceMmTnIdeal.main_arg1))
      ∧ r.2.sem = fun _ => 0)

def quiescent_KernelAdamw [hKernelAdamw : Cert.KernelAdamw.Facts] : Prop :=
  ∀ (m : (ℓ : Loc Cert.KernelAdamw.nD Cert.KernelAdamw.τ Cert.KernelAdamw.sig) → Buf (Elt Bits) ℓ) (g : Dev Cert.KernelAdamw.nD → PrngReg), Pre_KernelAdamw m →
    θ_run (Cert.KernelAdamw.defs (F := Bits)) (onTc (τ := Cert.KernelAdamw.τ) (Cert.KernelAdamw.main (F := Bits))) ⟨m, fun _ => 0, g⟩ (fun r => (∀ c : Dev Cert.KernelAdamw.nD,
      r.2.mem ((c.tc : Thread Cert.KernelAdamw.nD Cert.KernelAdamw.τ).loc Cert.KernelAdamw.main_arg0) = m ((c.tc : Thread Cert.KernelAdamw.nD Cert.KernelAdamw.τ).loc Cert.KernelAdamw.main_arg0)
      ∧ r.2.mem ((c.tc : Thread Cert.KernelAdamw.nD Cert.KernelAdamw.τ).loc Cert.KernelAdamw.main_arg1) = m ((c.tc : Thread Cert.KernelAdamw.nD Cert.KernelAdamw.τ).loc Cert.KernelAdamw.main_arg1)
      ∧ r.2.mem ((c.tc : Thread Cert.KernelAdamw.nD Cert.KernelAdamw.τ).loc Cert.KernelAdamw.main_arg2) = m ((c.tc : Thread Cert.KernelAdamw.nD Cert.KernelAdamw.τ).loc Cert.KernelAdamw.main_arg2)
      ∧ r.2.mem ((c.tc : Thread Cert.KernelAdamw.nD Cert.KernelAdamw.τ).loc Cert.KernelAdamw.main_arg3) = m ((c.tc : Thread Cert.KernelAdamw.nD Cert.KernelAdamw.τ).loc Cert.KernelAdamw.main_arg3))
      ∧ r.2.sem = fun _ => 0)

def quiescent_KernelAdamwIdeal [hKernelAdamwIdeal : Cert.KernelAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg), Pre_KernelAdamwIdeal m →
    θ_run (Cert.KernelAdamwIdeal.defs (F := Ideal)) (onTc (τ := Cert.KernelAdamwIdeal.τ) (Cert.KernelAdamwIdeal.main (F := Ideal))) ⟨m, fun _ => 0, g⟩ (fun r => (∀ c : Dev Cert.KernelAdamwIdeal.nD,
      r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
      ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
      ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
      ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ r.2.sem = fun _ => 0)

def quiescent_ReferenceAdamwIdeal [hReferenceAdamwIdeal : Cert.ReferenceAdamwIdeal.Facts] : Prop :=
  ∀ (m : (ℓ : Loc Cert.ReferenceAdamwIdeal.nD Cert.ReferenceAdamwIdeal.τ Cert.ReferenceAdamwIdeal.sig) → Buf (Elt Ideal) ℓ) (g : Dev Cert.ReferenceAdamwIdeal.nD → PrngReg), Pre_ReferenceAdamwIdeal m →
    θ_run (Cert.ReferenceAdamwIdeal.defs (F := Ideal)) (onTc (τ := Cert.ReferenceAdamwIdeal.τ) (Cert.ReferenceAdamwIdeal.main (F := Ideal))) ⟨m, fun _ => 0, g⟩ (fun r => (∀ c : Dev Cert.ReferenceAdamwIdeal.nD,
      r.2.mem ((c.tc : Thread Cert.ReferenceAdamwIdeal.nD Cert.ReferenceAdamwIdeal.τ).loc Cert.ReferenceAdamwIdeal.main_arg0) = m ((c.tc : Thread Cert.ReferenceAdamwIdeal.nD Cert.ReferenceAdamwIdeal.τ).loc Cert.ReferenceAdamwIdeal.main_arg0)
      ∧ r.2.mem ((c.tc : Thread Cert.ReferenceAdamwIdeal.nD Cert.ReferenceAdamwIdeal.τ).loc Cert.ReferenceAdamwIdeal.main_arg1) = m ((c.tc : Thread Cert.ReferenceAdamwIdeal.nD Cert.ReferenceAdamwIdeal.τ).loc Cert.ReferenceAdamwIdeal.main_arg1)
      ∧ r.2.mem ((c.tc : Thread Cert.ReferenceAdamwIdeal.nD Cert.ReferenceAdamwIdeal.τ).loc Cert.ReferenceAdamwIdeal.main_arg2) = m ((c.tc : Thread Cert.ReferenceAdamwIdeal.nD Cert.ReferenceAdamwIdeal.τ).loc Cert.ReferenceAdamwIdeal.main_arg2)
      ∧ r.2.mem ((c.tc : Thread Cert.ReferenceAdamwIdeal.nD Cert.ReferenceAdamwIdeal.τ).loc Cert.ReferenceAdamwIdeal.main_arg3) = m ((c.tc : Thread Cert.ReferenceAdamwIdeal.nD Cert.ReferenceAdamwIdeal.τ).loc Cert.ReferenceAdamwIdeal.main_arg3))
      ∧ r.2.sem = fun _ => 0)

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)) →
    ∃ (v0 : (c : Dev Cert.KernelLossIdeal.nD) → Buf (Elt Ideal) ((c.tc : Thread Cert.KernelLossIdeal.nD Cert.KernelLossIdeal.τ).loc Cert.KernelLossIdeal.main_v4_0)) (v1 : (c : Dev Cert.KernelLossIdeal.nD) → Buf (Elt Ideal) ((c.tc : Thread Cert.KernelLossIdeal.nD Cert.KernelLossIdeal.τ).loc Cert.KernelLossIdeal.main_v4_1)) (v2 : (c : Dev Cert.KernelLossIdeal.nD) → Buf (Elt Ideal) ((c.tc : Thread Cert.KernelLossIdeal.nD Cert.KernelLossIdeal.τ).loc Cert.KernelLossIdeal.main_v4_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v4_0) = v0 c
          ∧ r.2.mem ((c.tc : Thread Cert.KernelLossIdeal.nD Cert.KernelLossIdeal.τ).loc Cert.KernelLossIdeal.main_v4_1) = v1 c
          ∧ r.2.mem ((c.tc : Thread Cert.KernelLossIdeal.nD Cert.KernelLossIdeal.τ).loc Cert.KernelLossIdeal.main_v4_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v17) = v0 c
          ∧ r.2.mem ((c.tc : Thread Cert.ReferenceLossIdeal.nD Cert.ReferenceLossIdeal.τ).loc Cert.ReferenceLossIdeal.main_v18) = v1 c
          ∧ r.2.mem ((c.tc : Thread Cert.ReferenceLossIdeal.nD Cert.ReferenceLossIdeal.τ).loc Cert.ReferenceLossIdeal.main_v19) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1))

def preserves_KernelAttnQ_KernelAttnQIdeal : Prop :=
  IdealRules.named_const.Statement Cert.KernelAttnQIdeal.κ "mask" .f32 0xF149F2CA#32 ⊥

def algebraic_KernelAttnQIdeal_ReferenceAttnQIdeal_pre_attention_finite [hKernelAttnQIdeal : Cert.KernelAttnQIdeal.Facts] [hReferenceAttnQIdeal : Cert.ReferenceAttnQIdeal.Facts] [hPre_attention_finite : Cert.Pre_attention_finite.Facts] : Prop :=
  ∀ (m : (ℓ : Loc Cert.KernelAttnQIdeal.nD Cert.KernelAttnQIdeal.τ Cert.KernelAttnQIdeal.sig) → Buf (Elt Ideal) ℓ) (g : Dev Cert.KernelAttnQIdeal.nD → PrngReg)
    (m' : (ℓ : Loc Cert.ReferenceAttnQIdeal.nD Cert.ReferenceAttnQIdeal.τ Cert.ReferenceAttnQIdeal.sig) → Buf (Elt Ideal) ℓ) (g' : Dev Cert.ReferenceAttnQIdeal.nD → PrngReg), Pre_KernelAttnQIdeal_attention_finite m →
    (∀ c : Dev Cert.KernelAttnQIdeal.nD,
      m' ((c.tc : Thread Cert.ReferenceAttnQIdeal.nD Cert.ReferenceAttnQIdeal.τ).loc Cert.ReferenceAttnQIdeal.main_arg0) = m ((c.tc : Thread Cert.KernelAttnQIdeal.nD Cert.KernelAttnQIdeal.τ).loc Cert.KernelAttnQIdeal.main_arg0)
      ∧ m' ((c.tc : Thread Cert.ReferenceAttnQIdeal.nD Cert.ReferenceAttnQIdeal.τ).loc Cert.ReferenceAttnQIdeal.main_arg1) = m ((c.tc : Thread Cert.KernelAttnQIdeal.nD Cert.KernelAttnQIdeal.τ).loc Cert.KernelAttnQIdeal.main_arg1)
      ∧ m' ((c.tc : Thread Cert.ReferenceAttnQIdeal.nD Cert.ReferenceAttnQIdeal.τ).loc Cert.ReferenceAttnQIdeal.main_arg2) = m ((c.tc : Thread Cert.KernelAttnQIdeal.nD Cert.KernelAttnQIdeal.τ).loc Cert.KernelAttnQIdeal.main_arg2)
      ∧ m' ((c.tc : Thread Cert.ReferenceAttnQIdeal.nD Cert.ReferenceAttnQIdeal.τ).loc Cert.ReferenceAttnQIdeal.main_arg3) = m ((c.tc : Thread Cert.KernelAttnQIdeal.nD Cert.KernelAttnQIdeal.τ).loc Cert.KernelAttnQIdeal.main_arg3)
      ∧ m' ((c.tc : Thread Cert.ReferenceAttnQIdeal.nD Cert.ReferenceAttnQIdeal.τ).loc Cert.ReferenceAttnQIdeal.main_arg4) = m ((c.tc : Thread Cert.KernelAttnQIdeal.nD Cert.KernelAttnQIdeal.τ).loc Cert.KernelAttnQIdeal.main_arg4)) →
    ∃ (v0 : (c : Dev Cert.KernelAttnQIdeal.nD) → Buf (Elt Ideal) ((c.tc : Thread Cert.KernelAttnQIdeal.nD Cert.KernelAttnQIdeal.τ).loc Cert.KernelAttnQIdeal.main_v42_0)) (v1 : (c : Dev Cert.KernelAttnQIdeal.nD) → Buf (Elt Ideal) ((c.tc : Thread Cert.KernelAttnQIdeal.nD Cert.KernelAttnQIdeal.τ).loc Cert.KernelAttnQIdeal.main_v42_1)) (v2 : (c : Dev Cert.KernelAttnQIdeal.nD) → Buf (Elt Ideal) ((c.tc : Thread Cert.KernelAttnQIdeal.nD Cert.KernelAttnQIdeal.τ).loc Cert.KernelAttnQIdeal.main_v42_2)),
      θ_run (Cert.KernelAttnQIdeal.defs (F := Ideal)) (onTc (τ := Cert.KernelAttnQIdeal.τ) (Cert.KernelAttnQIdeal.main (F := Ideal))) ⟨m, fun _ => 0, g⟩ (fun r => ∀ c : Dev Cert.KernelAttnQIdeal.nD,
          r.2.mem ((c.tc : Thread Cert.KernelAttnQIdeal.nD Cert.KernelAttnQIdeal.τ).loc Cert.KernelAttnQIdeal.main_v42_0) = v0 c
          ∧ r.2.mem ((c.tc : Thread Cert.KernelAttnQIdeal.nD Cert.KernelAttnQIdeal.τ).loc Cert.KernelAttnQIdeal.main_v42_1) = v1 c
          ∧ r.2.mem ((c.tc : Thread Cert.KernelAttnQIdeal.nD Cert.KernelAttnQIdeal.τ).loc Cert.KernelAttnQIdeal.main_v42_2) = v2 c
          ∧ r.2.mem ((c.tc : Thread Cert.KernelAttnQIdeal.nD Cert.KernelAttnQIdeal.τ).loc Cert.KernelAttnQIdeal.main_arg0) = m ((c.tc : Thread Cert.KernelAttnQIdeal.nD Cert.KernelAttnQIdeal.τ).loc Cert.KernelAttnQIdeal.main_arg0)
          ∧ r.2.mem ((c.tc : Thread Cert.KernelAttnQIdeal.nD Cert.KernelAttnQIdeal.τ).loc Cert.KernelAttnQIdeal.main_arg1) = m ((c.tc : Thread Cert.KernelAttnQIdeal.nD Cert.KernelAttnQIdeal.τ).loc Cert.KernelAttnQIdeal.main_arg1)
          ∧ r.2.mem ((c.tc : Thread Cert.KernelAttnQIdeal.nD Cert.KernelAttnQIdeal.τ).loc Cert.KernelAttnQIdeal.main_arg2) = m ((c.tc : Thread Cert.KernelAttnQIdeal.nD Cert.KernelAttnQIdeal.τ).loc Cert.KernelAttnQIdeal.main_arg2)
          ∧ r.2.mem ((c.tc : Thread Cert.KernelAttnQIdeal.nD Cert.KernelAttnQIdeal.τ).loc Cert.KernelAttnQIdeal.main_arg3) = m ((c.tc : Thread Cert.KernelAttnQIdeal.nD Cert.KernelAttnQIdeal.τ).loc Cert.KernelAttnQIdeal.main_arg3)
          ∧ r.2.mem ((c.tc : Thread Cert.KernelAttnQIdeal.nD Cert.KernelAttnQIdeal.τ).loc Cert.KernelAttnQIdeal.main_arg4) = m ((c.tc : Thread Cert.KernelAttnQIdeal.nD Cert.KernelAttnQIdeal.τ).loc Cert.KernelAttnQIdeal.main_arg4))
      ∧ θ_run (Cert.ReferenceAttnQIdeal.defs (F := Ideal)) (onTc (τ := Cert.ReferenceAttnQIdeal.τ) (Cert.ReferenceAttnQIdeal.main (F := Ideal))) ⟨m', fun _ => 0, g'⟩ (fun r => ∀ c : Dev Cert.ReferenceAttnQIdeal.nD,
          r.2.mem ((c.tc : Thread Cert.ReferenceAttnQIdeal.nD Cert.ReferenceAttnQIdeal.τ).loc Cert.ReferenceAttnQIdeal.main_v101) = v0 c
          ∧ r.2.mem ((c.tc : Thread Cert.ReferenceAttnQIdeal.nD Cert.ReferenceAttnQIdeal.τ).loc Cert.ReferenceAttnQIdeal.main_v103) = v1 c
          ∧ r.2.mem ((c.tc : Thread Cert.ReferenceAttnQIdeal.nD Cert.ReferenceAttnQIdeal.τ).loc Cert.ReferenceAttnQIdeal.main_v105) = v2 c
          ∧ r.2.mem ((c.tc : Thread Cert.ReferenceAttnQIdeal.nD Cert.ReferenceAttnQIdeal.τ).loc Cert.ReferenceAttnQIdeal.main_arg0) = m' ((c.tc : Thread Cert.ReferenceAttnQIdeal.nD Cert.ReferenceAttnQIdeal.τ).loc Cert.ReferenceAttnQIdeal.main_arg0)
          ∧ r.2.mem ((c.tc : Thread Cert.ReferenceAttnQIdeal.nD Cert.ReferenceAttnQIdeal.τ).loc Cert.ReferenceAttnQIdeal.main_arg1) = m' ((c.tc : Thread Cert.ReferenceAttnQIdeal.nD Cert.ReferenceAttnQIdeal.τ).loc Cert.ReferenceAttnQIdeal.main_arg1)
          ∧ r.2.mem ((c.tc : Thread Cert.ReferenceAttnQIdeal.nD Cert.ReferenceAttnQIdeal.τ).loc Cert.ReferenceAttnQIdeal.main_arg2) = m' ((c.tc : Thread Cert.ReferenceAttnQIdeal.nD Cert.ReferenceAttnQIdeal.τ).loc Cert.ReferenceAttnQIdeal.main_arg2)
          ∧ r.2.mem ((c.tc : Thread Cert.ReferenceAttnQIdeal.nD Cert.ReferenceAttnQIdeal.τ).loc Cert.ReferenceAttnQIdeal.main_arg3) = m' ((c.tc : Thread Cert.ReferenceAttnQIdeal.nD Cert.ReferenceAttnQIdeal.τ).loc Cert.ReferenceAttnQIdeal.main_arg3)
          ∧ r.2.mem ((c.tc : Thread Cert.ReferenceAttnQIdeal.nD Cert.ReferenceAttnQIdeal.τ).loc Cert.ReferenceAttnQIdeal.main_arg4) = m' ((c.tc : Thread Cert.ReferenceAttnQIdeal.nD Cert.ReferenceAttnQIdeal.τ).loc Cert.ReferenceAttnQIdeal.main_arg4))

def preserves_KernelAttnKv_KernelAttnKvIdeal : Prop :=
  IdealRules.named_const.Statement Cert.KernelAttnKvIdeal.κ "mask" .f32 0xF149F2CA#32 ⊥

def algebraic_KernelAttnKvIdeal_ReferenceAttnKvIdeal_pre_attention_finite [hKernelAttnKvIdeal : Cert.KernelAttnKvIdeal.Facts] [hReferenceAttnKvIdeal : Cert.ReferenceAttnKvIdeal.Facts] [hPre_attention_finite : Cert.Pre_attention_finite.Facts] : Prop :=
  ∀ (m : (ℓ : Loc Cert.KernelAttnKvIdeal.nD Cert.KernelAttnKvIdeal.τ Cert.KernelAttnKvIdeal.sig) → Buf (Elt Ideal) ℓ) (g : Dev Cert.KernelAttnKvIdeal.nD → PrngReg)
    (m' : (ℓ : Loc Cert.ReferenceAttnKvIdeal.nD Cert.ReferenceAttnKvIdeal.τ Cert.ReferenceAttnKvIdeal.sig) → Buf (Elt Ideal) ℓ) (g' : Dev Cert.ReferenceAttnKvIdeal.nD → PrngReg), Pre_KernelAttnKvIdeal_attention_finite m →
    (∀ c : Dev Cert.KernelAttnKvIdeal.nD,
      m' ((c.tc : Thread Cert.ReferenceAttnKvIdeal.nD Cert.ReferenceAttnKvIdeal.τ).loc Cert.ReferenceAttnKvIdeal.main_arg0) = m ((c.tc : Thread Cert.KernelAttnKvIdeal.nD Cert.KernelAttnKvIdeal.τ).loc Cert.KernelAttnKvIdeal.main_arg0)
      ∧ m' ((c.tc : Thread Cert.ReferenceAttnKvIdeal.nD Cert.ReferenceAttnKvIdeal.τ).loc Cert.ReferenceAttnKvIdeal.main_arg1) = m ((c.tc : Thread Cert.KernelAttnKvIdeal.nD Cert.KernelAttnKvIdeal.τ).loc Cert.KernelAttnKvIdeal.main_arg1)
      ∧ m' ((c.tc : Thread Cert.ReferenceAttnKvIdeal.nD Cert.ReferenceAttnKvIdeal.τ).loc Cert.ReferenceAttnKvIdeal.main_arg2) = m ((c.tc : Thread Cert.KernelAttnKvIdeal.nD Cert.KernelAttnKvIdeal.τ).loc Cert.KernelAttnKvIdeal.main_arg2)
      ∧ m' ((c.tc : Thread Cert.ReferenceAttnKvIdeal.nD Cert.ReferenceAttnKvIdeal.τ).loc Cert.ReferenceAttnKvIdeal.main_arg3) = m ((c.tc : Thread Cert.KernelAttnKvIdeal.nD Cert.KernelAttnKvIdeal.τ).loc Cert.KernelAttnKvIdeal.main_arg3)
      ∧ m' ((c.tc : Thread Cert.ReferenceAttnKvIdeal.nD Cert.ReferenceAttnKvIdeal.τ).loc Cert.ReferenceAttnKvIdeal.main_arg4) = m ((c.tc : Thread Cert.KernelAttnKvIdeal.nD Cert.KernelAttnKvIdeal.τ).loc Cert.KernelAttnKvIdeal.main_arg4)) →
    ∃ (v0 : (c : Dev Cert.KernelAttnKvIdeal.nD) → Buf (Elt Ideal) ((c.tc : Thread Cert.KernelAttnKvIdeal.nD Cert.KernelAttnKvIdeal.τ).loc Cert.KernelAttnKvIdeal.main_v64_0)) (v1 : (c : Dev Cert.KernelAttnKvIdeal.nD) → Buf (Elt Ideal) ((c.tc : Thread Cert.KernelAttnKvIdeal.nD Cert.KernelAttnKvIdeal.τ).loc Cert.KernelAttnKvIdeal.main_v64_1)) (v2 : (c : Dev Cert.KernelAttnKvIdeal.nD) → Buf (Elt Ideal) ((c.tc : Thread Cert.KernelAttnKvIdeal.nD Cert.KernelAttnKvIdeal.τ).loc Cert.KernelAttnKvIdeal.main_v64_2)),
      θ_run (Cert.KernelAttnKvIdeal.defs (F := Ideal)) (onTc (τ := Cert.KernelAttnKvIdeal.τ) (Cert.KernelAttnKvIdeal.main (F := Ideal))) ⟨m, fun _ => 0, g⟩ (fun r => ∀ c : Dev Cert.KernelAttnKvIdeal.nD,
          r.2.mem ((c.tc : Thread Cert.KernelAttnKvIdeal.nD Cert.KernelAttnKvIdeal.τ).loc Cert.KernelAttnKvIdeal.main_v64_0) = v0 c
          ∧ r.2.mem ((c.tc : Thread Cert.KernelAttnKvIdeal.nD Cert.KernelAttnKvIdeal.τ).loc Cert.KernelAttnKvIdeal.main_v64_1) = v1 c
          ∧ r.2.mem ((c.tc : Thread Cert.KernelAttnKvIdeal.nD Cert.KernelAttnKvIdeal.τ).loc Cert.KernelAttnKvIdeal.main_v64_2) = v2 c
          ∧ r.2.mem ((c.tc : Thread Cert.KernelAttnKvIdeal.nD Cert.KernelAttnKvIdeal.τ).loc Cert.KernelAttnKvIdeal.main_arg0) = m ((c.tc : Thread Cert.KernelAttnKvIdeal.nD Cert.KernelAttnKvIdeal.τ).loc Cert.KernelAttnKvIdeal.main_arg0)
          ∧ r.2.mem ((c.tc : Thread Cert.KernelAttnKvIdeal.nD Cert.KernelAttnKvIdeal.τ).loc Cert.KernelAttnKvIdeal.main_arg1) = m ((c.tc : Thread Cert.KernelAttnKvIdeal.nD Cert.KernelAttnKvIdeal.τ).loc Cert.KernelAttnKvIdeal.main_arg1)
          ∧ r.2.mem ((c.tc : Thread Cert.KernelAttnKvIdeal.nD Cert.KernelAttnKvIdeal.τ).loc Cert.KernelAttnKvIdeal.main_arg2) = m ((c.tc : Thread Cert.KernelAttnKvIdeal.nD Cert.KernelAttnKvIdeal.τ).loc Cert.KernelAttnKvIdeal.main_arg2)
          ∧ r.2.mem ((c.tc : Thread Cert.KernelAttnKvIdeal.nD Cert.KernelAttnKvIdeal.τ).loc Cert.KernelAttnKvIdeal.main_arg3) = m ((c.tc : Thread Cert.KernelAttnKvIdeal.nD Cert.KernelAttnKvIdeal.τ).loc Cert.KernelAttnKvIdeal.main_arg3)
          ∧ r.2.mem ((c.tc : Thread Cert.KernelAttnKvIdeal.nD Cert.KernelAttnKvIdeal.τ).loc Cert.KernelAttnKvIdeal.main_arg4) = m ((c.tc : Thread Cert.KernelAttnKvIdeal.nD Cert.KernelAttnKvIdeal.τ).loc Cert.KernelAttnKvIdeal.main_arg4))
      ∧ θ_run (Cert.ReferenceAttnKvIdeal.defs (F := Ideal)) (onTc (τ := Cert.ReferenceAttnKvIdeal.τ) (Cert.ReferenceAttnKvIdeal.main (F := Ideal))) ⟨m', fun _ => 0, g'⟩ (fun r => ∀ c : Dev Cert.ReferenceAttnKvIdeal.nD,
          r.2.mem ((c.tc : Thread Cert.ReferenceAttnKvIdeal.nD Cert.ReferenceAttnKvIdeal.τ).loc Cert.ReferenceAttnKvIdeal.main_v72) = v0 c
          ∧ r.2.mem ((c.tc : Thread Cert.ReferenceAttnKvIdeal.nD Cert.ReferenceAttnKvIdeal.τ).loc Cert.ReferenceAttnKvIdeal.main_v75) = v1 c
          ∧ r.2.mem ((c.tc : Thread Cert.ReferenceAttnKvIdeal.nD Cert.ReferenceAttnKvIdeal.τ).loc Cert.ReferenceAttnKvIdeal.main_v77) = v2 c
          ∧ r.2.mem ((c.tc : Thread Cert.ReferenceAttnKvIdeal.nD Cert.ReferenceAttnKvIdeal.τ).loc Cert.ReferenceAttnKvIdeal.main_arg0) = m' ((c.tc : Thread Cert.ReferenceAttnKvIdeal.nD Cert.ReferenceAttnKvIdeal.τ).loc Cert.ReferenceAttnKvIdeal.main_arg0)
          ∧ r.2.mem ((c.tc : Thread Cert.ReferenceAttnKvIdeal.nD Cert.ReferenceAttnKvIdeal.τ).loc Cert.ReferenceAttnKvIdeal.main_arg1) = m' ((c.tc : Thread Cert.ReferenceAttnKvIdeal.nD Cert.ReferenceAttnKvIdeal.τ).loc Cert.ReferenceAttnKvIdeal.main_arg1)
          ∧ r.2.mem ((c.tc : Thread Cert.ReferenceAttnKvIdeal.nD Cert.ReferenceAttnKvIdeal.τ).loc Cert.ReferenceAttnKvIdeal.main_arg2) = m' ((c.tc : Thread Cert.ReferenceAttnKvIdeal.nD Cert.ReferenceAttnKvIdeal.τ).loc Cert.ReferenceAttnKvIdeal.main_arg2)
          ∧ r.2.mem ((c.tc : Thread Cert.ReferenceAttnKvIdeal.nD Cert.ReferenceAttnKvIdeal.τ).loc Cert.ReferenceAttnKvIdeal.main_arg3) = m' ((c.tc : Thread Cert.ReferenceAttnKvIdeal.nD Cert.ReferenceAttnKvIdeal.τ).loc Cert.ReferenceAttnKvIdeal.main_arg3)
          ∧ r.2.mem ((c.tc : Thread Cert.ReferenceAttnKvIdeal.nD Cert.ReferenceAttnKvIdeal.τ).loc Cert.ReferenceAttnKvIdeal.main_arg4) = m' ((c.tc : Thread Cert.ReferenceAttnKvIdeal.nD Cert.ReferenceAttnKvIdeal.τ).loc Cert.ReferenceAttnKvIdeal.main_arg4))

def preserves_KernelRms_KernelRmsIdeal : Prop :=
  True

def algebraic_KernelRmsIdeal_ReferenceRmsIdeal_pre_rms_finite [hKernelRmsIdeal : Cert.KernelRmsIdeal.Facts] [hReferenceRmsIdeal : Cert.ReferenceRmsIdeal.Facts] [hPre_rms_finite : Cert.Pre_rms_finite.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg)
    (m' : (ℓ : Loc Cert.ReferenceRmsIdeal.nD Cert.ReferenceRmsIdeal.τ Cert.ReferenceRmsIdeal.sig) → Buf (Elt Ideal) ℓ) (g' : Dev Cert.ReferenceRmsIdeal.nD → PrngReg), Pre_KernelRmsIdeal_rms_finite m →
    (∀ c : Dev Cert.KernelRmsIdeal.nD,
      m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0)
      ∧ m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1)
      ∧ m' ((c.tc : Thread Cert.ReferenceRmsIdeal.nD Cert.ReferenceRmsIdeal.τ).loc Cert.ReferenceRmsIdeal.main_arg2) = m ((c.tc : Thread Cert.KernelRmsIdeal.nD Cert.KernelRmsIdeal.τ).loc Cert.KernelRmsIdeal.main_arg2)
      ∧ m' ((c.tc : Thread Cert.ReferenceRmsIdeal.nD Cert.ReferenceRmsIdeal.τ).loc Cert.ReferenceRmsIdeal.main_arg3) = m ((c.tc : Thread Cert.KernelRmsIdeal.nD Cert.KernelRmsIdeal.τ).loc Cert.KernelRmsIdeal.main_arg3)) →
    ∃ (v0 : (c : Dev Cert.KernelRmsIdeal.nD) → Buf (Elt Ideal) ((c.tc : Thread Cert.KernelRmsIdeal.nD Cert.KernelRmsIdeal.τ).loc Cert.KernelRmsIdeal.main_v14_0)) (v1 : (c : Dev Cert.KernelRmsIdeal.nD) → Buf (Elt Ideal) ((c.tc : Thread Cert.KernelRmsIdeal.nD Cert.KernelRmsIdeal.τ).loc Cert.KernelRmsIdeal.main_v14_1)) (v2 : (c : Dev Cert.KernelRmsIdeal.nD) → Buf (Elt Ideal) ((c.tc : Thread Cert.KernelRmsIdeal.nD Cert.KernelRmsIdeal.τ).loc Cert.KernelRmsIdeal.main_v14_2)),
      θ_run (Cert.KernelRmsIdeal.defs (F := Ideal)) (onTc (τ := Cert.KernelRmsIdeal.τ) (Cert.KernelRmsIdeal.main (F := Ideal))) ⟨m, fun _ => 0, g⟩ (fun r => ∀ c : Dev Cert.KernelRmsIdeal.nD,
          r.2.mem ((c.tc : Thread Cert.KernelRmsIdeal.nD Cert.KernelRmsIdeal.τ).loc Cert.KernelRmsIdeal.main_v14_0) = v0 c
          ∧ r.2.mem ((c.tc : Thread Cert.KernelRmsIdeal.nD Cert.KernelRmsIdeal.τ).loc Cert.KernelRmsIdeal.main_v14_1) = v1 c
          ∧ r.2.mem ((c.tc : Thread Cert.KernelRmsIdeal.nD Cert.KernelRmsIdeal.τ).loc Cert.KernelRmsIdeal.main_v14_2) = v2 c
          ∧ r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
          ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
          ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2)
          ∧ r.2.mem ((c.tc : Thread Cert.KernelRmsIdeal.nD Cert.KernelRmsIdeal.τ).loc Cert.KernelRmsIdeal.main_arg3) = m ((c.tc : Thread Cert.KernelRmsIdeal.nD Cert.KernelRmsIdeal.τ).loc Cert.KernelRmsIdeal.main_arg3))
      ∧ θ_run (Cert.ReferenceRmsIdeal.defs (F := Ideal)) (onTc (τ := Cert.ReferenceRmsIdeal.τ) (Cert.ReferenceRmsIdeal.main (F := Ideal))) ⟨m', fun _ => 0, g'⟩ (fun r => ∀ c : Dev Cert.ReferenceRmsIdeal.nD,
          r.2.mem ((c.tc : Thread Cert.ReferenceRmsIdeal.nD Cert.ReferenceRmsIdeal.τ).loc Cert.ReferenceRmsIdeal.main_v39) = v0 c
          ∧ r.2.mem ((c.tc : Thread Cert.ReferenceRmsIdeal.nD Cert.ReferenceRmsIdeal.τ).loc Cert.ReferenceRmsIdeal.main_v40) = v1 c
          ∧ r.2.mem ((c.tc : Thread Cert.ReferenceRmsIdeal.nD Cert.ReferenceRmsIdeal.τ).loc Cert.ReferenceRmsIdeal.main_v38) = v2 c
          ∧ r.2.mem ((c.tc : Thread Cert.ReferenceRmsIdeal.nD Cert.ReferenceRmsIdeal.τ).loc Cert.ReferenceRmsIdeal.main_arg0) = m' ((c.tc : Thread Cert.ReferenceRmsIdeal.nD Cert.ReferenceRmsIdeal.τ).loc Cert.ReferenceRmsIdeal.main_arg0)
          ∧ r.2.mem ((c.tc : Thread Cert.ReferenceRmsIdeal.nD Cert.ReferenceRmsIdeal.τ).loc Cert.ReferenceRmsIdeal.main_arg1) = m' ((c.tc : Thread Cert.ReferenceRmsIdeal.nD Cert.ReferenceRmsIdeal.τ).loc Cert.ReferenceRmsIdeal.main_arg1)
          ∧ r.2.mem ((c.tc : Thread Cert.ReferenceRmsIdeal.nD Cert.ReferenceRmsIdeal.τ).loc Cert.ReferenceRmsIdeal.main_arg2) = m' ((c.tc : Thread Cert.ReferenceRmsIdeal.nD Cert.ReferenceRmsIdeal.τ).loc Cert.ReferenceRmsIdeal.main_arg2)
          ∧ r.2.mem ((c.tc : Thread Cert.ReferenceRmsIdeal.nD Cert.ReferenceRmsIdeal.τ).loc Cert.ReferenceRmsIdeal.main_arg3) = m' ((c.tc : Thread Cert.ReferenceRmsIdeal.nD Cert.ReferenceRmsIdeal.τ).loc Cert.ReferenceRmsIdeal.main_arg3))

def preserves_KernelQkNorm_KernelQkNormIdeal : Prop :=
  True

def algebraic_KernelQkNormIdeal_ReferenceQkNormIdeal_pre_qk_norm_finite [hKernelQkNormIdeal : Cert.KernelQkNormIdeal.Facts] [hReferenceQkNormIdeal : Cert.ReferenceQkNormIdeal.Facts] [hPre_qk_norm_finite : Cert.Pre_qk_norm_finite.Facts] : Prop :=
  ∀ (m : (ℓ : Loc Cert.KernelQkNormIdeal.nD Cert.KernelQkNormIdeal.τ Cert.KernelQkNormIdeal.sig) → Buf (Elt Ideal) ℓ) (g : Dev Cert.KernelQkNormIdeal.nD → PrngReg)
    (m' : (ℓ : Loc Cert.ReferenceQkNormIdeal.nD Cert.ReferenceQkNormIdeal.τ Cert.ReferenceQkNormIdeal.sig) → Buf (Elt Ideal) ℓ) (g' : Dev Cert.ReferenceQkNormIdeal.nD → PrngReg), Pre_KernelQkNormIdeal_qk_norm_finite m →
    (∀ c : Dev Cert.KernelQkNormIdeal.nD,
      m' ((c.tc : Thread Cert.ReferenceQkNormIdeal.nD Cert.ReferenceQkNormIdeal.τ).loc Cert.ReferenceQkNormIdeal.main_arg0) = m ((c.tc : Thread Cert.KernelQkNormIdeal.nD Cert.KernelQkNormIdeal.τ).loc Cert.KernelQkNormIdeal.main_arg0)
      ∧ m' ((c.tc : Thread Cert.ReferenceQkNormIdeal.nD Cert.ReferenceQkNormIdeal.τ).loc Cert.ReferenceQkNormIdeal.main_arg1) = m ((c.tc : Thread Cert.KernelQkNormIdeal.nD Cert.KernelQkNormIdeal.τ).loc Cert.KernelQkNormIdeal.main_arg1)
      ∧ m' ((c.tc : Thread Cert.ReferenceQkNormIdeal.nD Cert.ReferenceQkNormIdeal.τ).loc Cert.ReferenceQkNormIdeal.main_arg2) = m ((c.tc : Thread Cert.KernelQkNormIdeal.nD Cert.KernelQkNormIdeal.τ).loc Cert.KernelQkNormIdeal.main_arg2)
      ∧ m' ((c.tc : Thread Cert.ReferenceQkNormIdeal.nD Cert.ReferenceQkNormIdeal.τ).loc Cert.ReferenceQkNormIdeal.main_arg3) = m ((c.tc : Thread Cert.KernelQkNormIdeal.nD Cert.KernelQkNormIdeal.τ).loc Cert.KernelQkNormIdeal.main_arg3)
      ∧ m' ((c.tc : Thread Cert.ReferenceQkNormIdeal.nD Cert.ReferenceQkNormIdeal.τ).loc Cert.ReferenceQkNormIdeal.main_arg4) = m ((c.tc : Thread Cert.KernelQkNormIdeal.nD Cert.KernelQkNormIdeal.τ).loc Cert.KernelQkNormIdeal.main_arg4)) →
    ∃ (v0 : (c : Dev Cert.KernelQkNormIdeal.nD) → Buf (Elt Ideal) ((c.tc : Thread Cert.KernelQkNormIdeal.nD Cert.KernelQkNormIdeal.τ).loc Cert.KernelQkNormIdeal.main_v3_0)) (v1 : (c : Dev Cert.KernelQkNormIdeal.nD) → Buf (Elt Ideal) ((c.tc : Thread Cert.KernelQkNormIdeal.nD Cert.KernelQkNormIdeal.τ).loc Cert.KernelQkNormIdeal.main_v3_1)) (v2 : (c : Dev Cert.KernelQkNormIdeal.nD) → Buf (Elt Ideal) ((c.tc : Thread Cert.KernelQkNormIdeal.nD Cert.KernelQkNormIdeal.τ).loc Cert.KernelQkNormIdeal.main_v3_2)) (v3 : (c : Dev Cert.KernelQkNormIdeal.nD) → Buf (Elt Ideal) ((c.tc : Thread Cert.KernelQkNormIdeal.nD Cert.KernelQkNormIdeal.τ).loc Cert.KernelQkNormIdeal.main_v3_3)),
      θ_run (Cert.KernelQkNormIdeal.defs (F := Ideal)) (onTc (τ := Cert.KernelQkNormIdeal.τ) (Cert.KernelQkNormIdeal.main (F := Ideal))) ⟨m, fun _ => 0, g⟩ (fun r => ∀ c : Dev Cert.KernelQkNormIdeal.nD,
          r.2.mem ((c.tc : Thread Cert.KernelQkNormIdeal.nD Cert.KernelQkNormIdeal.τ).loc Cert.KernelQkNormIdeal.main_v3_0) = v0 c
          ∧ r.2.mem ((c.tc : Thread Cert.KernelQkNormIdeal.nD Cert.KernelQkNormIdeal.τ).loc Cert.KernelQkNormIdeal.main_v3_1) = v1 c
          ∧ r.2.mem ((c.tc : Thread Cert.KernelQkNormIdeal.nD Cert.KernelQkNormIdeal.τ).loc Cert.KernelQkNormIdeal.main_v3_2) = v2 c
          ∧ r.2.mem ((c.tc : Thread Cert.KernelQkNormIdeal.nD Cert.KernelQkNormIdeal.τ).loc Cert.KernelQkNormIdeal.main_v3_3) = v3 c
          ∧ r.2.mem ((c.tc : Thread Cert.KernelQkNormIdeal.nD Cert.KernelQkNormIdeal.τ).loc Cert.KernelQkNormIdeal.main_arg0) = m ((c.tc : Thread Cert.KernelQkNormIdeal.nD Cert.KernelQkNormIdeal.τ).loc Cert.KernelQkNormIdeal.main_arg0)
          ∧ r.2.mem ((c.tc : Thread Cert.KernelQkNormIdeal.nD Cert.KernelQkNormIdeal.τ).loc Cert.KernelQkNormIdeal.main_arg1) = m ((c.tc : Thread Cert.KernelQkNormIdeal.nD Cert.KernelQkNormIdeal.τ).loc Cert.KernelQkNormIdeal.main_arg1)
          ∧ r.2.mem ((c.tc : Thread Cert.KernelQkNormIdeal.nD Cert.KernelQkNormIdeal.τ).loc Cert.KernelQkNormIdeal.main_arg2) = m ((c.tc : Thread Cert.KernelQkNormIdeal.nD Cert.KernelQkNormIdeal.τ).loc Cert.KernelQkNormIdeal.main_arg2)
          ∧ r.2.mem ((c.tc : Thread Cert.KernelQkNormIdeal.nD Cert.KernelQkNormIdeal.τ).loc Cert.KernelQkNormIdeal.main_arg3) = m ((c.tc : Thread Cert.KernelQkNormIdeal.nD Cert.KernelQkNormIdeal.τ).loc Cert.KernelQkNormIdeal.main_arg3)
          ∧ r.2.mem ((c.tc : Thread Cert.KernelQkNormIdeal.nD Cert.KernelQkNormIdeal.τ).loc Cert.KernelQkNormIdeal.main_arg4) = m ((c.tc : Thread Cert.KernelQkNormIdeal.nD Cert.KernelQkNormIdeal.τ).loc Cert.KernelQkNormIdeal.main_arg4))
      ∧ θ_run (Cert.ReferenceQkNormIdeal.defs (F := Ideal)) (onTc (τ := Cert.ReferenceQkNormIdeal.τ) (Cert.ReferenceQkNormIdeal.main (F := Ideal))) ⟨m', fun _ => 0, g'⟩ (fun r => ∀ c : Dev Cert.ReferenceQkNormIdeal.nD,
          r.2.mem ((c.tc : Thread Cert.ReferenceQkNormIdeal.nD Cert.ReferenceQkNormIdeal.τ).loc Cert.ReferenceQkNormIdeal.main_v84) = v0 c
          ∧ r.2.mem ((c.tc : Thread Cert.ReferenceQkNormIdeal.nD Cert.ReferenceQkNormIdeal.τ).loc Cert.ReferenceQkNormIdeal.main_v87) = v1 c
          ∧ r.2.mem ((c.tc : Thread Cert.ReferenceQkNormIdeal.nD Cert.ReferenceQkNormIdeal.τ).loc Cert.ReferenceQkNormIdeal.main_v42) = v2 c
          ∧ r.2.mem ((c.tc : Thread Cert.ReferenceQkNormIdeal.nD Cert.ReferenceQkNormIdeal.τ).loc Cert.ReferenceQkNormIdeal.main_v81) = v3 c
          ∧ r.2.mem ((c.tc : Thread Cert.ReferenceQkNormIdeal.nD Cert.ReferenceQkNormIdeal.τ).loc Cert.ReferenceQkNormIdeal.main_arg0) = m' ((c.tc : Thread Cert.ReferenceQkNormIdeal.nD Cert.ReferenceQkNormIdeal.τ).loc Cert.ReferenceQkNormIdeal.main_arg0)
          ∧ r.2.mem ((c.tc : Thread Cert.ReferenceQkNormIdeal.nD Cert.ReferenceQkNormIdeal.τ).loc Cert.ReferenceQkNormIdeal.main_arg1) = m' ((c.tc : Thread Cert.ReferenceQkNormIdeal.nD Cert.ReferenceQkNormIdeal.τ).loc Cert.ReferenceQkNormIdeal.main_arg1)
          ∧ r.2.mem ((c.tc : Thread Cert.ReferenceQkNormIdeal.nD Cert.ReferenceQkNormIdeal.τ).loc Cert.ReferenceQkNormIdeal.main_arg2) = m' ((c.tc : Thread Cert.ReferenceQkNormIdeal.nD Cert.ReferenceQkNormIdeal.τ).loc Cert.ReferenceQkNormIdeal.main_arg2)
          ∧ r.2.mem ((c.tc : Thread Cert.ReferenceQkNormIdeal.nD Cert.ReferenceQkNormIdeal.τ).loc Cert.ReferenceQkNormIdeal.main_arg3) = m' ((c.tc : Thread Cert.ReferenceQkNormIdeal.nD Cert.ReferenceQkNormIdeal.τ).loc Cert.ReferenceQkNormIdeal.main_arg3)
          ∧ r.2.mem ((c.tc : Thread Cert.ReferenceQkNormIdeal.nD Cert.ReferenceQkNormIdeal.τ).loc Cert.ReferenceQkNormIdeal.main_arg4) = m' ((c.tc : Thread Cert.ReferenceQkNormIdeal.nD Cert.ReferenceQkNormIdeal.τ).loc Cert.ReferenceQkNormIdeal.main_arg4))

def preserves_KernelFfn_KernelFfnIdeal : Prop :=
  True

def algebraic_KernelFfnIdeal_ReferenceFfnIdeal_pre_ffn_finite [hKernelFfnIdeal : Cert.KernelFfnIdeal.Facts] [hReferenceFfnIdeal : Cert.ReferenceFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_ffn_finite m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v26_0)) (v1 : (c : Dev Cert.KernelFfnIdeal.nD) → Buf (Elt Ideal) ((c.tc : Thread Cert.KernelFfnIdeal.nD Cert.KernelFfnIdeal.τ).loc Cert.KernelFfnIdeal.main_v26_1)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v26_0) = v0 c
          ∧ r.2.mem ((c.tc : Thread Cert.KernelFfnIdeal.nD Cert.KernelFfnIdeal.τ).loc Cert.KernelFfnIdeal.main_v26_1) = v1 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v14) = v0 c
          ∧ r.2.mem ((c.tc : Thread Cert.ReferenceFfnIdeal.nD Cert.ReferenceFfnIdeal.τ).loc Cert.ReferenceFfnIdeal.main_v16) = v1 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelForget_KernelForgetIdeal : Prop :=
  True

def algebraic_KernelForgetIdeal_ReferenceForgetIdeal [hKernelForgetIdeal : Cert.KernelForgetIdeal.Facts] [hReferenceForgetIdeal : Cert.ReferenceForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg)
    (m' : (ℓ : Loc Cert.ReferenceForgetIdeal.nD Cert.ReferenceForgetIdeal.τ Cert.ReferenceForgetIdeal.sig) → Buf (Elt Ideal) ℓ) (g' : Dev Cert.ReferenceForgetIdeal.nD → PrngReg), Pre_KernelForgetIdeal m →
    (∀ c : Dev Cert.KernelForgetIdeal.nD,
      m' ((c.tc : Thread Cert.ReferenceForgetIdeal.nD Cert.ReferenceForgetIdeal.τ).loc Cert.ReferenceForgetIdeal.main_arg0) = m ((c.tc : Thread Cert.KernelForgetIdeal.nD Cert.KernelForgetIdeal.τ).loc Cert.KernelForgetIdeal.main_arg0)
      ∧ m' ((c.tc : Thread Cert.ReferenceForgetIdeal.nD Cert.ReferenceForgetIdeal.τ).loc Cert.ReferenceForgetIdeal.main_arg1) = m ((c.tc : Thread Cert.KernelForgetIdeal.nD Cert.KernelForgetIdeal.τ).loc Cert.KernelForgetIdeal.main_arg1)
      ∧ m' ((c.tc : Thread Cert.ReferenceForgetIdeal.nD Cert.ReferenceForgetIdeal.τ).loc Cert.ReferenceForgetIdeal.main_arg2) = m ((c.tc : Thread Cert.KernelForgetIdeal.nD Cert.KernelForgetIdeal.τ).loc Cert.KernelForgetIdeal.main_arg2)
      ∧ m' ((c.tc : Thread Cert.ReferenceForgetIdeal.nD Cert.ReferenceForgetIdeal.τ).loc Cert.ReferenceForgetIdeal.main_arg3) = m ((c.tc : Thread Cert.KernelForgetIdeal.nD Cert.KernelForgetIdeal.τ).loc Cert.KernelForgetIdeal.main_arg3)) →
    ∃ (v0 : (c : Dev Cert.KernelForgetIdeal.nD) → Buf (Elt Ideal) ((c.tc : Thread Cert.KernelForgetIdeal.nD Cert.KernelForgetIdeal.τ).loc Cert.KernelForgetIdeal.main_v6_0)) (v1 : (c : Dev Cert.KernelForgetIdeal.nD) → Buf (Elt Ideal) ((c.tc : Thread Cert.KernelForgetIdeal.nD Cert.KernelForgetIdeal.τ).loc Cert.KernelForgetIdeal.main_v6_1)),
      θ_run (Cert.KernelForgetIdeal.defs (F := Ideal)) (onTc (τ := Cert.KernelForgetIdeal.τ) (Cert.KernelForgetIdeal.main (F := Ideal))) ⟨m, fun _ => 0, g⟩ (fun r => ∀ c : Dev Cert.KernelForgetIdeal.nD,
          r.2.mem ((c.tc : Thread Cert.KernelForgetIdeal.nD Cert.KernelForgetIdeal.τ).loc Cert.KernelForgetIdeal.main_v6_0) = v0 c
          ∧ r.2.mem ((c.tc : Thread Cert.KernelForgetIdeal.nD Cert.KernelForgetIdeal.τ).loc Cert.KernelForgetIdeal.main_v6_1) = v1 c
          ∧ r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
          ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1)
          ∧ r.2.mem ((c.tc : Thread Cert.KernelForgetIdeal.nD Cert.KernelForgetIdeal.τ).loc Cert.KernelForgetIdeal.main_arg2) = m ((c.tc : Thread Cert.KernelForgetIdeal.nD Cert.KernelForgetIdeal.τ).loc Cert.KernelForgetIdeal.main_arg2)
          ∧ r.2.mem ((c.tc : Thread Cert.KernelForgetIdeal.nD Cert.KernelForgetIdeal.τ).loc Cert.KernelForgetIdeal.main_arg3) = m ((c.tc : Thread Cert.KernelForgetIdeal.nD Cert.KernelForgetIdeal.τ).loc Cert.KernelForgetIdeal.main_arg3))
      ∧ θ_run (Cert.ReferenceForgetIdeal.defs (F := Ideal)) (onTc (τ := Cert.ReferenceForgetIdeal.τ) (Cert.ReferenceForgetIdeal.main (F := Ideal))) ⟨m', fun _ => 0, g'⟩ (fun r => ∀ c : Dev Cert.ReferenceForgetIdeal.nD,
          r.2.mem ((c.tc : Thread Cert.ReferenceForgetIdeal.nD Cert.ReferenceForgetIdeal.τ).loc Cert.ReferenceForgetIdeal.main_v17) = v0 c
          ∧ r.2.mem ((c.tc : Thread Cert.ReferenceForgetIdeal.nD Cert.ReferenceForgetIdeal.τ).loc Cert.ReferenceForgetIdeal.main_v18) = v1 c
          ∧ r.2.mem ((c.tc : Thread Cert.ReferenceForgetIdeal.nD Cert.ReferenceForgetIdeal.τ).loc Cert.ReferenceForgetIdeal.main_arg0) = m' ((c.tc : Thread Cert.ReferenceForgetIdeal.nD Cert.ReferenceForgetIdeal.τ).loc Cert.ReferenceForgetIdeal.main_arg0)
          ∧ r.2.mem ((c.tc : Thread Cert.ReferenceForgetIdeal.nD Cert.ReferenceForgetIdeal.τ).loc Cert.ReferenceForgetIdeal.main_arg1) = m' ((c.tc : Thread Cert.ReferenceForgetIdeal.nD Cert.ReferenceForgetIdeal.τ).loc Cert.ReferenceForgetIdeal.main_arg1)
          ∧ r.2.mem ((c.tc : Thread Cert.ReferenceForgetIdeal.nD Cert.ReferenceForgetIdeal.τ).loc Cert.ReferenceForgetIdeal.main_arg2) = m' ((c.tc : Thread Cert.ReferenceForgetIdeal.nD Cert.ReferenceForgetIdeal.τ).loc Cert.ReferenceForgetIdeal.main_arg2)
          ∧ r.2.mem ((c.tc : Thread Cert.ReferenceForgetIdeal.nD Cert.ReferenceForgetIdeal.τ).loc Cert.ReferenceForgetIdeal.main_arg3) = m' ((c.tc : Thread Cert.ReferenceForgetIdeal.nD Cert.ReferenceForgetIdeal.τ).loc Cert.ReferenceForgetIdeal.main_arg3))

def preserves_KernelPool_KernelPoolIdeal : Prop :=
  True

def algebraic_KernelPoolIdeal_ReferencePoolIdeal_pre_pool_finite [hKernelPoolIdeal : Cert.KernelPoolIdeal.Facts] [hReferencePoolIdeal : Cert.ReferencePoolIdeal.Facts] [hPre_pool_finite : Cert.Pre_pool_finite.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_pool_finite m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)
      ∧ m' ((c.tc : Thread Cert.ReferencePoolIdeal.nD Cert.ReferencePoolIdeal.τ).loc Cert.ReferencePoolIdeal.main_arg3) = m ((c.tc : Thread Cert.KernelPoolIdeal.nD Cert.KernelPoolIdeal.τ).loc Cert.KernelPoolIdeal.main_arg3)) →
    ∃ (v0 : (c : Dev Cert.KernelPoolIdeal.nD) → Buf (Elt Ideal) ((c.tc : Thread Cert.KernelPoolIdeal.nD Cert.KernelPoolIdeal.τ).loc Cert.KernelPoolIdeal.main_v66_0)) (v1 : (c : Dev Cert.KernelPoolIdeal.nD) → Buf (Elt Ideal) ((c.tc : Thread Cert.KernelPoolIdeal.nD Cert.KernelPoolIdeal.τ).loc Cert.KernelPoolIdeal.main_v66_1)) (v2 : (c : Dev Cert.KernelPoolIdeal.nD) → Buf (Elt Ideal) ((c.tc : Thread Cert.KernelPoolIdeal.nD Cert.KernelPoolIdeal.τ).loc Cert.KernelPoolIdeal.main_v66_2)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v66_0) = v0 c
          ∧ r.2.mem ((c.tc : Thread Cert.KernelPoolIdeal.nD Cert.KernelPoolIdeal.τ).loc Cert.KernelPoolIdeal.main_v66_1) = v1 c
          ∧ r.2.mem ((c.tc : Thread Cert.KernelPoolIdeal.nD Cert.KernelPoolIdeal.τ).loc Cert.KernelPoolIdeal.main_v66_2) = v2 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
          ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v96) = v0 c
          ∧ r.2.mem ((c.tc : Thread Cert.ReferencePoolIdeal.nD Cert.ReferencePoolIdeal.τ).loc Cert.ReferencePoolIdeal.main_v97) = v1 c
          ∧ r.2.mem ((c.tc : Thread Cert.ReferencePoolIdeal.nD Cert.ReferencePoolIdeal.τ).loc Cert.ReferencePoolIdeal.main_v74) = v2 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2)
          ∧ r.2.mem ((c.tc : Thread Cert.ReferencePoolIdeal.nD Cert.ReferencePoolIdeal.τ).loc Cert.ReferencePoolIdeal.main_arg3) = m' ((c.tc : Thread Cert.ReferencePoolIdeal.nD Cert.ReferencePoolIdeal.τ).loc Cert.ReferencePoolIdeal.main_arg3))

def preserves_KernelAttnFwd_KernelAttnFwdIdeal : Prop :=
  IdealRules.named_const.Statement Cert.KernelAttnFwdIdeal.κ "mask" .f32 0xF149F2CA#32 ⊥

def algebraic_KernelAttnFwdIdeal_ReferenceAttnFwdIdeal_pre_attn_fwd_finite [hKernelAttnFwdIdeal : Cert.KernelAttnFwdIdeal.Facts] [hReferenceAttnFwdIdeal : Cert.ReferenceAttnFwdIdeal.Facts] [hPre_attn_fwd_finite : Cert.Pre_attn_fwd_finite.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg)
    (m' : (ℓ : Loc Cert.ReferenceAttnFwdIdeal.nD Cert.ReferenceAttnFwdIdeal.τ Cert.ReferenceAttnFwdIdeal.sig) → Buf (Elt Ideal) ℓ) (g' : Dev Cert.ReferenceAttnFwdIdeal.nD → PrngReg), Pre_KernelAttnFwdIdeal_attn_fwd_finite m →
    (∀ c : Dev Cert.KernelAttnFwdIdeal.nD,
      m' ((c.tc : Thread Cert.ReferenceAttnFwdIdeal.nD Cert.ReferenceAttnFwdIdeal.τ).loc Cert.ReferenceAttnFwdIdeal.main_arg0) = m ((c.tc : Thread Cert.KernelAttnFwdIdeal.nD Cert.KernelAttnFwdIdeal.τ).loc Cert.KernelAttnFwdIdeal.main_arg0)
      ∧ m' ((c.tc : Thread Cert.ReferenceAttnFwdIdeal.nD Cert.ReferenceAttnFwdIdeal.τ).loc Cert.ReferenceAttnFwdIdeal.main_arg1) = m ((c.tc : Thread Cert.KernelAttnFwdIdeal.nD Cert.KernelAttnFwdIdeal.τ).loc Cert.KernelAttnFwdIdeal.main_arg1)
      ∧ m' ((c.tc : Thread Cert.ReferenceAttnFwdIdeal.nD Cert.ReferenceAttnFwdIdeal.τ).loc Cert.ReferenceAttnFwdIdeal.main_arg2) = m ((c.tc : Thread Cert.KernelAttnFwdIdeal.nD Cert.KernelAttnFwdIdeal.τ).loc Cert.KernelAttnFwdIdeal.main_arg2)
      ∧ m' ((c.tc : Thread Cert.ReferenceAttnFwdIdeal.nD Cert.ReferenceAttnFwdIdeal.τ).loc Cert.ReferenceAttnFwdIdeal.main_arg3) = m ((c.tc : Thread Cert.KernelAttnFwdIdeal.nD Cert.KernelAttnFwdIdeal.τ).loc Cert.KernelAttnFwdIdeal.main_arg3)) →
    ∃ (v0 : (c : Dev Cert.KernelAttnFwdIdeal.nD) → Buf (Elt Ideal) ((c.tc : Thread Cert.KernelAttnFwdIdeal.nD Cert.KernelAttnFwdIdeal.τ).loc Cert.KernelAttnFwdIdeal.main_v16_0)) (v1 : (c : Dev Cert.KernelAttnFwdIdeal.nD) → Buf (Elt Ideal) ((c.tc : Thread Cert.KernelAttnFwdIdeal.nD Cert.KernelAttnFwdIdeal.τ).loc Cert.KernelAttnFwdIdeal.main_v16_1)) (v2 : (c : Dev Cert.KernelAttnFwdIdeal.nD) → Buf (Elt Ideal) ((c.tc : Thread Cert.KernelAttnFwdIdeal.nD Cert.KernelAttnFwdIdeal.τ).loc Cert.KernelAttnFwdIdeal.main_v16_2)) (v3 : (c : Dev Cert.KernelAttnFwdIdeal.nD) → Buf (Elt Ideal) ((c.tc : Thread Cert.KernelAttnFwdIdeal.nD Cert.KernelAttnFwdIdeal.τ).loc Cert.KernelAttnFwdIdeal.main_v16_3)),
      θ_run (Cert.KernelAttnFwdIdeal.defs (F := Ideal)) (onTc (τ := Cert.KernelAttnFwdIdeal.τ) (Cert.KernelAttnFwdIdeal.main (F := Ideal))) ⟨m, fun _ => 0, g⟩ (fun r => ∀ c : Dev Cert.KernelAttnFwdIdeal.nD,
          r.2.mem ((c.tc : Thread Cert.KernelAttnFwdIdeal.nD Cert.KernelAttnFwdIdeal.τ).loc Cert.KernelAttnFwdIdeal.main_v16_0) = v0 c
          ∧ r.2.mem ((c.tc : Thread Cert.KernelAttnFwdIdeal.nD Cert.KernelAttnFwdIdeal.τ).loc Cert.KernelAttnFwdIdeal.main_v16_1) = v1 c
          ∧ r.2.mem ((c.tc : Thread Cert.KernelAttnFwdIdeal.nD Cert.KernelAttnFwdIdeal.τ).loc Cert.KernelAttnFwdIdeal.main_v16_2) = v2 c
          ∧ r.2.mem ((c.tc : Thread Cert.KernelAttnFwdIdeal.nD Cert.KernelAttnFwdIdeal.τ).loc Cert.KernelAttnFwdIdeal.main_v16_3) = v3 c
          ∧ r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
          ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
          ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2)
          ∧ r.2.mem ((c.tc : Thread Cert.KernelAttnFwdIdeal.nD Cert.KernelAttnFwdIdeal.τ).loc Cert.KernelAttnFwdIdeal.main_arg3) = m ((c.tc : Thread Cert.KernelAttnFwdIdeal.nD Cert.KernelAttnFwdIdeal.τ).loc Cert.KernelAttnFwdIdeal.main_arg3))
      ∧ θ_run (Cert.ReferenceAttnFwdIdeal.defs (F := Ideal)) (onTc (τ := Cert.ReferenceAttnFwdIdeal.τ) (Cert.ReferenceAttnFwdIdeal.main (F := Ideal))) ⟨m', fun _ => 0, g'⟩ (fun r => ∀ c : Dev Cert.ReferenceAttnFwdIdeal.nD,
          r.2.mem ((c.tc : Thread Cert.ReferenceAttnFwdIdeal.nD Cert.ReferenceAttnFwdIdeal.τ).loc Cert.ReferenceAttnFwdIdeal.main_v34) = v0 c
          ∧ r.2.mem ((c.tc : Thread Cert.ReferenceAttnFwdIdeal.nD Cert.ReferenceAttnFwdIdeal.τ).loc Cert.ReferenceAttnFwdIdeal.main_v38) = v1 c
          ∧ r.2.mem ((c.tc : Thread Cert.ReferenceAttnFwdIdeal.nD Cert.ReferenceAttnFwdIdeal.τ).loc Cert.ReferenceAttnFwdIdeal.main_v39) = v2 c
          ∧ r.2.mem ((c.tc : Thread Cert.ReferenceAttnFwdIdeal.nD Cert.ReferenceAttnFwdIdeal.τ).loc Cert.ReferenceAttnFwdIdeal.main_v40) = v3 c
          ∧ r.2.mem ((c.tc : Thread Cert.ReferenceAttnFwdIdeal.nD Cert.ReferenceAttnFwdIdeal.τ).loc Cert.ReferenceAttnFwdIdeal.main_arg0) = m' ((c.tc : Thread Cert.ReferenceAttnFwdIdeal.nD Cert.ReferenceAttnFwdIdeal.τ).loc Cert.ReferenceAttnFwdIdeal.main_arg0)
          ∧ r.2.mem ((c.tc : Thread Cert.ReferenceAttnFwdIdeal.nD Cert.ReferenceAttnFwdIdeal.τ).loc Cert.ReferenceAttnFwdIdeal.main_arg1) = m' ((c.tc : Thread Cert.ReferenceAttnFwdIdeal.nD Cert.ReferenceAttnFwdIdeal.τ).loc Cert.ReferenceAttnFwdIdeal.main_arg1)
          ∧ r.2.mem ((c.tc : Thread Cert.ReferenceAttnFwdIdeal.nD Cert.ReferenceAttnFwdIdeal.τ).loc Cert.ReferenceAttnFwdIdeal.main_arg2) = m' ((c.tc : Thread Cert.ReferenceAttnFwdIdeal.nD Cert.ReferenceAttnFwdIdeal.τ).loc Cert.ReferenceAttnFwdIdeal.main_arg2)
          ∧ r.2.mem ((c.tc : Thread Cert.ReferenceAttnFwdIdeal.nD Cert.ReferenceAttnFwdIdeal.τ).loc Cert.ReferenceAttnFwdIdeal.main_arg3) = m' ((c.tc : Thread Cert.ReferenceAttnFwdIdeal.nD Cert.ReferenceAttnFwdIdeal.τ).loc Cert.ReferenceAttnFwdIdeal.main_arg3))

def preserves_KernelRmsFwd_KernelRmsFwdIdeal : Prop :=
  True

def algebraic_KernelRmsFwdIdeal_ReferenceRmsFwdIdeal [hKernelRmsFwdIdeal : Cert.KernelRmsFwdIdeal.Facts] [hReferenceRmsFwdIdeal : Cert.ReferenceRmsFwdIdeal.Facts] : Prop :=
  ∀ (m : (ℓ : Loc Cert.KernelRmsFwdIdeal.nD Cert.KernelRmsFwdIdeal.τ Cert.KernelRmsFwdIdeal.sig) → Buf (Elt Ideal) ℓ) (g : Dev Cert.KernelRmsFwdIdeal.nD → PrngReg)
    (m' : (ℓ : Loc Cert.ReferenceRmsFwdIdeal.nD Cert.ReferenceRmsFwdIdeal.τ Cert.ReferenceRmsFwdIdeal.sig) → Buf (Elt Ideal) ℓ) (g' : Dev Cert.ReferenceRmsFwdIdeal.nD → PrngReg), Pre_KernelRmsFwdIdeal m →
    (∀ c : Dev Cert.KernelRmsFwdIdeal.nD,
      m' ((c.tc : Thread Cert.ReferenceRmsFwdIdeal.nD Cert.ReferenceRmsFwdIdeal.τ).loc Cert.ReferenceRmsFwdIdeal.main_arg0) = m ((c.tc : Thread Cert.KernelRmsFwdIdeal.nD Cert.KernelRmsFwdIdeal.τ).loc Cert.KernelRmsFwdIdeal.main_arg0)
      ∧ m' ((c.tc : Thread Cert.ReferenceRmsFwdIdeal.nD Cert.ReferenceRmsFwdIdeal.τ).loc Cert.ReferenceRmsFwdIdeal.main_arg1) = m ((c.tc : Thread Cert.KernelRmsFwdIdeal.nD Cert.KernelRmsFwdIdeal.τ).loc Cert.KernelRmsFwdIdeal.main_arg1)) →
    ∃ (v0 : (c : Dev Cert.KernelRmsFwdIdeal.nD) → Buf (Elt Ideal) ((c.tc : Thread Cert.KernelRmsFwdIdeal.nD Cert.KernelRmsFwdIdeal.τ).loc Cert.KernelRmsFwdIdeal.main_v3_0)) (v1 : (c : Dev Cert.KernelRmsFwdIdeal.nD) → Buf (Elt Ideal) ((c.tc : Thread Cert.KernelRmsFwdIdeal.nD Cert.KernelRmsFwdIdeal.τ).loc Cert.KernelRmsFwdIdeal.main_v3_1)) (v2 : (c : Dev Cert.KernelRmsFwdIdeal.nD) → Buf (Elt Ideal) ((c.tc : Thread Cert.KernelRmsFwdIdeal.nD Cert.KernelRmsFwdIdeal.τ).loc Cert.KernelRmsFwdIdeal.main_v3_2)),
      θ_run (Cert.KernelRmsFwdIdeal.defs (F := Ideal)) (onTc (τ := Cert.KernelRmsFwdIdeal.τ) (Cert.KernelRmsFwdIdeal.main (F := Ideal))) ⟨m, fun _ => 0, g⟩ (fun r => ∀ c : Dev Cert.KernelRmsFwdIdeal.nD,
          r.2.mem ((c.tc : Thread Cert.KernelRmsFwdIdeal.nD Cert.KernelRmsFwdIdeal.τ).loc Cert.KernelRmsFwdIdeal.main_v3_0) = v0 c
          ∧ r.2.mem ((c.tc : Thread Cert.KernelRmsFwdIdeal.nD Cert.KernelRmsFwdIdeal.τ).loc Cert.KernelRmsFwdIdeal.main_v3_1) = v1 c
          ∧ r.2.mem ((c.tc : Thread Cert.KernelRmsFwdIdeal.nD Cert.KernelRmsFwdIdeal.τ).loc Cert.KernelRmsFwdIdeal.main_v3_2) = v2 c
          ∧ r.2.mem ((c.tc : Thread Cert.KernelRmsFwdIdeal.nD Cert.KernelRmsFwdIdeal.τ).loc Cert.KernelRmsFwdIdeal.main_arg0) = m ((c.tc : Thread Cert.KernelRmsFwdIdeal.nD Cert.KernelRmsFwdIdeal.τ).loc Cert.KernelRmsFwdIdeal.main_arg0)
          ∧ r.2.mem ((c.tc : Thread Cert.KernelRmsFwdIdeal.nD Cert.KernelRmsFwdIdeal.τ).loc Cert.KernelRmsFwdIdeal.main_arg1) = m ((c.tc : Thread Cert.KernelRmsFwdIdeal.nD Cert.KernelRmsFwdIdeal.τ).loc Cert.KernelRmsFwdIdeal.main_arg1))
      ∧ θ_run (Cert.ReferenceRmsFwdIdeal.defs (F := Ideal)) (onTc (τ := Cert.ReferenceRmsFwdIdeal.τ) (Cert.ReferenceRmsFwdIdeal.main (F := Ideal))) ⟨m', fun _ => 0, g'⟩ (fun r => ∀ c : Dev Cert.ReferenceRmsFwdIdeal.nD,
          r.2.mem ((c.tc : Thread Cert.ReferenceRmsFwdIdeal.nD Cert.ReferenceRmsFwdIdeal.τ).loc Cert.ReferenceRmsFwdIdeal.main_v15) = v0 c
          ∧ r.2.mem ((c.tc : Thread Cert.ReferenceRmsFwdIdeal.nD Cert.ReferenceRmsFwdIdeal.τ).loc Cert.ReferenceRmsFwdIdeal.main_v16) = v1 c
          ∧ r.2.mem ((c.tc : Thread Cert.ReferenceRmsFwdIdeal.nD Cert.ReferenceRmsFwdIdeal.τ).loc Cert.ReferenceRmsFwdIdeal.main_v24) = v2 c
          ∧ r.2.mem ((c.tc : Thread Cert.ReferenceRmsFwdIdeal.nD Cert.ReferenceRmsFwdIdeal.τ).loc Cert.ReferenceRmsFwdIdeal.main_arg0) = m' ((c.tc : Thread Cert.ReferenceRmsFwdIdeal.nD Cert.ReferenceRmsFwdIdeal.τ).loc Cert.ReferenceRmsFwdIdeal.main_arg0)
          ∧ r.2.mem ((c.tc : Thread Cert.ReferenceRmsFwdIdeal.nD Cert.ReferenceRmsFwdIdeal.τ).loc Cert.ReferenceRmsFwdIdeal.main_arg1) = m' ((c.tc : Thread Cert.ReferenceRmsFwdIdeal.nD Cert.ReferenceRmsFwdIdeal.τ).loc Cert.ReferenceRmsFwdIdeal.main_arg1))

def preserves_KernelPrep_KernelPrepIdeal : Prop :=
  True

def algebraic_KernelPrepIdeal_ReferencePrepIdeal [hKernelPrepIdeal : Cert.KernelPrepIdeal.Facts] [hReferencePrepIdeal : Cert.ReferencePrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)
      ∧ m' ((c.tc : Thread Cert.ReferencePrepIdeal.nD Cert.ReferencePrepIdeal.τ).loc Cert.ReferencePrepIdeal.main_arg2) = m ((c.tc : Thread Cert.KernelPrepIdeal.nD Cert.KernelPrepIdeal.τ).loc Cert.KernelPrepIdeal.main_arg2)) →
    ∃ (v0 : (c : Dev Cert.KernelPrepIdeal.nD) → Buf (Elt Ideal) ((c.tc : Thread Cert.KernelPrepIdeal.nD Cert.KernelPrepIdeal.τ).loc Cert.KernelPrepIdeal.main_v1_0)) (v1 : (c : Dev Cert.KernelPrepIdeal.nD) → Buf (Elt Ideal) ((c.tc : Thread Cert.KernelPrepIdeal.nD Cert.KernelPrepIdeal.τ).loc Cert.KernelPrepIdeal.main_v1_1)) (v2 : (c : Dev Cert.KernelPrepIdeal.nD) → Buf (Elt Ideal) ((c.tc : Thread Cert.KernelPrepIdeal.nD Cert.KernelPrepIdeal.τ).loc Cert.KernelPrepIdeal.main_v1_2)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v1_0) = v0 c
          ∧ r.2.mem ((c.tc : Thread Cert.KernelPrepIdeal.nD Cert.KernelPrepIdeal.τ).loc Cert.KernelPrepIdeal.main_v1_1) = v1 c
          ∧ r.2.mem ((c.tc : Thread Cert.KernelPrepIdeal.nD Cert.KernelPrepIdeal.τ).loc Cert.KernelPrepIdeal.main_v1_2) = v2 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
          ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v34) = v0 c
          ∧ r.2.mem ((c.tc : Thread Cert.ReferencePrepIdeal.nD Cert.ReferencePrepIdeal.τ).loc Cert.ReferencePrepIdeal.main_v37) = v1 c
          ∧ r.2.mem ((c.tc : Thread Cert.ReferencePrepIdeal.nD Cert.ReferencePrepIdeal.τ).loc Cert.ReferencePrepIdeal.main_v40) = v2 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1)
          ∧ r.2.mem ((c.tc : Thread Cert.ReferencePrepIdeal.nD Cert.ReferencePrepIdeal.τ).loc Cert.ReferencePrepIdeal.main_arg2) = m' ((c.tc : Thread Cert.ReferencePrepIdeal.nD Cert.ReferencePrepIdeal.τ).loc Cert.ReferencePrepIdeal.main_arg2))

def preserves_KernelPoolFwd_KernelPoolFwdIdeal : Prop :=
  True

def algebraic_KernelPoolFwdIdeal_ReferencePoolFwdIdeal_pre_pool_fwd_finite [hKernelPoolFwdIdeal : Cert.KernelPoolFwdIdeal.Facts] [hReferencePoolFwdIdeal : Cert.ReferencePoolFwdIdeal.Facts] [hPre_pool_fwd_finite : Cert.Pre_pool_fwd_finite.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg)
    (m' : (ℓ : Loc Cert.ReferencePoolFwdIdeal.nD Cert.ReferencePoolFwdIdeal.τ Cert.ReferencePoolFwdIdeal.sig) → Buf (Elt Ideal) ℓ) (g' : Dev Cert.ReferencePoolFwdIdeal.nD → PrngReg), Pre_KernelPoolFwdIdeal_pool_fwd_finite m →
    (∀ c : Dev Cert.KernelPoolFwdIdeal.nD,
      m' ((c.tc : Thread Cert.ReferencePoolFwdIdeal.nD Cert.ReferencePoolFwdIdeal.τ).loc Cert.ReferencePoolFwdIdeal.main_arg0) = m ((c.tc : Thread Cert.KernelPoolFwdIdeal.nD Cert.KernelPoolFwdIdeal.τ).loc Cert.KernelPoolFwdIdeal.main_arg0)
      ∧ m' ((c.tc : Thread Cert.ReferencePoolFwdIdeal.nD Cert.ReferencePoolFwdIdeal.τ).loc Cert.ReferencePoolFwdIdeal.main_arg1) = m ((c.tc : Thread Cert.KernelPoolFwdIdeal.nD Cert.KernelPoolFwdIdeal.τ).loc Cert.KernelPoolFwdIdeal.main_arg1)
      ∧ m' ((c.tc : Thread Cert.ReferencePoolFwdIdeal.nD Cert.ReferencePoolFwdIdeal.τ).loc Cert.ReferencePoolFwdIdeal.main_arg2) = m ((c.tc : Thread Cert.KernelPoolFwdIdeal.nD Cert.KernelPoolFwdIdeal.τ).loc Cert.KernelPoolFwdIdeal.main_arg2)) →
    ∃ (v0 : (c : Dev Cert.KernelPoolFwdIdeal.nD) → Buf (Elt Ideal) ((c.tc : Thread Cert.KernelPoolFwdIdeal.nD Cert.KernelPoolFwdIdeal.τ).loc Cert.KernelPoolFwdIdeal.main_v2_0)) (v1 : (c : Dev Cert.KernelPoolFwdIdeal.nD) → Buf (Elt Ideal) ((c.tc : Thread Cert.KernelPoolFwdIdeal.nD Cert.KernelPoolFwdIdeal.τ).loc Cert.KernelPoolFwdIdeal.main_v2_1)) (v2 : (c : Dev Cert.KernelPoolFwdIdeal.nD) → Buf (Elt Ideal) ((c.tc : Thread Cert.KernelPoolFwdIdeal.nD Cert.KernelPoolFwdIdeal.τ).loc Cert.KernelPoolFwdIdeal.main_v2_2)),
      θ_run (Cert.KernelPoolFwdIdeal.defs (F := Ideal)) (onTc (τ := Cert.KernelPoolFwdIdeal.τ) (Cert.KernelPoolFwdIdeal.main (F := Ideal))) ⟨m, fun _ => 0, g⟩ (fun r => ∀ c : Dev Cert.KernelPoolFwdIdeal.nD,
          r.2.mem ((c.tc : Thread Cert.KernelPoolFwdIdeal.nD Cert.KernelPoolFwdIdeal.τ).loc Cert.KernelPoolFwdIdeal.main_v2_0) = v0 c
          ∧ r.2.mem ((c.tc : Thread Cert.KernelPoolFwdIdeal.nD Cert.KernelPoolFwdIdeal.τ).loc Cert.KernelPoolFwdIdeal.main_v2_1) = v1 c
          ∧ r.2.mem ((c.tc : Thread Cert.KernelPoolFwdIdeal.nD Cert.KernelPoolFwdIdeal.τ).loc Cert.KernelPoolFwdIdeal.main_v2_2) = v2 c
          ∧ r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
          ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
          ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2))
      ∧ θ_run (Cert.ReferencePoolFwdIdeal.defs (F := Ideal)) (onTc (τ := Cert.ReferencePoolFwdIdeal.τ) (Cert.ReferencePoolFwdIdeal.main (F := Ideal))) ⟨m', fun _ => 0, g'⟩ (fun r => ∀ c : Dev Cert.ReferencePoolFwdIdeal.nD,
          r.2.mem ((c.tc : Thread Cert.ReferencePoolFwdIdeal.nD Cert.ReferencePoolFwdIdeal.τ).loc Cert.ReferencePoolFwdIdeal.main_v70) = v0 c
          ∧ r.2.mem ((c.tc : Thread Cert.ReferencePoolFwdIdeal.nD Cert.ReferencePoolFwdIdeal.τ).loc Cert.ReferencePoolFwdIdeal.main_v68) = v1 c
          ∧ r.2.mem ((c.tc : Thread Cert.ReferencePoolFwdIdeal.nD Cert.ReferencePoolFwdIdeal.τ).loc Cert.ReferencePoolFwdIdeal.main_v71) = v2 c
          ∧ r.2.mem ((c.tc : Thread Cert.ReferencePoolFwdIdeal.nD Cert.ReferencePoolFwdIdeal.τ).loc Cert.ReferencePoolFwdIdeal.main_arg0) = m' ((c.tc : Thread Cert.ReferencePoolFwdIdeal.nD Cert.ReferencePoolFwdIdeal.τ).loc Cert.ReferencePoolFwdIdeal.main_arg0)
          ∧ r.2.mem ((c.tc : Thread Cert.ReferencePoolFwdIdeal.nD Cert.ReferencePoolFwdIdeal.τ).loc Cert.ReferencePoolFwdIdeal.main_arg1) = m' ((c.tc : Thread Cert.ReferencePoolFwdIdeal.nD Cert.ReferencePoolFwdIdeal.τ).loc Cert.ReferencePoolFwdIdeal.main_arg1)
          ∧ r.2.mem ((c.tc : Thread Cert.ReferencePoolFwdIdeal.nD Cert.ReferencePoolFwdIdeal.τ).loc Cert.ReferencePoolFwdIdeal.main_arg2) = m' ((c.tc : Thread Cert.ReferencePoolFwdIdeal.nD Cert.ReferencePoolFwdIdeal.τ).loc Cert.ReferencePoolFwdIdeal.main_arg2))

def preserves_KernelUpGate_KernelUpGateIdeal : Prop :=
  True

def algebraic_KernelUpGateIdeal_ReferenceUpGateIdeal_pre_up_gate_finite [hKernelUpGateIdeal : Cert.KernelUpGateIdeal.Facts] [hReferenceUpGateIdeal : Cert.ReferenceUpGateIdeal.Facts] [hPre_up_gate_finite : Cert.Pre_up_gate_finite.Facts] : Prop :=
  ∀ (m : (ℓ : Loc Cert.KernelUpGateIdeal.nD Cert.KernelUpGateIdeal.τ Cert.KernelUpGateIdeal.sig) → Buf (Elt Ideal) ℓ) (g : Dev Cert.KernelUpGateIdeal.nD → PrngReg)
    (m' : (ℓ : Loc Cert.ReferenceUpGateIdeal.nD Cert.ReferenceUpGateIdeal.τ Cert.ReferenceUpGateIdeal.sig) → Buf (Elt Ideal) ℓ) (g' : Dev Cert.ReferenceUpGateIdeal.nD → PrngReg), Pre_KernelUpGateIdeal_up_gate_finite m →
    (∀ c : Dev Cert.KernelUpGateIdeal.nD,
      m' ((c.tc : Thread Cert.ReferenceUpGateIdeal.nD Cert.ReferenceUpGateIdeal.τ).loc Cert.ReferenceUpGateIdeal.main_arg0) = m ((c.tc : Thread Cert.KernelUpGateIdeal.nD Cert.KernelUpGateIdeal.τ).loc Cert.KernelUpGateIdeal.main_arg0)
      ∧ m' ((c.tc : Thread Cert.ReferenceUpGateIdeal.nD Cert.ReferenceUpGateIdeal.τ).loc Cert.ReferenceUpGateIdeal.main_arg1) = m ((c.tc : Thread Cert.KernelUpGateIdeal.nD Cert.KernelUpGateIdeal.τ).loc Cert.KernelUpGateIdeal.main_arg1)
      ∧ m' ((c.tc : Thread Cert.ReferenceUpGateIdeal.nD Cert.ReferenceUpGateIdeal.τ).loc Cert.ReferenceUpGateIdeal.main_arg2) = m ((c.tc : Thread Cert.KernelUpGateIdeal.nD Cert.KernelUpGateIdeal.τ).loc Cert.KernelUpGateIdeal.main_arg2)) →
    ∃ (v0 : (c : Dev Cert.KernelUpGateIdeal.nD) → Buf (Elt Ideal) ((c.tc : Thread Cert.KernelUpGateIdeal.nD Cert.KernelUpGateIdeal.τ).loc Cert.KernelUpGateIdeal.main_v4_0)) (v1 : (c : Dev Cert.KernelUpGateIdeal.nD) → Buf (Elt Ideal) ((c.tc : Thread Cert.KernelUpGateIdeal.nD Cert.KernelUpGateIdeal.τ).loc Cert.KernelUpGateIdeal.main_v4_1)) (v2 : (c : Dev Cert.KernelUpGateIdeal.nD) → Buf (Elt Ideal) ((c.tc : Thread Cert.KernelUpGateIdeal.nD Cert.KernelUpGateIdeal.τ).loc Cert.KernelUpGateIdeal.main_v4_2)) (v3 : (c : Dev Cert.KernelUpGateIdeal.nD) → Buf (Elt Ideal) ((c.tc : Thread Cert.KernelUpGateIdeal.nD Cert.KernelUpGateIdeal.τ).loc Cert.KernelUpGateIdeal.main_v4_3)),
      θ_run (Cert.KernelUpGateIdeal.defs (F := Ideal)) (onTc (τ := Cert.KernelUpGateIdeal.τ) (Cert.KernelUpGateIdeal.main (F := Ideal))) ⟨m, fun _ => 0, g⟩ (fun r => ∀ c : Dev Cert.KernelUpGateIdeal.nD,
          r.2.mem ((c.tc : Thread Cert.KernelUpGateIdeal.nD Cert.KernelUpGateIdeal.τ).loc Cert.KernelUpGateIdeal.main_v4_0) = v0 c
          ∧ r.2.mem ((c.tc : Thread Cert.KernelUpGateIdeal.nD Cert.KernelUpGateIdeal.τ).loc Cert.KernelUpGateIdeal.main_v4_1) = v1 c
          ∧ r.2.mem ((c.tc : Thread Cert.KernelUpGateIdeal.nD Cert.KernelUpGateIdeal.τ).loc Cert.KernelUpGateIdeal.main_v4_2) = v2 c
          ∧ r.2.mem ((c.tc : Thread Cert.KernelUpGateIdeal.nD Cert.KernelUpGateIdeal.τ).loc Cert.KernelUpGateIdeal.main_v4_3) = v3 c
          ∧ r.2.mem ((c.tc : Thread Cert.KernelUpGateIdeal.nD Cert.KernelUpGateIdeal.τ).loc Cert.KernelUpGateIdeal.main_arg0) = m ((c.tc : Thread Cert.KernelUpGateIdeal.nD Cert.KernelUpGateIdeal.τ).loc Cert.KernelUpGateIdeal.main_arg0)
          ∧ r.2.mem ((c.tc : Thread Cert.KernelUpGateIdeal.nD Cert.KernelUpGateIdeal.τ).loc Cert.KernelUpGateIdeal.main_arg1) = m ((c.tc : Thread Cert.KernelUpGateIdeal.nD Cert.KernelUpGateIdeal.τ).loc Cert.KernelUpGateIdeal.main_arg1)
          ∧ r.2.mem ((c.tc : Thread Cert.KernelUpGateIdeal.nD Cert.KernelUpGateIdeal.τ).loc Cert.KernelUpGateIdeal.main_arg2) = m ((c.tc : Thread Cert.KernelUpGateIdeal.nD Cert.KernelUpGateIdeal.τ).loc Cert.KernelUpGateIdeal.main_arg2))
      ∧ θ_run (Cert.ReferenceUpGateIdeal.defs (F := Ideal)) (onTc (τ := Cert.ReferenceUpGateIdeal.τ) (Cert.ReferenceUpGateIdeal.main (F := Ideal))) ⟨m', fun _ => 0, g'⟩ (fun r => ∀ c : Dev Cert.ReferenceUpGateIdeal.nD,
          r.2.mem ((c.tc : Thread Cert.ReferenceUpGateIdeal.nD Cert.ReferenceUpGateIdeal.τ).loc Cert.ReferenceUpGateIdeal.main_v8) = v0 c
          ∧ r.2.mem ((c.tc : Thread Cert.ReferenceUpGateIdeal.nD Cert.ReferenceUpGateIdeal.τ).loc Cert.ReferenceUpGateIdeal.main_v10) = v1 c
          ∧ r.2.mem ((c.tc : Thread Cert.ReferenceUpGateIdeal.nD Cert.ReferenceUpGateIdeal.τ).loc Cert.ReferenceUpGateIdeal.main_v12) = v2 c
          ∧ r.2.mem ((c.tc : Thread Cert.ReferenceUpGateIdeal.nD Cert.ReferenceUpGateIdeal.τ).loc Cert.ReferenceUpGateIdeal.main_v15) = v3 c
          ∧ r.2.mem ((c.tc : Thread Cert.ReferenceUpGateIdeal.nD Cert.ReferenceUpGateIdeal.τ).loc Cert.ReferenceUpGateIdeal.main_arg0) = m' ((c.tc : Thread Cert.ReferenceUpGateIdeal.nD Cert.ReferenceUpGateIdeal.τ).loc Cert.ReferenceUpGateIdeal.main_arg0)
          ∧ r.2.mem ((c.tc : Thread Cert.ReferenceUpGateIdeal.nD Cert.ReferenceUpGateIdeal.τ).loc Cert.ReferenceUpGateIdeal.main_arg1) = m' ((c.tc : Thread Cert.ReferenceUpGateIdeal.nD Cert.ReferenceUpGateIdeal.τ).loc Cert.ReferenceUpGateIdeal.main_arg1)
          ∧ r.2.mem ((c.tc : Thread Cert.ReferenceUpGateIdeal.nD Cert.ReferenceUpGateIdeal.τ).loc Cert.ReferenceUpGateIdeal.main_arg2) = m' ((c.tc : Thread Cert.ReferenceUpGateIdeal.nD Cert.ReferenceUpGateIdeal.τ).loc Cert.ReferenceUpGateIdeal.main_arg2))

def preserves_KernelUp_KernelUpIdeal : Prop :=
  True

def algebraic_KernelUpIdeal_ReferenceUpIdeal_pre_up_finite [hKernelUpIdeal : Cert.KernelUpIdeal.Facts] [hReferenceUpIdeal : Cert.ReferenceUpIdeal.Facts] [hPre_up_finite : Cert.Pre_up_finite.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal_up_finite m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v5_0)) (v1 : (c : Dev Cert.KernelUpIdeal.nD) → Buf (Elt Ideal) ((c.tc : Thread Cert.KernelUpIdeal.nD Cert.KernelUpIdeal.τ).loc Cert.KernelUpIdeal.main_v5_1)) (v2 : (c : Dev Cert.KernelUpIdeal.nD) → Buf (Elt Ideal) ((c.tc : Thread Cert.KernelUpIdeal.nD Cert.KernelUpIdeal.τ).loc Cert.KernelUpIdeal.main_v5_2)) (v3 : (c : Dev Cert.KernelUpIdeal.nD) → Buf (Elt Ideal) ((c.tc : Thread Cert.KernelUpIdeal.nD Cert.KernelUpIdeal.τ).loc Cert.KernelUpIdeal.main_v5_3)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5_0) = v0 c
          ∧ r.2.mem ((c.tc : Thread Cert.KernelUpIdeal.nD Cert.KernelUpIdeal.τ).loc Cert.KernelUpIdeal.main_v5_1) = v1 c
          ∧ r.2.mem ((c.tc : Thread Cert.KernelUpIdeal.nD Cert.KernelUpIdeal.τ).loc Cert.KernelUpIdeal.main_v5_2) = v2 c
          ∧ r.2.mem ((c.tc : Thread Cert.KernelUpIdeal.nD Cert.KernelUpIdeal.τ).loc Cert.KernelUpIdeal.main_v5_3) = v3 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v9) = v0 c
          ∧ r.2.mem ((c.tc : Thread Cert.ReferenceUpIdeal.nD Cert.ReferenceUpIdeal.τ).loc Cert.ReferenceUpIdeal.main_v11) = v1 c
          ∧ r.2.mem ((c.tc : Thread Cert.ReferenceUpIdeal.nD Cert.ReferenceUpIdeal.τ).loc Cert.ReferenceUpIdeal.main_v13) = v2 c
          ∧ r.2.mem ((c.tc : Thread Cert.ReferenceUpIdeal.nD Cert.ReferenceUpIdeal.τ).loc Cert.ReferenceUpIdeal.main_v16) = v3 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelForgetFwd_KernelForgetFwdIdeal : Prop :=
  True

def algebraic_KernelForgetFwdIdeal_ReferenceForgetFwdIdeal [hKernelForgetFwdIdeal : Cert.KernelForgetFwdIdeal.Facts] [hReferenceForgetFwdIdeal : Cert.ReferenceForgetFwdIdeal.Facts] : Prop :=
  ∀ (m : (ℓ : Loc Cert.KernelForgetFwdIdeal.nD Cert.KernelForgetFwdIdeal.τ Cert.KernelForgetFwdIdeal.sig) → Buf (Elt Ideal) ℓ) (g : Dev Cert.KernelForgetFwdIdeal.nD → PrngReg)
    (m' : (ℓ : Loc Cert.ReferenceForgetFwdIdeal.nD Cert.ReferenceForgetFwdIdeal.τ Cert.ReferenceForgetFwdIdeal.sig) → Buf (Elt Ideal) ℓ) (g' : Dev Cert.ReferenceForgetFwdIdeal.nD → PrngReg), Pre_KernelForgetFwdIdeal m →
    (∀ c : Dev Cert.KernelForgetFwdIdeal.nD,
      m' ((c.tc : Thread Cert.ReferenceForgetFwdIdeal.nD Cert.ReferenceForgetFwdIdeal.τ).loc Cert.ReferenceForgetFwdIdeal.main_arg0) = m ((c.tc : Thread Cert.KernelForgetFwdIdeal.nD Cert.KernelForgetFwdIdeal.τ).loc Cert.KernelForgetFwdIdeal.main_arg0)
      ∧ m' ((c.tc : Thread Cert.ReferenceForgetFwdIdeal.nD Cert.ReferenceForgetFwdIdeal.τ).loc Cert.ReferenceForgetFwdIdeal.main_arg1) = m ((c.tc : Thread Cert.KernelForgetFwdIdeal.nD Cert.KernelForgetFwdIdeal.τ).loc Cert.KernelForgetFwdIdeal.main_arg1)) →
    ∃ (v0 : (c : Dev Cert.KernelForgetFwdIdeal.nD) → Buf (Elt Ideal) ((c.tc : Thread Cert.KernelForgetFwdIdeal.nD Cert.KernelForgetFwdIdeal.τ).loc Cert.KernelForgetFwdIdeal.main_v2)),
      θ_run (Cert.KernelForgetFwdIdeal.defs (F := Ideal)) (onTc (τ := Cert.KernelForgetFwdIdeal.τ) (Cert.KernelForgetFwdIdeal.main (F := Ideal))) ⟨m, fun _ => 0, g⟩ (fun r => ∀ c : Dev Cert.KernelForgetFwdIdeal.nD,
          r.2.mem ((c.tc : Thread Cert.KernelForgetFwdIdeal.nD Cert.KernelForgetFwdIdeal.τ).loc Cert.KernelForgetFwdIdeal.main_v2) = v0 c
          ∧ r.2.mem ((c.tc : Thread Cert.KernelForgetFwdIdeal.nD Cert.KernelForgetFwdIdeal.τ).loc Cert.KernelForgetFwdIdeal.main_arg0) = m ((c.tc : Thread Cert.KernelForgetFwdIdeal.nD Cert.KernelForgetFwdIdeal.τ).loc Cert.KernelForgetFwdIdeal.main_arg0)
          ∧ r.2.mem ((c.tc : Thread Cert.KernelForgetFwdIdeal.nD Cert.KernelForgetFwdIdeal.τ).loc Cert.KernelForgetFwdIdeal.main_arg1) = m ((c.tc : Thread Cert.KernelForgetFwdIdeal.nD Cert.KernelForgetFwdIdeal.τ).loc Cert.KernelForgetFwdIdeal.main_arg1))
      ∧ θ_run (Cert.ReferenceForgetFwdIdeal.defs (F := Ideal)) (onTc (τ := Cert.ReferenceForgetFwdIdeal.τ) (Cert.ReferenceForgetFwdIdeal.main (F := Ideal))) ⟨m', fun _ => 0, g'⟩ (fun r => ∀ c : Dev Cert.ReferenceForgetFwdIdeal.nD,
          r.2.mem ((c.tc : Thread Cert.ReferenceForgetFwdIdeal.nD Cert.ReferenceForgetFwdIdeal.τ).loc Cert.ReferenceForgetFwdIdeal.main_v9) = v0 c
          ∧ r.2.mem ((c.tc : Thread Cert.ReferenceForgetFwdIdeal.nD Cert.ReferenceForgetFwdIdeal.τ).loc Cert.ReferenceForgetFwdIdeal.main_arg0) = m' ((c.tc : Thread Cert.ReferenceForgetFwdIdeal.nD Cert.ReferenceForgetFwdIdeal.τ).loc Cert.ReferenceForgetFwdIdeal.main_arg0)
          ∧ r.2.mem ((c.tc : Thread Cert.ReferenceForgetFwdIdeal.nD Cert.ReferenceForgetFwdIdeal.τ).loc Cert.ReferenceForgetFwdIdeal.main_arg1) = m' ((c.tc : Thread Cert.ReferenceForgetFwdIdeal.nD Cert.ReferenceForgetFwdIdeal.τ).loc Cert.ReferenceForgetFwdIdeal.main_arg1))

def preserves_KernelMmNn_KernelMmNnIdeal : Prop :=
  True

def algebraic_KernelMmNnIdeal_ReferenceMmNnIdeal [hKernelMmNnIdeal : Cert.KernelMmNnIdeal.Facts] [hReferenceMmNnIdeal : Cert.ReferenceMmNnIdeal.Facts] : Prop :=
  ∀ (m : (ℓ : Loc Cert.KernelMmNnIdeal.nD Cert.KernelMmNnIdeal.τ Cert.KernelMmNnIdeal.sig) → Buf (Elt Ideal) ℓ) (g : Dev Cert.KernelMmNnIdeal.nD → PrngReg)
    (m' : (ℓ : Loc Cert.ReferenceMmNnIdeal.nD Cert.ReferenceMmNnIdeal.τ Cert.ReferenceMmNnIdeal.sig) → Buf (Elt Ideal) ℓ) (g' : Dev Cert.ReferenceMmNnIdeal.nD → PrngReg), Pre_KernelMmNnIdeal m →
    (∀ c : Dev Cert.KernelMmNnIdeal.nD,
      m' ((c.tc : Thread Cert.ReferenceMmNnIdeal.nD Cert.ReferenceMmNnIdeal.τ).loc Cert.ReferenceMmNnIdeal.main_arg0) = m ((c.tc : Thread Cert.KernelMmNnIdeal.nD Cert.KernelMmNnIdeal.τ).loc Cert.KernelMmNnIdeal.main_arg0)
      ∧ m' ((c.tc : Thread Cert.ReferenceMmNnIdeal.nD Cert.ReferenceMmNnIdeal.τ).loc Cert.ReferenceMmNnIdeal.main_arg1) = m ((c.tc : Thread Cert.KernelMmNnIdeal.nD Cert.KernelMmNnIdeal.τ).loc Cert.KernelMmNnIdeal.main_arg1)) →
    ∃ (v0 : (c : Dev Cert.KernelMmNnIdeal.nD) → Buf (Elt Ideal) ((c.tc : Thread Cert.KernelMmNnIdeal.nD Cert.KernelMmNnIdeal.τ).loc Cert.KernelMmNnIdeal.main_v3)),
      θ_run (Cert.KernelMmNnIdeal.defs (F := Ideal)) (onTc (τ := Cert.KernelMmNnIdeal.τ) (Cert.KernelMmNnIdeal.main (F := Ideal))) ⟨m, fun _ => 0, g⟩ (fun r => ∀ c : Dev Cert.KernelMmNnIdeal.nD,
          r.2.mem ((c.tc : Thread Cert.KernelMmNnIdeal.nD Cert.KernelMmNnIdeal.τ).loc Cert.KernelMmNnIdeal.main_v3) = v0 c
          ∧ r.2.mem ((c.tc : Thread Cert.KernelMmNnIdeal.nD Cert.KernelMmNnIdeal.τ).loc Cert.KernelMmNnIdeal.main_arg0) = m ((c.tc : Thread Cert.KernelMmNnIdeal.nD Cert.KernelMmNnIdeal.τ).loc Cert.KernelMmNnIdeal.main_arg0)
          ∧ r.2.mem ((c.tc : Thread Cert.KernelMmNnIdeal.nD Cert.KernelMmNnIdeal.τ).loc Cert.KernelMmNnIdeal.main_arg1) = m ((c.tc : Thread Cert.KernelMmNnIdeal.nD Cert.KernelMmNnIdeal.τ).loc Cert.KernelMmNnIdeal.main_arg1))
      ∧ θ_run (Cert.ReferenceMmNnIdeal.defs (F := Ideal)) (onTc (τ := Cert.ReferenceMmNnIdeal.τ) (Cert.ReferenceMmNnIdeal.main (F := Ideal))) ⟨m', fun _ => 0, g'⟩ (fun r => ∀ c : Dev Cert.ReferenceMmNnIdeal.nD,
          r.2.mem ((c.tc : Thread Cert.ReferenceMmNnIdeal.nD Cert.ReferenceMmNnIdeal.τ).loc Cert.ReferenceMmNnIdeal.main_v1) = v0 c
          ∧ r.2.mem ((c.tc : Thread Cert.ReferenceMmNnIdeal.nD Cert.ReferenceMmNnIdeal.τ).loc Cert.ReferenceMmNnIdeal.main_arg0) = m' ((c.tc : Thread Cert.ReferenceMmNnIdeal.nD Cert.ReferenceMmNnIdeal.τ).loc Cert.ReferenceMmNnIdeal.main_arg0)
          ∧ r.2.mem ((c.tc : Thread Cert.ReferenceMmNnIdeal.nD Cert.ReferenceMmNnIdeal.τ).loc Cert.ReferenceMmNnIdeal.main_arg1) = m' ((c.tc : Thread Cert.ReferenceMmNnIdeal.nD Cert.ReferenceMmNnIdeal.τ).loc Cert.ReferenceMmNnIdeal.main_arg1))

def preserves_KernelMmRes_KernelMmResIdeal : Prop :=
  True

def algebraic_KernelMmResIdeal_ReferenceMmResIdeal [hKernelMmResIdeal : Cert.KernelMmResIdeal.Facts] [hReferenceMmResIdeal : Cert.ReferenceMmResIdeal.Facts] : Prop :=
  ∀ (m : (ℓ : Loc Cert.KernelMmResIdeal.nD Cert.KernelMmResIdeal.τ Cert.KernelMmResIdeal.sig) → Buf (Elt Ideal) ℓ) (g : Dev Cert.KernelMmResIdeal.nD → PrngReg)
    (m' : (ℓ : Loc Cert.ReferenceMmResIdeal.nD Cert.ReferenceMmResIdeal.τ Cert.ReferenceMmResIdeal.sig) → Buf (Elt Ideal) ℓ) (g' : Dev Cert.ReferenceMmResIdeal.nD → PrngReg), Pre_KernelMmResIdeal m →
    (∀ c : Dev Cert.KernelMmResIdeal.nD,
      m' ((c.tc : Thread Cert.ReferenceMmResIdeal.nD Cert.ReferenceMmResIdeal.τ).loc Cert.ReferenceMmResIdeal.main_arg0) = m ((c.tc : Thread Cert.KernelMmResIdeal.nD Cert.KernelMmResIdeal.τ).loc Cert.KernelMmResIdeal.main_arg0)
      ∧ m' ((c.tc : Thread Cert.ReferenceMmResIdeal.nD Cert.ReferenceMmResIdeal.τ).loc Cert.ReferenceMmResIdeal.main_arg1) = m ((c.tc : Thread Cert.KernelMmResIdeal.nD Cert.KernelMmResIdeal.τ).loc Cert.KernelMmResIdeal.main_arg1)
      ∧ m' ((c.tc : Thread Cert.ReferenceMmResIdeal.nD Cert.ReferenceMmResIdeal.τ).loc Cert.ReferenceMmResIdeal.main_arg2) = m ((c.tc : Thread Cert.KernelMmResIdeal.nD Cert.KernelMmResIdeal.τ).loc Cert.KernelMmResIdeal.main_arg2)) →
    ∃ (v0 : (c : Dev Cert.KernelMmResIdeal.nD) → Buf (Elt Ideal) ((c.tc : Thread Cert.KernelMmResIdeal.nD Cert.KernelMmResIdeal.τ).loc Cert.KernelMmResIdeal.main_v5)),
      θ_run (Cert.KernelMmResIdeal.defs (F := Ideal)) (onTc (τ := Cert.KernelMmResIdeal.τ) (Cert.KernelMmResIdeal.main (F := Ideal))) ⟨m, fun _ => 0, g⟩ (fun r => ∀ c : Dev Cert.KernelMmResIdeal.nD,
          r.2.mem ((c.tc : Thread Cert.KernelMmResIdeal.nD Cert.KernelMmResIdeal.τ).loc Cert.KernelMmResIdeal.main_v5) = v0 c
          ∧ r.2.mem ((c.tc : Thread Cert.KernelMmResIdeal.nD Cert.KernelMmResIdeal.τ).loc Cert.KernelMmResIdeal.main_arg0) = m ((c.tc : Thread Cert.KernelMmResIdeal.nD Cert.KernelMmResIdeal.τ).loc Cert.KernelMmResIdeal.main_arg0)
          ∧ r.2.mem ((c.tc : Thread Cert.KernelMmResIdeal.nD Cert.KernelMmResIdeal.τ).loc Cert.KernelMmResIdeal.main_arg1) = m ((c.tc : Thread Cert.KernelMmResIdeal.nD Cert.KernelMmResIdeal.τ).loc Cert.KernelMmResIdeal.main_arg1)
          ∧ r.2.mem ((c.tc : Thread Cert.KernelMmResIdeal.nD Cert.KernelMmResIdeal.τ).loc Cert.KernelMmResIdeal.main_arg2) = m ((c.tc : Thread Cert.KernelMmResIdeal.nD Cert.KernelMmResIdeal.τ).loc Cert.KernelMmResIdeal.main_arg2))
      ∧ θ_run (Cert.ReferenceMmResIdeal.defs (F := Ideal)) (onTc (τ := Cert.ReferenceMmResIdeal.τ) (Cert.ReferenceMmResIdeal.main (F := Ideal))) ⟨m', fun _ => 0, g'⟩ (fun r => ∀ c : Dev Cert.ReferenceMmResIdeal.nD,
          r.2.mem ((c.tc : Thread Cert.ReferenceMmResIdeal.nD Cert.ReferenceMmResIdeal.τ).loc Cert.ReferenceMmResIdeal.main_v4) = v0 c
          ∧ r.2.mem ((c.tc : Thread Cert.ReferenceMmResIdeal.nD Cert.ReferenceMmResIdeal.τ).loc Cert.ReferenceMmResIdeal.main_arg0) = m' ((c.tc : Thread Cert.ReferenceMmResIdeal.nD Cert.ReferenceMmResIdeal.τ).loc Cert.ReferenceMmResIdeal.main_arg0)
          ∧ r.2.mem ((c.tc : Thread Cert.ReferenceMmResIdeal.nD Cert.ReferenceMmResIdeal.τ).loc Cert.ReferenceMmResIdeal.main_arg1) = m' ((c.tc : Thread Cert.ReferenceMmResIdeal.nD Cert.ReferenceMmResIdeal.τ).loc Cert.ReferenceMmResIdeal.main_arg1)
          ∧ r.2.mem ((c.tc : Thread Cert.ReferenceMmResIdeal.nD Cert.ReferenceMmResIdeal.τ).loc Cert.ReferenceMmResIdeal.main_arg2) = m' ((c.tc : Thread Cert.ReferenceMmResIdeal.nD Cert.ReferenceMmResIdeal.τ).loc Cert.ReferenceMmResIdeal.main_arg2))

def preserves_KernelMmNt_KernelMmNtIdeal : Prop :=
  True

def algebraic_KernelMmNtIdeal_ReferenceMmNtIdeal [hKernelMmNtIdeal : Cert.KernelMmNtIdeal.Facts] [hReferenceMmNtIdeal : Cert.ReferenceMmNtIdeal.Facts] : Prop :=
  ∀ (m : (ℓ : Loc Cert.KernelMmNtIdeal.nD Cert.KernelMmNtIdeal.τ Cert.KernelMmNtIdeal.sig) → Buf (Elt Ideal) ℓ) (g : Dev Cert.KernelMmNtIdeal.nD → PrngReg)
    (m' : (ℓ : Loc Cert.ReferenceMmNtIdeal.nD Cert.ReferenceMmNtIdeal.τ Cert.ReferenceMmNtIdeal.sig) → Buf (Elt Ideal) ℓ) (g' : Dev Cert.ReferenceMmNtIdeal.nD → PrngReg), Pre_KernelMmNtIdeal m →
    (∀ c : Dev Cert.KernelMmNtIdeal.nD,
      m' ((c.tc : Thread Cert.ReferenceMmNtIdeal.nD Cert.ReferenceMmNtIdeal.τ).loc Cert.ReferenceMmNtIdeal.main_arg0) = m ((c.tc : Thread Cert.KernelMmNtIdeal.nD Cert.KernelMmNtIdeal.τ).loc Cert.KernelMmNtIdeal.main_arg0)
      ∧ m' ((c.tc : Thread Cert.ReferenceMmNtIdeal.nD Cert.ReferenceMmNtIdeal.τ).loc Cert.ReferenceMmNtIdeal.main_arg1) = m ((c.tc : Thread Cert.KernelMmNtIdeal.nD Cert.KernelMmNtIdeal.τ).loc Cert.KernelMmNtIdeal.main_arg1)) →
    ∃ (v0 : (c : Dev Cert.KernelMmNtIdeal.nD) → Buf (Elt Ideal) ((c.tc : Thread Cert.KernelMmNtIdeal.nD Cert.KernelMmNtIdeal.τ).loc Cert.KernelMmNtIdeal.main_v4)),
      θ_run (Cert.KernelMmNtIdeal.defs (F := Ideal)) (onTc (τ := Cert.KernelMmNtIdeal.τ) (Cert.KernelMmNtIdeal.main (F := Ideal))) ⟨m, fun _ => 0, g⟩ (fun r => ∀ c : Dev Cert.KernelMmNtIdeal.nD,
          r.2.mem ((c.tc : Thread Cert.KernelMmNtIdeal.nD Cert.KernelMmNtIdeal.τ).loc Cert.KernelMmNtIdeal.main_v4) = v0 c
          ∧ r.2.mem ((c.tc : Thread Cert.KernelMmNtIdeal.nD Cert.KernelMmNtIdeal.τ).loc Cert.KernelMmNtIdeal.main_arg0) = m ((c.tc : Thread Cert.KernelMmNtIdeal.nD Cert.KernelMmNtIdeal.τ).loc Cert.KernelMmNtIdeal.main_arg0)
          ∧ r.2.mem ((c.tc : Thread Cert.KernelMmNtIdeal.nD Cert.KernelMmNtIdeal.τ).loc Cert.KernelMmNtIdeal.main_arg1) = m ((c.tc : Thread Cert.KernelMmNtIdeal.nD Cert.KernelMmNtIdeal.τ).loc Cert.KernelMmNtIdeal.main_arg1))
      ∧ θ_run (Cert.ReferenceMmNtIdeal.defs (F := Ideal)) (onTc (τ := Cert.ReferenceMmNtIdeal.τ) (Cert.ReferenceMmNtIdeal.main (F := Ideal))) ⟨m', fun _ => 0, g'⟩ (fun r => ∀ c : Dev Cert.ReferenceMmNtIdeal.nD,
          r.2.mem ((c.tc : Thread Cert.ReferenceMmNtIdeal.nD Cert.ReferenceMmNtIdeal.τ).loc Cert.ReferenceMmNtIdeal.main_v3) = v0 c
          ∧ r.2.mem ((c.tc : Thread Cert.ReferenceMmNtIdeal.nD Cert.ReferenceMmNtIdeal.τ).loc Cert.ReferenceMmNtIdeal.main_arg0) = m' ((c.tc : Thread Cert.ReferenceMmNtIdeal.nD Cert.ReferenceMmNtIdeal.τ).loc Cert.ReferenceMmNtIdeal.main_arg0)
          ∧ r.2.mem ((c.tc : Thread Cert.ReferenceMmNtIdeal.nD Cert.ReferenceMmNtIdeal.τ).loc Cert.ReferenceMmNtIdeal.main_arg1) = m' ((c.tc : Thread Cert.ReferenceMmNtIdeal.nD Cert.ReferenceMmNtIdeal.τ).loc Cert.ReferenceMmNtIdeal.main_arg1))

def preserves_KernelMmSum_KernelMmSumIdeal : Prop :=
  True

def algebraic_KernelMmSumIdeal_ReferenceMmSumIdeal [hKernelMmSumIdeal : Cert.KernelMmSumIdeal.Facts] [hReferenceMmSumIdeal : Cert.ReferenceMmSumIdeal.Facts] : Prop :=
  ∀ (m : (ℓ : Loc Cert.KernelMmSumIdeal.nD Cert.KernelMmSumIdeal.τ Cert.KernelMmSumIdeal.sig) → Buf (Elt Ideal) ℓ) (g : Dev Cert.KernelMmSumIdeal.nD → PrngReg)
    (m' : (ℓ : Loc Cert.ReferenceMmSumIdeal.nD Cert.ReferenceMmSumIdeal.τ Cert.ReferenceMmSumIdeal.sig) → Buf (Elt Ideal) ℓ) (g' : Dev Cert.ReferenceMmSumIdeal.nD → PrngReg), Pre_KernelMmSumIdeal m →
    (∀ c : Dev Cert.KernelMmSumIdeal.nD,
      m' ((c.tc : Thread Cert.ReferenceMmSumIdeal.nD Cert.ReferenceMmSumIdeal.τ).loc Cert.ReferenceMmSumIdeal.main_arg0) = m ((c.tc : Thread Cert.KernelMmSumIdeal.nD Cert.KernelMmSumIdeal.τ).loc Cert.KernelMmSumIdeal.main_arg0)
      ∧ m' ((c.tc : Thread Cert.ReferenceMmSumIdeal.nD Cert.ReferenceMmSumIdeal.τ).loc Cert.ReferenceMmSumIdeal.main_arg1) = m ((c.tc : Thread Cert.KernelMmSumIdeal.nD Cert.KernelMmSumIdeal.τ).loc Cert.KernelMmSumIdeal.main_arg1)
      ∧ m' ((c.tc : Thread Cert.ReferenceMmSumIdeal.nD Cert.ReferenceMmSumIdeal.τ).loc Cert.ReferenceMmSumIdeal.main_arg2) = m ((c.tc : Thread Cert.KernelMmSumIdeal.nD Cert.KernelMmSumIdeal.τ).loc Cert.KernelMmSumIdeal.main_arg2)
      ∧ m' ((c.tc : Thread Cert.ReferenceMmSumIdeal.nD Cert.ReferenceMmSumIdeal.τ).loc Cert.ReferenceMmSumIdeal.main_arg3) = m ((c.tc : Thread Cert.KernelMmSumIdeal.nD Cert.KernelMmSumIdeal.τ).loc Cert.KernelMmSumIdeal.main_arg3)) →
    ∃ (v0 : (c : Dev Cert.KernelMmSumIdeal.nD) → Buf (Elt Ideal) ((c.tc : Thread Cert.KernelMmSumIdeal.nD Cert.KernelMmSumIdeal.τ).loc Cert.KernelMmSumIdeal.main_v7)),
      θ_run (Cert.KernelMmSumIdeal.defs (F := Ideal)) (onTc (τ := Cert.KernelMmSumIdeal.τ) (Cert.KernelMmSumIdeal.main (F := Ideal))) ⟨m, fun _ => 0, g⟩ (fun r => ∀ c : Dev Cert.KernelMmSumIdeal.nD,
          r.2.mem ((c.tc : Thread Cert.KernelMmSumIdeal.nD Cert.KernelMmSumIdeal.τ).loc Cert.KernelMmSumIdeal.main_v7) = v0 c
          ∧ r.2.mem ((c.tc : Thread Cert.KernelMmSumIdeal.nD Cert.KernelMmSumIdeal.τ).loc Cert.KernelMmSumIdeal.main_arg0) = m ((c.tc : Thread Cert.KernelMmSumIdeal.nD Cert.KernelMmSumIdeal.τ).loc Cert.KernelMmSumIdeal.main_arg0)
          ∧ r.2.mem ((c.tc : Thread Cert.KernelMmSumIdeal.nD Cert.KernelMmSumIdeal.τ).loc Cert.KernelMmSumIdeal.main_arg1) = m ((c.tc : Thread Cert.KernelMmSumIdeal.nD Cert.KernelMmSumIdeal.τ).loc Cert.KernelMmSumIdeal.main_arg1)
          ∧ r.2.mem ((c.tc : Thread Cert.KernelMmSumIdeal.nD Cert.KernelMmSumIdeal.τ).loc Cert.KernelMmSumIdeal.main_arg2) = m ((c.tc : Thread Cert.KernelMmSumIdeal.nD Cert.KernelMmSumIdeal.τ).loc Cert.KernelMmSumIdeal.main_arg2)
          ∧ r.2.mem ((c.tc : Thread Cert.KernelMmSumIdeal.nD Cert.KernelMmSumIdeal.τ).loc Cert.KernelMmSumIdeal.main_arg3) = m ((c.tc : Thread Cert.KernelMmSumIdeal.nD Cert.KernelMmSumIdeal.τ).loc Cert.KernelMmSumIdeal.main_arg3))
      ∧ θ_run (Cert.ReferenceMmSumIdeal.defs (F := Ideal)) (onTc (τ := Cert.ReferenceMmSumIdeal.τ) (Cert.ReferenceMmSumIdeal.main (F := Ideal))) ⟨m', fun _ => 0, g'⟩ (fun r => ∀ c : Dev Cert.ReferenceMmSumIdeal.nD,
          r.2.mem ((c.tc : Thread Cert.ReferenceMmSumIdeal.nD Cert.ReferenceMmSumIdeal.τ).loc Cert.ReferenceMmSumIdeal.main_v6) = v0 c
          ∧ r.2.mem ((c.tc : Thread Cert.ReferenceMmSumIdeal.nD Cert.ReferenceMmSumIdeal.τ).loc Cert.ReferenceMmSumIdeal.main_arg0) = m' ((c.tc : Thread Cert.ReferenceMmSumIdeal.nD Cert.ReferenceMmSumIdeal.τ).loc Cert.ReferenceMmSumIdeal.main_arg0)
          ∧ r.2.mem ((c.tc : Thread Cert.ReferenceMmSumIdeal.nD Cert.ReferenceMmSumIdeal.τ).loc Cert.ReferenceMmSumIdeal.main_arg1) = m' ((c.tc : Thread Cert.ReferenceMmSumIdeal.nD Cert.ReferenceMmSumIdeal.τ).loc Cert.ReferenceMmSumIdeal.main_arg1)
          ∧ r.2.mem ((c.tc : Thread Cert.ReferenceMmSumIdeal.nD Cert.ReferenceMmSumIdeal.τ).loc Cert.ReferenceMmSumIdeal.main_arg2) = m' ((c.tc : Thread Cert.ReferenceMmSumIdeal.nD Cert.ReferenceMmSumIdeal.τ).loc Cert.ReferenceMmSumIdeal.main_arg2)
          ∧ r.2.mem ((c.tc : Thread Cert.ReferenceMmSumIdeal.nD Cert.ReferenceMmSumIdeal.τ).loc Cert.ReferenceMmSumIdeal.main_arg3) = m' ((c.tc : Thread Cert.ReferenceMmSumIdeal.nD Cert.ReferenceMmSumIdeal.τ).loc Cert.ReferenceMmSumIdeal.main_arg3))

def preserves_KernelMmTn_KernelMmTnIdeal : Prop :=
  True

def algebraic_KernelMmTnIdeal_ReferenceMmTnIdeal [hKernelMmTnIdeal : Cert.KernelMmTnIdeal.Facts] [hReferenceMmTnIdeal : Cert.ReferenceMmTnIdeal.Facts] : Prop :=
  ∀ (m : (ℓ : Loc Cert.KernelMmTnIdeal.nD Cert.KernelMmTnIdeal.τ Cert.KernelMmTnIdeal.sig) → Buf (Elt Ideal) ℓ) (g : Dev Cert.KernelMmTnIdeal.nD → PrngReg)
    (m' : (ℓ : Loc Cert.ReferenceMmTnIdeal.nD Cert.ReferenceMmTnIdeal.τ Cert.ReferenceMmTnIdeal.sig) → Buf (Elt Ideal) ℓ) (g' : Dev Cert.ReferenceMmTnIdeal.nD → PrngReg), Pre_KernelMmTnIdeal m →
    (∀ c : Dev Cert.KernelMmTnIdeal.nD,
      m' ((c.tc : Thread Cert.ReferenceMmTnIdeal.nD Cert.ReferenceMmTnIdeal.τ).loc Cert.ReferenceMmTnIdeal.main_arg0) = m ((c.tc : Thread Cert.KernelMmTnIdeal.nD Cert.KernelMmTnIdeal.τ).loc Cert.KernelMmTnIdeal.main_arg0)
      ∧ m' ((c.tc : Thread Cert.ReferenceMmTnIdeal.nD Cert.ReferenceMmTnIdeal.τ).loc Cert.ReferenceMmTnIdeal.main_arg1) = m ((c.tc : Thread Cert.KernelMmTnIdeal.nD Cert.KernelMmTnIdeal.τ).loc Cert.KernelMmTnIdeal.main_arg1)) →
    ∃ (v0 : (c : Dev Cert.KernelMmTnIdeal.nD) → Buf (Elt Ideal) ((c.tc : Thread Cert.KernelMmTnIdeal.nD Cert.KernelMmTnIdeal.τ).loc Cert.KernelMmTnIdeal.main_v6)),
      θ_run (Cert.KernelMmTnIdeal.defs (F := Ideal)) (onTc (τ := Cert.KernelMmTnIdeal.τ) (Cert.KernelMmTnIdeal.main (F := Ideal))) ⟨m, fun _ => 0, g⟩ (fun r => ∀ c : Dev Cert.KernelMmTnIdeal.nD,
          r.2.mem ((c.tc : Thread Cert.KernelMmTnIdeal.nD Cert.KernelMmTnIdeal.τ).loc Cert.KernelMmTnIdeal.main_v6) = v0 c
          ∧ r.2.mem ((c.tc : Thread Cert.KernelMmTnIdeal.nD Cert.KernelMmTnIdeal.τ).loc Cert.KernelMmTnIdeal.main_arg0) = m ((c.tc : Thread Cert.KernelMmTnIdeal.nD Cert.KernelMmTnIdeal.τ).loc Cert.KernelMmTnIdeal.main_arg0)
          ∧ r.2.mem ((c.tc : Thread Cert.KernelMmTnIdeal.nD Cert.KernelMmTnIdeal.τ).loc Cert.KernelMmTnIdeal.main_arg1) = m ((c.tc : Thread Cert.KernelMmTnIdeal.nD Cert.KernelMmTnIdeal.τ).loc Cert.KernelMmTnIdeal.main_arg1))
      ∧ θ_run (Cert.ReferenceMmTnIdeal.defs (F := Ideal)) (onTc (τ := Cert.ReferenceMmTnIdeal.τ) (Cert.ReferenceMmTnIdeal.main (F := Ideal))) ⟨m', fun _ => 0, g'⟩ (fun r => ∀ c : Dev Cert.ReferenceMmTnIdeal.nD,
          r.2.mem ((c.tc : Thread Cert.ReferenceMmTnIdeal.nD Cert.ReferenceMmTnIdeal.τ).loc Cert.ReferenceMmTnIdeal.main_v6) = v0 c
          ∧ r.2.mem ((c.tc : Thread Cert.ReferenceMmTnIdeal.nD Cert.ReferenceMmTnIdeal.τ).loc Cert.ReferenceMmTnIdeal.main_arg0) = m' ((c.tc : Thread Cert.ReferenceMmTnIdeal.nD Cert.ReferenceMmTnIdeal.τ).loc Cert.ReferenceMmTnIdeal.main_arg0)
          ∧ r.2.mem ((c.tc : Thread Cert.ReferenceMmTnIdeal.nD Cert.ReferenceMmTnIdeal.τ).loc Cert.ReferenceMmTnIdeal.main_arg1) = m' ((c.tc : Thread Cert.ReferenceMmTnIdeal.nD Cert.ReferenceMmTnIdeal.τ).loc Cert.ReferenceMmTnIdeal.main_arg1))

def preserves_KernelAdamw_KernelAdamwIdeal : Prop :=
  True

def algebraic_KernelAdamwIdeal_ReferenceAdamwIdeal [hKernelAdamwIdeal : Cert.KernelAdamwIdeal.Facts] [hReferenceAdamwIdeal : Cert.ReferenceAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg)
    (m' : (ℓ : Loc Cert.ReferenceAdamwIdeal.nD Cert.ReferenceAdamwIdeal.τ Cert.ReferenceAdamwIdeal.sig) → Buf (Elt Ideal) ℓ) (g' : Dev Cert.ReferenceAdamwIdeal.nD → PrngReg), Pre_KernelAdamwIdeal m →
    (∀ c : Dev Cert.KernelAdamwIdeal.nD,
      m' ((c.tc : Thread Cert.ReferenceAdamwIdeal.nD Cert.ReferenceAdamwIdeal.τ).loc Cert.ReferenceAdamwIdeal.main_arg0) = m ((c.tc : Thread Cert.KernelAdamwIdeal.nD Cert.KernelAdamwIdeal.τ).loc Cert.KernelAdamwIdeal.main_arg0)
      ∧ m' ((c.tc : Thread Cert.ReferenceAdamwIdeal.nD Cert.ReferenceAdamwIdeal.τ).loc Cert.ReferenceAdamwIdeal.main_arg1) = m ((c.tc : Thread Cert.KernelAdamwIdeal.nD Cert.KernelAdamwIdeal.τ).loc Cert.KernelAdamwIdeal.main_arg1)
      ∧ m' ((c.tc : Thread Cert.ReferenceAdamwIdeal.nD Cert.ReferenceAdamwIdeal.τ).loc Cert.ReferenceAdamwIdeal.main_arg2) = m ((c.tc : Thread Cert.KernelAdamwIdeal.nD Cert.KernelAdamwIdeal.τ).loc Cert.KernelAdamwIdeal.main_arg2)
      ∧ m' ((c.tc : Thread Cert.ReferenceAdamwIdeal.nD Cert.ReferenceAdamwIdeal.τ).loc Cert.ReferenceAdamwIdeal.main_arg3) = m ((c.tc : Thread Cert.KernelAdamwIdeal.nD Cert.KernelAdamwIdeal.τ).loc Cert.KernelAdamwIdeal.main_arg3)) →
    ∃ (v0 : (c : Dev Cert.KernelAdamwIdeal.nD) → Buf (Elt Ideal) ((c.tc : Thread Cert.KernelAdamwIdeal.nD Cert.KernelAdamwIdeal.τ).loc Cert.KernelAdamwIdeal.main_v0_0)) (v1 : (c : Dev Cert.KernelAdamwIdeal.nD) → Buf (Elt Ideal) ((c.tc : Thread Cert.KernelAdamwIdeal.nD Cert.KernelAdamwIdeal.τ).loc Cert.KernelAdamwIdeal.main_v0_1)) (v2 : (c : Dev Cert.KernelAdamwIdeal.nD) → Buf (Elt Ideal) ((c.tc : Thread Cert.KernelAdamwIdeal.nD Cert.KernelAdamwIdeal.τ).loc Cert.KernelAdamwIdeal.main_v0_2)) (v3 : (c : Dev Cert.KernelAdamwIdeal.nD) → Buf (Elt Ideal) ((c.tc : Thread Cert.KernelAdamwIdeal.nD Cert.KernelAdamwIdeal.τ).loc Cert.KernelAdamwIdeal.main_v0_3)),
      θ_run (Cert.KernelAdamwIdeal.defs (F := Ideal)) (onTc (τ := Cert.KernelAdamwIdeal.τ) (Cert.KernelAdamwIdeal.main (F := Ideal))) ⟨m, fun _ => 0, g⟩ (fun r => ∀ c : Dev Cert.KernelAdamwIdeal.nD,
          r.2.mem ((c.tc : Thread Cert.KernelAdamwIdeal.nD Cert.KernelAdamwIdeal.τ).loc Cert.KernelAdamwIdeal.main_v0_0) = v0 c
          ∧ r.2.mem ((c.tc : Thread Cert.KernelAdamwIdeal.nD Cert.KernelAdamwIdeal.τ).loc Cert.KernelAdamwIdeal.main_v0_1) = v1 c
          ∧ r.2.mem ((c.tc : Thread Cert.KernelAdamwIdeal.nD Cert.KernelAdamwIdeal.τ).loc Cert.KernelAdamwIdeal.main_v0_2) = v2 c
          ∧ r.2.mem ((c.tc : Thread Cert.KernelAdamwIdeal.nD Cert.KernelAdamwIdeal.τ).loc Cert.KernelAdamwIdeal.main_v0_3) = v3 c
          ∧ r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
          ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
          ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
          ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ θ_run (Cert.ReferenceAdamwIdeal.defs (F := Ideal)) (onTc (τ := Cert.ReferenceAdamwIdeal.τ) (Cert.ReferenceAdamwIdeal.main (F := Ideal))) ⟨m', fun _ => 0, g'⟩ (fun r => ∀ c : Dev Cert.ReferenceAdamwIdeal.nD,
          r.2.mem ((c.tc : Thread Cert.ReferenceAdamwIdeal.nD Cert.ReferenceAdamwIdeal.τ).loc Cert.ReferenceAdamwIdeal.main_arg1) = v0 c
          ∧ r.2.mem ((c.tc : Thread Cert.ReferenceAdamwIdeal.nD Cert.ReferenceAdamwIdeal.τ).loc Cert.ReferenceAdamwIdeal.main_v23) = v1 c
          ∧ r.2.mem ((c.tc : Thread Cert.ReferenceAdamwIdeal.nD Cert.ReferenceAdamwIdeal.τ).loc Cert.ReferenceAdamwIdeal.main_v4) = v2 c
          ∧ r.2.mem ((c.tc : Thread Cert.ReferenceAdamwIdeal.nD Cert.ReferenceAdamwIdeal.τ).loc Cert.ReferenceAdamwIdeal.main_v10) = v3 c
          ∧ r.2.mem ((c.tc : Thread Cert.ReferenceAdamwIdeal.nD Cert.ReferenceAdamwIdeal.τ).loc Cert.ReferenceAdamwIdeal.main_arg0) = m' ((c.tc : Thread Cert.ReferenceAdamwIdeal.nD Cert.ReferenceAdamwIdeal.τ).loc Cert.ReferenceAdamwIdeal.main_arg0)
          ∧ r.2.mem ((c.tc : Thread Cert.ReferenceAdamwIdeal.nD Cert.ReferenceAdamwIdeal.τ).loc Cert.ReferenceAdamwIdeal.main_arg1) = m' ((c.tc : Thread Cert.ReferenceAdamwIdeal.nD Cert.ReferenceAdamwIdeal.τ).loc Cert.ReferenceAdamwIdeal.main_arg1)
          ∧ r.2.mem ((c.tc : Thread Cert.ReferenceAdamwIdeal.nD Cert.ReferenceAdamwIdeal.τ).loc Cert.ReferenceAdamwIdeal.main_arg2) = m' ((c.tc : Thread Cert.ReferenceAdamwIdeal.nD Cert.ReferenceAdamwIdeal.τ).loc Cert.ReferenceAdamwIdeal.main_arg2)
          ∧ r.2.mem ((c.tc : Thread Cert.ReferenceAdamwIdeal.nD Cert.ReferenceAdamwIdeal.τ).loc Cert.ReferenceAdamwIdeal.main_arg3) = m' ((c.tc : Thread Cert.ReferenceAdamwIdeal.nD Cert.ReferenceAdamwIdeal.τ).loc Cert.ReferenceAdamwIdeal.main_arg3))

def Claim : Prop :=
  ∃ (hKernelLoss : Cert.KernelLoss.Facts) (hKernelLossIdeal : Cert.KernelLossIdeal.Facts) (hReferenceLossIdeal : Cert.ReferenceLossIdeal.Facts) (hKernelAttnQ : Cert.KernelAttnQ.Facts) (hKernelAttnQIdeal : Cert.KernelAttnQIdeal.Facts) (hReferenceAttnQIdeal : Cert.ReferenceAttnQIdeal.Facts) (hKernelAttnKv : Cert.KernelAttnKv.Facts) (hKernelAttnKvIdeal : Cert.KernelAttnKvIdeal.Facts) (hReferenceAttnKvIdeal : Cert.ReferenceAttnKvIdeal.Facts) (hKernelRms : Cert.KernelRms.Facts) (hKernelRmsIdeal : Cert.KernelRmsIdeal.Facts) (hReferenceRmsIdeal : Cert.ReferenceRmsIdeal.Facts) (hKernelQkNorm : Cert.KernelQkNorm.Facts) (hKernelQkNormIdeal : Cert.KernelQkNormIdeal.Facts) (hReferenceQkNormIdeal : Cert.ReferenceQkNormIdeal.Facts) (hKernelFfn : Cert.KernelFfn.Facts) (hKernelFfnIdeal : Cert.KernelFfnIdeal.Facts) (hReferenceFfnIdeal : Cert.ReferenceFfnIdeal.Facts) (hKernelForget : Cert.KernelForget.Facts) (hKernelForgetIdeal : Cert.KernelForgetIdeal.Facts) (hReferenceForgetIdeal : Cert.ReferenceForgetIdeal.Facts) (hKernelPool : Cert.KernelPool.Facts) (hKernelPoolIdeal : Cert.KernelPoolIdeal.Facts) (hReferencePoolIdeal : Cert.ReferencePoolIdeal.Facts) (hKernelAttnFwd : Cert.KernelAttnFwd.Facts) (hKernelAttnFwdIdeal : Cert.KernelAttnFwdIdeal.Facts) (hReferenceAttnFwdIdeal : Cert.ReferenceAttnFwdIdeal.Facts) (hKernelRmsFwd : Cert.KernelRmsFwd.Facts) (hKernelRmsFwdIdeal : Cert.KernelRmsFwdIdeal.Facts) (hReferenceRmsFwdIdeal : Cert.ReferenceRmsFwdIdeal.Facts) (hKernelPrep : Cert.KernelPrep.Facts) (hKernelPrepIdeal : Cert.KernelPrepIdeal.Facts) (hReferencePrepIdeal : Cert.ReferencePrepIdeal.Facts) (hKernelPoolFwd : Cert.KernelPoolFwd.Facts) (hKernelPoolFwdIdeal : Cert.KernelPoolFwdIdeal.Facts) (hReferencePoolFwdIdeal : Cert.ReferencePoolFwdIdeal.Facts) (hKernelUpGate : Cert.KernelUpGate.Facts) (hKernelUpGateIdeal : Cert.KernelUpGateIdeal.Facts) (hReferenceUpGateIdeal : Cert.ReferenceUpGateIdeal.Facts) (hKernelUp : Cert.KernelUp.Facts) (hKernelUpIdeal : Cert.KernelUpIdeal.Facts) (hReferenceUpIdeal : Cert.ReferenceUpIdeal.Facts) (hKernelForgetFwd : Cert.KernelForgetFwd.Facts) (hKernelForgetFwdIdeal : Cert.KernelForgetFwdIdeal.Facts) (hReferenceForgetFwdIdeal : Cert.ReferenceForgetFwdIdeal.Facts) (hKernelMmNn : Cert.KernelMmNn.Facts) (hKernelMmNnIdeal : Cert.KernelMmNnIdeal.Facts) (hReferenceMmNnIdeal : Cert.ReferenceMmNnIdeal.Facts) (hKernelMmRes : Cert.KernelMmRes.Facts) (hKernelMmResIdeal : Cert.KernelMmResIdeal.Facts) (hReferenceMmResIdeal : Cert.ReferenceMmResIdeal.Facts) (hKernelMmNt : Cert.KernelMmNt.Facts) (hKernelMmNtIdeal : Cert.KernelMmNtIdeal.Facts) (hReferenceMmNtIdeal : Cert.ReferenceMmNtIdeal.Facts) (hKernelMmSum : Cert.KernelMmSum.Facts) (hKernelMmSumIdeal : Cert.KernelMmSumIdeal.Facts) (hReferenceMmSumIdeal : Cert.ReferenceMmSumIdeal.Facts) (hKernelMmTn : Cert.KernelMmTn.Facts) (hKernelMmTnIdeal : Cert.KernelMmTnIdeal.Facts) (hReferenceMmTnIdeal : Cert.ReferenceMmTnIdeal.Facts) (hKernelAdamw : Cert.KernelAdamw.Facts) (hKernelAdamwIdeal : Cert.KernelAdamwIdeal.Facts) (hReferenceAdamwIdeal : Cert.ReferenceAdamwIdeal.Facts) (hPre_attention_finite : Cert.Pre_attention_finite.Facts) (hPre_rms_finite : Cert.Pre_rms_finite.Facts) (hPre_qk_norm_finite : Cert.Pre_qk_norm_finite.Facts) (hPre_ffn_finite : Cert.Pre_ffn_finite.Facts) (hPre_pool_finite : Cert.Pre_pool_finite.Facts) (hPre_attn_fwd_finite : Cert.Pre_attn_fwd_finite.Facts) (hPre_pool_fwd_finite : Cert.Pre_pool_fwd_finite.Facts) (hPre_up_gate_finite : Cert.Pre_up_gate_finite.Facts) (hPre_up_finite : Cert.Pre_up_finite.Facts),
    quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelAttnQ (hKernelAttnQ := hKernelAttnQ)
    ∧ quiescent_KernelAttnQIdeal (hKernelAttnQIdeal := hKernelAttnQIdeal)
    ∧ quiescent_KernelAttnQIdeal_pre_attention_finite (hKernelAttnQIdeal := hKernelAttnQIdeal) (hPre_attention_finite := hPre_attention_finite)
    ∧ quiescent_ReferenceAttnQIdeal (hReferenceAttnQIdeal := hReferenceAttnQIdeal)
    ∧ quiescent_ReferenceAttnQIdeal_pre_attention_finite (hReferenceAttnQIdeal := hReferenceAttnQIdeal) (hPre_attention_finite := hPre_attention_finite)
    ∧ quiescent_KernelAttnKv (hKernelAttnKv := hKernelAttnKv)
    ∧ quiescent_KernelAttnKvIdeal (hKernelAttnKvIdeal := hKernelAttnKvIdeal)
    ∧ quiescent_KernelAttnKvIdeal_pre_attention_finite (hKernelAttnKvIdeal := hKernelAttnKvIdeal) (hPre_attention_finite := hPre_attention_finite)
    ∧ quiescent_ReferenceAttnKvIdeal (hReferenceAttnKvIdeal := hReferenceAttnKvIdeal)
    ∧ quiescent_ReferenceAttnKvIdeal_pre_attention_finite (hReferenceAttnKvIdeal := hReferenceAttnKvIdeal) (hPre_attention_finite := hPre_attention_finite)
    ∧ quiescent_KernelRms (hKernelRms := hKernelRms)
    ∧ quiescent_KernelRmsIdeal (hKernelRmsIdeal := hKernelRmsIdeal)
    ∧ quiescent_KernelRmsIdeal_pre_rms_finite (hKernelRmsIdeal := hKernelRmsIdeal) (hPre_rms_finite := hPre_rms_finite)
    ∧ quiescent_ReferenceRmsIdeal (hReferenceRmsIdeal := hReferenceRmsIdeal)
    ∧ quiescent_ReferenceRmsIdeal_pre_rms_finite (hReferenceRmsIdeal := hReferenceRmsIdeal) (hPre_rms_finite := hPre_rms_finite)
    ∧ quiescent_KernelQkNorm (hKernelQkNorm := hKernelQkNorm)
    ∧ quiescent_KernelQkNormIdeal (hKernelQkNormIdeal := hKernelQkNormIdeal)
    ∧ quiescent_KernelQkNormIdeal_pre_qk_norm_finite (hKernelQkNormIdeal := hKernelQkNormIdeal) (hPre_qk_norm_finite := hPre_qk_norm_finite)
    ∧ quiescent_ReferenceQkNormIdeal (hReferenceQkNormIdeal := hReferenceQkNormIdeal)
    ∧ quiescent_ReferenceQkNormIdeal_pre_qk_norm_finite (hReferenceQkNormIdeal := hReferenceQkNormIdeal) (hPre_qk_norm_finite := hPre_qk_norm_finite)
    ∧ quiescent_KernelFfn (hKernelFfn := hKernelFfn)
    ∧ quiescent_KernelFfnIdeal (hKernelFfnIdeal := hKernelFfnIdeal)
    ∧ quiescent_KernelFfnIdeal_pre_ffn_finite (hKernelFfnIdeal := hKernelFfnIdeal) (hPre_ffn_finite := hPre_ffn_finite)
    ∧ quiescent_ReferenceFfnIdeal (hReferenceFfnIdeal := hReferenceFfnIdeal)
    ∧ quiescent_ReferenceFfnIdeal_pre_ffn_finite (hReferenceFfnIdeal := hReferenceFfnIdeal) (hPre_ffn_finite := hPre_ffn_finite)
    ∧ quiescent_KernelForget (hKernelForget := hKernelForget)
    ∧ quiescent_KernelForgetIdeal (hKernelForgetIdeal := hKernelForgetIdeal)
    ∧ quiescent_ReferenceForgetIdeal (hReferenceForgetIdeal := hReferenceForgetIdeal)
    ∧ quiescent_KernelPool (hKernelPool := hKernelPool)
    ∧ quiescent_KernelPoolIdeal (hKernelPoolIdeal := hKernelPoolIdeal)
    ∧ quiescent_KernelPoolIdeal_pre_pool_finite (hKernelPoolIdeal := hKernelPoolIdeal) (hPre_pool_finite := hPre_pool_finite)
    ∧ quiescent_ReferencePoolIdeal (hReferencePoolIdeal := hReferencePoolIdeal)
    ∧ quiescent_ReferencePoolIdeal_pre_pool_finite (hReferencePoolIdeal := hReferencePoolIdeal) (hPre_pool_finite := hPre_pool_finite)
    ∧ quiescent_KernelAttnFwd (hKernelAttnFwd := hKernelAttnFwd)
    ∧ quiescent_KernelAttnFwdIdeal (hKernelAttnFwdIdeal := hKernelAttnFwdIdeal)
    ∧ quiescent_KernelAttnFwdIdeal_pre_attn_fwd_finite (hKernelAttnFwdIdeal := hKernelAttnFwdIdeal) (hPre_attn_fwd_finite := hPre_attn_fwd_finite)
    ∧ quiescent_ReferenceAttnFwdIdeal (hReferenceAttnFwdIdeal := hReferenceAttnFwdIdeal)
    ∧ quiescent_ReferenceAttnFwdIdeal_pre_attn_fwd_finite (hReferenceAttnFwdIdeal := hReferenceAttnFwdIdeal) (hPre_attn_fwd_finite := hPre_attn_fwd_finite)
    ∧ quiescent_KernelRmsFwd (hKernelRmsFwd := hKernelRmsFwd)
    ∧ quiescent_KernelRmsFwdIdeal (hKernelRmsFwdIdeal := hKernelRmsFwdIdeal)
    ∧ quiescent_ReferenceRmsFwdIdeal (hReferenceRmsFwdIdeal := hReferenceRmsFwdIdeal)
    ∧ quiescent_KernelPrep (hKernelPrep := hKernelPrep)
    ∧ quiescent_KernelPrepIdeal (hKernelPrepIdeal := hKernelPrepIdeal)
    ∧ quiescent_ReferencePrepIdeal (hReferencePrepIdeal := hReferencePrepIdeal)
    ∧ quiescent_KernelPoolFwd (hKernelPoolFwd := hKernelPoolFwd)
    ∧ quiescent_KernelPoolFwdIdeal (hKernelPoolFwdIdeal := hKernelPoolFwdIdeal)
    ∧ quiescent_KernelPoolFwdIdeal_pre_pool_fwd_finite (hKernelPoolFwdIdeal := hKernelPoolFwdIdeal) (hPre_pool_fwd_finite := hPre_pool_fwd_finite)
    ∧ quiescent_ReferencePoolFwdIdeal (hReferencePoolFwdIdeal := hReferencePoolFwdIdeal)
    ∧ quiescent_ReferencePoolFwdIdeal_pre_pool_fwd_finite (hReferencePoolFwdIdeal := hReferencePoolFwdIdeal) (hPre_pool_fwd_finite := hPre_pool_fwd_finite)
    ∧ quiescent_KernelUpGate (hKernelUpGate := hKernelUpGate)
    ∧ quiescent_KernelUpGateIdeal (hKernelUpGateIdeal := hKernelUpGateIdeal)
    ∧ quiescent_KernelUpGateIdeal_pre_up_gate_finite (hKernelUpGateIdeal := hKernelUpGateIdeal) (hPre_up_gate_finite := hPre_up_gate_finite)
    ∧ quiescent_ReferenceUpGateIdeal (hReferenceUpGateIdeal := hReferenceUpGateIdeal)
    ∧ quiescent_ReferenceUpGateIdeal_pre_up_gate_finite (hReferenceUpGateIdeal := hReferenceUpGateIdeal) (hPre_up_gate_finite := hPre_up_gate_finite)
    ∧ quiescent_KernelUp (hKernelUp := hKernelUp)
    ∧ quiescent_KernelUpIdeal (hKernelUpIdeal := hKernelUpIdeal)
    ∧ quiescent_KernelUpIdeal_pre_up_finite (hKernelUpIdeal := hKernelUpIdeal) (hPre_up_finite := hPre_up_finite)
    ∧ quiescent_ReferenceUpIdeal (hReferenceUpIdeal := hReferenceUpIdeal)
    ∧ quiescent_ReferenceUpIdeal_pre_up_finite (hReferenceUpIdeal := hReferenceUpIdeal) (hPre_up_finite := hPre_up_finite)
    ∧ quiescent_KernelForgetFwd (hKernelForgetFwd := hKernelForgetFwd)
    ∧ quiescent_KernelForgetFwdIdeal (hKernelForgetFwdIdeal := hKernelForgetFwdIdeal)
    ∧ quiescent_ReferenceForgetFwdIdeal (hReferenceForgetFwdIdeal := hReferenceForgetFwdIdeal)
    ∧ quiescent_KernelMmNn (hKernelMmNn := hKernelMmNn)
    ∧ quiescent_KernelMmNnIdeal (hKernelMmNnIdeal := hKernelMmNnIdeal)
    ∧ quiescent_ReferenceMmNnIdeal (hReferenceMmNnIdeal := hReferenceMmNnIdeal)
    ∧ quiescent_KernelMmRes (hKernelMmRes := hKernelMmRes)
    ∧ quiescent_KernelMmResIdeal (hKernelMmResIdeal := hKernelMmResIdeal)
    ∧ quiescent_ReferenceMmResIdeal (hReferenceMmResIdeal := hReferenceMmResIdeal)
    ∧ quiescent_KernelMmNt (hKernelMmNt := hKernelMmNt)
    ∧ quiescent_KernelMmNtIdeal (hKernelMmNtIdeal := hKernelMmNtIdeal)
    ∧ quiescent_ReferenceMmNtIdeal (hReferenceMmNtIdeal := hReferenceMmNtIdeal)
    ∧ quiescent_KernelMmSum (hKernelMmSum := hKernelMmSum)
    ∧ quiescent_KernelMmSumIdeal (hKernelMmSumIdeal := hKernelMmSumIdeal)
    ∧ quiescent_ReferenceMmSumIdeal (hReferenceMmSumIdeal := hReferenceMmSumIdeal)
    ∧ quiescent_KernelMmTn (hKernelMmTn := hKernelMmTn)
    ∧ quiescent_KernelMmTnIdeal (hKernelMmTnIdeal := hKernelMmTnIdeal)
    ∧ quiescent_ReferenceMmTnIdeal (hReferenceMmTnIdeal := hReferenceMmTnIdeal)
    ∧ quiescent_KernelAdamw (hKernelAdamw := hKernelAdamw)
    ∧ quiescent_KernelAdamwIdeal (hKernelAdamwIdeal := hKernelAdamwIdeal)
    ∧ quiescent_ReferenceAdamwIdeal (hReferenceAdamwIdeal := hReferenceAdamwIdeal)
    ∧ preserves_KernelLoss_KernelLossIdeal
    ∧ algebraic_KernelLossIdeal_ReferenceLossIdeal (hKernelLossIdeal := hKernelLossIdeal) (hReferenceLossIdeal := hReferenceLossIdeal)
    ∧ preserves_KernelAttnQ_KernelAttnQIdeal
    ∧ algebraic_KernelAttnQIdeal_ReferenceAttnQIdeal_pre_attention_finite (hKernelAttnQIdeal := hKernelAttnQIdeal) (hReferenceAttnQIdeal := hReferenceAttnQIdeal) (hPre_attention_finite := hPre_attention_finite)
    ∧ preserves_KernelAttnKv_KernelAttnKvIdeal
    ∧ algebraic_KernelAttnKvIdeal_ReferenceAttnKvIdeal_pre_attention_finite (hKernelAttnKvIdeal := hKernelAttnKvIdeal) (hReferenceAttnKvIdeal := hReferenceAttnKvIdeal) (hPre_attention_finite := hPre_attention_finite)
    ∧ preserves_KernelRms_KernelRmsIdeal
    ∧ algebraic_KernelRmsIdeal_ReferenceRmsIdeal_pre_rms_finite (hKernelRmsIdeal := hKernelRmsIdeal) (hReferenceRmsIdeal := hReferenceRmsIdeal) (hPre_rms_finite := hPre_rms_finite)
    ∧ preserves_KernelQkNorm_KernelQkNormIdeal
    ∧ algebraic_KernelQkNormIdeal_ReferenceQkNormIdeal_pre_qk_norm_finite (hKernelQkNormIdeal := hKernelQkNormIdeal) (hReferenceQkNormIdeal := hReferenceQkNormIdeal) (hPre_qk_norm_finite := hPre_qk_norm_finite)
    ∧ preserves_KernelFfn_KernelFfnIdeal
    ∧ algebraic_KernelFfnIdeal_ReferenceFfnIdeal_pre_ffn_finite (hKernelFfnIdeal := hKernelFfnIdeal) (hReferenceFfnIdeal := hReferenceFfnIdeal) (hPre_ffn_finite := hPre_ffn_finite)
    ∧ preserves_KernelForget_KernelForgetIdeal
    ∧ algebraic_KernelForgetIdeal_ReferenceForgetIdeal (hKernelForgetIdeal := hKernelForgetIdeal) (hReferenceForgetIdeal := hReferenceForgetIdeal)
    ∧ preserves_KernelPool_KernelPoolIdeal
    ∧ algebraic_KernelPoolIdeal_ReferencePoolIdeal_pre_pool_finite (hKernelPoolIdeal := hKernelPoolIdeal) (hReferencePoolIdeal := hReferencePoolIdeal) (hPre_pool_finite := hPre_pool_finite)
    ∧ preserves_KernelAttnFwd_KernelAttnFwdIdeal
    ∧ algebraic_KernelAttnFwdIdeal_ReferenceAttnFwdIdeal_pre_attn_fwd_finite (hKernelAttnFwdIdeal := hKernelAttnFwdIdeal) (hReferenceAttnFwdIdeal := hReferenceAttnFwdIdeal) (hPre_attn_fwd_finite := hPre_attn_fwd_finite)
    ∧ preserves_KernelRmsFwd_KernelRmsFwdIdeal
    ∧ algebraic_KernelRmsFwdIdeal_ReferenceRmsFwdIdeal (hKernelRmsFwdIdeal := hKernelRmsFwdIdeal) (hReferenceRmsFwdIdeal := hReferenceRmsFwdIdeal)
    ∧ preserves_KernelPrep_KernelPrepIdeal
    ∧ algebraic_KernelPrepIdeal_ReferencePrepIdeal (hKernelPrepIdeal := hKernelPrepIdeal) (hReferencePrepIdeal := hReferencePrepIdeal)
    ∧ preserves_KernelPoolFwd_KernelPoolFwdIdeal
    ∧ algebraic_KernelPoolFwdIdeal_ReferencePoolFwdIdeal_pre_pool_fwd_finite (hKernelPoolFwdIdeal := hKernelPoolFwdIdeal) (hReferencePoolFwdIdeal := hReferencePoolFwdIdeal) (hPre_pool_fwd_finite := hPre_pool_fwd_finite)
    ∧ preserves_KernelUpGate_KernelUpGateIdeal
    ∧ algebraic_KernelUpGateIdeal_ReferenceUpGateIdeal_pre_up_gate_finite (hKernelUpGateIdeal := hKernelUpGateIdeal) (hReferenceUpGateIdeal := hReferenceUpGateIdeal) (hPre_up_gate_finite := hPre_up_gate_finite)
    ∧ preserves_KernelUp_KernelUpIdeal
    ∧ algebraic_KernelUpIdeal_ReferenceUpIdeal_pre_up_finite (hKernelUpIdeal := hKernelUpIdeal) (hReferenceUpIdeal := hReferenceUpIdeal) (hPre_up_finite := hPre_up_finite)
    ∧ preserves_KernelForgetFwd_KernelForgetFwdIdeal
    ∧ algebraic_KernelForgetFwdIdeal_ReferenceForgetFwdIdeal (hKernelForgetFwdIdeal := hKernelForgetFwdIdeal) (hReferenceForgetFwdIdeal := hReferenceForgetFwdIdeal)
    ∧ preserves_KernelMmNn_KernelMmNnIdeal
    ∧ algebraic_KernelMmNnIdeal_ReferenceMmNnIdeal (hKernelMmNnIdeal := hKernelMmNnIdeal) (hReferenceMmNnIdeal := hReferenceMmNnIdeal)
    ∧ preserves_KernelMmRes_KernelMmResIdeal
    ∧ algebraic_KernelMmResIdeal_ReferenceMmResIdeal (hKernelMmResIdeal := hKernelMmResIdeal) (hReferenceMmResIdeal := hReferenceMmResIdeal)
    ∧ preserves_KernelMmNt_KernelMmNtIdeal
    ∧ algebraic_KernelMmNtIdeal_ReferenceMmNtIdeal (hKernelMmNtIdeal := hKernelMmNtIdeal) (hReferenceMmNtIdeal := hReferenceMmNtIdeal)
    ∧ preserves_KernelMmSum_KernelMmSumIdeal
    ∧ algebraic_KernelMmSumIdeal_ReferenceMmSumIdeal (hKernelMmSumIdeal := hKernelMmSumIdeal) (hReferenceMmSumIdeal := hReferenceMmSumIdeal)
    ∧ preserves_KernelMmTn_KernelMmTnIdeal
    ∧ algebraic_KernelMmTnIdeal_ReferenceMmTnIdeal (hKernelMmTnIdeal := hKernelMmTnIdeal) (hReferenceMmTnIdeal := hReferenceMmTnIdeal)
    ∧ preserves_KernelAdamw_KernelAdamwIdeal
    ∧ algebraic_KernelAdamwIdeal_ReferenceAdamwIdeal (hKernelAdamwIdeal := hKernelAdamwIdeal) (hReferenceAdamwIdeal := hReferenceAdamwIdeal)
-- ==== Pre_attention_finite.lean ====
abbrev S2064x8x128 : Shape := ⟨3, ![2064, 8, 128]⟩
abbrev S8x2064 : Shape := ⟨2, ![8, 2064]⟩
abbrev S_ : Shape := ⟨0, ![]⟩

class Facts : Prop where
  bcast_S_S2064x8x128 : S_.BroadcastsInDim S2064x8x128 (![] : Fin 0 → Fin S2064x8x128.rank)
  reducesTo_S2064x8x128_S_d0_1_2 : S2064x8x128.ReducesTo [0, 1, 2] S_
  h_S_ : 0 < S_.numel
  bcast_S_S8x2064 : S_.BroadcastsInDim S8x2064 (![] : Fin 0 → Fin S8x2064.rank)
  reducesTo_S8x2064_S_d0_1 : S8x2064.ReducesTo [0, 1] S_

variable [Facts]

def fn_part1 {F : FTy → Type} [FloatOps F] (main_arg4 : FVec F S2064x8x128 .f32) (main_v13 : IVec S_ 1) (main_v16 : IVec S8x2064 1) : IVec S_ 1 :=
  let main_c_5 : IVec S_ 1 := constantI S_ 1 1#1
  let main_v17 : IVec S_ 1 := (fun x v => Host.reduce IntOp.andi x v reducesTo_S8x2064_S_d0_1 h_S_) main_v16 main_c_5
  let main_v18 : IVec S_ 1 := andi main_v13 main_v17
  let main_v19 : FVec F S2064x8x128 .f32 := Host.absf main_arg4
  let main_cst_6 : FVec F S_ .f32 := constant S_ .f32 0x7F800000#32
  let main_v20 : FVec F S2064x8x128 .f32 := broadcastInDim S2064x8x128 ![] bcast_S_S2064x8x128 main_cst_6
  let main_v21 : IVec S2064x8x128 1 := cmpf .olt main_v19 main_v20
  let main_c_7 : IVec S_ 1 := constantI S_ 1 1#1
  let main_v22 : IVec S_ 1 := (fun x v => Host.reduce IntOp.andi x v reducesTo_S2064x8x128_S_d0_1_2 h_S_) main_v21 main_c_7
  let main_v23 : IVec S_ 1 := andi main_v18 main_v22
  main_v23

def fn {F : FTy → Type} [FloatOps F] (main_arg0 : FVec F S2064x8x128 .f32) (main_arg1 : FVec F S2064x8x128 .f32) (main_arg2 : FVec F S2064x8x128 .f32) (main_arg3 : FVec F S8x2064 .f32) (main_arg4 : FVec F S2064x8x128 .f32) : IVec S_ 1 :=
  let main_v0 : FVec F S2064x8x128 .f32 := Host.absf main_arg0
  let main_cst : FVec F S_ .f32 := constant S_ .f32 0x7F800000#32
  let main_v1 : FVec F S2064x8x128 .f32 := broadcastInDim S2064x8x128 ![] bcast_S_S2064x8x128 main_cst
  let main_v2 : IVec S2064x8x128 1 := cmpf .olt main_v0 main_v1
  let main_c : IVec S_ 1 := constantI S_ 1 1#1
  let main_v3 : IVec S_ 1 := (fun x v => Host.reduce IntOp.andi x v reducesTo_S2064x8x128_S_d0_1_2 h_S_) main_v2 main_c
  let main_v4 : FVec F S2064x8x128 .f32 := Host.absf main_arg1
  let main_cst_0 : FVec F S_ .f32 := constant S_ .f32 0x7F800000#32
  let main_v5 : FVec F S2064x8x128 .f32 := broadcastInDim S2064x8x128 ![] bcast_S_S2064x8x128 main_cst_0
  let main_v6 : IVec S2064x8x128 1 := cmpf .olt main_v4 main_v5
  let main_c_1 : IVec S_ 1 := constantI S_ 1 1#1
  let main_v7 : IVec S_ 1 := (fun x v => Host.reduce IntOp.andi x v reducesTo_S2064x8x128_S_d0_1_2 h_S_) main_v6 main_c_1
  let main_v8 : IVec S_ 1 := andi main_v3 main_v7
  let main_v9 : FVec F S2064x8x128 .f32 := Host.absf main_arg2
  let main_cst_2 : FVec F S_ .f32 := constant S_ .f32 0x7F800000#32
  let main_v10 : FVec F S2064x8x128 .f32 := broadcastInDim S2064x8x128 ![] bcast_S_S2064x8x128 main_cst_2
  let main_v11 : IVec S2064x8x128 1 := cmpf .olt main_v9 main_v10
  let main_c_3 : IVec S_ 1 := constantI S_ 1 1#1
  let main_v12 : IVec S_ 1 := (fun x v => Host.reduce IntOp.andi x v reducesTo_S2064x8x128_S_d0_1_2 h_S_) main_v11 main_c_3
  let main_v13 : IVec S_ 1 := andi main_v8 main_v12
  let main_v14 : FVec F S8x2064 .f32 := Host.absf main_arg3
  let main_cst_4 : FVec F S_ .f32 := constant S_ .f32 0x7F800000#32
  let main_v15 : FVec F S8x2064 .f32 := broadcastInDim S8x2064 ![] bcast_S_S8x2064 main_cst_4
  let main_v16 : IVec S8x2064 1 := cmpf .olt main_v14 main_v15
  fn_part1 (F := F) main_arg4 main_v13 main_v16
-- ==== Pre_attn_fwd_finite.lean ====
abbrev S2064x8x128 : Shape := ⟨3, ![2064, 8, 128]⟩
abbrev S8x2064 : Shape := ⟨2, ![8, 2064]⟩
abbrev S_ : Shape := ⟨0, ![]⟩

class Facts : Prop where
  bcast_S_S2064x8x128 : S_.BroadcastsInDim S2064x8x128 (![] : Fin 0 → Fin S2064x8x128.rank)
  reducesTo_S2064x8x128_S_d0_1_2 : S2064x8x128.ReducesTo [0, 1, 2] S_
  h_S_ : 0 < S_.numel
  bcast_S_S8x2064 : S_.BroadcastsInDim S8x2064 (![] : Fin 0 → Fin S8x2064.rank)
  reducesTo_S8x2064_S_d0_1 : S8x2064.ReducesTo [0, 1] S_

variable [Facts]

def fn_part1 {F : FTy → Type} [FloatOps F] (main_v13 : IVec S_ 1) (main_v16 : IVec S8x2064 1) : IVec S_ 1 :=
  let main_c_5 : IVec S_ 1 := constantI S_ 1 1#1
  let main_v17 : IVec S_ 1 := (fun x v => Host.reduce IntOp.andi x v reducesTo_S8x2064_S_d0_1 h_S_) main_v16 main_c_5
  let main_v18 : IVec S_ 1 := andi main_v13 main_v17
  main_v18

def fn {F : FTy → Type} [FloatOps F] (main_arg0 : FVec F S2064x8x128 .f32) (main_arg1 : FVec F S2064x8x128 .f32) (main_arg2 : FVec F S2064x8x128 .f32) (main_arg3 : FVec F S8x2064 .f32) : IVec S_ 1 :=
  let main_v0 : FVec F S2064x8x128 .f32 := Host.absf main_arg0
  let main_cst : FVec F S_ .f32 := constant S_ .f32 0x7F800000#32
  let main_v1 : FVec F S2064x8x128 .f32 := broadcastInDim S2064x8x128 ![] bcast_S_S2064x8x128 main_cst
  let main_v2 : IVec S2064x8x128 1 := cmpf .olt main_v0 main_v1
  let main_c : IVec S_ 1 := constantI S_ 1 1#1
  let main_v3 : IVec S_ 1 := (fun x v => Host.reduce IntOp.andi x v reducesTo_S2064x8x128_S_d0_1_2 h_S_) main_v2 main_c
  let main_v4 : FVec F S2064x8x128 .f32 := Host.absf main_arg1
  let main_cst_0 : FVec F S_ .f32 := constant S_ .f32 0x7F800000#32
  let main_v5 : FVec F S2064x8x128 .f32 := broadcastInDim S2064x8x128 ![] bcast_S_S2064x8x128 main_cst_0
  let main_v6 : IVec S2064x8x128 1 := cmpf .olt main_v4 main_v5
  let main_c_1 : IVec S_ 1 := constantI S_ 1 1#1
  let main_v7 : IVec S_ 1 := (fun x v => Host.reduce IntOp.andi x v reducesTo_S2064x8x128_S_d0_1_2 h_S_) main_v6 main_c_1
  let main_v8 : IVec S_ 1 := andi main_v3 main_v7
  let main_v9 : FVec F S2064x8x128 .f32 := Host.absf main_arg2
  let main_cst_2 : FVec F S_ .f32 := constant S_ .f32 0x7F800000#32
  let main_v10 : FVec F S2064x8x128 .f32 := broadcastInDim S2064x8x128 ![] bcast_S_S2064x8x128 main_cst_2
  let main_v11 : IVec S2064x8x128 1 := cmpf .olt main_v9 main_v10
  let main_c_3 : IVec S_ 1 := constantI S_ 1 1#1
  let main_v12 : IVec S_ 1 := (fun x v => Host.reduce IntOp.andi x v reducesTo_S2064x8x128_S_d0_1_2 h_S_) main_v11 main_c_3
  let main_v13 : IVec S_ 1 := andi main_v8 main_v12
  let main_v14 : FVec F S8x2064 .f32 := Host.absf main_arg3
  let main_cst_4 : FVec F S_ .f32 := constant S_ .f32 0x7F800000#32
  let main_v15 : FVec F S8x2064 .f32 := broadcastInDim S8x2064 ![] bcast_S_S8x2064 main_cst_4
  let main_v16 : IVec S8x2064 1 := cmpf .olt main_v14 main_v15
  fn_part1 (F := F) main_v13 main_v16
-- ==== Pre_ffn_finite.lean ====
abbrev S2064x2048 : Shape := ⟨2, ![2064, 2048]⟩
abbrev S2048x5632 : Shape := ⟨2, ![2048, 5632]⟩
abbrev S5632x2048 : Shape := ⟨2, ![5632, 2048]⟩
abbrev S_ : Shape := ⟨0, ![]⟩

class Facts : Prop where
  bcast_S_S2064x2048 : S_.BroadcastsInDim S2064x2048 (![] : Fin 0 → Fin S2064x2048.rank)
  reducesTo_S2064x2048_S_d0_1 : S2064x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S2064x2048 .f32) (main_v13 : IVec S_ 1) (main_v16 : IVec S5632x2048 1) : IVec S_ 1 :=
  let main_c_5 : IVec S_ 1 := constantI S_ 1 1#1
  let main_v17 : IVec S_ 1 := (fun x v => Host.reduce IntOp.andi x v reducesTo_S5632x2048_S_d0_1 h_S_) main_v16 main_c_5
  let main_v18 : IVec S_ 1 := andi main_v13 main_v17
  let main_v19 : FVec F S2064x2048 .f32 := Host.absf main_arg4
  let main_cst_6 : FVec F S_ .f32 := constant S_ .f32 0x7F800000#32
  let main_v20 : FVec F S2064x2048 .f32 := broadcastInDim S2064x2048 ![] bcast_S_S2064x2048 main_cst_6
  let main_v21 : IVec S2064x2048 1 := cmpf .olt main_v19 main_v20
  let main_c_7 : IVec S_ 1 := constantI S_ 1 1#1
  let main_v22 : IVec S_ 1 := (fun x v => Host.reduce IntOp.andi x v reducesTo_S2064x2048_S_d0_1 h_S_) main_v21 main_c_7
  let main_v23 : IVec S_ 1 := andi main_v18 main_v22
  main_v23

def fn {F : FTy → Type} [FloatOps F] (main_arg0 : FVec F S2064x2048 .f32) (main_arg1 : FVec F S2048x5632 .f32) (main_arg2 : FVec F S2048x5632 .f32) (main_arg3 : FVec F S5632x2048 .f32) (main_arg4 : FVec F S2064x2048 .f32) : IVec S_ 1 :=
  let main_v0 : FVec F S2064x2048 .f32 := Host.absf main_arg0
  let main_cst : FVec F S_ .f32 := constant S_ .f32 0x7F800000#32
  let main_v1 : FVec F S2064x2048 .f32 := broadcastInDim S2064x2048 ![] bcast_S_S2064x2048 main_cst
  let main_v2 : IVec S2064x2048 1 := cmpf .olt main_v0 main_v1
  let main_c : IVec S_ 1 := constantI S_ 1 1#1
  let main_v3 : IVec S_ 1 := (fun x v => Host.reduce IntOp.andi x v reducesTo_S2064x2048_S_d0_1 h_S_) main_v2 main_c
  let main_v4 : FVec F S2048x5632 .f32 := Host.absf main_arg1
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  let main_v14 : FVec F S5632x2048 .f32 := Host.absf main_arg3
  let main_cst_4 : FVec F S_ .f32 := constant S_ .f32 0x7F800000#32
  let main_v15 : FVec F S5632x2048 .f32 := broadcastInDim S5632x2048 ![] bcast_S_S5632x2048 main_cst_4
  let main_v16 : IVec S5632x2048 1 := cmpf .olt main_v14 main_v15
  fn_part1 (F := F) main_arg4 main_v13 main_v16
-- ==== Pre_pool_finite.lean ====
abbrev S2064x1024 : Shape := ⟨2, ![2064, 1024]⟩
abbrev S4x256x256 : Shape := ⟨3, ![4, 256, 256]⟩
abbrev S1x1024 : Shape := ⟨2, ![1, 1024]⟩
abbrev S_ : Shape := ⟨0, ![]⟩

class Facts : Prop where
  bcast_S_S2064x1024 : S_.BroadcastsInDim S2064x1024 (![] : Fin 0 → Fin S2064x1024.rank)
  reducesTo_S2064x1024_S_d0_1 : S2064x1024.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S2064x1024 1) : IVec S_ 1 :=
  let main_c_5 : IVec S_ 1 := constantI S_ 1 1#1
  let main_v17 : IVec S_ 1 := (fun x v => Host.reduce IntOp.andi x v reducesTo_S2064x1024_S_d0_1 h_S_) main_v16 main_c_5
  let main_v18 : IVec S_ 1 := andi main_v13 main_v17
  main_v18

def fn {F : FTy → Type} [FloatOps F] (main_arg0 : FVec F S2064x1024 .f32) (main_arg1 : FVec F S4x256x256 .f32) (main_arg2 : FVec F S1x1024 .f32) (main_arg3 : FVec F S2064x1024 .f32) : IVec S_ 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_c : IVec S_ 1 := constantI S_ 1 1#1
  let main_v3 : IVec S_ 1 := (fun x v => Host.reduce IntOp.andi x v reducesTo_S2064x1024_S_d0_1 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S2064x1024 .f32 := Host.absf main_arg3
  let main_cst_4 : FVec F S_ .f32 := constant S_ .f32 0x7F800000#32
  let main_v15 : FVec F S2064x1024 .f32 := broadcastInDim S2064x1024 ![] bcast_S_S2064x1024 main_cst_4
  let main_v16 : IVec S2064x1024 1 := cmpf .olt main_v14 main_v15
  fn_part1 (F := F) main_v13 main_v16
-- ==== Pre_pool_fwd_finite.lean ====
abbrev S2064x1024 : Shape := ⟨2, ![2064, 1024]⟩
abbrev S4x256x256 : Shape := ⟨3, ![4, 256, 256]⟩
abbrev S1x1024 : Shape := ⟨2, ![1, 1024]⟩
abbrev S_ : Shape := ⟨0, ![]⟩

class Facts : Prop where
  bcast_S_S2064x1024 : S_.BroadcastsInDim S2064x1024 (![] : Fin 0 → Fin S2064x1024.rank)
  reducesTo_S2064x1024_S_d0_1 : S2064x1024.ReducesTo [0, 1] S_
  h_S_ : 0 < S_.numel

variable [Facts]

def fn {F : FTy → Type} [FloatOps F] (main_arg0 : FVec F S2064x1024 .f32) (main_arg1 : FVec F S4x256x256 .f32) (main_arg2 : FVec F S1x1024 .f32) : IVec S_ 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_c : IVec S_ 1 := constantI S_ 1 1#1
  let main_v3 : IVec S_ 1 := (fun x v => Host.reduce IntOp.andi x v reducesTo_S2064x1024_S_d0_1 h_S_) main_v2 main_c
  main_v3
-- ==== Pre_qk_norm_finite.lean ====
abbrev S2064x1024 : Shape := ⟨2, ![2064, 1024]⟩
abbrev S2064x4104 : Shape := ⟨2, ![2064, 4104]⟩
abbrev S1x128 : Shape := ⟨2, ![1, 128]⟩
abbrev S_ : Shape := ⟨0, ![]⟩

class Facts : Prop where
  bcast_S_S2064x1024 : S_.BroadcastsInDim S2064x1024 (![] : Fin 0 → Fin S2064x1024.rank)
  reducesTo_S2064x1024_S_d0_1 : S2064x1024.ReducesTo [0, 1] S_
  h_S_ : 0 < S_.numel
  bcast_S_S2064x4104 : S_.BroadcastsInDim S2064x4104 (![] : Fin 0 → Fin S2064x4104.rank)
  reducesTo_S2064x4104_S_d0_1 : S2064x4104.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S2064x1024 .f32) (main_arg1 : FVec F S2064x1024 .f32) (main_arg2 : FVec F S2064x4104 .f32) (main_arg3 : FVec F S1x128 .f32) (main_arg4 : FVec F S1x128 .f32) : IVec S_ 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_c : IVec S_ 1 := constantI S_ 1 1#1
  let main_v3 : IVec S_ 1 := (fun x v => Host.reduce IntOp.andi x v reducesTo_S2064x1024_S_d0_1 h_S_) main_v2 main_c
  let main_v4 : FVec F S2064x1024 .f32 := Host.absf main_arg1
  let main_cst_0 : FVec F S_ .f32 := constant S_ .f32 0x7F800000#32
  let main_v5 : FVec F S2064x1024 .f32 := broadcastInDim S2064x1024 ![] bcast_S_S2064x1024 main_cst_0
  let main_v6 : IVec S2064x1024 1 := cmpf .olt main_v4 main_v5
  let main_c_1 : IVec S_ 1 := constantI S_ 1 1#1
  let main_v7 : IVec S_ 1 := (fun x v => Host.reduce IntOp.andi x v reducesTo_S2064x1024_S_d0_1 h_S_) main_v6 main_c_1
  let main_v8 : IVec S_ 1 := andi main_v3 main_v7
  let main_v9 : FVec F S2064x4104 .f32 := Host.absf main_arg2
  let main_cst_2 : FVec F S_ .f32 := constant S_ .f32 0x7F800000#32
  let main_v10 : FVec F S2064x4104 .f32 := broadcastInDim S2064x4104 ![] bcast_S_S2064x4104 main_cst_2
  let main_v11 : IVec S2064x4104 1 := cmpf .olt main_v9 main_v10
  let main_c_3 : IVec S_ 1 := constantI S_ 1 1#1
  let main_v12 : IVec S_ 1 := (fun x v => Host.reduce IntOp.andi x v reducesTo_S2064x4104_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_v13 main_v16
-- ==== Pre_rms_finite.lean ====
abbrev S2064x2048 : Shape := ⟨2, ![2064, 2048]⟩
abbrev S1x2048 : Shape := ⟨2, ![1, 2048]⟩
abbrev S_ : Shape := ⟨0, ![]⟩

class Facts : Prop where
  bcast_S_S2064x2048 : S_.BroadcastsInDim S2064x2048 (![] : Fin 0 → Fin S2064x2048.rank)
  reducesTo_S2064x2048_S_d0_1 : S2064x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S2064x2048 .f32) (main_arg1 : FVec F S1x2048 .f32) (main_arg2 : FVec F S2064x2048 .f32) (main_arg3 : FVec F S2064x2048 .f32) : IVec S_ 1 :=
  let main_v0 : FVec F S2064x2048 .f32 := Host.absf main_arg0
  let main_cst : FVec F S_ .f32 := constant S_ .f32 0x7F800000#32
  let main_v1 : FVec F S2064x2048 .f32 := broadcastInDim S2064x2048 ![] bcast_S_S2064x2048 main_cst
  let main_v2 : IVec S2064x2048 1 := cmpf .olt main_v0 main_v1
  let main_c : IVec S_ 1 := constantI S_ 1 1#1
  let main_v3 : IVec S_ 1 := (fun x v => Host.reduce IntOp.andi x v reducesTo_S2064x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2064x2048 .f32 := Host.absf main_arg2
  let main_cst_2 : FVec F S_ .f32 := constant S_ .f32 0x7F800000#32
  let main_v10 : FVec F S2064x2048 .f32 := broadcastInDim S2064x2048 ![] bcast_S_S2064x2048 main_cst_2
  let main_v11 : IVec S2064x2048 1 := cmpf .olt main_v9 main_v10
  let main_c_3 : IVec S_ 1 := constantI S_ 1 1#1
  let main_v12 : IVec S_ 1 := (fun x v => Host.reduce IntOp.andi x v reducesTo_S2064x2048_S_d0_1 h_S_) main_v11 main_c_3
  let main_v13 : IVec S_ 1 := andi main_v8 main_v12
  main_v13
-- ==== Pre_up_finite.lean ====
abbrev S2064x2048 : Shape := ⟨2, ![2064, 2048]⟩
abbrev S2048x5632 : Shape := ⟨2, ![2048, 5632]⟩
abbrev S_ : Shape := ⟨0, ![]⟩

class Facts : Prop where
  bcast_S_S2064x2048 : S_.BroadcastsInDim S2064x2048 (![] : Fin 0 → Fin S2064x2048.rank)
  reducesTo_S2064x2048_S_d0_1 : S2064x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S2064x2048 .f32) (main_arg1 : FVec F S2048x5632 .f32) (main_arg2 : FVec F S2048x5632 .f32) : IVec S_ 1 :=
  let main_v0 : FVec F S2064x2048 .f32 := Host.absf main_arg0
  let main_cst : FVec F S_ .f32 := constant S_ .f32 0x7F800000#32
  let main_v1 : FVec F S2064x2048 .f32 := broadcastInDim S2064x2048 ![] bcast_S_S2064x2048 main_cst
  let main_v2 : IVec S2064x2048 1 := cmpf .olt main_v0 main_v1
  let main_c : IVec S_ 1 := constantI S_ 1 1#1
  let main_v3 : IVec S_ 1 := (fun x v => Host.reduce IntOp.andi x v reducesTo_S2064x2048_S_d0_1 h_S_) main_v2 main_c
  let main_v4 : FVec F S2048x5632 .f32 := Host.absf main_arg2
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  main_v8
-- ==== Pre_up_gate_finite.lean ====
abbrev S2064x2048 : Shape := ⟨2, ![2064, 2048]⟩
abbrev S2064x5632 : Shape := ⟨2, ![2064, 5632]⟩
abbrev S2048x5632 : Shape := ⟨2, ![2048, 5632]⟩
abbrev S_ : Shape := ⟨0, ![]⟩

class Facts : Prop where
  bcast_S_S2064x2048 : S_.BroadcastsInDim S2064x2048 (![] : Fin 0 → Fin S2064x2048.rank)
  reducesTo_S2064x2048_S_d0_1 : S2064x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S2064x2048 .f32) (main_arg1 : FVec F S2064x5632 .f32) (main_arg2 : FVec F S2048x5632 .f32) : IVec S_ 1 :=
  let main_v0 : FVec F S2064x2048 .f32 := Host.absf main_arg0
  let main_cst : FVec F S_ .f32 := constant S_ .f32 0x7F800000#32
  let main_v1 : FVec F S2064x2048 .f32 := broadcastInDim S2064x2048 ![] bcast_S_S2064x2048 main_cst
  let main_v2 : IVec S2064x2048 1 := cmpf .olt main_v0 main_v1
  let main_c : IVec S_ 1 := constantI S_ 1 1#1
  let main_v3 : IVec S_ 1 := (fun x v => Host.reduce IntOp.andi x v reducesTo_S2064x2048_S_d0_1 h_S_) main_v2 main_c
  let main_v4 : FVec F S2048x5632 .f32 := Host.absf main_arg2
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  main_v8
-- ==== KernelLoss.lean ====
abbrev S2064x2048 : Shape := ⟨2, ![2064, 2048]⟩
abbrev S2048x2048 : Shape := ⟨2, ![2048, 2048]⟩
abbrev S_ : Shape := ⟨0, ![]⟩
abbrev S112x2048 : Shape := ⟨2, ![112, 2048]⟩
abbrev S16x2048 : Shape := ⟨2, ![16, 2048]⟩
abbrev S2176x2048 : Shape := ⟨2, ![2176, 2048]⟩
abbrev S1x1 : Shape := ⟨2, ![1, 1]⟩
abbrev S272x2048 : Shape := ⟨2, ![272, 2048]⟩
abbrev S272x1 : Shape := ⟨2, ![272, 1]⟩
abbrev S272 : Shape := ⟨1, ![272]⟩
abbrev S1 : Shape := ⟨1, ![1]⟩

abbrev nBuf : Space → Nat
  | .hbm => 11
  | .vmem => 9
  | .smem => 0
  | _ => 0

abbrev bufTy : (tb : Table) → Fin (tcTables nBuf tb) → BufTy
  | .hbm, ⟨0, _⟩ => ⟨S2064x2048, .f32⟩
  | .hbm, ⟨1, _⟩ => ⟨S2048x2048, .f32⟩
  | .hbm, ⟨2, _⟩ => ⟨S_, .f32⟩
  | .hbm, ⟨3, _⟩ => ⟨S112x2048, .f32⟩
  | .hbm, ⟨4, _⟩ => ⟨S_, .f32⟩
  | .hbm, ⟨5, _⟩ => ⟨S16x2048, .f32⟩
  | .hbm, ⟨6, _⟩ => ⟨S2176x2048, .f32⟩
  | .hbm, ⟨7, _⟩ => ⟨S2176x2048, .f32⟩
  | .hbm, ⟨8, _⟩ => ⟨S2176x2048, .f32⟩
  | .hbm, ⟨9, _⟩ => ⟨S2176x2048, .bf16⟩
  | .hbm, ⟨10, _⟩ => ⟨S1x1, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S272x2048, .f32⟩
  | .local _ .vmem, ⟨5, _⟩ => ⟨S272x2048, .f32⟩
  | .local _ .vmem, ⟨6, _⟩ => ⟨S272x2048, .bf16⟩
  | .local _ .vmem, ⟨7, _⟩ => ⟨S272x2048, .bf16⟩
  | .local _ .vmem, ⟨8, _⟩ => ⟨S1x1, .f32⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_11 : BitVec 32 := 0#32
  let v32 : BitVec 1 := Scalar.cmpi .ne v31 c0_i32_11
  v32

def k0_cond2 (i : grid0.Coords) : BitVec 1 :=
  let arg0 : BitVec 32 := BitVec.ofNat 32 (i 0).val
  let c0_i32_12 : BitVec 32 := 0#32
  let v33 : BitVec 1 := Scalar.cmpi .sgt arg0 c0_i32_12
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceLossIdeal.lean ====
abbrev S2064x2048 : Shape := ⟨2, ![2064, 2048]⟩
abbrev S2048x2048 : Shape := ⟨2, ![2048, 2048]⟩
abbrev S_ : Shape := ⟨0, ![]⟩
abbrev S2048 : Shape := ⟨1, ![2048]⟩
abbrev S2176x2048 : Shape := ⟨2, ![2176, 2048]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2064x2048, .f32⟩
  | .hbm, ⟨28, _⟩ => ⟨S_, .i32⟩
  | .hbm, ⟨29, _⟩ => ⟨S_, .f32⟩
  | .hbm, ⟨30, _⟩ => ⟨S2176x2048, .f32⟩
  | .hbm, ⟨31, _⟩ => ⟨S2176x2048, .bf16⟩
  | .hbm, ⟨32, _⟩ => ⟨S1x1, .f32⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== KernelAttnQ.lean ====
abbrev S2064x8x128 : Shape := ⟨3, ![2064, 8, 128]⟩
abbrev S8x2064 : Shape := ⟨2, ![8, 2064]⟩
abbrev S_ : Shape := ⟨0, ![]⟩
abbrev S8x112 : Shape := ⟨2, ![8, 112]⟩
abbrev S8x2176 : Shape := ⟨2, ![8, 2176]⟩
abbrev S112x8x128 : Shape := ⟨3, ![112, 8, 128]⟩
abbrev S2176x8x128 : Shape := ⟨3, ![2176, 8, 128]⟩
abbrev S8x2176x1 : Shape := ⟨3, ![8, 2176, 1]⟩
abbrev S8x1x2176 : Shape := ⟨3, ![8, 1, 2176]⟩
abbrev S2176x1024 : Shape := ⟨2, ![2176, 1024]⟩
abbrev S2176x1 : Shape := ⟨2, ![2176, 1]⟩
abbrev S1x2176 : Shape := ⟨2, ![1, 2176]⟩
abbrev S8x2176x2176 : Shape := ⟨3, ![8, 2176, 2176]⟩
abbrev S2176x2176 : Shape := ⟨2, ![2176, 2176]⟩
abbrev S128x256 : Shape := ⟨2, ![128, 256]⟩
abbrev S2176x256 : Shape := ⟨2, ![2176, 256]⟩
abbrev S2x128x1 : Shape := ⟨3, ![2, 128, 1]⟩
abbrev S2x1x2176 : Shape := ⟨3, ![2, 1, 2176]⟩
abbrev S2x1x128 : Shape := ⟨3, ![2, 1, 128]⟩
abbrev S128x1 : Shape := ⟨2, ![128, 1]⟩
abbrev S1x256 : Shape := ⟨2, ![1, 256]⟩
abbrev S256x128 : Shape := ⟨2, ![256, 128]⟩
abbrev S128x128 : Shape := ⟨2, ![128, 128]⟩
abbrev S1x128x1 : Shape := ⟨3, ![1, 128, 1]⟩
abbrev S1x1x256 : Shape := ⟨3, ![1, 1, 256]⟩
abbrev S128 : Shape := ⟨1, ![128]⟩
abbrev S1x128 : Shape := ⟨2, ![1, 128]⟩
abbrev S1x1x128 : Shape := ⟨3, ![1, 1, 128]⟩
abbrev S1x512 : Shape := ⟨2, ![1, 512]⟩
abbrev S512x128 : Shape := ⟨2, ![512, 128]⟩
abbrev S128x512 : Shape := ⟨2, ![128, 512]⟩
abbrev S1x1x512 : Shape := ⟨3, ![1, 1, 512]⟩
abbrev S1x768 : Shape := ⟨2, ![1, 768]⟩
abbrev S768x128 : Shape := ⟨2, ![768, 128]⟩
abbrev S128x768 : Shape := ⟨2, ![128, 768]⟩
abbrev S1x1x768 : Shape := ⟨3, ![1, 1, 768]⟩
abbrev S1x1024 : Shape := ⟨2, ![1, 1024]⟩
abbrev S1024x128 : Shape := ⟨2, ![1024, 128]⟩
abbrev S128x1024 : Shape := ⟨2, ![128, 1024]⟩
abbrev S1x1x1024 : Shape := ⟨3, ![1, 1, 1024]⟩
abbrev S1x1280 : Shape := ⟨2, ![1, 1280]⟩
abbrev S1280x128 : Shape := ⟨2, ![1280, 128]⟩
abbrev S128x1280 : Shape := ⟨2, ![128, 1280]⟩
abbrev S1x1x1280 : Shape := ⟨3, ![1, 1, 1280]⟩
abbrev S1x1536 : Shape := ⟨2, ![1, 1536]⟩
abbrev S1536x128 : Shape := ⟨2, ![1536, 128]⟩
abbrev S128x1536 : Shape := ⟨2, ![128, 1536]⟩
abbrev S1x1x1536 : Shape := ⟨3, ![1, 1, 1536]⟩
abbrev S1x1792 : Shape := ⟨2, ![1, 1792]⟩
abbrev S1792x128 : Shape := ⟨2, ![1792, 128]⟩
abbrev S128x1792 : Shape := ⟨2, ![128, 1792]⟩
abbrev S1x1x1792 : Shape := ⟨3, ![1, 1, 1792]⟩
abbrev S1x2048 : Shape := ⟨2, ![1, 2048]⟩
abbrev S2048x128 : Shape := ⟨2, ![2048, 128]⟩
abbrev S128x2048 : Shape := ⟨2, ![128, 2048]⟩
abbrev S1x1x2048 : Shape := ⟨3, ![1, 1, 2048]⟩
abbrev S2176x128 : Shape := ⟨2, ![2176, 128]⟩
abbrev S128x2176 : Shape := ⟨2, ![128, 2176]⟩
abbrev S1x1x2176 : Shape := ⟨3, ![1, 1, 2176]⟩

abbrev nBuf : Space → Nat
  | .hbm => 62
  | .vmem => 20
  | .smem => 0
  | _ => 0

abbrev bufTy : (tb : Table) → Fin (tcTables nBuf tb) → BufTy
  | .hbm, ⟨0, _⟩ => ⟨S2064x8x128, .f32⟩
  | .hbm, ⟨1, _⟩ => ⟨S2064x8x128, .f32⟩
  | .hbm, ⟨2, _⟩ => ⟨S2064x8x128, .f32⟩
  | .hbm, ⟨3, _⟩ => ⟨S8x2064, .f32⟩
  | .hbm, ⟨4, _⟩ => ⟨S2064x8x128, .f32⟩
  | .hbm, ⟨5, _⟩ => ⟨S_, .f32⟩
  | .hbm, ⟨6, _⟩ => ⟨S8x112, .f32⟩
  | .hbm, ⟨7, _⟩ => ⟨S8x2176, .f32⟩
  | .hbm, ⟨8, _⟩ => ⟨S_, .f32⟩
  | .hbm, ⟨9, _⟩ => ⟨S112x8x128, .f32⟩
  | .hbm, ⟨10, _⟩ => ⟨S2176x8x128, .f32⟩
  | .hbm, ⟨11, _⟩ => ⟨S2176x8x128, .bf16⟩
  | .hbm, ⟨12, _⟩ => ⟨S_, .f32⟩
  | .hbm, ⟨13, _⟩ => ⟨S112x8x128, .f32⟩
  | .hbm, ⟨14, _⟩ => ⟨S2176x8x128, .f32⟩
  | .hbm, ⟨15, _⟩ => ⟨S2176x8x128, .bf16⟩
  | .hbm, ⟨16, _⟩ => ⟨S_, .f32⟩
  | .hbm, ⟨17, _⟩ => ⟨S112x8x128, .f32⟩
  | .hbm, ⟨18, _⟩ => ⟨S2176x8x128, .f32⟩
  | .hbm, ⟨19, _⟩ => ⟨S2176x8x128, .bf16⟩
  | .hbm, ⟨20, _⟩ => ⟨S_, .f32⟩
  | .hbm, ⟨21, _⟩ => ⟨S112x8x128, .f32⟩
  | .hbm, ⟨22, _⟩ => ⟨S2176x8x128, .f32⟩
  | .hbm, ⟨23, _⟩ => ⟨S2176x8x128, .bf16⟩
  | .hbm, ⟨24, _⟩ => ⟨S8x2176x1, .f32⟩
  | .hbm, ⟨25, _⟩ => ⟨S8x1x2176, .f32⟩
  | .hbm, ⟨26, _⟩ => ⟨S2176x1024, .bf16⟩
  | .hbm, ⟨27, _⟩ => ⟨S2176x1024, .bf16⟩
  | .hbm, ⟨28, _⟩ => ⟨S2176x1024, .bf16⟩
  | .hbm, ⟨29, _⟩ => ⟨S2176x1024, .bf16⟩
  | .hbm, ⟨30, _⟩ => ⟨S2176x1, .i32⟩
  | .hbm, ⟨31, _⟩ => ⟨S1x2176, .i32⟩
  | .hbm, ⟨32, _⟩ => ⟨S8x2176x2176, .f32⟩
  | .hbm, ⟨33, _⟩ => ⟨S_, .f32⟩
  | .hbm, ⟨34, _⟩ => ⟨S8x2176x2176, .f32⟩
  | .hbm, ⟨35, _⟩ => ⟨S8x2176x2176, .f32⟩
  | .hbm, ⟨36, _⟩ => ⟨S8x2176x2176, .f32⟩
  | .hbm, ⟨37, _⟩ => ⟨S8x2176x2176, .f32⟩
  | .hbm, ⟨38, _⟩ => ⟨S8x2176x2176, .f32⟩
  | .hbm, ⟨39, _⟩ => ⟨S8x2176x2176, .f32⟩
  | .hbm, ⟨40, _⟩ => ⟨S2176x2176, .i32⟩
  | .hbm, ⟨41, _⟩ => ⟨S2176x2176, .i32⟩
  | .hbm, ⟨42, _⟩ => ⟨S2176x2176, .i1⟩
  | .hbm, ⟨43, _⟩ => ⟨S_, .f32⟩
  | .hbm, ⟨44, _⟩ => ⟨S_, .f32⟩
  | .hbm, ⟨45, _⟩ => ⟨S8x2176x2176, .i1⟩
  | .hbm, ⟨46, _⟩ => ⟨S8x2176x2176, .f32⟩
  | .hbm, ⟨47, _⟩ => ⟨S8x2176x2176, .f32⟩
  | .hbm, ⟨48, _⟩ => ⟨S_, .f32⟩
  | .hbm, ⟨49, _⟩ => ⟨S8x2176, .f32⟩
  | .hbm, ⟨50, _⟩ => ⟨S8x2176x1, .f32⟩
  | .hbm, ⟨51, _⟩ => ⟨S8x2176x2176, .f32⟩
  | .hbm, ⟨52, _⟩ => ⟨S8x2176x2176, .f32⟩
  | .hbm, ⟨53, _⟩ => ⟨S8x2176x2176, .f32⟩
  | .hbm, ⟨54, _⟩ => ⟨S_, .f32⟩
  | .hbm, ⟨55, _⟩ => ⟨S8x2176, .f32⟩
  | .hbm, ⟨56, _⟩ => ⟨S8x2176x1, .f32⟩
  | .hbm, ⟨57, _⟩ => ⟨S8x2176x1, .f32⟩
  | .hbm, ⟨58, _⟩ => ⟨S8x2176x1, .f32⟩
  | .hbm, ⟨59, _⟩ => ⟨S2176x1024, .f32⟩
  | .hbm, ⟨60, _⟩ => ⟨S8x1x2176, .f32⟩
  | .hbm, ⟨61, _⟩ => ⟨S8x2176x1, .f32⟩
  | .local _ .vmem, ⟨0, _⟩ => ⟨S128x256, .bf16⟩
  | .local _ .vmem, ⟨1, _⟩ => ⟨S128x256, .bf16⟩
  | .local _ .vmem, ⟨2, _⟩ => ⟨S2176x256, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S128x256, .bf16⟩
  | .local _ .vmem, ⟨7, _⟩ => ⟨S128x256, .bf16⟩
  | .local _ .vmem, ⟨8, _⟩ => ⟨S2x128x1, .f32⟩
  | .local _ .vmem, ⟨9, _⟩ => ⟨S2x128x1, .f32⟩
  | .local _ .vmem, ⟨10, _⟩ => ⟨S2x1x2176, .f32⟩
  | .local _ .vmem, ⟨11, _⟩ => ⟨S2x1x2176, .f32⟩
  | .local _ .vmem, ⟨12, _⟩ => ⟨S2x128x1, .f32⟩
  | .local _ .vmem, ⟨13, _⟩ => ⟨S2x128x1, .f32⟩
  | .local _ .vmem, ⟨14, _⟩ => ⟨S128x256, .f32⟩
  | .local _ .vmem, ⟨15, _⟩ => ⟨S128x256, .f32⟩
  | .local _ .vmem, ⟨16, _⟩ => ⟨S2x1x128, .f32⟩
  | .local _ .vmem, ⟨17, _⟩ => ⟨S2x1x128, .f32⟩
  | .local _ .vmem, ⟨18, _⟩ => ⟨S2x128x1, .f32⟩
  | .local _ .vmem, ⟨19, _⟩ => ⟨S2x128x1, .f32⟩
  | _, _ => ⟨S2064x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev main_v42_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c2_i32_1 : BitVec 32 := 2#32
  let v5 : BitVec 1 := Scalar.cmpi .sge arg1 c2_i32_1
  let c4_i32 : BitVec 32 := 4#32
  let v6 : BitVec 1 := Scalar.cmpi .slt arg1 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c4_i32_3 : BitVec 32 := 4#32
  let v10 : BitVec 1 := Scalar.cmpi .sge arg1 c4_i32_3
  let c6_i32 : BitVec 32 := 6#32
  let v11 : BitVec 1 := Scalar.cmpi .slt arg1 c6_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c6_i32_5 : BitVec 32 := 6#32
  let v15 : BitVec 1 := Scalar.cmpi .sge arg1 c6_i32_5
  let c8_i32 : BitVec 32 := 8#32
  let v16 : BitVec 1 := Scalar.cmpi .slt arg1 c8_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg1 : BitVec 32 := BitVec.ofNat 32 (i 1).val
  let c8_i32_7 : BitVec 32 := 8#32
  let v20 : BitVec 1 := Scalar.cmpi .sge arg1 c8_i32_7
  let c10_i32 : BitVec 32 := 10#32
  let v21 : BitVec 1 := Scalar.cmpi .slt arg1 c10_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg1 : BitVec 32 := BitVec.ofNat 32 (i 1).val
  let c10_i32_9 : BitVec 32 := 10#32
  let v25 : BitVec 1 := Scalar.cmpi .sge arg1 c10_i32_9
  let c12_i32 : BitVec 32 := 12#32
  let v26 : BitVec 1 := Scalar.cmpi .slt arg1 c12_i32
  let v27 : BitVec 1 := Scalar.andi v25 v26
  let v28 : BitVec 32 := Scalar.extui v27
  let c0_i32_10 : BitVec 32 := 0#32
  let v29 : BitVec 1 := Scalar.cmpi .ne v28 c0_i32_10
  v29

def k0_cond7 (i : grid0.Coords) : BitVec 1 :=
  let arg1 : BitVec 32 := BitVec.ofNat 32 (i 1).val
  let c12_i32_11 : BitVec 32 := 12#32
  let v30 : BitVec 1 := Scalar.cmpi .sge arg1 c12_i32_11
  let c14_i32 : BitVec 32 := 14#32
  let v31 : BitVec 1 := Scalar.cmpi .slt arg1 c14_i32
  let v32 : BitVec 1 := Scalar.andi v30 v31
  let v33 : BitVec 32 := Scalar.extui v32
  let c0_i32_12 : BitVec 32 := 0#32
  let v34 : BitVec 1 := Scalar.cmpi .ne v33 c0_i32_12
  v34

def k0_cond8 (i : grid0.Coords) : BitVec 1 :=
  let arg1 : BitVec 32 := BitVec.ofNat 32 (i 1).val
  let c14_i32_13 : BitVec 32 := 14#32
  let v35 : BitVec 1 := Scalar.cmpi .sge arg1 c14_i32_13
  let c16_i32 : BitVec 32 := 16#32
  let v36 : BitVec 1 := Scalar.cmpi .slt arg1 c16_i32
  let v37 : BitVec 1 := Scalar.andi v35 v36
  let v38 : BitVec 32 := Scalar.extui v37
  let c0_i32_14 : BitVec 32 := 0#32
  let v39 : BitVec 1 := Scalar.cmpi .ne v38 c0_i32_14
  v39

def k0_cond9 (i : grid0.Coords) : BitVec 1 :=
  let arg1 : BitVec 32 := BitVec.ofNat 32 (i 1).val
  let c16_i32_15 : BitVec 32 := 16#32
  let v40 : BitVec 1 := Scalar.cmpi .sge arg1 c16_i32_15
  let c17_i32 : BitVec 32 := 17#32
  let v41 : BitVec 1 := Scalar.cmpi .slt arg1 c17_i32
  let v42 : BitVec 1 := Scalar.andi v40 v41
  let v43 : BitVec 32 := Scalar.extui v42
  let c0_i32_16 : BitVec 32 := 0#32
  let v44 : BitVec 1 := Scalar.cmpi .ne v43 c0_i32_16
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelAttnQIdeal.lean ====
variable {F : FTy → Type} [FloatOps F] [Named F]
def κ : String → Option EReal := fun
  | "mask" => some ⊥
  | _ => none
-- ==== ReferenceAttnQIdeal.lean ====
abbrev S2064x8x128 : Shape := ⟨3, ![2064, 8, 128]⟩
abbrev S8x2064 : Shape := ⟨2, ![8, 2064]⟩
abbrev S2064 : Shape := ⟨1, ![2064]⟩
abbrev S8x2064x2064 : Shape := ⟨3, ![8, 2064, 2064]⟩
abbrev S_ : Shape := ⟨0, ![]⟩
abbrev S8x2064x1 : Shape := ⟨3, ![8, 2064, 1]⟩
abbrev S8x1x2064 : Shape := ⟨3, ![8, 1, 2064]⟩
abbrev S2064x1 : Shape := ⟨2, ![2064, 1]⟩
abbrev S1x2064 : Shape := ⟨2, ![1, 2064]⟩
abbrev S2064x2064 : Shape := ⟨2, ![2064, 2064]⟩
abbrev S8x128x2064 : Shape := ⟨3, ![8, 128, 2064]⟩
abbrev S8x2064x128 : Shape := ⟨3, ![8, 2064, 128]⟩
abbrev S2064x8 : Shape := ⟨2, ![2064, 8]⟩
abbrev S2064x1024 : Shape := ⟨2, ![2064, 1024]⟩
abbrev S2176x1024 : Shape := ⟨2, ![2176, 1024]⟩
abbrev S8x2176 : Shape := ⟨2, ![8, 2176]⟩
abbrev S8x1x2176 : Shape := ⟨3, ![8, 1, 2176]⟩
abbrev S8x2176x1 : Shape := ⟨3, ![8, 2176, 1]⟩

abbrev nBuf : Space → Nat
  | .hbm => 150
  | .vmem => 0
  | .smem => 0
  | _ => 0

abbrev hbmTy0_0 (i : Nat) : BufTy := match i % 128 with
  | 0 => ⟨S2064x8x128, .f32⟩
  | 1 => ⟨S2064x8x128, .f32⟩
  | 2 => ⟨S2064x8x128, .f32⟩
  | 3 => ⟨S8x2064, .f32⟩
  | 4 => ⟨S2064x8x128, .f32⟩
  | 5 => ⟨S2064, .i32⟩
  | 6 => ⟨S8x2064x2064, .f32⟩
  | 7 => ⟨S_, .f32⟩
  | 8 => ⟨S8x2064x2064, .f32⟩
  | 9 => ⟨S8x2064x2064, .f32⟩
  | 10 => ⟨S8x2064x1, .f32⟩
  | 11 => ⟨S8x1x2064, .f32⟩
  | 12 => ⟨S8x2064x2064, .f32⟩
  | 13 => ⟨S8x2064x2064, .f32⟩
  | 14 => ⟨S8x2064x2064, .f32⟩
  | 15 => ⟨S8x2064x2064, .f32⟩
  | 16 => ⟨S2064x1, .i32⟩
  | 17 => ⟨S1x2064, .i32⟩
  | 18 => ⟨S2064x2064, .i32⟩
  | 19 => ⟨S2064x2064, .i32⟩
  | 20 => ⟨S2064x2064, .i1⟩
  | 21 => ⟨S_, .f32⟩
  | 22 => ⟨S_, .f32⟩
  | 23 => ⟨S8x2064x2064, .i1⟩
  | 24 => ⟨S8x2064x2064, .f32⟩
  | 25 => ⟨S8x2064x2064, .f32⟩
  | 26 => ⟨S_, .f32⟩
  | 27 => ⟨S8x2064x2064, .f32⟩
  | 28 => ⟨S_, .f32⟩
  | 29 => ⟨S8x2064, .f32⟩
  | 30 => ⟨S8x2064x1, .f32⟩
  | 31 => ⟨S8x2064x2064, .f32⟩
  | 32 => ⟨S8x2064x2064, .i1⟩
  | 33 => ⟨S8x2064x2064, .f32⟩
  | 34 => ⟨S_, .f32⟩
  | 35 => ⟨S8x2064, .f32⟩
  | 36 => ⟨S_, .f32⟩
  | 37 => ⟨S8x2064, .f32⟩
  | 38 => ⟨S8x2064, .f32⟩
  | 39 => ⟨S_, .f32⟩
  | 40 => ⟨S8x2064, .f32⟩
  | 41 => ⟨S8x2064, .i1⟩
  | 42 => ⟨S_, .f32⟩
  | 43 => ⟨S8x2064, .f32⟩
  | 44 => ⟨S8x2064, .i1⟩
  | 45 => ⟨S_, .f32⟩
  | 46 => ⟨S8x2064, .f32⟩
  | 47 => ⟨S_, .f32⟩
  | 48 => ⟨S8x2064, .f32⟩
  | 49 => ⟨S_, .f32⟩
  | 50 => ⟨S8x2064, .f32⟩
  | 51 => ⟨S8x2064, .f32⟩
  | 52 => ⟨S8x2064, .f32⟩
  | 53 => ⟨S8x2064x1, .f32⟩
  | 54 => ⟨S8x2064x2064, .f32⟩
  | 55 => ⟨S8x2064x2064, .f32⟩
  | 56 => ⟨S8x2064x2064, .f32⟩
  | 57 => ⟨S_, .f32⟩
  | 58 => ⟨S8x2064, .f32⟩
  | 59 => ⟨S8x2064x1, .f32⟩
  | 60 => ⟨S8x2064x2064, .f32⟩
  | 61 => ⟨S8x2064x2064, .f32⟩
  | 62 => ⟨S8x2064x1, .f32⟩
  | 63 => ⟨S_, .f32⟩
  | 64 => ⟨S8x2064x1, .f32⟩
  | 65 => ⟨S8x2064x1, .f32⟩
  | 66 => ⟨S8x128x2064, .f32⟩
  | 67 => ⟨S2064x8x128, .f32⟩
  | 68 => ⟨S8x128x2064, .f32⟩
  | 69 => ⟨S8x2064x2064, .f32⟩
  | 70 => ⟨S8x2064x2064, .f32⟩
  | 71 => ⟨S8x2064x2064, .f32⟩
  | 72 => ⟨S8x2064x2064, .f32⟩
  | 73 => ⟨S_, .f32⟩
  | 74 => ⟨S8x2064, .f32⟩
  | 75 => ⟨S8x2064x1, .f32⟩
  | 76 => ⟨S8x2064x1, .f32⟩
  | 77 => ⟨S8x2064x2064, .f32⟩
  | 78 => ⟨S8x2064x2064, .f32⟩
  | 79 => ⟨S_, .f32⟩
  | 80 => ⟨S8x2064, .f32⟩
  | 81 => ⟨S8x2064x2064, .f32⟩
  | 82 => ⟨S8x2064x2064, .f32⟩
  | 83 => ⟨S8x2064x2064, .f32⟩
  | 84 => ⟨S_, .f32⟩
  | 85 => ⟨S8x2064x2064, .f32⟩
  | 86 => ⟨S8x2064x2064, .f32⟩
  | 87 => ⟨S_, .f32⟩
  | 88 => ⟨S8x2064, .f32⟩
  | 89 => ⟨S8x2064x1, .f32⟩
  | 90 => ⟨S_, .f32⟩
  | 91 => ⟨S8x2064, .f32⟩
  | 92 => ⟨S_, .f32⟩
  | 93 => ⟨S8x2064x2064, .f32⟩
  | 94 => ⟨S8x2064x2064, .f32⟩
  | 95 => ⟨S8x2064x128, .f32⟩
  | 96 => ⟨S2064x8x128, .f32⟩
  | 97 => ⟨S2064, .i32⟩
  | 98 => ⟨S8x2064x2064, .f32⟩
  | 99 => ⟨S_, .f32⟩
  | 100 => ⟨S8x2064x2064, .f32⟩
  | 101 => ⟨S8x2064x2064, .f32⟩
  | 102 => ⟨S8x2064x1, .f32⟩
  | 103 => ⟨S8x1x2064, .f32⟩
  | 104 => ⟨S8x2064x2064, .f32⟩
  | 105 => ⟨S8x2064x2064, .f32⟩
  | 106 => ⟨S8x2064x2064, .f32⟩
  | 107 => ⟨S8x2064x2064, .f32⟩
  | 108 => ⟨S2064x1, .i32⟩
  | 109 => ⟨S1x2064, .i32⟩
  | 110 => ⟨S2064x2064, .i32⟩
  | 111 => ⟨S2064x2064, .i32⟩
  | 112 => ⟨S2064x2064, .i1⟩
  | 113 => ⟨S_, .f32⟩
  | 114 => ⟨S_, .f32⟩
  | 115 => ⟨S8x2064x2064, .i1⟩
  | 116 => ⟨S8x2064x2064, .f32⟩
  | 117 => ⟨S8x2064x2064, .f32⟩
  | 118 => ⟨S_, .f32⟩
  | 119 => ⟨S8x2064, .f32⟩
  | 120 => ⟨S_, .f32⟩
  | 121 => ⟨S8x2064, .f32⟩
  | 122 => ⟨S8x2064, .f32⟩
  | 123 => ⟨S8x2064x1, .f32⟩
  | 124 => ⟨S8x2064x2064, .f32⟩
  | 125 => ⟨S8x2064x2064, .f32⟩
  | 126 => ⟨S8x2064x2064, .f32⟩
  | 127 => ⟨S_, .f32⟩
  | _ => ⟨S2064x8x128, .f32⟩

abbrev hbmTy0_1 (i : Nat) : BufTy := match i % 128 with
  | 0 => ⟨S8x2064, .f32⟩
  | 1 => ⟨S8x2064x1, .f32⟩
  | 2 => ⟨S8x2064x2064, .f32⟩
  | 3 => ⟨S8x2064x2064, .f32⟩
  | 4 => ⟨S8x128x2064, .f32⟩
  | 5 => ⟨S2064x8x128, .f32⟩
  | 6 => ⟨S2064x8x128, .f32⟩
  | 7 => ⟨S_, .f32⟩
  | 8 => ⟨S2064x8, .f32⟩
  | 9 => ⟨S8x2064, .f32⟩
  | 10 => ⟨S2064x1024, .f32⟩
  | 11 => ⟨S_, .i32⟩
  | 12 => ⟨S_, .f32⟩
  | 13 => ⟨S2176x1024, .f32⟩
  | 14 => ⟨S_, .i32⟩
  | 15 => ⟨S_, .f32⟩
  | 16 => ⟨S8x2176, .f32⟩
  | 17 => ⟨S8x1x2176, .f32⟩
  | 18 => ⟨S_, .i32⟩
  | 19 => ⟨S_, .f32⟩
  | 20 => ⟨S8x2176, .f32⟩
  | 21 => ⟨S8x2176x1, .f32⟩
  | _ => ⟨S2064x8x128, .f32⟩

abbrev hbmTy (i : Nat) : BufTy := match i / 128 with
  | 0 => hbmTy0_0 i
  | 1 => hbmTy0_1 i
  | _ => ⟨S2064x8x128, .f32⟩

abbrev bufTy : (tb : Table) → Fin (tcTables nBuf tb) → BufTy
  | .hbm, ⟨i, _⟩ => hbmTy i
  | _, _ => ⟨S2064x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_v83 : Ref sig .tc := ⟨.hbm, 117, rfl⟩
abbrev main_cst_18 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_20 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_21 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c : Ref sig .tc := ⟨.hbm, 139, rfl⟩
abbrev main_call3_v0 : Ref sig .tc := ⟨.hbm, 140, rfl⟩
abbrev main_v101 : Ref sig .tc := ⟨.hbm, 141, rfl⟩
abbrev main_c_22 : Ref sig .tc := ⟨.hbm, 142, rfl⟩
abbrev main_call4_v0 : Ref sig .tc := ⟨.hbm, 143, rfl⟩
abbrev main_v102 : Ref sig .tc := ⟨.hbm, 144, rfl⟩
abbrev main_v103 : Ref sig .tc := ⟨.hbm, 145, rfl⟩
abbrev main_c_23 : Ref sig .tc := ⟨.hbm, 146, rfl⟩
abbrev main_call5_v0 : Ref sig .tc := ⟨.hbm, 147, rfl⟩
abbrev main_v104 : Ref sig .tc := ⟨.hbm, 148, rfl⟩
abbrev main_v105 : Ref sig .tc := ⟨.hbm, 149, rfl⟩

abbrev nD : Nat := 1
abbrev τ : Topo := Topo.v7x

variable {F : FTy → Type} [FloatOps F]
-- ==== KernelAttnKv.lean ====
abbrev S2064x8x128 : Shape := ⟨3, ![2064, 8, 128]⟩
abbrev S8x2064 : Shape := ⟨2, ![8, 2064]⟩
abbrev S_ : Shape := ⟨0, ![]⟩
abbrev S8x112 : Shape := ⟨2, ![8, 112]⟩
abbrev S8x2176 : Shape := ⟨2, ![8, 2176]⟩
abbrev S112x8x128 : Shape := ⟨3, ![112, 8, 128]⟩
abbrev S2176x8x128 : Shape := ⟨3, ![2176, 8, 128]⟩
abbrev S8x2176x1 : Shape := ⟨3, ![8, 2176, 1]⟩
abbrev S8x1x2176 : Shape := ⟨3, ![8, 1, 2176]⟩
abbrev S2176x1 : Shape := ⟨2, ![2176, 1]⟩
abbrev S1x2176 : Shape := ⟨2, ![1, 2176]⟩
abbrev S8x2176x2176 : Shape := ⟨3, ![8, 2176, 2176]⟩
abbrev S2176x2176 : Shape := ⟨2, ![2176, 2176]⟩
abbrev S2176x1024 : Shape := ⟨2, ![2176, 1024]⟩
abbrev S128x256 : Shape := ⟨2, ![128, 256]⟩
abbrev S2176x256 : Shape := ⟨2, ![2176, 256]⟩
abbrev S2x1x2176 : Shape := ⟨3, ![2, 1, 2176]⟩
abbrev S2x128x1 : Shape := ⟨3, ![2, 128, 1]⟩
abbrev S128x1 : Shape := ⟨2, ![128, 1]⟩
abbrev S2176x128 : Shape := ⟨2, ![2176, 128]⟩
abbrev S128x128 : Shape := ⟨2, ![128, 128]⟩
abbrev S128x2176 : Shape := ⟨2, ![128, 2176]⟩
abbrev S1x1x2176 : Shape := ⟨3, ![1, 1, 2176]⟩
abbrev S1x128x1 : Shape := ⟨3, ![1, 128, 1]⟩
abbrev S128 : Shape := ⟨1, ![128]⟩
abbrev S1x1920 : Shape := ⟨2, ![1, 1920]⟩
abbrev S1920x128 : Shape := ⟨2, ![1920, 128]⟩
abbrev S128x1920 : Shape := ⟨2, ![128, 1920]⟩
abbrev S1x1x1920 : Shape := ⟨3, ![1, 1, 1920]⟩
abbrev S1x1664 : Shape := ⟨2, ![1, 1664]⟩
abbrev S1664x128 : Shape := ⟨2, ![1664, 128]⟩
abbrev S128x1664 : Shape := ⟨2, ![128, 1664]⟩
abbrev S1x1x1664 : Shape := ⟨3, ![1, 1, 1664]⟩
abbrev S1x1408 : Shape := ⟨2, ![1, 1408]⟩
abbrev S1408x128 : Shape := ⟨2, ![1408, 128]⟩
abbrev S128x1408 : Shape := ⟨2, ![128, 1408]⟩
abbrev S1x1x1408 : Shape := ⟨3, ![1, 1, 1408]⟩
abbrev S1x1152 : Shape := ⟨2, ![1, 1152]⟩
abbrev S1152x128 : Shape := ⟨2, ![1152, 128]⟩
abbrev S128x1152 : Shape := ⟨2, ![128, 1152]⟩
abbrev S1x1x1152 : Shape := ⟨3, ![1, 1, 1152]⟩
abbrev S1x896 : Shape := ⟨2, ![1, 896]⟩
abbrev S896x128 : Shape := ⟨2, ![896, 128]⟩
abbrev S128x896 : Shape := ⟨2, ![128, 896]⟩
abbrev S1x1x896 : Shape := ⟨3, ![1, 1, 896]⟩
abbrev S1x640 : Shape := ⟨2, ![1, 640]⟩
abbrev S640x128 : Shape := ⟨2, ![640, 128]⟩
abbrev S128x640 : Shape := ⟨2, ![128, 640]⟩
abbrev S1x1x640 : Shape := ⟨3, ![1, 1, 640]⟩
abbrev S1x384 : Shape := ⟨2, ![1, 384]⟩
abbrev S384x128 : Shape := ⟨2, ![384, 128]⟩
abbrev S128x384 : Shape := ⟨2, ![128, 384]⟩
abbrev S1x1x384 : Shape := ⟨3, ![1, 1, 384]⟩
abbrev S1x128 : Shape := ⟨2, ![1, 128]⟩
abbrev S1x1x128 : Shape := ⟨3, ![1, 1, 128]⟩

abbrev nBuf : Space → Nat
  | .hbm => 90
  | .vmem => 22
  | .smem => 0
  | _ => 0

abbrev bufTy : (tb : Table) → Fin (tcTables nBuf tb) → BufTy
  | .hbm, ⟨0, _⟩ => ⟨S2064x8x128, .f32⟩
  | .hbm, ⟨1, _⟩ => ⟨S2064x8x128, .f32⟩
  | .hbm, ⟨2, _⟩ => ⟨S2064x8x128, .f32⟩
  | .hbm, ⟨3, _⟩ => ⟨S8x2064, .f32⟩
  | .hbm, ⟨4, _⟩ => ⟨S2064x8x128, .f32⟩
  | .hbm, ⟨5, _⟩ => ⟨S_, .f32⟩
  | .hbm, ⟨6, _⟩ => ⟨S8x112, .f32⟩
  | .hbm, ⟨7, _⟩ => ⟨S8x2176, .f32⟩
  | .hbm, ⟨8, _⟩ => ⟨S_, .f32⟩
  | .hbm, ⟨9, _⟩ => ⟨S112x8x128, .f32⟩
  | .hbm, ⟨10, _⟩ => ⟨S2176x8x128, .f32⟩
  | .hbm, ⟨11, _⟩ => ⟨S2176x8x128, .bf16⟩
  | .hbm, ⟨12, _⟩ => ⟨S_, .f32⟩
  | .hbm, ⟨13, _⟩ => ⟨S112x8x128, .f32⟩
  | .hbm, ⟨14, _⟩ => ⟨S2176x8x128, .f32⟩
  | .hbm, ⟨15, _⟩ => ⟨S2176x8x128, .bf16⟩
  | .hbm, ⟨16, _⟩ => ⟨S_, .f32⟩
  | .hbm, ⟨17, _⟩ => ⟨S112x8x128, .f32⟩
  | .hbm, ⟨18, _⟩ => ⟨S2176x8x128, .f32⟩
  | .hbm, ⟨19, _⟩ => ⟨S2176x8x128, .bf16⟩
  | .hbm, ⟨20, _⟩ => ⟨S_, .f32⟩
  | .hbm, ⟨21, _⟩ => ⟨S112x8x128, .f32⟩
  | .hbm, ⟨22, _⟩ => ⟨S2176x8x128, .f32⟩
  | .hbm, ⟨23, _⟩ => ⟨S2176x8x128, .bf16⟩
  | .hbm, ⟨24, _⟩ => ⟨S8x2176x1, .f32⟩
  | .hbm, ⟨25, _⟩ => ⟨S8x1x2176, .f32⟩
  | .hbm, ⟨26, _⟩ => ⟨S2176x1, .i32⟩
  | .hbm, ⟨27, _⟩ => ⟨S1x2176, .i32⟩
  | .hbm, ⟨28, _⟩ => ⟨S8x2176x2176, .f32⟩
  | .hbm, ⟨29, _⟩ => ⟨S_, .f32⟩
  | .hbm, ⟨30, _⟩ => ⟨S8x2176x2176, .f32⟩
  | .hbm, ⟨31, _⟩ => ⟨S8x2176x2176, .f32⟩
  | .hbm, ⟨32, _⟩ => ⟨S8x2176x2176, .f32⟩
  | .hbm, ⟨33, _⟩ => ⟨S8x2176x2176, .f32⟩
  | .hbm, ⟨34, _⟩ => ⟨S8x2176x2176, .f32⟩
  | .hbm, ⟨35, _⟩ => ⟨S8x2176x2176, .f32⟩
  | .hbm, ⟨36, _⟩ => ⟨S2176x2176, .i32⟩
  | .hbm, ⟨37, _⟩ => ⟨S2176x2176, .i32⟩
  | .hbm, ⟨38, _⟩ => ⟨S2176x2176, .i1⟩
  | .hbm, ⟨39, _⟩ => ⟨S_, .f32⟩
  | .hbm, ⟨40, _⟩ => ⟨S_, .f32⟩
  | .hbm, ⟨41, _⟩ => ⟨S8x2176x2176, .i1⟩
  | .hbm, ⟨42, _⟩ => ⟨S8x2176x2176, .f32⟩
  | .hbm, ⟨43, _⟩ => ⟨S8x2176x2176, .f32⟩
  | .hbm, ⟨44, _⟩ => ⟨S_, .f32⟩
  | .hbm, ⟨45, _⟩ => ⟨S8x2176, .f32⟩
  | .hbm, ⟨46, _⟩ => ⟨S8x2176x1, .f32⟩
  | .hbm, ⟨47, _⟩ => ⟨S8x2176x2176, .f32⟩
  | .hbm, ⟨48, _⟩ => ⟨S8x2176x2176, .f32⟩
  | .hbm, ⟨49, _⟩ => ⟨S8x2176x2176, .f32⟩
  | .hbm, ⟨50, _⟩ => ⟨S_, .f32⟩
  | .hbm, ⟨51, _⟩ => ⟨S8x2176, .f32⟩
  | .hbm, ⟨52, _⟩ => ⟨S8x2176x1, .f32⟩
  | .hbm, ⟨53, _⟩ => ⟨S8x2176x1, .f32⟩
  | .hbm, ⟨54, _⟩ => ⟨S8x2176x1, .f32⟩
  | .hbm, ⟨55, _⟩ => ⟨S2176x1, .i32⟩
  | .hbm, ⟨56, _⟩ => ⟨S1x2176, .i32⟩
  | .hbm, ⟨57, _⟩ => ⟨S8x2176x2176, .f32⟩
  | .hbm, ⟨58, _⟩ => ⟨S_, .f32⟩
  | .hbm, ⟨59, _⟩ => ⟨S8x2176x2176, .f32⟩
  | .hbm, ⟨60, _⟩ => ⟨S8x2176x2176, .f32⟩
  | .hbm, ⟨61, _⟩ => ⟨S8x2176x2176, .f32⟩
  | .hbm, ⟨62, _⟩ => ⟨S8x2176x2176, .f32⟩
  | .hbm, ⟨63, _⟩ => ⟨S8x2176x2176, .f32⟩
  | .hbm, ⟨64, _⟩ => ⟨S8x2176x2176, .f32⟩
  | .hbm, ⟨65, _⟩ => ⟨S2176x2176, .i32⟩
  | .hbm, ⟨66, _⟩ => ⟨S2176x2176, .i32⟩
  | .hbm, ⟨67, _⟩ => ⟨S2176x2176, .i1⟩
  | .hbm, ⟨68, _⟩ => ⟨S_, .f32⟩
  | .hbm, ⟨69, _⟩ => ⟨S_, .f32⟩
  | .hbm, ⟨70, _⟩ => ⟨S8x2176x2176, .i1⟩
  | .hbm, ⟨71, _⟩ => ⟨S8x2176x2176, .f32⟩
  | .hbm, ⟨72, _⟩ => ⟨S8x2176x2176, .f32⟩
  | .hbm, ⟨73, _⟩ => ⟨S8x2176x2176, .f32⟩
  | .hbm, ⟨74, _⟩ => ⟨S8x2176x2176, .f32⟩
  | .hbm, ⟨75, _⟩ => ⟨S8x2176x2176, .f32⟩
  | .hbm, ⟨76, _⟩ => ⟨S8x2176x2176, .f32⟩
  | .hbm, ⟨77, _⟩ => ⟨S8x2176x2176, .f32⟩
  | .hbm, ⟨78, _⟩ => ⟨S_, .f32⟩
  | .hbm, ⟨79, _⟩ => ⟨S8x2176, .f32⟩
  | .hbm, ⟨80, _⟩ => ⟨S8x2176x1, .f32⟩
  | .hbm, ⟨81, _⟩ => ⟨S2176x1024, .bf16⟩
  | .hbm, ⟨82, _⟩ => ⟨S2176x1024, .bf16⟩
  | .hbm, ⟨83, _⟩ => ⟨S2176x1024, .bf16⟩
  | .hbm, ⟨84, _⟩ => ⟨S2176x1024, .bf16⟩
  | .hbm, ⟨85, _⟩ => ⟨S8x1x2176, .f32⟩
  | .hbm, ⟨86, _⟩ => ⟨S8x1x2176, .f32⟩
  | .hbm, ⟨87, _⟩ => ⟨S2176x1024, .f32⟩
  | .hbm, ⟨88, _⟩ => ⟨S2176x1024, .bf16⟩
  | .hbm, ⟨89, _⟩ => ⟨S8x2176x1, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S2176x256, .bf16⟩
  | .local _ .vmem, ⟨5, _⟩ => ⟨S2176x256, .bf16⟩
  | .local _ .vmem, ⟨6, _⟩ => ⟨S2176x256, .bf16⟩
  | .local _ .vmem, ⟨7, _⟩ => ⟨S2176x256, .bf16⟩
  | .local _ .vmem, ⟨8, _⟩ => ⟨S2x1x2176, .f32⟩
  | .local _ .vmem, ⟨9, _⟩ => ⟨S2x1x2176, .f32⟩
  | .local _ .vmem, ⟨10, _⟩ => ⟨S2x128x1, .f32⟩
  | .local _ .vmem, ⟨11, _⟩ => ⟨S2x128x1, .f32⟩
  | .local _ .vmem, ⟨12, _⟩ => ⟨S2x1x2176, .f32⟩
  | .local _ .vmem, ⟨13, _⟩ => ⟨S2x1x2176, .f32⟩
  | .local _ .vmem, ⟨14, _⟩ => ⟨S2x1x2176, .f32⟩
  | .local _ .vmem, ⟨15, _⟩ => ⟨S2x1x2176, .f32⟩
  | .local _ .vmem, ⟨16, _⟩ => ⟨S128x256, .f32⟩
  | .local _ .vmem, ⟨17, _⟩ => ⟨S128x256, .f32⟩
  | .local _ .vmem, ⟨18, _⟩ => ⟨S128x256, .bf16⟩
  | .local _ .vmem, ⟨19, _⟩ => ⟨S128x256, .bf16⟩
  | .local _ .vmem, ⟨20, _⟩ => ⟨S2x128x1, .f32⟩
  | .local _ .vmem, ⟨21, _⟩ => ⟨S2x128x1, .f32⟩
  | _, _ => ⟨S2064x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64_0 : Ref sig .tc := ⟨.hbm, 87, rfl⟩
abbrev main_v64_1 : Ref sig .tc := ⟨.hbm, 88, rfl⟩
abbrev main_v64_2 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c2_i32_1 : BitVec 32 := 2#32
  let v5 : BitVec 1 := Scalar.cmpi .sge arg1 c2_i32_1
  let c4_i32 : BitVec 32 := 4#32
  let v6 : BitVec 1 := Scalar.cmpi .slt arg1 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c4_i32_3 : BitVec 32 := 4#32
  let v10 : BitVec 1 := Scalar.cmpi .sge arg1 c4_i32_3
  let c6_i32 : BitVec 32 := 6#32
  let v11 : BitVec 1 := Scalar.cmpi .slt arg1 c6_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c6_i32_5 : BitVec 32 := 6#32
  let v15 : BitVec 1 := Scalar.cmpi .sge arg1 c6_i32_5
  let c8_i32 : BitVec 32 := 8#32
  let v16 : BitVec 1 := Scalar.cmpi .slt arg1 c8_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg1 : BitVec 32 := BitVec.ofNat 32 (i 1).val
  let c8_i32_7 : BitVec 32 := 8#32
  let v20 : BitVec 1 := Scalar.cmpi .sge arg1 c8_i32_7
  let c10_i32 : BitVec 32 := 10#32
  let v21 : BitVec 1 := Scalar.cmpi .slt arg1 c10_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg1 : BitVec 32 := BitVec.ofNat 32 (i 1).val
  let c10_i32_9 : BitVec 32 := 10#32
  let v25 : BitVec 1 := Scalar.cmpi .sge arg1 c10_i32_9
  let c12_i32 : BitVec 32 := 12#32
  let v26 : BitVec 1 := Scalar.cmpi .slt arg1 c12_i32
  let v27 : BitVec 1 := Scalar.andi v25 v26
  let v28 : BitVec 32 := Scalar.extui v27
  let c0_i32_10 : BitVec 32 := 0#32
  let v29 : BitVec 1 := Scalar.cmpi .ne v28 c0_i32_10
  v29

def k0_cond7 (i : grid0.Coords) : BitVec 1 :=
  let arg1 : BitVec 32 := BitVec.ofNat 32 (i 1).val
  let c12_i32_11 : BitVec 32 := 12#32
  let v30 : BitVec 1 := Scalar.cmpi .sge arg1 c12_i32_11
  let c14_i32 : BitVec 32 := 14#32
  let v31 : BitVec 1 := Scalar.cmpi .slt arg1 c14_i32
  let v32 : BitVec 1 := Scalar.andi v30 v31
  let v33 : BitVec 32 := Scalar.extui v32
  let c0_i32_12 : BitVec 32 := 0#32
  let v34 : BitVec 1 := Scalar.cmpi .ne v33 c0_i32_12
  v34

def k0_cond8 (i : grid0.Coords) : BitVec 1 :=
  let arg1 : BitVec 32 := BitVec.ofNat 32 (i 1).val
  let c14_i32_13 : BitVec 32 := 14#32
  let v35 : BitVec 1 := Scalar.cmpi .sge arg1 c14_i32_13
  let c16_i32 : BitVec 32 := 16#32
  let v36 : BitVec 1 := Scalar.cmpi .slt arg1 c16_i32
  let v37 : BitVec 1 := Scalar.andi v35 v36
  let v38 : BitVec 32 := Scalar.extui v37
  let c0_i32_14 : BitVec 32 := 0#32
  let v39 : BitVec 1 := Scalar.cmpi .ne v38 c0_i32_14
  v39

def k0_cond9 (i : grid0.Coords) : BitVec 1 :=
  let arg1 : BitVec 32 := BitVec.ofNat 32 (i 1).val
  let c16_i32_15 : BitVec 32 := 16#32
  let v40 : BitVec 1 := Scalar.cmpi .sge arg1 c16_i32_15
  let c17_i32 : BitVec 32 := 17#32
  let v41 : BitVec 1 := Scalar.cmpi .slt arg1 c17_i32
  let v42 : BitVec 1 := Scalar.andi v40 v41
  let v43 : BitVec 32 := Scalar.extui v42
  let c0_i32_16 : BitVec 32 := 0#32
  let v44 : BitVec 1 := Scalar.cmpi .ne v43 c0_i32_16
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x2176 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x2176 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelAttnKvIdeal.lean ====
variable {F : FTy → Type} [FloatOps F] [Named F]
def κ : String → Option EReal := fun
  | "mask" => some ⊥
  | _ => none
-- ==== ReferenceAttnKvIdeal.lean ====
abbrev S2064x8x128 : Shape := ⟨3, ![2064, 8, 128]⟩
abbrev S8x2064 : Shape := ⟨2, ![8, 2064]⟩
abbrev S2064 : Shape := ⟨1, ![2064]⟩
abbrev S8x2064x2064 : Shape := ⟨3, ![8, 2064, 2064]⟩
abbrev S_ : Shape := ⟨0, ![]⟩
abbrev S8x2064x1 : Shape := ⟨3, ![8, 2064, 1]⟩
abbrev S8x1x2064 : Shape := ⟨3, ![8, 1, 2064]⟩
abbrev S2064x1 : Shape := ⟨2, ![2064, 1]⟩
abbrev S1x2064 : Shape := ⟨2, ![1, 2064]⟩
abbrev S2064x2064 : Shape := ⟨2, ![2064, 2064]⟩
abbrev S8x128x2064 : Shape := ⟨3, ![8, 128, 2064]⟩
abbrev S8x2064x128 : Shape := ⟨3, ![8, 2064, 128]⟩
abbrev S2064x1024 : Shape := ⟨2, ![2064, 1024]⟩
abbrev S2176x1024 : Shape := ⟨2, ![2176, 1024]⟩
abbrev S8x2176 : Shape := ⟨2, ![8, 2176]⟩
abbrev S8x2176x1 : Shape := ⟨3, ![8, 2176, 1]⟩

abbrev nBuf : Space → Nat
  | .hbm => 113
  | .vmem => 0
  | .smem => 0
  | _ => 0

abbrev bufTy : (tb : Table) → Fin (tcTables nBuf tb) → BufTy
  | .hbm, ⟨0, _⟩ => ⟨S2064x8x128, .f32⟩
  | .hbm, ⟨1, _⟩ => ⟨S2064x8x128, .f32⟩
  | .hbm, ⟨2, _⟩ => ⟨S2064x8x128, .f32⟩
  | .hbm, ⟨3, _⟩ => ⟨S8x2064, .f32⟩
  | .hbm, ⟨4, _⟩ => ⟨S2064x8x128, .f32⟩
  | .hbm, ⟨5, _⟩ => ⟨S2064, .i32⟩
  | .hbm, ⟨6, _⟩ => ⟨S8x2064x2064, .f32⟩
  | .hbm, ⟨7, _⟩ => ⟨S_, .f32⟩
  | .hbm, ⟨8, _⟩ => ⟨S8x2064x2064, .f32⟩
  | .hbm, ⟨9, _⟩ => ⟨S8x2064x2064, .f32⟩
  | .hbm, ⟨10, _⟩ => ⟨S8x2064x1, .f32⟩
  | .hbm, ⟨11, _⟩ => ⟨S8x1x2064, .f32⟩
  | .hbm, ⟨12, _⟩ => ⟨S8x2064x2064, .f32⟩
  | .hbm, ⟨13, _⟩ => ⟨S8x2064x2064, .f32⟩
  | .hbm, ⟨14, _⟩ => ⟨S8x2064x2064, .f32⟩
  | .hbm, ⟨15, _⟩ => ⟨S8x2064x2064, .f32⟩
  | .hbm, ⟨16, _⟩ => ⟨S2064x1, .i32⟩
  | .hbm, ⟨17, _⟩ => ⟨S1x2064, .i32⟩
  | .hbm, ⟨18, _⟩ => ⟨S2064x2064, .i32⟩
  | .hbm, ⟨19, _⟩ => ⟨S2064x2064, .i32⟩
  | .hbm, ⟨20, _⟩ => ⟨S2064x2064, .i1⟩
  | .hbm, ⟨21, _⟩ => ⟨S_, .f32⟩
  | .hbm, ⟨22, _⟩ => ⟨S_, .f32⟩
  | .hbm, ⟨23, _⟩ => ⟨S8x2064x2064, .i1⟩
  | .hbm, ⟨24, _⟩ => ⟨S8x2064x2064, .f32⟩
  | .hbm, ⟨25, _⟩ => ⟨S8x2064x2064, .f32⟩
  | .hbm, ⟨26, _⟩ => ⟨S_, .f32⟩
  | .hbm, ⟨27, _⟩ => ⟨S8x2064x2064, .f32⟩
  | .hbm, ⟨28, _⟩ => ⟨S_, .f32⟩
  | .hbm, ⟨29, _⟩ => ⟨S8x2064, .f32⟩
  | .hbm, ⟨30, _⟩ => ⟨S8x2064x1, .f32⟩
  | .hbm, ⟨31, _⟩ => ⟨S8x2064x2064, .f32⟩
  | .hbm, ⟨32, _⟩ => ⟨S8x2064x2064, .i1⟩
  | .hbm, ⟨33, _⟩ => ⟨S8x2064x2064, .f32⟩
  | .hbm, ⟨34, _⟩ => ⟨S_, .f32⟩
  | .hbm, ⟨35, _⟩ => ⟨S8x2064, .f32⟩
  | .hbm, ⟨36, _⟩ => ⟨S_, .f32⟩
  | .hbm, ⟨37, _⟩ => ⟨S8x2064, .f32⟩
  | .hbm, ⟨38, _⟩ => ⟨S8x2064, .f32⟩
  | .hbm, ⟨39, _⟩ => ⟨S_, .f32⟩
  | .hbm, ⟨40, _⟩ => ⟨S8x2064, .f32⟩
  | .hbm, ⟨41, _⟩ => ⟨S8x2064, .i1⟩
  | .hbm, ⟨42, _⟩ => ⟨S_, .f32⟩
  | .hbm, ⟨43, _⟩ => ⟨S8x2064, .f32⟩
  | .hbm, ⟨44, _⟩ => ⟨S8x2064, .i1⟩
  | .hbm, ⟨45, _⟩ => ⟨S_, .f32⟩
  | .hbm, ⟨46, _⟩ => ⟨S8x2064, .f32⟩
  | .hbm, ⟨47, _⟩ => ⟨S_, .f32⟩
  | .hbm, ⟨48, _⟩ => ⟨S8x2064, .f32⟩
  | .hbm, ⟨49, _⟩ => ⟨S_, .f32⟩
  | .hbm, ⟨50, _⟩ => ⟨S8x2064, .f32⟩
  | .hbm, ⟨51, _⟩ => ⟨S8x2064, .f32⟩
  | .hbm, ⟨52, _⟩ => ⟨S8x2064, .f32⟩
  | .hbm, ⟨53, _⟩ => ⟨S8x2064x1, .f32⟩
  | .hbm, ⟨54, _⟩ => ⟨S8x2064x2064, .f32⟩
  | .hbm, ⟨55, _⟩ => ⟨S8x2064x2064, .f32⟩
  | .hbm, ⟨56, _⟩ => ⟨S8x2064x2064, .f32⟩
  | .hbm, ⟨57, _⟩ => ⟨S_, .f32⟩
  | .hbm, ⟨58, _⟩ => ⟨S8x2064, .f32⟩
  | .hbm, ⟨59, _⟩ => ⟨S8x2064x1, .f32⟩
  | .hbm, ⟨60, _⟩ => ⟨S8x2064x2064, .f32⟩
  | .hbm, ⟨61, _⟩ => ⟨S8x2064x2064, .f32⟩
  | .hbm, ⟨62, _⟩ => ⟨S8x2064x1, .f32⟩
  | .hbm, ⟨63, _⟩ => ⟨S_, .f32⟩
  | .hbm, ⟨64, _⟩ => ⟨S8x2064x1, .f32⟩
  | .hbm, ⟨65, _⟩ => ⟨S8x2064x1, .f32⟩
  | .hbm, ⟨66, _⟩ => ⟨S8x128x2064, .f32⟩
  | .hbm, ⟨67, _⟩ => ⟨S2064x8x128, .f32⟩
  | .hbm, ⟨68, _⟩ => ⟨S8x128x2064, .f32⟩
  | .hbm, ⟨69, _⟩ => ⟨S8x2064x2064, .f32⟩
  | .hbm, ⟨70, _⟩ => ⟨S8x128x2064, .f32⟩
  | .hbm, ⟨71, _⟩ => ⟨S2064x8x128, .f32⟩
  | .hbm, ⟨72, _⟩ => ⟨S8x2064x2064, .f32⟩
  | .hbm, ⟨73, _⟩ => ⟨S8x2064x2064, .f32⟩
  | .hbm, ⟨74, _⟩ => ⟨S8x2064x2064, .f32⟩
  | .hbm, ⟨75, _⟩ => ⟨S_, .f32⟩
  | .hbm, ⟨76, _⟩ => ⟨S8x2064, .f32⟩
  | .hbm, ⟨77, _⟩ => ⟨S8x2064x1, .f32⟩
  | .hbm, ⟨78, _⟩ => ⟨S8x2064x1, .f32⟩
  | .hbm, ⟨79, _⟩ => ⟨S8x2064x2064, .f32⟩
  | .hbm, ⟨80, _⟩ => ⟨S8x2064x2064, .f32⟩
  | .hbm, ⟨81, _⟩ => ⟨S_, .f32⟩
  | .hbm, ⟨82, _⟩ => ⟨S8x2064, .f32⟩
  | .hbm, ⟨83, _⟩ => ⟨S8x2064x2064, .f32⟩
  | .hbm, ⟨84, _⟩ => ⟨S8x2064x2064, .f32⟩
  | .hbm, ⟨85, _⟩ => ⟨S8x2064x2064, .f32⟩
  | .hbm, ⟨86, _⟩ => ⟨S_, .f32⟩
  | .hbm, ⟨87, _⟩ => ⟨S8x2064x2064, .f32⟩
  | .hbm, ⟨88, _⟩ => ⟨S8x2064x2064, .f32⟩
  | .hbm, ⟨89, _⟩ => ⟨S_, .f32⟩
  | .hbm, ⟨90, _⟩ => ⟨S8x2064, .f32⟩
  | .hbm, ⟨91, _⟩ => ⟨S8x1x2064, .f32⟩
  | .hbm, ⟨92, _⟩ => ⟨S8x1x2064, .f32⟩
  | .hbm, ⟨93, _⟩ => ⟨S_, .f32⟩
  | .hbm, ⟨94, _⟩ => ⟨S8x2064, .f32⟩
  | .hbm, ⟨95, _⟩ => ⟨S_, .f32⟩
  | .hbm, ⟨96, _⟩ => ⟨S8x2064x2064, .f32⟩
  | .hbm, ⟨97, _⟩ => ⟨S8x2064x2064, .f32⟩
  | .hbm, ⟨98, _⟩ => ⟨S8x2064x128, .f32⟩
  | .hbm, ⟨99, _⟩ => ⟨S2064x8x128, .f32⟩
  | .hbm, ⟨100, _⟩ => ⟨S2064x1024, .f32⟩
  | .hbm, ⟨101, _⟩ => ⟨S_, .i32⟩
  | .hbm, ⟨102, _⟩ => ⟨S_, .f32⟩
  | .hbm, ⟨103, _⟩ => ⟨S2176x1024, .f32⟩
  | .hbm, ⟨104, _⟩ => ⟨S2064x1024, .f32⟩
  | .hbm, ⟨105, _⟩ => ⟨S_, .i32⟩
  | .hbm, ⟨106, _⟩ => ⟨S_, .f32⟩
  | .hbm, ⟨107, _⟩ => ⟨S2176x1024, .f32⟩
  | .hbm, ⟨108, _⟩ => ⟨S2176x1024, .bf16⟩
  | .hbm, ⟨109, _⟩ => ⟨S_, .i32⟩
  | .hbm, ⟨110, _⟩ => ⟨S_, .f32⟩
  | .hbm, ⟨111, _⟩ => ⟨S8x2176, .f32⟩
  | .hbm, ⟨112, _⟩ => ⟨S8x2176x1, .f32⟩
  | _, _ => ⟨S2064x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c : Ref sig .tc := ⟨.hbm, 101, rfl⟩
abbrev main_call2_v0 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_call3_v0 : Ref sig .tc := ⟨.hbm, 106, rfl⟩
abbrev main_v74 : Ref sig .tc := ⟨.hbm, 107, rfl⟩
abbrev main_v75 : Ref sig .tc := ⟨.hbm, 108, rfl⟩
abbrev main_c_17 : Ref sig .tc := ⟨.hbm, 109, rfl⟩
abbrev main_call4_v0 : Ref sig .tc := ⟨.hbm, 110, rfl⟩
abbrev main_v76 : Ref sig .tc := ⟨.hbm, 111, rfl⟩
abbrev main_v77 : Ref sig .tc := ⟨.hbm, 112, rfl⟩

abbrev nD : Nat := 1
abbrev τ : Topo := Topo.v7x

variable {F : FTy → Type} [FloatOps F]
-- ==== KernelRms.lean ====
abbrev S2064x2048 : Shape := ⟨2, ![2064, 2048]⟩
abbrev S1x2048 : Shape := ⟨2, ![1, 2048]⟩
abbrev S_ : Shape := ⟨0, ![]⟩
abbrev S112x2048 : Shape := ⟨2, ![112, 2048]⟩
abbrev S2176x2048 : Shape := ⟨2, ![2176, 2048]⟩
abbrev S2176 : Shape := ⟨1, ![2176]⟩
abbrev S2176x1 : Shape := ⟨2, ![2176, 1]⟩
abbrev S272x2048 : Shape := ⟨2, ![272, 2048]⟩
abbrev S272x1 : Shape := ⟨2, ![272, 1]⟩
abbrev S272 : Shape := ⟨1, ![272]⟩
abbrev S2048 : Shape := ⟨1, ![2048]⟩

abbrev nBuf : Space → Nat
  | .hbm => 27
  | .vmem => 14
  | .smem => 0
  | _ => 0

abbrev bufTy : (tb : Table) → Fin (tcTables nBuf tb) → BufTy
  | .hbm, ⟨0, _⟩ => ⟨S2064x2048, .f32⟩
  | .hbm, ⟨1, _⟩ => ⟨S1x2048, .f32⟩
  | .hbm, ⟨2, _⟩ => ⟨S2064x2048, .f32⟩
  | .hbm, ⟨3, _⟩ => ⟨S2064x2048, .f32⟩
  | .hbm, ⟨4, _⟩ => ⟨S_, .f32⟩
  | .hbm, ⟨5, _⟩ => ⟨S112x2048, .f32⟩
  | .hbm, ⟨6, _⟩ => ⟨S2176x2048, .f32⟩
  | .hbm, ⟨7, _⟩ => ⟨S2176x2048, .f32⟩
  | .hbm, ⟨8, _⟩ => ⟨S_, .f32⟩
  | .hbm, ⟨9, _⟩ => ⟨S2176, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S_, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S_, .f32⟩
  | .hbm, ⟨19, _⟩ => ⟨S112x2048, .f32⟩
  | .hbm, ⟨20, _⟩ => ⟨S2176x2048, .f32⟩
  | .hbm, ⟨21, _⟩ => ⟨S_, .f32⟩
  | .hbm, ⟨22, _⟩ => ⟨S112x2048, .f32⟩
  | .hbm, ⟨23, _⟩ => ⟨S2176x2048, .f32⟩
  | .hbm, ⟨24, _⟩ => ⟨S2176x2048, .f32⟩
  | .hbm, ⟨25, _⟩ => ⟨S2176x2048, .bf16⟩
  | .hbm, ⟨26, _⟩ => ⟨S1x2048, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S272x1, .f32⟩
  | .local _ .vmem, ⟨5, _⟩ => ⟨S272x1, .f32⟩
  | .local _ .vmem, ⟨6, _⟩ => ⟨S1x2048, .f32⟩
  | .local _ .vmem, ⟨7, _⟩ => ⟨S272x2048, .f32⟩
  | .local _ .vmem, ⟨8, _⟩ => ⟨S272x2048, .f32⟩
  | .local _ .vmem, ⟨9, _⟩ => ⟨S272x2048, .f32⟩
  | .local _ .vmem, ⟨10, _⟩ => ⟨S272x2048, .f32⟩
  | .local _ .vmem, ⟨11, _⟩ => ⟨S272x2048, .bf16⟩
  | .local _ .vmem, ⟨12, _⟩ => ⟨S272x2048, .bf16⟩
  | .local _ .vmem, ⟨13, _⟩ => ⟨S1x2048, .f32⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_15 : BitVec 32 := 0#32
  let v35 : BitVec 1 := Scalar.cmpi .ne v34 c0_i32_15
  v35

def k0_cond2 (i : grid0.Coords) : BitVec 1 :=
  let arg0 : BitVec 32 := BitVec.ofNat 32 (i 0).val
  let c0_i32_16 : BitVec 32 := 0#32
  let v36 : BitVec 1 := Scalar.cmpi .sgt arg0 c0_i32_16
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceRmsIdeal.lean ====
abbrev S2064x2048 : Shape := ⟨2, ![2064, 2048]⟩
abbrev S1x2048 : Shape := ⟨2, ![1, 2048]⟩
abbrev S2048 : Shape := ⟨1, ![2048]⟩
abbrev S_ : Shape := ⟨0, ![]⟩
abbrev S2064 : Shape := ⟨1, ![2064]⟩
abbrev S2064x1 : Shape := ⟨2, ![2064, 1]⟩
abbrev S2176x2048 : Shape := ⟨2, ![2176, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S1x2048, .f32⟩
  | .hbm, ⟨2, _⟩ => ⟨S2064x2048, .f32⟩
  | .hbm, ⟨3, _⟩ => ⟨S2064x2048, .f32⟩
  | .hbm, ⟨4, _⟩ => ⟨S2048, .f32⟩
  | .hbm, ⟨5, _⟩ => ⟨S2064x2048, .f32⟩
  | .hbm, ⟨6, _⟩ => ⟨S_, .f32⟩
  | .hbm, ⟨7, _⟩ => ⟨S2064, .f32⟩
  | .hbm, ⟨8, _⟩ => ⟨S2064x1, .f32⟩
  | .hbm, ⟨9, _⟩ => ⟨S_, .f32⟩
  | .hbm, ⟨10, _⟩ => ⟨S2064x1, .f32⟩
  | .hbm, ⟨11, _⟩ => ⟨S2064x1, .f32⟩
  | .hbm, ⟨12, _⟩ => ⟨S_, .f32⟩
  | .hbm, ⟨13, _⟩ => ⟨S2064x1, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S_, .f32⟩
  | .hbm, ⟨18, _⟩ => ⟨S2064x1, .f32⟩
  | .hbm, ⟨19, _⟩ => ⟨S2064x1, .f32⟩
  | .hbm, ⟨20, _⟩ => ⟨S2064x2048, .f32⟩
  | .hbm, ⟨21, _⟩ => ⟨S2064x2048, .f32⟩
  | .hbm, ⟨22, _⟩ => ⟨S1x2048, .f32⟩
  | .hbm, ⟨23, _⟩ => ⟨S2064x2048, .f32⟩
  | .hbm, ⟨24, _⟩ => ⟨S2064x2048, .f32⟩
  | .hbm, ⟨25, _⟩ => ⟨S2064x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2064x2048, .f32⟩
  | .hbm, ⟨30, _⟩ => ⟨S2064x2048, .f32⟩
  | .hbm, ⟨31, _⟩ => ⟨S_, .f32⟩
  | .hbm, ⟨32, _⟩ => ⟨S2048, .f32⟩
  | .hbm, ⟨33, _⟩ => ⟨S2064x2048, .f32⟩
  | .hbm, ⟨34, _⟩ => ⟨S_, .f32⟩
  | .hbm, ⟨35, _⟩ => ⟨S2064, .f32⟩
  | .hbm, ⟨36, _⟩ => ⟨S2064x1, .f32⟩
  | .hbm, ⟨37, _⟩ => ⟨S2064x2048, .f32⟩
  | .hbm, ⟨38, _⟩ => ⟨S2064x2048, .f32⟩
  | .hbm, ⟨39, _⟩ => ⟨S2064x2048, .f32⟩
  | .hbm, ⟨40, _⟩ => ⟨S2064x1, .f32⟩
  | .hbm, ⟨41, _⟩ => ⟨S_, .f32⟩
  | .hbm, ⟨42, _⟩ => ⟨S2064x1, .f32⟩
  | .hbm, ⟨43, _⟩ => ⟨S2064x1, .f32⟩
  | .hbm, ⟨44, _⟩ => ⟨S_, .f32⟩
  | .hbm, ⟨45, _⟩ => ⟨S2064, .f32⟩
  | .hbm, ⟨46, _⟩ => ⟨S2064x2048, .f32⟩
  | .hbm, ⟨47, _⟩ => ⟨S2064x2048, .f32⟩
  | .hbm, ⟨48, _⟩ => ⟨S2064x2048, .f32⟩
  | .hbm, ⟨49, _⟩ => ⟨S2064x2048, .f32⟩
  | .hbm, ⟨50, _⟩ => ⟨S2064x2048, .f32⟩
  | .hbm, ⟨51, _⟩ => ⟨S1x2048, .f32⟩
  | .hbm, ⟨52, _⟩ => ⟨S_, .i32⟩
  | .hbm, ⟨53, _⟩ => ⟨S_, .f32⟩
  | .hbm, ⟨54, _⟩ => ⟨S2176x2048, .f32⟩
  | .hbm, ⟨55, _⟩ => ⟨S2176x2048, .bf16⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== KernelQkNorm.lean ====
abbrev S2064x1024 : Shape := ⟨2, ![2064, 1024]⟩
abbrev S2064x4104 : Shape := ⟨2, ![2064, 4104]⟩
abbrev S1x128 : Shape := ⟨2, ![1, 128]⟩
abbrev S_ : Shape := ⟨0, ![]⟩
abbrev S2176x1024 : Shape := ⟨2, ![2176, 1024]⟩
abbrev S2176x4224 : Shape := ⟨2, ![2176, 4224]⟩
abbrev S2176x128 : Shape := ⟨2, ![2176, 128]⟩
abbrev S2176 : Shape := ⟨1, ![2176]⟩
abbrev S2176x1 : Shape := ⟨2, ![2176, 1]⟩
abbrev S128 : Shape := ⟨1, ![128]⟩

abbrev nBuf : Space → Nat
  | .hbm => 18
  | .vmem => 16
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S2064x4104, .f32⟩
  | .hbm, ⟨3, _⟩ => ⟨S1x128, .f32⟩
  | .hbm, ⟨4, _⟩ => ⟨S1x128, .f32⟩
  | .hbm, ⟨5, _⟩ => ⟨S_, .i32⟩
  | .hbm, ⟨6, _⟩ => ⟨S_, .f32⟩
  | .hbm, ⟨7, _⟩ => ⟨S2176x1024, .f32⟩
  | .hbm, ⟨8, _⟩ => ⟨S_, .i32⟩
  | .hbm, ⟨9, _⟩ => ⟨S_, .f32⟩
  | .hbm, ⟨10, _⟩ => ⟨S2176x1024, .f32⟩
  | .hbm, ⟨11, _⟩ => ⟨S_, .i32⟩
  | .hbm, ⟨12, _⟩ => ⟨S_, .f32⟩
  | .hbm, ⟨13, _⟩ => ⟨S2176x4224, .f32⟩
  | .hbm, ⟨14, _⟩ => ⟨S2176x1024, .bf16⟩
  | .hbm, ⟨15, _⟩ => ⟨S2176x1024, .bf16⟩
  | .hbm, ⟨16, _⟩ => ⟨S1x128, .f32⟩
  | .hbm, ⟨17, _⟩ => ⟨S1x128, .f32⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S2176x128, .f32⟩
  | .local _ .vmem, ⟨7, _⟩ => ⟨S2176x128, .f32⟩
  | .local _ .vmem, ⟨8, _⟩ => ⟨S1x128, .f32⟩
  | .local _ .vmem, ⟨9, _⟩ => ⟨S1x128, .f32⟩
  | .local _ .vmem, ⟨10, _⟩ => ⟨S2176x128, .bf16⟩
  | .local _ .vmem, ⟨11, _⟩ => ⟨S2176x128, .bf16⟩
  | .local _ .vmem, ⟨12, _⟩ => ⟨S2176x128, .bf16⟩
  | .local _ .vmem, ⟨13, _⟩ => ⟨S2176x128, .bf16⟩
  | .local _ .vmem, ⟨14, _⟩ => ⟨S1x128, .f32⟩
  | .local _ .vmem, ⟨15, _⟩ => ⟨S1x128, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v70 : BitVec 1 := Scalar.cmpi .eq arg0 c0_i32
  let v71 : BitVec 32 := Scalar.extui v70
  let c0_i32_26 : BitVec 32 := 0#32
  let v72 : BitVec 1 := Scalar.cmpi .ne v71 c0_i32_26
  v72

def k0_cond2 (i : grid0.Coords) : BitVec 1 :=
  let arg0 : BitVec 32 := BitVec.ofNat 32 (i 0).val
  let c0_i32_27 : BitVec 32 := 0#32
  let v73 : BitVec 1 := Scalar.cmpi .sgt arg0 c0_i32_27
  let v74 : BitVec 32 := Scalar.extui v73
  let c0_i32_28 : BitVec 32 := 0#32
  let v75 : BitVec 1 := Scalar.cmpi .ne v74 c0_i32_28
  v75

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2176x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2176x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceQkNormIdeal.lean ====
abbrev S2064x1024 : Shape := ⟨2, ![2064, 1024]⟩
abbrev S2064x4104 : Shape := ⟨2, ![2064, 4104]⟩
abbrev S1x128 : Shape := ⟨2, ![1, 128]⟩
abbrev S2064x8x128 : Shape := ⟨3, ![2064, 8, 128]⟩
abbrev S128 : Shape := ⟨1, ![128]⟩
abbrev S_ : Shape := ⟨0, ![]⟩
abbrev S2064x8 : Shape := ⟨2, ![2064, 8]⟩
abbrev S2064x8x1 : Shape := ⟨3, ![2064, 8, 1]⟩
abbrev S1x1x128 : Shape := ⟨3, ![1, 1, 128]⟩
abbrev S2176x1024 : Shape := ⟨2, ![2176, 1024]⟩

abbrev nBuf : Space → Nat
  | .hbm => 115
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S2064x4104, .f32⟩
  | .hbm, ⟨3, _⟩ => ⟨S1x128, .f32⟩
  | .hbm, ⟨4, _⟩ => ⟨S1x128, .f32⟩
  | .hbm, ⟨5, _⟩ => ⟨S2064x1024, .f32⟩
  | .hbm, ⟨6, _⟩ => ⟨S2064x8x128, .f32⟩
  | .hbm, ⟨7, _⟩ => ⟨S2064x1024, .f32⟩
  | .hbm, ⟨8, _⟩ => ⟨S2064x8x128, .f32⟩
  | .hbm, ⟨9, _⟩ => ⟨S128, .f32⟩
  | .hbm, ⟨10, _⟩ => ⟨S2064x8x128, .f32⟩
  | .hbm, ⟨11, _⟩ => ⟨S_, .f32⟩
  | .hbm, ⟨12, _⟩ => ⟨S2064x8, .f32⟩
  | .hbm, ⟨13, _⟩ => ⟨S2064x8x1, .f32⟩
  | .hbm, ⟨14, _⟩ => ⟨S_, .f32⟩
  | .hbm, ⟨15, _⟩ => ⟨S2064x8x1, .f32⟩
  | .hbm, ⟨16, _⟩ => ⟨S2064x8x1, .f32⟩
  | .hbm, ⟨17, _⟩ => ⟨S_, .f32⟩
  | .hbm, ⟨18, _⟩ => ⟨S2064x8x1, .f32⟩
  | .hbm, ⟨19, _⟩ => ⟨S2064x8x1, .f32⟩
  | .hbm, ⟨20, _⟩ => ⟨S2064x8x1, .f32⟩
  | .hbm, ⟨21, _⟩ => ⟨S2064x8x1, .f32⟩
  | .hbm, ⟨22, _⟩ => ⟨S_, .f32⟩
  | .hbm, ⟨23, _⟩ => ⟨S2064x8x1, .f32⟩
  | .hbm, ⟨24, _⟩ => ⟨S2064x8x1, .f32⟩
  | .hbm, ⟨25, _⟩ => ⟨S2064x8x128, .f32⟩
  | .hbm, ⟨26, _⟩ => ⟨S2064x8x128, .f32⟩
  | .hbm, ⟨27, _⟩ => ⟨S1x1x128, .f32⟩
  | .hbm, ⟨28, _⟩ => ⟨S2064x8x128, .f32⟩
  | .hbm, ⟨29, _⟩ => ⟨S2064x8x128, .f32⟩
  | .hbm, ⟨30, _⟩ => ⟨S2064x8x128, .f32⟩
  | .hbm, ⟨31, _⟩ => ⟨S2064x8x128, .f32⟩
  | .hbm, ⟨32, _⟩ => ⟨S_, .f32⟩
  | .hbm, ⟨33, _⟩ => ⟨S128, .f32⟩
  | .hbm, ⟨34, _⟩ => ⟨S1x1x128, .f32⟩
  | .hbm, ⟨35, _⟩ => ⟨S2064x8x128, .f32⟩
  | .hbm, ⟨36, _⟩ => ⟨S2064x8x128, .f32⟩
  | .hbm, ⟨37, _⟩ => ⟨S_, .f32⟩
  | .hbm, ⟨38, _⟩ => ⟨S128, .f32⟩
  | .hbm, ⟨39, _⟩ => ⟨S2064x8x128, .f32⟩
  | .hbm, ⟨40, _⟩ => ⟨S_, .f32⟩
  | .hbm, ⟨41, _⟩ => ⟨S2064x8, .f32⟩
  | .hbm, ⟨42, _⟩ => ⟨S2064x8x1, .f32⟩
  | .hbm, ⟨43, _⟩ => ⟨S2064x8x128, .f32⟩
  | .hbm, ⟨44, _⟩ => ⟨S2064x8x128, .f32⟩
  | .hbm, ⟨45, _⟩ => ⟨S2064x8x1, .f32⟩
  | .hbm, ⟨46, _⟩ => ⟨S_, .f32⟩
  | .hbm, ⟨47, _⟩ => ⟨S2064x8x1, .f32⟩
  | .hbm, ⟨48, _⟩ => ⟨S2064x8x1, .f32⟩
  | .hbm, ⟨49, _⟩ => ⟨S_, .f32⟩
  | .hbm, ⟨50, _⟩ => ⟨S2064x8, .f32⟩
  | .hbm, ⟨51, _⟩ => ⟨S2064x8x128, .f32⟩
  | .hbm, ⟨52, _⟩ => ⟨S2064x8x128, .f32⟩
  | .hbm, ⟨53, _⟩ => ⟨S2064x8x128, .f32⟩
  | .hbm, ⟨54, _⟩ => ⟨S2064x8x128, .f32⟩
  | .hbm, ⟨55, _⟩ => ⟨S2064x8x128, .f32⟩
  | .hbm, ⟨56, _⟩ => ⟨S1x128, .f32⟩
  | .hbm, ⟨57, _⟩ => ⟨S128, .f32⟩
  | .hbm, ⟨58, _⟩ => ⟨S2064x8x128, .f32⟩
  | .hbm, ⟨59, _⟩ => ⟨S_, .f32⟩
  | .hbm, ⟨60, _⟩ => ⟨S2064x8, .f32⟩
  | .hbm, ⟨61, _⟩ => ⟨S2064x8x1, .f32⟩
  | .hbm, ⟨62, _⟩ => ⟨S_, .f32⟩
  | .hbm, ⟨63, _⟩ => ⟨S2064x8x1, .f32⟩
  | .hbm, ⟨64, _⟩ => ⟨S2064x8x1, .f32⟩
  | .hbm, ⟨65, _⟩ => ⟨S_, .f32⟩
  | .hbm, ⟨66, _⟩ => ⟨S2064x8x1, .f32⟩
  | .hbm, ⟨67, _⟩ => ⟨S2064x8x1, .f32⟩
  | .hbm, ⟨68, _⟩ => ⟨S2064x8x1, .f32⟩
  | .hbm, ⟨69, _⟩ => ⟨S2064x8x1, .f32⟩
  | .hbm, ⟨70, _⟩ => ⟨S_, .f32⟩
  | .hbm, ⟨71, _⟩ => ⟨S2064x8x1, .f32⟩
  | .hbm, ⟨72, _⟩ => ⟨S2064x8x1, .f32⟩
  | .hbm, ⟨73, _⟩ => ⟨S2064x8x128, .f32⟩
  | .hbm, ⟨74, _⟩ => ⟨S2064x8x128, .f32⟩
  | .hbm, ⟨75, _⟩ => ⟨S1x1x128, .f32⟩
  | .hbm, ⟨76, _⟩ => ⟨S2064x8x128, .f32⟩
  | .hbm, ⟨77, _⟩ => ⟨S2064x8x128, .f32⟩
  | .hbm, ⟨78, _⟩ => ⟨S2064x8x128, .f32⟩
  | .hbm, ⟨79, _⟩ => ⟨S2064x8x128, .f32⟩
  | .hbm, ⟨80, _⟩ => ⟨S_, .f32⟩
  | .hbm, ⟨81, _⟩ => ⟨S128, .f32⟩
  | .hbm, ⟨82, _⟩ => ⟨S1x1x128, .f32⟩
  | .hbm, ⟨83, _⟩ => ⟨S2064x8x128, .f32⟩
  | .hbm, ⟨84, _⟩ => ⟨S2064x8x128, .f32⟩
  | .hbm, ⟨85, _⟩ => ⟨S_, .f32⟩
  | .hbm, ⟨86, _⟩ => ⟨S128, .f32⟩
  | .hbm, ⟨87, _⟩ => ⟨S2064x8x128, .f32⟩
  | .hbm, ⟨88, _⟩ => ⟨S_, .f32⟩
  | .hbm, ⟨89, _⟩ => ⟨S2064x8, .f32⟩
  | .hbm, ⟨90, _⟩ => ⟨S2064x8x1, .f32⟩
  | .hbm, ⟨91, _⟩ => ⟨S2064x8x128, .f32⟩
  | .hbm, ⟨92, _⟩ => ⟨S2064x8x128, .f32⟩
  | .hbm, ⟨93, _⟩ => ⟨S2064x8x1, .f32⟩
  | .hbm, ⟨94, _⟩ => ⟨S_, .f32⟩
  | .hbm, ⟨95, _⟩ => ⟨S2064x8x1, .f32⟩
  | .hbm, ⟨96, _⟩ => ⟨S2064x8x1, .f32⟩
  | .hbm, ⟨97, _⟩ => ⟨S_, .f32⟩
  | .hbm, ⟨98, _⟩ => ⟨S2064x8, .f32⟩
  | .hbm, ⟨99, _⟩ => ⟨S2064x8x128, .f32⟩
  | .hbm, ⟨100, _⟩ => ⟨S2064x8x128, .f32⟩
  | .hbm, ⟨101, _⟩ => ⟨S2064x8x128, .f32⟩
  | .hbm, ⟨102, _⟩ => ⟨S2064x8x128, .f32⟩
  | .hbm, ⟨103, _⟩ => ⟨S2064x8x128, .f32⟩
  | .hbm, ⟨104, _⟩ => ⟨S1x128, .f32⟩
  | .hbm, ⟨105, _⟩ => ⟨S2064x1024, .f32⟩
  | .hbm, ⟨106, _⟩ => ⟨S_, .i32⟩
  | .hbm, ⟨107, _⟩ => ⟨S_, .f32⟩
  | .hbm, ⟨108, _⟩ => ⟨S2176x1024, .f32⟩
  | .hbm, ⟨109, _⟩ => ⟨S2176x1024, .bf16⟩
  | .hbm, ⟨110, _⟩ => ⟨S2064x1024, .f32⟩
  | .hbm, ⟨111, _⟩ => ⟨S_, .i32⟩
  | .hbm, ⟨112, _⟩ => ⟨S_, .f32⟩
  | .hbm, ⟨113, _⟩ => ⟨S2176x1024, .f32⟩
  | .hbm, ⟨114, _⟩ => ⟨S2176x1024, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_15 : Ref sig .tc := ⟨.hbm, 94, rfl⟩
abbrev main_v73 : Ref sig .tc := ⟨.hbm, 95, rfl⟩
abbrev main_v74 : Ref sig .tc := ⟨.hbm, 96, rfl⟩
abbrev main_cst_16 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c : Ref sig .tc := ⟨.hbm, 106, rfl⟩
abbrev main_call0_v0 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_c_17 : Ref sig .tc := ⟨.hbm, 111, rfl⟩
abbrev main_call1_v0 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]
-- ==== KernelFfn.lean ====
abbrev S2064x2048 : Shape := ⟨2, ![2064, 2048]⟩
abbrev S2048x5632 : Shape := ⟨2, ![2048, 5632]⟩
abbrev S5632x2048 : Shape := ⟨2, ![5632, 2048]⟩
abbrev S_ : Shape := ⟨0, ![]⟩
abbrev S2176x2048 : Shape := ⟨2, ![2176, 2048]⟩
abbrev S2176x5632 : Shape := ⟨2, ![2176, 5632]⟩
abbrev S1x1 : Shape := ⟨2, ![1, 1]⟩
abbrev S256x2048 : Shape := ⟨2, ![256, 2048]⟩
abbrev S2176x256 : Shape := ⟨2, ![2176, 256]⟩

abbrev nBuf : Space → Nat
  | .hbm => 42
  | .vmem => 11
  | .smem => 0
  | _ => 0

abbrev bufTy : (tb : Table) → Fin (tcTables nBuf tb) → BufTy
  | .hbm, ⟨0, _⟩ => ⟨S2064x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2064x2048, .f32⟩
  | .hbm, ⟨5, _⟩ => ⟨S_, .i32⟩
  | .hbm, ⟨6, _⟩ => ⟨S_, .f32⟩
  | .hbm, ⟨7, _⟩ => ⟨S2176x2048, .f32⟩
  | .hbm, ⟨8, _⟩ => ⟨S2176x2048, .bf16⟩
  | .hbm, ⟨9, _⟩ => ⟨S2048x5632, .bf16⟩
  | .hbm, ⟨10, _⟩ => ⟨S2176x5632, .f32⟩
  | .hbm, ⟨11, _⟩ => ⟨S2048x5632, .bf16⟩
  | .hbm, ⟨12, _⟩ => ⟨S2176x5632, .f32⟩
  | .hbm, ⟨13, _⟩ => ⟨S2176x5632, .f32⟩
  | .hbm, ⟨14, _⟩ => ⟨S2176x5632, .f32⟩
  | .hbm, ⟨15, _⟩ => ⟨S_, .f32⟩
  | .hbm, ⟨16, _⟩ => ⟨S2176x5632, .f32⟩
  | .hbm, ⟨17, _⟩ => ⟨S2176x5632, .f32⟩
  | .hbm, ⟨18, _⟩ => ⟨S_, .f32⟩
  | .hbm, ⟨19, _⟩ => ⟨S2176x5632, .f32⟩
  | .hbm, ⟨20, _⟩ => ⟨S2176x5632, .f32⟩
  | .hbm, ⟨21, _⟩ => ⟨S_, .f32⟩
  | .hbm, ⟨22, _⟩ => ⟨S2176x5632, .f32⟩
  | .hbm, ⟨23, _⟩ => ⟨S2176x5632, .f32⟩
  | .hbm, ⟨24, _⟩ => ⟨S2176x5632, .f32⟩
  | .hbm, ⟨25, _⟩ => ⟨S_, .f32⟩
  | .hbm, ⟨26, _⟩ => ⟨S2176x5632, .f32⟩
  | .hbm, ⟨27, _⟩ => ⟨S2176x5632, .f32⟩
  | .hbm, ⟨28, _⟩ => ⟨S2176x5632, .f32⟩
  | .hbm, ⟨29, _⟩ => ⟨S2176x5632, .f32⟩
  | .hbm, ⟨30, _⟩ => ⟨S2176x5632, .bf16⟩
  | .hbm, ⟨31, _⟩ => ⟨S2176x5632, .f32⟩
  | .hbm, ⟨32, _⟩ => ⟨S2176x5632, .bf16⟩
  | .hbm, ⟨33, _⟩ => ⟨S_, .i32⟩
  | .hbm, ⟨34, _⟩ => ⟨S_, .f32⟩
  | .hbm, ⟨35, _⟩ => ⟨S2176x2048, .f32⟩
  | .hbm, ⟨36, _⟩ => ⟨S2176x2048, .bf16⟩
  | .hbm, ⟨37, _⟩ => ⟨S5632x2048, .bf16⟩
  | .hbm, ⟨38, _⟩ => ⟨S_, .f32⟩
  | .hbm, ⟨39, _⟩ => ⟨S1x1, .f32⟩
  | .hbm, ⟨40, _⟩ => ⟨S2176x5632, .bf16⟩
  | .hbm, ⟨41, _⟩ => ⟨S2176x5632, .bf16⟩
  | .local _ .vmem, ⟨0, _⟩ => ⟨S2176x2048, .bf16⟩
  | .local _ .vmem, ⟨1, _⟩ => ⟨S256x2048, .bf16⟩
  | .local _ .vmem, ⟨2, _⟩ => ⟨S256x2048, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S2176x256, .bf16⟩
  | .local _ .vmem, ⟨7, _⟩ => ⟨S2176x256, .bf16⟩
  | .local _ .vmem, ⟨8, _⟩ => ⟨S2176x256, .bf16⟩
  | .local _ .vmem, ⟨9, _⟩ => ⟨S2176x256, .bf16⟩
  | .local _ .vmem, ⟨10, _⟩ => ⟨S2176x256, .bf16⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfnIdeal.lean ====
abbrev S2064x2048 : Shape := ⟨2, ![2064, 2048]⟩
abbrev S2048x5632 : Shape := ⟨2, ![2048, 5632]⟩
abbrev S5632x2048 : Shape := ⟨2, ![5632, 2048]⟩
abbrev S2064x5632 : Shape := ⟨2, ![2064, 5632]⟩
abbrev S_ : Shape := ⟨0, ![]⟩
abbrev S2176x5632 : Shape := ⟨2, ![2176, 5632]⟩

abbrev nBuf : Space → Nat
  | .hbm => 43
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2064x2048, .f32⟩
  | .hbm, ⟨5, _⟩ => ⟨S2064x5632, .f32⟩
  | .hbm, ⟨6, _⟩ => ⟨S2064x5632, .f32⟩
  | .hbm, ⟨7, _⟩ => ⟨S2064x5632, .f32⟩
  | .hbm, ⟨8, _⟩ => ⟨S2064x5632, .f32⟩
  | .hbm, ⟨9, _⟩ => ⟨S_, .f32⟩
  | .hbm, ⟨10, _⟩ => ⟨S2064x5632, .f32⟩
  | .hbm, ⟨11, _⟩ => ⟨S2064x5632, .f32⟩
  | .hbm, ⟨12, _⟩ => ⟨S_, .f32⟩
  | .hbm, ⟨13, _⟩ => ⟨S2064x5632, .f32⟩
  | .hbm, ⟨14, _⟩ => ⟨S2064x5632, .f32⟩
  | .hbm, ⟨15, _⟩ => ⟨S_, .f32⟩
  | .hbm, ⟨16, _⟩ => ⟨S2064x5632, .f32⟩
  | .hbm, ⟨17, _⟩ => ⟨S2064x5632, .f32⟩
  | .hbm, ⟨18, _⟩ => ⟨S2064x5632, .f32⟩
  | .hbm, ⟨19, _⟩ => ⟨S2064x5632, .f32⟩
  | .hbm, ⟨20, _⟩ => ⟨S2064x5632, .f32⟩
  | .hbm, ⟨21, _⟩ => ⟨S2064x2048, .f32⟩
  | .hbm, ⟨22, _⟩ => ⟨S_, .f32⟩
  | .hbm, ⟨23, _⟩ => ⟨S2064x2048, .f32⟩
  | .hbm, ⟨24, _⟩ => ⟨S2064x2048, .f32⟩
  | .hbm, ⟨25, _⟩ => ⟨S_, .f32⟩
  | .hbm, ⟨26, _⟩ => ⟨S2064x2048, .f32⟩
  | .hbm, ⟨27, _⟩ => ⟨S2064x2048, .f32⟩
  | .hbm, ⟨28, _⟩ => ⟨S2064x5632, .f32⟩
  | .hbm, ⟨29, _⟩ => ⟨S2064x5632, .f32⟩
  | .hbm, ⟨30, _⟩ => ⟨S2064x5632, .f32⟩
  | .hbm, ⟨31, _⟩ => ⟨S2064x5632, .f32⟩
  | .hbm, ⟨32, _⟩ => ⟨S2064x5632, .f32⟩
  | .hbm, ⟨33, _⟩ => ⟨S2064x5632, .f32⟩
  | .hbm, ⟨34, _⟩ => ⟨S2064x5632, .f32⟩
  | .hbm, ⟨35, _⟩ => ⟨S_, .i32⟩
  | .hbm, ⟨36, _⟩ => ⟨S_, .f32⟩
  | .hbm, ⟨37, _⟩ => ⟨S2176x5632, .f32⟩
  | .hbm, ⟨38, _⟩ => ⟨S2176x5632, .bf16⟩
  | .hbm, ⟨39, _⟩ => ⟨S_, .i32⟩
  | .hbm, ⟨40, _⟩ => ⟨S_, .f32⟩
  | .hbm, ⟨41, _⟩ => ⟨S2176x5632, .f32⟩
  | .hbm, ⟨42, _⟩ => ⟨S2176x5632, .bf16⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_c : Ref sig .tc := ⟨.hbm, 35, rfl⟩
abbrev main_call2_v0 : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_call3_v0 : Ref sig .tc := ⟨.hbm, 40, rfl⟩
abbrev main_v15 : Ref sig .tc := ⟨.hbm, 41, rfl⟩
abbrev main_v16 : Ref sig .tc := ⟨.hbm, 42, rfl⟩

abbrev nD : Nat := 1
abbrev τ : Topo := Topo.v7x

variable {F : FTy → Type} [FloatOps F]
-- ==== KernelForget.lean ====
abbrev S8x2064 : Shape := ⟨2, ![8, 2064]⟩
abbrev S2064x4104 : Shape := ⟨2, ![2064, 4104]⟩
abbrev S1x8 : Shape := ⟨2, ![1, 8]⟩
abbrev S_ : Shape := ⟨0, ![]⟩
abbrev S2176x4224 : Shape := ⟨2, ![2176, 4224]⟩
abbrev S1x128 : Shape := ⟨2, ![1, 128]⟩
abbrev S8x2176 : Shape := ⟨2, ![8, 2176]⟩
abbrev S8x2176x1 : Shape := ⟨3, ![8, 2176, 1]⟩
abbrev S2176x128 : Shape := ⟨2, ![2176, 128]⟩
abbrev S1x2176x1 : Shape := ⟨3, ![1, 2176, 1]⟩
abbrev S2176x1 : Shape := ⟨2, ![2176, 1]⟩
abbrev S128 : Shape := ⟨1, ![128]⟩

abbrev nBuf : Space → Nat
  | .hbm => 20
  | .vmem => 6
  | .smem => 0
  | _ => 0

abbrev bufTy : (tb : Table) → Fin (tcTables nBuf tb) → BufTy
  | .hbm, ⟨0, _⟩ => ⟨S8x2064, .f32⟩
  | .hbm, ⟨1, _⟩ => ⟨S8x2064, .f32⟩
  | .hbm, ⟨2, _⟩ => ⟨S2064x4104, .f32⟩
  | .hbm, ⟨3, _⟩ => ⟨S1x8, .f32⟩
  | .hbm, ⟨4, _⟩ => ⟨S_, .i32⟩
  | .hbm, ⟨5, _⟩ => ⟨S_, .f32⟩
  | .hbm, ⟨6, _⟩ => ⟨S2176x4224, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S_, .f32⟩
  | .hbm, ⟨12, _⟩ => ⟨S8x2176, .f32⟩
  | .hbm, ⟨13, _⟩ => ⟨S8x2176x1, .f32⟩
  | .hbm, ⟨14, _⟩ => ⟨S_, .i32⟩
  | .hbm, ⟨15, _⟩ => ⟨S_, .f32⟩
  | .hbm, ⟨16, _⟩ => ⟨S8x2176, .f32⟩
  | .hbm, ⟨17, _⟩ => ⟨S8x2176x1, .f32⟩
  | .hbm, ⟨18, _⟩ => ⟨S2176x128, .bf16⟩
  | .hbm, ⟨19, _⟩ => ⟨S1x128, .f32⟩
  | .local _ .vmem, ⟨0, _⟩ => ⟨S8x2176x1, .f32⟩
  | .local _ .vmem, ⟨1, _⟩ => ⟨S8x2176x1, .f32⟩
  | .local _ .vmem, ⟨2, _⟩ => ⟨S2176x128, .f32⟩
  | .local _ .vmem, ⟨3, _⟩ => ⟨S1x128, .f32⟩
  | .local _ .vmem, ⟨4, _⟩ => ⟨S2176x128, .bf16⟩
  | .local _ .vmem, ⟨5, _⟩ => ⟨S1x128, .f32⟩
  | _, _ => ⟨S8x2064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_call3_v0 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c32_i32 : BitVec 32 := 32#32
  let c0_i32_0 : BitVec 32 := 0#32
  ![c0_i32.toNat, c32_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2176x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2176x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2176x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceForgetIdeal.lean ====
abbrev S8x2064 : Shape := ⟨2, ![8, 2064]⟩
abbrev S2064x4104 : Shape := ⟨2, ![2064, 4104]⟩
abbrev S1x8 : Shape := ⟨2, ![1, 8]⟩
abbrev S2064x8 : Shape := ⟨2, ![2064, 8]⟩
abbrev S8 : Shape := ⟨1, ![8]⟩
abbrev S_ : Shape := ⟨0, ![]⟩
abbrev S2176x128 : Shape := ⟨2, ![2176, 128]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S8x2064, .f32⟩
  | .hbm, ⟨1, _⟩ => ⟨S8x2064, .f32⟩
  | .hbm, ⟨2, _⟩ => ⟨S2064x4104, .f32⟩
  | .hbm, ⟨3, _⟩ => ⟨S1x8, .f32⟩
  | .hbm, ⟨4, _⟩ => ⟨S2064x8, .f32⟩
  | .hbm, ⟨5, _⟩ => ⟨S8, .f32⟩
  | .hbm, ⟨6, _⟩ => ⟨S1x8, .f32⟩
  | .hbm, ⟨7, _⟩ => ⟨S2064x8, .f32⟩
  | .hbm, ⟨8, _⟩ => ⟨S2064x8, .f32⟩
  | .hbm, ⟨9, _⟩ => ⟨S2064x8, .f32⟩
  | .hbm, ⟨10, _⟩ => ⟨S_, .f32⟩
  | .hbm, ⟨11, _⟩ => ⟨S2064x8, .f32⟩
  | .hbm, ⟨12, _⟩ => ⟨S2064x8, .f32⟩
  | .hbm, ⟨13, _⟩ => ⟨S2064x8, .f32⟩
  | .hbm, ⟨14, _⟩ => ⟨S2064x8, .f32⟩
  | .hbm, ⟨15, _⟩ => ⟨S2064x8, .i1⟩
  | .hbm, ⟨16, _⟩ => ⟨S2064x8, .f32⟩
  | .hbm, ⟨17, _⟩ => ⟨S2064x8, .f32⟩
  | .hbm, ⟨18, _⟩ => ⟨S2064x8, .f32⟩
  | .hbm, ⟨19, _⟩ => ⟨S2064x8, .f32⟩
  | .hbm, ⟨20, _⟩ => ⟨S2064x8, .f32⟩
  | .hbm, ⟨21, _⟩ => ⟨S2064x8, .f32⟩
  | .hbm, ⟨22, _⟩ => ⟨S2064x8, .f32⟩
  | .hbm, ⟨23, _⟩ => ⟨S2064x8, .f32⟩
  | .hbm, ⟨24, _⟩ => ⟨S_, .f32⟩
  | .hbm, ⟨25, _⟩ => ⟨S2064x8, .f32⟩
  | .hbm, ⟨26, _⟩ => ⟨S2064x8, .i1⟩
  | .hbm, ⟨27, _⟩ => ⟨S_, .f32⟩
  | .hbm, ⟨28, _⟩ => ⟨S2064x8, .f32⟩
  | .hbm, ⟨29, _⟩ => ⟨S2064x8, .f32⟩
  | .hbm, ⟨30, _⟩ => ⟨S_, .f32⟩
  | .hbm, ⟨31, _⟩ => ⟨S2064x8, .f32⟩
  | .hbm, ⟨32, _⟩ => ⟨S2064x8, .i1⟩
  | .hbm, ⟨33, _⟩ => ⟨S_, .f32⟩
  | .hbm, ⟨34, _⟩ => ⟨S2064x8, .f32⟩
  | .hbm, ⟨35, _⟩ => ⟨S2064x8, .f32⟩
  | .hbm, ⟨36, _⟩ => ⟨S2064x8, .f32⟩
  | .hbm, ⟨37, _⟩ => ⟨S2064x8, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2064x8, .f32⟩
  | .hbm, ⟨46, _⟩ => ⟨S2064x8, .i1⟩
  | .hbm, ⟨47, _⟩ => ⟨S_, .f32⟩
  | .hbm, ⟨48, _⟩ => ⟨S2064x8, .f32⟩
  | .hbm, ⟨49, _⟩ => ⟨S2064x8, .f32⟩
  | .hbm, ⟨50, _⟩ => ⟨S2064x8, .f32⟩
  | .hbm, ⟨51, _⟩ => ⟨S2064x8, .f32⟩
  | .hbm, ⟨52, _⟩ => ⟨S2064x8, .f32⟩
  | .hbm, ⟨53, _⟩ => ⟨S_, .f32⟩
  | .hbm, ⟨54, _⟩ => ⟨S2064x8, .f32⟩
  | .hbm, ⟨55, _⟩ => ⟨S2064x8, .f32⟩
  | .hbm, ⟨56, _⟩ => ⟨S2064x8, .f32⟩
  | .hbm, ⟨57, _⟩ => ⟨S8x2064, .f32⟩
  | .hbm, ⟨58, _⟩ => ⟨S_, .f32⟩
  | .hbm, ⟨59, _⟩ => ⟨S_, .f32⟩
  | .hbm, ⟨60, _⟩ => ⟨S8x2064, .f32⟩
  | .hbm, ⟨61, _⟩ => ⟨S8x2064, .f32⟩
  | .hbm, ⟨62, _⟩ => ⟨S_, .f32⟩
  | .hbm, ⟨63, _⟩ => ⟨S_, .f32⟩
  | .hbm, ⟨64, _⟩ => ⟨S8x2064, .f32⟩
  | .hbm, ⟨65, _⟩ => ⟨S2064x8, .f32⟩
  | .hbm, ⟨66, _⟩ => ⟨S2064x8, .f32⟩
  | .hbm, ⟨67, _⟩ => ⟨S2064x8, .f32⟩
  | .hbm, ⟨68, _⟩ => ⟨S2064x8, .f32⟩
  | .hbm, ⟨69, _⟩ => ⟨S_, .f32⟩
  | .hbm, ⟨70, _⟩ => ⟨S8, .f32⟩
  | .hbm, ⟨71, _⟩ => ⟨S1x8, .f32⟩
  | .hbm, ⟨72, _⟩ => ⟨S_, .f32⟩
  | .hbm, ⟨73, _⟩ => ⟨S8, .f32⟩
  | .hbm, ⟨74, _⟩ => ⟨S1x8, .f32⟩
  | .hbm, ⟨75, _⟩ => ⟨S_, .i32⟩
  | .hbm, ⟨76, _⟩ => ⟨S_, .f32⟩
  | .hbm, ⟨77, _⟩ => ⟨S2176x128, .f32⟩
  | .hbm, ⟨78, _⟩ => ⟨S2176x128, .bf16⟩
  | .hbm, ⟨79, _⟩ => ⟨S_, .i32⟩
  | .hbm, ⟨80, _⟩ => ⟨S_, .f32⟩
  | .hbm, ⟨81, _⟩ => ⟨S1x128, .f32⟩
  | _, _ => ⟨S8x2064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1_0 : Ref sig .tc := ⟨.hbm, 23, rfl⟩
abbrev main_call0_call0_cst_0 : Ref sig .tc := ⟨.hbm, 24, rfl⟩
abbrev main_call0_call0_v13 : Ref sig .tc := ⟨.hbm, 25, rfl⟩
abbrev main_call0_call0_v14 : Ref sig .tc := ⟨.hbm, 26, rfl⟩
abbrev main_call0_call0_cst_1 : Ref sig .tc := ⟨.hbm, 27, rfl⟩
abbrev main_call0_call0_v15 : Ref sig .tc := ⟨.hbm, 28, rfl⟩
abbrev main_call0_call0_v16 : Ref sig .tc := ⟨.hbm, 29, rfl⟩
abbrev main_call0_call0_cst_2 : Ref sig .tc := ⟨.hbm, 30, rfl⟩
abbrev main_call0_call0_v17 : Ref sig .tc := ⟨.hbm, 31, rfl⟩
abbrev main_call0_call0_v18 : Ref sig .tc := ⟨.hbm, 32, rfl⟩
abbrev main_call0_call0_cst_3 : Ref sig .tc := ⟨.hbm, 33, rfl⟩
abbrev main_call0_call0_v19 : Ref sig .tc := ⟨.hbm, 34, rfl⟩
abbrev main_call0_call0_v20 : Ref sig .tc := ⟨.hbm, 35, rfl⟩
abbrev main_call0_call0_v21 : Ref sig .tc := ⟨.hbm, 36, rfl⟩
abbrev main_v5_1 : Ref sig .tc := ⟨.hbm, 37, rfl⟩
abbrev main_call0_call0_cst_4 : Ref sig .tc := ⟨.hbm, 38, rfl⟩
abbrev main_call0_call0_cst_5 : Ref sig .tc := ⟨.hbm, 39, rfl⟩
abbrev main_call0_call0_v23 : Ref sig .tc := ⟨.hbm, 40, rfl⟩
abbrev main_call0_call0_cst_6 : Ref sig .tc := ⟨.hbm, 41, rfl⟩
abbrev main_call0_call0_cst_7 : Ref sig .tc := ⟨.hbm, 42, rfl⟩
abbrev main_call0_call0_v24 : Ref sig .tc := ⟨.hbm, 43, rfl⟩
abbrev main_call0_call0_cst_8 : Ref sig .tc := ⟨.hbm, 44, rfl⟩
abbrev main_call0_call0_v25 : Ref sig .tc := ⟨.hbm, 45, rfl⟩
abbrev main_call0_call0_v26 : Ref sig .tc := ⟨.hbm, 46, rfl⟩
abbrev main_call0_call0_cst_9 : Ref sig .tc := ⟨.hbm, 47, rfl⟩
abbrev main_call0_call0_v27 : Ref sig .tc := ⟨.hbm, 48, rfl⟩
abbrev main_call0_call0_v28 : Ref sig .tc := ⟨.hbm, 49, rfl⟩
abbrev main_call0_call0_v29 : Ref sig .tc := ⟨.hbm, 50, rfl⟩
abbrev main_call0_call0_v30 : Ref sig .tc := ⟨.hbm, 51, rfl⟩
abbrev main_call0_call0_v31 : Ref sig .tc := ⟨.hbm, 52, rfl⟩
abbrev main_call0_call0_cst_10 : Ref sig .tc := ⟨.hbm, 53, rfl⟩
abbrev main_call0_call0_v32 : Ref sig .tc := ⟨.hbm, 54, rfl⟩
abbrev main_v5_2 : Ref sig .tc := ⟨.hbm, 55, rfl⟩
abbrev main_v5_0 : Ref sig .tc := ⟨.hbm, 56, rfl⟩
abbrev main_v6 : Ref sig .tc := ⟨.hbm, 57, rfl⟩
abbrev main_call1_call0_cst : Ref sig .tc := ⟨.hbm, 58, rfl⟩
abbrev main_call1_call0_v0 : Ref sig .tc := ⟨.hbm, 59, rfl⟩
abbrev main_v7 : Ref sig .tc := ⟨.hbm, 60, rfl⟩
abbrev main_v8 : Ref sig .tc := ⟨.hbm, 61, rfl⟩
abbrev main_call2_call0_cst : Ref sig .tc := ⟨.hbm, 62, rfl⟩
abbrev main_call2_call0_v0 : Ref sig .tc := ⟨.hbm, 63, rfl⟩
abbrev main_v9 : Ref sig .tc := ⟨.hbm, 64, rfl⟩
abbrev main_v10 : Ref sig .tc := ⟨.hbm, 65, rfl⟩
abbrev main_call3_v0 : Ref sig .tc := ⟨.hbm, 66, rfl⟩
abbrev main_call3_v1 : Ref sig .tc := ⟨.hbm, 67, rfl⟩
abbrev main_v11 : Ref sig .tc := ⟨.hbm, 68, rfl⟩
abbrev main_cst : Ref sig .tc := ⟨.hbm, 69, rfl⟩
abbrev main_v12 : Ref sig .tc := ⟨.hbm, 70, rfl⟩
abbrev main_v13 : Ref sig .tc := ⟨.hbm, 71, rfl⟩
abbrev main_cst_0 : Ref sig .tc := ⟨.hbm, 72, rfl⟩
abbrev main_v14 : Ref sig .tc := ⟨.hbm, 73, rfl⟩
abbrev main_v15 : Ref sig .tc := ⟨.hbm, 74, rfl⟩
abbrev main_c : Ref sig .tc := ⟨.hbm, 75, rfl⟩
abbrev main_call4_v0 : Ref sig .tc := ⟨.hbm, 76, rfl⟩
abbrev main_v16 : Ref sig .tc := ⟨.hbm, 77, rfl⟩
abbrev main_v17 : Ref sig .tc := ⟨.hbm, 78, rfl⟩
abbrev main_c_1 : Ref sig .tc := ⟨.hbm, 79, rfl⟩
abbrev main_call5_v0 : Ref sig .tc := ⟨.hbm, 80, rfl⟩
abbrev main_v18 : Ref sig .tc := ⟨.hbm, 81, rfl⟩

abbrev nD : Nat := 1
abbrev τ : Topo := Topo.v7x

variable {F : FTy → Type} [FloatOps F]
-- ==== KernelPool.lean ====
abbrev S2064x1024 : Shape := ⟨2, ![2064, 1024]⟩
abbrev S4x256x256 : Shape := ⟨3, ![4, 256, 256]⟩
abbrev S1x1024 : Shape := ⟨2, ![1, 1024]⟩
abbrev S_ : Shape := ⟨0, ![]⟩
abbrev S2176x1024 : Shape := ⟨2, ![2176, 1024]⟩
abbrev S2176x1 : Shape := ⟨2, ![2176, 1]⟩
abbrev S1x4x256 : Shape := ⟨3, ![1, 4, 256]⟩
abbrev S2175x1024 : Shape := ⟨2, ![2175, 1024]⟩
abbrev S2x1024 : Shape := ⟨2, ![2, 1024]⟩
abbrev S2174x1024 : Shape := ⟨2, ![2174, 1024]⟩
abbrev S4x1024 : Shape := ⟨2, ![4, 1024]⟩
abbrev S2172x1024 : Shape := ⟨2, ![2172, 1024]⟩
abbrev S8x1024 : Shape := ⟨2, ![8, 1024]⟩
abbrev S2168x1024 : Shape := ⟨2, ![2168, 1024]⟩
abbrev S2176x256 : Shape := ⟨2, ![2176, 256]⟩
abbrev S1x256x256 : Shape := ⟨3, ![1, 256, 256]⟩
abbrev S1x256 : Shape := ⟨2, ![1, 256]⟩
abbrev S256x256 : Shape := ⟨2, ![256, 256]⟩
abbrev S256 : Shape := ⟨1, ![256]⟩
abbrev S256x2176 : Shape := ⟨2, ![256, 2176]⟩

abbrev nBuf : Space → Nat
  | .hbm => 86
  | .vmem => 14
  | .smem => 0
  | _ => 0

abbrev bufTy : (tb : Table) → Fin (tcTables nBuf tb) → BufTy
  | .hbm, ⟨0, _⟩ => ⟨S2064x1024, .f32⟩
  | .hbm, ⟨1, _⟩ => ⟨S4x256x256, .f32⟩
  | .hbm, ⟨2, _⟩ => ⟨S1x1024, .f32⟩
  | .hbm, ⟨3, _⟩ => ⟨S2064x1024, .f32⟩
  | .hbm, ⟨4, _⟩ => ⟨S_, .f32⟩
  | .hbm, ⟨5, _⟩ => ⟨S2176x1024, .f32⟩
  | .hbm, ⟨6, _⟩ => ⟨S_, .f32⟩
  | .hbm, ⟨7, _⟩ => ⟨S2176x1024, .f32⟩
  | .hbm, ⟨8, _⟩ => ⟨S2176x1, .i32⟩
  | .hbm, ⟨9, _⟩ => ⟨S1x4x256, .i32⟩
  | .hbm, ⟨10, _⟩ => ⟨S1x1024, .i32⟩
  | .hbm, ⟨11, _⟩ => ⟨S_, .f32⟩
  | .hbm, ⟨12, _⟩ => ⟨S2176x1024, .f32⟩
  | .hbm, ⟨13, _⟩ => ⟨S1x1024, .f32⟩
  | .hbm, ⟨14, _⟩ => ⟨S2175x1024, .f32⟩
  | .hbm, ⟨15, _⟩ => ⟨S2176x1024, .f32⟩
  | .hbm, ⟨16, _⟩ => ⟨S_, .i32⟩
  | .hbm, ⟨17, _⟩ => ⟨S2176x1, .i32⟩
  | .hbm, ⟨18, _⟩ => ⟨S2176x1, .i1⟩
  | .hbm, ⟨19, _⟩ => ⟨S2176x1024, .i1⟩
  | .hbm, ⟨20, _⟩ => ⟨S2176x1024, .f32⟩
  | .hbm, ⟨21, _⟩ => ⟨S2176x1024, .f32⟩
  | .hbm, ⟨22, _⟩ => ⟨S_, .i32⟩
  | .hbm, ⟨23, _⟩ => ⟨S1x1024, .i32⟩
  | .hbm, ⟨24, _⟩ => ⟨S1x1024, .i1⟩
  | .hbm, ⟨25, _⟩ => ⟨S2176x1024, .i1⟩
  | .hbm, ⟨26, _⟩ => ⟨S2176x1024, .f32⟩
  | .hbm, ⟨27, _⟩ => ⟨S2x1024, .f32⟩
  | .hbm, ⟨28, _⟩ => ⟨S2174x1024, .f32⟩
  | .hbm, ⟨29, _⟩ => ⟨S2176x1024, .f32⟩
  | .hbm, ⟨30, _⟩ => ⟨S_, .i32⟩
  | .hbm, ⟨31, _⟩ => ⟨S2176x1, .i32⟩
  | .hbm, ⟨32, _⟩ => ⟨S2176x1, .i1⟩
  | .hbm, ⟨33, _⟩ => ⟨S2176x1024, .i1⟩
  | .hbm, ⟨34, _⟩ => ⟨S2176x1024, .f32⟩
  | .hbm, ⟨35, _⟩ => ⟨S2176x1024, .f32⟩
  | .hbm, ⟨36, _⟩ => ⟨S_, .i32⟩
  | .hbm, ⟨37, _⟩ => ⟨S1x1024, .i32⟩
  | .hbm, ⟨38, _⟩ => ⟨S1x1024, .i1⟩
  | .hbm, ⟨39, _⟩ => ⟨S2176x1024, .i1⟩
  | .hbm, ⟨40, _⟩ => ⟨S2176x1024, .f32⟩
  | .hbm, ⟨41, _⟩ => ⟨S4x1024, .f32⟩
  | .hbm, ⟨42, _⟩ => ⟨S2172x1024, .f32⟩
  | .hbm, ⟨43, _⟩ => ⟨S2176x1024, .f32⟩
  | .hbm, ⟨44, _⟩ => ⟨S_, .i32⟩
  | .hbm, ⟨45, _⟩ => ⟨S2176x1, .i32⟩
  | .hbm, ⟨46, _⟩ => ⟨S2176x1, .i1⟩
  | .hbm, ⟨47, _⟩ => ⟨S2176x1024, .i1⟩
  | .hbm, ⟨48, _⟩ => ⟨S2176x1024, .f32⟩
  | .hbm, ⟨49, _⟩ => ⟨S2176x1024, .f32⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S2176x1024, .i1⟩
  | .hbm, ⟨54, _⟩ => ⟨S2176x1024, .f32⟩
  | .hbm, ⟨55, _⟩ => ⟨S8x1024, .f32⟩
  | .hbm, ⟨56, _⟩ => ⟨S2168x1024, .f32⟩
  | .hbm, ⟨57, _⟩ => ⟨S2176x1024, .f32⟩
  | .hbm, ⟨58, _⟩ => ⟨S_, .i32⟩
  | .hbm, ⟨59, _⟩ => ⟨S2176x1, .i32⟩
  | .hbm, ⟨60, _⟩ => ⟨S2176x1, .i1⟩
  | .hbm, ⟨61, _⟩ => ⟨S2176x1024, .i1⟩
  | .hbm, ⟨62, _⟩ => ⟨S2176x1024, .f32⟩
  | .hbm, ⟨63, _⟩ => ⟨S2176x1024, .f32⟩
  | .hbm, ⟨64, _⟩ => ⟨S_, .i32⟩
  | .hbm, ⟨65, _⟩ => ⟨S1x1024, .i32⟩
  | .hbm, ⟨66, _⟩ => ⟨S1x1024, .i1⟩
  | .hbm, ⟨67, _⟩ => ⟨S2176x1024, .i1⟩
  | .hbm, ⟨68, _⟩ => ⟨S2176x1024, .f32⟩
  | .hbm, ⟨69, _⟩ => ⟨S_, .i32⟩
  | .hbm, ⟨70, _⟩ => ⟨S1x1024, .i32⟩
  | .hbm, ⟨71, _⟩ => ⟨S1x1024, .i32⟩
  | .hbm, ⟨72, _⟩ => ⟨S_, .i32⟩
  | .hbm, ⟨73, _⟩ => ⟨S2176x1, .i32⟩
  | .hbm, ⟨74, _⟩ => ⟨S2176x1, .i32⟩
  | .hbm, ⟨75, _⟩ => ⟨S2176x1024, .i32⟩
  | .hbm, ⟨76, _⟩ => ⟨S2176x1024, .i32⟩
  | .hbm, ⟨77, _⟩ => ⟨S2176x1024, .i32⟩
  | .hbm, ⟨78, _⟩ => ⟨S2176x1024, .f32⟩
  | .hbm, ⟨79, _⟩ => ⟨S2176x1024, .f32⟩
  | .hbm, ⟨80, _⟩ => ⟨S2176x1024, .f32⟩
  | .hbm, ⟨81, _⟩ => ⟨S2176x1024, .bf16⟩
  | .hbm, ⟨82, _⟩ => ⟨S4x256x256, .bf16⟩
  | .hbm, ⟨83, _⟩ => ⟨S2176x1024, .bf16⟩
  | .hbm, ⟨84, _⟩ => ⟨S4x256x256, .bf16⟩
  | .hbm, ⟨85, _⟩ => ⟨S1x1024, .f32⟩
  | .local _ .vmem, ⟨0, _⟩ => ⟨S2176x256, .f32⟩
  | .local _ .vmem, ⟨1, _⟩ => ⟨S2176x256, .f32⟩
  | .local _ .vmem, ⟨2, _⟩ => ⟨S2176x256, .bf16⟩
  | .local _ .vmem, ⟨3, _⟩ => ⟨S2176x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S2176x256, .bf16⟩
  | .local _ .vmem, ⟨9, _⟩ => ⟨S2176x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256, .f32⟩
  | .local _ .vmem, ⟨13, _⟩ => ⟨S1x256, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_9 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66_0 : Ref sig .tc := ⟨.hbm, 83, rfl⟩
abbrev main_v66_1 : Ref sig .tc := ⟨.hbm, 84, rfl⟩
abbrev main_v66_2 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferencePoolIdeal.lean ====
abbrev S2064x1024 : Shape := ⟨2, ![2064, 1024]⟩
abbrev S4x256x256 : Shape := ⟨3, ![4, 256, 256]⟩
abbrev S1x1024 : Shape := ⟨2, ![1, 1024]⟩
abbrev S2064x4x256 : Shape := ⟨3, ![2064, 4, 256]⟩
abbrev S_ : Shape := ⟨0, ![]⟩
abbrev S1x4x256 : Shape := ⟨3, ![1, 4, 256]⟩
abbrev S2065x4x256 : Shape := ⟨3, ![2065, 4, 256]⟩
abbrev S1 : Shape := ⟨1, ![1]⟩
abbrev S4 : Shape := ⟨1, ![4]⟩
abbrev S2064 : Shape := ⟨1, ![2064]⟩
abbrev S2064x1 : Shape := ⟨2, ![2064, 1]⟩
abbrev S1x4 : Shape := ⟨2, ![1, 4]⟩
abbrev S2064x4 : Shape := ⟨2, ![2064, 4]⟩
abbrev S2064x4x1 : Shape := ⟨3, ![2064, 4, 1]⟩
abbrev S2064x4x2 : Shape := ⟨3, ![2064, 4, 2]⟩
abbrev S4x256x2064 : Shape := ⟨3, ![4, 256, 2064]⟩
abbrev S1024 : Shape := ⟨1, ![1024]⟩
abbrev S4x2064x256 : Shape := ⟨3, ![4, 2064, 256]⟩
abbrev S2176x1024 : Shape := ⟨2, ![2176, 1024]⟩

abbrev nBuf : Space → Nat
  | .hbm => 128
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S4x256x256, .f32⟩
  | .hbm, ⟨2, _⟩ => ⟨S1x1024, .f32⟩
  | .hbm, ⟨3, _⟩ => ⟨S2064x1024, .f32⟩
  | .hbm, ⟨4, _⟩ => ⟨S2064x4x256, .f32⟩
  | .hbm, ⟨5, _⟩ => ⟨S_, .f32⟩
  | .hbm, ⟨6, _⟩ => ⟨S_, .f32⟩
  | .hbm, ⟨7, _⟩ => ⟨S2064x4x256, .f32⟩
  | .hbm, ⟨8, _⟩ => ⟨S_, .f32⟩
  | .hbm, ⟨9, _⟩ => ⟨S1x4x256, .f32⟩
  | .hbm, ⟨10, _⟩ => ⟨S2065x4x256, .f32⟩
  | .hbm, ⟨11, _⟩ => ⟨S_, .f32⟩
  | .hbm, ⟨12, _⟩ => ⟨S1x4x256, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S4, .i32⟩
  | .hbm, ⟨22, _⟩ => ⟨S2064, .i32⟩
  | .hbm, ⟨23, _⟩ => ⟨S_, .i32⟩
  | .hbm, ⟨24, _⟩ => ⟨S2064, .i32⟩
  | .hbm, ⟨25, _⟩ => ⟨S2064, .i32⟩
  | .hbm, ⟨26, _⟩ => ⟨S2064x1, .i32⟩
  | .hbm, ⟨27, _⟩ => ⟨S1x4, .i32⟩
  | .hbm, ⟨28, _⟩ => ⟨S2064x4, .i32⟩
  | .hbm, ⟨29, _⟩ => ⟨S2064x4, .i32⟩
  | .hbm, ⟨30, _⟩ => ⟨S2064x4, .i32⟩
  | .hbm, ⟨31, _⟩ => ⟨S_, .i32⟩
  | .hbm, ⟨32, _⟩ => ⟨S2064x4, .i32⟩
  | .hbm, ⟨33, _⟩ => ⟨S2064x4, .i32⟩
  | .hbm, ⟨34, _⟩ => ⟨S4, .i32⟩
  | .hbm, ⟨35, _⟩ => ⟨S1x4, .i32⟩
  | .hbm, ⟨36, _⟩ => ⟨S_, .i32⟩
  | .hbm, ⟨37, _⟩ => ⟨S2064x1, .i32⟩
  | .hbm, ⟨38, _⟩ => ⟨S2064x1, .i1⟩
  | .hbm, ⟨39, _⟩ => ⟨S_, .i32⟩
  | .hbm, ⟨40, _⟩ => ⟨S2064x1, .i32⟩
  | .hbm, ⟨41, _⟩ => ⟨S2064x1, .i32⟩
  | .hbm, ⟨42, _⟩ => ⟨S2064x1, .i32⟩
  | .hbm, ⟨43, _⟩ => ⟨S_, .i32⟩
  | .hbm, ⟨44, _⟩ => ⟨S1x4, .i32⟩
  | .hbm, ⟨45, _⟩ => ⟨S1x4, .i1⟩
  | .hbm, ⟨46, _⟩ => ⟨S_, .i32⟩
  | .hbm, ⟨47, _⟩ => ⟨S1x4, .i32⟩
  | .hbm, ⟨48, _⟩ => ⟨S1x4, .i32⟩
  | .hbm, ⟨49, _⟩ => ⟨S1x4, .i32⟩
  | .hbm, ⟨50, _⟩ => ⟨S2064x4, .i32⟩
  | .hbm, ⟨51, _⟩ => ⟨S2064x4, .i32⟩
  | .hbm, ⟨52, _⟩ => ⟨S2064x4x1, .i32⟩
  | .hbm, ⟨53, _⟩ => ⟨S2064x4x1, .i32⟩
  | .hbm, ⟨54, _⟩ => ⟨S2064x4x2, .i32⟩
  | .hbm, ⟨55, _⟩ => ⟨S2064x4x256, .f32⟩
  | .hbm, ⟨56, _⟩ => ⟨S_, .i32⟩
  | .hbm, ⟨57, _⟩ => ⟨S2064x4, .i32⟩
  | .hbm, ⟨58, _⟩ => ⟨S2064x4, .i1⟩
  | .hbm, ⟨59, _⟩ => ⟨S_, .i32⟩
  | .hbm, ⟨60, _⟩ => ⟨S2064x4, .i32⟩
  | .hbm, ⟨61, _⟩ => ⟨S2064x4, .i32⟩
  | .hbm, ⟨62, _⟩ => ⟨S2064x4, .i32⟩
  | .hbm, ⟨63, _⟩ => ⟨S_, .i32⟩
  | .hbm, ⟨64, _⟩ => ⟨S1x4, .i32⟩
  | .hbm, ⟨65, _⟩ => ⟨S1x4, .i1⟩
  | .hbm, ⟨66, _⟩ => ⟨S_, .i32⟩
  | .hbm, ⟨67, _⟩ => ⟨S1x4, .i32⟩
  | .hbm, ⟨68, _⟩ => ⟨S1x4, .i32⟩
  | .hbm, ⟨69, _⟩ => ⟨S1x4, .i32⟩
  | .hbm, ⟨70, _⟩ => ⟨S2064x4, .i32⟩
  | .hbm, ⟨71, _⟩ => ⟨S2064x4x1, .i32⟩
  | .hbm, ⟨72, _⟩ => ⟨S2064x4x1, .i32⟩
  | .hbm, ⟨73, _⟩ => ⟨S2064x4x2, .i32⟩
  | .hbm, ⟨74, _⟩ => ⟨S2064x4x256, .f32⟩
  | .hbm, ⟨75, _⟩ => ⟨S2064x4x256, .f32⟩
  | .hbm, ⟨76, _⟩ => ⟨S2064x4, .i32⟩
  | .hbm, ⟨77, _⟩ => ⟨S2064x4, .i32⟩
  | .hbm, ⟨78, _⟩ => ⟨S2064x4, .f32⟩
  | .hbm, ⟨79, _⟩ => ⟨S2064x4x1, .f32⟩
  | .hbm, ⟨80, _⟩ => ⟨S2064x4x256, .f32⟩
  | .hbm, ⟨81, _⟩ => ⟨S2064x4x256, .f32⟩
  | .hbm, ⟨82, _⟩ => ⟨S2064x4x256, .f32⟩
  | .hbm, ⟨83, _⟩ => ⟨S4x256x2064, .f32⟩
  | .hbm, ⟨84, _⟩ => ⟨S2064x4x256, .f32⟩
  | .hbm, ⟨85, _⟩ => ⟨S2064x1024, .f32⟩
  | .hbm, ⟨86, _⟩ => ⟨S1024, .f32⟩
  | .hbm, ⟨87, _⟩ => ⟨S1x1024, .f32⟩
  | .hbm, ⟨88, _⟩ => ⟨S2064x1024, .f32⟩
  | .hbm, ⟨89, _⟩ => ⟨S2064x1024, .f32⟩
  | .hbm, ⟨90, _⟩ => ⟨S2064x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S2064x1024, .f32⟩
  | .hbm, ⟨95, _⟩ => ⟨S2064x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S2064x4x256, .f32⟩
  | .hbm, ⟨100, _⟩ => ⟨S4x256x2064, .f32⟩
  | .hbm, ⟨101, _⟩ => ⟨S4x2064x256, .f32⟩
  | .hbm, ⟨102, _⟩ => ⟨S2064x4x256, .f32⟩
  | .hbm, ⟨103, _⟩ => ⟨S4x256x256, .f32⟩
  | .hbm, ⟨104, _⟩ => ⟨S4x256x256, .f32⟩
  | .hbm, ⟨105, _⟩ => ⟨S2064x4x256, .f32⟩
  | .hbm, ⟨106, _⟩ => ⟨S2064x4x256, .f32⟩
  | .hbm, ⟨107, _⟩ => ⟨S2064x4x256, .f32⟩
  | .hbm, ⟨108, _⟩ => ⟨S2064x4x256, .f32⟩
  | .hbm, ⟨109, _⟩ => ⟨S_, .f32⟩
  | .hbm, ⟨110, _⟩ => ⟨S2065x4x256, .f32⟩
  | .hbm, ⟨111, _⟩ => ⟨S2065x4x256, .f32⟩
  | .hbm, ⟨112, _⟩ => ⟨S_, .f32⟩
  | .hbm, ⟨113, _⟩ => ⟨S2065x4x256, .f32⟩
  | .hbm, ⟨114, _⟩ => ⟨S2065x4x256, .f32⟩
  | .hbm, ⟨115, _⟩ => ⟨S2065x4x256, .f32⟩
  | .hbm, ⟨116, _⟩ => ⟨S1x4x256, .f32⟩
  | .hbm, ⟨117, _⟩ => ⟨S2064x4x256, .f32⟩
  | .hbm, ⟨118, _⟩ => ⟨S_, .f32⟩
  | .hbm, ⟨119, _⟩ => ⟨S_, .f32⟩
  | .hbm, ⟨120, _⟩ => ⟨S2064x4x256, .f32⟩
  | .hbm, ⟨121, _⟩ => ⟨S2064x4x256, .f32⟩
  | .hbm, ⟨122, _⟩ => ⟨S2064x1024, .f32⟩
  | .hbm, ⟨123, _⟩ => ⟨S_, .i32⟩
  | .hbm, ⟨124, _⟩ => ⟨S_, .f32⟩
  | .hbm, ⟨125, _⟩ => ⟨S2176x1024, .f32⟩
  | .hbm, ⟨126, _⟩ => ⟨S2176x1024, .bf16⟩
  | .hbm, ⟨127, _⟩ => ⟨S4x256x256, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_8 : Ref sig .tc := ⟨.hbm, 43, rfl⟩
abbrev main_v27 : Ref sig .tc := ⟨.hbm, 44, rfl⟩
abbrev main_v28 : Ref sig .tc := ⟨.hbm, 45, rfl⟩
abbrev main_c_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_v38 : Ref sig .tc := ⟨.hbm, 57, rfl⟩
abbrev main_v39 : Ref sig .tc := ⟨.hbm, 58, rfl⟩
abbrev main_c_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_12 : Ref sig .tc := ⟨.hbm, 63, rfl⟩
abbrev main_v43 : Ref sig .tc := ⟨.hbm, 64, rfl⟩
abbrev main_v44 : Ref sig .tc := ⟨.hbm, 65, rfl⟩
abbrev main_c_13 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_16 : Ref sig .tc := ⟨.hbm, 109, rfl⟩
abbrev main_v85 : Ref sig .tc := ⟨.hbm, 110, rfl⟩
abbrev main_v86 : Ref sig .tc := ⟨.hbm, 111, rfl⟩
abbrev main_cst_17 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_call1_call0_cst : Ref sig .tc := ⟨.hbm, 118, rfl⟩
abbrev main_call1_call0_v0 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_c_18 : Ref sig .tc := ⟨.hbm, 123, rfl⟩
abbrev main_call2_v0 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩

abbrev nD : Nat := 1
abbrev τ : Topo := Topo.v7x

variable {F : FTy → Type} [FloatOps F]
-- ==== KernelAttnFwd.lean ====
abbrev S2064x8x128 : Shape := ⟨3, ![2064, 8, 128]⟩
abbrev S8x2064 : Shape := ⟨2, ![8, 2064]⟩
abbrev S_ : Shape := ⟨0, ![]⟩
abbrev S8x112 : Shape := ⟨2, ![8, 112]⟩
abbrev S8x2176 : Shape := ⟨2, ![8, 2176]⟩
abbrev S112x8x128 : Shape := ⟨3, ![112, 8, 128]⟩
abbrev S2176x8x128 : Shape := ⟨3, ![2176, 8, 128]⟩
abbrev S2176x1024 : Shape := ⟨2, ![2176, 1024]⟩
abbrev S8x2176x1 : Shape := ⟨3, ![8, 2176, 1]⟩
abbrev S8x1x2176 : Shape := ⟨3, ![8, 1, 2176]⟩
abbrev S1024x2176 : Shape := ⟨2, ![1024, 2176]⟩
abbrev S128x256 : Shape := ⟨2, ![128, 256]⟩
abbrev S2176x256 : Shape := ⟨2, ![2176, 256]⟩
abbrev S2x128x1 : Shape := ⟨3, ![2, 128, 1]⟩
abbrev S2x1x2176 : Shape := ⟨3, ![2, 1, 2176]⟩
abbrev S256x128 : Shape := ⟨2, ![256, 128]⟩
abbrev S2x1x128 : Shape := ⟨3, ![2, 1, 128]⟩
abbrev S128x1 : Shape := ⟨2, ![128, 1]⟩
abbrev S1x256 : Shape := ⟨2, ![1, 256]⟩
abbrev S128x128 : Shape := ⟨2, ![128, 128]⟩
abbrev S1x128x1 : Shape := ⟨3, ![1, 128, 1]⟩
abbrev S1x1x256 : Shape := ⟨3, ![1, 1, 256]⟩
abbrev S128 : Shape := ⟨1, ![128]⟩
abbrev S1x128 : Shape := ⟨2, ![1, 128]⟩
abbrev S1x1x128 : Shape := ⟨3, ![1, 1, 128]⟩
abbrev S1x512 : Shape := ⟨2, ![1, 512]⟩
abbrev S512x128 : Shape := ⟨2, ![512, 128]⟩
abbrev S128x512 : Shape := ⟨2, ![128, 512]⟩
abbrev S1x1x512 : Shape := ⟨3, ![1, 1, 512]⟩
abbrev S1x768 : Shape := ⟨2, ![1, 768]⟩
abbrev S768x128 : Shape := ⟨2, ![768, 128]⟩
abbrev S128x768 : Shape := ⟨2, ![128, 768]⟩
abbrev S1x1x768 : Shape := ⟨3, ![1, 1, 768]⟩
abbrev S1x1024 : Shape := ⟨2, ![1, 1024]⟩
abbrev S1024x128 : Shape := ⟨2, ![1024, 128]⟩
abbrev S128x1024 : Shape := ⟨2, ![128, 1024]⟩
abbrev S1x1x1024 : Shape := ⟨3, ![1, 1, 1024]⟩
abbrev S1x1280 : Shape := ⟨2, ![1, 1280]⟩
abbrev S1280x128 : Shape := ⟨2, ![1280, 128]⟩
abbrev S128x1280 : Shape := ⟨2, ![128, 1280]⟩
abbrev S1x1x1280 : Shape := ⟨3, ![1, 1, 1280]⟩
abbrev S1x1536 : Shape := ⟨2, ![1, 1536]⟩
abbrev S1536x128 : Shape := ⟨2, ![1536, 128]⟩
abbrev S128x1536 : Shape := ⟨2, ![128, 1536]⟩
abbrev S1x1x1536 : Shape := ⟨3, ![1, 1, 1536]⟩
abbrev S1x1792 : Shape := ⟨2, ![1, 1792]⟩
abbrev S1792x128 : Shape := ⟨2, ![1792, 128]⟩
abbrev S128x1792 : Shape := ⟨2, ![128, 1792]⟩
abbrev S1x1x1792 : Shape := ⟨3, ![1, 1, 1792]⟩
abbrev S1x2048 : Shape := ⟨2, ![1, 2048]⟩
abbrev S2048x128 : Shape := ⟨2, ![2048, 128]⟩
abbrev S128x2048 : Shape := ⟨2, ![128, 2048]⟩
abbrev S1x1x2048 : Shape := ⟨3, ![1, 1, 2048]⟩
abbrev S1x2176 : Shape := ⟨2, ![1, 2176]⟩
abbrev S2176x128 : Shape := ⟨2, ![2176, 128]⟩
abbrev S128x2176 : Shape := ⟨2, ![128, 2176]⟩
abbrev S1x1x2176 : Shape := ⟨3, ![1, 1, 2176]⟩

abbrev nBuf : Space → Nat
  | .hbm => 28
  | .vmem => 18
  | .smem => 0
  | _ => 0

abbrev bufTy : (tb : Table) → Fin (tcTables nBuf tb) → BufTy
  | .hbm, ⟨0, _⟩ => ⟨S2064x8x128, .f32⟩
  | .hbm, ⟨1, _⟩ => ⟨S2064x8x128, .f32⟩
  | .hbm, ⟨2, _⟩ => ⟨S2064x8x128, .f32⟩
  | .hbm, ⟨3, _⟩ => ⟨S8x2064, .f32⟩
  | .hbm, ⟨4, _⟩ => ⟨S_, .f32⟩
  | .hbm, ⟨5, _⟩ => ⟨S8x112, .f32⟩
  | .hbm, ⟨6, _⟩ => ⟨S8x2176, .f32⟩
  | .hbm, ⟨7, _⟩ => ⟨S_, .f32⟩
  | .hbm, ⟨8, _⟩ => ⟨S112x8x128, .f32⟩
  | .hbm, ⟨9, _⟩ => ⟨S2176x8x128, .f32⟩
  | .hbm, ⟨10, _⟩ => ⟨S2176x8x128, .bf16⟩
  | .hbm, ⟨11, _⟩ => ⟨S2176x1024, .bf16⟩
  | .hbm, ⟨12, _⟩ => ⟨S_, .f32⟩
  | .hbm, ⟨13, _⟩ => ⟨S112x8x128, .f32⟩
  | .hbm, ⟨14, _⟩ => ⟨S2176x8x128, .f32⟩
  | .hbm, ⟨15, _⟩ => ⟨S2176x8x128, .bf16⟩
  | .hbm, ⟨16, _⟩ => ⟨S2176x1024, .bf16⟩
  | .hbm, ⟨17, _⟩ => ⟨S_, .f32⟩
  | .hbm, ⟨18, _⟩ => ⟨S112x8x128, .f32⟩
  | .hbm, ⟨19, _⟩ => ⟨S2176x8x128, .f32⟩
  | .hbm, ⟨20, _⟩ => ⟨S2176x8x128, .bf16⟩
  | .hbm, ⟨21, _⟩ => ⟨S2176x1024, .bf16⟩
  | .hbm, ⟨22, _⟩ => ⟨S8x2176x1, .f32⟩
  | .hbm, ⟨23, _⟩ => ⟨S8x1x2176, .f32⟩
  | .hbm, ⟨24, _⟩ => ⟨S2176x1024, .bf16⟩
  | .hbm, ⟨25, _⟩ => ⟨S1024x2176, .bf16⟩
  | .hbm, ⟨26, _⟩ => ⟨S8x2176x1, .f32⟩
  | .hbm, ⟨27, _⟩ => ⟨S8x1x2176, .f32⟩
  | .local _ .vmem, ⟨0, _⟩ => ⟨S128x256, .bf16⟩
  | .local _ .vmem, ⟨1, _⟩ => ⟨S128x256, .bf16⟩
  | .local _ .vmem, ⟨2, _⟩ => ⟨S2176x256, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S2x128x1, .f32⟩
  | .local _ .vmem, ⟨7, _⟩ => ⟨S2x128x1, .f32⟩
  | .local _ .vmem, ⟨8, _⟩ => ⟨S2x1x2176, .f32⟩
  | .local _ .vmem, ⟨9, _⟩ => ⟨S2x1x2176, .f32⟩
  | .local _ .vmem, ⟨10, _⟩ => ⟨S128x256, .bf16⟩
  | .local _ .vmem, ⟨11, _⟩ => ⟨S128x256, .bf16⟩
  | .local _ .vmem, ⟨12, _⟩ => ⟨S256x128, .bf16⟩
  | .local _ .vmem, ⟨13, _⟩ => ⟨S256x128, .bf16⟩
  | .local _ .vmem, ⟨14, _⟩ => ⟨S2x128x1, .f32⟩
  | .local _ .vmem, ⟨15, _⟩ => ⟨S2x128x1, .f32⟩
  | .local _ .vmem, ⟨16, _⟩ => ⟨S2x1x128, .f32⟩
  | .local _ .vmem, ⟨17, _⟩ => ⟨S2x1x128, .f32⟩
  | _, _ => ⟨S2064x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c2_i32_1 : BitVec 32 := 2#32
  let v5 : BitVec 1 := Scalar.cmpi .sge arg1 c2_i32_1
  let c4_i32 : BitVec 32 := 4#32
  let v6 : BitVec 1 := Scalar.cmpi .slt arg1 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c4_i32_3 : BitVec 32 := 4#32
  let v10 : BitVec 1 := Scalar.cmpi .sge arg1 c4_i32_3
  let c6_i32 : BitVec 32 := 6#32
  let v11 : BitVec 1 := Scalar.cmpi .slt arg1 c6_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c6_i32_5 : BitVec 32 := 6#32
  let v15 : BitVec 1 := Scalar.cmpi .sge arg1 c6_i32_5
  let c8_i32 : BitVec 32 := 8#32
  let v16 : BitVec 1 := Scalar.cmpi .slt arg1 c8_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg1 : BitVec 32 := BitVec.ofNat 32 (i 1).val
  let c8_i32_7 : BitVec 32 := 8#32
  let v20 : BitVec 1 := Scalar.cmpi .sge arg1 c8_i32_7
  let c10_i32 : BitVec 32 := 10#32
  let v21 : BitVec 1 := Scalar.cmpi .slt arg1 c10_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg1 : BitVec 32 := BitVec.ofNat 32 (i 1).val
  let c10_i32_9 : BitVec 32 := 10#32
  let v25 : BitVec 1 := Scalar.cmpi .sge arg1 c10_i32_9
  let c12_i32 : BitVec 32 := 12#32
  let v26 : BitVec 1 := Scalar.cmpi .slt arg1 c12_i32
  let v27 : BitVec 1 := Scalar.andi v25 v26
  let v28 : BitVec 32 := Scalar.extui v27
  let c0_i32_10 : BitVec 32 := 0#32
  let v29 : BitVec 1 := Scalar.cmpi .ne v28 c0_i32_10
  v29

def k0_cond7 (i : grid0.Coords) : BitVec 1 :=
  let arg1 : BitVec 32 := BitVec.ofNat 32 (i 1).val
  let c12_i32_11 : BitVec 32 := 12#32
  let v30 : BitVec 1 := Scalar.cmpi .sge arg1 c12_i32_11
  let c14_i32 : BitVec 32 := 14#32
  let v31 : BitVec 1 := Scalar.cmpi .slt arg1 c14_i32
  let v32 : BitVec 1 := Scalar.andi v30 v31
  let v33 : BitVec 32 := Scalar.extui v32
  let c0_i32_12 : BitVec 32 := 0#32
  let v34 : BitVec 1 := Scalar.cmpi .ne v33 c0_i32_12
  v34

def k0_cond8 (i : grid0.Coords) : BitVec 1 :=
  let arg1 : BitVec 32 := BitVec.ofNat 32 (i 1).val
  let c14_i32_13 : BitVec 32 := 14#32
  let v35 : BitVec 1 := Scalar.cmpi .sge arg1 c14_i32_13
  let c16_i32 : BitVec 32 := 16#32
  let v36 : BitVec 1 := Scalar.cmpi .slt arg1 c16_i32
  let v37 : BitVec 1 := Scalar.andi v35 v36
  let v38 : BitVec 32 := Scalar.extui v37
  let c0_i32_14 : BitVec 32 := 0#32
  let v39 : BitVec 1 := Scalar.cmpi .ne v38 c0_i32_14
  v39

def k0_cond9 (i : grid0.Coords) : BitVec 1 :=
  let arg1 : BitVec 32 := BitVec.ofNat 32 (i 1).val
  let c16_i32_15 : BitVec 32 := 16#32
  let v40 : BitVec 1 := Scalar.cmpi .sge arg1 c16_i32_15
  let c17_i32 : BitVec 32 := 17#32
  let v41 : BitVec 1 := Scalar.cmpi .slt arg1 c17_i32
  let v42 : BitVec 1 := Scalar.andi v40 v41
  let v43 : BitVec 32 := Scalar.extui v42
  let c0_i32_16 : BitVec 32 := 0#32
  let v44 : BitVec 1 := Scalar.cmpi .ne v43 c0_i32_16
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAttnFwdIdeal.lean ====
variable {F : FTy → Type} [FloatOps F] [Named F]
def κ : String → Option EReal := fun
  | "mask" => some ⊥
  | _ => none
-- ==== ReferenceAttnFwdIdeal.lean ====
abbrev S2064x8x128 : Shape := ⟨3, ![2064, 8, 128]⟩
abbrev S8x2064 : Shape := ⟨2, ![8, 2064]⟩
abbrev S_ : Shape := ⟨0, ![]⟩
abbrev S2176x8x128 : Shape := ⟨3, ![2176, 8, 128]⟩
abbrev S8x2176 : Shape := ⟨2, ![8, 2176]⟩
abbrev S2176 : Shape := ⟨1, ![2176]⟩
abbrev S8x2176x2176 : Shape := ⟨3, ![8, 2176, 2176]⟩
abbrev S8x2176x1 : Shape := ⟨3, ![8, 2176, 1]⟩
abbrev S8x1x2176 : Shape := ⟨3, ![8, 1, 2176]⟩
abbrev S2176x1 : Shape := ⟨2, ![2176, 1]⟩
abbrev S1x2176 : Shape := ⟨2, ![1, 2176]⟩
abbrev S2176x2176 : Shape := ⟨2, ![2176, 2176]⟩
abbrev S8x128x2176 : Shape := ⟨3, ![8, 128, 2176]⟩
abbrev S2176x1024 : Shape := ⟨2, ![2176, 1024]⟩
abbrev S1024x2176 : Shape := ⟨2, ![1024, 2176]⟩

abbrev nBuf : Space → Nat
  | .hbm => 62
  | .vmem => 0
  | .smem => 0
  | _ => 0

abbrev bufTy : (tb : Table) → Fin (tcTables nBuf tb) → BufTy
  | .hbm, ⟨0, _⟩ => ⟨S2064x8x128, .f32⟩
  | .hbm, ⟨1, _⟩ => ⟨S2064x8x128, .f32⟩
  | .hbm, ⟨2, _⟩ => ⟨S2064x8x128, .f32⟩
  | .hbm, ⟨3, _⟩ => ⟨S8x2064, .f32⟩
  | .hbm, ⟨4, _⟩ => ⟨S_, .i32⟩
  | .hbm, ⟨5, _⟩ => ⟨S_, .f32⟩
  | .hbm, ⟨6, _⟩ => ⟨S2176x8x128, .f32⟩
  | .hbm, ⟨7, _⟩ => ⟨S_, .i32⟩
  | .hbm, ⟨8, _⟩ => ⟨S_, .f32⟩
  | .hbm, ⟨9, _⟩ => ⟨S2176x8x128, .f32⟩
  | .hbm, ⟨10, _⟩ => ⟨S_, .i32⟩
  | .hbm, ⟨11, _⟩ => ⟨S_, .f32⟩
  | .hbm, ⟨12, _⟩ => ⟨S2176x8x128, .f32⟩
  | .hbm, ⟨13, _⟩ => ⟨S_, .i32⟩
  | .hbm, ⟨14, _⟩ => ⟨S_, .f32⟩
  | .hbm, ⟨15, _⟩ => ⟨S8x2176, .f32⟩
  | .hbm, ⟨16, _⟩ => ⟨S2176, .i32⟩
  | .hbm, ⟨17, _⟩ => ⟨S8x2176x2176, .f32⟩
  | .hbm, ⟨18, _⟩ => ⟨S_, .f32⟩
  | .hbm, ⟨19, _⟩ => ⟨S8x2176x2176, .f32⟩
  | .hbm, ⟨20, _⟩ => ⟨S8x2176x2176, .f32⟩
  | .hbm, ⟨21, _⟩ => ⟨S8x2176x1, .f32⟩
  | .hbm, ⟨22, _⟩ => ⟨S8x1x2176, .f32⟩
  | .hbm, ⟨23, _⟩ => ⟨S8x2176x2176, .f32⟩
  | .hbm, ⟨24, _⟩ => ⟨S8x2176x2176, .f32⟩
  | .hbm, ⟨25, _⟩ => ⟨S8x2176x2176, .f32⟩
  | .hbm, ⟨26, _⟩ => ⟨S8x2176x2176, .f32⟩
  | .hbm, ⟨27, _⟩ => ⟨S2176x1, .i32⟩
  | .hbm, ⟨28, _⟩ => ⟨S1x2176, .i32⟩
  | .hbm, ⟨29, _⟩ => ⟨S2176x2176, .i32⟩
  | .hbm, ⟨30, _⟩ => ⟨S2176x2176, .i32⟩
  | .hbm, ⟨31, _⟩ => ⟨S2176x2176, .i1⟩
  | .hbm, ⟨32, _⟩ => ⟨S_, .f32⟩
  | .hbm, ⟨33, _⟩ => ⟨S_, .f32⟩
  | .hbm, ⟨34, _⟩ => ⟨S8x2176x2176, .i1⟩
  | .hbm, ⟨35, _⟩ => ⟨S8x2176x2176, .f32⟩
  | .hbm, ⟨36, _⟩ => ⟨S8x2176x2176, .f32⟩
  | .hbm, ⟨37, _⟩ => ⟨S_, .f32⟩
  | .hbm, ⟨38, _⟩ => ⟨S8x2176, .f32⟩
  | .hbm, ⟨39, _⟩ => ⟨S_, .f32⟩
  | .hbm, ⟨40, _⟩ => ⟨S8x2176, .f32⟩
  | .hbm, ⟨41, _⟩ => ⟨S8x2176, .f32⟩
  | .hbm, ⟨42, _⟩ => ⟨S8x2176x1, .f32⟩
  | .hbm, ⟨43, _⟩ => ⟨S8x2176x2176, .f32⟩
  | .hbm, ⟨44, _⟩ => ⟨S8x2176x2176, .f32⟩
  | .hbm, ⟨45, _⟩ => ⟨S8x2176x2176, .f32⟩
  | .hbm, ⟨46, _⟩ => ⟨S_, .f32⟩
  | .hbm, ⟨47, _⟩ => ⟨S8x2176, .f32⟩
  | .hbm, ⟨48, _⟩ => ⟨S8x2176x1, .f32⟩
  | .hbm, ⟨49, _⟩ => ⟨S8x2176x2176, .f32⟩
  | .hbm, ⟨50, _⟩ => ⟨S8x2176x2176, .f32⟩
  | .hbm, ⟨51, _⟩ => ⟨S8x128x2176, .f32⟩
  | .hbm, ⟨52, _⟩ => ⟨S2176x8x128, .f32⟩
  | .hbm, ⟨53, _⟩ => ⟨S2176x1024, .f32⟩
  | .hbm, ⟨54, _⟩ => ⟨S2176x1024, .bf16⟩
  | .hbm, ⟨55, _⟩ => ⟨S8x2176x2176, .f32⟩
  | .hbm, ⟨56, _⟩ => ⟨S_, .f32⟩
  | .hbm, ⟨57, _⟩ => ⟨S8x2176, .f32⟩
  | .hbm, ⟨58, _⟩ => ⟨S8x2176, .f32⟩
  | .hbm, ⟨59, _⟩ => ⟨S1024x2176, .bf16⟩
  | .hbm, ⟨60, _⟩ => ⟨S8x2176x1, .f32⟩
  | .hbm, ⟨61, _⟩ => ⟨S8x1x2176, .f32⟩
  | _, _ => ⟨S2064x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== KernelRmsFwd.lean ====
abbrev S2064x2048 : Shape := ⟨2, ![2064, 2048]⟩
abbrev S1x2048 : Shape := ⟨2, ![1, 2048]⟩
abbrev S_ : Shape := ⟨0, ![]⟩
abbrev S112x2048 : Shape := ⟨2, ![112, 2048]⟩
abbrev S2176x2048 : Shape := ⟨2, ![2176, 2048]⟩
abbrev S1x1 : Shape := ⟨2, ![1, 1]⟩
abbrev S2048x2176 : Shape := ⟨2, ![2048, 2176]⟩
abbrev S2176x1 : Shape := ⟨2, ![2176, 1]⟩
abbrev S128x2048 : Shape := ⟨2, ![128, 2048]⟩
abbrev S2048x128 : Shape := ⟨2, ![2048, 128]⟩
abbrev S128x1 : Shape := ⟨2, ![128, 1]⟩
abbrev S128 : Shape := ⟨1, ![128]⟩

abbrev nBuf : Space → Nat
  | .hbm => 10
  | .vmem => 9
  | .smem => 0
  | _ => 0

abbrev bufTy : (tb : Table) → Fin (tcTables nBuf tb) → BufTy
  | .hbm, ⟨0, _⟩ => ⟨S2064x2048, .f32⟩
  | .hbm, ⟨1, _⟩ => ⟨S1x2048, .f32⟩
  | .hbm, ⟨2, _⟩ => ⟨S_, .f32⟩
  | .hbm, ⟨3, _⟩ => ⟨S112x2048, .f32⟩
  | .hbm, ⟨4, _⟩ => ⟨S2176x2048, .f32⟩
  | .hbm, ⟨5, _⟩ => ⟨S_, .f32⟩
  | .hbm, ⟨6, _⟩ => ⟨S1x1, .f32⟩
  | .hbm, ⟨7, _⟩ => ⟨S2176x2048, .bf16⟩
  | .hbm, ⟨8, _⟩ => ⟨S2048x2176, .bf16⟩
  | .hbm, ⟨9, _⟩ => ⟨S2176x1, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .bf16⟩
  | .local _ .vmem, ⟨4, _⟩ => ⟨S128x2048, .bf16⟩
  | .local _ .vmem, ⟨5, _⟩ => ⟨S2048x128, .bf16⟩
  | .local _ .vmem, ⟨6, _⟩ => ⟨S2048x128, .bf16⟩
  | .local _ .vmem, ⟨7, _⟩ => ⟨S128x1, .f32⟩
  | .local _ .vmem, ⟨8, _⟩ => ⟨S128x1, .f32⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceRmsFwdIdeal.lean ====
abbrev S2064x2048 : Shape := ⟨2, ![2064, 2048]⟩
abbrev S1x2048 : Shape := ⟨2, ![1, 2048]⟩
abbrev S_ : Shape := ⟨0, ![]⟩
abbrev S2176x2048 : Shape := ⟨2, ![2176, 2048]⟩
abbrev S2048 : Shape := ⟨1, ![2048]⟩
abbrev S2176 : Shape := ⟨1, ![2176]⟩
abbrev S2176x1 : Shape := ⟨2, ![2176, 1]⟩
abbrev S2048x2176 : Shape := ⟨2, ![2048, 2176]⟩

abbrev nBuf : Space → Nat
  | .hbm => 35
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S1x2048, .f32⟩
  | .hbm, ⟨2, _⟩ => ⟨S_, .i32⟩
  | .hbm, ⟨3, _⟩ => ⟨S_, .f32⟩
  | .hbm, ⟨4, _⟩ => ⟨S2176x2048, .f32⟩
  | .hbm, ⟨5, _⟩ => ⟨S2048, .f32⟩
  | .hbm, ⟨6, _⟩ => ⟨S2176x2048, .f32⟩
  | .hbm, ⟨7, _⟩ => ⟨S_, .f32⟩
  | .hbm, ⟨8, _⟩ => ⟨S2176, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S_, .f32⟩
  | .hbm, ⟨14, _⟩ => ⟨S2176x1, .f32⟩
  | .hbm, ⟨15, _⟩ => ⟨S2176x1, .f32⟩
  | .hbm, ⟨16, _⟩ => ⟨S2176x1, .f32⟩
  | .hbm, ⟨17, _⟩ => ⟨S2176x2048, .f32⟩
  | .hbm, ⟨18, _⟩ => ⟨S2176x2048, .f32⟩
  | .hbm, ⟨19, _⟩ => ⟨S1x2048, .f32⟩
  | .hbm, ⟨20, _⟩ => ⟨S2176x2048, .f32⟩
  | .hbm, ⟨21, _⟩ => ⟨S2176x2048, .f32⟩
  | .hbm, ⟨22, _⟩ => ⟨S2176x2048, .bf16⟩
  | .hbm, ⟨23, _⟩ => ⟨S2048x2176, .bf16⟩
  | .hbm, ⟨24, _⟩ => ⟨S2176x2048, .f32⟩
  | .hbm, ⟨25, _⟩ => ⟨S_, .f32⟩
  | .hbm, ⟨26, _⟩ => ⟨S2176, .f32⟩
  | .hbm, ⟨27, _⟩ => ⟨S2176x1, .f32⟩
  | .hbm, ⟨28, _⟩ => ⟨S_, .f32⟩
  | .hbm, ⟨29, _⟩ => ⟨S2176x1, .f32⟩
  | .hbm, ⟨30, _⟩ => ⟨S2176x1, .f32⟩
  | .hbm, ⟨31, _⟩ => ⟨S_, .f32⟩
  | .hbm, ⟨32, _⟩ => ⟨S2176x1, .f32⟩
  | .hbm, ⟨33, _⟩ => ⟨S2176x1, .f32⟩
  | .hbm, ⟨34, _⟩ => ⟨S2176x1, .f32⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== KernelPrep.lean ====
abbrev S2064x4104 : Shape := ⟨2, ![2064, 4104]⟩
abbrev S1x128 : Shape := ⟨2, ![1, 128]⟩
abbrev S_ : Shape := ⟨0, ![]⟩
abbrev S2176x4224 : Shape := ⟨2, ![2176, 4224]⟩
abbrev S2176x1024 : Shape := ⟨2, ![2176, 1024]⟩
abbrev S2176x128 : Shape := ⟨2, ![2176, 128]⟩
abbrev S2176 : Shape := ⟨1, ![2176]⟩
abbrev S2176x1 : Shape := ⟨2, ![2176, 1]⟩

abbrev nBuf : Space → Nat
  | .hbm => 9
  | .vmem => 14
  | .smem => 0
  | _ => 0

abbrev bufTy : (tb : Table) → Fin (tcTables nBuf tb) → BufTy
  | .hbm, ⟨0, _⟩ => ⟨S2064x4104, .f32⟩
  | .hbm, ⟨1, _⟩ => ⟨S1x128, .f32⟩
  | .hbm, ⟨2, _⟩ => ⟨S1x128, .f32⟩
  | .hbm, ⟨3, _⟩ => ⟨S_, .i32⟩
  | .hbm, ⟨4, _⟩ => ⟨S_, .f32⟩
  | .hbm, ⟨5, _⟩ => ⟨S2176x4224, .f32⟩
  | .hbm, ⟨6, _⟩ => ⟨S2176x1024, .bf16⟩
  | .hbm, ⟨7, _⟩ => ⟨S2176x1024, .bf16⟩
  | .hbm, ⟨8, _⟩ => ⟨S2176x1024, .bf16⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S1x128, .f32⟩
  | .local _ .vmem, ⟨7, _⟩ => ⟨S1x128, .f32⟩
  | .local _ .vmem, ⟨8, _⟩ => ⟨S2176x128, .bf16⟩
  | .local _ .vmem, ⟨9, _⟩ => ⟨S2176x128, .bf16⟩
  | .local _ .vmem, ⟨10, _⟩ => ⟨S2176x128, .bf16⟩
  | .local _ .vmem, ⟨11, _⟩ => ⟨S2176x128, .bf16⟩
  | .local _ .vmem, ⟨12, _⟩ => ⟨S2176x128, .bf16⟩
  | .local _ .vmem, ⟨13, _⟩ => ⟨S2176x128, .bf16⟩
  | _, _ => ⟨S2064x4104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2176x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2176x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2176x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferencePrepIdeal.lean ====
abbrev S2064x4104 : Shape := ⟨2, ![2064, 4104]⟩
abbrev S1x128 : Shape := ⟨2, ![1, 128]⟩
abbrev S2064x1024 : Shape := ⟨2, ![2064, 1024]⟩
abbrev S2064x8x128 : Shape := ⟨3, ![2064, 8, 128]⟩
abbrev S128 : Shape := ⟨1, ![128]⟩
abbrev S_ : Shape := ⟨0, ![]⟩
abbrev S2064x8 : Shape := ⟨2, ![2064, 8]⟩
abbrev S2064x8x1 : Shape := ⟨3, ![2064, 8, 1]⟩
abbrev S1x1x128 : Shape := ⟨3, ![1, 1, 128]⟩
abbrev S2176x1024 : Shape := ⟨2, ![2176, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2064x4104, .f32⟩
  | .hbm, ⟨1, _⟩ => ⟨S1x128, .f32⟩
  | .hbm, ⟨2, _⟩ => ⟨S1x128, .f32⟩
  | .hbm, ⟨3, _⟩ => ⟨S2064x1024, .f32⟩
  | .hbm, ⟨4, _⟩ => ⟨S2064x8x128, .f32⟩
  | .hbm, ⟨5, _⟩ => ⟨S128, .f32⟩
  | .hbm, ⟨6, _⟩ => ⟨S2064x8x128, .f32⟩
  | .hbm, ⟨7, _⟩ => ⟨S_, .f32⟩
  | .hbm, ⟨8, _⟩ => ⟨S2064x8, .f32⟩
  | .hbm, ⟨9, _⟩ => ⟨S2064x8x1, .f32⟩
  | .hbm, ⟨10, _⟩ => ⟨S_, .f32⟩
  | .hbm, ⟨11, _⟩ => ⟨S2064x8x1, .f32⟩
  | .hbm, ⟨12, _⟩ => ⟨S2064x8x1, .f32⟩
  | .hbm, ⟨13, _⟩ => ⟨S_, .f32⟩
  | .hbm, ⟨14, _⟩ => ⟨S2064x8x1, .f32⟩
  | .hbm, ⟨15, _⟩ => ⟨S2064x8x1, .f32⟩
  | .hbm, ⟨16, _⟩ => ⟨S2064x8x1, .f32⟩
  | .hbm, ⟨17, _⟩ => ⟨S2064x8x128, .f32⟩
  | .hbm, ⟨18, _⟩ => ⟨S2064x8x128, .f32⟩
  | .hbm, ⟨19, _⟩ => ⟨S1x1x128, .f32⟩
  | .hbm, ⟨20, _⟩ => ⟨S2064x8x128, .f32⟩
  | .hbm, ⟨21, _⟩ => ⟨S2064x8x128, .f32⟩
  | .hbm, ⟨22, _⟩ => ⟨S2064x1024, .f32⟩
  | .hbm, ⟨23, _⟩ => ⟨S2064x8x128, .f32⟩
  | .hbm, ⟨24, _⟩ => ⟨S128, .f32⟩
  | .hbm, ⟨25, _⟩ => ⟨S2064x8x128, .f32⟩
  | .hbm, ⟨26, _⟩ => ⟨S_, .f32⟩
  | .hbm, ⟨27, _⟩ => ⟨S2064x8, .f32⟩
  | .hbm, ⟨28, _⟩ => ⟨S2064x8x1, .f32⟩
  | .hbm, ⟨29, _⟩ => ⟨S_, .f32⟩
  | .hbm, ⟨30, _⟩ => ⟨S2064x8x1, .f32⟩
  | .hbm, ⟨31, _⟩ => ⟨S2064x8x1, .f32⟩
  | .hbm, ⟨32, _⟩ => ⟨S_, .f32⟩
  | .hbm, ⟨33, _⟩ => ⟨S2064x8x1, .f32⟩
  | .hbm, ⟨34, _⟩ => ⟨S2064x8x1, .f32⟩
  | .hbm, ⟨35, _⟩ => ⟨S2064x8x1, .f32⟩
  | .hbm, ⟨36, _⟩ => ⟨S2064x8x128, .f32⟩
  | .hbm, ⟨37, _⟩ => ⟨S2064x8x128, .f32⟩
  | .hbm, ⟨38, _⟩ => ⟨S1x1x128, .f32⟩
  | .hbm, ⟨39, _⟩ => ⟨S2064x8x128, .f32⟩
  | .hbm, ⟨40, _⟩ => ⟨S2064x8x128, .f32⟩
  | .hbm, ⟨41, _⟩ => ⟨S2064x1024, .f32⟩
  | .hbm, ⟨42, _⟩ => ⟨S_, .i32⟩
  | .hbm, ⟨43, _⟩ => ⟨S_, .f32⟩
  | .hbm, ⟨44, _⟩ => ⟨S2176x1024, .f32⟩
  | .hbm, ⟨45, _⟩ => ⟨S2176x1024, .bf16⟩
  | .hbm, ⟨46, _⟩ => ⟨S2064x1024, .f32⟩
  | .hbm, ⟨47, _⟩ => ⟨S_, .i32⟩
  | .hbm, ⟨48, _⟩ => ⟨S_, .f32⟩
  | .hbm, ⟨49, _⟩ => ⟨S2176x1024, .f32⟩
  | .hbm, ⟨50, _⟩ => ⟨S2176x1024, .bf16⟩
  | .hbm, ⟨51, _⟩ => ⟨S2064x1024, .f32⟩
  | .hbm, ⟨52, _⟩ => ⟨S_, .i32⟩
  | .hbm, ⟨53, _⟩ => ⟨S_, .f32⟩
  | .hbm, ⟨54, _⟩ => ⟨S2176x1024, .f32⟩
  | .hbm, ⟨55, _⟩ => ⟨S2176x1024, .bf16⟩
  | _, _ => ⟨S2064x4104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_call1_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_call2_v0 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== KernelPoolFwd.lean ====
abbrev S2064x1024 : Shape := ⟨2, ![2064, 1024]⟩
abbrev S4x256x256 : Shape := ⟨3, ![4, 256, 256]⟩
abbrev S1x1024 : Shape := ⟨2, ![1, 1024]⟩
abbrev S_ : Shape := ⟨0, ![]⟩
abbrev S2176x1024 : Shape := ⟨2, ![2176, 1024]⟩
abbrev S1024x2176 : Shape := ⟨2, ![1024, 2176]⟩
abbrev S2176x256 : Shape := ⟨2, ![2176, 256]⟩
abbrev S1x256x256 : Shape := ⟨3, ![1, 256, 256]⟩
abbrev S1x256 : Shape := ⟨2, ![1, 256]⟩
abbrev S256x2176 : Shape := ⟨2, ![256, 2176]⟩
abbrev S2176x1 : Shape := ⟨2, ![2176, 1]⟩
abbrev S256x256 : Shape := ⟨2, ![256, 256]⟩

abbrev nBuf : Space → Nat
  | .hbm => 10
  | .vmem => 12
  | .smem => 0
  | _ => 0

abbrev bufTy : (tb : Table) → Fin (tcTables nBuf tb) → BufTy
  | .hbm, ⟨0, _⟩ => ⟨S2064x1024, .f32⟩
  | .hbm, ⟨1, _⟩ => ⟨S4x256x256, .f32⟩
  | .hbm, ⟨2, _⟩ => ⟨S1x1024, .f32⟩
  | .hbm, ⟨3, _⟩ => ⟨S_, .i32⟩
  | .hbm, ⟨4, _⟩ => ⟨S_, .f32⟩
  | .hbm, ⟨5, _⟩ => ⟨S2176x1024, .f32⟩
  | .hbm, ⟨6, _⟩ => ⟨S4x256x256, .bf16⟩
  | .hbm, ⟨7, _⟩ => ⟨S2176x1024, .bf16⟩
  | .hbm, ⟨8, _⟩ => ⟨S2176x1024, .bf16⟩
  | .hbm, ⟨9, _⟩ => ⟨S1024x2176, .bf16⟩
  | .local _ .vmem, ⟨0, _⟩ => ⟨S2176x256, .f32⟩
  | .local _ .vmem, ⟨1, _⟩ => ⟨S2176x256, .f32⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S2176x256, .bf16⟩
  | .local _ .vmem, ⟨7, _⟩ => ⟨S2176x256, .bf16⟩
  | .local _ .vmem, ⟨8, _⟩ => ⟨S2176x256, .bf16⟩
  | .local _ .vmem, ⟨9, _⟩ => ⟨S2176x256, .bf16⟩
  | .local _ .vmem, ⟨10, _⟩ => ⟨S256x2176, .bf16⟩
  | .local _ .vmem, ⟨11, _⟩ => ⟨S256x2176, .bf16⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2176 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferencePoolFwdIdeal.lean ====
abbrev S2064x1024 : Shape := ⟨2, ![2064, 1024]⟩
abbrev S4x256x256 : Shape := ⟨3, ![4, 256, 256]⟩
abbrev S1x1024 : Shape := ⟨2, ![1, 1024]⟩
abbrev S_ : Shape := ⟨0, ![]⟩
abbrev S2176x1024 : Shape := ⟨2, ![2176, 1024]⟩
abbrev S2176x4x256 : Shape := ⟨3, ![2176, 4, 256]⟩
abbrev S1x4x256 : Shape := ⟨3, ![1, 4, 256]⟩
abbrev S2177x4x256 : Shape := ⟨3, ![2177, 4, 256]⟩
abbrev S1 : Shape := ⟨1, ![1]⟩
abbrev S4 : Shape := ⟨1, ![4]⟩
abbrev S2176 : Shape := ⟨1, ![2176]⟩
abbrev S2176x1 : Shape := ⟨2, ![2176, 1]⟩
abbrev S1x4 : Shape := ⟨2, ![1, 4]⟩
abbrev S2176x4 : Shape := ⟨2, ![2176, 4]⟩
abbrev S2176x4x1 : Shape := ⟨3, ![2176, 4, 1]⟩
abbrev S2176x4x2 : Shape := ⟨3, ![2176, 4, 2]⟩
abbrev S4x256x2176 : Shape := ⟨3, ![4, 256, 2176]⟩
abbrev S1024 : Shape := ⟨1, ![1024]⟩
abbrev S1024x2176 : Shape := ⟨2, ![1024, 2176]⟩

abbrev nBuf : Space → Nat
  | .hbm => 94
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S4x256x256, .f32⟩
  | .hbm, ⟨2, _⟩ => ⟨S1x1024, .f32⟩
  | .hbm, ⟨3, _⟩ => ⟨S_, .i32⟩
  | .hbm, ⟨4, _⟩ => ⟨S_, .f32⟩
  | .hbm, ⟨5, _⟩ => ⟨S2176x1024, .f32⟩
  | .hbm, ⟨6, _⟩ => ⟨S2176x4x256, .f32⟩
  | .hbm, ⟨7, _⟩ => ⟨S_, .f32⟩
  | .hbm, ⟨8, _⟩ => ⟨S_, .f32⟩
  | .hbm, ⟨9, _⟩ => ⟨S2176x4x256, .f32⟩
  | .hbm, ⟨10, _⟩ => ⟨S_, .f32⟩
  | .hbm, ⟨11, _⟩ => ⟨S1x4x256, .f32⟩
  | .hbm, ⟨12, _⟩ => ⟨S2177x4x256, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S4, .i32⟩
  | .hbm, ⟨22, _⟩ => ⟨S2176, .i32⟩
  | .hbm, ⟨23, _⟩ => ⟨S_, .i32⟩
  | .hbm, ⟨24, _⟩ => ⟨S2176, .i32⟩
  | .hbm, ⟨25, _⟩ => ⟨S2176, .i32⟩
  | .hbm, ⟨26, _⟩ => ⟨S2176x1, .i32⟩
  | .hbm, ⟨27, _⟩ => ⟨S1x4, .i32⟩
  | .hbm, ⟨28, _⟩ => ⟨S2176x4, .i32⟩
  | .hbm, ⟨29, _⟩ => ⟨S2176x4, .i32⟩
  | .hbm, ⟨30, _⟩ => ⟨S2176x4, .i32⟩
  | .hbm, ⟨31, _⟩ => ⟨S_, .i32⟩
  | .hbm, ⟨32, _⟩ => ⟨S2176x4, .i32⟩
  | .hbm, ⟨33, _⟩ => ⟨S2176x4, .i32⟩
  | .hbm, ⟨34, _⟩ => ⟨S4, .i32⟩
  | .hbm, ⟨35, _⟩ => ⟨S1x4, .i32⟩
  | .hbm, ⟨36, _⟩ => ⟨S_, .i32⟩
  | .hbm, ⟨37, _⟩ => ⟨S2176x1, .i32⟩
  | .hbm, ⟨38, _⟩ => ⟨S2176x1, .i1⟩
  | .hbm, ⟨39, _⟩ => ⟨S_, .i32⟩
  | .hbm, ⟨40, _⟩ => ⟨S2176x1, .i32⟩
  | .hbm, ⟨41, _⟩ => ⟨S2176x1, .i32⟩
  | .hbm, ⟨42, _⟩ => ⟨S2176x1, .i32⟩
  | .hbm, ⟨43, _⟩ => ⟨S_, .i32⟩
  | .hbm, ⟨44, _⟩ => ⟨S1x4, .i32⟩
  | .hbm, ⟨45, _⟩ => ⟨S1x4, .i1⟩
  | .hbm, ⟨46, _⟩ => ⟨S_, .i32⟩
  | .hbm, ⟨47, _⟩ => ⟨S1x4, .i32⟩
  | .hbm, ⟨48, _⟩ => ⟨S1x4, .i32⟩
  | .hbm, ⟨49, _⟩ => ⟨S1x4, .i32⟩
  | .hbm, ⟨50, _⟩ => ⟨S2176x4, .i32⟩
  | .hbm, ⟨51, _⟩ => ⟨S2176x4, .i32⟩
  | .hbm, ⟨52, _⟩ => ⟨S2176x4x1, .i32⟩
  | .hbm, ⟨53, _⟩ => ⟨S2176x4x1, .i32⟩
  | .hbm, ⟨54, _⟩ => ⟨S2176x4x2, .i32⟩
  | .hbm, ⟨55, _⟩ => ⟨S2176x4x256, .f32⟩
  | .hbm, ⟨56, _⟩ => ⟨S_, .i32⟩
  | .hbm, ⟨57, _⟩ => ⟨S2176x4, .i32⟩
  | .hbm, ⟨58, _⟩ => ⟨S2176x4, .i1⟩
  | .hbm, ⟨59, _⟩ => ⟨S_, .i32⟩
  | .hbm, ⟨60, _⟩ => ⟨S2176x4, .i32⟩
  | .hbm, ⟨61, _⟩ => ⟨S2176x4, .i32⟩
  | .hbm, ⟨62, _⟩ => ⟨S2176x4, .i32⟩
  | .hbm, ⟨63, _⟩ => ⟨S_, .i32⟩
  | .hbm, ⟨64, _⟩ => ⟨S1x4, .i32⟩
  | .hbm, ⟨65, _⟩ => ⟨S1x4, .i1⟩
  | .hbm, ⟨66, _⟩ => ⟨S_, .i32⟩
  | .hbm, ⟨67, _⟩ => ⟨S1x4, .i32⟩
  | .hbm, ⟨68, _⟩ => ⟨S1x4, .i32⟩
  | .hbm, ⟨69, _⟩ => ⟨S1x4, .i32⟩
  | .hbm, ⟨70, _⟩ => ⟨S2176x4, .i32⟩
  | .hbm, ⟨71, _⟩ => ⟨S2176x4x1, .i32⟩
  | .hbm, ⟨72, _⟩ => ⟨S2176x4x1, .i32⟩
  | .hbm, ⟨73, _⟩ => ⟨S2176x4x2, .i32⟩
  | .hbm, ⟨74, _⟩ => ⟨S2176x4x256, .f32⟩
  | .hbm, ⟨75, _⟩ => ⟨S2176x4x256, .f32⟩
  | .hbm, ⟨76, _⟩ => ⟨S2176x4, .i32⟩
  | .hbm, ⟨77, _⟩ => ⟨S2176x4, .i32⟩
  | .hbm, ⟨78, _⟩ => ⟨S2176x4, .f32⟩
  | .hbm, ⟨79, _⟩ => ⟨S2176x4x1, .f32⟩
  | .hbm, ⟨80, _⟩ => ⟨S2176x4x256, .f32⟩
  | .hbm, ⟨81, _⟩ => ⟨S2176x4x256, .f32⟩
  | .hbm, ⟨82, _⟩ => ⟨S2176x4x256, .f32⟩
  | .hbm, ⟨83, _⟩ => ⟨S4x256x2176, .f32⟩
  | .hbm, ⟨84, _⟩ => ⟨S2176x4x256, .f32⟩
  | .hbm, ⟨85, _⟩ => ⟨S2176x1024, .f32⟩
  | .hbm, ⟨86, _⟩ => ⟨S1024, .f32⟩
  | .hbm, ⟨87, _⟩ => ⟨S1x1024, .f32⟩
  | .hbm, ⟨88, _⟩ => ⟨S2176x1024, .f32⟩
  | .hbm, ⟨89, _⟩ => ⟨S2176x1024, .f32⟩
  | .hbm, ⟨90, _⟩ => ⟨S2176x1024, .bf16⟩
  | .hbm, ⟨91, _⟩ => ⟨S2176x1024, .f32⟩
  | .hbm, ⟨92, _⟩ => ⟨S2176x1024, .bf16⟩
  | .hbm, ⟨93, _⟩ => ⟨S1024x2176, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_call1_call0_cst : Ref sig .tc := ⟨.hbm, 7, rfl⟩
abbrev main_call1_call0_v0 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_8 : Ref sig .tc := ⟨.hbm, 43, rfl⟩
abbrev main_v27 : Ref sig .tc := ⟨.hbm, 44, rfl⟩
abbrev main_v28 : Ref sig .tc := ⟨.hbm, 45, rfl⟩
abbrev main_c_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_v38 : Ref sig .tc := ⟨.hbm, 57, rfl⟩
abbrev main_v39 : Ref sig .tc := ⟨.hbm, 58, rfl⟩
abbrev main_c_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_12 : Ref sig .tc := ⟨.hbm, 63, rfl⟩
abbrev main_v43 : Ref sig .tc := ⟨.hbm, 64, rfl⟩
abbrev main_v44 : Ref sig .tc := ⟨.hbm, 65, rfl⟩
abbrev main_c_13 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== KernelUpGate.lean ====
abbrev S2064x2048 : Shape := ⟨2, ![2064, 2048]⟩
abbrev S2064x5632 : Shape := ⟨2, ![2064, 5632]⟩
abbrev S2048x5632 : Shape := ⟨2, ![2048, 5632]⟩
abbrev S_ : Shape := ⟨0, ![]⟩
abbrev S2176x2048 : Shape := ⟨2, ![2176, 2048]⟩
abbrev S2176x5632 : Shape := ⟨2, ![2176, 5632]⟩
abbrev S5632x2176 : Shape := ⟨2, ![5632, 2176]⟩
abbrev S2176x256 : Shape := ⟨2, ![2176, 256]⟩
abbrev S2048x256 : Shape := ⟨2, ![2048, 256]⟩
abbrev S256x2176 : Shape := ⟨2, ![256, 2176]⟩

abbrev nBuf : Space → Nat
  | .hbm => 15
  | .vmem => 13
  | .smem => 0
  | _ => 0

abbrev bufTy : (tb : Table) → Fin (tcTables nBuf tb) → BufTy
  | .hbm, ⟨0, _⟩ => ⟨S2064x2048, .f32⟩
  | .hbm, ⟨1, _⟩ => ⟨S2064x5632, .f32⟩
  | .hbm, ⟨2, _⟩ => ⟨S2048x5632, .f32⟩
  | .hbm, ⟨3, _⟩ => ⟨S_, .i32⟩
  | .hbm, ⟨4, _⟩ => ⟨S_, .f32⟩
  | .hbm, ⟨5, _⟩ => ⟨S2176x2048, .f32⟩
  | .hbm, ⟨6, _⟩ => ⟨S2176x2048, .bf16⟩
  | .hbm, ⟨7, _⟩ => ⟨S_, .i32⟩
  | .hbm, ⟨8, _⟩ => ⟨S_, .f32⟩
  | .hbm, ⟨9, _⟩ => ⟨S2176x5632, .f32⟩
  | .hbm, ⟨10, _⟩ => ⟨S2048x5632, .bf16⟩
  | .hbm, ⟨11, _⟩ => ⟨S2176x5632, .bf16⟩
  | .hbm, ⟨12, _⟩ => ⟨S2176x5632, .bf16⟩
  | .hbm, ⟨13, _⟩ => ⟨S2176x5632, .bf16⟩
  | .hbm, ⟨14, _⟩ => ⟨S5632x2176, .bf16⟩
  | .local _ .vmem, ⟨0, _⟩ => ⟨S2176x2048, .bf16⟩
  | .local _ .vmem, ⟨1, _⟩ => ⟨S2176x256, .f32⟩
  | .local _ .vmem, ⟨2, _⟩ => ⟨S2176x256, .f32⟩
  | .local _ .vmem, ⟨3, _⟩ => ⟨S2048x256, .bf16⟩
  | .local _ .vmem, ⟨4, _⟩ => ⟨S2048x256, .bf16⟩
  | .local _ .vmem, ⟨5, _⟩ => ⟨S2176x256, .bf16⟩
  | .local _ .vmem, ⟨6, _⟩ => ⟨S2176x256, .bf16⟩
  | .local _ .vmem, ⟨7, _⟩ => ⟨S2176x256, .bf16⟩
  | .local _ .vmem, ⟨8, _⟩ => ⟨S2176x256, .bf16⟩
  | .local _ .vmem, ⟨9, _⟩ => ⟨S2176x256, .bf16⟩
  | .local _ .vmem, ⟨10, _⟩ => ⟨S2176x256, .bf16⟩
  | .local _ .vmem, ⟨11, _⟩ => ⟨S256x2176, .bf16⟩
  | .local _ .vmem, ⟨12, _⟩ => ⟨S256x2176, .bf16⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2176x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2176 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceUpGateIdeal.lean ====
abbrev S2064x2048 : Shape := ⟨2, ![2064, 2048]⟩
abbrev S2064x5632 : Shape := ⟨2, ![2064, 5632]⟩
abbrev S2048x5632 : Shape := ⟨2, ![2048, 5632]⟩
abbrev S_ : Shape := ⟨0, ![]⟩
abbrev S2176x5632 : Shape := ⟨2, ![2176, 5632]⟩
abbrev S5632x2176 : Shape := ⟨2, ![5632, 2176]⟩

abbrev nBuf : Space → Nat
  | .hbm => 43
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2064x5632, .f32⟩
  | .hbm, ⟨2, _⟩ => ⟨S2048x5632, .f32⟩
  | .hbm, ⟨3, _⟩ => ⟨S2064x5632, .f32⟩
  | .hbm, ⟨4, _⟩ => ⟨S2064x5632, .f32⟩
  | .hbm, ⟨5, _⟩ => ⟨S2064x5632, .f32⟩
  | .hbm, ⟨6, _⟩ => ⟨S_, .f32⟩
  | .hbm, ⟨7, _⟩ => ⟨S2064x5632, .f32⟩
  | .hbm, ⟨8, _⟩ => ⟨S2064x5632, .f32⟩
  | .hbm, ⟨9, _⟩ => ⟨S_, .f32⟩
  | .hbm, ⟨10, _⟩ => ⟨S2064x5632, .f32⟩
  | .hbm, ⟨11, _⟩ => ⟨S2064x5632, .f32⟩
  | .hbm, ⟨12, _⟩ => ⟨S_, .f32⟩
  | .hbm, ⟨13, _⟩ => ⟨S2064x5632, .f32⟩
  | .hbm, ⟨14, _⟩ => ⟨S2064x5632, .f32⟩
  | .hbm, ⟨15, _⟩ => ⟨S2064x5632, .f32⟩
  | .hbm, ⟨16, _⟩ => ⟨S2064x5632, .f32⟩
  | .hbm, ⟨17, _⟩ => ⟨S2064x5632, .f32⟩
  | .hbm, ⟨18, _⟩ => ⟨S_, .f32⟩
  | .hbm, ⟨19, _⟩ => ⟨S2064x5632, .f32⟩
  | .hbm, ⟨20, _⟩ => ⟨S2064x5632, .f32⟩
  | .hbm, ⟨21, _⟩ => ⟨S2064x5632, .f32⟩
  | .hbm, ⟨22, _⟩ => ⟨S2064x5632, .f32⟩
  | .hbm, ⟨23, _⟩ => ⟨S2064x5632, .f32⟩
  | .hbm, ⟨24, _⟩ => ⟨S2064x5632, .f32⟩
  | .hbm, ⟨25, _⟩ => ⟨S2064x5632, .f32⟩
  | .hbm, ⟨26, _⟩ => ⟨S_, .i32⟩
  | .hbm, ⟨27, _⟩ => ⟨S_, .f32⟩
  | .hbm, ⟨28, _⟩ => ⟨S2176x5632, .f32⟩
  | .hbm, ⟨29, _⟩ => ⟨S2176x5632, .bf16⟩
  | .hbm, ⟨30, _⟩ => ⟨S_, .i32⟩
  | .hbm, ⟨31, _⟩ => ⟨S_, .f32⟩
  | .hbm, ⟨32, _⟩ => ⟨S2176x5632, .f32⟩
  | .hbm, ⟨33, _⟩ => ⟨S2176x5632, .bf16⟩
  | .hbm, ⟨34, _⟩ => ⟨S_, .i32⟩
  | .hbm, ⟨35, _⟩ => ⟨S_, .f32⟩
  | .hbm, ⟨36, _⟩ => ⟨S2176x5632, .f32⟩
  | .hbm, ⟨37, _⟩ => ⟨S2176x5632, .bf16⟩
  | .hbm, ⟨38, _⟩ => ⟨S_, .i32⟩
  | .hbm, ⟨39, _⟩ => ⟨S_, .f32⟩
  | .hbm, ⟨40, _⟩ => ⟨S2176x5632, .f32⟩
  | .hbm, ⟨41, _⟩ => ⟨S2176x5632, .bf16⟩
  | .hbm, ⟨42, _⟩ => ⟨S5632x2176, .bf16⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_c : Ref sig .tc := ⟨.hbm, 26, rfl⟩
abbrev main_call2_v0 : Ref sig .tc := ⟨.hbm, 27, rfl⟩
abbrev main_v7 : Ref sig .tc := ⟨.hbm, 28, rfl⟩
abbrev main_v8 : Ref sig .tc := ⟨.hbm, 29, rfl⟩
abbrev main_c_0 : Ref sig .tc := ⟨.hbm, 30, rfl⟩
abbrev main_call3_v0 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_call4_v0 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_call5_v0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩

abbrev nD : Nat := 1
abbrev τ : Topo := Topo.v7x

variable {F : FTy → Type} [FloatOps F]
-- ==== KernelUp.lean ====
abbrev S2064x2048 : Shape := ⟨2, ![2064, 2048]⟩
abbrev S2048x5632 : Shape := ⟨2, ![2048, 5632]⟩
abbrev S_ : Shape := ⟨0, ![]⟩
abbrev S2176x2048 : Shape := ⟨2, ![2176, 2048]⟩
abbrev S1x1 : Shape := ⟨2, ![1, 1]⟩
abbrev S2176x5632 : Shape := ⟨2, ![2176, 5632]⟩
abbrev S5632x2176 : Shape := ⟨2, ![5632, 2176]⟩
abbrev S2048x256 : Shape := ⟨2, ![2048, 256]⟩
abbrev S2176x256 : Shape := ⟨2, ![2176, 256]⟩
abbrev S256x2176 : Shape := ⟨2, ![256, 2176]⟩

abbrev nBuf : Space → Nat
  | .hbm => 15
  | .vmem => 13
  | .smem => 0
  | _ => 0

abbrev bufTy : (tb : Table) → Fin (tcTables nBuf tb) → BufTy
  | .hbm, ⟨0, _⟩ => ⟨S2064x2048, .f32⟩
  | .hbm, ⟨1, _⟩ => ⟨S2048x5632, .f32⟩
  | .hbm, ⟨2, _⟩ => ⟨S2048x5632, .f32⟩
  | .hbm, ⟨3, _⟩ => ⟨S_, .i32⟩
  | .hbm, ⟨4, _⟩ => ⟨S_, .f32⟩
  | .hbm, ⟨5, _⟩ => ⟨S2176x2048, .f32⟩
  | .hbm, ⟨6, _⟩ => ⟨S2176x2048, .bf16⟩
  | .hbm, ⟨7, _⟩ => ⟨S2048x5632, .bf16⟩
  | .hbm, ⟨8, _⟩ => ⟨S2048x5632, .bf16⟩
  | .hbm, ⟨9, _⟩ => ⟨S_, .f32⟩
  | .hbm, ⟨10, _⟩ => ⟨S1x1, .f32⟩
  | .hbm, ⟨11, _⟩ => ⟨S2176x5632, .bf16⟩
  | .hbm, ⟨12, _⟩ => ⟨S2176x5632, .bf16⟩
  | .hbm, ⟨13, _⟩ => ⟨S2176x5632, .bf16⟩
  | .hbm, ⟨14, _⟩ => ⟨S5632x2176, .bf16⟩
  | .local _ .vmem, ⟨0, _⟩ => ⟨S2176x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2176x256, .bf16⟩
  | .local _ .vmem, ⟨6, _⟩ => ⟨S2176x256, .bf16⟩
  | .local _ .vmem, ⟨7, _⟩ => ⟨S2176x256, .bf16⟩
  | .local _ .vmem, ⟨8, _⟩ => ⟨S2176x256, .bf16⟩
  | .local _ .vmem, ⟨9, _⟩ => ⟨S2176x256, .bf16⟩
  | .local _ .vmem, ⟨10, _⟩ => ⟨S2176x256, .bf16⟩
  | .local _ .vmem, ⟨11, _⟩ => ⟨S256x2176, .bf16⟩
  | .local _ .vmem, ⟨12, _⟩ => ⟨S256x2176, .bf16⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2176 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceUpIdeal.lean ====
abbrev S2064x2048 : Shape := ⟨2, ![2064, 2048]⟩
abbrev S2048x5632 : Shape := ⟨2, ![2048, 5632]⟩
abbrev S2064x5632 : Shape := ⟨2, ![2064, 5632]⟩
abbrev S_ : Shape := ⟨0, ![]⟩
abbrev S2176x5632 : Shape := ⟨2, ![2176, 5632]⟩
abbrev S5632x2176 : Shape := ⟨2, ![5632, 2176]⟩

abbrev nBuf : Space → Nat
  | .hbm => 44
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2048x5632, .f32⟩
  | .hbm, ⟨2, _⟩ => ⟨S2048x5632, .f32⟩
  | .hbm, ⟨3, _⟩ => ⟨S2064x5632, .f32⟩
  | .hbm, ⟨4, _⟩ => ⟨S2064x5632, .f32⟩
  | .hbm, ⟨5, _⟩ => ⟨S2064x5632, .f32⟩
  | .hbm, ⟨6, _⟩ => ⟨S2064x5632, .f32⟩
  | .hbm, ⟨7, _⟩ => ⟨S_, .f32⟩
  | .hbm, ⟨8, _⟩ => ⟨S2064x5632, .f32⟩
  | .hbm, ⟨9, _⟩ => ⟨S2064x5632, .f32⟩
  | .hbm, ⟨10, _⟩ => ⟨S_, .f32⟩
  | .hbm, ⟨11, _⟩ => ⟨S2064x5632, .f32⟩
  | .hbm, ⟨12, _⟩ => ⟨S2064x5632, .f32⟩
  | .hbm, ⟨13, _⟩ => ⟨S_, .f32⟩
  | .hbm, ⟨14, _⟩ => ⟨S2064x5632, .f32⟩
  | .hbm, ⟨15, _⟩ => ⟨S2064x5632, .f32⟩
  | .hbm, ⟨16, _⟩ => ⟨S2064x5632, .f32⟩
  | .hbm, ⟨17, _⟩ => ⟨S2064x5632, .f32⟩
  | .hbm, ⟨18, _⟩ => ⟨S2064x5632, .f32⟩
  | .hbm, ⟨19, _⟩ => ⟨S_, .f32⟩
  | .hbm, ⟨20, _⟩ => ⟨S2064x5632, .f32⟩
  | .hbm, ⟨21, _⟩ => ⟨S2064x5632, .f32⟩
  | .hbm, ⟨22, _⟩ => ⟨S2064x5632, .f32⟩
  | .hbm, ⟨23, _⟩ => ⟨S2064x5632, .f32⟩
  | .hbm, ⟨24, _⟩ => ⟨S2064x5632, .f32⟩
  | .hbm, ⟨25, _⟩ => ⟨S2064x5632, .f32⟩
  | .hbm, ⟨26, _⟩ => ⟨S2064x5632, .f32⟩
  | .hbm, ⟨27, _⟩ => ⟨S_, .i32⟩
  | .hbm, ⟨28, _⟩ => ⟨S_, .f32⟩
  | .hbm, ⟨29, _⟩ => ⟨S2176x5632, .f32⟩
  | .hbm, ⟨30, _⟩ => ⟨S2176x5632, .bf16⟩
  | .hbm, ⟨31, _⟩ => ⟨S_, .i32⟩
  | .hbm, ⟨32, _⟩ => ⟨S_, .f32⟩
  | .hbm, ⟨33, _⟩ => ⟨S2176x5632, .f32⟩
  | .hbm, ⟨34, _⟩ => ⟨S2176x5632, .bf16⟩
  | .hbm, ⟨35, _⟩ => ⟨S_, .i32⟩
  | .hbm, ⟨36, _⟩ => ⟨S_, .f32⟩
  | .hbm, ⟨37, _⟩ => ⟨S2176x5632, .f32⟩
  | .hbm, ⟨38, _⟩ => ⟨S2176x5632, .bf16⟩
  | .hbm, ⟨39, _⟩ => ⟨S_, .i32⟩
  | .hbm, ⟨40, _⟩ => ⟨S_, .f32⟩
  | .hbm, ⟨41, _⟩ => ⟨S2176x5632, .f32⟩
  | .hbm, ⟨42, _⟩ => ⟨S2176x5632, .bf16⟩
  | .hbm, ⟨43, _⟩ => ⟨S5632x2176, .bf16⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_c : Ref sig .tc := ⟨.hbm, 27, rfl⟩
abbrev main_call2_v0 : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_call3_v0 : Ref sig .tc := ⟨.hbm, 32, rfl⟩
abbrev main_v10 : Ref sig .tc := ⟨.hbm, 33, rfl⟩
abbrev main_v11 : Ref sig .tc := ⟨.hbm, 34, rfl⟩
abbrev main_c_1 : Ref sig .tc := ⟨.hbm, 35, rfl⟩
abbrev main_call4_v0 : Ref sig .tc := ⟨.hbm, 36, rfl⟩
abbrev main_v12 : Ref sig .tc := ⟨.hbm, 37, rfl⟩
abbrev main_v13 : Ref sig .tc := ⟨.hbm, 38, rfl⟩
abbrev main_c_2 : Ref sig .tc := ⟨.hbm, 39, rfl⟩
abbrev main_call5_v0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩

abbrev nD : Nat := 1
abbrev τ : Topo := Topo.v7x

variable {F : FTy → Type} [FloatOps F]
-- ==== KernelForgetFwd.lean ====
abbrev S2064x4104 : Shape := ⟨2, ![2064, 4104]⟩
abbrev S1x8 : Shape := ⟨2, ![1, 8]⟩
abbrev S_ : Shape := ⟨0, ![]⟩
abbrev S2176x4224 : Shape := ⟨2, ![2176, 4224]⟩
abbrev S1x128 : Shape := ⟨2, ![1, 128]⟩
abbrev S128x2176 : Shape := ⟨2, ![128, 2176]⟩
abbrev S2176x128 : Shape := ⟨2, ![2176, 128]⟩
abbrev S2176x1 : Shape := ⟨2, ![2176, 1]⟩

abbrev nBuf : Space → Nat
  | .hbm => 9
  | .vmem => 3
  | .smem => 0
  | _ => 0

abbrev bufTy : (tb : Table) → Fin (tcTables nBuf tb) → BufTy
  | .hbm, ⟨0, _⟩ => ⟨S2064x4104, .f32⟩
  | .hbm, ⟨1, _⟩ => ⟨S1x8, .f32⟩
  | .hbm, ⟨2, _⟩ => ⟨S_, .i32⟩
  | .hbm, ⟨3, _⟩ => ⟨S_, .f32⟩
  | .hbm, ⟨4, _⟩ => ⟨S2176x4224, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S128x2176, .f32⟩
  | .local _ .vmem, ⟨0, _⟩ => ⟨S2176x128, .f32⟩
  | .local _ .vmem, ⟨1, _⟩ => ⟨S1x128, .f32⟩
  | .local _ .vmem, ⟨2, _⟩ => ⟨S128x2176, .f32⟩
  | _, _ => ⟨S2064x4104, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c32_i32 : BitVec 32 := 32#32
  let c0_i32_0 : BitVec 32 := 0#32
  ![c0_i32.toNat, c32_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceForgetFwdIdeal.lean ====
abbrev S2064x4104 : Shape := ⟨2, ![2064, 4104]⟩
abbrev S1x8 : Shape := ⟨2, ![1, 8]⟩
abbrev S2064x8 : Shape := ⟨2, ![2064, 8]⟩
abbrev S_ : Shape := ⟨0, ![]⟩
abbrev S2176x128 : Shape := ⟨2, ![2176, 128]⟩
abbrev S1x128 : Shape := ⟨2, ![1, 128]⟩
abbrev S128 : Shape := ⟨1, ![128]⟩
abbrev S128x2176 : Shape := ⟨2, ![128, 2176]⟩

abbrev nBuf : Space → Nat
  | .hbm => 33
  | .vmem => 0
  | .smem => 0
  | _ => 0

abbrev bufTy : (tb : Table) → Fin (tcTables nBuf tb) → BufTy
  | .hbm, ⟨0, _⟩ => ⟨S2064x4104, .f32⟩
  | .hbm, ⟨1, _⟩ => ⟨S1x8, .f32⟩
  | .hbm, ⟨2, _⟩ => ⟨S2064x8, .f32⟩
  | .hbm, ⟨3, _⟩ => ⟨S_, .i32⟩
  | .hbm, ⟨4, _⟩ => ⟨S_, .f32⟩
  | .hbm, ⟨5, _⟩ => ⟨S2176x128, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S128, .f32⟩
  | .hbm, ⟨10, _⟩ => ⟨S1x128, .f32⟩
  | .hbm, ⟨11, _⟩ => ⟨S2176x128, .f32⟩
  | .hbm, ⟨12, _⟩ => ⟨S2176x128, .f32⟩
  | .hbm, ⟨13, _⟩ => ⟨S2176x128, .f32⟩
  | .hbm, ⟨14, _⟩ => ⟨S_, .f32⟩
  | .hbm, ⟨15, _⟩ => ⟨S2176x128, .f32⟩
  | .hbm, ⟨16, _⟩ => ⟨S2176x128, .f32⟩
  | .hbm, ⟨17, _⟩ => ⟨S2176x128, .f32⟩
  | .hbm, ⟨18, _⟩ => ⟨S2176x128, .f32⟩
  | .hbm, ⟨19, _⟩ => ⟨S2176x128, .i1⟩
  | .hbm, ⟨20, _⟩ => ⟨S2176x128, .f32⟩
  | .hbm, ⟨21, _⟩ => ⟨S2176x128, .f32⟩
  | .hbm, ⟨22, _⟩ => ⟨S2176x128, .f32⟩
  | .hbm, ⟨23, _⟩ => ⟨S2176x128, .f32⟩
  | .hbm, ⟨24, _⟩ => ⟨S2176x128, .f32⟩
  | .hbm, ⟨25, _⟩ => ⟨S2176x128, .f32⟩
  | .hbm, ⟨26, _⟩ => ⟨S2176x128, .f32⟩
  | .hbm, ⟨27, _⟩ => ⟨S2176x128, .f32⟩
  | .hbm, ⟨28, _⟩ => ⟨S2176x128, .f32⟩
  | .hbm, ⟨29, _⟩ => ⟨S128x2176, .f32⟩
  | .hbm, ⟨30, _⟩ => ⟨S_, .f32⟩
  | .hbm, ⟨31, _⟩ => ⟨S_, .f32⟩
  | .hbm, ⟨32, _⟩ => ⟨S128x2176, .f32⟩
  | _, _ => ⟨S2064x4104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call2_v0 : Ref sig .tc := ⟨.hbm, 13, rfl⟩
abbrev main_call2_call0_cst : Ref sig .tc := ⟨.hbm, 14, rfl⟩
abbrev main_call2_call0_v0 : Ref sig .tc := ⟨.hbm, 15, rfl⟩
abbrev main_call2_call0_v1 : Ref sig .tc := ⟨.hbm, 16, rfl⟩
abbrev main_call2_call0_v2 : Ref sig .tc := ⟨.hbm, 17, rfl⟩
abbrev main_call2_call0_v3 : Ref sig .tc := ⟨.hbm, 18, rfl⟩
abbrev main_call2_call0_v4 : Ref sig .tc := ⟨.hbm, 19, rfl⟩
abbrev main_call2_call0_v5 : Ref sig .tc := ⟨.hbm, 20, rfl⟩
abbrev main_call2_call0_v6 : Ref sig .tc := ⟨.hbm, 21, rfl⟩
abbrev main_call2_call0_v7 : Ref sig .tc := ⟨.hbm, 22, rfl⟩
abbrev main_call2_call0_v8 : Ref sig .tc := ⟨.hbm, 23, rfl⟩
abbrev main_call2_call0_v9 : Ref sig .tc := ⟨.hbm, 24, rfl⟩
abbrev main_call2_call0_v10 : Ref sig .tc := ⟨.hbm, 25, rfl⟩
abbrev main_call2_call0_v11 : Ref sig .tc := ⟨.hbm, 26, rfl⟩
abbrev main_call2_v1 : Ref sig .tc := ⟨.hbm, 27, rfl⟩
abbrev main_v7 : Ref sig .tc := ⟨.hbm, 28, rfl⟩
abbrev main_v8 : Ref sig .tc := ⟨.hbm, 29, rfl⟩
abbrev main_call3_call0_cst : Ref sig .tc := ⟨.hbm, 30, rfl⟩
abbrev main_call3_call0_v0 : Ref sig .tc := ⟨.hbm, 31, rfl⟩
abbrev main_v9 : Ref sig .tc := ⟨.hbm, 32, rfl⟩

abbrev nD : Nat := 1
abbrev τ : Topo := Topo.v7x

variable {F : FTy → Type} [FloatOps F]
-- ==== KernelMmNn.lean ====
abbrev S2064x2048 : Shape := ⟨2, ![2064, 2048]⟩
abbrev S2048x5632 : Shape := ⟨2, ![2048, 5632]⟩
abbrev S_ : Shape := ⟨0, ![]⟩
abbrev S2176x2048 : Shape := ⟨2, ![2176, 2048]⟩
abbrev S2176x5632 : Shape := ⟨2, ![2176, 5632]⟩
abbrev S2048x256 : Shape := ⟨2, ![2048, 256]⟩
abbrev S2176x256 : Shape := ⟨2, ![2176, 256]⟩

abbrev nBuf : Space → Nat
  | .hbm => 8
  | .vmem => 5
  | .smem => 0
  | _ => 0

abbrev bufTy : (tb : Table) → Fin (tcTables nBuf tb) → BufTy
  | .hbm, ⟨0, _⟩ => ⟨S2064x2048, .f32⟩
  | .hbm, ⟨1, _⟩ => ⟨S2048x5632, .f32⟩
  | .hbm, ⟨2, _⟩ => ⟨S_, .i32⟩
  | .hbm, ⟨3, _⟩ => ⟨S_, .f32⟩
  | .hbm, ⟨4, _⟩ => ⟨S2176x2048, .f32⟩
  | .hbm, ⟨5, _⟩ => ⟨S2176x2048, .bf16⟩
  | .hbm, ⟨6, _⟩ => ⟨S2048x5632, .bf16⟩
  | .hbm, ⟨7, _⟩ => ⟨S2176x5632, .f32⟩
  | .local _ .vmem, ⟨0, _⟩ => ⟨S2176x2048, .bf16⟩
  | .local _ .vmem, ⟨1, _⟩ => ⟨S2048x256, .bf16⟩
  | .local _ .vmem, ⟨2, _⟩ => ⟨S2048x256, .bf16⟩
  | .local _ .vmem, ⟨3, _⟩ => ⟨S2176x256, .f32⟩
  | .local _ .vmem, ⟨4, _⟩ => ⟨S2176x256, .f32⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceMmNnIdeal.lean ====
abbrev S2064x2048 : Shape := ⟨2, ![2064, 2048]⟩
abbrev S2048x5632 : Shape := ⟨2, ![2048, 5632]⟩
abbrev S2064x5632 : Shape := ⟨2, ![2064, 5632]⟩
abbrev S_ : Shape := ⟨0, ![]⟩
abbrev S2176x5632 : Shape := ⟨2, ![2176, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2048x5632, .f32⟩
  | .hbm, ⟨2, _⟩ => ⟨S2064x5632, .f32⟩
  | .hbm, ⟨3, _⟩ => ⟨S_, .i32⟩
  | .hbm, ⟨4, _⟩ => ⟨S_, .f32⟩
  | .hbm, ⟨5, _⟩ => ⟨S2176x5632, .f32⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== KernelMmRes.lean ====
abbrev S2064x5632 : Shape := ⟨2, ![2064, 5632]⟩
abbrev S5632x2048 : Shape := ⟨2, ![5632, 2048]⟩
abbrev S2064x2048 : Shape := ⟨2, ![2064, 2048]⟩
abbrev S_ : Shape := ⟨0, ![]⟩
abbrev S2176x5632 : Shape := ⟨2, ![2176, 5632]⟩
abbrev S2176x2048 : Shape := ⟨2, ![2176, 2048]⟩
abbrev S1x1 : Shape := ⟨2, ![1, 1]⟩
abbrev S5632x256 : Shape := ⟨2, ![5632, 256]⟩
abbrev S2176x256 : Shape := ⟨2, ![2176, 256]⟩

abbrev nBuf : Space → Nat
  | .hbm => 14
  | .vmem => 7
  | .smem => 0
  | _ => 0

abbrev bufTy : (tb : Table) → Fin (tcTables nBuf tb) → BufTy
  | .hbm, ⟨0, _⟩ => ⟨S2064x5632, .f32⟩
  | .hbm, ⟨1, _⟩ => ⟨S5632x2048, .f32⟩
  | .hbm, ⟨2, _⟩ => ⟨S2064x2048, .f32⟩
  | .hbm, ⟨3, _⟩ => ⟨S_, .i32⟩
  | .hbm, ⟨4, _⟩ => ⟨S_, .f32⟩
  | .hbm, ⟨5, _⟩ => ⟨S2176x5632, .f32⟩
  | .hbm, ⟨6, _⟩ => ⟨S2176x5632, .bf16⟩
  | .hbm, ⟨7, _⟩ => ⟨S5632x2048, .bf16⟩
  | .hbm, ⟨8, _⟩ => ⟨S_, .i32⟩
  | .hbm, ⟨9, _⟩ => ⟨S_, .f32⟩
  | .hbm, ⟨10, _⟩ => ⟨S2176x2048, .f32⟩
  | .hbm, ⟨11, _⟩ => ⟨S_, .f32⟩
  | .hbm, ⟨12, _⟩ => ⟨S1x1, .f32⟩
  | .hbm, ⟨13, _⟩ => ⟨S2176x2048, .f32⟩
  | .local _ .vmem, ⟨0, _⟩ => ⟨S2176x5632, .bf16⟩
  | .local _ .vmem, ⟨1, _⟩ => ⟨S5632x256, .bf16⟩
  | .local _ .vmem, ⟨2, _⟩ => ⟨S5632x256, .bf16⟩
  | .local _ .vmem, ⟨3, _⟩ => ⟨S2176x256, .f32⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | _, _ => ⟨S2064x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceMmResIdeal.lean ====
abbrev S2064x5632 : Shape := ⟨2, ![2064, 5632]⟩
abbrev S5632x2048 : Shape := ⟨2, ![5632, 2048]⟩
abbrev S2064x2048 : Shape := ⟨2, ![2064, 2048]⟩
abbrev S_ : Shape := ⟨0, ![]⟩
abbrev S2176x2048 : Shape := ⟨2, ![2176, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2064x5632, .f32⟩
  | .hbm, ⟨1, _⟩ => ⟨S5632x2048, .f32⟩
  | .hbm, ⟨2, _⟩ => ⟨S2064x2048, .f32⟩
  | .hbm, ⟨3, _⟩ => ⟨S2064x2048, .f32⟩
  | .hbm, ⟨4, _⟩ => ⟨S_, .f32⟩
  | .hbm, ⟨5, _⟩ => ⟨S2064x2048, .f32⟩
  | .hbm, ⟨6, _⟩ => ⟨S2064x2048, .f32⟩
  | .hbm, ⟨7, _⟩ => ⟨S2064x2048, .f32⟩
  | .hbm, ⟨8, _⟩ => ⟨S_, .i32⟩
  | .hbm, ⟨9, _⟩ => ⟨S_, .f32⟩
  | .hbm, ⟨10, _⟩ => ⟨S2176x2048, .f32⟩
  | _, _ => ⟨S2064x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== KernelMmNt.lean ====
abbrev S2064x2048 : Shape := ⟨2, ![2064, 2048]⟩
abbrev S2048x2048 : Shape := ⟨2, ![2048, 2048]⟩
abbrev S_ : Shape := ⟨0, ![]⟩
abbrev S2176x2048 : Shape := ⟨2, ![2176, 2048]⟩
abbrev S1x1 : Shape := ⟨2, ![1, 1]⟩
abbrev S512x2048 : Shape := ⟨2, ![512, 2048]⟩
abbrev S2176x512 : Shape := ⟨2, ![2176, 512]⟩

abbrev nBuf : Space → Nat
  | .hbm => 10
  | .vmem => 5
  | .smem => 0
  | _ => 0

abbrev bufTy : (tb : Table) → Fin (tcTables nBuf tb) → BufTy
  | .hbm, ⟨0, _⟩ => ⟨S2064x2048, .f32⟩
  | .hbm, ⟨1, _⟩ => ⟨S2048x2048, .f32⟩
  | .hbm, ⟨2, _⟩ => ⟨S_, .i32⟩
  | .hbm, ⟨3, _⟩ => ⟨S_, .f32⟩
  | .hbm, ⟨4, _⟩ => ⟨S2176x2048, .f32⟩
  | .hbm, ⟨5, _⟩ => ⟨S2176x2048, .bf16⟩
  | .hbm, ⟨6, _⟩ => ⟨S2048x2048, .bf16⟩
  | .hbm, ⟨7, _⟩ => ⟨S_, .f32⟩
  | .hbm, ⟨8, _⟩ => ⟨S1x1, .f32⟩
  | .hbm, ⟨9, _⟩ => ⟨S2176x2048, .f32⟩
  | .local _ .vmem, ⟨0, _⟩ => ⟨S2176x2048, .bf16⟩
  | .local _ .vmem, ⟨1, _⟩ => ⟨S512x2048, .bf16⟩
  | .local _ .vmem, ⟨2, _⟩ => ⟨S512x2048, .bf16⟩
  | .local _ .vmem, ⟨3, _⟩ => ⟨S2176x512, .f32⟩
  | .local _ .vmem, ⟨4, _⟩ => ⟨S2176x512, .f32⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceMmNtIdeal.lean ====
abbrev S2064x2048 : Shape := ⟨2, ![2064, 2048]⟩
abbrev S2048x2048 : Shape := ⟨2, ![2048, 2048]⟩
abbrev S_ : Shape := ⟨0, ![]⟩
abbrev S2176x2048 : Shape := ⟨2, ![2176, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2048x2048, .f32⟩
  | .hbm, ⟨2, _⟩ => ⟨S_, .f32⟩
  | .hbm, ⟨3, _⟩ => ⟨S2064x2048, .f32⟩
  | .hbm, ⟨4, _⟩ => ⟨S2064x2048, .f32⟩
  | .hbm, ⟨5, _⟩ => ⟨S2064x2048, .f32⟩
  | .hbm, ⟨6, _⟩ => ⟨S_, .i32⟩
  | .hbm, ⟨7, _⟩ => ⟨S_, .f32⟩
  | .hbm, ⟨8, _⟩ => ⟨S2176x2048, .f32⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== KernelMmSum.lean ====
abbrev S2064x5632 : Shape := ⟨2, ![2064, 5632]⟩
abbrev S2048x5632 : Shape := ⟨2, ![2048, 5632]⟩
abbrev S_ : Shape := ⟨0, ![]⟩
abbrev S2176x5632 : Shape := ⟨2, ![2176, 5632]⟩
abbrev S1x1 : Shape := ⟨2, ![1, 1]⟩
abbrev S2176x2048 : Shape := ⟨2, ![2176, 2048]⟩
abbrev S2176x1408 : Shape := ⟨2, ![2176, 1408]⟩
abbrev S512x1408 : Shape := ⟨2, ![512, 1408]⟩
abbrev S2176x512 : Shape := ⟨2, ![2176, 512]⟩

abbrev nBuf : Space → Nat
  | .hbm => 17
  | .vmem => 11
  | .smem => 0
  | _ => 0

abbrev bufTy : (tb : Table) → Fin (tcTables nBuf tb) → BufTy
  | .hbm, ⟨0, _⟩ => ⟨S2064x5632, .f32⟩
  | .hbm, ⟨1, _⟩ => ⟨S2064x5632, .f32⟩
  | .hbm, ⟨2, _⟩ => ⟨S2048x5632, .f32⟩
  | .hbm, ⟨3, _⟩ => ⟨S2048x5632, .f32⟩
  | .hbm, ⟨4, _⟩ => ⟨S_, .i32⟩
  | .hbm, ⟨5, _⟩ => ⟨S_, .f32⟩
  | .hbm, ⟨6, _⟩ => ⟨S2176x5632, .f32⟩
  | .hbm, ⟨7, _⟩ => ⟨S2176x5632, .bf16⟩
  | .hbm, ⟨8, _⟩ => ⟨S_, .i32⟩
  | .hbm, ⟨9, _⟩ => ⟨S_, .f32⟩
  | .hbm, ⟨10, _⟩ => ⟨S2176x5632, .f32⟩
  | .hbm, ⟨11, _⟩ => ⟨S2176x5632, .bf16⟩
  | .hbm, ⟨12, _⟩ => ⟨S2048x5632, .bf16⟩
  | .hbm, ⟨13, _⟩ => ⟨S2048x5632, .bf16⟩
  | .hbm, ⟨14, _⟩ => ⟨S_, .f32⟩
  | .hbm, ⟨15, _⟩ => ⟨S1x1, .f32⟩
  | .hbm, ⟨16, _⟩ => ⟨S2176x2048, .f32⟩
  | .local _ .vmem, ⟨0, _⟩ => ⟨S2176x1408, .bf16⟩
  | .local _ .vmem, ⟨1, _⟩ => ⟨S2176x1408, .bf16⟩
  | .local _ .vmem, ⟨2, _⟩ => ⟨S2176x1408, .bf16⟩
  | .local _ .vmem, ⟨3, _⟩ => ⟨S2176x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S2176x512, .f32⟩
  | .local _ .vmem, ⟨9, _⟩ => ⟨S2176x512, .f32⟩
  | .local _ .vmem, ⟨10, _⟩ => ⟨S2176x512, .f32⟩
  | _, _ => ⟨S2064x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceMmSumIdeal.lean ====
abbrev S2064x5632 : Shape := ⟨2, ![2064, 5632]⟩
abbrev S2048x5632 : Shape := ⟨2, ![2048, 5632]⟩
abbrev S_ : Shape := ⟨0, ![]⟩
abbrev S2064x2048 : Shape := ⟨2, ![2064, 2048]⟩
abbrev S2176x2048 : Shape := ⟨2, ![2176, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2064x5632, .f32⟩
  | .hbm, ⟨1, _⟩ => ⟨S2064x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2064x2048, .f32⟩
  | .hbm, ⟨6, _⟩ => ⟨S2064x5632, .f32⟩
  | .hbm, ⟨7, _⟩ => ⟨S2064x5632, .f32⟩
  | .hbm, ⟨8, _⟩ => ⟨S2064x2048, .f32⟩
  | .hbm, ⟨9, _⟩ => ⟨S2064x2048, .f32⟩
  | .hbm, ⟨10, _⟩ => ⟨S2064x2048, .f32⟩
  | .hbm, ⟨11, _⟩ => ⟨S_, .i32⟩
  | .hbm, ⟨12, _⟩ => ⟨S_, .f32⟩
  | .hbm, ⟨13, _⟩ => ⟨S2176x2048, .f32⟩
  | _, _ => ⟨S2064x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== KernelMmTn.lean ====
abbrev S2064x2048 : Shape := ⟨2, ![2064, 2048]⟩
abbrev S2064x5632 : Shape := ⟨2, ![2064, 5632]⟩
abbrev S_ : Shape := ⟨0, ![]⟩
abbrev S2176x2048 : Shape := ⟨2, ![2176, 2048]⟩
abbrev S2048x2176 : Shape := ⟨2, ![2048, 2176]⟩
abbrev S2176x5632 : Shape := ⟨2, ![2176, 5632]⟩
abbrev S1x1 : Shape := ⟨2, ![1, 1]⟩
abbrev S4x2048x1408 : Shape := ⟨3, ![4, 2048, 1408]⟩
abbrev S1024x2176 : Shape := ⟨2, ![1024, 2176]⟩
abbrev S2176x1408 : Shape := ⟨2, ![2176, 1408]⟩
abbrev S1x1024x1408 : Shape := ⟨3, ![1, 1024, 1408]⟩
abbrev S1024x1408 : Shape := ⟨2, ![1024, 1408]⟩

abbrev nBuf : Space → Nat
  | .hbm => 14
  | .vmem => 6
  | .smem => 0
  | _ => 0

abbrev bufTy : (tb : Table) → Fin (tcTables nBuf tb) → BufTy
  | .hbm, ⟨0, _⟩ => ⟨S2064x2048, .f32⟩
  | .hbm, ⟨1, _⟩ => ⟨S2064x5632, .f32⟩
  | .hbm, ⟨2, _⟩ => ⟨S_, .i32⟩
  | .hbm, ⟨3, _⟩ => ⟨S_, .f32⟩
  | .hbm, ⟨4, _⟩ => ⟨S2176x2048, .f32⟩
  | .hbm, ⟨5, _⟩ => ⟨S2048x2176, .f32⟩
  | .hbm, ⟨6, _⟩ => ⟨S2048x2176, .bf16⟩
  | .hbm, ⟨7, _⟩ => ⟨S_, .i32⟩
  | .hbm, ⟨8, _⟩ => ⟨S_, .f32⟩
  | .hbm, ⟨9, _⟩ => ⟨S2176x5632, .f32⟩
  | .hbm, ⟨10, _⟩ => ⟨S2176x5632, .bf16⟩
  | .hbm, ⟨11, _⟩ => ⟨S_, .f32⟩
  | .hbm, ⟨12, _⟩ => ⟨S1x1, .f32⟩
  | .hbm, ⟨13, _⟩ => ⟨S4x2048x1408, .bf16⟩
  | .local _ .vmem, ⟨0, _⟩ => ⟨S1024x2176, .bf16⟩
  | .local _ .vmem, ⟨1, _⟩ => ⟨S1024x2176, .bf16⟩
  | .local _ .vmem, ⟨2, _⟩ => ⟨S2176x1408, .bf16⟩
  | .local _ .vmem, ⟨3, _⟩ => ⟨S2176x1408, .bf16⟩
  | .local _ .vmem, ⟨4, _⟩ => ⟨S1x1024x1408, .bf16⟩
  | .local _ .vmem, ⟨5, _⟩ => ⟨S1x1024x1408, .bf16⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMmTnIdeal.lean ====
abbrev S2064x2048 : Shape := ⟨2, ![2064, 2048]⟩
abbrev S2064x5632 : Shape := ⟨2, ![2064, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2064x5632, .f32⟩
  | .hbm, ⟨2, _⟩ => ⟨S_, .f32⟩
  | .hbm, ⟨3, _⟩ => ⟨S2048x5632, .f32⟩
  | .hbm, ⟨4, _⟩ => ⟨S2064x5632, .f32⟩
  | .hbm, ⟨5, _⟩ => ⟨S5632x2048, .f32⟩
  | .hbm, ⟨6, _⟩ => ⟨S2048x5632, .f32⟩
  | .hbm, ⟨7, _⟩ => ⟨S2048x4x1408, .f32⟩
  | .hbm, ⟨8, _⟩ => ⟨S4x2048x1408, .f32⟩
  | .hbm, ⟨9, _⟩ => ⟨S4x2048x1408, .bf16⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelAdamw.lean ====
abbrev S16x2048 : Shape := ⟨2, ![16, 2048]⟩

abbrev nBuf : Space → Nat
  | .hbm => 8
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S16x2048, .f32⟩
  | .hbm, ⟨4, _⟩ => ⟨S16x2048, .f32⟩
  | .hbm, ⟨5, _⟩ => ⟨S16x2048, .f32⟩
  | .hbm, ⟨6, _⟩ => ⟨S16x2048, .f32⟩
  | .hbm, ⟨7, _⟩ => ⟨S16x2048, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamwIdeal.lean ====
abbrev S16x2048 : Shape := ⟨2, ![16, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S16x2048, .f32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x2048, .f32⟩
  | .hbm, ⟨15, _⟩ => ⟨S_, .f32⟩
  | .hbm, ⟨16, _⟩ => ⟨S16x2048, .f32⟩
  | .hbm, ⟨17, _⟩ => ⟨S16x2048, .f32⟩
  | .hbm, ⟨18, _⟩ => ⟨S16x2048, .f32⟩
  | .hbm, ⟨19, _⟩ => ⟨S_, .f32⟩
  | .hbm, ⟨20, _⟩ => ⟨S16x2048, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S16x2048, .f32⟩
  | .hbm, ⟨26, _⟩ => ⟨S_, .f32⟩
  | .hbm, ⟨27, _⟩ => ⟨S16x2048, .f32⟩
  | .hbm, ⟨28, _⟩ => ⟨S16x2048, .f32⟩
  | .hbm, ⟨29, _⟩ => ⟨S16x2048, .f32⟩
  | .hbm, ⟨30, _⟩ => ⟨S_, .f32⟩
  | .hbm, ⟨31, _⟩ => ⟨S16x2048, .f32⟩
  | .hbm, ⟨32, _⟩ => ⟨S16x2048, .f32⟩
  | .hbm, ⟨33, _⟩ => ⟨S16x2048, .f32⟩
  | .hbm, ⟨34, _⟩ => ⟨S_, .f32⟩
  | .hbm, ⟨35, _⟩ => ⟨S16x2048, .f32⟩
  | .hbm, ⟨36, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Reals.lean ====
module

public import Idealize.ShloMosaic.Lib.IdealHost
public import Idealize.ShloMosaic.Lib.Pointwise

@[expose] public section

noncomputable section

open Idealize.ShloMosaic
open scoped BigOperators

namespace Cert.Reals

/-! The constants of the step as real numbers, and the few laws of the extended reals its proofs use. -/

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem n2048 : Ideal.ofBits .f32 0x45000000#32 = ((2048 : ℝ) : EReal) := by
  simp [Ideal.ofBits, Ideal.ieee, -EReal.coe_mul]; norm_num
theorem inv2048 : Ideal.ofBits .f32 0x3A000000#32 = ((1 / 2048 : ℝ) : EReal) := by
  simp [Ideal.ofBits, Ideal.ieee, -EReal.coe_mul]; norm_num
theorem inv4096 : Ideal.ofBits .f32 0x39800000#32 = ((1 / 4096 : ℝ) : EReal) := by
  simp [Ideal.ofBits, Ideal.ieee, -EReal.coe_mul]; norm_num

/-- A nonnegative real factor goes into a sum of nonnegative terms, infinite ones included. -/
theorem mul_sum_of_nonneg {ι : Type*} (s : Finset ι) (f : ι → EReal) (hf : ∀ i, 0 ≤ f i) {a : EReal} (ha : 0 ≤ a) (h : a ≠ ⊤) :
    a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun i _ => hf i), ih]

theorem square_nonneg (x : EReal) : 0 ≤ x * x := by
  rcases le_total 0 x with h | h
  · exact mul_nonneg h h
  · have g : 0 ≤ -x := EReal.neg_nonneg.2 h
    rw [← neg_mul_neg]; exact mul_nonneg g g

/-- A sum over the rows is the sum over the tiles of the sum over a tile's rows. -/
theorem sum_tiles {a b n : ℕ} (h : a * b = n) (f : Fin n → EReal) (g : Fin a → Fin b → EReal)
    (hg : ∀ p r (k : p.val * b + r.val < n), g p r = f ⟨p.val * b + r.val, k⟩) :
    ∑ p, ∑ r, g p r = ∑ i, f i := by
  subst h
  rw [← Fintype.sum_prod_type' g, ← finProdFinEquiv.sum_comp]
  refine Finset.sum_congr rfl fun x _ => ?_
  have k : x.1.val * b + x.2.val < a * b := by
    have := (finProdFinEquiv x).isLt
    rwa [finProdFinEquiv_apply_val, add_comm, mul_comm] at this
  rw [hg x.1 x.2 k]
  exact congrArg f (Fin.ext (by simp only [finProdFinEquiv_apply_val]; rw [add_comm, mul_comm]))

/-- A sum whose terms are zero outside a window of the indices is the sum over the window. -/
theorem sum_window {M : Type*} [AddCommMonoid M] {n w : ℕ} (k : ℕ) (hk : k + w ≤ n) (f : Fin n → M) (g : Fin w → M)
    (hin : ∀ (i : Fin w) (p : k + i.val < n), f ⟨k + i.val, p⟩ = g i)
    (hout : ∀ i : Fin n, ¬(k ≤ i.val ∧ i.val < k + w) → f i = 0) : ∑ i, f i = ∑ i, g i := by
  refine (Fintype.sum_of_injective (fun i : Fin w => (⟨k + i.val, by omega⟩ : Fin n)) (fun a b h => ?_) g f
    (fun i hi => hout i fun p => hi ⟨⟨i.val - k, by omega⟩, Fin.ext (by show k + (i.val - k) = i.val; omega)⟩)
    (fun i => (hin i _).symm)).symm
  have := congrArg Fin.val h
  exact Fin.ext (by simpa using this)

/-- A finite sum of reals is the same sum taken over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The quotient of two reals. -/
theorem div_coe_coe (x : ℝ) {y : ℝ} (h : y ≠ 0) : Ideal.div (x : EReal) (y : EReal) = ((x / y : ℝ) : EReal) := by
  rw [Ideal.div_coe h, ← EReal.coe_mul, mul_one_div]

/-- The greatest of finitely many extended reals, none of them infinite above and one of them real, is real. -/
theorem fold_max_real {ι : Type*} (s : Finset ι) (f : ι → EReal) (ht : ∀ i ∈ s, f i ≠ ⊤) (i : ι) (hi : i ∈ s) (hb : f i ≠ ⊥) :
    ∃ r : ℝ, s.fold max ⊥ f = (r : EReal) := by
  have up : s.fold max ⊥ f ≠ ⊤ := by
    intro e
    obtain h | ⟨j, hj, h⟩ := (Finset.le_fold_max (⊤ : EReal)).1 e.ge
    · exact absurd h (by simp)
    · exact ht j hj (top_le_iff.1 h)
  have low : s.fold max ⊥ f ≠ ⊥ := by
    intro e
    have h : f i ≤ s.fold max ⊥ f := (Finset.le_fold_max _).2 (Or.inr ⟨i, hi, le_rfl⟩)
    rw [e] at h
    exact hb (le_bot_iff.1 h)
  exact ⟨_, (EReal.coe_toReal up low).symm⟩

/-- Division by a power of two is a product with its inverse. -/
theorem div_2048 (x : EReal) : Ideal.div x ((2048 : ℝ) : EReal) = x * ((1 / 2048 : ℝ) : EReal) :=
  Ideal.div_coe (by norm_num) x

end Cert.Reals
end
-- ==== Proof.Loss.Arrays.lean ====
module

public import proofs.«01_k».proof.Proof.Gen.KernelLossIdeal.Value
public import proofs.«01_k».proof.Proof.Reals
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.KernelLossIdeal.Final

open Cert.KernelLossIdeal Cert.KernelLossIdeal.Gen

/-- The error of one entry of the padded residual: zero on the meta rows and on the padding rows. -/
def err (h : FVec Ideal S2064x2048 .f32) (t : FVec Ideal S2048x2048 .f32) (i : Fin 2176) (j : Fin 2048) : EReal :=
  if p : 16 ≤ i.val ∧ i.val < 2064 then
    h (ix2 ⟨i.val, p.2⟩ j) - t (ix2 ⟨i.val - 16, by omega⟩ j)
  else 0

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] ∧ win0_4.index t = ![0, 0] :=
  (by decide +kernel : ∀ t : Fin grid0.N, _)

theorem coord : ∀ t : Fin cfg0.N, (grid0.coords t 0).val = t.val :=
  (by decide +kernel : ∀ t : Fin grid0.N, _)

theorem residual (c : Dev nD) (i : Fin 2176) (j : Fin 2048) :
    V m c main_v3 (ix2 i j) = if p : i.val < 2064 then m ((c.tc : Thread nD τ).loc main_arg0) (ix2 ⟨i.val, p⟩ j) else (0 : EReal) := by
  entry_read
  pointwise []

set_option maxHeartbeats 1600000 in
theorem target (c : Dev nD) (i : Fin 2176) (j : Fin 2048) (p : 16 ≤ i.val ∧ i.val < 2064) :
    V m c main_v2 (ix2 i j) = m ((c.tc : Thread nD τ).loc main_arg1) (ix2 ⟨i.val - 16, by omega⟩ j) := by
  unfold V; after_results
  pointwise []
  rw [dif_neg (by omega), dif_pos (by omega)]
  rfl

theorem tile_word (t n r : ℕ) : IntOp.addi (Scalar.muli (BitVec.ofNat 32 t) (BitVec.ofNat 32 n)) (BitVec.ofNat 32 r)
    = BitVec.ofNat 32 (t * n + r) := by
  simp [IntOp.addi, Scalar.muli, IntOp.muli, BitVec.ofNat_add, BitVec.ofNat_mul]

/-- The rows of the tile that a grid point reads. -/
def row (t : Fin cfg0.N) (r : Fin 272) : Fin 2176 := ⟨t.val * 272 + r.val, by have := t.isLt.trans_eq N_0; omega⟩

theorem read_residual (c : Dev nD) (t : Fin cfg0.N) (r : Fin 272) (j : Fin 2048) :
    iblk m c 0 t (ix2 r j) = V m c main_v3 (ix2 (row t r) j) := by
  obtain ⟨e0, -⟩ := idx t
  blk_ext [iblk, e0, row]

theorem read_target (c : Dev nD) (t : Fin cfg0.N) (r : Fin 272) (j : Fin 2048) :
    iblk m c 1 t (ix2 r j) = V m c main_v2 (ix2 (row t r) j) := by
  obtain ⟨-, e1, -⟩ := idx t
  blk_ext [iblk, e1, row]

theorem tile_err (c : Dev nD) (t : Fin cfg0.N) (r : Fin 272) (j : Fin 2048) :
    k0_pay2 (grid0.coords t) (iblk m c 0 t) (iblk m c 1 t) (ix2 r j)
      = err (m ((c.tc : Thread nD τ).loc main_arg0)) (m ((c.tc : Thread nD τ).loc main_arg1)) (row t r) j := by
  pointwise [k0_pay2]
  have ht := t.isLt.trans_eq N_0
  rw [coord t, tile_word]
  word_cmp
  unfold err
  by_cases p : 16 ≤ t.val * 272 + r.val ∧ t.val * 272 + r.val < 2064
  · rw [if_pos p, dif_pos (show 16 ≤ (row t r).val ∧ (row t r).val < 2064 from p), read_residual, read_target,
      target m c _ _ p, residual, dif_pos (show (row t r).val < 2064 from p.2)]
  · rw [if_neg p, dif_neg (show ¬(16 ≤ (row t r).val ∧ (row t r).val < 2064) from p)]

/-- The two arguments as a device holds them. -/
abbrev argH (c : Dev nD) : FVec Ideal S2064x2048 .f32 := m ((c.tc : Thread nD τ).loc main_arg0)
abbrev argT (c : Dev nD) : FVec Ideal S2048x2048 .f32 := m ((c.tc : Thread nD τ).loc main_arg1)

theorem tile_err' (c : Dev nD) (t : Fin cfg0.N) (y : S272x2048.Idx) :
    k0_pay2 (grid0.coords t) (iblk m c 0 t) (iblk m c 1 t) y = err (argH m c) (argT m c) (row t (y 0)) (y 1) :=
  (congrArg _ (eq_ix2 y)).trans (tile_err m c t (y 0) (y 1))

/-- The gradient of the loss by the residual. -/
def dh (h : FVec Ideal S2064x2048 .f32) (t : FVec Ideal S2048x2048 .f32) : FVec Ideal S2176x2048 .f32 :=
  fun i => err h t (i 0) (i 1) * ((1 / 2048 : ℝ) : EReal)

/-- The loss: half the sum over the tokens of the mean square error. -/
def loss (h : FVec Ideal S2064x2048 .f32) (t : FVec Ideal S2048x2048 .f32) : EReal :=
  ∑ i : Fin 2176, ((1 / 4096 : ℝ) : EReal) * ∑ j : Fin 2048, err h t i j * err h t i j

theorem tile_dh (c : Dev nD) (t : Fin cfg0.N) (y : S272x2048.Idx) :
    k0_pay3 (grid0.coords t) (iblk m c 0 t) (iblk m c 1 t) y = dh (argH m c) (argT m c) (ix2 (row t (y 0)) (y 1)) := by
  pointwise [k0_pay3]
  rw [tile_err', Reals.inv2048]
  rfl

theorem tile_loss (c : Dev nD) (t : Fin cfg0.N) (y : S1x1.Idx) :
    k0_pay5 (grid0.coords t) (iblk m c 0 t) (iblk m c 1 t) y
      = ∑ r : Fin 272, ((1 / 4096 : ℝ) : EReal) *
          ∑ j : Fin 2048, err (argH m c) (argT m c) (row t r) j * err (argH m c) (argT m c) (row t r) j := by
  pointwise [k0_pay5]
  rw [Reals.inv4096, Reals.mul_sum_of_nonneg _ _ (fun r => Finset.sum_nonneg fun j _ => Reals.square_nonneg _)
    (by exact_mod_cast (by norm_num : (0 : ℝ) ≤ 1 / 4096)) (EReal.coe_ne_top _)]
  simp only [tile_err]

theorem final_dh (c : Dev nD) : (dats m 0 c).arrAt 2 cfg0.N = dh (argH m c) (argT m c) := by
  refine (dats m 0 c).arrAt_eq_of_covers 2 _ (by decide +kernel) fun t hf y => ?_
  obtain ⟨-, -, e2, -⟩ := idx t
  have hy : ix2 (row t (y 0)) (y 1) = ((cfg0.win 2).blk t).view.emb y := by blk_ext [e2, row]
  have ht := t.isLt.trans_eq N_0
  refine Eq.trans ?_ (congrArg (dh (argH m c) (argT m c)) hy)
  blk_simp
  rw [after0_2]
  by_cases h : t.val % 8 = 0
  · rw [outsAt0_A m c t h (by omega)]
    frame_out
    exact tile_dh m c t y
  · rw [outsAt0_B m c t h (by omega)]
    frame_out
    exact tile_dh m c t y

theorem final_dhb (c : Dev nD) : (dats m 0 c).arrAt 3 cfg0.N = dh (argH m c) (argT m c) := by
  refine (dats m 0 c).arrAt_eq_of_covers 3 _ (by decide +kernel) fun t hf y => ?_
  obtain ⟨-, -, -, e3, -⟩ := idx t
  have hy : ix2 (row t (y 0)) (y 1) = ((cfg0.win 3).blk t).view.emb y := by blk_ext [e3, row]
  have ht := t.isLt.trans_eq N_0
  refine Eq.trans ?_ (congrArg (dh (argH m c) (argT m c)) hy)
  blk_simp
  rw [after0_3]
  by_cases h : t.val % 8 = 0
  · rw [outsAt0_A m c t h (by omega)]
    frame_out
    exact tile_dh m c t y
  · rw [outsAt0_B m c t h (by omega)]
    frame_out
    exact tile_dh m c t y

theorem final_loss (c : Dev nD) : (dats m 0 c).arrAt 4 cfg0.N = fun _ => loss (argH m c) (argT m c) := by
  refine (dats m 0 c).arrAt_eq_of_after_last 4 t0_7 (by decide +kernel) _ fun j => ?_
  blk_simp
  rw [after0_4, Pipeline.eq_sum_fin_of_reset_step_apply_last (fun n h => (outsAt0 m c n h).2.2) 8 (fun _ => 0)
    (fun t _ => ∑ r : Fin 272, ((1 / 4096 : ℝ) : EReal) *
      ∑ j : Fin 2048, err (argH m c) (argT m c) (row t r) j * err (argH m c) (argT m c) (row t r) j)
    (fun t h j => by have := t.isLt.trans_eq N_0; rw [outsAt0_A m c t h (by omega)]; frame_out; rw [tile_loss, zero_add])
    (fun t h j => by rw [outsAt0_B m c t h (by omega)]; frame_out; pointwise [k0_pay1]; rw [tile_loss]) (le_of_eq N_0) t0_7 rfl j, zero_add]
  exact Reals.sum_tiles (a := 8) (b := 272) rfl _ _ fun p r k => rfl

end Cert.KernelLossIdeal.Final
end
-- ==== Proof.Loss.Reference.lean ====
module

public import proofs.«01_k».proof.Proof.Gen.ReferenceLossIdeal.Read
public import proofs.«01_k».proof.Proof.Loss.Arrays

@[expose] public section

set_option maxRecDepth 16384

noncomputable section

open Idealize.ShloMosaic
open scoped BigOperators

namespace Cert.ReferenceLossIdeal.Final

open Cert.ReferenceLossIdeal Cert.ReferenceLossIdeal.Value Cert.ReferenceLossIdeal.Read

open Cert.KernelLossIdeal.Final (err dh loss)

variable (h : FVec Ideal S2064x2048 .f32) (t : FVec Ideal S2048x2048 .f32)

theorem ref_err (i j : Fin 2048) :
    val_main_v1 (F := Ideal) h t (ix2 i j) = err h t ⟨16 + i.val, by omega⟩ j := by
  pointwise [val_main_v1, val_main_v0]
  rw [err, dif_pos (by constructor <;> simp <;> omega)]
  blk_point []

theorem sitofp_zero : FloatOps.sitofp (F := Ideal) .f32 0#32 = 0 := by
  show (((0#32 : BitVec 32).toInt : ℝ) : EReal) = 0
  simp

theorem ref_dh_at (a : Fin 2176) (b : Fin 2048) : val_main_v17 (F := Ideal) h t (ix2 a b) = dh h t (ix2 a b) := by
  pointwise [val_main_v17, val_main_v16, val_main_v15_apply, val_main_v14, val_main_v13, val_main_v12, val_main_v11,
    val_main_v10, val_main_v4, val_main_v3, val_main_cst, val_main_cst_4, val_main_cst_5, val_main_cst_6, val_main_cst_7,
    val_main_call0_v0, val_main_c]
  show _ = err h t a b * ((1 / 2048 : ℝ) : EReal)
  by_cases p : 16 ≤ a.val ∧ a.val < 2064
  · rw [dif_pos p.2, dif_pos (by omega), ref_err, Reals.half, Reals.two, Reals.n2048, Reals.div_2048, ← mul_assoc,
      mul_comm, ← EReal.coe_mul, ← EReal.coe_mul]
    rw [show (⟨16 + (⟨a.val - 16, by omega⟩ : Fin 2048).val, by simp; omega⟩ : Fin 2176) = a from Fin.ext (by simp; omega)]
    norm_num
  · rw [err, dif_neg p, zero_mul]
    by_cases q : a.val < 2064
    · rw [dif_pos q, dif_neg (by omega)]
    · rw [dif_neg q]
      exact sitofp_zero

theorem ref_dh : val_main_v17 (F := Ideal) h t = dh h t :=
  funext fun i => by rw [eq_ix2 i]; exact ref_dh_at h t (i 0) (i 1)

theorem ref_dhb : val_main_v18 (F := Ideal) h t = dh h t := (funext fun i => rfl : _ = val_main_v17 (F := Ideal) h t).trans (ref_dh h t)

theorem ref_loss : val_main_v19 (F := Ideal) h t = fun _ => loss h t := by
  funext i
  pointwise [val_main_v19, val_main_v9, val_main_v8, val_main_v7, val_main_v6, val_main_v5, val_main_v2, val_main_cst_3,
    val_main_cst_1, val_main_cst_2, val_main_cst_0]
  rw [loss, Reals.sum_window (n := 2176) (w := 2048) 16 (by norm_num) _
    (fun i => ((1 / 4096 : ℝ) : EReal) * ∑ j, val_main_v1 (F := Ideal) h t (ix2 i j) * val_main_v1 (F := Ideal) h t (ix2 i j))
    (fun i p => by simp only [ref_err]) (fun i p => by simp [err, p]), Reals.half, Reals.n2048]
  simp only [Reals.div_2048]
  have pos (a : ℝ) (ha : 0 ≤ a) : (0 : EReal) ≤ a := by exact_mod_cast ha
  rw [Reals.mul_sum_of_nonneg _ _ (fun i => mul_nonneg (Finset.sum_nonneg fun j _ => Reals.square_nonneg _) (pos _ (by norm_num)))
    (pos _ (by norm_num)) (EReal.coe_ne_top _)]
  refine Finset.sum_congr rfl fun i _ => ?_
  rw [mul_comm, mul_assoc, ← EReal.coe_mul, mul_comm]
  norm_num

end Cert.ReferenceLossIdeal.Final
end
-- ==== Proof.Loss.Claims.lean ====
module

public import proofs.«01_k».proof.Defs
public import proofs.«01_k».proof.Proof.Gen.KernelLoss.Frame
public import proofs.«01_k».proof.Proof.Loss.Reference

@[expose] public section

noncomputable section

open Idealize.ShloMosaic Idealize.ShloMosaic.TcCoe Idealize.SL.Sem

namespace Cert.Proof.Loss

open Cert.KernelLossIdeal.Final

theorem frame_reference : Cert.quiescent_ReferenceLossIdeal := by
  intro m g _
  exact (θ_run _ _ _).mono (fun r h => ⟨fun c => (h c).2.2.2, sem_eq_zero_of_no_sems (by decide) r.2⟩)
    (Cert.ReferenceLossIdeal.Value.run m g)

theorem equal : Cert.algebraic_KernelLossIdeal_ReferenceLossIdeal := by
  intro m g m' g' _ hag
  refine ⟨fun c => dh (argH m c) (argT m c), fun c => dh (argH m c) (argT m c), fun c _ => loss (argH m c) (argT m c), ?_, ?_⟩
  · refine (θ_run _ _ _).mono (fun r h c => ?_) (Cert.KernelLossIdeal.Value.run_blocks m g)
    exact ⟨(h c).1.trans (final_dh m c), (h c).2.1.trans (final_dhb m c), (h c).2.2.1.trans (final_loss m c), (h c).2.2.2⟩
  · refine (θ_run _ _ _).mono (fun r h c => ?_) (Cert.ReferenceLossIdeal.Value.run m' g')
    have e := h c
    rw [(hag c).1, (hag c).2] at e
    exact ⟨e.1.trans (Cert.ReferenceLossIdeal.Final.ref_dh _ _), e.2.1.trans (Cert.ReferenceLossIdeal.Final.ref_dhb _ _),
      e.2.2.1.trans (Cert.ReferenceLossIdeal.Final.ref_loss _ _), (h c).2.2.2⟩

end Cert.Proof.Loss
end
-- ==== Proof.Finite.lean ====
module

public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.Reals

theorem inf_word : Ideal.ofBits .f32 0x7F800000#32 = (⊤ : EReal) := by
  simp [Ideal.ofBits, Ideal.ieee]

/-- An entry whose absolute value is below infinity is a real number. -/
theorem real_of_abs_lt {s : Shape} (a top : FVec Ideal s .f32) (ht : ∀ i, top i = (⊤ : EReal)) (i : s.Idx)
    (e : cmpf .olt (Host.absf a) top i = 1#1) : a i = ((a i : EReal).toReal : EReal) := by
  have l : max (a i : EReal) (-(a i)) < ⊤ := by
    have e' : Ideal.cmp .olt (max (a i : EReal) (-(a i))) (top i) = 1#1 := e
    rw [ht i] at e'
    by_contra h
    rw [Ideal.cmp, decide_eq_false h] at e'
    exact absurd e' (by decide)
  refine (EReal.coe_toReal ?_ ?_).symm
  · intro h; rw [h] at l; simp at l
  · intro h; rw [h] at l; simp at l

theorem sitofp_zero : FloatOps.sitofp (F := Ideal) .f32 0#32 = 0 := by
  show (((0#32 : BitVec 32).toInt : ℝ) : EReal) = 0
  simp

end Cert.Reals
end
-- ==== Proof.Attention.Math.lean ====
module

public import proofs.«01_k».proof.Proof.Reals

@[expose] public section

noncomputable section

open Idealize.ShloMosaic
open scoped BigOperators

namespace Cert.Attention

/-! Causal attention with a decay, and its gradients, over the real numbers. The positions are the first `n`
numbers; the padded arrays of the kernel have 2176 positions, those of the reference 2064. -/

/-- The factor on the products of queries and keys: 1/√128 as a single-precision number. -/
def scale : ℝ := 11863283 / 134217728

theorem scale_word : Ideal.ofBits .f32 0x3DB504F3#32 = (scale : EReal) := by
  simp [Ideal.ofBits, Ideal.ieee, -EReal.coe_mul, scale]; norm_num

theorem bot_word : Ideal.ofBits .f32 0xFF800000#32 = (⊥ : EReal) := by
  simp [Ideal.ofBits, Ideal.ieee]

/-- Queries, keys, values, cumulative decays and the cotangent of the output. -/
structure Inputs (n : ℕ) where
  q : Fin n → Fin 8 → Fin 128 → ℝ
  k : Fin n → Fin 8 → Fin 128 → ℝ
  v : Fin n → Fin 8 → Fin 128 → ℝ
  cum : Fin 8 → Fin n → ℝ
  ct : Fin n → Fin 8 → Fin 128 → ℝ

namespace Inputs

variable {n : ℕ} (x : Inputs n)

def score (h : Fin 8) (i j : Fin n) : ℝ := (∑ e, x.q i h e * x.k j h e) * scale + (x.cum h i - x.cum h j)

def weight (h : Fin 8) (i j : Fin n) : ℝ := if j.val ≤ i.val then Real.exp (x.score h i j) else 0

def total (h : Fin 8) (i : Fin n) : ℝ := ∑ j, x.weight h i j

/-- The attention of query `i` to key `j`. -/
def prob (h : Fin 8) (i j : Fin n) : ℝ := x.weight h i j / x.total h i

def dprob (h : Fin 8) (i j : Fin n) : ℝ := ∑ e, x.ct i h e * x.v j h e

/-- The sum of the cotangent times the output, over the columns of a row. -/
def delta (h : Fin 8) (i : Fin n) : ℝ := ∑ j, x.prob h i j * x.dprob h i j

/-- The gradient of the scores. -/
def dscore (h : Fin 8) (i j : Fin n) : ℝ := x.prob h i j * (x.dprob h i j - x.delta h i)

def dq (i : Fin n) (h : Fin 8) (e : Fin 128) : ℝ := ∑ j, x.dscore h i j * scale * x.k j h e

def dcumq (h : Fin 8) (i : Fin n) : ℝ := ∑ j, x.dscore h i j

def dk (j : Fin n) (h : Fin 8) (e : Fin 128) : ℝ := ∑ i, x.dscore h i j * scale * x.q i h e

def dv (j : Fin n) (h : Fin 8) (e : Fin 128) : ℝ := ∑ i, x.prob h i j * x.ct i h e

def dcumk (h : Fin 8) (j : Fin n) : ℝ := -∑ i, x.dscore h i j

theorem weight_nonneg (h : Fin 8) (i j : Fin n) : 0 ≤ x.weight h i j := by
  unfold weight; split
  · exact (Real.exp_pos _).le
  · exact le_rfl

theorem total_pos (h : Fin 8) (i : Fin n) : 0 < x.total h i :=
  Finset.sum_pos' (fun j _ => x.weight_nonneg h i j) ⟨i, Finset.mem_univ _, by rw [weight, if_pos le_rfl]; exact Real.exp_pos _⟩

theorem prob_eq_zero (h : Fin 8) {i j : Fin n} (p : i.val < j.val) : x.prob h i j = 0 := by
  rw [prob, weight, if_neg (by omega), zero_div]

theorem dscore_eq_zero (h : Fin 8) {i j : Fin n} (p : i.val < j.val) : x.dscore h i j = 0 := by
  rw [dscore, prob_eq_zero x h p, zero_mul]

omit x in
/-- The sums over the keys may stop behind the query. -/
theorem sum_prefix {i : Fin n} {w : ℕ} (hw : w ≤ n) (hi : i.val < w) (f : Fin n → ℝ) (hf : ∀ j : Fin n, i.val < j.val → f j = 0) :
    ∑ j : Fin w, f ⟨j.val, by omega⟩ = ∑ j, f j :=
  (Reals.sum_window 0 (by omega) f _ (fun j p => congrArg f (Fin.ext (by simp))) (fun j p => hf j (by omega))).symm

theorem delta_prefix {w : ℕ} (hw : w ≤ n) (h : Fin 8) (i : Fin n) (hi : i.val < w) :
    ∑ j : Fin w, x.prob h i ⟨j.val, by omega⟩ * x.dprob h i ⟨j.val, by omega⟩ = x.delta h i :=
  sum_prefix hw hi (fun j => x.prob h i j * x.dprob h i j) fun j p => by rw [x.prob_eq_zero h p, zero_mul]

theorem dcumq_prefix {w : ℕ} (hw : w ≤ n) (h : Fin 8) (i : Fin n) (hi : i.val < w) :
    ∑ j : Fin w, x.prob h i ⟨j.val, by omega⟩ * (x.dprob h i ⟨j.val, by omega⟩
      - ∑ j : Fin w, x.prob h i ⟨j.val, by omega⟩ * x.dprob h i ⟨j.val, by omega⟩) = x.dcumq h i := by
  rw [x.delta_prefix hw h i hi]
  exact sum_prefix hw hi (x.dscore h i) fun j p => x.dscore_eq_zero h p

theorem dq_prefix {w : ℕ} (hw : w ≤ n) (h : Fin 8) (i : Fin n) (hi : i.val < w) (e : Fin 128) :
    ∑ j : Fin w, x.prob h i ⟨j.val, by omega⟩ * (x.dprob h i ⟨j.val, by omega⟩
      - ∑ j : Fin w, x.prob h i ⟨j.val, by omega⟩ * x.dprob h i ⟨j.val, by omega⟩) * scale * x.k ⟨j.val, by omega⟩ h e = x.dq i h e := by
  rw [x.delta_prefix hw h i hi]
  exact sum_prefix hw hi (fun j => x.dscore h i j * scale * x.k j h e) fun j p => by
    rw [x.dscore_eq_zero h p, zero_mul, zero_mul]

/-- A row of the scores as a softmax sees it: the keys after the query are at minus infinity. -/
def Masked (h : Fin 8) (i : Fin n) (f : Fin n → EReal) : Prop := ∀ j, f j = if j.val ≤ i.val then (x.score h i j : EReal) else ⊥

/-- Subtracting the greatest score of a row leaves the quotient of the exponentials by their sum alone. -/
theorem row_max {h : Fin 8} {i : Fin n} {f : Fin n → EReal} (hf : x.Masked h i f) : ∃ s z : ℝ,
    Finset.univ.fold max ⊥ f = (s : EReal) ∧ 0 < z ∧ (∑ j, Ideal.exp (f j - s) = (z : EReal))
      ∧ (∀ j, Ideal.exp (f j - s) = ((z * x.prob h i j : ℝ) : EReal))
      ∧ ∀ j, j.val ≤ i.val → Real.exp (x.score h i j - (s + Real.log z)) = x.prob h i j := by
  obtain ⟨s, hs⟩ := Reals.fold_max_real Finset.univ f (fun j _ => by rw [hf]; split <;> simp) i (Finset.mem_univ _)
    (by rw [hf, if_pos le_rfl]; simp)
  have t := x.total_pos h i
  have e : ∀ j, Ideal.exp (f j - s) = ((x.weight h i j / Real.exp s : ℝ) : EReal) := by
    intro j
    rw [hf, weight]; split
    · rw [← EReal.coe_sub, Ideal.exp_coe, Real.exp_sub]
    · rw [EReal.bot_sub, Ideal.exp_bot, zero_div]; rfl
  refine ⟨s, x.total h i / Real.exp s, hs, div_pos t (Real.exp_pos _), ?_, fun j => ?_, fun j p => ?_⟩
  · rw [total, Finset.sum_div, Reals.coe_sum]
    exact Finset.sum_congr rfl fun j _ => e j
  · rw [e, prob]; congr 1; field_simp
  · rw [Real.log_div t.ne' (Real.exp_pos s).ne', Real.log_exp, add_sub_cancel, Real.exp_sub, Real.exp_log t, prob, weight, if_pos p]

/-- The logarithm of the sum of the exponentials of a row. -/
theorem row_lse {h : Fin 8} {i : Fin n} {f : Fin n → EReal} (hf : x.Masked h i f) : ∃ r : ℝ,
    Finset.univ.fold max ⊥ f + Ideal.log (∑ j, Ideal.exp (f j - Finset.univ.fold max ⊥ f)) = (r : EReal)
      ∧ ∀ j, j.val ≤ i.val → Real.exp (x.score h i j - r) = x.prob h i j := by
  obtain ⟨s, z, hs, hz, hsum, -, hp⟩ := x.row_max hf
  refine ⟨s + Real.log z, ?_, hp⟩
  rw [hs, hsum, Ideal.log_coe, if_neg (by linarith), EReal.coe_add]

end Inputs

/-! Padding with zeros. -/

def padRow {n : ℕ} (a : Fin n → Fin 8 → Fin 128 → ℝ) (m : ℕ) (i : Fin m) (h : Fin 8) (e : Fin 128) : ℝ :=
  if p : i.val < n then a ⟨i.val, p⟩ h e else 0

namespace Inputs

/-- The same arrays continued by zeros. -/
def pad {n : ℕ} (x : Inputs n) (m : ℕ) : Inputs m where
  q := padRow x.q m
  k := padRow x.k m
  v := padRow x.v m
  cum h i := if p : i.val < n then x.cum h ⟨i.val, p⟩ else 0
  ct := padRow x.ct m

variable {n m : ℕ} (x : Inputs n) (hm : n ≤ m)
include hm

theorem pad_score (h : Fin 8) (i j : Fin n) : (x.pad m).score h (i.castLE hm) (j.castLE hm) = x.score h i j := by
  simp [score, pad, padRow]

theorem pad_weight (h : Fin 8) (i j : Fin n) : (x.pad m).weight h (i.castLE hm) (j.castLE hm) = x.weight h i j := by
  simp [weight, pad_score]

/-- A sum over the padded positions whose terms vanish on the padding. -/
theorem sum_pad (f : Fin m → ℝ) (g : Fin n → ℝ) (hg : ∀ j, f (j.castLE hm) = g j) (hf : ∀ j, n ≤ j.val → f j = 0) :
    ∑ j, f j = ∑ j, g j :=
  Reals.sum_window 0 (by omega) f g (fun j p => by rw [← hg]; exact congrArg f (Fin.ext (by simp))) (fun j p => hf j (by omega))

theorem pad_total (h : Fin 8) (i : Fin n) : (x.pad m).total h (i.castLE hm) = x.total h i :=
  sum_pad hm _ _ (fun j => x.pad_weight hm h i j) (fun j p => by rw [weight, if_neg (by simp; omega)])

theorem pad_prob (h : Fin 8) (i j : Fin n) : (x.pad m).prob h (i.castLE hm) (j.castLE hm) = x.prob h i j := by
  rw [prob, prob, pad_weight, pad_total]

theorem pad_dprob (h : Fin 8) (i j : Fin n) : (x.pad m).dprob h (i.castLE hm) (j.castLE hm) = x.dprob h i j := by
  simp [dprob, pad, padRow]

omit hm in
theorem pad_dprob_zero (h : Fin 8) {i : Fin m} (j : Fin m) (p : n ≤ i.val) : (x.pad m).dprob h i j = 0 := by
  refine Finset.sum_eq_zero fun e _ => ?_
  show padRow x.ct m i h e * _ = 0
  rw [padRow, dif_neg (by omega), zero_mul]

theorem pad_delta (h : Fin 8) (i : Fin n) : (x.pad m).delta h (i.castLE hm) = x.delta h i :=
  sum_pad hm _ _ (fun j => by rw [pad_prob, pad_dprob]) (fun j p => by rw [prob_eq_zero _ h (by simp; omega), zero_mul])

omit hm in
theorem pad_delta_zero (h : Fin 8) {i : Fin m} (p : n ≤ i.val) : (x.pad m).delta h i = 0 :=
  Finset.sum_eq_zero fun j _ => by rw [x.pad_dprob_zero h j p, mul_zero]

theorem pad_dscore (h : Fin 8) (i j : Fin n) : (x.pad m).dscore h (i.castLE hm) (j.castLE hm) = x.dscore h i j := by
  rw [dscore, dscore, pad_prob, pad_dprob, pad_delta]

omit hm in
theorem pad_dscore_zero (h : Fin 8) {i : Fin m} (j : Fin m) (p : n ≤ i.val) : (x.pad m).dscore h i j = 0 := by
  rw [dscore, x.pad_dprob_zero h j p, x.pad_delta_zero h p, sub_zero, mul_zero]

theorem pad_dq (i : Fin m) (h : Fin 8) (e : Fin 128) :
    (x.pad m).dq i h e = if p : i.val < n then x.dq ⟨i.val, p⟩ h e else 0 := by
  split
  · next p =>
    refine sum_pad hm _ _ (fun j => ?_) (fun j q => by rw [dscore_eq_zero _ h (by omega), zero_mul, zero_mul])
    rw [← x.pad_dscore hm h ⟨i.val, p⟩ j]; simp [pad, padRow]
  · next p => exact Finset.sum_eq_zero fun j _ => by rw [x.pad_dscore_zero h j (by omega), zero_mul, zero_mul]

theorem pad_dcumq (h : Fin 8) (i : Fin m) :
    (x.pad m).dcumq h i = if p : i.val < n then x.dcumq h ⟨i.val, p⟩ else 0 := by
  split
  · next p =>
    refine sum_pad hm _ _ (fun j => ?_) (fun j q => dscore_eq_zero _ h (by omega))
    exact x.pad_dscore hm h ⟨i.val, p⟩ j
  · next p => exact Finset.sum_eq_zero fun j _ => x.pad_dscore_zero h j (by omega)

theorem pad_delta_eq (h : Fin 8) (i : Fin m) :
    (x.pad m).delta h i = if p : i.val < n then x.delta h ⟨i.val, p⟩ else 0 := by
  split
  · next p => exact x.pad_delta hm h ⟨i.val, p⟩
  · next p => exact x.pad_delta_zero h (by omega)

theorem pad_dk (j : Fin m) (h : Fin 8) (e : Fin 128) :
    (x.pad m).dk j h e = if p : j.val < n then x.dk ⟨j.val, p⟩ h e else 0 := by
  split
  · next p =>
    refine sum_pad hm _ _ (fun i => ?_) (fun i q => by rw [x.pad_dscore_zero h j q, zero_mul, zero_mul])
    rw [← x.pad_dscore hm h i ⟨j.val, p⟩]; simp [pad, padRow]
  · next p =>
    refine Finset.sum_eq_zero fun i _ => ?_
    by_cases q : i.val < n
    · rw [dscore_eq_zero _ h (by omega), zero_mul, zero_mul]
    · rw [x.pad_dscore_zero h j (by omega), zero_mul, zero_mul]

theorem pad_dv (j : Fin m) (h : Fin 8) (e : Fin 128) :
    (x.pad m).dv j h e = if p : j.val < n then x.dv ⟨j.val, p⟩ h e else 0 := by
  have z : ∀ i : Fin m, n ≤ i.val → (x.pad m).ct i h e = 0 := fun i q => dif_neg (by omega)
  split
  · next p =>
    refine sum_pad hm _ _ (fun i => ?_) (fun i q => by rw [z i q, mul_zero])
    rw [← x.pad_prob hm h i ⟨j.val, p⟩]; simp [pad, padRow]
  · next p =>
    refine Finset.sum_eq_zero fun i _ => ?_
    by_cases q : i.val < n
    · rw [prob_eq_zero _ h (by omega), zero_mul]
    · rw [z i (by omega), mul_zero]

theorem pad_dcumk (h : Fin 8) (j : Fin m) :
    (x.pad m).dcumk h j = if p : j.val < n then x.dcumk h ⟨j.val, p⟩ else 0 := by
  split
  · next p =>
    refine congrArg Neg.neg (sum_pad hm _ _ (fun i => ?_) (fun i q => x.pad_dscore_zero h j q))
    exact x.pad_dscore hm h i ⟨j.val, p⟩
  · next p =>
    refine neg_eq_zero.2 (Finset.sum_eq_zero fun i _ => ?_)
    by_cases q : i.val < n
    · exact dscore_eq_zero _ h (by omega)
    · exact x.pad_dscore_zero h j (by omega)

end Inputs

end Cert.Attention
end
-- ==== Proof.Attention.Finite.lean ====
module

public import proofs.«01_k».proof.Proof.Finite
public import proofs.«01_k».proof.Pre_attention_finite
public import proofs.«01_k».proof.Proof.Attention.Math
public import Idealize.ShloMosaic.Lib.ReduceAll
public import Idealize.ShloMosaic.Lib.Pointwise

@[expose] public section

noncomputable section

open Idealize.ShloMosaic
open scoped BigOperators

namespace Cert.Attention

/-! Arguments that satisfy the precondition are arrays of real numbers. -/

abbrev Heads : Shape := ⟨3, ![2064, 8, 128]⟩
abbrev Decays : Shape := ⟨2, ![8, 2064]⟩

/-- The five argument arrays hold the reals `x`. -/
structure Holds (q k v : FVec Ideal Heads .f32) (cum : FVec Ideal Decays .f32) (ct : FVec Ideal Heads .f32) (x : Inputs 2064) : Prop where
  q : ∀ i h e, q (ix3 i h e) = (x.q i h e : EReal)
  k : ∀ i h e, k (ix3 i h e) = (x.k i h e : EReal)
  v : ∀ i h e, v (ix3 i h e) = (x.v i h e : EReal)
  cum : ∀ h i, cum (ix2 h i) = (x.cum h i : EReal)
  ct : ∀ i h e, ct (ix3 i h e) = (x.ct i h e : EReal)

/-- What the printed precondition needs of its shapes. -/
instance facts : Cert.Pre_attention_finite.Facts := ⟨by decide, by decide, by decide, by decide, by decide⟩

open Cert.Pre_attention_finite in
theorem holds_of_finite (q k v : FVec Ideal Heads .f32) (cum : FVec Ideal Decays .f32) (ct : FVec Ideal Heads .f32)
    (h : fn (F := Ideal) q k v cum ct = fun _ => 1#1) : ∃ x, Holds q k v cum ct x := by
  have e := congrFun h ix0
  simp only [fn, fn_part1] at e
  obtain ⟨e, ed⟩ := IntOp.andi_eq_one.1 e
  obtain ⟨e, ec⟩ := IntOp.andi_eq_one.1 e
  obtain ⟨e, ev⟩ := IntOp.andi_eq_one.1 e
  obtain ⟨eq, ek⟩ := IntOp.andi_eq_one.1 e
  refine ⟨⟨fun i h e => (q (ix3 i h e) : EReal).toReal, fun i h e => (k (ix3 i h e) : EReal).toReal,
    fun i h e => (v (ix3 i h e) : EReal).toReal, fun h i => (cum (ix2 h i) : EReal).toReal,
    fun i h e => (ct (ix3 i h e) : EReal).toReal⟩, ?_, ?_, ?_, ?_, ?_⟩
  · exact fun i h e => Cert.Reals.real_of_abs_lt q _ (fun _ => Cert.Reals.inf_word) _ (Host.reduce_andi_all _ _ _ _ _ eq _)
  · exact fun i h e => Cert.Reals.real_of_abs_lt k _ (fun _ => Cert.Reals.inf_word) _ (Host.reduce_andi_all _ _ _ _ _ ek _)
  · exact fun i h e => Cert.Reals.real_of_abs_lt v _ (fun _ => Cert.Reals.inf_word) _ (Host.reduce_andi_all _ _ _ _ _ ev _)
  · exact fun h i => Cert.Reals.real_of_abs_lt cum _ (fun _ => Cert.Reals.inf_word) _ (Host.reduce_andi_all _ _ _ _ _ ec _)
  · exact fun i h e => Cert.Reals.real_of_abs_lt ct _ (fun _ => Cert.Reals.inf_word) _ (Host.reduce_andi_all _ _ _ _ _ ed _)

end Cert.Attention
end
-- ==== Proof.Attention.Softmax.lean ====
module

public import proofs.«01_k».proof.Proof.Attention.Finite
public import proofs.«01_k».proof.Proof.Gen.ReferenceAttnQIdeal

@[expose] public section

set_option maxRecDepth 16384

noncomputable section

open Idealize.ShloMosaic Idealize.ShloMosaic.TcCoe Idealize.SL.Sem
open Idealize.ShloMosaic.Pipeline (Dat)
open scoped BigOperators

namespace Cert.Attention

open Cert.ReferenceAttnQIdeal Cert.ReferenceAttnQIdeal.Gen

variable {n : ℕ} (x : Inputs n)

/-- What a softmax along a row leaves before its division: exponentials `e` and their sum `t`. -/
def Rows (e : Fin 8 → Fin n → Fin n → EReal) (t : Fin 8 → Fin n → EReal) : Prop :=
  ∀ h i, ∃ z : ℝ, 0 < z ∧ t h i = (z : EReal) ∧ ∀ j, e h i j = ((z * x.prob h i j : ℝ) : EReal)

variable {x}

theorem rows_of_masked {f e : Fin 8 → Fin n → Fin n → EReal} {t : Fin 8 → Fin n → EReal} (hf : ∀ h i, x.Masked h i (f h i))
    (he : ∀ h i j, e h i j = Ideal.exp (f h i j - max ⊥ (Finset.univ.fold max ⊥ (f h i))))
    (ht : ∀ h i, t h i = ∑ j, e h i j) : Rows x e t := by
  intro h i
  obtain ⟨s, z, hs, hz, hsum, hexp, -⟩ := x.row_max (hf h i)
  have e' : ∀ j, e h i j = Ideal.exp (f h i j - s) := fun j => by rw [he, hs, max_eq_right bot_le]
  refine ⟨z, hz, ?_, fun j => (e' j).trans (hexp j)⟩
  rw [ht, ← hsum]
  exact Finset.sum_congr rfl fun j _ => e' j

section
variable {e : Fin 8 → Fin n → Fin n → EReal} {t : Fin 8 → Fin n → EReal} (hr : Rows x e t)
include hr

theorem Rows.prob (h : Fin 8) (i j : Fin n) : Ideal.div (e h i j) (t h i) = (x.prob h i j : EReal) := by
  obtain ⟨z, hz, ht, he⟩ := hr h i
  rw [ht, he, Reals.div_coe_coe _ hz.ne', mul_div_cancel_left₀ _ hz.ne']

/-- The derivative of the softmax: the quotient rule, with both of its terms times the exponential. -/
theorem Rows.dscore (h : Fin 8) (i j : Fin n) :
    (Ideal.div (x.dprob h i j : EReal) (t h i)
      + -∑ j, (x.dprob h i j : EReal) * Ideal.div ((1 : ℝ) : EReal) (t h i * t h i) * e h i j) * e h i j = (x.dscore h i j : EReal) := by
  obtain ⟨z, hz, ht, he⟩ := hr h i
  simp only [ht, he, ← EReal.coe_mul, Reals.div_coe_coe _ hz.ne', Reals.div_coe_coe _ (mul_pos hz hz).ne', ← Reals.coe_sum,
    ← EReal.coe_neg, ← EReal.coe_add]
  congr 1
  have e : ∑ j, x.dprob h i j * (1 / (z * z)) * (z * x.prob h i j) = x.delta h i / z := by
    rw [Inputs.delta, Finset.sum_div]
    exact Finset.sum_congr rfl fun j _ => by field_simp
  rw [e, Inputs.dscore]
  field_simp
  ring

end

/-- The zeros that continue a result. -/
theorem sitofp_zero : FloatOps.sitofp (F := Ideal) .f32 0#32 = ((0 : ℝ) : EReal) := by
  show (((0#32 : BitVec 32).toInt : ℝ) : EReal) = _
  simp

/-- The same sums with the values summed first, as the output of the attention. -/
theorem Inputs.delta_outs (x : Inputs n) (h : Fin 8) (i : Fin n) :
    ∑ e, x.ct i h e * ∑ j, x.v j h e * x.prob h i j = x.delta h i := by
  simp only [Inputs.delta, Inputs.dprob, Finset.mul_sum]
  rw [Finset.sum_comm]
  exact Finset.sum_congr rfl fun j _ => Finset.sum_congr rfl fun e _ => by ring

theorem one_word : Ideal.ofBits .f32 0x3F800000#32 = ((1 : ℝ) : EReal) := by
  simp [Ideal.ofBits, Ideal.ieee, -EReal.coe_mul]; norm_num

/-! The softmax of the reference, as the host computes it: scores `s`, their greatest `a` along each row, the
exponentials and their sums. The greatest entries are taken once more against minus infinity. -/

def minusInf : FVec Ideal S_ .f32 := constant S_ .f32 0xFF800000#32

def greatest (s : FVec Ideal S8x2064x2064 .f32) : FVec Ideal S8x2064 .f32 :=
  Host.reduce FloatOps.maximumf s minusInf reducesTo_S8x2064x2064_S8x2064_d2 h_S_

def powers (s : FVec Ideal S8x2064x2064 .f32) (a : FVec Ideal S8x2064 .f32) : FVec Ideal S8x2064x2064 .f32 :=
  Host.exp (subf s (broadcastInDim S8x2064x2064 ![0, 1, 2] bcast_S8x2064x1_S8x2064x2064_0_1_2
    (broadcastInDim S8x2064x1 ![0, 1] bcast_S8x2064_S8x2064x1_0_1 (maximumf (broadcastInDim S8x2064 ![] bcast_S_S8x2064 minusInf) a))))

def sums (e : FVec Ideal S8x2064x2064 .f32) : FVec Ideal S8x2064 .f32 :=
  Host.reduceAdd e (constant S_ .f32 0x00000000#32) reducesTo_S8x2064x2064_S8x2064_d2 h_S_

section
variable (s : FVec Ideal S8x2064x2064 .f32) (a : FVec Ideal S8x2064 .f32) (h : Fin 8) (i j : Fin 2064)

theorem greatest_apply : greatest s (ix2 h i) = Finset.univ.fold max ⊥ fun j => s (ix3 h i j) := by
  pointwise [greatest, minusInf]
  rw [bot_word]

theorem powers_apply : powers s a (ix3 h i j) = Ideal.exp (s (ix3 h i j) - max ⊥ (a (ix2 h i))) := by
  pointwise [powers, minusInf]
  rw [bot_word]

theorem sums_apply : sums s (ix2 h i) = ∑ j, s (ix3 h i j) := by
  pointwise [sums]

end

theorem softmax_rows {x : Inputs 2064} (s : FVec Ideal S8x2064x2064 .f32) (hs : ∀ h i, x.Masked h i fun j => s (ix3 h i j)) :
    Rows x (fun h i j => powers s (greatest s) (ix3 h i j)) (fun h i => sums (powers s (greatest s)) (ix2 h i)) :=
  rows_of_masked (f := fun h i j => s (ix3 h i j)) hs
    (fun h i j => by rw [powers_apply, greatest_apply]) (fun h i => sums_apply _ h i)

end Cert.Attention
end
-- ==== Proof.Attention.Host.lean ====
module

public import proofs.«01_k».proof.Proof.Gen.KernelAttnQIdeal.Value
public import proofs.«01_k».proof.Proof.Attention.Finite
public import Idealize.ShloMosaic.Lib.Claim
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Attention

open Cert.KernelAttnQIdeal Cert.KernelAttnQIdeal.Gen

/-! What the host prepares for the two kernels of attention's gradient: the arguments continued by zeros and the
logarithms of the sums that the forward pass saved. -/

/-- The column of an entry of a head, where the heads stand side by side. -/
def col (h : Fin 8) (e : Fin 128) : Fin 1024 := ⟨h.val * 128 + e.val, by omega⟩

/-- A query, key, value or cotangent array continued by zeros. -/
def padded (a : FVec Ideal Heads .f32) : FVec Ideal S2176x8x128 .bf16 :=
  truncf .bf16 (concatenate S2176x8x128 0 [⟨S2064x8x128, a⟩,
    ⟨S112x8x128, broadcastInDim S112x8x128 ![] bcast_S_S112x8x128 (constant S_ .f32 0x00000000#32)⟩]
    concatenates_S2064x8x128_S112x8x128_S2176x8x128_d0) bitsLt_bf16_f32

/-- The same with its heads side by side. -/
def flat (a : FVec Ideal S2176x8x128 .bf16) : FVec Ideal S2176x1024 .bf16 := fun i => shapeCast S2176x1024 a shapeCasts_S2176x8x128_S2176x1024 i

/-- The decays continued by zeros. -/
def decays (a : FVec Ideal Decays .f32) : FVec Ideal S8x2176 .f32 :=
  concatenate S8x2176 1 [⟨S8x2064, a⟩,
    ⟨S8x112, broadcastInDim S8x112 ![] bcast_S_S8x112 (constant S_ .f32 0x00000000#32)⟩] concatenates_S8x2064_S8x112_S8x2176_d1

theorem padded_apply (a : FVec Ideal Heads .f32) (f : Fin 2064 → Fin 8 → Fin 128 → ℝ) (ha : ∀ i h e, a (ix3 i h e) = (f i h e : EReal))
    (i : Fin 2176) (h : Fin 8) (e : Fin 128) : padded a (ix3 i h e) = (padRow f 2176 i h e : EReal) := by
  pointwise [padded]
  unfold padRow
  split
  · exact ha _ _ _
  · simp

theorem flat_apply (a : FVec Ideal S2176x8x128 .bf16) (i : Fin 2176) (h : Fin 8) (e : Fin 128) :
    flat a (ix2 i (col h e)) = a (ix3 i h e) := by
  pointwise [flat, col]

theorem decays_apply (a : FVec Ideal Decays .f32) (x : Inputs 2064) (ha : ∀ h i, a (ix2 h i) = (x.cum h i : EReal))
    (h : Fin 8) (i : Fin 2176) : decays a (ix2 h i) = ((x.pad 2176).cum h i : EReal) := by
  pointwise [decays]
  unfold Inputs.pad
  split
  · next p => exact (ha _ _).trans (by simp [p])
  · next p => simp [p]

/-- The greatest entries of the rows of `s`, as the host computes them. -/
def top (s : FVec Ideal S8x2176x2176 .f32) : FVec Ideal S8x2176x1 .f32 :=
  broadcastInDim S8x2176x1 ![0, 1] bcast_S8x2176_S8x2176x1_0_1
    (Host.reduce FloatOps.maximumf s (constant S_ .f32 0xFF800000#32) reducesTo_S8x2176x2176_S8x2176_d2 h_S_)

/-- The logarithm of the sum of the exponentials of the rows of `s`, as the host computes it from their greatest entries `a`. -/
def lse (s : FVec Ideal S8x2176x2176 .f32) (a : FVec Ideal S8x2176x1 .f32) : FVec Ideal S8x2176x1 .f32 :=
  addf a (Host.log (broadcastInDim S8x2176x1 ![0, 1] bcast_S8x2176_S8x2176x1_0_1
    (Host.reduceAdd (Host.exp (subf s (broadcastInDim S8x2176x2176 ![0, 1, 2] bcast_S8x2176x1_S8x2176x2176_0_1_2 a)))
      (constant S_ .f32 0x00000000#32) reducesTo_S8x2176x2176_S8x2176_d2 h_S_)))

/-- The masked scores, as the host computes them. -/
def masked (q k : FVec Ideal S2176x8x128 .bf16) (cq : FVec Ideal S8x2176x1 .f32) (ck : FVec Ideal S8x1x2176 .f32) :
    FVec Ideal S8x2176x2176 .f32 :=
  select (broadcastInDim S8x2176x2176 ![1, 2] bcast_S2176x2176_S8x2176x2176_1_2
      (cmpi .sge (broadcastInDim S2176x2176 ![0, 1] bcast_S2176x1_S2176x2176_0_1 (iotaInDim S2176x1 32 0))
        (broadcastInDim S2176x2176 ![0, 1] bcast_S1x2176_S2176x2176_0_1 (iotaInDim S1x2176 32 1))))
    (addf (mulf (Host.dotGeneral dot_S2176x8x128_S2176x8x128_S8x2176x2176_2_2_0_0_1_1 none q k)
        (broadcastInDim S8x2176x2176 ![] bcast_S_S8x2176x2176 (constant S_ .f32 0x3DB504F3#32)))
      (subf (broadcastInDim S8x2176x2176 ![0, 1, 2] bcast_S8x2176x1_S8x2176x2176_0_1_2 cq)
        (broadcastInDim S8x2176x2176 ![0, 1, 2] bcast_S8x1x2176_S8x2176x2176_0_1_2 ck)))
    (broadcastInDim S8x2176x2176 ![] bcast_S_S8x2176x2176 (constant S_ .f32 0xFF800000#32))

theorem top_apply (s : FVec Ideal S8x2176x2176 .f32) (h : Fin 8) (i : Fin 2176) :
    top s (ix3 h i 0) = Finset.univ.fold max (Ideal.ofBits .f32 0xFF800000#32) (fun j => s (ix3 h i j)) := by
  pointwise [top]

theorem lse_apply (s : FVec Ideal S8x2176x2176 .f32) (a : FVec Ideal S8x2176x1 .f32) (h : Fin 8) (i : Fin 2176) :
    lse s a (ix3 h i 0) = a (ix3 h i 0) + Ideal.log (∑ j, Ideal.exp (s (ix3 h i j) - a (ix3 h i 0))) := by
  pointwise [lse]

theorem masked_apply (q k : FVec Ideal S2176x8x128 .bf16) (cq : FVec Ideal S8x2176x1 .f32) (ck : FVec Ideal S8x1x2176 .f32)
    (h : Fin 8) (i j : Fin 2176) : masked q k cq ck (ix3 h i j)
      = if j.val ≤ i.val then (∑ e, q (ix3 i h e) * k (ix3 j h e)) * Ideal.ofBits .f32 0x3DB504F3#32 + (cq (ix3 h i 0) - ck (ix3 h 0 j)) else (⊥ : EReal) := by
  pointwise [masked]
  word_cmp
  rw [bot_word]

/-- The number that the forward pass saves for a row turns the exponential of a score into the attention. -/
theorem saved (x : Inputs 2176) (q k : FVec Ideal S2176x8x128 .bf16) (cq : FVec Ideal S8x2176x1 .f32) (ck : FVec Ideal S8x1x2176 .f32)
    (hq : ∀ i h e, q (ix3 i h e) = (x.q i h e : EReal)) (hk : ∀ i h e, k (ix3 i h e) = (x.k i h e : EReal))
    (hcq : ∀ h i, cq (ix3 h i 0) = (x.cum h i : EReal)) (hck : ∀ h i, ck (ix3 h 0 i) = (x.cum h i : EReal)) (h : Fin 8) (i : Fin 2176) :
    ∃ r : ℝ, lse (masked q k cq ck) (top (masked q k cq ck)) (ix3 h i 0) = (r : EReal)
      ∧ ∀ j, j.val ≤ i.val → Real.exp (x.score h i j - r) = x.prob h i j := by
  rw [lse_apply, top_apply, bot_word]
  refine x.row_lse fun j => ?_
  rw [masked_apply]
  split
  · simp only [hq, hk, hcq, hck, scale_word, ← EReal.coe_mul, ← EReal.coe_sub, ← Reals.coe_sum, ← EReal.coe_add]
    rfl
  · rfl

/-- The row sums of the attention times the products of cotangents and values, as the host computes them from the
masked scores `s` and the saved logarithms `a`. -/
def rowSums (s : FVec Ideal S8x2176x2176 .f32) (a : FVec Ideal S8x2176x1 .f32) (d v : FVec Ideal S2176x8x128 .bf16) : FVec Ideal S8x2176x1 .f32 :=
  broadcastInDim S8x2176x1 ![0, 1] bcast_S8x2176_S8x2176x1_0_1
    (Host.reduceAdd (mulf (Host.exp (subf s (broadcastInDim S8x2176x2176 ![0, 1, 2] bcast_S8x2176x1_S8x2176x2176_0_1_2 a)))
        (Host.dotGeneral dot_S2176x8x128_S2176x8x128_S8x2176x2176_2_2_0_0_1_1 none d v))
      (constant S_ .f32 0x00000000#32) reducesTo_S8x2176x2176_S8x2176_d2 h_S_)

theorem rowSums_apply (s : FVec Ideal S8x2176x2176 .f32) (a : FVec Ideal S8x2176x1 .f32) (d v : FVec Ideal S2176x8x128 .bf16) (h : Fin 8) (i : Fin 2176) :
    rowSums s a d v (ix3 h i 0) = ∑ j, Ideal.exp (s (ix3 h i j) - a (ix3 h i 0)) * ∑ e, d (ix3 i h e) * v (ix3 j h e) := by
  pointwise [rowSums]

/-- The row sums are those of the cotangent times the output of the attention. -/
theorem saved_sums (x : Inputs 2176) (q k d v : FVec Ideal S2176x8x128 .bf16) (cq a : FVec Ideal S8x2176x1 .f32) (ck : FVec Ideal S8x1x2176 .f32)
    (hq : ∀ i h e, q (ix3 i h e) = (x.q i h e : EReal)) (hk : ∀ i h e, k (ix3 i h e) = (x.k i h e : EReal))
    (hd : ∀ i h e, d (ix3 i h e) = (x.ct i h e : EReal)) (hv : ∀ i h e, v (ix3 i h e) = (x.v i h e : EReal))
    (hcq : ∀ h i, cq (ix3 h i 0) = (x.cum h i : EReal)) (hck : ∀ h i, ck (ix3 h 0 i) = (x.cum h i : EReal)) (h : Fin 8) (i : Fin 2176)
    (ha : ∃ r : ℝ, a (ix3 h i 0) = (r : EReal) ∧ ∀ j, j.val ≤ i.val → Real.exp (x.score h i j - r) = x.prob h i j) :
    rowSums (masked q k cq ck) a d v (ix3 h i 0) = (x.delta h i : EReal) := by
  obtain ⟨r, hr, hp⟩ := ha
  rw [rowSums_apply, Inputs.delta, Reals.coe_sum]
  refine Finset.sum_congr rfl fun j _ => ?_
  rw [masked_apply, hr, EReal.coe_mul]
  congr 1
  · split
    · next p =>
      simp only [hq, hk, hcq, hck, scale_word, ← EReal.coe_mul, ← EReal.coe_sub, ← Reals.coe_sum, ← EReal.coe_add]
      rw [Ideal.exp_coe]
      exact congrArg _ (hp j p)
    · next p =>
      rw [EReal.bot_sub, Ideal.exp_bot, x.prob_eq_zero h (by omega)]; rfl
  · simp only [hd, hv, ← EReal.coe_mul, ← Reals.coe_sum]
    rfl

end Cert.Attention
end
-- ==== Proof.AttnQ.Host.lean ====
module

public import proofs.«01_k».proof.Proof.Attention.Host

@[expose] public section

set_option maxRecDepth 16384

noncomputable section

open Idealize.ShloMosaic Idealize.ShloMosaic.TcCoe Idealize.SL.Sem
open Idealize.ShloMosaic.Pipeline (Dat)
open scoped BigOperators

namespace Cert.KernelAttnQIdeal.Final

open Cert.KernelAttnQIdeal Cert.KernelAttnQIdeal.Gen Cert.Attention

variable (m : (ℓ : Loc nD τ sig) → Buf (Elt Ideal) ℓ) (c : Dev nD)

abbrev argQ : FVec Ideal Heads .f32 := m ((c.tc : Thread nD τ).loc main_arg0)
abbrev argK : FVec Ideal Heads .f32 := m ((c.tc : Thread nD τ).loc main_arg1)
abbrev argV : FVec Ideal Heads .f32 := m ((c.tc : Thread nD τ).loc main_arg2)
abbrev argC : FVec Ideal Decays .f32 := m ((c.tc : Thread nD τ).loc main_arg3)
abbrev argD : FVec Ideal Heads .f32 := m ((c.tc : Thread nD τ).loc main_arg4)

theorem host_q : V m c main_v16 = flat (padded (argQ m c)) := by
  unfold V; after_reads_simp; rfl

theorem host_k : V m c main_v17 = flat (padded (argK m c)) := by
  unfold V; after_reads_simp; rfl

theorem host_v : V m c main_v18 = flat (padded (argV m c)) := by
  unfold V; after_reads_simp; rfl

theorem host_d : V m c main_v19 = flat (padded (argD m c)) := by
  unfold V; after_reads_simp; rfl

theorem host_cq : V m c main_v14 = fun i => shapeCast S8x2176x1 (decays (argC m c)) shapeCasts_S8x2176_S8x2176x1 i := by
  unfold V; after_reads_simp; rfl

theorem host_ck : V m c main_v15 = fun i => shapeCast S8x1x2176 (decays (argC m c)) shapeCasts_S8x2176_S8x1x2176 i := by
  unfold V; after_reads_simp; rfl

theorem host_lse : V m c main_v41 = lse (masked (padded (argQ m c)) (padded (argK m c)) (V m c main_v14) (V m c main_v15))
    (top (masked (padded (argQ m c)) (padded (argK m c)) (V m c main_v14) (V m c main_v15))) := by
  unfold V; after_reads_simp; rfl

variable {m c} {x : Inputs 2064} (hx : Holds (argQ m c) (argK m c) (argV m c) (argC m c) (argD m c) x)
include hx

theorem read_cq (h : Fin 8) (i : Fin 2176) : V m c main_v14 (ix3 h i 0) = ((x.pad 2176).cum h i : EReal) := by
  rw [host_cq]; pointwise []
  exact decays_apply _ x hx.cum h i

theorem read_ck (h : Fin 8) (i : Fin 2176) : V m c main_v15 (ix3 h 0 i) = ((x.pad 2176).cum h i : EReal) := by
  rw [host_ck]; pointwise []
  exact decays_apply _ x hx.cum h i

theorem read_lse (h : Fin 8) (i : Fin 2176) : ∃ r : ℝ, V m c main_v41 (ix3 h i 0) = (r : EReal)
    ∧ ∀ j, j.val ≤ i.val → Real.exp ((x.pad 2176).score h i j - r) = (x.pad 2176).prob h i j := by
  rw [host_lse]
  exact saved (x.pad 2176) _ _ _ _ (padded_apply _ _ hx.q) (padded_apply _ _ hx.k) (read_cq hx) (read_ck hx) h i

end Cert.KernelAttnQIdeal.Final
end
-- ==== Proof.AttnQ.Reads.lean ====
module

public import proofs.«01_k».proof.Proof.AttnQ.Host

@[expose] public section

set_option maxRecDepth 16384

noncomputable section

open Idealize.ShloMosaic Idealize.ShloMosaic.TcCoe Idealize.SL.Sem
open Idealize.ShloMosaic.Pipeline (Dat)
open scoped BigOperators

namespace Cert.KernelAttnQIdeal.Final

open Cert.KernelAttnQIdeal Cert.KernelAttnQIdeal.Gen Cert.Attention

theorem idx : ∀ t : Fin cfg0.N, win0_0.index t = ![t.val % 17, t.val / 17] ∧ win0_1.index t = ![0, t.val / 17]
    ∧ win0_2.index t = ![0, t.val / 17] ∧ win0_3.index t = ![t.val % 17, t.val / 17]
    ∧ win0_4.index t = ![t.val / 17, t.val % 17, 0] ∧ win0_5.index t = ![t.val / 17, 0, 0]
    ∧ win0_6.index t = ![t.val / 17, t.val % 17, 0] ∧ win0_7.index t = ![t.val % 17, t.val / 17]
    ∧ win0_8.index t = ![t.val / 17, 0, t.val % 17] ∧ win0_9.index t = ![t.val / 17, t.val % 17, 0] :=
  (by decide +kernel : ∀ t : Fin grid0.N, _)

theorem coord : ∀ t : Fin cfg0.N, @Fin.val 17 (grid0.coords t 1) = t.val % 17 :=
  (by decide +kernel : ∀ t : Fin grid0.N, _)

/-- The query row of a grid point's tile, and its two heads. -/
def row (t : Fin cfg0.N) (r : Fin 128) : Fin 2176 := ⟨t.val % 17 * 128 + r.val, by omega⟩
def head (t : Fin cfg0.N) (s : Fin 2) : Fin 8 := ⟨t.val / 17 * 2 + s.val, by have := t.isLt.trans_eq N_0; omega⟩

variable (m : (ℓ : Loc nD τ sig) → Buf (Elt Ideal) ℓ) (c : Dev nD)

/-- The number saved for a row, as a real. -/
def saved (h : Fin 8) (i : Fin 2176) : ℝ := EReal.toReal (V m c main_v41 (ix3 h i 0))

/-- The mask is minus infinity. -/
theorem mask_bot : (Named.named (F := Ideal) κ "mask" (φ := .f32) 0xF149F2CA#32 : EReal) = ⊥ := by
  simp [Named.named, κ]

variable {m c} {x : Inputs 2064} (hx : Holds (argQ m c) (argK m c) (argV m c) (argC m c) (argD m c) x) (t : Fin cfg0.N)
include hx

section
variable (r e : Fin 128) (j : Fin 2176)

theorem read_q (s : Fin 2) (y : Fin 256) (hy : y.val = s.val * 128 + e.val) :
    iblk m c 0 t (ix2 r y) = ((x.pad 2176).q (row t r) (head t s) e : EReal) := by
  refine Eq.trans ?_ (padded_apply _ _ hx.q _ _ _)
  rw [← flat_apply (padded (argQ m c)), ← host_q]
  obtain ⟨e0, -⟩ := idx t
  blk_ext [iblk, e0, row, head, col, hy]

theorem read_d (s : Fin 2) (y : Fin 256) (hy : y.val = s.val * 128 + e.val) :
    iblk m c 3 t (ix2 r y) = ((x.pad 2176).ct (row t r) (head t s) e : EReal) := by
  refine Eq.trans ?_ (padded_apply _ _ hx.ct _ _ _)
  rw [← flat_apply (padded (argD m c)), ← host_d]
  obtain ⟨-, -, -, e0, -⟩ := idx t
  blk_ext [iblk, e0, row, head, col, hy]

theorem read_k (s : Fin 2) (y : Fin 256) (hy : y.val = s.val * 128 + e.val) :
    iblk m c 1 t (ix2 j y) = ((x.pad 2176).k j (head t s) e : EReal) := by
  refine Eq.trans ?_ (padded_apply _ _ hx.k _ _ _)
  rw [← flat_apply (padded (argK m c)), ← host_k]
  obtain ⟨-, e0, -⟩ := idx t
  blk_ext [iblk, e0, row, head, col, hy]

theorem read_v (s : Fin 2) (y : Fin 256) (hy : y.val = s.val * 128 + e.val) :
    iblk m c 2 t (ix2 j y) = ((x.pad 2176).v j (head t s) e : EReal) := by
  refine Eq.trans ?_ (padded_apply _ _ hx.v _ _ _)
  rw [← flat_apply (padded (argV m c)), ← host_v]
  obtain ⟨-, -, e0, -⟩ := idx t
  blk_ext [iblk, e0, row, head, col, hy]

theorem q0 (h : e.val < 256) : iblk m c 0 t (ix2 r ⟨e.val, h⟩) = ((x.pad 2176).q (row t r) (head t 0) e : EReal) :=
  read_q hx t r e 0 _ (by simp)

theorem q1 (h : 128 + e.val < 256) : iblk m c 0 t (ix2 r ⟨128 + e.val, h⟩) = ((x.pad 2176).q (row t r) (head t 1) e : EReal) :=
  read_q hx t r e 1 _ (by simp)

theorem d0 (h : e.val < 256) : iblk m c 3 t (ix2 r ⟨e.val, h⟩) = ((x.pad 2176).ct (row t r) (head t 0) e : EReal) :=
  read_d hx t r e 0 _ (by simp)

theorem d1 (h : 128 + e.val < 256) : iblk m c 3 t (ix2 r ⟨128 + e.val, h⟩) = ((x.pad 2176).ct (row t r) (head t 1) e : EReal) :=
  read_d hx t r e 1 _ (by simp)

theorem k0 (h : e.val < 256) : iblk m c 1 t (ix2 j ⟨e.val, h⟩) = ((x.pad 2176).k j (head t 0) e : EReal) :=
  read_k hx t e j 0 _ (by simp)

theorem k1 (h : 128 + e.val < 256) : iblk m c 1 t (ix2 j ⟨128 + e.val, h⟩) = ((x.pad 2176).k j (head t 1) e : EReal) :=
  read_k hx t e j 1 _ (by simp)

theorem v0 (h : e.val < 256) : iblk m c 2 t (ix2 j ⟨e.val, h⟩) = ((x.pad 2176).v j (head t 0) e : EReal) :=
  read_v hx t e j 0 _ (by simp)

theorem v1 (h : 128 + e.val < 256) : iblk m c 2 t (ix2 j ⟨128 + e.val, h⟩) = ((x.pad 2176).v j (head t 1) e : EReal) :=
  read_v hx t e j 1 _ (by simp)

theorem cq (s : Fin 2) : iblk m c 4 t (ix3 s r 0) = ((x.pad 2176).cum (head t s) (row t r) : EReal) := by
  rw [← read_cq hx]
  obtain ⟨-, -, -, -, e4, -⟩ := idx t
  blk_ext [iblk, e4, row, head]

theorem ck (s : Fin 2) : iblk m c 5 t (ix3 s 0 j) = ((x.pad 2176).cum (head t s) j : EReal) := by
  rw [← read_ck hx]
  obtain ⟨-, -, -, -, -, e5, -⟩ := idx t
  blk_ext [iblk, e5, row, head]

omit hx in
theorem block_saved (a : FVec Ideal S8x2176x1 .f32) (s : Fin 2) :
    ((cfg0.win 6).blk t).view.read (Elt Ideal) a (ix3 s r 0) = a (ix3 (head t s) (row t r) 0) := by
  obtain ⟨-, -, -, -, -, -, e6, -⟩ := idx t
  blk_ext [e6, row, head]

omit hx in
theorem read_saved (s : Fin 2) : iblk m c 6 t (ix3 s r 0) = V m c main_v41 (ix3 (head t s) (row t r) 0) := by
  unfold iblk
  exact block_saved t r (V m c main_v41) s

theorem ls (s : Fin 2) : iblk m c 6 t (ix3 s r 0) = (saved m c (head t s) (row t r) : EReal) := by
  obtain ⟨a, ha, -⟩ := read_lse hx (head t s) (row t r)
  rw [read_saved, saved, ha]; rfl

end

/-- The exponential of a masked score less the saved number is the attention. -/
theorem prob_tile (h : Fin 8) (r : Fin 128) (j : Fin 2176) (a : ℕ) (ha : j.val = a) :
    Ideal.exp (Scalar.select (IntOp.cmpi .sge (IntOp.addi (Scalar.muli (BitVec.ofNat 32 (t.val % 17)) 128#32) (BitVec.ofNat 32 r.val))
        (BitVec.ofNat 32 a))
      (((∑ e, (x.pad 2176).q (row t r) h e * (x.pad 2176).k j h e) * scale
        + ((x.pad 2176).cum h (row t r) - (x.pad 2176).cum h j) : ℝ) : EReal) (⊥ : EReal) - (saved m c h (row t r) : EReal))
      = ((x.pad 2176).prob h (row t r) j : EReal) := by
  subst ha
  obtain ⟨s, hs, hp⟩ := read_lse hx h (row t r)
  have es : saved m c h (row t r) = s := by rw [saved, hs]; rfl
  have w : IntOp.addi (Scalar.muli (BitVec.ofNat 32 (t.val % 17)) 128#32) (BitVec.ofNat 32 r.val) = BitVec.ofNat 32 (t.val % 17 * 128 + r.val) := by
    simp [IntOp.addi, Scalar.muli, IntOp.muli, BitVec.ofNat_add, BitVec.ofNat_mul]
  rw [w, es]
  have ht : t.val % 17 < 17 := Nat.mod_lt _ (by decide)
  word_cmp
  by_cases q : j.val ≤ t.val % 17 * 128 + r.val
  · rw [if_pos q, ← EReal.coe_sub, Ideal.exp_coe]
    exact congrArg _ (hp j q)
  · rw [if_neg q, EReal.bot_sub, Ideal.exp_bot, Inputs.prob_eq_zero _ _ (show (row t r).val < j.val by simp only [row]; omega)]
    rfl

end Cert.KernelAttnQIdeal.Final
end
-- ==== Proof.AttnQ.Tiles.lean ====
module

public import proofs.«01_k».proof.Proof.AttnQ.Reads

@[expose] public section

set_option maxRecDepth 16384

noncomputable section

open Idealize.ShloMosaic Idealize.ShloMosaic.TcCoe Idealize.SL.Sem
open Idealize.ShloMosaic.Pipeline (Dat)
open scoped BigOperators

namespace Cert.KernelAttnQIdeal.Final

open Cert.KernelAttnQIdeal Cert.KernelAttnQIdeal.Gen Cert.Attention

section
variable {w : ℕ} (hw : w ≤ 2176) {h : Fin 8} {i : Fin 2176} (hi : i.val < w) (X : Inputs 2176) (P D : Fin w → EReal)
  (hP : ∀ j : Fin w, P j = (X.prob h i ⟨j.val, by omega⟩ : EReal)) (hD : ∀ j : Fin w, D j = (X.dprob h i ⟨j.val, by omega⟩ : EReal))
include hw hi hP hD

/-! The sums over the keys of a tile, which stop behind its last query. -/

theorem delta_sum : ∑ j, P j * D j = (X.delta h i : EReal) := by
  simp only [hP, hD, ← EReal.coe_mul, ← Reals.coe_sum, X.delta_prefix hw h i hi]

theorem dcumq_sum : ∑ j, P j * (D j - ∑ j, P j * D j) = (X.dcumq h i : EReal) := by
  simp only [hP, hD, ← EReal.coe_mul, ← EReal.coe_sub, ← Reals.coe_sum, X.dcumq_prefix hw h i hi]

theorem dq_sum (e : Fin 128) : ∑ j : Fin w, P j * (D j - ∑ j, P j * D j) * (scale : EReal) * (X.k ⟨j.val, by omega⟩ h e : EReal) = (X.dq i h e : EReal) := by
  simp only [hP, hD, ← EReal.coe_mul, ← EReal.coe_sub, ← Reals.coe_sum, X.dq_prefix hw h i hi e]

end

/-- The head of a pair that a column belongs to, and its place in the head. -/
def half (y : Fin 256) : Fin 2 := ⟨y.val / 128, by omega⟩
def lane (y : Fin 256) : Fin 128 := ⟨y.val % 128, by omega⟩

variable {m : (ℓ : Loc nD τ sig) → Buf (Elt Ideal) ℓ} {c : Dev nD} {x : Inputs 2064}
  (given : Holds (argQ m c) (argK m c) (argV m c) (argC m c) (argD m c) x) (t : Fin cfg0.N)
include given

set_option maxHeartbeats 4000000 in
/-- A tile of the gradient of the queries. -/
theorem tile_dq (y : S128x256.Idx) :
    (outsAt0 m c t.val t.isLt).1 y = ((x.pad 2176).dq (row t (y 0)) (head t (half (y 1))) (lane (y 1)) : EReal) := by
  obtain k | k | k | k | k | k | k | k | k : t.val % 17 ≤ 1 ∨ (2 ≤ t.val % 17 ∧ t.val % 17 ≤ 3) ∨ (4 ≤ t.val % 17 ∧ t.val % 17 ≤ 5)
      ∨ (6 ≤ t.val % 17 ∧ t.val % 17 ≤ 7) ∨ (8 ≤ t.val % 17 ∧ t.val % 17 ≤ 9) ∨ (10 ≤ t.val % 17 ∧ t.val % 17 ≤ 11)
      ∨ (12 ≤ t.val % 17 ∧ t.val % 17 ≤ 13) ∨ (14 ≤ t.val % 17 ∧ t.val % 17 ≤ 15) ∨ t.val % 17 = 16 := by omega
  on_goal 1 => rw [outsAt0_A m c t (by omega) (by omega) (by omega) (by omega) (by omega) (by omega) (by omega) (by omega) (by omega)]
  on_goal 2 => rw [outsAt0_B m c t (by omega) (by omega) (by omega) (by omega) (by omega) (by omega) (by omega) (by omega) (by omega)]
  on_goal 3 => rw [outsAt0_C m c t (by omega) (by omega) (by omega) (by omega) (by omega) (by omega) (by omega) (by omega) (by omega)]
  on_goal 4 => rw [outsAt0_D m c t (by omega) (by omega) (by omega) (by omega) (by omega) (by omega) (by omega) (by omega) (by omega)]
  on_goal 5 => rw [outsAt0_E m c t (by omega) (by omega) (by omega) (by omega) (by omega) (by omega) (by omega) (by omega) (by omega)]
  on_goal 6 => rw [outsAt0_F m c t (by omega) (by omega) (by omega) (by omega) (by omega) (by omega) (by omega) (by omega) (by omega)]
  on_goal 7 => rw [outsAt0_G m c t (by omega) (by omega) (by omega) (by omega) (by omega) (by omega) (by omega) (by omega) (by omega)]
  on_goal 8 => rw [outsAt0_H m c t (by omega) (by omega) (by omega) (by omega) (by omega) (by omega) (by omega) (by omega) (by omega)]
  on_goal 9 => rw [outsAt0_I m c t (by omega) (by omega) (by omega) (by omega) (by omega) (by omega) (by omega) (by omega) (by omega)]
  all_goals frame_out
  all_goals canon_tiles z h
  all_goals (open_payloads; pointwise)
  all_goals first
    | rw [show half (y 1) = (1 : Fin 2) from Fin.ext (by show (y 1).val / 128 = 1; omega)]
    | rw [show half (y 1) = (0 : Fin 2) from Fin.ext (by show (y 1).val / 128 = 0; omega)]
  all_goals rw [show y 0 = z 0 from Fin.ext (h0)]
  all_goals obtain ⟨r, er, vr⟩ : ∃ r : Fin 128, z 0 = r ∧ (z 0).val = r.val := ⟨z 0, rfl, rfl⟩
  all_goals simp only [vr]
  all_goals simp only [er]
  all_goals rw [show lane (y 1) = z 1 from Fin.ext (by show (y 1).val % 128 = (z 1).val; omega)]
  all_goals obtain ⟨e, ee, ve⟩ : ∃ e : Fin 128, z 1 = e ∧ (z 1).val = e.val := ⟨z 1, rfl, rfl⟩
  all_goals simp only [ve]
  all_goals simp only [ee]
  all_goals simp only [q0 given, q1 given, k0 given, k1 given, v0 given, v1 given, d0 given, d1 given, cq given, ck given, ls given,
    mask_bot, coord, scale_word, ← EReal.coe_mul, ← EReal.coe_sub, ← EReal.coe_add, ← Reals.coe_sum]
  all_goals refine dq_sum ?_ ?_ (x.pad 2176) _ _ (fun j => prob_tile given t _ _ _ _ rfl) (fun j => rfl) _
  all_goals first
    | norm_num; done
    | simp only [row]; omega

set_option maxHeartbeats 4000000 in
/-- A tile of the row sums of the cotangent times the output. -/
theorem tile_delta (y : S2x1x128.Idx) :
    (outsAt0 m c t.val t.isLt).2.1 y = ((x.pad 2176).delta (head t (y 0)) (row t (y 2)) : EReal) := by
  obtain k | k | k | k | k | k | k | k | k : t.val % 17 ≤ 1 ∨ (2 ≤ t.val % 17 ∧ t.val % 17 ≤ 3) ∨ (4 ≤ t.val % 17 ∧ t.val % 17 ≤ 5)
      ∨ (6 ≤ t.val % 17 ∧ t.val % 17 ≤ 7) ∨ (8 ≤ t.val % 17 ∧ t.val % 17 ≤ 9) ∨ (10 ≤ t.val % 17 ∧ t.val % 17 ≤ 11)
      ∨ (12 ≤ t.val % 17 ∧ t.val % 17 ≤ 13) ∨ (14 ≤ t.val % 17 ∧ t.val % 17 ≤ 15) ∨ t.val % 17 = 16 := by omega
  on_goal 1 => rw [outsAt0_A m c t (by omega) (by omega) (by omega) (by omega) (by omega) (by omega) (by omega) (by omega) (by omega)]
  on_goal 2 => rw [outsAt0_B m c t (by omega) (by omega) (by omega) (by omega) (by omega) (by omega) (by omega) (by omega) (by omega)]
  on_goal 3 => rw [outsAt0_C m c t (by omega) (by omega) (by omega) (by omega) (by omega) (by omega) (by omega) (by omega) (by omega)]
  on_goal 4 => rw [outsAt0_D m c t (by omega) (by omega) (by omega) (by omega) (by omega) (by omega) (by omega) (by omega) (by omega)]
  on_goal 5 => rw [outsAt0_E m c t (by omega) (by omega) (by omega) (by omega) (by omega) (by omega) (by omega) (by omega) (by omega)]
  on_goal 6 => rw [outsAt0_F m c t (by omega) (by omega) (by omega) (by omega) (by omega) (by omega) (by omega) (by omega) (by omega)]
  on_goal 7 => rw [outsAt0_G m c t (by omega) (by omega) (by omega) (by omega) (by omega) (by omega) (by omega) (by omega) (by omega)]
  on_goal 8 => rw [outsAt0_H m c t (by omega) (by omega) (by omega) (by omega) (by omega) (by omega) (by omega) (by omega) (by omega)]
  on_goal 9 => rw [outsAt0_I m c t (by omega) (by omega) (by omega) (by omega) (by omega) (by omega) (by omega) (by omega) (by omega)]
  all_goals frame_out
  all_goals canon_tiles z h
  all_goals (open_payloads; pointwise)
  all_goals first
    | rw [show y 0 = (1 : Fin 2) from Fin.ext (by show (y 0).val = 1; omega)]
    | rw [show y 0 = (0 : Fin 2) from Fin.ext (by show (y 0).val = 0; omega)]
  all_goals rw [show y 2 = z 2 from Fin.ext (h2)]
  all_goals obtain ⟨r, er, vr⟩ : ∃ r : Fin 128, z 2 = r ∧ (z 2).val = r.val := ⟨z 2, rfl, rfl⟩
  all_goals simp only [vr]
  all_goals simp only [er]
  all_goals simp only [q0 given, q1 given, k0 given, k1 given, v0 given, v1 given, d0 given, d1 given, cq given, ck given, ls given,
    mask_bot, coord, scale_word, ← EReal.coe_mul, ← EReal.coe_sub, ← EReal.coe_add, ← Reals.coe_sum]
  all_goals refine delta_sum ?_ ?_ (x.pad 2176) _ _ (fun j => prob_tile given t _ _ _ _ rfl) (fun j => rfl)
  all_goals first
    | norm_num; done
    | simp only [row]; omega

set_option maxHeartbeats 4000000 in
/-- A tile of the gradient of the queries' decays. -/
theorem tile_dcumq (y : S2x128x1.Idx) :
    (outsAt0 m c t.val t.isLt).2.2 y = ((x.pad 2176).dcumq (head t (y 0)) (row t (y 1)) : EReal) := by
  obtain k | k | k | k | k | k | k | k | k : t.val % 17 ≤ 1 ∨ (2 ≤ t.val % 17 ∧ t.val % 17 ≤ 3) ∨ (4 ≤ t.val % 17 ∧ t.val % 17 ≤ 5)
      ∨ (6 ≤ t.val % 17 ∧ t.val % 17 ≤ 7) ∨ (8 ≤ t.val % 17 ∧ t.val % 17 ≤ 9) ∨ (10 ≤ t.val % 17 ∧ t.val % 17 ≤ 11)
      ∨ (12 ≤ t.val % 17 ∧ t.val % 17 ≤ 13) ∨ (14 ≤ t.val % 17 ∧ t.val % 17 ≤ 15) ∨ t.val % 17 = 16 := by omega
  on_goal 1 => rw [outsAt0_A m c t (by omega) (by omega) (by omega) (by omega) (by omega) (by omega) (by omega) (by omega) (by omega)]
  on_goal 2 => rw [outsAt0_B m c t (by omega) (by omega) (by omega) (by omega) (by omega) (by omega) (by omega) (by omega) (by omega)]
  on_goal 3 => rw [outsAt0_C m c t (by omega) (by omega) (by omega) (by omega) (by omega) (by omega) (by omega) (by omega) (by omega)]
  on_goal 4 => rw [outsAt0_D m c t (by omega) (by omega) (by omega) (by omega) (by omega) (by omega) (by omega) (by omega) (by omega)]
  on_goal 5 => rw [outsAt0_E m c t (by omega) (by omega) (by omega) (by omega) (by omega) (by omega) (by omega) (by omega) (by omega)]
  on_goal 6 => rw [outsAt0_F m c t (by omega) (by omega) (by omega) (by omega) (by omega) (by omega) (by omega) (by omega) (by omega)]
  on_goal 7 => rw [outsAt0_G m c t (by omega) (by omega) (by omega) (by omega) (by omega) (by omega) (by omega) (by omega) (by omega)]
  on_goal 8 => rw [outsAt0_H m c t (by omega) (by omega) (by omega) (by omega) (by omega) (by omega) (by omega) (by omega) (by omega)]
  on_goal 9 => rw [outsAt0_I m c t (by omega) (by omega) (by omega) (by omega) (by omega) (by omega) (by omega) (by omega) (by omega)]
  all_goals frame_out
  all_goals canon_tiles z h
  all_goals (open_payloads; pointwise)
  all_goals first
    | rw [show y 0 = (1 : Fin 2) from Fin.ext (by show (y 0).val = 1; omega)]
    | rw [show y 0 = (0 : Fin 2) from Fin.ext (by show (y 0).val = 0; omega)]
  all_goals rw [show y 1 = z 1 from Fin.ext (h1)]
  all_goals obtain ⟨r, er, vr⟩ : ∃ r : Fin 128, z 1 = r ∧ (z 1).val = r.val := ⟨z 1, rfl, rfl⟩
  all_goals simp only [vr]
  all_goals simp only [er]
  all_goals simp only [q0 given, q1 given, k0 given, k1 given, v0 given, v1 given, d0 given, d1 given, cq given, ck given, ls given,
    mask_bot, coord, scale_word, ← EReal.coe_mul, ← EReal.coe_sub, ← EReal.coe_add, ← Reals.coe_sum]
  all_goals refine dcumq_sum ?_ ?_ (x.pad 2176) _ _ (fun j => prob_tile given t _ _ _ _ rfl) (fun j => rfl)
  all_goals first
    | norm_num; done
    | simp only [row]; omega

end Cert.KernelAttnQIdeal.Final
end
-- ==== Proof.AttnQ.Arrays.lean ====
module

public import proofs.«01_k».proof.Proof.AttnQ.Tiles

@[expose] public section

set_option maxRecDepth 16384

noncomputable section

open Idealize.ShloMosaic Idealize.ShloMosaic.TcCoe Idealize.SL.Sem
open Idealize.ShloMosaic.Pipeline (Dat)
open scoped BigOperators

namespace Cert.KernelAttnQIdeal.Final

open Cert.KernelAttnQIdeal Cert.KernelAttnQIdeal.Gen Cert.Attention

/-- The gradient of the queries, heads side by side. -/
def resDq (X : Inputs 2176) : FVec Ideal S2176x1024 .f32 := fun i => (X.dq (i 0) ⟨(i 1).val / 128, by have := (i 1).isLt; exact Nat.div_lt_of_lt_mul this⟩ ⟨(i 1).val % 128, by omega⟩ : EReal)
/-- The row sums of the cotangent times the output, along the lanes. -/
def resDelta (X : Inputs 2176) : FVec Ideal S8x1x2176 .f32 := fun i => (X.delta (i 0) (i 2) : EReal)
/-- The gradient of the queries' decays, down the rows. -/
def resDcumq (X : Inputs 2176) : FVec Ideal S8x2176x1 .f32 := fun i => (X.dcumq (i 0) (i 1) : EReal)

/-- The columns of a grid point's pair of heads. -/
theorem pair_lt (t : Fin cfg0.N) (y : Fin 256) : t.val / 17 * 256 + y.val < 1024 := by
  have := t.isLt.trans_eq N_0; omega

variable {m : (ℓ : Loc nD τ sig) → Buf (Elt Ideal) ℓ} {c : Dev nD} {x : Inputs 2064}
  (given : Holds (argQ m c) (argK m c) (argV m c) (argC m c) (argD m c) x)
include given

theorem final_dq : (dats m 0 c).arrAt 7 cfg0.N = resDq (x.pad 2176) := by
  refine (dats m 0 c).arrAt_eq_of_covers 7 _ (by decide +kernel) fun t hf y => ?_
  obtain ⟨-, -, -, -, -, -, -, e, -⟩ := idx t
  have hy : ix2 (row t (y 0)) (⟨t.val / 17 * 256 + (y 1).val, pair_lt t (y 1)⟩ : Fin 1024) = ((cfg0.win 7).blk t).view.emb y := by
    blk_ext [e, row]
  refine Eq.trans ?_ (congrArg (resDq (x.pad 2176)) hy)
  blk_simp
  rw [after0_7]
  refine (tile_dq given t y).trans ?_
  unfold resDq
  congr 2
  · refine Fin.ext ?_
    show t.val / 17 * 2 + (y 1).val / 128 = (t.val / 17 * 256 + (y 1).val) / 128
    omega
  · refine Fin.ext ?_
    show (y 1).val % 128 = (t.val / 17 * 256 + (y 1).val) % 128
    omega

theorem final_delta : (dats m 0 c).arrAt 8 cfg0.N = resDelta (x.pad 2176) := by
  refine (dats m 0 c).arrAt_eq_of_covers 8 _ (by decide +kernel) fun t hf y => ?_
  obtain ⟨-, -, -, -, -, -, -, -, e, -⟩ := idx t
  have hy : ix3 (head t (y 0)) (0 : Fin 1) (row t (y 2)) = ((cfg0.win 8).blk t).view.emb y := by blk_ext [e, row, head]
  refine Eq.trans ?_ (congrArg (resDelta (x.pad 2176)) hy)
  blk_simp
  rw [after0_8]
  exact tile_delta given t y

theorem final_dcumq : (dats m 0 c).arrAt 9 cfg0.N = resDcumq (x.pad 2176) := by
  refine (dats m 0 c).arrAt_eq_of_covers 9 _ (by decide +kernel) fun t hf y => ?_
  obtain ⟨-, -, -, -, -, -, -, -, -, e⟩ := idx t
  have hy : ix3 (head t (y 0)) (row t (y 1)) (0 : Fin 1) = ((cfg0.win 9).blk t).view.emb y := by blk_ext [e, row, head]
  refine Eq.trans ?_ (congrArg (resDcumq (x.pad 2176)) hy)
  blk_simp
  rw [after0_9]
  exact tile_dcumq given t y

end Cert.KernelAttnQIdeal.Final
end
-- ==== Proof.AttnQ.Reference.lean ====
module

public import proofs.«01_k».proof.Proof.Gen.ReferenceAttnQIdeal.Read
public import proofs.«01_k».proof.Proof.Attention.Softmax
public import proofs.«01_k».proof.Proof.AttnQ.Arrays

@[expose] public section

set_option maxRecDepth 16384

noncomputable section

open Idealize.ShloMosaic Idealize.ShloMosaic.TcCoe Idealize.SL.Sem
open Idealize.ShloMosaic.Pipeline (Dat)
open scoped BigOperators

namespace Cert.ReferenceAttnQIdeal.Final

open Cert.ReferenceAttnQIdeal Cert.ReferenceAttnQIdeal.Value Cert.ReferenceAttnQIdeal.Read Cert.Attention Cert.KernelAttnQIdeal.Final

variable {q k v : FVec Ideal Heads .f32} {cum : FVec Ideal Decays .f32} {ct : FVec Ideal Heads .f32} {x : Inputs 2064}
  (given : Holds q k v cum ct x)
include given

theorem scores (h : Fin 8) (i j : Fin 2064) : val_main_v15_0 (F := Ideal) q k cum (ix3 h i j)
    = if j.val ≤ i.val then (x.score h i j : EReal) else ⊥ := by
  pointwise [val_main_v15_0, val_main_v15_1, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_call0_v0, val_main_call0_v2]
  simp only [given.q, given.k, given.cum, scale_word, bot_word, ← EReal.coe_mul, ← EReal.coe_sub, ← EReal.coe_add, ← Reals.coe_sum]
  word_cmp
  rfl

theorem rows : Rows x (fun h i j => val_main_v36 (F := Ideal) q k cum (ix3 h i j)) (fun h i => val_main_v37 (F := Ideal) q k cum (ix2 h i)) :=
  softmax_rows (val_main_v15_0 (F := Ideal) q k cum) (scores given)

theorem dprobs (h : Fin 8) (i j : Fin 2064) : val_main_v47 (F := Ideal) v ct (ix3 h i j) = (x.dprob h i j : EReal) := by
  pointwise [val_main_v47, val_main_v46]
  simp only [given.v, given.ct, ← EReal.coe_mul, ← Reals.coe_sum]
  rfl

theorem dscores (h : Fin 8) (i j : Fin 2064) : val_main_v60 (F := Ideal) q k v cum ct (ix3 h i j) = (x.dscore h i j : EReal) := by
  pointwise [val_main_v60, val_main_v15_1, val_main_v14, val_main_v13, val_main_v12, val_main_v11, val_main_v10, val_main_v0, val_main_v59, val_main_v58, val_main_v57, val_main_v56, val_main_v55, val_main_v54, val_main_v53, val_main_v52, val_main_v51, val_main_v50, val_main_v49, val_main_v48, val_main_v43, val_main_v42, val_main_v41, val_main_v38, val_main_cst_10, val_main_cst_11, val_main_cst_12, val_main_call1_v0, val_main_call1_cst]
  simp only [dprobs given, one_word]
  word_cmp
  split
  · rw [Fin.sum_univ_one]; exact (rows given).dscore h i j
  · rw [x.dscore_eq_zero h (by omega)]; rfl

theorem scores2 (h : Fin 8) (i j : Fin 2064) : val_main_v83 (F := Ideal) q k cum (ix3 h i j)
    = if j.val ≤ i.val then (x.score h i j : EReal) else ⊥ := by
  pointwise [val_main_v83, val_main_v82, val_main_v81, val_main_v80, val_main_v79, val_main_v78, val_main_v77, val_main_v76, val_main_v75, val_main_v74, val_main_v73, val_main_v72, val_main_v71, val_main_v70, val_main_v69, val_main_v68, val_main_cst_16, val_main_cst_17, val_main_call2_v0, val_main_call2_v1, val_main_call2_v2]
  simp only [given.q, given.k, given.cum, scale_word, bot_word, ← EReal.coe_mul, ← EReal.coe_sub, ← EReal.coe_add, ← Reals.coe_sum]
  word_cmp
  rfl

theorem rows2 : Rows x (fun h i j => val_main_v90 (F := Ideal) q k cum (ix3 h i j)) (fun h i => val_main_v91 (F := Ideal) q k cum (ix2 h i)) :=
  softmax_rows (val_main_v83 (F := Ideal) q k cum) (scores2 given)

theorem probs (h : Fin 8) (i j : Fin 2064) : val_main_v94 (F := Ideal) q k cum (ix3 h i j) = (x.prob h i j : EReal) := by
  pointwise [val_main_v94, val_main_v93, val_main_v92]
  exact (rows2 given).prob h i j

theorem outs (h : Fin 8) (i : Fin 2064) : val_main_v98 (F := Ideal) q k v cum ct (ix2 i h) = (x.delta h i : EReal) := by
  pointwise [val_main_v98, val_main_v97, val_main_v96, val_main_v95, val_main_cst_21]
  simp only [probs given, given.v, given.ct, ← EReal.coe_mul, ← Reals.coe_sum]
  congr 1
  exact x.delta_outs h i

theorem dqs (i : Fin 2064) (h : Fin 8) (e : Fin 128) : val_main_v67 (F := Ideal) q k v cum ct (ix3 i h e) = (x.dq i h e : EReal) := by
  pointwise [val_main_v67, val_main_v66, val_main_v65, val_main_v64, val_main_cst_15]
  simp only [dscores given, given.k, scale_word, ← EReal.coe_mul, ← Reals.coe_sum]
  rfl

theorem dcumqs (h : Fin 8) (i : Fin 2064) : val_main_v63 (F := Ideal) q k v cum ct (ix2 h i) = (x.dcumq h i : EReal) := by
  pointwise [val_main_v63, val_main_v62, val_main_v61, val_main_cst_13, val_main_cst_14]
  rw [Fin.sum_univ_one]
  simp only [dscores given, ← Reals.coe_sum]
  rfl

theorem ref_dq_at (a : Fin 2176) (b : Fin 1024) : val_main_v101 (F := Ideal) q k v cum ct (ix2 a b) = resDq (x.pad 2176) (ix2 a b) := by
  refine Eq.trans ?_ (congrArg Real.toEReal (x.pad_dq (by norm_num) a _ _)).symm
  pointwise [val_main_v101, val_main_v100, val_main_call3_v0, val_main_c]
  split
  · exact dqs given _ _ _
  · exact sitofp_zero

theorem ref_dq : val_main_v101 (F := Ideal) q k v cum ct = resDq (x.pad 2176) :=
  funext fun y => by rw [eq_ix2 y]; exact ref_dq_at given (y 0) (y 1)

theorem ref_delta_at (a : Fin 8) (b : Fin 1) (d : Fin 2176) : val_main_v103 (F := Ideal) q k v cum ct (ix3 a b d) = resDelta (x.pad 2176) (ix3 a b d) := by
  refine Eq.trans ?_ (congrArg Real.toEReal (x.pad_delta_eq (by norm_num) a d)).symm
  pointwise [val_main_v103, val_main_v102, val_main_v99, val_main_call4_v0, val_main_c_22]
  split
  · exact outs given _ _
  · exact sitofp_zero

theorem ref_delta : val_main_v103 (F := Ideal) q k v cum ct = resDelta (x.pad 2176) :=
  funext fun y => by rw [eq_ix3 y]; exact ref_delta_at given (y 0) (y 1) (y 2)

theorem ref_dcumq_at (a : Fin 8) (b : Fin 2176) (d : Fin 1) : val_main_v105 (F := Ideal) q k v cum ct (ix3 a b d) = resDcumq (x.pad 2176) (ix3 a b d) := by
  refine Eq.trans ?_ (congrArg Real.toEReal (x.pad_dcumq (by norm_num) a b)).symm
  pointwise [val_main_v105, val_main_v104, val_main_call5_v0, val_main_c_23]
  split
  · exact dcumqs given _ _
  · exact sitofp_zero

theorem ref_dcumq : val_main_v105 (F := Ideal) q k v cum ct = resDcumq (x.pad 2176) :=
  funext fun y => by rw [eq_ix3 y]; exact ref_dcumq_at given (y 0) (y 1) (y 2)

end Cert.ReferenceAttnQIdeal.Final
end
-- ==== Proof.AttnQ.Claims.lean ====
module

public import proofs.«01_k».proof.Defs
public import proofs.«01_k».proof.Proof.AttnQ.Reference
public import proofs.«01_k».proof.Proof.Gen.KernelAttnQIdeal.Frame

@[expose] public section

set_option maxRecDepth 16384

noncomputable section

open Idealize.ShloMosaic Idealize.ShloMosaic.TcCoe Idealize.SL.Sem
open Idealize.ShloMosaic.Pipeline (Dat)
open scoped BigOperators

namespace Cert.Proof.AttnQ

open Cert.KernelAttnQIdeal.Final Cert.Attention

theorem frame_kernel_finite : Cert.quiescent_KernelAttnQIdeal_pre_attention_finite :=
  fun m g _ => Cert.KernelAttnQIdeal.Gen.frame m g

theorem frame_reference : Cert.quiescent_ReferenceAttnQIdeal := by
  intro m g _
  exact (θ_run _ _ _).mono (fun r h => ⟨fun c => (h c).2.2.2, sem_eq_zero_of_no_sems (by decide) r.2⟩)
    (Cert.ReferenceAttnQIdeal.Value.run m g)

theorem frame_reference_finite : Cert.quiescent_ReferenceAttnQIdeal_pre_attention_finite :=
  fun m g _ => frame_reference m g trivial

theorem preserves : Cert.preserves_KernelAttnQ_KernelAttnQIdeal := IdealRules.named_const.statement _ _ _ _ _ rfl

theorem equal : Cert.algebraic_KernelAttnQIdeal_ReferenceAttnQIdeal_pre_attention_finite := by
  intro m g m' g' finite hag
  choose x given using fun c => holds_of_finite _ _ _ _ _ (finite c)
  refine ⟨fun c => resDq ((x c).pad 2176), fun c => resDelta ((x c).pad 2176), fun c => resDcumq ((x c).pad 2176), ?_, ?_⟩
  · refine (θ_run _ _ _).mono (fun r h c => ?_) (Cert.KernelAttnQIdeal.Value.run_blocks m g)
    exact ⟨(h c).1.trans (final_dq (given c)), (h c).2.1.trans (final_delta (given c)), (h c).2.2.1.trans (final_dcumq (given c)),
      (h c).2.2.2⟩
  · refine (θ_run _ _ _).mono (fun r h c => ?_) (Cert.ReferenceAttnQIdeal.Value.run m' g')
    have e := h c
    obtain ⟨a0, a1, a2, a3, a4⟩ := hag c
    have given' := given c
    rw [← a0, ← a1, ← a2, ← a3, ← a4] at given'
    exact ⟨e.1.trans (Cert.ReferenceAttnQIdeal.Final.ref_dq given'), e.2.1.trans (Cert.ReferenceAttnQIdeal.Final.ref_delta given'), e.2.2.1.trans (Cert.ReferenceAttnQIdeal.Final.ref_dcumq given'),
      (h c).2.2.2⟩

end Cert.Proof.AttnQ
end
-- ==== Proof.AttnKv.Host.lean ====
module

public import proofs.«01_k».proof.Proof.Attention.Host
public import proofs.«01_k».proof.Proof.Gen.KernelAttnKvIdeal.Value

@[expose] public section

set_option maxRecDepth 16384

noncomputable section

open Idealize.ShloMosaic Idealize.ShloMosaic.TcCoe Idealize.SL.Sem
open Idealize.ShloMosaic.Pipeline (Dat)
open scoped BigOperators

namespace Cert.KernelAttnKvIdeal.Final

open Cert.KernelAttnKvIdeal Cert.KernelAttnKvIdeal.Gen Cert.Attention

variable (m : (ℓ : Loc nD τ sig) → Buf (Elt Ideal) ℓ) (c : Dev nD)

abbrev argQ : FVec Ideal Heads .f32 := m ((c.tc : Thread nD τ).loc main_arg0)
abbrev argK : FVec Ideal Heads .f32 := m ((c.tc : Thread nD τ).loc main_arg1)
abbrev argV : FVec Ideal Heads .f32 := m ((c.tc : Thread nD τ).loc main_arg2)
abbrev argC : FVec Ideal Decays .f32 := m ((c.tc : Thread nD τ).loc main_arg3)
abbrev argD : FVec Ideal Heads .f32 := m ((c.tc : Thread nD τ).loc main_arg4)

theorem host_q : V m c main_v58 = flat (padded (argQ m c)) := by
  unfold V; after_reads_simp; rfl

theorem host_k : V m c main_v59 = flat (padded (argK m c)) := by
  unfold V; after_reads_simp; rfl

theorem host_v : V m c main_v60 = flat (padded (argV m c)) := by
  unfold V; after_reads_simp; rfl

theorem host_d : V m c main_v61 = flat (padded (argD m c)) := by
  unfold V; after_reads_simp; rfl

theorem host_cq : V m c main_v14 = fun i => shapeCast S8x2176x1 (decays (argC m c)) shapeCasts_S8x2176_S8x2176x1 i := by
  unfold V; after_reads_simp; rfl

theorem host_ck : V m c main_v15 = fun i => shapeCast S8x1x2176 (decays (argC m c)) shapeCasts_S8x2176_S8x1x2176 i := by
  unfold V; after_reads_simp; rfl

theorem host_lse : V m c main_v37 = lse (masked (padded (argQ m c)) (padded (argK m c)) (V m c main_v14) (V m c main_v15))
    (top (masked (padded (argQ m c)) (padded (argK m c)) (V m c main_v14) (V m c main_v15))) := by
  unfold V; after_reads_simp; rfl

theorem host_lse_row : V m c main_v62 = fun i => shapeCast S8x1x2176 (V m c main_v37) shapeCasts_S8x2176x1_S8x1x2176 i := by
  unfold V; after_reads_simp; rfl

theorem host_sums_row : V m c main_v63 = fun i => shapeCast S8x1x2176 (V m c main_v57) shapeCasts_S8x2176x1_S8x1x2176 i := by
  unfold V; after_reads_simp; rfl

theorem host_sums : V m c main_v57 = rowSums (masked (padded (argQ m c)) (padded (argK m c)) (V m c main_v14) (V m c main_v15))
    (V m c main_v37) (padded (argD m c)) (padded (argV m c)) := by
  unfold V; after_reads_simp; rfl

theorem row_of_col (a : FVec Ideal S8x2176x1 .f32) (h : Fin 8) (i : Fin 2176) :
    shapeCast S8x1x2176 a shapeCasts_S8x2176x1_S8x1x2176 (ix3 h 0 i) = a (ix3 h i 0) := by
  pointwise []

variable {m c} {x : Inputs 2064} (hx : Holds (argQ m c) (argK m c) (argV m c) (argC m c) (argD m c) x)
include hx

theorem read_cq (h : Fin 8) (i : Fin 2176) : V m c main_v14 (ix3 h i 0) = ((x.pad 2176).cum h i : EReal) := by
  rw [host_cq]; pointwise []
  exact decays_apply _ x hx.cum h i

theorem read_ck (h : Fin 8) (i : Fin 2176) : V m c main_v15 (ix3 h 0 i) = ((x.pad 2176).cum h i : EReal) := by
  rw [host_ck]; pointwise []
  exact decays_apply _ x hx.cum h i

theorem read_lse (h : Fin 8) (i : Fin 2176) : ∃ r : ℝ, V m c main_v37 (ix3 h i 0) = (r : EReal)
    ∧ ∀ j, j.val ≤ i.val → Real.exp ((x.pad 2176).score h i j - r) = (x.pad 2176).prob h i j := by
  rw [host_lse]
  exact saved (x.pad 2176) _ _ _ _ (padded_apply _ _ hx.q) (padded_apply _ _ hx.k) (read_cq hx) (read_ck hx) h i

theorem read_sums (h : Fin 8) (i : Fin 2176) : V m c main_v57 (ix3 h i 0) = ((x.pad 2176).delta h i : EReal) := by
  rw [host_sums]
  exact saved_sums (x.pad 2176) _ _ _ _ _ _ _ (padded_apply _ _ hx.q) (padded_apply _ _ hx.k) (padded_apply _ _ hx.ct) (padded_apply _ _ hx.v)
    (read_cq hx) (read_ck hx) h i (read_lse hx h i)

theorem read_sums_row (h : Fin 8) (i : Fin 2176) : V m c main_v63 (ix3 h 0 i) = ((x.pad 2176).delta h i : EReal) := by
  rw [host_sums_row]
  exact (row_of_col _ h i).trans (read_sums hx h i)

theorem read_lse_row (h : Fin 8) (i : Fin 2176) : ∃ r : ℝ, V m c main_v62 (ix3 h 0 i) = (r : EReal)
    ∧ ∀ j, j.val ≤ i.val → Real.exp ((x.pad 2176).score h i j - r) = (x.pad 2176).prob h i j := by
  rw [host_lse_row]
  obtain ⟨r, hr, hp⟩ := read_lse hx h i
  exact ⟨r, (row_of_col _ h i).trans hr, hp⟩

end Cert.KernelAttnKvIdeal.Final
end
-- ==== Proof.AttnKv.Reads.lean ====
module

public import proofs.«01_k».proof.Proof.AttnKv.Host

@[expose] public section

set_option maxRecDepth 16384

noncomputable section

open Idealize.ShloMosaic Idealize.ShloMosaic.TcCoe Idealize.SL.Sem
open Idealize.ShloMosaic.Pipeline (Dat)
open scoped BigOperators

namespace Cert.KernelAttnKvIdeal.Final

open Cert.KernelAttnKvIdeal Cert.KernelAttnKvIdeal.Gen Cert.Attention

theorem idx : ∀ t : Fin cfg0.N, win0_0.index t = ![t.val % 17, t.val / 17] ∧ win0_1.index t = ![t.val % 17, t.val / 17]
    ∧ win0_2.index t = ![0, t.val / 17] ∧ win0_3.index t = ![0, t.val / 17]
    ∧ win0_4.index t = ![t.val / 17, 0, 0] ∧ win0_5.index t = ![t.val / 17, t.val % 17, 0]
    ∧ win0_6.index t = ![t.val / 17, 0, 0] ∧ win0_7.index t = ![t.val / 17, 0, 0]
    ∧ win0_8.index t = ![t.val % 17, t.val / 17] ∧ win0_9.index t = ![t.val % 17, t.val / 17]
    ∧ win0_10.index t = ![t.val / 17, t.val % 17, 0] :=
  (by decide +kernel : ∀ t : Fin grid0.N, _)

theorem coord : ∀ t : Fin cfg0.N, @Fin.val 17 (grid0.coords t 1) = t.val % 17 :=
  (by decide +kernel : ∀ t : Fin grid0.N, _)

/-- The key row of a grid point's tile, and its two heads. -/
def row (t : Fin cfg0.N) (r : Fin 128) : Fin 2176 := ⟨t.val % 17 * 128 + r.val, by omega⟩
def head (t : Fin cfg0.N) (s : Fin 2) : Fin 8 := ⟨t.val / 17 * 2 + s.val, by have := t.isLt.trans_eq N_0; omega⟩

variable (m : (ℓ : Loc nD τ sig) → Buf (Elt Ideal) ℓ) (c : Dev nD)

/-- The number saved for a row, as a real. -/
def saved (h : Fin 8) (i : Fin 2176) : ℝ := EReal.toReal (V m c main_v62 (ix3 h 0 i))

/-- The mask is minus infinity. -/
theorem mask_bot : (Named.named (F := Ideal) κ "mask" (φ := .f32) 0xF149F2CA#32 : EReal) = ⊥ := by
  simp [Named.named, κ]

variable {m c} {x : Inputs 2064} (hx : Holds (argQ m c) (argK m c) (argV m c) (argC m c) (argD m c) x) (t : Fin cfg0.N)
include hx

section
variable (r e : Fin 128) (j : Fin 2176)

theorem read_k (s : Fin 2) (y : Fin 256) (hy : y.val = s.val * 128 + e.val) :
    iblk m c 0 t (ix2 r y) = ((x.pad 2176).k (row t r) (head t s) e : EReal) := by
  refine Eq.trans ?_ (padded_apply _ _ hx.k _ _ _)
  rw [← flat_apply (padded (argK m c)), ← host_k]
  obtain ⟨e0, -⟩ := idx t
  blk_ext [iblk, e0, row, head, col, hy]

theorem read_v (s : Fin 2) (y : Fin 256) (hy : y.val = s.val * 128 + e.val) :
    iblk m c 1 t (ix2 r y) = ((x.pad 2176).v (row t r) (head t s) e : EReal) := by
  refine Eq.trans ?_ (padded_apply _ _ hx.v _ _ _)
  rw [← flat_apply (padded (argV m c)), ← host_v]
  obtain ⟨-, e0, -⟩ := idx t
  blk_ext [iblk, e0, row, head, col, hy]

theorem read_q (s : Fin 2) (y : Fin 256) (hy : y.val = s.val * 128 + e.val) :
    iblk m c 2 t (ix2 j y) = ((x.pad 2176).q j (head t s) e : EReal) := by
  refine Eq.trans ?_ (padded_apply _ _ hx.q _ _ _)
  rw [← flat_apply (padded (argQ m c)), ← host_q]
  obtain ⟨-, -, e0, -⟩ := idx t
  blk_ext [iblk, e0, row, head, col, hy]

theorem read_d (s : Fin 2) (y : Fin 256) (hy : y.val = s.val * 128 + e.val) :
    iblk m c 3 t (ix2 j y) = ((x.pad 2176).ct j (head t s) e : EReal) := by
  refine Eq.trans ?_ (padded_apply _ _ hx.ct _ _ _)
  rw [← flat_apply (padded (argD m c)), ← host_d]
  obtain ⟨-, -, -, e0, -⟩ := idx t
  blk_ext [iblk, e0, row, head, col, hy]

theorem k0 (h : e.val < 256) : iblk m c 0 t (ix2 r ⟨e.val, h⟩) = ((x.pad 2176).k (row t r) (head t 0) e : EReal) :=
  read_k hx t r e 0 _ (by simp)

theorem k1 (h : 128 + e.val < 256) : iblk m c 0 t (ix2 r ⟨128 + e.val, h⟩) = ((x.pad 2176).k (row t r) (head t 1) e : EReal) :=
  read_k hx t r e 1 _ (by simp)

theorem v0 (h : e.val < 256) : iblk m c 1 t (ix2 r ⟨e.val, h⟩) = ((x.pad 2176).v (row t r) (head t 0) e : EReal) :=
  read_v hx t r e 0 _ (by simp)

theorem v1 (h : 128 + e.val < 256) : iblk m c 1 t (ix2 r ⟨128 + e.val, h⟩) = ((x.pad 2176).v (row t r) (head t 1) e : EReal) :=
  read_v hx t r e 1 _ (by simp)

theorem q0 (h : e.val < 256) : iblk m c 2 t (ix2 j ⟨e.val, h⟩) = ((x.pad 2176).q j (head t 0) e : EReal) :=
  read_q hx t e j 0 _ (by simp)

theorem q1 (h : 128 + e.val < 256) : iblk m c 2 t (ix2 j ⟨128 + e.val, h⟩) = ((x.pad 2176).q j (head t 1) e : EReal) :=
  read_q hx t e j 1 _ (by simp)

theorem d0 (h : e.val < 256) : iblk m c 3 t (ix2 j ⟨e.val, h⟩) = ((x.pad 2176).ct j (head t 0) e : EReal) :=
  read_d hx t e j 0 _ (by simp)

theorem d1 (h : 128 + e.val < 256) : iblk m c 3 t (ix2 j ⟨128 + e.val, h⟩) = ((x.pad 2176).ct j (head t 1) e : EReal) :=
  read_d hx t e j 1 _ (by simp)

theorem cq (s : Fin 2) : iblk m c 4 t (ix3 s 0 j) = ((x.pad 2176).cum (head t s) j : EReal) := by
  rw [← read_ck hx]
  obtain ⟨-, -, -, -, e4, -⟩ := idx t
  blk_ext [iblk, e4, row, head]

theorem ck (s : Fin 2) : iblk m c 5 t (ix3 s r 0) = ((x.pad 2176).cum (head t s) (row t r) : EReal) := by
  rw [← read_cq hx]
  obtain ⟨-, -, -, -, -, e5, -⟩ := idx t
  blk_ext [iblk, e5, row, head]

omit hx in
theorem block_saved (a : FVec Ideal S8x1x2176 .f32) (s : Fin 2) :
    ((cfg0.win 6).blk t).view.read (Elt Ideal) a (ix3 s 0 j) = a (ix3 (head t s) 0 j) := by
  obtain ⟨-, -, -, -, -, -, e, -⟩ := idx t
  blk_ext [e, head]

omit hx in
theorem block_read_saved (s : Fin 2) : iblk m c 6 t (ix3 s 0 j) = V m c main_v62 (ix3 (head t s) 0 j) := by
  unfold iblk
  exact block_saved t j (V m c main_v62) s

omit hx in
theorem block_sums (a : FVec Ideal S8x1x2176 .f32) (s : Fin 2) :
    ((cfg0.win 7).blk t).view.read (Elt Ideal) a (ix3 s 0 j) = a (ix3 (head t s) 0 j) := by
  obtain ⟨-, -, -, -, -, -, -, e, -⟩ := idx t
  blk_ext [e, head]

omit hx in
theorem block_read_sums (s : Fin 2) : iblk m c 7 t (ix3 s 0 j) = V m c main_v63 (ix3 (head t s) 0 j) := by
  unfold iblk
  exact block_sums t j (V m c main_v63) s

theorem ls (s : Fin 2) : iblk m c 6 t (ix3 s 0 j) = (saved m c (head t s) j : EReal) := by
  obtain ⟨a, ha, -⟩ := read_lse_row hx (head t s) j
  rw [block_read_saved, saved, ha]; rfl

theorem sm (s : Fin 2) : iblk m c 7 t (ix3 s 0 j) = ((x.pad 2176).delta (head t s) j : EReal) :=
  (block_read_sums t j s).trans (read_sums_row hx (head t s) j)

end

/-- The exponential of a masked score less the saved number is the attention. -/
theorem prob_tile (h : Fin 8) (r : Fin 128) (i : Fin 2176) (lo a : ℕ) (ha : i.val = lo + a) :
    Ideal.exp (Scalar.select (IntOp.cmpi .sge (IntOp.addi (BitVec.ofNat 32 lo) (BitVec.ofNat 32 a))
        (IntOp.addi (Scalar.muli (BitVec.ofNat 32 (t.val % 17)) 128#32) (BitVec.ofNat 32 r.val)))
      (((∑ e, (x.pad 2176).k (row t r) h e * (x.pad 2176).q i h e) * scale
        + ((x.pad 2176).cum h i - (x.pad 2176).cum h (row t r)) : ℝ) : EReal) (⊥ : EReal) - (saved m c h i : EReal))
      = ((x.pad 2176).prob h i (row t r) : EReal) := by
  rw [show IntOp.addi (BitVec.ofNat 32 lo) (BitVec.ofNat 32 a) = BitVec.ofNat 32 i.val by rw [ha]; simp [IntOp.addi, BitVec.ofNat_add]]
  obtain ⟨s, hs, hp⟩ := read_lse_row hx h i
  have es : saved m c h i = s := by rw [saved, hs]; rfl
  have w : IntOp.addi (Scalar.muli (BitVec.ofNat 32 (t.val % 17)) 128#32) (BitVec.ofNat 32 r.val) = BitVec.ofNat 32 (t.val % 17 * 128 + r.val) := by
    simp [IntOp.addi, Scalar.muli, IntOp.muli, BitVec.ofNat_add, BitVec.ofNat_mul]
  rw [w, es]
  have ht : t.val % 17 < 17 := Nat.mod_lt _ (by decide)
  word_cmp
  by_cases q : t.val % 17 * 128 + r.val ≤ i.val
  · rw [if_pos q, ← EReal.coe_sub, Ideal.exp_coe]
    simp only [mul_comm ((x.pad 2176).k _ _ _)]
    exact congrArg _ (hp (row t r) q)
  · rw [if_neg q, EReal.bot_sub, Ideal.exp_bot, Inputs.prob_eq_zero _ _ (show i.val < (row t r).val by simp only [row]; omega)]
    rfl

end Cert.KernelAttnKvIdeal.Final
end
-- ==== Proof.AttnKv.Tiles.lean ====
module

public import proofs.«01_k».proof.Proof.AttnKv.Reads

@[expose] public section

set_option maxRecDepth 16384

noncomputable section

open Idealize.ShloMosaic Idealize.ShloMosaic.TcCoe Idealize.SL.Sem
open Idealize.ShloMosaic.Pipeline (Dat)
open scoped BigOperators

namespace Cert.KernelAttnKvIdeal.Final

open Cert.KernelAttnKvIdeal Cert.KernelAttnKvIdeal.Gen Cert.Attention

/-- The sums over the queries may begin at any query before the key. -/
theorem suffix {lo w : ℕ} (hw : lo + w = 2176) {j : Fin 2176} (hj : lo ≤ j.val) (g : Fin w → Fin 2176) (hg : ∀ i, (g i).val = lo + i.val)
    (f : Fin 2176 → ℝ) (hf : ∀ i : Fin 2176, i.val < j.val → f i = 0) : ∑ i, f (g i) = ∑ i, f i :=
  (Reals.sum_window lo (by omega) f (fun i => f (g i)) (fun i p => congrArg f (Fin.ext (by simp [hg]))) (fun i p => hf i (by omega))).symm

section
variable {lo w : ℕ} (hw : lo + w = 2176) {h : Fin 8} {j : Fin 2176} (hj : lo ≤ j.val) (X : Inputs 2176)
  (g : Fin w → Fin 2176) (P : Fin w → EReal) (D : Fin w → ℝ) (hg : ∀ i, (g i).val = lo + i.val)
  (hP : ∀ i, P i = (X.prob h (g i) j : EReal)) (hD : ∀ i, D i = X.dprob h (g i) j)
include hw hj hg hP

theorem dv_sum (e : Fin 128) : ∑ i, P i * (X.ct (g i) h e : EReal) = (X.dv j h e : EReal) := by
  simp only [hP, ← EReal.coe_mul, ← Reals.coe_sum]
  exact congrArg _ (suffix hw hj g hg (fun i => X.prob h i j * X.ct i h e) fun i p => by rw [X.prob_eq_zero h p, zero_mul])

include hD

theorem dk_sum (e : Fin 128) :
    ∑ i, P i * ((D i - X.delta h (g i) : ℝ) : EReal) * (scale : EReal) * (X.q (g i) h e : EReal) = (X.dk j h e : EReal) := by
  simp only [hP, hD, ← EReal.coe_mul, ← Reals.coe_sum]
  exact congrArg _ (suffix hw hj g hg (fun i => X.dscore h i j * scale * X.q i h e) fun i p => by
    rw [X.dscore_eq_zero h p, zero_mul, zero_mul])

theorem dcumk_sum : 0 - ∑ i, P i * ((D i - X.delta h (g i) : ℝ) : EReal) = (X.dcumk h j : EReal) := by
  simp only [hP, hD, ← EReal.coe_mul, ← Reals.coe_sum]
  rw [zero_sub, ← EReal.coe_neg]
  exact congrArg (fun a : ℝ => ((-a : ℝ) : EReal)) (suffix hw hj g hg (fun i => X.dscore h i j) fun i p => X.dscore_eq_zero h p)

end

/-- The head of a pair that a column belongs to, and its place in the head. -/
def half (y : Fin 256) : Fin 2 := ⟨y.val / 128, by omega⟩
def lane (y : Fin 256) : Fin 128 := ⟨y.val % 128, by omega⟩

variable {m : (ℓ : Loc nD τ sig) → Buf (Elt Ideal) ℓ} {c : Dev nD} {x : Inputs 2064}
  (given : Holds (argQ m c) (argK m c) (argV m c) (argC m c) (argD m c) x) (t : Fin cfg0.N)
include given

/-- The mask, the score and the saved row of one block, as the kernel writes them from query `i = lo + a` on. -/
def weightAt (m : (ℓ : Loc nD τ sig) → Buf (Elt Ideal) ℓ) (c : Dev nD) (x : Inputs 2064) (t : Fin cfg0.N) (h : Fin 8) (r : Fin 128) (lo a : ℕ)
    (i : Fin 2176) : EReal :=
  Ideal.exp (Scalar.select (IntOp.cmpi .sge (IntOp.addi (BitVec.ofNat 32 lo) (BitVec.ofNat 32 a))
      (IntOp.addi (Scalar.muli (BitVec.ofNat 32 (t.val % 17)) 128#32) (BitVec.ofNat 32 r.val)))
    (((∑ e, (x.pad 2176).k (row t r) h e * (x.pad 2176).q i h e) * scale
      + ((x.pad 2176).cum h i - (x.pad 2176).cum h (row t r)) : ℝ) : EReal) (⊥ : EReal) - (saved m c h i : EReal))

section
variable (h : Fin 8) (r : Fin 128) (lo : ℕ) {w : ℕ} (hw : lo + w = 2176) (hj : lo ≤ (row t r).val)
  (g : Fin w → Fin 2176) (hg : ∀ i, (g i).val = lo + i.val)
include hw hj hg

theorem dv_from (e : Fin 128) :
    ∑ i, weightAt m c x t h r lo i.val (g i) * ((x.pad 2176).ct (g i) h e : EReal) = ((x.pad 2176).dv (row t r) h e : EReal) :=
  dv_sum hw hj (x.pad 2176) g _ hg (fun i => prob_tile given t _ _ _ lo _ (hg i)) e

theorem dk_from (e : Fin 128) :
    ∑ i, weightAt m c x t h r lo i.val (g i)
        * ((∑ b, (x.pad 2176).v (row t r) h b * (x.pad 2176).ct (g i) h b - (x.pad 2176).delta h (g i) : ℝ) : EReal)
        * (scale : EReal) * ((x.pad 2176).q (g i) h e : EReal) = ((x.pad 2176).dk (row t r) h e : EReal) :=
  dk_sum hw hj (x.pad 2176) g _ _ hg (fun i => prob_tile given t _ _ _ lo _ (hg i)) (fun i => Finset.sum_congr rfl fun b _ => mul_comm _ _) e

theorem dcumk_from :
    0 - ∑ i, weightAt m c x t h r lo i.val (g i)
        * ((∑ b, (x.pad 2176).v (row t r) h b * (x.pad 2176).ct (g i) h b - (x.pad 2176).delta h (g i) : ℝ) : EReal)
      = ((x.pad 2176).dcumk h (row t r) : EReal) :=
  dcumk_sum hw hj (x.pad 2176) g _ _ hg (fun i => prob_tile given t _ _ _ lo _ (hg i)) (fun i => Finset.sum_congr rfl fun b _ => mul_comm _ _)

end

set_option maxHeartbeats 4000000 in
/-- A tile of the gradient of the values. -/
theorem tile_dv (y : S128x256.Idx) :
    (outsAt0 m c t.val t.isLt).2.1 y = ((x.pad 2176).dv (row t (y 0)) (head t (half (y 1))) (lane (y 1)) : EReal) := by
  obtain k | k | k | k | k | k | k | k | k : t.val % 17 ≤ 1 ∨ (2 ≤ t.val % 17 ∧ t.val % 17 ≤ 3) ∨ (4 ≤ t.val % 17 ∧ t.val % 17 ≤ 5)
      ∨ (6 ≤ t.val % 17 ∧ t.val % 17 ≤ 7) ∨ (8 ≤ t.val % 17 ∧ t.val % 17 ≤ 9) ∨ (10 ≤ t.val % 17 ∧ t.val % 17 ≤ 11)
      ∨ (12 ≤ t.val % 17 ∧ t.val % 17 ≤ 13) ∨ (14 ≤ t.val % 17 ∧ t.val % 17 ≤ 15) ∨ t.val % 17 = 16 := by omega
  on_goal 1 => rw [outsAt0_A m c t (by omega) (by omega) (by omega) (by omega) (by omega) (by omega) (by omega) (by omega) (by omega)]
  on_goal 2 => rw [outsAt0_B m c t (by omega) (by omega) (by omega) (by omega) (by omega) (by omega) (by omega) (by omega) (by omega)]
  on_goal 3 => rw [outsAt0_C m c t (by omega) (by omega) (by omega) (by omega) (by omega) (by omega) (by omega) (by omega) (by omega)]
  on_goal 4 => rw [outsAt0_D m c t (by omega) (by omega) (by omega) (by omega) (by omega) (by omega) (by omega) (by omega) (by omega)]
  on_goal 5 => rw [outsAt0_E m c t (by omega) (by omega) (by omega) (by omega) (by omega) (by omega) (by omega) (by omega) (by omega)]
  on_goal 6 => rw [outsAt0_F m c t (by omega) (by omega) (by omega) (by omega) (by omega) (by omega) (by omega) (by omega) (by omega)]
  on_goal 7 => rw [outsAt0_G m c t (by omega) (by omega) (by omega) (by omega) (by omega) (by omega) (by omega) (by omega) (by omega)]
  on_goal 8 => rw [outsAt0_H m c t (by omega) (by omega) (by omega) (by omega) (by omega) (by omega) (by omega) (by omega) (by omega)]
  on_goal 9 => rw [outsAt0_I m c t (by omega) (by omega) (by omega) (by omega) (by omega) (by omega) (by omega) (by omega) (by omega)]
  all_goals frame_out
  all_goals canon_tiles z h
  all_goals (open_payloads; pointwise)
  all_goals first
    | rw [show half (y 1) = (1 : Fin 2) from Fin.ext (by show (y 1).val / 128 = 1; omega)]
    | rw [show half (y 1) = (0 : Fin 2) from Fin.ext (by show (y 1).val / 128 = 0; omega)]
  all_goals rw [show y 0 = z 0 from Fin.ext (h0)]
  all_goals obtain ⟨r, er, vr⟩ : ∃ r : Fin 128, z 0 = r ∧ (z 0).val = r.val := ⟨z 0, rfl, rfl⟩
  all_goals simp only [vr]
  all_goals simp only [er]
  all_goals rw [show lane (y 1) = z 1 from Fin.ext (by show (y 1).val % 128 = (z 1).val; omega)]
  all_goals obtain ⟨e, ee, ve⟩ : ∃ e : Fin 128, z 1 = e ∧ (z 1).val = e.val := ⟨z 1, rfl, rfl⟩
  all_goals simp only [ve]
  all_goals simp only [ee]
  all_goals simp only [q0 given, q1 given, k0 given, k1 given, v0 given, v1 given, d0 given, d1 given, cq given, ck given, ls given, sm given,
    mask_bot, coord, scale_word, ← EReal.coe_mul, ← EReal.coe_sub, ← EReal.coe_add, ← Reals.coe_sum]
  iterate 2 exact dv_from given t _ r 0 (w := 2176) rfl (by simp only [row]; omega) (fun i => i) (fun i => (Nat.zero_add _).symm) e
  iterate 2 exact dv_from given t _ r 256 (w := 1920) rfl (by simp only [row]; omega) (fun i => ⟨256 + i.val, by omega⟩) (fun _ => rfl) e
  iterate 2 exact dv_from given t _ r 512 (w := 1664) rfl (by simp only [row]; omega) (fun i => ⟨512 + i.val, by omega⟩) (fun _ => rfl) e
  iterate 2 exact dv_from given t _ r 768 (w := 1408) rfl (by simp only [row]; omega) (fun i => ⟨768 + i.val, by omega⟩) (fun _ => rfl) e
  iterate 2 exact dv_from given t _ r 1024 (w := 1152) rfl (by simp only [row]; omega) (fun i => ⟨1024 + i.val, by omega⟩) (fun _ => rfl) e
  iterate 2 exact dv_from given t _ r 1280 (w := 896) rfl (by simp only [row]; omega) (fun i => ⟨1280 + i.val, by omega⟩) (fun _ => rfl) e
  iterate 2 exact dv_from given t _ r 1536 (w := 640) rfl (by simp only [row]; omega) (fun i => ⟨1536 + i.val, by omega⟩) (fun _ => rfl) e
  iterate 2 exact dv_from given t _ r 1792 (w := 384) rfl (by simp only [row]; omega) (fun i => ⟨1792 + i.val, by omega⟩) (fun _ => rfl) e
  iterate 2 exact dv_from given t _ r 2048 (w := 128) rfl (by simp only [row]; omega) (fun i => ⟨2048 + i.val, by omega⟩) (fun _ => rfl) e

set_option maxHeartbeats 4000000 in
/-- A tile of the gradient of the keys. -/
theorem tile_dk (y : S128x256.Idx) :
    (outsAt0 m c t.val t.isLt).1 y = ((x.pad 2176).dk (row t (y 0)) (head t (half (y 1))) (lane (y 1)) : EReal) := by
  obtain k | k | k | k | k | k | k | k | k : t.val % 17 ≤ 1 ∨ (2 ≤ t.val % 17 ∧ t.val % 17 ≤ 3) ∨ (4 ≤ t.val % 17 ∧ t.val % 17 ≤ 5)
      ∨ (6 ≤ t.val % 17 ∧ t.val % 17 ≤ 7) ∨ (8 ≤ t.val % 17 ∧ t.val % 17 ≤ 9) ∨ (10 ≤ t.val % 17 ∧ t.val % 17 ≤ 11)
      ∨ (12 ≤ t.val % 17 ∧ t.val % 17 ≤ 13) ∨ (14 ≤ t.val % 17 ∧ t.val % 17 ≤ 15) ∨ t.val % 17 = 16 := by omega
  on_goal 1 => rw [outsAt0_A m c t (by omega) (by omega) (by omega) (by omega) (by omega) (by omega) (by omega) (by omega) (by omega)]
  on_goal 2 => rw [outsAt0_B m c t (by omega) (by omega) (by omega) (by omega) (by omega) (by omega) (by omega) (by omega) (by omega)]
  on_goal 3 => rw [outsAt0_C m c t (by omega) (by omega) (by omega) (by omega) (by omega) (by omega) (by omega) (by omega) (by omega)]
  on_goal 4 => rw [outsAt0_D m c t (by omega) (by omega) (by omega) (by omega) (by omega) (by omega) (by omega) (by omega) (by omega)]
  on_goal 5 => rw [outsAt0_E m c t (by omega) (by omega) (by omega) (by omega) (by omega) (by omega) (by omega) (by omega) (by omega)]
  on_goal 6 => rw [outsAt0_F m c t (by omega) (by omega) (by omega) (by omega) (by omega) (by omega) (by omega) (by omega) (by omega)]
  on_goal 7 => rw [outsAt0_G m c t (by omega) (by omega) (by omega) (by omega) (by omega) (by omega) (by omega) (by omega) (by omega)]
  on_goal 8 => rw [outsAt0_H m c t (by omega) (by omega) (by omega) (by omega) (by omega) (by omega) (by omega) (by omega) (by omega)]
  on_goal 9 => rw [outsAt0_I m c t (by omega) (by omega) (by omega) (by omega) (by omega) (by omega) (by omega) (by omega) (by omega)]
  all_goals frame_out
  all_goals canon_tiles z h
  all_goals (open_payloads; pointwise)
  all_goals first
    | rw [show half (y 1) = (1 : Fin 2) from Fin.ext (by show (y 1).val / 128 = 1; omega)]
    | rw [show half (y 1) = (0 : Fin 2) from Fin.ext (by show (y 1).val / 128 = 0; omega)]
  all_goals rw [show y 0 = z 0 from Fin.ext (h0)]
  all_goals obtain ⟨r, er, vr⟩ : ∃ r : Fin 128, z 0 = r ∧ (z 0).val = r.val := ⟨z 0, rfl, rfl⟩
  all_goals simp only [vr]
  all_goals simp only [er]
  all_goals rw [show lane (y 1) = z 1 from Fin.ext (by show (y 1).val % 128 = (z 1).val; omega)]
  all_goals obtain ⟨e, ee, ve⟩ : ∃ e : Fin 128, z 1 = e ∧ (z 1).val = e.val := ⟨z 1, rfl, rfl⟩
  all_goals simp only [ve]
  all_goals simp only [ee]
  all_goals simp only [q0 given, q1 given, k0 given, k1 given, v0 given, v1 given, d0 given, d1 given, cq given, ck given, ls given, sm given,
    mask_bot, coord, scale_word, ← EReal.coe_mul, ← EReal.coe_sub, ← EReal.coe_add, ← Reals.coe_sum]
  iterate 2 exact dk_from given t _ r 0 (w := 2176) rfl (by simp only [row]; omega) (fun i => i) (fun i => (Nat.zero_add _).symm) e
  iterate 2 exact dk_from given t _ r 256 (w := 1920) rfl (by simp only [row]; omega) (fun i => ⟨256 + i.val, by omega⟩) (fun _ => rfl) e
  iterate 2 exact dk_from given t _ r 512 (w := 1664) rfl (by simp only [row]; omega) (fun i => ⟨512 + i.val, by omega⟩) (fun _ => rfl) e
  iterate 2 exact dk_from given t _ r 768 (w := 1408) rfl (by simp only [row]; omega) (fun i => ⟨768 + i.val, by omega⟩) (fun _ => rfl) e
  iterate 2 exact dk_from given t _ r 1024 (w := 1152) rfl (by simp only [row]; omega) (fun i => ⟨1024 + i.val, by omega⟩) (fun _ => rfl) e
  iterate 2 exact dk_from given t _ r 1280 (w := 896) rfl (by simp only [row]; omega) (fun i => ⟨1280 + i.val, by omega⟩) (fun _ => rfl) e
  iterate 2 exact dk_from given t _ r 1536 (w := 640) rfl (by simp only [row]; omega) (fun i => ⟨1536 + i.val, by omega⟩) (fun _ => rfl) e
  iterate 2 exact dk_from given t _ r 1792 (w := 384) rfl (by simp only [row]; omega) (fun i => ⟨1792 + i.val, by omega⟩) (fun _ => rfl) e
  iterate 2 exact dk_from given t _ r 2048 (w := 128) rfl (by simp only [row]; omega) (fun i => ⟨2048 + i.val, by omega⟩) (fun _ => rfl) e

set_option maxHeartbeats 4000000 in
/-- A tile of the gradient of the sums of the gates at the keys. -/
theorem tile_dcumk (y : S2x128x1.Idx) :
    (outsAt0 m c t.val t.isLt).2.2 y = ((x.pad 2176).dcumk (head t (y 0)) (row t (y 1)) : EReal) := by
  obtain k | k | k | k | k | k | k | k | k : t.val % 17 ≤ 1 ∨ (2 ≤ t.val % 17 ∧ t.val % 17 ≤ 3) ∨ (4 ≤ t.val % 17 ∧ t.val % 17 ≤ 5)
      ∨ (6 ≤ t.val % 17 ∧ t.val % 17 ≤ 7) ∨ (8 ≤ t.val % 17 ∧ t.val % 17 ≤ 9) ∨ (10 ≤ t.val % 17 ∧ t.val % 17 ≤ 11)
      ∨ (12 ≤ t.val % 17 ∧ t.val % 17 ≤ 13) ∨ (14 ≤ t.val % 17 ∧ t.val % 17 ≤ 15) ∨ t.val % 17 = 16 := by omega
  on_goal 1 => rw [outsAt0_A m c t (by omega) (by omega) (by omega) (by omega) (by omega) (by omega) (by omega) (by omega) (by omega)]
  on_goal 2 => rw [outsAt0_B m c t (by omega) (by omega) (by omega) (by omega) (by omega) (by omega) (by omega) (by omega) (by omega)]
  on_goal 3 => rw [outsAt0_C m c t (by omega) (by omega) (by omega) (by omega) (by omega) (by omega) (by omega) (by omega) (by omega)]
  on_goal 4 => rw [outsAt0_D m c t (by omega) (by omega) (by omega) (by omega) (by omega) (by omega) (by omega) (by omega) (by omega)]
  on_goal 5 => rw [outsAt0_E m c t (by omega) (by omega) (by omega) (by omega) (by omega) (by omega) (by omega) (by omega) (by omega)]
  on_goal 6 => rw [outsAt0_F m c t (by omega) (by omega) (by omega) (by omega) (by omega) (by omega) (by omega) (by omega) (by omega)]
  on_goal 7 => rw [outsAt0_G m c t (by omega) (by omega) (by omega) (by omega) (by omega) (by omega) (by omega) (by omega) (by omega)]
  on_goal 8 => rw [outsAt0_H m c t (by omega) (by omega) (by omega) (by omega) (by omega) (by omega) (by omega) (by omega) (by omega)]
  on_goal 9 => rw [outsAt0_I m c t (by omega) (by omega) (by omega) (by omega) (by omega) (by omega) (by omega) (by omega) (by omega)]
  all_goals frame_out
  all_goals canon_tiles z h
  all_goals (open_payloads; pointwise)
  all_goals first
    | rw [show y 0 = (1 : Fin 2) from Fin.ext (by show (y 0).val = 1; omega)]
    | rw [show y 0 = (0 : Fin 2) from Fin.ext (by show (y 0).val = 0; omega)]
  all_goals rw [show y 1 = z 1 from Fin.ext (h1)]
  all_goals obtain ⟨r, er, vr⟩ : ∃ r : Fin 128, z 1 = r ∧ (z 1).val = r.val := ⟨z 1, rfl, rfl⟩
  all_goals simp only [vr]
  all_goals simp only [er]
  all_goals simp only [q0 given, q1 given, k0 given, k1 given, v0 given, v1 given, d0 given, d1 given, cq given, ck given, ls given, sm given,
    mask_bot, coord, scale_word, ← EReal.coe_mul, ← EReal.coe_sub, ← EReal.coe_add, ← Reals.coe_sum]
  iterate 2 exact dcumk_from given t _ r 0 (w := 2176) rfl (by simp only [row]; omega) (fun i => i) (fun i => (Nat.zero_add _).symm)
  iterate 2 exact dcumk_from given t _ r 256 (w := 1920) rfl (by simp only [row]; omega) (fun i => ⟨256 + i.val, by omega⟩) (fun _ => rfl)
  iterate 2 exact dcumk_from given t _ r 512 (w := 1664) rfl (by simp only [row]; omega) (fun i => ⟨512 + i.val, by omega⟩) (fun _ => rfl)
  iterate 2 exact dcumk_from given t _ r 768 (w := 1408) rfl (by simp only [row]; omega) (fun i => ⟨768 + i.val, by omega⟩) (fun _ => rfl)
  iterate 2 exact dcumk_from given t _ r 1024 (w := 1152) rfl (by simp only [row]; omega) (fun i => ⟨1024 + i.val, by omega⟩) (fun _ => rfl)
  iterate 2 exact dcumk_from given t _ r 1280 (w := 896) rfl (by simp only [row]; omega) (fun i => ⟨1280 + i.val, by omega⟩) (fun _ => rfl)
  iterate 2 exact dcumk_from given t _ r 1536 (w := 640) rfl (by simp only [row]; omega) (fun i => ⟨1536 + i.val, by omega⟩) (fun _ => rfl)
  iterate 2 exact dcumk_from given t _ r 1792 (w := 384) rfl (by simp only [row]; omega) (fun i => ⟨1792 + i.val, by omega⟩) (fun _ => rfl)
  iterate 2 exact dcumk_from given t _ r 2048 (w := 128) rfl (by simp only [row]; omega) (fun i => ⟨2048 + i.val, by omega⟩) (fun _ => rfl)

end Cert.KernelAttnKvIdeal.Final
end
-- ==== Proof.AttnKv.Arrays.lean ====
module

public import proofs.«01_k».proof.Proof.AttnKv.Tiles

@[expose] public section

set_option maxRecDepth 16384

noncomputable section

open Idealize.ShloMosaic Idealize.ShloMosaic.TcCoe Idealize.SL.Sem
open Idealize.ShloMosaic.Pipeline (Dat)
open scoped BigOperators

namespace Cert.KernelAttnKvIdeal.Final

open Cert.KernelAttnKvIdeal Cert.KernelAttnKvIdeal.Gen Cert.Attention

/-- The head that one of the 1024 columns belongs to, and its place in the head. -/
def headOf (y : Fin 1024) : Fin 8 := ⟨y.val / 128, by omega⟩
def laneOf (y : Fin 1024) : Fin 128 := ⟨y.val % 128, by omega⟩

/-- The gradient of the keys, heads side by side. -/
def resDk (X : Inputs 2176) : FVec Ideal S2176x1024 .f32 := fun i => (X.dk (i 0) (headOf (i 1)) (laneOf (i 1)) : EReal)
/-- The gradient of the values, heads side by side. -/
def resDv (X : Inputs 2176) : FVec Ideal S2176x1024 .bf16 := fun i => (X.dv (i 0) (headOf (i 1)) (laneOf (i 1)) : EReal)
/-- The gradient of the keys' decays, down the rows. -/
def resDcumk (X : Inputs 2176) : FVec Ideal S8x2176x1 .f32 := fun i => (X.dcumk (i 0) (i 1) : EReal)

/-- The columns of a grid point's pair of heads. -/
theorem pair_lt (t : Fin cfg0.N) (y : Fin 256) : t.val / 17 * 256 + y.val < 1024 := by
  have := t.isLt.trans_eq N_0; omega

theorem head_half (t : Fin cfg0.N) (y : Fin 256) : head t (half y) = headOf ⟨t.val / 17 * 256 + y.val, pair_lt t y⟩ := by
  refine Fin.ext ?_
  show t.val / 17 * 2 + y.val / 128 = (t.val / 17 * 256 + y.val) / 128
  omega

theorem lane_pair (t : Fin cfg0.N) (y : Fin 256) : lane y = laneOf ⟨t.val / 17 * 256 + y.val, pair_lt t y⟩ := by
  refine Fin.ext ?_
  show y.val % 128 = (t.val / 17 * 256 + y.val) % 128
  omega

variable {m : (ℓ : Loc nD τ sig) → Buf (Elt Ideal) ℓ} {c : Dev nD} {x : Inputs 2064}
  (given : Holds (argQ m c) (argK m c) (argV m c) (argC m c) (argD m c) x)
include given

theorem final_dk : (dats m 0 c).arrAt 8 cfg0.N = resDk (x.pad 2176) := by
  refine (dats m 0 c).arrAt_eq_of_covers 8 _ (by decide +kernel) fun t hf y => ?_
  obtain ⟨-, -, -, -, -, -, -, -, e, -⟩ := idx t
  have hy : ix2 (row t (y 0)) (⟨t.val / 17 * 256 + (y 1).val, pair_lt t (y 1)⟩ : Fin 1024) = ((cfg0.win 8).blk t).view.emb y := by
    blk_ext [e, row]
  refine Eq.trans ?_ (congrArg (resDk (x.pad 2176)) hy)
  blk_simp
  rw [after0_8]
  refine (tile_dk given t y).trans ?_
  unfold resDk
  rw [head_half t (y 1), lane_pair t (y 1)]
  rfl

theorem final_dv : (dats m 0 c).arrAt 9 cfg0.N = resDv (x.pad 2176) := by
  refine (dats m 0 c).arrAt_eq_of_covers 9 _ (by decide +kernel) fun t hf y => ?_
  obtain ⟨-, -, -, -, -, -, -, -, -, e, -⟩ := idx t
  have hy : ix2 (row t (y 0)) (⟨t.val / 17 * 256 + (y 1).val, pair_lt t (y 1)⟩ : Fin 1024) = ((cfg0.win 9).blk t).view.emb y := by
    blk_ext [e, row]
  refine Eq.trans ?_ (congrArg (resDv (x.pad 2176)) hy)
  blk_simp
  rw [after0_9]
  refine (tile_dv given t y).trans ?_
  unfold resDv
  rw [head_half t (y 1), lane_pair t (y 1)]
  rfl

theorem final_dcumk : (dats m 0 c).arrAt 10 cfg0.N = resDcumk (x.pad 2176) := by
  refine (dats m 0 c).arrAt_eq_of_covers 10 _ (by decide +kernel) fun t hf y => ?_
  obtain ⟨-, -, -, -, -, -, -, -, -, -, e⟩ := idx t
  have hy : ix3 (head t (y 0)) (row t (y 1)) (0 : Fin 1) = ((cfg0.win 10).blk t).view.emb y := by blk_ext [e, row, head]
  refine Eq.trans ?_ (congrArg (resDcumk (x.pad 2176)) hy)
  blk_simp
  rw [after0_10]
  exact tile_dcumk given t y

end Cert.KernelAttnKvIdeal.Final
end
-- ==== Proof.AttnKv.Reference.lean ====
module

public import proofs.«01_k».proof.Proof.Gen.ReferenceAttnKvIdeal.Read
public import proofs.«01_k».proof.Proof.Attention.Softmax
public import proofs.«01_k».proof.Proof.AttnKv.Arrays

@[expose] public section

set_option maxRecDepth 16384

noncomputable section

open Idealize.ShloMosaic Idealize.ShloMosaic.TcCoe Idealize.SL.Sem
open Idealize.ShloMosaic.Pipeline (Dat)
open scoped BigOperators

namespace Cert.ReferenceAttnKvIdeal.Final

open Cert.ReferenceAttnKvIdeal Cert.ReferenceAttnKvIdeal.Value Cert.ReferenceAttnKvIdeal.Read Cert.Attention Cert.KernelAttnKvIdeal.Final

variable {q k v : FVec Ideal Heads .f32} {cum : FVec Ideal Decays .f32} {ct : FVec Ideal Heads .f32} {x : Inputs 2064}
  (given : Holds q k v cum ct x)
include given

theorem scores (h : Fin 8) (i j : Fin 2064) : val_main_v15_0 (F := Ideal) q k cum (ix3 h i j)
    = if j.val ≤ i.val then (x.score h i j : EReal) else ⊥ := by
  pointwise [val_main_v15_0, val_main_v15_1, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_call0_v0, val_main_call0_v2]
  simp only [given.q, given.k, given.cum, scale_word, bot_word, ← EReal.coe_mul, ← EReal.coe_sub, ← EReal.coe_add, ← Reals.coe_sum]
  word_cmp
  rfl

theorem rows : Rows x (fun h i j => val_main_v36 (F := Ideal) q k cum (ix3 h i j)) (fun h i => val_main_v37 (F := Ideal) q k cum (ix2 h i)) :=
  softmax_rows (val_main_v15_0 (F := Ideal) q k cum) (scores given)

theorem probs (h : Fin 8) (i j : Fin 2064) : val_main_v40 (F := Ideal) q k cum (ix3 h i j) = (x.prob h i j : EReal) := by
  pointwise [val_main_v40, val_main_v39, val_main_v38]
  exact (rows given).prob h i j

theorem dprobs (h : Fin 8) (i j : Fin 2064) : val_main_v47 (F := Ideal) v ct (ix3 h i j) = (x.dprob h i j : EReal) := by
  pointwise [val_main_v47, val_main_v46]
  simp only [given.v, given.ct, ← EReal.coe_mul, ← Reals.coe_sum]
  rfl

theorem dscores (h : Fin 8) (i j : Fin 2064) : val_main_v62 (F := Ideal) q k v cum ct (ix3 h i j) = (x.dscore h i j : EReal) := by
  pointwise [val_main_v62, val_main_v15_1, val_main_v14, val_main_v13, val_main_v12, val_main_v11, val_main_v10, val_main_v0, val_main_v61, val_main_v60, val_main_v59, val_main_v58, val_main_v57, val_main_v56, val_main_v55, val_main_v54, val_main_v53, val_main_v52, val_main_v51, val_main_v50, val_main_v45, val_main_v44, val_main_v43, val_main_v42, val_main_v41, val_main_v38, val_main_cst_10, val_main_cst_11, val_main_cst_12, val_main_call1_v0, val_main_call1_cst]
  simp only [dprobs given, one_word]
  word_cmp
  split
  · rw [Fin.sum_univ_one]; exact (rows given).dscore h i j
  · rw [x.dscore_eq_zero h (by omega)]; rfl

theorem dks (j : Fin 2064) (h : Fin 8) (e : Fin 128) : val_main_v70 (F := Ideal) q k v cum ct (ix3 j h e) = (x.dk j h e : EReal) := by
  pointwise [val_main_v70, val_main_v69, val_main_v68, val_main_v67, val_main_cst_15]
  simp only [dscores given, given.q, scale_word, ← EReal.coe_mul, ← Reals.coe_sum]
  rfl

theorem dvs (j : Fin 2064) (h : Fin 8) (e : Fin 128) : val_main_v49 (F := Ideal) q k cum ct (ix3 j h e) = (x.dv j h e : EReal) := by
  pointwise [val_main_v49, val_main_v48, val_main_v46]
  simp only [probs given, given.ct, ← EReal.coe_mul, ← Reals.coe_sum]
  exact congrArg Real.toEReal (Finset.sum_congr rfl fun i _ => mul_comm _ _)

theorem dcumks (h : Fin 8) (j : Fin 2064) : val_main_v66 (F := Ideal) q k v cum ct (ix2 h j) = (x.dcumk h j : EReal) := by
  pointwise [val_main_v66, val_main_v65, val_main_v64, val_main_v63, val_main_cst_13, val_main_cst_14]
  rw [Fin.sum_univ_one]
  simp only [dscores given, ← Reals.coe_sum, ← EReal.coe_neg]
  rfl

theorem ref_dk_at (a : Fin 2176) (b : Fin 1024) : val_main_v72 (F := Ideal) q k v cum ct (ix2 a b) = resDk (x.pad 2176) (ix2 a b) := by
  refine Eq.trans ?_ (congrArg Real.toEReal (x.pad_dk (by norm_num) a _ _)).symm
  pointwise [val_main_v72, val_main_v71, val_main_call2_v0, val_main_c]
  split
  · exact dks given _ _ _
  · exact sitofp_zero

theorem ref_dk : val_main_v72 (F := Ideal) q k v cum ct = resDk (x.pad 2176) :=
  funext fun y => by rw [eq_ix2 y]; exact ref_dk_at given (y 0) (y 1)

theorem ref_dv_at (a : Fin 2176) (b : Fin 1024) : val_main_v75 (F := Ideal) q k cum ct (ix2 a b) = resDv (x.pad 2176) (ix2 a b) := by
  refine Eq.trans ?_ (congrArg Real.toEReal (x.pad_dv (by norm_num) a _ _)).symm
  pointwise [val_main_v75, val_main_v74, val_main_v73, val_main_call3_v0, val_main_c_16]
  split
  · exact dvs given _ _ _
  · exact sitofp_zero

theorem ref_dv : val_main_v75 (F := Ideal) q k cum ct = resDv (x.pad 2176) :=
  funext fun y => by rw [eq_ix2 y]; exact ref_dv_at given (y 0) (y 1)

theorem ref_dcumk_at (a : Fin 8) (b : Fin 2176) (d : Fin 1) : val_main_v77 (F := Ideal) q k v cum ct (ix3 a b d) = resDcumk (x.pad 2176) (ix3 a b d) := by
  refine Eq.trans ?_ (congrArg Real.toEReal (x.pad_dcumk (by norm_num) a b)).symm
  pointwise [val_main_v77, val_main_v76, val_main_call4_v0, val_main_c_17]
  split
  · exact dcumks given _ _
  · exact sitofp_zero

theorem ref_dcumk : val_main_v77 (F := Ideal) q k v cum ct = resDcumk (x.pad 2176) :=
  funext fun y => by rw [eq_ix3 y]; exact ref_dcumk_at given (y 0) (y 1) (y 2)

end Cert.ReferenceAttnKvIdeal.Final
end
-- ==== Proof.AttnKv.Claims.lean ====
module

public import proofs.«01_k».proof.Defs
public import proofs.«01_k».proof.Proof.AttnKv.Reference
public import proofs.«01_k».proof.Proof.Gen.KernelAttnKvIdeal.Frame

@[expose] public section

set_option maxRecDepth 16384

noncomputable section

open Idealize.ShloMosaic Idealize.ShloMosaic.TcCoe Idealize.SL.Sem
open Idealize.ShloMosaic.Pipeline (Dat)
open scoped BigOperators

namespace Cert.Proof.AttnKv

open Cert.KernelAttnKvIdeal.Final Cert.Attention

theorem frame_kernel_finite : Cert.quiescent_KernelAttnKvIdeal_pre_attention_finite :=
  fun m g _ => Cert.KernelAttnKvIdeal.Gen.frame m g

theorem frame_reference : Cert.quiescent_ReferenceAttnKvIdeal := by
  intro m g _
  exact (θ_run _ _ _).mono (fun r h => ⟨fun c => (h c).2.2.2, sem_eq_zero_of_no_sems (by decide) r.2⟩)
    (Cert.ReferenceAttnKvIdeal.Value.run m g)

theorem frame_reference_finite : Cert.quiescent_ReferenceAttnKvIdeal_pre_attention_finite :=
  fun m g _ => frame_reference m g trivial

theorem preserves : Cert.preserves_KernelAttnKv_KernelAttnKvIdeal := IdealRules.named_const.statement _ _ _ _ _ rfl

theorem equal : Cert.algebraic_KernelAttnKvIdeal_ReferenceAttnKvIdeal_pre_attention_finite := by
  intro m g m' g' finite hag
  choose x given using fun c => holds_of_finite _ _ _ _ _ (finite c)
  refine ⟨fun c => resDk ((x c).pad 2176), fun c => resDv ((x c).pad 2176), fun c => resDcumk ((x c).pad 2176), ?_, ?_⟩
  · refine (θ_run _ _ _).mono (fun r h c => ?_) (Cert.KernelAttnKvIdeal.Value.run_blocks m g)
    exact ⟨(h c).1.trans (final_dk (given c)), (h c).2.1.trans (final_dv (given c)), (h c).2.2.1.trans (final_dcumk (given c)),
      (h c).2.2.2⟩
  · refine (θ_run _ _ _).mono (fun r h c => ?_) (Cert.ReferenceAttnKvIdeal.Value.run m' g')
    have e := h c
    obtain ⟨a0, a1, a2, a3, a4⟩ := hag c
    have given' := given c
    rw [← a0, ← a1, ← a2, ← a3, ← a4] at given'
    exact ⟨e.1.trans (Cert.ReferenceAttnKvIdeal.Final.ref_dk given'), e.2.1.trans (Cert.ReferenceAttnKvIdeal.Final.ref_dv given'), e.2.2.1.trans (Cert.ReferenceAttnKvIdeal.Final.ref_dcumk given'),
      (h c).2.2.2⟩

end Cert.Proof.AttnKv
end
-- ==== Proof.Norm.Math.lean ====
module

public import proofs.«01_k».proof.Proof.Finite

@[expose] public section

set_option maxRecDepth 16384

noncomputable section

open Idealize.ShloMosaic Idealize.ShloMosaic.TcCoe Idealize.SL.Sem
open Idealize.ShloMosaic.Pipeline (Dat)
open scoped BigOperators

namespace Cert.Norm

/-! The root-mean-square norm of one row of `n` reals and its gradient. -/

def eps : ℝ := 8796093 / 8796093022208

theorem eps_word : Ideal.ofBits .f32 0x358637BD#32 = (eps : EReal) := by
  unfold eps
  simp [Ideal.ofBits, Ideal.ieee, -EReal.coe_mul]; norm_num
theorem minus_half : Ideal.ofBits .f32 0xBF000000#32 = ((-(1 / 2) : ℝ) : EReal) := by
  simp [Ideal.ofBits, Ideal.ieee, -EReal.coe_mul]; norm_num
theorem n128 : Ideal.ofBits .f32 0x43000000#32 = ((128 : ℝ) : EReal) := by
  simp [Ideal.ofBits, Ideal.ieee, -EReal.coe_mul]; norm_num

variable {n : ℕ} (x w : Fin n → ℝ)

/-- What the square root is taken of. -/
def power : ℝ := (∑ j, x j * x j) / n + eps
/-- The reciprocal of the root mean square. -/
def inv : ℝ := (Real.sqrt (power x))⁻¹
/-- How much of the row its own gradient takes away. -/
def coeff : ℝ := inv x * inv x * inv x * ((∑ j, w j * x j) / n)
/-- The gradient of the row when `w` is the cotangent times the gain. -/
def back (j : Fin n) : ℝ := inv x * w j - x j * coeff x w

theorem power_pos : 0 < power x := by
  have e : (0 : ℝ) < eps := by unfold eps; norm_num
  have s : (0 : ℝ) ≤ (∑ j, x j * x j) / n := div_nonneg (Finset.sum_nonneg fun j _ => mul_self_nonneg _) (Nat.cast_nonneg n)
  unfold power; linarith

theorem inv_div : inv x / power x = inv x * inv x * inv x := by
  have p := power_pos x
  have s : inv x * inv x = (power x)⁻¹ := by
    unfold inv; rw [← mul_inv, Real.mul_self_sqrt p.le]
  rw [s, div_eq_inv_mul]

theorem rsqrt_power : Ideal.rsqrt (power x : EReal) = (inv x : EReal) := by
  have p := power_pos x
  rw [Ideal.rsqrt_coe, if_neg p.not_gt, if_neg p.ne']; rfl

theorem power_coe {N : ℝ} (hN : N = n) (pos : N ≠ 0) :
    Ideal.div (∑ j, (x j : EReal) * (x j : EReal)) (N : EReal) + (eps : EReal) = (power x : EReal) := by
  simp only [← EReal.coe_mul, ← Reals.coe_sum]
  rw [Reals.div_coe_coe _ pos, ← EReal.coe_add, hN]; rfl

/-- The gradient as the kernel writes it, on top of what arrives past the norm. -/
theorem back_kernel {N : ℝ} (hN : N = n) (pos : N ≠ 0) (d : EReal) (j : Fin n) :
    d + (inv x : EReal) * (w j : EReal)
        - (x j : EReal) * ((inv x : EReal) * (inv x : EReal) * (inv x : EReal) * Ideal.div (∑ j, (w j : EReal) * (x j : EReal)) (N : EReal))
      = d + (back x w j : EReal) := by
  simp only [← EReal.coe_mul, ← Reals.coe_sum]
  rw [Reals.div_coe_coe _ pos, hN]
  simp only [← EReal.coe_mul]
  rw [sub_eq_add_neg, add_assoc, ← EReal.coe_neg, ← EReal.coe_add, ← sub_eq_add_neg]; rfl

/-- The share of the gradient that goes through the mean square, as the derivative of the reciprocal root gives it. -/
theorem through_mean {N : ℝ} (hN : N = n) (pos : N ≠ 0) :
    Ideal.div ((∑ j, (x j : EReal) * (w j : EReal)) * (((-(1 / 2) : ℝ) : EReal) * Ideal.div (inv x : EReal) (power x : EReal))) (N : EReal)
      = ((-(1 / 2) * coeff x w : ℝ) : EReal) := by
  rw [Reals.div_coe_coe _ (power_pos x).ne', inv_div]
  simp only [← EReal.coe_mul, ← Reals.coe_sum]
  rw [Reals.div_coe_coe _ pos, hN]
  refine congrArg _ ?_
  unfold coeff
  rw [show ∑ j, x j * w j = ∑ j, w j * x j from Finset.sum_congr rfl fun j _ => mul_comm _ _]
  ring

theorem back_reference (d : EReal) (j : Fin n) :
    d + (w j : EReal) * (inv x : EReal) + (x j : EReal) * ((-(1 / 2) * coeff x w : ℝ) : EReal)
        + ((-(1 / 2) * coeff x w : ℝ) : EReal) * (x j : EReal) = d + (back x w j : EReal) := by
  simp only [← EReal.coe_mul]
  rw [add_assoc, add_assoc, ← EReal.coe_add, ← EReal.coe_add]
  refine congrArg (d + ·) (congrArg _ ?_)
  unfold back; ring

/-- The same two for a row that nothing passes by. -/
theorem back_kernel_alone {N : ℝ} (hN : N = n) (pos : N ≠ 0) (j : Fin n) :
    (inv x : EReal) * (w j : EReal)
        - (x j : EReal) * ((inv x : EReal) * (inv x : EReal) * (inv x : EReal) * Ideal.div (∑ j, (w j : EReal) * (x j : EReal)) (N : EReal))
      = (back x w j : EReal) := by
  simpa only [zero_add] using back_kernel x w hN pos 0 j

theorem back_reference_alone (j : Fin n) :
    (w j : EReal) * (inv x : EReal) + (x j : EReal) * ((-(1 / 2) * coeff x w : ℝ) : EReal)
        + ((-(1 / 2) * coeff x w : ℝ) : EReal) * (x j : EReal) = (back x w j : EReal) := by
  simpa only [zero_add] using back_reference x w 0 j

theorem back_zero (j : Fin n) : back (fun _ => 0) (fun _ => 0) j = 0 := by simp [back]

end Cert.Norm
end
-- ==== Proof.Rms.Finite.lean ====
module

public import proofs.«01_k».proof.Pre_rms_finite
public import proofs.«01_k».proof.Proof.Norm.Math
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open scoped BigOperators

namespace Cert.Rms

/-! Arguments that satisfy the precondition are arrays of real numbers. -/

abbrev Rows : Shape := ⟨2, ![2064, 2048]⟩
abbrev Gain : Shape := ⟨2, ![1, 2048]⟩

/-- The rows, the gain and the cotangent as reals. -/
structure Inputs where
  h : Fin 2064 → Fin 2048 → ℝ
  g : Fin 2048 → ℝ
  dn : Fin 2064 → Fin 2048 → ℝ

structure Holds (h : FVec Ideal Rows .f32) (g : FVec Ideal Gain .f32) (dn : FVec Ideal Rows .f32) (x : Inputs) : Prop where
  h : ∀ i j, h (ix2 i j) = (x.h i j : EReal)
  g : ∀ i j, g (ix2 i j) = (x.g j : EReal)
  dn : ∀ i j, dn (ix2 i j) = (x.dn i j : EReal)

/-- What the printed precondition needs of its shapes. -/
instance facts : Cert.Pre_rms_finite.Facts := ⟨by decide, by decide, by decide, by decide, by decide⟩

open Cert.Pre_rms_finite in
theorem holds_of_finite (h : FVec Ideal Rows .f32) (g : FVec Ideal Gain .f32) (dn dp : FVec Ideal Rows .f32)
    (given : fn (F := Ideal) h g dn dp = fun _ => 1#1) : ∃ x, Holds h g dn x := by
  have e := congrFun given ix0
  simp only [fn] at e
  obtain ⟨e, ed⟩ := IntOp.andi_eq_one.1 e
  obtain ⟨eh, eg⟩ := IntOp.andi_eq_one.1 e
  refine ⟨⟨fun i j => (h (ix2 i j) : EReal).toReal, fun j => (g (ix2 0 j) : EReal).toReal, fun i j => (dn (ix2 i j) : EReal).toReal⟩, ?_, ?_, ?_⟩
  · exact fun i j => Reals.real_of_abs_lt h _ (fun _ => Reals.inf_word) _ (Host.reduce_andi_all _ _ _ _ _ eh _)
  · intro i j
    obtain rfl : i = 0 := Subsingleton.elim _ _
    exact Reals.real_of_abs_lt g _ (fun _ => Reals.inf_word) _ (Host.reduce_andi_all _ _ _ _ _ eg _)
  · exact fun i j => Reals.real_of_abs_lt dn _ (fun _ => Reals.inf_word) _ (Host.reduce_andi_all _ _ _ _ _ ed _)

/-- A row continued by rows of zeros. -/
def padRow (a : Fin 2064 → Fin 2048 → ℝ) (i : Fin 2176) (j : Fin 2048) : ℝ := if p : i.val < 2064 then a ⟨i.val, p⟩ j else 0

end Cert.Rms
end
-- ==== Proof.Rms.Arrays.lean ====
module

public import proofs.«01_k».proof.Proof.Rms.Finite
public import proofs.«01_k».proof.Proof.Gen.KernelRmsIdeal.Value
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.KernelRmsIdeal.Final

open Cert.KernelRmsIdeal Cert.KernelRmsIdeal.Gen Cert.Rms Cert.Norm

/-- The four arguments as a device holds them. -/
abbrev argH (m : (ℓ : Loc nD τ sig) → Buf (Elt Ideal) ℓ) (c : Dev nD) : FVec Ideal S2064x2048 .f32 := m ((c.tc : Thread nD τ).loc main_arg0)
abbrev argG (m : (ℓ : Loc nD τ sig) → Buf (Elt Ideal) ℓ) (c : Dev nD) : FVec Ideal S1x2048 .f32 := m ((c.tc : Thread nD τ).loc main_arg1)
abbrev argDn (m : (ℓ : Loc nD τ sig) → Buf (Elt Ideal) ℓ) (c : Dev nD) : FVec Ideal S2064x2048 .f32 := m ((c.tc : Thread nD τ).loc main_arg2)
abbrev argDp (m : (ℓ : Loc nD τ sig) → Buf (Elt Ideal) ℓ) (c : Dev nD) : FVec Ideal S2064x2048 .f32 := m ((c.tc : Thread nD τ).loc main_arg3)

/-- The gradient that arrives past the norm, zero on the padding rows. -/
def past (dp : FVec Ideal S2064x2048 .f32) (i : Fin 2176) (j : Fin 2048) : EReal := if p : i.val < 2064 then dp (ix2 ⟨i.val, p⟩ j) else 0

/-- The gradient of the rows. -/
def resDh (x : Inputs) (dp : FVec Ideal S2064x2048 .f32) : FVec Ideal S2176x2048 .f32 := fun i =>
  past dp (i 0) (i 1) + (back (padRow x.h (i 0)) (fun j => padRow x.dn (i 0) j * x.g j) (i 1) : EReal)
/-- The gradient of the gain. -/
def resDg (x : Inputs) : FVec Ideal S1x2048 .f32 := fun i =>
  ∑ r : Fin 2176, ((padRow x.dn r (i 1) * (padRow x.h r (i 1) * inv (padRow x.h r)) : ℝ) : EReal)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

/-- The rows of the tile that a grid point reads. -/
def row (t : Fin cfg0.N) (r : Fin 272) : Fin 2176 := ⟨t.val * 272 + r.val, by have := t.isLt.trans_eq N_0; omega⟩

variable {m : (ℓ : Loc nD τ sig) → Buf (Elt Ideal) ℓ} {c : Dev nD} {x : Inputs} (given : Holds (argH m c) (argG m c) (argDn m c) x)

theorem host_past (i : Fin 2176) (j : Fin 2048) : V m c main_v13 (ix2 i j) = past (argDp m c) i j := by
  entry_read
  pointwise []
  rfl

include given

theorem host_rows (i : Fin 2176) (j : Fin 2048) : V m c main_v1 (ix2 i j) = (padRow x.h i j : EReal) := by
  entry_read
  pointwise []
  unfold padRow
  split
  · exact given.h _ _
  · rfl

theorem host_dn (i : Fin 2176) (j : Fin 2048) : V m c main_v11 (ix2 i j) = (padRow x.dn i j : EReal) := by
  entry_read
  pointwise []
  unfold padRow
  split
  · exact given.dn _ _
  · rfl

theorem host_inv (i : Fin 2176) (b : Fin 1) : V m c main_v9 (ix2 i b) = (inv (padRow x.h i) : EReal) := by
  rw [← rsqrt_power, ← power_coe (padRow x.h i) (N := 2048) (by norm_num) (by norm_num)]
  entry_read
  pointwise []
  have e (j : Fin 2048) : (if p : i.val < 2064 then argH m c (ix2 ⟨i.val, p⟩ j) else 0) = (padRow x.h i j : EReal) := by
    unfold padRow
    split
    · exact given.h _ _
    · rfl
  simp only [e, Reals.n2048, eps_word]

variable (t : Fin cfg0.N)

theorem read_dn (r : Fin 272) (j : Fin 2048) : iblk m c 0 t (ix2 r j) = (padRow x.dn (row t r) j : EReal) := by
  refine Eq.trans ?_ (host_dn given (row t r) j)
  obtain ⟨e, -⟩ := idx t
  blk_ext [iblk, e, row]

theorem read_rows (r : Fin 272) (j : Fin 2048) : iblk m c 1 t (ix2 r j) = (padRow x.h (row t r) j : EReal) := by
  refine Eq.trans ?_ (host_rows given (row t r) j)
  obtain ⟨-, e, -⟩ := idx t
  blk_ext [iblk, e, row]

theorem read_inv (r : Fin 272) (j : Fin 1) : iblk m c 2 t (ix2 r j) = (inv (padRow x.h (row t r)) : EReal) := by
  refine Eq.trans ?_ (host_inv given (row t r) j)
  obtain ⟨-, -, e, -⟩ := idx t
  blk_ext [iblk, e, row]

theorem read_gain (b : Fin 1) (j : Fin 2048) : iblk m c 3 t (ix2 b j) = (x.g j : EReal) := by
  refine Eq.trans ?_ (given.g b j)
  obtain ⟨-, -, -, e, -⟩ := idx t
  blk_ext [iblk, e, row]

omit given in
theorem read_past (r : Fin 272) (j : Fin 2048) : iblk m c 4 t (ix2 r j) = past (argDp m c) (row t r) j := by
  refine Eq.trans ?_ (host_past (row t r) j)
  obtain ⟨-, -, -, -, e, -⟩ := idx t
  blk_ext [iblk, e, row]

theorem tile_dh (r : Fin 272) (j : Fin 2048) :
    k0_pay5 (iblk m c 0 t) (iblk m c 1 t) (iblk m c 2 t) (iblk m c 3 t) (iblk m c 4 t) (ix2 r j) = resDh x (argDp m c) (ix2 (row t r) j) := by
  pointwise [k0_pay5, k0_pay2, k0_pay3, k0_pay4]
  rw [read_past t r j, Reals.n2048]
  simp only [read_inv given, read_dn given, read_gain given, read_rows given, ← EReal.coe_mul (padRow x.dn _ _)]
  exact back_kernel (padRow x.h (row t r)) (fun j => padRow x.dn (row t r) j * x.g j) (by norm_num) (by norm_num) _ j

/-- What one tile of rows adds to the gradient of the gain. -/
theorem tile_dg (b : Fin 1) (j : Fin 2048) :
    k0_pay7 (iblk m c 0 t) (iblk m c 1 t) (iblk m c 2 t) (ix2 b j)
      = ∑ r : Fin 272, ((padRow x.dn (row t r) j * (padRow x.h (row t r) j * inv (padRow x.h (row t r))) : ℝ) : EReal) := by
  pointwise [k0_pay7, k0_pay2, k0_pay3, k0_pay4]
  simp only [read_inv given, read_dn given, read_rows given, ← EReal.coe_mul]

theorem final_dh : (dats m 0 c).arrAt 5 cfg0.N = resDh x (argDp m c) := by
  refine (dats m 0 c).arrAt_eq_of_covers 5 _ (by decide +kernel) fun t hf y => ?_
  obtain ⟨-, -, -, -, -, e, -⟩ := idx t
  have hy : ix2 (row t (y 0)) (y 1) = ((cfg0.win 5).blk t).view.emb y := by blk_ext [e, row]
  have ht := t.isLt.trans_eq N_0
  refine Eq.trans ?_ (congrArg (resDh x (argDp m c)) hy)
  blk_simp
  rw [after0_5]
  by_cases k : t.val % 8 = 0
  · rw [outsAt0_A m c t k (by omega)]
    frame_out
    exact (congrArg _ (eq_ix2 y)).trans (tile_dh given t (y 0) (y 1))
  · rw [outsAt0_B m c t k (by omega)]
    frame_out
    exact (congrArg _ (eq_ix2 y)).trans (tile_dh given t (y 0) (y 1))

theorem final_dhb : (dats m 0 c).arrAt 6 cfg0.N = resDh x (argDp m c) := by
  refine (dats m 0 c).arrAt_eq_of_covers 6 _ (by decide +kernel) fun t hf y => ?_
  obtain ⟨-, -, -, -, -, -, e, -⟩ := idx t
  have hy : ix2 (row t (y 0)) (y 1) = ((cfg0.win 6).blk t).view.emb y := by blk_ext [e, row]
  have ht := t.isLt.trans_eq N_0
  refine Eq.trans ?_ (congrArg (resDh x (argDp m c)) hy)
  blk_simp
  rw [after0_6]
  by_cases k : t.val % 8 = 0
  · rw [outsAt0_A m c t k (by omega)]
    frame_out
    exact (congrArg _ (eq_ix2 y)).trans (tile_dh given t (y 0) (y 1))
  · rw [outsAt0_B m c t k (by omega)]
    frame_out
    exact (congrArg _ (eq_ix2 y)).trans (tile_dh given t (y 0) (y 1))

theorem final_dg : (dats m 0 c).arrAt 7 cfg0.N = resDg x := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => ∑ r : Fin 272, ((padRow x.dn (row t r) (j 1) * (padRow x.h (row t r) (j 1) * inv (padRow x.h (row t r))) : ℝ) : EReal))
    (fun t h j => by
      have := t.isLt.trans_eq N_0
      rw [outsAt0_A m c t h (by omega)]; frame_out
      exact (congrArg _ (eq_ix2 j)).trans ((tile_dg given t (j 0) (j 1)).trans (zero_add _).symm))
    (fun t h j => by
      rw [outsAt0_B m c t h (by omega)]; frame_out; pointwise [k0_pay1]
      exact congrArg _ ((congrArg _ (eq_ix2 j)).trans (tile_dg given t (j 0) (j 1)))) (le_of_eq N_0) t0_7 rfl j, zero_add]
  exact Reals.sum_tiles (a := 8) (b := 272) rfl _ _ fun p r k => rfl

end Cert.KernelRmsIdeal.Final
end
-- ==== Proof.Rms.Reference.lean ====
module

public import proofs.«01_k».proof.Proof.Gen.ReferenceRmsIdeal.Read
public import proofs.«01_k».proof.Proof.Rms.Arrays

@[expose] public section

set_option maxRecDepth 16384

noncomputable section

open Idealize.ShloMosaic Idealize.ShloMosaic.TcCoe Idealize.SL.Sem
open Idealize.ShloMosaic.Pipeline (Dat)
open scoped BigOperators

namespace Cert.ReferenceRmsIdeal.Final

open Cert.ReferenceRmsIdeal Cert.ReferenceRmsIdeal.Value Cert.ReferenceRmsIdeal.Read Cert.Rms Cert.Norm Cert.KernelRmsIdeal.Final

variable {h : FVec Ideal Rows .f32} {g : FVec Ideal Gain .f32} {dn : FVec Ideal Rows .f32} {x : Inputs} (given : Holds h g dn x)
  (dp : FVec Ideal Rows .f32)

/-- The cotangent times the gain, row by row. -/
abbrev weighted (x : Inputs) (i : Fin 2064) (j : Fin 2048) : ℝ := x.dn i j * x.g j

include given

theorem powers (i : Fin 2064) (b : Fin 1) : val_main_v7 (F := Ideal) h (ix2 i b) = (power (x.h i) : EReal) := by
  rw [← power_coe (x.h i) (N := 2048) (by norm_num) (by norm_num)]
  pointwise [val_main_v7, val_main_v6, val_main_v5, val_main_v4, val_main_v3, val_main_v2, val_main_v1, val_main_cst, val_main_cst_0, val_main_cst_1]
  simp only [given.h, Reals.n2048, eps_word]

theorem invs (i : Fin 2064) (b : Fin 1) : val_main_v8 (F := Ideal) h (ix2 i b) = (inv (x.h i) : EReal) := by
  rw [← rsqrt_power, ← powers given i b]
  pointwise [val_main_v8]

theorem means (i : Fin 2064) (b : Fin 2048) :
    val_main_v33 (F := Ideal) h g dn (ix2 i b) = ((-(1 / 2) * coeff (x.h i) (weighted x i) : ℝ) : EReal) := by
  rw [← through_mean (x.h i) (weighted x i) (N := 2048) (by norm_num) (by norm_num)]
  pointwise [val_main_v33, val_main_v32, val_main_v31, val_main_v30, val_main_v29, val_main_v25, val_main_v24, val_main_v23, val_main_v21, val_main_v20, val_main_v14, val_main_v0, val_main_v11, val_main_v10, val_main_v9, val_main_cst_2, val_main_cst_5, val_main_cst_6, val_main_cst_7]
  rw [Fin.sum_univ_one]
  simp only [invs given, powers given, given.h, given.g, given.dn, Reals.n2048, minus_half, ← EReal.coe_mul (x.dn _ _)]

theorem rows (i : Fin 2064) (j : Fin 2048) :
    val_main_v37 (F := Ideal) h g dn dp (ix2 i j) = dp (ix2 i j) + (back (x.h i) (weighted x i) j : EReal) := by
  rw [← back_reference]
  pointwise [val_main_v37, val_main_v36, val_main_v35, val_main_v34, val_main_v28, val_main_v27, val_main_v26, val_main_v21, val_main_v20, val_main_v14, val_main_v0]
  simp only [invs given, means given, given.h, given.g, given.dn, ← EReal.coe_mul (x.dn _ _)]

theorem ref_dh_at (i : Fin 2176) (j : Fin 2048) : val_main_v39 (F := Ideal) h g dn dp (ix2 i j) = resDh x dp (ix2 i j) := by
  show _ = past dp i j + (back (padRow x.h i) (fun j => padRow x.dn i j * x.g j) j : EReal)
  pointwise [val_main_v39, val_main_call0_v0, val_main_c]
  unfold past padRow
  split
  · exact rows given dp _ _
  · simp only [zero_mul, back_zero, EReal.coe_zero, add_zero]; exact Reals.sitofp_zero

theorem ref_dh : val_main_v39 (F := Ideal) h g dn dp = resDh x dp :=
  funext fun y => by rw [eq_ix2 y]; exact ref_dh_at given dp (y 0) (y 1)

theorem ref_dhb : val_main_v40 (F := Ideal) h g dn dp = resDh x dp :=
  (funext fun _ => rfl : _ = val_main_v39 (F := Ideal) h g dn dp).trans (ref_dh given dp)

theorem ref_dg_at (b : Fin 1) (j : Fin 2048) : val_main_v38 (F := Ideal) h dn (ix2 b j) = resDg x (ix2 b j) := by
  show _ = ∑ r : Fin 2176, ((padRow x.dn r j * (padRow x.h r j * inv (padRow x.h r)) : ℝ) : EReal)
  pointwise [val_main_v38, val_main_v22, val_main_v19, val_main_v18, val_main_v17, val_main_v13, val_main_v12, val_main_cst_3, val_main_cst_4]
  rw [Fin.sum_univ_one, Reals.sum_window (n := 2176) (w := 2064) 0 (by norm_num) _ (fun i => ((x.dn i j * (x.h i j * Norm.inv (x.h i)) : ℝ) : EReal))
    (fun i p => by rw [show padRow x.h ⟨0 + i.val, p⟩ = x.h i from funext fun k => by simp [padRow]]; simp [padRow]) (fun i p => by rw [padRow, dif_neg (by omega), zero_mul, EReal.coe_zero])]
  simp only [invs given, given.h, given.dn, ← EReal.coe_mul]
  exact Finset.sum_congr rfl fun i _ => by rw [mul_comm]

theorem ref_dg : val_main_v38 (F := Ideal) h dn = resDg x :=
  funext fun y => by rw [eq_ix2 y]; exact ref_dg_at given (y 0) (y 1)

end Cert.ReferenceRmsIdeal.Final
end
-- ==== Proof.Rms.Claims.lean ====
module

public import proofs.«01_k».proof.Proof.Rms.Reference
public import proofs.«01_k».proof.Proof.Gen.KernelRmsIdeal.Frame
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Proof.Rms

open Cert.KernelRmsIdeal.Final Cert.Rms

theorem frame_kernel_finite : Cert.quiescent_KernelRmsIdeal_pre_rms_finite :=
  fun m g _ => Cert.KernelRmsIdeal.Gen.frame m g

theorem frame_reference : Cert.quiescent_ReferenceRmsIdeal := by
  intro m g _
  exact (θ_run _ _ _).mono (fun r h => ⟨fun c => (h c).2.2.2, sem_eq_zero_of_no_sems (by decide) r.2⟩)
    (Cert.ReferenceRmsIdeal.Value.run m g)

theorem frame_reference_finite : Cert.quiescent_ReferenceRmsIdeal_pre_rms_finite :=
  fun m g _ => frame_reference m g trivial

theorem equal : Cert.algebraic_KernelRmsIdeal_ReferenceRmsIdeal_pre_rms_finite := by
  intro m g m' g' finite hag
  choose x given using fun c => holds_of_finite _ _ _ _ (finite c)
  refine ⟨fun c => resDh (x c) (argDp m c), fun c => resDh (x c) (argDp m c), fun c => resDg (x c), ?_, ?_⟩
  · refine (θ_run _ _ _).mono (fun r h c => ?_) (Cert.KernelRmsIdeal.Value.run_blocks m g)
    exact ⟨(h c).1.trans (final_dh (given c)), (h c).2.1.trans (final_dhb (given c)), (h c).2.2.1.trans (final_dg (given c)),
      (h c).2.2.2⟩
  · refine (θ_run _ _ _).mono (fun r h c => ?_) (Cert.ReferenceRmsIdeal.Value.run m' g')
    have e := h c
    obtain ⟨a0, a1, a2, a3⟩ := hag c
    have given' := given c
    rw [← a0, ← a1, ← a2] at given'
    exact ⟨e.1.trans ((Cert.ReferenceRmsIdeal.Final.ref_dh given' _).trans (congrArg (resDh (x c)) a3)), e.2.1.trans ((Cert.ReferenceRmsIdeal.Final.ref_dhb given' _).trans (congrArg (resDh (x c)) a3)), e.2.2.1.trans (Cert.ReferenceRmsIdeal.Final.ref_dg given'),
      (h c).2.2.2⟩

end Cert.Proof.Rms
end
-- ==== Proof.QkNorm.Finite.lean ====
module

public import proofs.«01_k».proof.Pre_qk_norm_finite
public import proofs.«01_k».proof.Proof.Norm.Math
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open scoped BigOperators

namespace Cert.QkNorm

/-! Arguments that satisfy the precondition are arrays of real numbers. -/

abbrev Wide : Shape := ⟨2, ![2064, 1024]⟩
abbrev Branches : Shape := ⟨2, ![2064, 4104]⟩
abbrev Gain : Shape := ⟨2, ![1, 128]⟩

/-- The column of a head's entry among the 1024 columns of all heads, and among all branches when the heads begin at column `b`. -/
def col (h : Fin 8) (e : Fin 128) : Fin 1024 := ⟨h.val * 128 + e.val, by omega⟩
def colFrom (b : ℕ) (hb : b ≤ 3080) (h : Fin 8) (e : Fin 128) : Fin 4104 := ⟨b + (h.val * 128 + e.val), by omega⟩

/-- Where the queries and the keys begin. -/
theorem q_from : 1024 ≤ 3080 := by norm_num
theorem k_from : 2048 ≤ 3080 := by norm_num

/-- One of the two norms: its rows by token and head, its gain, and the cotangent. -/
structure Side where
  x : Fin 2064 → Fin 8 → Fin 128 → ℝ
  g : Fin 128 → ℝ
  dy : Fin 2064 → Fin 8 → Fin 128 → ℝ

/-- The arrays of one norm hold the reals `s`; its rows begin at column `b`. -/
structure Holds (b : ℕ) (hb : b ≤ 3080) (dy : FVec Ideal Wide .f32) (z : FVec Ideal Branches .f32) (g : FVec Ideal Gain .f32) (s : Side) : Prop where
  x : ∀ i h e, z (ix2 i (colFrom b hb h e)) = (s.x i h e : EReal)
  g : ∀ a e, g (ix2 a e) = (s.g e : EReal)
  dy : ∀ i h e, dy (ix2 i (col h e)) = (s.dy i h e : EReal)

/-- What the printed precondition needs of its shapes. -/
instance facts : Cert.Pre_qk_norm_finite.Facts := by constructor <;> decide

open Cert.Pre_qk_norm_finite in
theorem holds_of_finite (dq dk : FVec Ideal Wide .f32) (z : FVec Ideal Branches .f32) (gq gk : FVec Ideal Gain .f32)
    (given : fn (F := Ideal) dq dk z gq gk = fun _ => 1#1) :
    ∃ x : Side × Side, Holds 1024 q_from dq z gq x.1 ∧ Holds 2048 k_from dk z gk x.2 := by
  have e := congrFun given ix0
  simp only [fn, fn_part1] at e
  obtain ⟨e, egk⟩ := IntOp.andi_eq_one.1 e
  obtain ⟨e, egq⟩ := IntOp.andi_eq_one.1 e
  obtain ⟨e, ez⟩ := IntOp.andi_eq_one.1 e
  obtain ⟨eq, ek⟩ := IntOp.andi_eq_one.1 e
  have rz (i : Branches.Idx) : z i = ((z i : EReal).toReal : EReal) :=
    Reals.real_of_abs_lt z _ (fun _ => Reals.inf_word) _ (Host.reduce_andi_all _ _ _ _ _ ez _)
  have rdq (i : Wide.Idx) : dq i = ((dq i : EReal).toReal : EReal) :=
    Reals.real_of_abs_lt dq _ (fun _ => Reals.inf_word) _ (Host.reduce_andi_all _ _ _ _ _ eq _)
  have rdk (i : Wide.Idx) : dk i = ((dk i : EReal).toReal : EReal) :=
    Reals.real_of_abs_lt dk _ (fun _ => Reals.inf_word) _ (Host.reduce_andi_all _ _ _ _ _ ek _)
  have rgq (i : Gain.Idx) : gq i = ((gq i : EReal).toReal : EReal) :=
    Reals.real_of_abs_lt gq _ (fun _ => Reals.inf_word) _ (Host.reduce_andi_all _ _ _ _ _ egq _)
  have rgk (i : Gain.Idx) : gk i = ((gk i : EReal).toReal : EReal) :=
    Reals.real_of_abs_lt gk _ (fun _ => Reals.inf_word) _ (Host.reduce_andi_all _ _ _ _ _ egk _)
  refine ⟨⟨⟨fun i h e => (z (ix2 i (colFrom 1024 q_from h e)) : EReal).toReal, fun e => (gq (ix2 0 e) : EReal).toReal,
      fun i h e => (dq (ix2 i (col h e)) : EReal).toReal⟩,
    ⟨fun i h e => (z (ix2 i (colFrom 2048 k_from h e)) : EReal).toReal, fun e => (gk (ix2 0 e) : EReal).toReal,
      fun i h e => (dk (ix2 i (col h e)) : EReal).toReal⟩⟩,
    ⟨fun i h e => rz _, fun a e => ?_, fun i h e => rdq _⟩, ⟨fun i h e => rz _, fun a e => ?_, fun i h e => rdk _⟩⟩
  · obtain rfl : a = 0 := Subsingleton.elim _ _
    exact rgq _
  · obtain rfl : a = 0 := Subsingleton.elim _ _
    exact rgk _

/-- An array continued by rows of zeros. -/
def padRow (a : Fin 2064 → Fin 8 → Fin 128 → ℝ) (i : Fin 2176) (h : Fin 8) (e : Fin 128) : ℝ := if p : i.val < 2064 then a ⟨i.val, p⟩ h e else 0

end Cert.QkNorm
end
-- ==== Proof.QkNorm.Tiles.lean ====
module

public import proofs.«01_k».proof.Proof.QkNorm.Finite
public import proofs.«01_k».proof.Proof.Gen.KernelQkNormIdeal.Value
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.KernelQkNormIdeal.Final

open Cert.KernelQkNormIdeal Cert.KernelQkNormIdeal.Gen Cert.QkNorm Cert.Norm

variable (m : (ℓ : Loc nD τ sig) → Buf (Elt Ideal) ℓ) (c : Dev nD)

/-- The arguments as a device holds them. -/
abbrev argDq : FVec Ideal S2064x1024 .f32 := m ((c.tc : Thread nD τ).loc main_arg0)
abbrev argDk : FVec Ideal S2064x1024 .f32 := m ((c.tc : Thread nD τ).loc main_arg1)
abbrev argZ : FVec Ideal S2064x4104 .f32 := m ((c.tc : Thread nD τ).loc main_arg2)
abbrev argGq : FVec Ideal S1x128 .f32 := m ((c.tc : Thread nD τ).loc main_arg3)
abbrev argGk : FVec Ideal S1x128 .f32 := m ((c.tc : Thread nD τ).loc main_arg4)

/-- The head that a column belongs to, and its place in the head. -/
def headOf (y : Fin 1024) : Fin 8 := ⟨y.val / 128, by omega⟩
def laneOf (y : Fin 1024) : Fin 128 := ⟨y.val % 128, by omega⟩

/-- The gradient of one row of one head. -/
def backRow (s : Side) (i : Fin 2176) (h : Fin 8) : Fin 128 → ℝ := back (padRow s.x i h) (fun e => padRow s.dy i h e * s.g e)
/-- What one row of one head adds to the gradient of the gain. -/
def gainRow (s : Side) (i : Fin 2176) (h : Fin 8) (e : Fin 128) : ℝ := padRow s.dy i h e * (padRow s.x i h e * inv (padRow s.x i h))

/-- The gradient of the rows of one norm, heads side by side. -/
def resDx (s : Side) : FVec Ideal S2176x1024 .bf16 := fun i => (backRow s (i 0) (headOf (i 1)) (laneOf (i 1)) : EReal)
/-- The gradient of its gain. -/
def resDg (s : Side) : FVec Ideal S1x128 .f32 := fun i => ∑ h : Fin 8, ∑ r : Fin 2176, (gainRow s r h (i 1) : EReal)

theorem gain_coe (s : Side) (i : Fin 2176) (h : Fin 8) (e : Fin 128) : (gainRow s i h e : EReal)
    = (padRow s.dy i h e : EReal) * ((padRow s.x i h e : EReal)
      * Ideal.rsqrt (Ideal.div (∑ e, (padRow s.x i h e : EReal) * (padRow s.x i h e : EReal)) ((128 : ℝ) : EReal) + (eps : EReal))) := by
  rw [power_coe (padRow s.x i h) (N := 128) (by norm_num) (by norm_num), rsqrt_power, ← EReal.coe_mul, ← EReal.coe_mul]
  rfl

theorem idx : ∀ t : Fin cfg0.N, win0_0.index t = ![0, t.val] ∧ win0_1.index t = ![0, t.val] ∧ win0_2.index t = ![0, 8 + t.val]
    ∧ win0_3.index t = ![0, 16 + t.val] ∧ win0_4.index t = ![0, 0] ∧ win0_5.index t = ![0, 0] ∧ win0_6.index t = ![0, t.val]
    ∧ win0_7.index t = ![0, t.val] ∧ win0_8.index t = ![0, 0] ∧ win0_9.index t = ![0, 0] :=
  (by decide +kernel : ∀ t : Fin grid0.N, _)

/-- The head of a grid point. -/
def head (t : Fin cfg0.N) : Fin 8 := ⟨t.val, t.isLt.trans_eq N_0⟩

variable {m c} {x : Side × Side} (given : Holds 1024 q_from (argDq m c) (argZ m c) (argGq m c) x.1 ∧ Holds 2048 k_from (argDk m c) (argZ m c) (argGk m c) x.2)
  (t : Fin cfg0.N)
include given

omit given in
theorem host_dq_pad : V m c main_v0 = pad S2176x1024 ![0, 0] ![112, 0] ![0, 0] (argDq m c) (sitofp .f32 (constantI S_ 32 0#32)) pads_S2064x1024_S2176x1024_01120_000 h_S_ := by
  unfold V; after_reads_simp; rfl

theorem host_dq (i : Fin 2176) (h : Fin 8) (e : Fin 128) : V m c main_v0 (ix2 i (col h e)) = (padRow x.1.dy i h e : EReal) := by
  rw [host_dq_pad]
  unfold col; pointwise []
  by_cases p : i.val < 2064
  · rw [padRow, dif_pos p, dif_pos (by omega)]; exact given.1.dy _ _ _
  · rw [padRow, dif_neg p, dif_neg (by omega)]; exact Reals.sitofp_zero

omit given in
theorem host_dk_pad : V m c main_v1 = pad S2176x1024 ![0, 0] ![112, 0] ![0, 0] (argDk m c) (sitofp .f32 (constantI S_ 32 0#32)) pads_S2064x1024_S2176x1024_01120_000 h_S_ := by
  unfold V; after_reads_simp; rfl

theorem host_dk (i : Fin 2176) (h : Fin 8) (e : Fin 128) : V m c main_v1 (ix2 i (col h e)) = (padRow x.2.dy i h e : EReal) := by
  rw [host_dk_pad]
  unfold col; pointwise []
  by_cases p : i.val < 2064
  · rw [padRow, dif_pos p, dif_pos (by omega)]; exact given.2.dy _ _ _
  · rw [padRow, dif_neg p, dif_neg (by omega)]; exact Reals.sitofp_zero

omit given in
theorem host_z_pad : V m c main_v2 = pad S2176x4224 ![0, 0] ![112, 120] ![0, 0] (argZ m c) (sitofp .f32 (constantI S_ 32 0#32)) pads_S2064x4104_S2176x4224_01120_01200 h_S_ := by
  unfold V; after_reads_simp; rfl

theorem host_q (i : Fin 2176) (h : Fin 8) (e : Fin 128) :
    V m c main_v2 (ix2 i ⟨1024 + (h.val * 128 + e.val), by omega⟩) = (padRow x.1.x i h e : EReal) := by
  rw [host_z_pad]
  pointwise []
  by_cases p : i.val < 2064
  · rw [padRow, dif_pos p, dif_pos (by omega)]; exact given.1.x _ _ _
  · rw [padRow, dif_neg p, dif_neg (by omega)]; exact Reals.sitofp_zero

theorem host_k (i : Fin 2176) (h : Fin 8) (e : Fin 128) :
    V m c main_v2 (ix2 i ⟨2048 + (h.val * 128 + e.val), by omega⟩) = (padRow x.2.x i h e : EReal) := by
  rw [host_z_pad]
  pointwise []
  by_cases p : i.val < 2064
  · rw [padRow, dif_pos p, dif_pos (by omega)]; exact given.2.x _ _ _
  · rw [padRow, dif_neg p, dif_neg (by omega)]; exact Reals.sitofp_zero

theorem read_dq (i : Fin 2176) (e : Fin 128) : iblk m c 0 t (ix2 i e) = (padRow x.1.dy i (head t) e : EReal) := by
  refine Eq.trans ?_ (host_dq given i (head t) e)
  obtain ⟨e, -⟩ := idx t
  blk_ext [iblk, e, head, col]

theorem read_dk (i : Fin 2176) (e : Fin 128) : iblk m c 1 t (ix2 i e) = (padRow x.2.dy i (head t) e : EReal) := by
  refine Eq.trans ?_ (host_dk given i (head t) e)
  obtain ⟨-, e, -⟩ := idx t
  blk_ext [iblk, e, head, col]

theorem read_q (i : Fin 2176) (e : Fin 128) : iblk m c 2 t (ix2 i e) = (padRow x.1.x i (head t) e : EReal) := by
  refine Eq.trans ?_ (host_q given i (head t) e)
  obtain ⟨-, -, e, -⟩ := idx t
  blk_ext [iblk, e, head, col]

theorem read_k (i : Fin 2176) (e : Fin 128) : iblk m c 3 t (ix2 i e) = (padRow x.2.x i (head t) e : EReal) := by
  refine Eq.trans ?_ (host_k given i (head t) e)
  obtain ⟨-, -, -, e, -⟩ := idx t
  blk_ext [iblk, e, head, col]

theorem read_gq (a : Fin 1) (e : Fin 128) : iblk m c 4 t (ix2 a e) = (x.1.g e : EReal) := by
  refine Eq.trans ?_ (given.1.g a e)
  obtain ⟨-, -, -, -, e, -⟩ := idx t
  blk_ext [iblk, e]

theorem read_gk (a : Fin 1) (e : Fin 128) : iblk m c 5 t (ix2 a e) = (x.2.g e : EReal) := by
  refine Eq.trans ?_ (given.2.g a e)
  obtain ⟨-, -, -, -, -, e, -⟩ := idx t
  blk_ext [iblk, e]

theorem tile_dq (i : Fin 2176) (e : Fin 128) : (outsAt0 m c t.val t.isLt).1 (ix2 i e) = (backRow x.1 i (head t) e : EReal) := by
  have ht := t.isLt.trans_eq N_0
  unfold backRow
  rw [← back_kernel_alone (N := 128) _ _ (by norm_num) (by norm_num), ← rsqrt_power,
    ← power_coe (padRow x.1.x i (head t)) (N := 128) (by norm_num) (by norm_num)]
  by_cases k : t.val % 8 = 0
  on_goal 1 => rw [outsAt0_A m c t k (by omega)]
  on_goal 2 => rw [outsAt0_B m c t k (by omega)]
  all_goals frame_out
  all_goals (open_payloads; pointwise)
  all_goals simp only [read_dq given, read_q given, read_gq given, n128, eps_word, ← EReal.coe_mul (padRow x.1.dy _ _ _)]

theorem tile_dk (i : Fin 2176) (e : Fin 128) : (outsAt0 m c t.val t.isLt).2.1 (ix2 i e) = (backRow x.2 i (head t) e : EReal) := by
  have ht := t.isLt.trans_eq N_0
  unfold backRow
  rw [← back_kernel_alone (N := 128) _ _ (by norm_num) (by norm_num), ← rsqrt_power,
    ← power_coe (padRow x.2.x i (head t)) (N := 128) (by norm_num) (by norm_num)]
  by_cases k : t.val % 8 = 0
  on_goal 1 => rw [outsAt0_A m c t k (by omega)]
  on_goal 2 => rw [outsAt0_B m c t k (by omega)]
  all_goals frame_out
  all_goals (open_payloads; pointwise)
  all_goals simp only [read_dk given, read_k given, read_gk given, n128, eps_word, ← EReal.coe_mul (padRow x.2.dy _ _ _)]

theorem first_dgq (k : t.val % 8 = 0) (a : Fin 1) (e : Fin 128) :
    (outsAt0 m c t.val t.isLt).2.2.1 (ix2 a e) = ∑ r : Fin 2176, (gainRow x.1 r (head t) e : EReal) := by
  have ht := t.isLt.trans_eq N_0
  rw [outsAt0_A m c t k (by omega)]
  frame_out
  (open_payloads; pointwise)
  simp only [read_dq given, read_q given, n128, eps_word]
  exact Finset.sum_congr rfl fun r _ => (gain_coe x.1 r (head t) e).symm

theorem first_dgk (k : t.val % 8 = 0) (a : Fin 1) (e : Fin 128) :
    (outsAt0 m c t.val t.isLt).2.2.2 (ix2 a e) = ∑ r : Fin 2176, (gainRow x.2 r (head t) e : EReal) := by
  have ht := t.isLt.trans_eq N_0
  rw [outsAt0_A m c t k (by omega)]
  frame_out
  (open_payloads; pointwise)
  simp only [read_dk given, read_k given, n128, eps_word]
  exact Finset.sum_congr rfl fun r _ => (gain_coe x.2 r (head t) e).symm

theorem next_dgq (k : ¬ t.val % 8 = 0) (a : Fin 1) (e : Fin 128) :
    (outsAt0 m c t.val t.isLt).2.2.1 (ix2 a e)
      = (outsAt0 m c (t.val - 1) (lt_of_le_of_lt (Nat.sub_le _ _) t.isLt)).2.2.1 (ix2 a e) + ∑ r : Fin 2176, (gainRow x.1 r (head t) e : EReal) := by
  have ht := t.isLt.trans_eq N_0
  rw [outsAt0_B m c t k (by omega)]
  frame_out
  (open_payloads; pointwise)
  simp only [read_dq given, read_q given, n128, eps_word]
  exact congrArg _ (Finset.sum_congr rfl fun r _ => (gain_coe x.1 r (head t) e).symm)

theorem next_dgk (k : ¬ t.val % 8 = 0) (a : Fin 1) (e : Fin 128) :
    (outsAt0 m c t.val t.isLt).2.2.2 (ix2 a e)
      = (outsAt0 m c (t.val - 1) (lt_of_le_of_lt (Nat.sub_le _ _) t.isLt)).2.2.2 (ix2 a e) + ∑ r : Fin 2176, (gainRow x.2 r (head t) e : EReal) := by
  have ht := t.isLt.trans_eq N_0
  rw [outsAt0_B m c t k (by omega)]
  frame_out
  (open_payloads; pointwise)
  simp only [read_dk given, read_k given, n128, eps_word]
  exact congrArg _ (Finset.sum_congr rfl fun r _ => (gain_coe x.2 r (head t) e).symm)

end Cert.KernelQkNormIdeal.Final
end
-- ==== Proof.TwoAxes.lean ====
module

public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reals

/-- A sum over the first two of three axes. -/
theorem sum_two_axes {a b n : ℕ} (h : (⟨3, ![a, b, n]⟩ : Shape).ReducesTo [0, 1] ⟨1, ![n]⟩) (v : (⟨3, ![a, b, n]⟩ : Shape).Idx → EReal)
    (first : EReal) (e : Fin n) : Ideal.hostReduceAdd h v first (ix1 e) = first + ∑ i : Fin a, ∑ k : Fin b, v (ix3 i k e) := by
  show first + _ = _
  rw [Finset.sum_filter_eq_sum_of_fiber _ (fun q : Fin a × Fin b => (ix3 q.1 q.2 e : (⟨3, ![a, b, n]⟩ : Shape).Idx))
    (fun q r e => Prod.ext (congrFun e 0) (congrFun e 1)) (fun i => ?_) v, Fintype.sum_prod_type]
  constructor
  · intro p
    refine ⟨(i 0, i 1), funext fun l => ?_⟩
    match l with
    | ⟨0, _⟩ => rfl
    | ⟨1, _⟩ => rfl
    | ⟨2, _⟩ => exact Fin.ext (congrArg Fin.val (congrFun p 0)).symm
  · rintro ⟨q, rfl⟩
    funext l
    match l with
    | ⟨0, _⟩ => rfl

end Cert.Reals
end
-- ==== Proof.QkNorm.Reference.lean ====
module

public import proofs.«01_k».proof.Proof.Gen.ReferenceQkNormIdeal.Read
public import proofs.«01_k».proof.Proof.QkNorm.Tiles
public import proofs.«01_k».proof.Proof.TwoAxes

@[expose] public section

set_option maxRecDepth 16384

noncomputable section

open Idealize.ShloMosaic Idealize.ShloMosaic.TcCoe Idealize.SL.Sem
open Idealize.ShloMosaic.Pipeline (Dat)
open scoped BigOperators

namespace Cert.ReferenceQkNormIdeal.Final

open Cert.ReferenceQkNormIdeal Cert.ReferenceQkNormIdeal.Value Cert.ReferenceQkNormIdeal.Read Cert.QkNorm Cert.Norm Cert.KernelQkNormIdeal.Final

/-- The cotangent times the gain, row by row, and what a row adds to the gradient of the gain. -/
abbrev weighted (s : Side) (i : Fin 2064) (h : Fin 8) (e : Fin 128) : ℝ := s.dy i h e * s.g e
abbrev gains (s : Side) (i : Fin 2064) (h : Fin 8) (e : Fin 128) : ℝ := s.dy i h e * (s.x i h e * Norm.inv (s.x i h))

theorem backRow_in (s : Side) (i : Fin 2176) (h : Fin 8) (p : i.val < 2064) : backRow s i h = back (s.x ⟨i.val, p⟩ h) (weighted s ⟨i.val, p⟩ h) := by
  unfold backRow padRow; simp only [dif_pos p]

theorem backRow_out (s : Side) (i : Fin 2176) (h : Fin 8) (e : Fin 128) (p : ¬ i.val < 2064) : backRow s i h e = 0 := by
  unfold backRow padRow; simp only [dif_neg p, zero_mul]; exact back_zero e

theorem gains_sum (s : Side) (e : Fin 128) : (∑ h : Fin 8, ∑ r : Fin 2176, (gainRow s r h e : EReal)) = ∑ h : Fin 8, ∑ i : Fin 2064, (gains s i h e : EReal) :=
  Finset.sum_congr rfl fun h _ => Reals.sum_window (n := 2176) (w := 2064) 0 (by norm_num) _ (fun i => (gains s i h e : EReal))
    (fun i p => by
      unfold gainRow
      rw [show padRow s.x ⟨0 + i.val, p⟩ h = s.x i h from funext fun k => by simp [padRow]]; simp [padRow])
    (fun i p => by rw [gainRow, padRow, dif_neg (by omega), zero_mul, EReal.coe_zero])

variable {dq dk : FVec Ideal Wide .f32} {z : FVec Ideal Branches .f32} {gq gk : FVec Ideal Gain .f32} {x : Side × Side}
  (given : Holds 1024 q_from dq z gq x.1 ∧ Holds 2048 k_from dk z gk x.2)
include given

theorem x_q (i : Fin 2064) (h : Fin 8) (e : Fin 128) : val_main_v1 (F := Ideal) z (ix3 i h e) = (x.1.x i h e : EReal) := by
  refine Eq.trans ?_ (given.1.x i h e)
  pointwise [val_main_v1, val_main_v0]
  rfl

theorem dy_q (i : Fin 2064) (h : Fin 8) (e : Fin 128) : val_main_v21 (F := Ideal) dq (ix3 i h e) = (x.1.dy i h e : EReal) := by
  refine Eq.trans ?_ (given.1.dy i h e)
  pointwise [val_main_v21]
  rfl

theorem g_q (i : Fin 2064) (h : Fin 8) (e : Fin 128) : val_main_v25 (F := Ideal) gq (ix3 i h e) = (x.1.g e : EReal) := by
  refine Eq.trans ?_ (given.1.g 0 e)
  pointwise [val_main_v25, val_main_v18, val_main_v4]

theorem powers_q (i : Fin 2064) (h : Fin 8) (b : Fin 1) : val_main_v11 (F := Ideal) z (ix3 i h b) = (power (x.1.x i h) : EReal) := by
  rw [← power_coe (x.1.x i h) (N := 128) (by norm_num) (by norm_num)]
  pointwise [val_main_v11, val_main_v10, val_main_v9, val_main_v8, val_main_v7, val_main_v6, val_main_v5, val_main_cst, val_main_cst_0, val_main_cst_1]
  simp only [x_q given, n128, eps_word]

theorem invs_q (i : Fin 2064) (h : Fin 8) (b : Fin 1) : val_main_v12 (F := Ideal) z (ix3 i h b) = (inv (x.1.x i h) : EReal) := by
  rw [← rsqrt_power, ← powers_q given i h b]
  pointwise [val_main_v12]

theorem means_q (i : Fin 2064) (h : Fin 8) (b : Fin 128) :
    val_main_v37 (F := Ideal) dq z gq (ix3 i h b) = ((-(1 / 2) * coeff (x.1.x i h) (weighted x.1 i h) : ℝ) : EReal) := by
  rw [← through_mean (x.1.x i h) (weighted x.1 i h) (N := 128) (by norm_num) (by norm_num)]
  pointwise [val_main_v37, val_main_v36, val_main_v35, val_main_v34, val_main_v33, val_main_v30, val_main_v29, val_main_v28, val_main_v26, val_main_v15, val_main_v14, val_main_v13, val_main_cst_2, val_main_cst_5, val_main_cst_6, val_main_cst_7]
  rw [Fin.sum_univ_one]
  simp only [invs_q given, powers_q given, x_q given, g_q given, dy_q given, n128, minus_half, ← EReal.coe_mul (x.1.dy _ _ _)]

theorem rows_q (i : Fin 2064) (h : Fin 8) (e : Fin 128) :
    val_main_v41 (F := Ideal) dq z gq (ix3 i h e) = (back (x.1.x i h) (weighted x.1 i h) e : EReal) := by
  rw [← back_reference_alone]
  pointwise [val_main_v41, val_main_v40, val_main_v39, val_main_v38, val_main_v32, val_main_v31, val_main_v26]
  simp only [invs_q given, means_q given, x_q given, g_q given, dy_q given, ← EReal.coe_mul (x.1.dy _ _ _)]

theorem ref_dgq_at (b : Fin 1) (e : Fin 128) : val_main_v42 (F := Ideal) dq z (ix2 b e) = resDg x.1 (ix2 b e) := by
  refine Eq.trans ?_ (gains_sum x.1 e).symm
  pointwise [val_main_v42, val_main_v27, val_main_v24, val_main_v23, val_main_v22, val_main_v17, val_main_v16, val_main_cst_3, val_main_cst_4]
  rw [Reals.sum_two_axes, Fin.sum_univ_one, Fin.sum_univ_one]
  pointwise []
  rw [Reals.sum_two_axes, Finset.sum_comm]
  pointwise []
  simp only [invs_q given, x_q given, dy_q given, ← EReal.coe_mul]
  exact Finset.sum_congr rfl fun h _ => Finset.sum_congr rfl fun i _ => by rw [mul_comm]

theorem ref_dgq : val_main_v42 (F := Ideal) dq z = resDg x.1 :=
  funext fun y => by rw [eq_ix2 y]; exact ref_dgq_at given (y 0) (y 1)

theorem ref_dq_at (i : Fin 2176) (j : Fin 1024) : val_main_v83 (F := Ideal) dq z gq (ix2 i j) = resDx x.1 (ix2 i j) := by
  show _ = (backRow x.1 i (headOf j) (laneOf j) : EReal)
  pointwise [val_main_v83, val_main_v82, val_main_call0_v0, val_main_c]
  by_cases p : i.val < 2064
  · rw [dif_pos (by omega), backRow_in _ _ _ p, ← rows_q given]
    rfl
  · rw [dif_neg (by omega), backRow_out _ _ _ _ p]; exact Reals.sitofp_zero

theorem ref_dq : val_main_v84 (F := Ideal) dq z gq = resDx x.1 :=
  (funext fun _ => rfl : _ = val_main_v83 (F := Ideal) dq z gq).trans (funext fun y => by rw [eq_ix2 y]; exact ref_dq_at given (y 0) (y 1))

theorem x_k (i : Fin 2064) (h : Fin 8) (e : Fin 128) : val_main_v3 (F := Ideal) z (ix3 i h e) = (x.2.x i h e : EReal) := by
  refine Eq.trans ?_ (given.2.x i h e)
  pointwise [val_main_v3, val_main_v2]
  rfl

theorem dy_k (i : Fin 2064) (h : Fin 8) (e : Fin 128) : val_main_v60 (F := Ideal) dk (ix3 i h e) = (x.2.dy i h e : EReal) := by
  refine Eq.trans ?_ (given.2.dy i h e)
  pointwise [val_main_v60]
  rfl

theorem g_k (i : Fin 2064) (h : Fin 8) (e : Fin 128) : val_main_v64 (F := Ideal) gk (ix3 i h e) = (x.2.g e : EReal) := by
  refine Eq.trans ?_ (given.2.g 0 e)
  pointwise [val_main_v64, val_main_v57, val_main_v43]

theorem powers_k (i : Fin 2064) (h : Fin 8) (b : Fin 1) : val_main_v50 (F := Ideal) z (ix3 i h b) = (power (x.2.x i h) : EReal) := by
  rw [← power_coe (x.2.x i h) (N := 128) (by norm_num) (by norm_num)]
  pointwise [val_main_v50, val_main_v49, val_main_v48, val_main_v47, val_main_v46, val_main_v45, val_main_v44, val_main_cst_8, val_main_cst_9, val_main_cst_10]
  simp only [x_k given, n128, eps_word]

theorem invs_k (i : Fin 2064) (h : Fin 8) (b : Fin 1) : val_main_v51 (F := Ideal) z (ix3 i h b) = (inv (x.2.x i h) : EReal) := by
  rw [← rsqrt_power, ← powers_k given i h b]
  pointwise [val_main_v51]

theorem means_k (i : Fin 2064) (h : Fin 8) (b : Fin 128) :
    val_main_v76 (F := Ideal) dk z gk (ix3 i h b) = ((-(1 / 2) * coeff (x.2.x i h) (weighted x.2 i h) : ℝ) : EReal) := by
  rw [← through_mean (x.2.x i h) (weighted x.2 i h) (N := 128) (by norm_num) (by norm_num)]
  pointwise [val_main_v76, val_main_v75, val_main_v74, val_main_v73, val_main_v72, val_main_v69, val_main_v68, val_main_v67, val_main_v65, val_main_v54, val_main_v53, val_main_v52, val_main_cst_11, val_main_cst_14, val_main_cst_15, val_main_cst_16]
  rw [Fin.sum_univ_one]
  simp only [invs_k given, powers_k given, x_k given, g_k given, dy_k given, n128, minus_half, ← EReal.coe_mul (x.2.dy _ _ _)]

theorem rows_k (i : Fin 2064) (h : Fin 8) (e : Fin 128) :
    val_main_v80 (F := Ideal) dk z gk (ix3 i h e) = (back (x.2.x i h) (weighted x.2 i h) e : EReal) := by
  rw [← back_reference_alone]
  pointwise [val_main_v80, val_main_v79, val_main_v78, val_main_v77, val_main_v71, val_main_v70, val_main_v65]
  simp only [invs_k given, means_k given, x_k given, g_k given, dy_k given, ← EReal.coe_mul (x.2.dy _ _ _)]

theorem ref_dgk_at (b : Fin 1) (e : Fin 128) : val_main_v81 (F := Ideal) dk z (ix2 b e) = resDg x.2 (ix2 b e) := by
  refine Eq.trans ?_ (gains_sum x.2 e).symm
  pointwise [val_main_v81, val_main_v66, val_main_v63, val_main_v62, val_main_v61, val_main_v56, val_main_v55, val_main_cst_12, val_main_cst_13]
  rw [Reals.sum_two_axes, Fin.sum_univ_one, Fin.sum_univ_one]
  pointwise []
  rw [Reals.sum_two_axes, Finset.sum_comm]
  pointwise []
  simp only [invs_k given, x_k given, dy_k given, ← EReal.coe_mul]
  exact Finset.sum_congr rfl fun h _ => Finset.sum_congr rfl fun i _ => by rw [mul_comm]

theorem ref_dgk : val_main_v81 (F := Ideal) dk z = resDg x.2 :=
  funext fun y => by rw [eq_ix2 y]; exact ref_dgk_at given (y 0) (y 1)

theorem ref_dk_at (i : Fin 2176) (j : Fin 1024) : val_main_v86 (F := Ideal) dk z gk (ix2 i j) = resDx x.2 (ix2 i j) := by
  show _ = (backRow x.2 i (headOf j) (laneOf j) : EReal)
  pointwise [val_main_v86, val_main_v85, val_main_call1_v0, val_main_c_17]
  by_cases p : i.val < 2064
  · rw [dif_pos (by omega), backRow_in _ _ _ p, ← rows_k given]
    rfl
  · rw [dif_neg (by omega), backRow_out _ _ _ _ p]; exact Reals.sitofp_zero

theorem ref_dk : val_main_v87 (F := Ideal) dk z gk = resDx x.2 :=
  (funext fun _ => rfl : _ = val_main_v86 (F := Ideal) dk z gk).trans (funext fun y => by rw [eq_ix2 y]; exact ref_dk_at given (y 0) (y 1))

end Cert.ReferenceQkNormIdeal.Final
end
-- ==== Proof.QkNorm.Arrays.lean ====
module

public import proofs.«01_k».proof.Proof.QkNorm.Tiles

@[expose] public section

set_option maxRecDepth 16384

noncomputable section

open Idealize.ShloMosaic Idealize.ShloMosaic.TcCoe Idealize.SL.Sem
open Idealize.ShloMosaic.Pipeline (Dat)
open scoped BigOperators

namespace Cert.KernelQkNormIdeal.Final

open Cert.KernelQkNormIdeal Cert.KernelQkNormIdeal.Gen Cert.QkNorm Cert.Norm

variable {m : (ℓ : Loc nD τ sig) → Buf (Elt Ideal) ℓ} {c : Dev nD} {x : Side × Side}
  (given : Holds 1024 q_from (argDq m c) (argZ m c) (argGq m c) x.1 ∧ Holds 2048 k_from (argDk m c) (argZ m c) (argGk m c) x.2)
include given

theorem final_dq : (dats m 0 c).arrAt 6 cfg0.N = resDx x.1 := by
  refine (dats m 0 c).arrAt_eq_of_covers 6 _ (by decide +kernel) fun t hf y => ?_
  have ht := t.isLt.trans_eq N_0
  have hr : (y 0).val < 2176 := (y 0).isLt
  have he : (y 1).val < 128 := (y 1).isLt
  refine Eq.trans ?_ (congrArg (resDx x.1) (?_ : ix2 (⟨(y 0).val, hr⟩ : Fin 2176) (⟨t.val * 128 + (y 1).val, by omega⟩ : Fin 1024) = ((cfg0.win 6).blk t).view.emb y))
  · blk_simp
    rw [after0_6]
    refine ((congrArg _ (eq_ix2 y)).trans (tile_dq given t (y 0) (y 1))).trans ?_
    show _ = (backRow x.1 ⟨(y 0).val, hr⟩ (headOf ⟨t.val * 128 + (y 1).val, _⟩) (laneOf ⟨t.val * 128 + (y 1).val, _⟩) : EReal)
    congr 2
    · exact Fin.ext (show t.val = (t.val * 128 + (y 1).val) / 128 by omega)
    · exact Fin.ext (show (y 1).val = (t.val * 128 + (y 1).val) % 128 by omega)
  · obtain ⟨-, -, -, -, -, -, e, -⟩ := idx t
    blk_ext [e]

theorem final_dk : (dats m 0 c).arrAt 7 cfg0.N = resDx x.2 := by
  refine (dats m 0 c).arrAt_eq_of_covers 7 _ (by decide +kernel) fun t hf y => ?_
  have ht := t.isLt.trans_eq N_0
  have hr : (y 0).val < 2176 := (y 0).isLt
  have he : (y 1).val < 128 := (y 1).isLt
  refine Eq.trans ?_ (congrArg (resDx x.2) (?_ : ix2 (⟨(y 0).val, hr⟩ : Fin 2176) (⟨t.val * 128 + (y 1).val, by omega⟩ : Fin 1024) = ((cfg0.win 7).blk t).view.emb y))
  · blk_simp
    rw [after0_7]
    refine ((congrArg _ (eq_ix2 y)).trans (tile_dk given t (y 0) (y 1))).trans ?_
    show _ = (backRow x.2 ⟨(y 0).val, hr⟩ (headOf ⟨t.val * 128 + (y 1).val, _⟩) (laneOf ⟨t.val * 128 + (y 1).val, _⟩) : EReal)
    congr 2
    · exact Fin.ext (show t.val = (t.val * 128 + (y 1).val) / 128 by omega)
    · exact Fin.ext (show (y 1).val = (t.val * 128 + (y 1).val) % 128 by omega)
  · obtain ⟨-, -, -, -, -, -, -, e, -⟩ := idx t
    blk_ext [e]

theorem final_dgq : (dats m 0 c).arrAt 8 cfg0.N = resDg x.1 := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0)
    (fun t j => ∑ r : Fin 2176, (gainRow x.1 r (head t) (j 1) : EReal))
    (fun t h j => (congrArg _ (eq_ix2 j)).trans ((first_dgq given t h (j 0) (j 1)).trans (zero_add _).symm))
    (fun t h j => (congrArg _ (eq_ix2 j)).trans ((next_dgq given t h (j 0) (j 1)).trans (congrArg (· + _) (congrArg _ (eq_ix2 j).symm))))
    (le_of_eq N_0) t0_7 rfl j, zero_add]
  rfl

theorem final_dgk : (dats m 0 c).arrAt 9 cfg0.N = resDg x.2 := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0)
    (fun t j => ∑ r : Fin 2176, (gainRow x.2 r (head t) (j 1) : EReal))
    (fun t h j => (congrArg _ (eq_ix2 j)).trans ((first_dgk given t h (j 0) (j 1)).trans (zero_add _).symm))
    (fun t h j => (congrArg _ (eq_ix2 j)).trans ((next_dgk given t h (j 0) (j 1)).trans (congrArg (· + _) (congrArg _ (eq_ix2 j).symm))))
    (le_of_eq N_0) t0_7 rfl j, zero_add]
  rfl

end Cert.KernelQkNormIdeal.Final
end
-- ==== Proof.QkNorm.Claims.lean ====
module

public import proofs.«01_k».proof.Proof.QkNorm.Reference
public import proofs.«01_k».proof.Proof.QkNorm.Arrays
public import proofs.«01_k».proof.Proof.Gen.KernelQkNormIdeal.Frame
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Proof.QkNorm

open Cert.KernelQkNormIdeal.Final Cert.QkNorm

theorem frame_kernel_finite : Cert.quiescent_KernelQkNormIdeal_pre_qk_norm_finite :=
  fun m g _ => Cert.KernelQkNormIdeal.Gen.frame m g

theorem frame_reference : Cert.quiescent_ReferenceQkNormIdeal := by
  intro m g _
  exact (θ_run _ _ _).mono (fun r h => ⟨fun c => (h c).2.2.2.2, sem_eq_zero_of_no_sems (by decide) r.2⟩)
    (Cert.ReferenceQkNormIdeal.Value.run m g)

theorem frame_reference_finite : Cert.quiescent_ReferenceQkNormIdeal_pre_qk_norm_finite :=
  fun m g _ => frame_reference m g trivial

theorem equal : Cert.algebraic_KernelQkNormIdeal_ReferenceQkNormIdeal_pre_qk_norm_finite := by
  intro m g m' g' finite hag
  choose x given using fun c => holds_of_finite _ _ _ _ _ (finite c)
  refine ⟨fun c => resDx (x c).1, fun c => resDx (x c).2, fun c => resDg (x c).1, fun c => resDg (x c).2, ?_, ?_⟩
  · refine (θ_run _ _ _).mono (fun r h c => ?_) (Cert.KernelQkNormIdeal.Value.run_blocks m g)
    exact ⟨(h c).1.trans (final_dq (given c)), (h c).2.1.trans (final_dk (given c)), (h c).2.2.1.trans (final_dgq (given c)), (h c).2.2.2.1.trans (final_dgk (given c)),
      (h c).2.2.2.2⟩
  · refine (θ_run _ _ _).mono (fun r h c => ?_) (Cert.ReferenceQkNormIdeal.Value.run m' g')
    have e := h c
    obtain ⟨a0, a1, a2, a3, a4⟩ := hag c
    have given' := given c
    rw [← a0, ← a1, ← a2, ← a3, ← a4] at given'
    exact ⟨e.1.trans (Cert.ReferenceQkNormIdeal.Final.ref_dq given'), e.2.1.trans (Cert.ReferenceQkNormIdeal.Final.ref_dk given'), e.2.2.1.trans (Cert.ReferenceQkNormIdeal.Final.ref_dgq given'), e.2.2.2.1.trans (Cert.ReferenceQkNormIdeal.Final.ref_dgk given'),
      (h c).2.2.2.2⟩

end Cert.Proof.QkNorm
end
-- ==== Proof.Gate.Math.lean ====
module

public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.Gate

/-! The logistic function, in real numbers. -/

def sig (a : ℝ) : ℝ := (1 + Real.exp (-a))⁻¹

theorem one_word : Ideal.ofBits .f32 0x3F800000#32 = ((1 : ℝ) : EReal) := by
  simp [Ideal.ofBits, Ideal.ieee, -EReal.coe_mul]; norm_num

theorem denominator_ne (a : ℝ) : 1 + Real.exp a ≠ 0 := by positivity

theorem sig_coe (a : ℝ) : Ideal.div ((1 : ℝ) : EReal) (((1 : ℝ) : EReal) + Ideal.exp (-(a : EReal))) = (sig a : EReal) := by
  rw [← EReal.coe_neg, Ideal.exp_coe, ← EReal.coe_add, Reals.div_coe_coe _ (denominator_ne _), one_div]
  rfl

end Cert.Gate
end
-- ==== Proof.Ffn.Finite.lean ====
module

public import proofs.«01_k».proof.Pre_ffn_finite
public import proofs.«01_k».proof.Proof.Gate.Math
public import proofs.«01_k».proof.Proof.Finite
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open scoped BigOperators

namespace Cert.Ffn

/-! Arguments that satisfy the precondition are arrays of real numbers, and the gradient of the gated hidden layer in real numbers. -/

abbrev Rows : Shape := ⟨2, ![2064, 2048]⟩
abbrev Up : Shape := ⟨2, ![2048, 5632]⟩
abbrev Down : Shape := ⟨2, ![5632, 2048]⟩

/-- The arguments, in real numbers. -/
structure Inputs where
  x : Fin 2064 → Fin 2048 → ℝ
  wg : Fin 2048 → Fin 5632 → ℝ
  wu : Fin 2048 → Fin 5632 → ℝ
  wd : Fin 5632 → Fin 2048 → ℝ
  dh : Fin 2064 → Fin 2048 → ℝ

/-- The arrays hold these reals. -/
structure Holds (x : FVec Ideal Rows .f32) (wg wu : FVec Ideal Up .f32) (wd : FVec Ideal Down .f32) (dh : FVec Ideal Rows .f32) (a : Inputs) : Prop where
  x : ∀ i k, x (ix2 i k) = (a.x i k : EReal)
  wg : ∀ k j, wg (ix2 k j) = (a.wg k j : EReal)
  wu : ∀ k j, wu (ix2 k j) = (a.wu k j : EReal)
  wd : ∀ j k, wd (ix2 j k) = (a.wd j k : EReal)
  dh : ∀ i k, dh (ix2 i k) = (a.dh i k : EReal)

/-- What the printed precondition needs of its shapes. -/
instance facts : Cert.Pre_ffn_finite.Facts := by constructor <;> decide

open Cert.Pre_ffn_finite in
theorem holds_of_finite (x : FVec Ideal Rows .f32) (wg wu : FVec Ideal Up .f32) (wd : FVec Ideal Down .f32) (dh : FVec Ideal Rows .f32)
    (given : fn (F := Ideal) x wg wu wd dh = fun _ => 1#1) : ∃ a, Holds x wg wu wd dh a := by
  have e := congrFun given ix0
  simp only [fn, fn_part1] at e
  obtain ⟨e, edh⟩ := IntOp.andi_eq_one.1 e
  obtain ⟨e, ewd⟩ := IntOp.andi_eq_one.1 e
  obtain ⟨e, ewu⟩ := IntOp.andi_eq_one.1 e
  obtain ⟨ex, ewg⟩ := IntOp.andi_eq_one.1 e
  exact ⟨⟨fun i k => (x (ix2 i k) : EReal).toReal, fun k j => (wg (ix2 k j) : EReal).toReal, fun k j => (wu (ix2 k j) : EReal).toReal,
      fun j k => (wd (ix2 j k) : EReal).toReal, fun i k => (dh (ix2 i k) : EReal).toReal⟩,
    fun i k => Reals.real_of_abs_lt x _ (fun _ => Reals.inf_word) _ (Host.reduce_andi_all _ _ _ _ _ ex _),
    fun k j => Reals.real_of_abs_lt wg _ (fun _ => Reals.inf_word) _ (Host.reduce_andi_all _ _ _ _ _ ewg _),
    fun k j => Reals.real_of_abs_lt wu _ (fun _ => Reals.inf_word) _ (Host.reduce_andi_all _ _ _ _ _ ewu _),
    fun j k => Reals.real_of_abs_lt wd _ (fun _ => Reals.inf_word) _ (Host.reduce_andi_all _ _ _ _ _ ewd _),
    fun i k => Reals.real_of_abs_lt dh _ (fun _ => Reals.inf_word) _ (Host.reduce_andi_all _ _ _ _ _ edh _)⟩

/-- An array continued by rows of zeros. -/
def padRow (a : Fin 2064 → Fin 2048 → ℝ) (i : Fin 2176) (k : Fin 2048) : ℝ := if p : i.val < 2064 then a ⟨i.val, p⟩ k else 0

/-- A row times a matrix, and half a row times the transpose of a matrix. -/
def times (r : Fin 2048 → ℝ) (w : Fin 2048 → Fin 5632 → ℝ) (j : Fin 5632) : ℝ := ∑ k, r k * w k j
def halfBack (r : Fin 2048 → ℝ) (w : Fin 5632 → Fin 2048 → ℝ) (j : Fin 5632) : ℝ := 1 / 2 * ∑ k, r k * w j k

theorem times_coe (r : Fin 2048 → ℝ) (w : Fin 2048 → Fin 5632 → ℝ) (j : Fin 5632) : ∑ k, (r k : EReal) * (w k j : EReal) = (times r w j : EReal) := by
  simp only [← EReal.coe_mul, ← Reals.coe_sum]; rfl

theorem half_coe (r : Fin 2048 → ℝ) (w : Fin 5632 → Fin 2048 → ℝ) (j : Fin 5632) :
    ((1 / 2 : ℝ) : EReal) * ∑ k, (r k : EReal) * (w j k : EReal) = (halfBack r w j : EReal) := by
  simp only [← EReal.coe_mul, ← Reals.coe_sum]; rfl

theorem half_coe_inside (r : Fin 2048 → ℝ) (w : Fin 5632 → Fin 2048 → ℝ) (j : Fin 5632) :
    ∑ k, ((1 / 2 : ℝ) : EReal) * (r k : EReal) * (w j k : EReal) = (halfBack r w j : EReal) := by
  simp only [← EReal.coe_mul, ← Reals.coe_sum, halfBack, Finset.mul_sum, mul_assoc]

theorem halfBack_zero (w : Fin 5632 → Fin 2048 → ℝ) (j : Fin 5632) : halfBack (fun _ => 0) w j = 0 := by simp [halfBack]

/-- The two gradients, from the gate `a`, the other branch `b` and the cotangent `d` of their product. -/
def gateBack (a b d : ℝ) : ℝ := d * (b * (Gate.sig a * (1 + a * (1 - Gate.sig a))))
def otherBack (a d : ℝ) : ℝ := d * (a * Gate.sig a)

theorem gate_coe (a b d : ℝ) : (d : EReal) * ((b : EReal) * ((Gate.sig a : EReal) * (((1 : ℝ) : EReal) + (a : EReal) * (((1 : ℝ) : EReal) - (Gate.sig a : EReal)))))
    = (gateBack a b d : EReal) := by
  simp only [← EReal.coe_sub, ← EReal.coe_mul, ← EReal.coe_add]; rfl

theorem gate_coe_apart (a b d : ℝ) : ((d : EReal) * (b : EReal)) * (Gate.sig a : EReal)
      + ((a : EReal) * ((d : EReal) * (b : EReal))) * ((Gate.sig a : EReal) * (((1 : ℝ) : EReal) - (Gate.sig a : EReal))) = (gateBack a b d : EReal) := by
  simp only [← EReal.coe_sub, ← EReal.coe_mul, ← EReal.coe_add]
  exact congrArg _ (by unfold gateBack; ring)

theorem other_coe (a d : ℝ) : (d : EReal) * ((a : EReal) * (Gate.sig a : EReal)) = (otherBack a d : EReal) := by
  simp only [← EReal.coe_mul]; rfl

theorem gateBack_zero (a b : ℝ) : gateBack a b 0 = 0 := by simp [gateBack]
theorem otherBack_zero (a : ℝ) : otherBack a 0 = 0 := by simp [otherBack]

end Cert.Ffn
end
-- ==== Proof.Ffn.Host.lean ====
module

public import proofs.«01_k».proof.Proof.Ffn.Finite
public import proofs.«01_k».proof.Proof.Gen.KernelFfnIdeal.Value
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.KernelFfnIdeal.Final

open Cert.KernelFfnIdeal Cert.KernelFfnIdeal.Gen Cert.Ffn

variable (m : (ℓ : Loc nD τ sig) → Buf (Elt Ideal) ℓ) (c : Dev nD)

/-- The arguments as a device holds them. -/
abbrev argX : FVec Ideal S2064x2048 .f32 := m ((c.tc : Thread nD τ).loc main_arg0)
abbrev argG : FVec Ideal S2048x5632 .f32 := m ((c.tc : Thread nD τ).loc main_arg1)
abbrev argU : FVec Ideal S2048x5632 .f32 := m ((c.tc : Thread nD τ).loc main_arg2)
abbrev argW : FVec Ideal S5632x2048 .f32 := m ((c.tc : Thread nD τ).loc main_arg3)
abbrev argD : FVec Ideal S2064x2048 .f32 := m ((c.tc : Thread nD τ).loc main_arg4)

/-! What the host lines leave in the arrays that the kernel reads. -/

theorem host_rows : V m c main_v1 = fun i => pad S2176x2048 ![0, 0] ![112, 0] ![0, 0] (argX m c) (sitofp .f32 (constantI S_ 32 0#32)) pads_S2064x2048_S2176x2048_01120_000 h_S_ i := by
  unfold V; after_reads_simp; rfl
theorem host_cotangent : V m c main_v23 = fun i => pad S2176x2048 ![0, 0] ![112, 0] ![0, 0] (argD m c) (sitofp .f32 (constantI S_ 32 0#32)) pads_S2064x2048_S2176x2048_01120_000 h_S_ i := by
  unfold V; after_reads_simp; rfl
theorem host_down : V m c main_v24 = fun i => argW m c i := by
  unfold V; after_reads_simp; rfl
theorem host_gate : V m c main_v3 = Host.dotGeneral (φ₁ := .bf16) dot_S2176x2048_S2048x5632_S2176x5632_1_0_0_1_n_n none (V m c main_v1) (truncf .bf16 (argG m c) bitsLt_bf16_f32) := by
  unfold V; after_reads_simp
theorem host_other : V m c main_v5 = Host.dotGeneral (φ₁ := .bf16) dot_S2176x2048_S2048x5632_S2176x5632_1_0_0_1_n_n none (V m c main_v1) (truncf .bf16 (argU m c) bitsLt_bf16_f32) := by
  unfold V; after_reads_simp

/-- An array of ones. -/
abbrev ones : FVec Ideal S2176x5632 .f32 := broadcastInDim S2176x5632 ![] bcast_S_S2176x5632 (constant S_ .f32 0x3F800000#32)

theorem host_sig : V m c main_v11 = Host.divf ones (addf ones (Host.exp (Host.negf (V m c main_v3)))) := by
  unfold V; after_reads_simp
theorem host_p : V m c main_v19 = truncf .bf16 (mulf (V m c main_v5) (mulf (V m c main_v11) (addf ones (mulf (V m c main_v3) (subf ones (V m c main_v11)))))) bitsLt_bf16_f32 := by
  unfold V; after_reads_simp
/-- The other saved factor. -/
abbrev savedQ : FVec Ideal S2176x5632 .bf16 := truncf .bf16 (mulf (V m c main_v3 : FVec Ideal S2176x5632 .f32) (V m c main_v11 : FVec Ideal S2176x5632 .f32)) bitsLt_bf16_f32
theorem host_q : V m c main_v21 = savedQ m c := by
  unfold savedQ V; after_reads_simp

end Cert.KernelFfnIdeal.Final
end
-- ==== Proof.Ffn.Arrays.lean ====
module

public import proofs.«01_k».proof.Proof.Ffn.Host

@[expose] public section

set_option maxRecDepth 16384

noncomputable section

open Idealize.ShloMosaic Idealize.ShloMosaic.TcCoe Idealize.SL.Sem
open Idealize.ShloMosaic.Pipeline (Dat)
open scoped BigOperators

namespace Cert.KernelFfnIdeal.Final

open Cert.KernelFfnIdeal Cert.KernelFfnIdeal.Gen Cert.Ffn

variable {m : (ℓ : Loc nD τ sig) → Buf (Elt Ideal) ℓ} {c : Dev nD} {x : Inputs}
  (given : Holds (argX m c) (argG m c) (argU m c) (argW m c) (argD m c) x)

/-- Gate and other branch of a padded row. -/
abbrev gate (x : Inputs) (i : Fin 2176) (j : Fin 5632) : ℝ := times (padRow x.x i) x.wg j
abbrev other (x : Inputs) (i : Fin 2176) (j : Fin 5632) : ℝ := times (padRow x.x i) x.wu j
abbrev back (x : Inputs) (i : Fin 2176) (j : Fin 5632) : ℝ := halfBack (padRow x.dh i) x.wd j

/-- The two results. -/
def resDa (x : Inputs) : FVec Ideal S2176x5632 .bf16 := fun i => (gateBack (gate x (i 0) (i 1)) (other x (i 0) (i 1)) (back x (i 0) (i 1)) : EReal)
def resDb (x : Inputs) : FVec Ideal S2176x5632 .bf16 := fun i => (otherBack (gate x (i 0) (i 1)) (back x (i 0) (i 1)) : EReal)

theorem idx : ∀ t : Fin cfg0.N, win0_0.index t = ![0, 0] ∧ win0_1.index t = ![t.val, 0] ∧ win0_2.index t = ![0, t.val]
    ∧ win0_3.index t = ![0, t.val] ∧ win0_4.index t = ![0, t.val] ∧ win0_5.index t = ![0, t.val] :=
  (by decide +kernel : ∀ t : Fin grid0.N, _)

/-- The column of entry `b` of block `t`. -/
def colOf (t : Fin cfg0.N) (b : Fin 256) : Fin 5632 := ⟨t.val * 256 + b.val, by have := t.isLt.trans_eq N_0; omega⟩

include given

theorem value_rows (i : Fin 2176) (k : Fin 2048) : V m c main_v1 (ix2 i k) = (padRow x.x i k : EReal) := by
  rw [host_rows]
  pointwise []
  by_cases p : i.val < 2064
  · rw [padRow, dif_pos p, dif_pos (by omega)]; exact given.x _ _
  · rw [padRow, dif_neg p, dif_neg (by omega)]; exact Reals.sitofp_zero

theorem value_cotangent (i : Fin 2176) (k : Fin 2048) : V m c main_v23 (ix2 i k) = (padRow x.dh i k : EReal) := by
  rw [host_cotangent]
  pointwise []
  by_cases p : i.val < 2064
  · rw [padRow, dif_pos p, dif_pos (by omega)]; exact given.dh _ _
  · rw [padRow, dif_neg p, dif_neg (by omega)]; exact Reals.sitofp_zero

theorem value_gate (i : Fin 2176) (j : Fin 5632) : V m c main_v3 (ix2 i j) = (gate x i j : EReal) := by
  rw [host_gate, ← times_coe]
  pointwise []
  simp only [value_rows given, given.wg]

theorem value_other (i : Fin 2176) (j : Fin 5632) : V m c main_v5 (ix2 i j) = (other x i j : EReal) := by
  rw [host_other, ← times_coe]
  pointwise []
  simp only [value_rows given, given.wu]

theorem value_sig (i : Fin 2176) (j : Fin 5632) : V m c main_v11 (ix2 i j) = (Gate.sig (gate x i j) : EReal) := by
  rw [host_sig, ← Gate.sig_coe, ← value_gate given i j, ← Gate.one_word]
  pointwise []

theorem value_p (i : Fin 2176) (j : Fin 5632) : V m c main_v19 (ix2 i j)
    = (other x i j : EReal) * ((Gate.sig (gate x i j) : EReal) * (((1 : ℝ) : EReal) + (gate x i j : EReal) * (((1 : ℝ) : EReal) - (Gate.sig (gate x i j) : EReal)))) := by
  rw [host_p, ← value_sig given i j, ← value_gate given i j, ← value_other given i j, ← Gate.one_word]
  pointwise []

theorem value_q (i : Fin 2176) (j : Fin 5632) : V m c main_v21 (ix2 i j) = (gate x i j : EReal) * (Gate.sig (gate x i j) : EReal) := by
  rw [host_q, savedQ, ← value_sig given i j, ← value_gate given i j]
  pointwise []

variable (t : Fin cfg0.N)

theorem read_cotangent (i : Fin 2176) (k : Fin 2048) : iblk m c 0 t (ix2 i k) = (padRow x.dh i k : EReal) := by
  refine Eq.trans ?_ (value_cotangent given i k)
  obtain ⟨e, -⟩ := idx t
  blk_ext [iblk, e]

theorem read_down (b : Fin 256) (k : Fin 2048) : iblk m c 1 t (ix2 b k) = (x.wd (colOf t b) k : EReal) := by
  refine Eq.trans ?_ ((congrFun (host_down m c) _).trans (given.wd (colOf t b) k))
  obtain ⟨-, e, -⟩ := idx t
  blk_ext [iblk, e, colOf]

theorem read_p (i : Fin 2176) (b : Fin 256) : iblk m c 2 t (ix2 i b) = V m c main_v19 (ix2 i (colOf t b)) := by
  obtain ⟨-, -, e, -⟩ := idx t
  blk_ext [iblk, e, colOf]

theorem read_q (i : Fin 2176) (b : Fin 256) : iblk m c 3 t (ix2 i b) = V m c main_v21 (ix2 i (colOf t b)) := by
  obtain ⟨-, -, -, e, -⟩ := idx t
  blk_ext [iblk, e, colOf]

theorem tile_da (i : Fin 2176) (b : Fin 256) : (outsAt0 m c t).1 (ix2 i b) = (gateBack (gate x i (colOf t b)) (other x i (colOf t b)) (back x i (colOf t b)) : EReal) := by
  rw [← gate_coe, ← value_p given, ← read_p given, ← half_coe]
  unfold outsAt0
  frame_out
  (open_payloads; pointwise)
  simp only [read_cotangent given, read_down given, Reals.half]

theorem tile_db (i : Fin 2176) (b : Fin 256) : (outsAt0 m c t).2 (ix2 i b) = (otherBack (gate x i (colOf t b)) (back x i (colOf t b)) : EReal) := by
  rw [← other_coe, ← value_q given, ← read_q given, ← half_coe]
  unfold outsAt0
  frame_out
  (open_payloads; pointwise)
  simp only [read_cotangent given, read_down given, Reals.half]

theorem final_da : (dats m 0 c).arrAt 4 cfg0.N = resDa x := by
  refine (dats m 0 c).arrAt_eq_of_covers 4 _ (by decide +kernel) fun t hf y => ?_
  refine Eq.trans ?_ (congrArg (resDa x) (?_ : ix2 (y 0) (colOf t (y 1)) = ((cfg0.win 4).blk t).view.emb y))
  · blk_simp
    rw [after0_4]
    exact (congrArg _ (eq_ix2 y)).trans (tile_da given t (y 0) (y 1))
  · obtain ⟨-, -, -, -, e, -⟩ := idx t
    blk_ext [e, colOf]

theorem final_db : (dats m 0 c).arrAt 5 cfg0.N = resDb x := by
  refine (dats m 0 c).arrAt_eq_of_covers 5 _ (by decide +kernel) fun t hf y => ?_
  refine Eq.trans ?_ (congrArg (resDb x) (?_ : ix2 (y 0) (colOf t (y 1)) = ((cfg0.win 5).blk t).view.emb y))
  · blk_simp
    rw [after0_5]
    exact (congrArg _ (eq_ix2 y)).trans (tile_db given t (y 0) (y 1))
  · obtain ⟨-, -, -, -, -, e⟩ := idx t
    blk_ext [e, colOf]

end Cert.KernelFfnIdeal.Final
end
-- ==== Proof.Ffn.Reference.lean ====
module

public import proofs.«01_k».proof.Proof.Gen.ReferenceFfnIdeal.Read
public import proofs.«01_k».proof.Proof.Ffn.Arrays

@[expose] public section

set_option maxRecDepth 16384

noncomputable section

open Idealize.ShloMosaic Idealize.ShloMosaic.TcCoe Idealize.SL.Sem
open Idealize.ShloMosaic.Pipeline (Dat)
open scoped BigOperators

namespace Cert.ReferenceFfnIdeal.Final

open Cert.ReferenceFfnIdeal Cert.ReferenceFfnIdeal.Value Cert.ReferenceFfnIdeal.Read Cert.Ffn Cert.KernelFfnIdeal.Final

theorem padRow_in (a : Fin 2064 → Fin 2048 → ℝ) (i : Fin 2176) (p : i.val < 2064) : padRow a i = a ⟨i.val, p⟩ := funext fun k => dif_pos p
theorem padRow_out (a : Fin 2064 → Fin 2048 → ℝ) (i : Fin 2176) (p : ¬ i.val < 2064) : padRow a i = fun _ => 0 := funext fun k => dif_neg p

variable {h : FVec Ideal Rows .f32} {wg wu : FVec Ideal Up .f32} {wd : FVec Ideal Down .f32} {dh : FVec Ideal Rows .f32} {x : Inputs}
  (given : Holds h wg wu wd dh x)
include given

theorem ref_gate (i : Fin 2064) (j : Fin 5632) : val_main_v0 (F := Ideal) h wg (ix2 i j) = (times (x.x i) x.wg j : EReal) := by
  rw [← times_coe]
  pointwise [val_main_v0]
  simp only [given.x, given.wg]

theorem ref_other (i : Fin 2064) (j : Fin 5632) : val_main_v1 (F := Ideal) h wu (ix2 i j) = (times (x.x i) x.wu j : EReal) := by
  rw [← times_coe]
  pointwise [val_main_v1]
  simp only [given.x, given.wu]

theorem ref_sig (i : Fin 2064) (j : Fin 5632) : val_main_v2_2 (F := Ideal) h wg (ix2 i j) = (Gate.sig (times (x.x i) x.wg j) : EReal) := by
  rw [← Gate.sig_coe, ← ref_gate given i j, ← Gate.one_word]
  pointwise [val_main_v2_2, val_main_call0_v4, val_main_call0_v3, val_main_call0_v2, val_main_call0_v1, val_main_call0_v0, val_main_call0_cst, val_main_call0_cst_0]

theorem ref_back (i : Fin 2064) (j : Fin 5632) : val_main_v9 (F := Ideal) wd dh (ix2 i j) = (halfBack (x.dh i) x.wd j : EReal) := by
  rw [← half_coe_inside]
  pointwise [val_main_v9, val_main_v8, val_main_v7, val_main_cst_0]
  simp only [given.dh, given.wd, Reals.half]

theorem ref_da_row (i : Fin 2064) (j : Fin 5632) : val_main_v12 (F := Ideal) h wg wu wd dh (ix2 i j)
    = (gateBack (times (x.x i) x.wg j) (times (x.x i) x.wu j) (halfBack (x.dh i) x.wd j) : EReal) := by
  rw [← gate_coe_apart, ← ref_gate given i j, ← ref_sig given i j, ← ref_back given i j, ← ref_other given i j, ← Gate.one_word]
  pointwise [val_main_v12, val_main_call1_v2, val_main_call1_v1, val_main_call1_v0, val_main_v11, val_main_v2_1, val_main_call0_v7, val_main_call0_v6, val_main_call0_cst_1]

theorem ref_db_row (i : Fin 2064) (j : Fin 5632) : val_main_v10 (F := Ideal) h wg wd dh (ix2 i j)
    = (otherBack (times (x.x i) x.wg j) (halfBack (x.dh i) x.wd j) : EReal) := by
  rw [← other_coe, ← ref_gate given i j, ← ref_sig given i j, ← ref_back given i j, mul_comm]
  pointwise [val_main_v10, val_main_v2_0]

theorem ref_da_at (i : Fin 2176) (j : Fin 5632) : val_main_v13 (F := Ideal) h wg wu wd dh (ix2 i j) = resDa x (ix2 i j) := by
  show _ = (gateBack (gate x i j) (other x i j) (back x i j) : EReal)
  pointwise [val_main_v13, val_main_call2_v0, val_main_c]
  by_cases p : i.val < 2064
  · rw [dif_pos (by omega), ref_da_row given, gate, other, back, padRow_in _ i p, padRow_in _ i p]
  · rw [dif_neg (by omega), back, padRow_out _ i p, halfBack_zero, gateBack_zero]; exact Reals.sitofp_zero

theorem ref_da : val_main_v14 (F := Ideal) h wg wu wd dh = resDa x :=
  (funext fun _ => rfl : _ = val_main_v13 (F := Ideal) h wg wu wd dh).trans (funext fun y => by rw [eq_ix2 y]; exact ref_da_at given (y 0) (y 1))

theorem ref_db_at (i : Fin 2176) (j : Fin 5632) : val_main_v15 (F := Ideal) h wg wd dh (ix2 i j) = resDb x (ix2 i j) := by
  show _ = (otherBack (gate x i j) (back x i j) : EReal)
  pointwise [val_main_v15, val_main_call3_v0, val_main_c_1]
  by_cases p : i.val < 2064
  · rw [dif_pos (by omega), ref_db_row given, gate, back, padRow_in _ i p, padRow_in _ i p]
  · rw [dif_neg (by omega), back, padRow_out _ i p, halfBack_zero, otherBack_zero]; exact Reals.sitofp_zero

theorem ref_db : val_main_v16 (F := Ideal) h wg wd dh = resDb x :=
  (funext fun _ => rfl : _ = val_main_v15 (F := Ideal) h wg wd dh).trans (funext fun y => by rw [eq_ix2 y]; exact ref_db_at given (y 0) (y 1))

end Cert.ReferenceFfnIdeal.Final
end
-- ==== Proof.Ffn.Claims.lean ====
module

public import proofs.«01_k».proof.Proof.Ffn.Reference
public import proofs.«01_k».proof.Proof.Gen.KernelFfnIdeal.Frame
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Proof.Ffn

open Cert.KernelFfnIdeal.Final Cert.Ffn

theorem frame_kernel_finite : Cert.quiescent_KernelFfnIdeal_pre_ffn_finite :=
  fun m g _ => Cert.KernelFfnIdeal.Gen.frame m g

theorem frame_reference : Cert.quiescent_ReferenceFfnIdeal := by
  intro m g _
  exact (θ_run _ _ _).mono (fun r h => ⟨fun c => (h c).2.2, sem_eq_zero_of_no_sems (by decide) r.2⟩)
    (Cert.ReferenceFfnIdeal.Value.run m g)

theorem frame_reference_finite : Cert.quiescent_ReferenceFfnIdeal_pre_ffn_finite :=
  fun m g _ => frame_reference m g trivial

theorem equal : Cert.algebraic_KernelFfnIdeal_ReferenceFfnIdeal_pre_ffn_finite := by
  intro m g m' g' finite hag
  choose x given using fun c => holds_of_finite _ _ _ _ _ (finite c)
  refine ⟨fun c => resDa (x c), fun c => resDb (x c), ?_, ?_⟩
  · refine (θ_run _ _ _).mono (fun r h c => ?_) (Cert.KernelFfnIdeal.Value.run_blocks m g)
    exact ⟨(h c).1.trans (final_da (given c)), (h c).2.1.trans (final_db (given c)),
      (h c).2.2⟩
  · refine (θ_run _ _ _).mono (fun r h c => ?_) (Cert.ReferenceFfnIdeal.Value.run m' g')
    have e := h c
    obtain ⟨a0, a1, a2, a3, a4⟩ := hag c
    have given' := given c
    rw [← a0, ← a1, ← a2, ← a3, ← a4] at given'
    exact ⟨e.1.trans (Cert.ReferenceFfnIdeal.Final.ref_da given'), e.2.1.trans (Cert.ReferenceFfnIdeal.Final.ref_db given'),
      (h c).2.2⟩

end Cert.Proof.Ffn
end
-- ==== Proof.Forget.Sums.lean ====
module

public import proofs.«01_k».proof.Proof.Gate.Math
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Forget

/-! Sums of a sequence from an entry on: by doubling, and as a sliding window. -/

/-- The sum of `w` entries from entry `i` on. -/
def run (d : ℕ → EReal) (w i : ℕ) : EReal := ∑ j ∈ Finset.range w, d (i + j)

theorem run_one (d : ℕ → EReal) (i : ℕ) : run d 1 i = d i := by simp [run]

theorem run_add (d : ℕ → EReal) (w v i : ℕ) : run d (w + v) i = run d w i + run d v (i + w) := by
  simp only [run, Finset.sum_range_add, add_assoc]

theorem run_zero (d : ℕ → EReal) {n : ℕ} (zero : ∀ i, n ≤ i → d i = 0) (w : ℕ) {i : ℕ} (k : n ≤ i) : run d w i = 0 :=
  Finset.sum_eq_zero fun _ _ => zero _ (by omega)

/-- Where the sequence ends, doubling the length needs no entry beyond the end. -/
theorem run_double (d : ℕ → EReal) {n : ℕ} (zero : ∀ i, n ≤ i → d i = 0) (w i : ℕ) :
    run d (w + w) i = run d w i + if i + w < n then run d w (i + w) else 0 := by
  rw [run_add]
  split
  · rfl
  · rw [run_zero d zero w (by omega : n ≤ i + w)]

/-- Entries beyond the end add nothing. -/
theorem run_longer (d : ℕ → EReal) {n w : ℕ} (zero : ∀ i, n ≤ i → d i = 0) (k : n ≤ w) (v i : ℕ) : run d (w + v) i = run d w i := by
  rw [run_add, run_zero d zero v (by omega), add_zero]

theorem foldl_add {ι : Type*} (f : ι → EReal) (l : List ι) (a : EReal) : l.foldl (fun r n => r + f n) a = a + (l.map f).sum := by
  induction l generalizing a with
  | nil => simp
  | cons b l ih => rw [List.foldl_cons, ih, List.map_cons, List.sum_cons, add_assoc]

/-- The windows of a table of rows that reach to the end of the row. -/
theorem window_to_end {a n m : ℕ} (hm : m + 1 = n) (x : (⟨2, ![a, n]⟩ : Shape).Idx → EReal)
    (h : (⟨2, ![a, n]⟩ : Shape).ReduceWindows (![1, n] : Fin 2 → ℕ) ![1, 1] ![0, 0] ![0, m] ⟨2, ![a, n]⟩) (k : Fin a) (i : Fin n) :
    Ideal.hostReduceWindowAdd ![1, n] ![1, 1] ![0, 0] ![0, m] h x 0 (ix2 k i)
      = run (fun j => if p : j < n then x (ix2 k ⟨j, p⟩) else 0) n i.val := by
  unfold Ideal.hostReduceWindowAdd Host.reduceWindow
  rw [foldl_add, zero_add, ← Fin.sum_univ_def, run, Finset.sum_range]
  refine (Fintype.sum_bijective (fun j : Fin n => (⟨2, ![1, n]⟩ : Shape).rowMajor (ix2 (0 : Fin 1) j)) ?_ _ _ fun j => ?_).symm
  · refine ((⟨2, ![1, n]⟩ : Shape).rowMajor.bijective).comp ⟨fun b c e => congrFun e 1, fun y => ⟨y 1, ?_⟩⟩
    exact (congrArg (fun z : Fin 1 => ix2 z (y 1)) (Subsingleton.elim _ _)).trans (eq_ix2 y).symm
  · have back := Equiv.symm_apply_apply (⟨2, ![1, n]⟩ : Shape).rowMajor (ix2 (0 : Fin 1) j)
    generalize (⟨2, ![1, n]⟩ : Shape).rowMajor (ix2 (0 : Fin 1) j) = q at back ⊢
    have w0 : ((⟨2, ![1, n]⟩ : Shape).rowMajor.symm q 0).val = 0 := by rw [back]; rfl
    have w1 : ((⟨2, ![1, n]⟩ : Shape).rowMajor.symm q 1).val = j.val := by rw [back]; rfl
    have hn := j.isLt
    by_cases p : i.val + j.val < n
    · rw [dif_pos p, dif_pos]
      · refine congrArg x (funext fun b => Fin.ext ?_)
        match b with
        | ⟨0, _⟩ => show k.val = k.val * 1 + ((⟨2, ![1, n]⟩ : Shape).rowMajor.symm q 0).val - 0; omega
        | ⟨1, _⟩ => show i.val + j.val = i.val * 1 + ((⟨2, ![1, n]⟩ : Shape).rowMajor.symm q 1).val - 0; omega
      · intro b
        match b with
        | ⟨0, _⟩ =>
          show 0 ≤ k.val * 1 + ((⟨2, ![1, n]⟩ : Shape).rowMajor.symm q 0).val ∧ k.val * 1 + ((⟨2, ![1, n]⟩ : Shape).rowMajor.symm q 0).val - 0 < a
          have := k.isLt
          omega
        | ⟨1, _⟩ =>
          show 0 ≤ i.val * 1 + ((⟨2, ![1, n]⟩ : Shape).rowMajor.symm q 1).val ∧ i.val * 1 + ((⟨2, ![1, n]⟩ : Shape).rowMajor.symm q 1).val - 0 < n
          omega
    · rw [dif_neg p, dif_neg]
      intro e
      have e1 : 0 ≤ i.val * 1 + ((⟨2, ![1, n]⟩ : Shape).rowMajor.symm q 1).val
        ∧ i.val * 1 + ((⟨2, ![1, n]⟩ : Shape).rowMajor.symm q 1).val - 0 < n := e 1
      omega

end Cert.Forget
end
-- ==== Proof.Forget.Spec.lean ====
module

public import proofs.«01_k».proof.Proof.Forget.Sums
public import proofs.«01_k».proof.Proof.Finite

@[expose] public section

set_option maxRecDepth 16384

noncomputable section

open Idealize.ShloMosaic Idealize.ShloMosaic.TcCoe Idealize.SL.Sem
open Idealize.ShloMosaic.Pipeline (Dat)
open scoped BigOperators

namespace Cert.Forget

/-! The gradient of the forget gate. -/

abbrev Cots : Shape := ⟨2, ![8, 2064]⟩
abbrev Logits : Shape := ⟨2, ![2064, 4104]⟩
abbrev Bias : Shape := ⟨2, ![1, 8]⟩

/-- The arguments. -/
structure Inputs where
  q : FVec Ideal Cots .f32
  k : FVec Ideal Cots .f32
  z : FVec Ideal Logits .f32
  b : FVec Ideal Bias .f32

/-- The two cotangents of a head's running sum, added, and continued by zeros. -/
def entry (x : Inputs) (l i : ℕ) : EReal := if p : l < 8 ∧ i < 2064 then (x.q (ix2 ⟨l, p.1⟩ ⟨i, p.2⟩) + x.k (ix2 ⟨l, p.1⟩ ⟨i, p.2⟩) : EReal) else 0

theorem entry_late (x : Inputs) (l i : ℕ) (k : 2064 ≤ i) : entry x l i = 0 := dif_neg (by omega)
theorem entry_right (x : Inputs) (l i : ℕ) (k : 8 ≤ l) : entry x l i = 0 := dif_neg (by omega)

/-- The derivative of the logarithm of the logistic function. -/
def slope (f : EReal) : EReal := Ideal.div 1 (1 + Ideal.exp f)

/-- A gate's logit with its bias. -/
def logit (x : Inputs) (i : Fin 2064) (l : Fin 8) : EReal := x.z (ix2 i ⟨4096 + l.val, by omega⟩) + x.b (ix2 0 l)

/-- The gradient of a logit. -/
def back (x : Inputs) (i : Fin 2064) (l : Fin 8) : EReal := run (entry x l.val) 2064 i.val * slope (logit x i l)

/-- The gradients of the logits and of the bias, in arrays of the padded sizes. -/
def padded (x : Inputs) (i : Fin 2176) (l : Fin 128) : EReal :=
  if p : i.val < 2064 ∧ l.val < 8 then back x ⟨i.val, p.1⟩ ⟨l.val, p.2⟩ else 0
def resLogit (x : Inputs) : FVec Ideal ⟨2, ![2176, 128]⟩ .bf16 := fun y => padded x (y 0) (y 1)
def resBias (x : Inputs) : FVec Ideal ⟨2, ![1, 128]⟩ .f32 := fun y => ∑ i : Fin 2176, padded x i (y 1)

end Cert.Forget
end
-- ==== Proof.Forget.Steps.lean ====
module

public import proofs.«01_k».proof.Proof.Forget.Sums
public import proofs.«01_k».proof.Proof.Gen.KernelForgetIdeal.Value
public import Idealize.ShloMosaic.Lib.Pipeline.ValueKit
public import Idealize.ShloMosaic.Lib.StableHlo.ReadAt
public import Idealize.ShloMosaic.Lib.WordCmp

@[expose] public section

set_option maxRecDepth 16384

noncomputable section

open Idealize.ShloMosaic Idealize.ShloMosaic.TcCoe Idealize.SL.Sem
open Idealize.ShloMosaic.Pipeline (Dat)
open scoped BigOperators

namespace Cert.KernelForgetIdeal.Final

open Cert.KernelForgetIdeal Cert.KernelForgetIdeal.Gen Cert.Forget

/-! The body's two kinds of steps: a head spread into its column, and a running sum doubled in length. -/

/-- One head's two cotangents, added, in the column of that head. -/
def head (n : BitVec 32) (a b : Vec Ideal S1x2176x1 .f32) : FVec Ideal S2176x128 .f32 :=
  mulf (broadcastTo S2176x128 (addf (shapeCast S2176x1 a shapeCasts_S1x2176x1_S2176x1) (shapeCast S2176x1 b shapeCasts_S1x2176x1_S2176x1)) broadcasts_S2176x1_S2176x128)
    (broadcastTo S2176x128 (sitofp .f32 (extui 32 (cmpi .eq (iota .tc S1x128 32 [1] iota_S1x128_d1_w32) (broadcast S1x128 n)) natLt_1_32)) broadcasts_S1x128_S2176x128)

/-- A table of sums plus the same table moved up by `2176 - n` rows, with zeros at its end. -/
def step (n : BitVec 32) (a : FVec Ideal S2176x128 .f32) : FVec Ideal S2176x128 .f32 :=
  addf a (select (broadcastTo S2176x128 (shapeCast S2176x1 (cmpi .slt (iota .tc S2176x1 32 [0] iota_S2176x1_d0_w32) (broadcast S2176x1 n)) shapeCasts_S2176x1_S2176x1) broadcasts_S2176x1_S2176x128)
    (dynamicRotate 0 n none a rotates_S2176x128_d0) (broadcast S2176x128 (Scalar.ofBits .f32 0x00000000#32)))

variable (x y : Vec Ideal S8x2176x1 .f32)

/-- The eight heads, each in its column. -/
def spread : FVec Ideal S2176x128 .f32 :=
  addf (addf (addf (addf (addf (addf (addf (addf (broadcast S2176x128 (Scalar.ofBits .f32 0x00000000#32))
    (head 0#32 (View.ld x r0_0) (View.ld y r0_0))) (head 1#32 (View.ld x r0_1) (View.ld y r0_1))) (head 2#32 (View.ld x r0_2) (View.ld y r0_2)))
    (head 3#32 (View.ld x r0_3) (View.ld y r0_3))) (head 4#32 (View.ld x r0_4) (View.ld y r0_4))) (head 5#32 (View.ld x r0_5) (View.ld y r0_5)))
    (head 6#32 (View.ld x r0_6) (View.ld y r0_6))) (head 7#32 (View.ld x r0_7) (View.ld y r0_7))

theorem summed (z : Vec Ideal S2176x128 .f32) (b : Vec Ideal S1x128 .f32) : k0_pay21 x y z b
    = step 128#32 (step 1152#32 (step 1664#32 (step 1920#32 (step 2048#32 (step 2112#32 (step 2144#32 (step 2160#32
        (step 2168#32 (step 2172#32 (step 2174#32 (step 2175#32 (spread x y)))))))))))) := rfl

theorem zero_word : Ideal.ofBits .f32 0x00000000#32 = 0 := by simp [Ideal.ofBits, Ideal.ieee]

theorem select_if (p : Prop) [Decidable p] (a b : EReal) : Scalar.select (BitVec.ofBool (decide p)) a b = if p then a else b := by
  by_cases k : p
  · rw [decide_eq_true k, if_pos k]; rfl
  · rw [decide_eq_false k, if_neg k]; rfl

theorem step_apply (a : FVec Ideal S2176x128 .f32) (w : ℕ) (k : 0 < w ∧ w < 2176) (i : Fin 2176) (l : Fin 128) :
    step (BitVec.ofNat 32 (2176 - w)) a (ix2 i l) = a (ix2 i l) + if p : i.val + w < 2176 then a (ix2 ⟨i.val + w, p⟩ l) else 0 := by
  unfold step
  pointwise []
  have e := i.isLt
  rw [WordCmp.cmpi_slt_ofNat (by omega) (by omega), select_if]
  by_cases p : i.val + w < 2176
  · rw [dif_pos p, if_pos (by omega)]
    refine congrArg (fun r => (a (ix2 i l) : EReal) + a (ix2 r l)) (Fin.ext ?_)
    show (i.val + 2176 - (BitVec.ofNat 32 (2176 - w)).toNat % 2176) % 2176 = i.val + w
    rw [BitVec.toNat_ofNat]
    omega
  · rw [dif_neg p, if_neg (by omega)]

/-- A comparison's word as a number. -/
theorem word_coe (p : Prop) [Decidable p] : (FloatOps.sitofp (F := Ideal) .f32 (BitVec.setWidth 32 (BitVec.ofBool (decide p))) : EReal) = if p then 1 else 0 := by
  by_cases k : p
  · rw [decide_eq_true k, if_pos k]
    show ((((BitVec.setWidth 32 (BitVec.ofBool true)).toInt : ℝ)) : EReal) = 1
    rw [show (BitVec.setWidth 32 (BitVec.ofBool true)).toInt = 1 from by decide]
    simp
  · rw [decide_eq_false k, if_neg k]
    show ((((BitVec.setWidth 32 (BitVec.ofBool false)).toInt : ℝ)) : EReal) = 0
    rw [show (BitVec.setWidth 32 (BitVec.ofBool false)).toInt = 0 from by decide]
    simp

theorem head_apply (n : ℕ) (k : n < 8) (a b : Vec Ideal S1x2176x1 .f32) (i : Fin 2176) (l : Fin 128) :
    head (BitVec.ofNat 32 n) a b (ix2 i l) = if l.val = n then (a (ix3 0 i 0) + b (ix3 0 i 0) : EReal) else 0 := by
  unfold head
  pointwise []
  rw [WordCmp.cmpi_eq_eq_toNat, word_coe, BitVec.toNat_ofNat, BitVec.toNat_ofNat, Nat.mod_eq_of_lt (by omega), Nat.mod_eq_of_lt (by omega)]
  by_cases p : l.val = n
  · rw [if_pos p, if_pos p, mul_one]
  · rw [if_neg p, if_neg p, mul_zero]

theorem spread_apply (i : Fin 2176) (l : Fin 128) :
    spread x y (ix2 i l) = if p : l.val < 8 then (x (ix3 ⟨l.val, p⟩ i 0) + y (ix3 ⟨l.val, p⟩ i 0) : EReal) else 0 := by
  unfold spread
  pointwise []
  rw [head_apply 0 (by omega), head_apply 1 (by omega), head_apply 2 (by omega), head_apply 3 (by omega),
    head_apply 4 (by omega), head_apply 5 (by omega), head_apply 6 (by omega), head_apply 7 (by omega)]
  pointwise []
  by_cases p : l.val < 8
  · rw [dif_pos p]
    obtain ⟨l, e⟩ := l
    dsimp only at p ⊢
    interval_cases l <;> simp <;> rfl
  · rw [dif_neg p, if_neg (by omega), if_neg (by omega), if_neg (by omega), if_neg (by omega), if_neg (by omega), if_neg (by omega),
      if_neg (by omega), if_neg (by omega)]
    simp

/-- Column `l` of a table, continued by zeros. -/
def column (a : FVec Ideal S2176x128 .f32) (l : Fin 128) (i : ℕ) : EReal := if p : i < 2176 then a (ix2 ⟨i, p⟩ l) else 0

theorem column_zero (a : FVec Ideal S2176x128 .f32) (l : Fin 128) (i : ℕ) (k : 2176 ≤ i) : column a l i = 0 := dif_neg (by omega)

/-- A step takes sums of `w` entries to sums of twice as many. -/
theorem step_run (a b : FVec Ideal S2176x128 .f32) (w : ℕ) (k : 0 < w ∧ w < 2176) (n : BitVec 32) (e : n = BitVec.ofNat 32 (2176 - w))
    (given : ∀ i l, a (ix2 i l) = run (column b l) w i.val) (i : Fin 2176) (l : Fin 128) : step n a (ix2 i l) = run (column b l) (w + w) i.val := by
  rw [e, step_apply a w k, run_double _ (column_zero b l), given]
  by_cases p : i.val + w < 2176
  · rw [dif_pos p, if_pos p, given]
  · rw [dif_neg p, if_neg p]

/-- The body's table of sums. -/
theorem summed_apply (z : Vec Ideal S2176x128 .f32) (b : Vec Ideal S1x128 .f32) (i : Fin 2176) (l : Fin 128) :
    k0_pay21 x y z b (ix2 i l) = run (column (spread x y) l) 4096 i.val := by
  rw [summed]
  refine step_run _ _ 2048 (by omega) _ rfl (step_run _ _ 1024 (by omega) _ rfl (step_run _ _ 512 (by omega) _ rfl
    (step_run _ _ 256 (by omega) _ rfl (step_run _ _ 128 (by omega) _ rfl (step_run _ _ 64 (by omega) _ rfl
    (step_run _ _ 32 (by omega) _ rfl (step_run _ _ 16 (by omega) _ rfl (step_run _ _ 8 (by omega) _ rfl
    (step_run _ _ 4 (by omega) _ rfl (step_run _ _ 2 (by omega) _ rfl (step_run _ _ 1 (by omega) _ rfl fun i l => ?_))))))))))) i l
  rw [run_one, column, dif_pos i.isLt]

end Cert.KernelForgetIdeal.Final
end
-- ==== Proof.Forget.Arrays.lean ====
module

public import proofs.«01_k».proof.Proof.Forget.Spec
public import proofs.«01_k».proof.Proof.Forget.Steps

@[expose] public section

set_option maxRecDepth 16384

noncomputable section

open Idealize.ShloMosaic Idealize.ShloMosaic.TcCoe Idealize.SL.Sem
open Idealize.ShloMosaic.Pipeline (Dat)
open scoped BigOperators

namespace Cert.KernelForgetIdeal.Final

open Cert.KernelForgetIdeal Cert.KernelForgetIdeal.Gen Cert.Forget

variable (m : (ℓ : Loc nD τ sig) → Buf (Elt Ideal) ℓ) (c : Dev nD)

/-- The arguments as a device holds them. -/
def args : Inputs where
  q := m ((c.tc : Thread nD τ).loc main_arg0)
  k := m ((c.tc : Thread nD τ).loc main_arg1)
  z := m ((c.tc : Thread nD τ).loc main_arg2)
  b := m ((c.tc : Thread nD τ).loc main_arg3)

/-- The host's zero. -/
abbrev zeroWord : FVec Ideal S_ .f32 := sitofp .f32 (constantI S_ 32 0#32)

theorem host_logit : V m c main_v0 = fun i => pad S2176x4224 ![0, 0] ![112, 120] ![0, 0] (args m c).z zeroWord pads_S2064x4104_S2176x4224_01120_01200 h_S_ i := by
  unfold V; after_reads_simp; rfl
theorem host_bias : V m c main_v1 = fun i => pad S1x128 ![0, 0] ![0, 120] ![0, 0] (args m c).b zeroWord pads_S1x8_S1x128_000_01200 h_S_ i := by
  unfold V; after_reads_simp; rfl
theorem host_q : V m c main_v3 = fun i => shapeCast S8x2176x1 (pad S8x2176 ![0, 0] ![0, 112] ![0, 0] (args m c).q zeroWord pads_S8x2064_S8x2176_000_01120 h_S_) shapeCasts_S8x2176_S8x2176x1 i := by
  unfold V; after_reads_simp; rfl
theorem host_k : V m c main_v5 = fun i => shapeCast S8x2176x1 (pad S8x2176 ![0, 0] ![0, 112] ![0, 0] (args m c).k zeroWord pads_S8x2064_S8x2176_000_01120 h_S_) shapeCasts_S8x2176_S8x2176x1 i := by
  unfold V; after_reads_simp; rfl

theorem idx : ∀ t : Fin cfg0.N, win0_0.index t = ![0, 0, 0] ∧ win0_1.index t = ![0, 0, 0] ∧ win0_2.index t = ![0, 32] ∧ win0_3.index t = ![0, 0]
    ∧ win0_4.index t = ![0, 0] ∧ win0_5.index t = ![0, 0] :=
  (by decide +kernel : ∀ t : Fin grid0.N, _)

variable (t : Fin cfg0.N)

theorem read_q (l : Fin 8) (i : Fin 2176) : iblk m c 0 t (ix3 l i 0) = if p : i.val < 2064 then (args m c).q (ix2 l ⟨i.val, p⟩) else 0 := by
  refine Eq.trans (b := V m c main_v3 (ix3 l i 0)) ?_ ?_
  · obtain ⟨e, -⟩ := idx t
    blk_ext [iblk, e]
  · rw [host_q]
    pointwise []
    by_cases p : i.val < 2064
    · rw [dif_pos p, dif_pos (by omega)]
    · rw [dif_neg p, dif_neg (by omega)]; exact Reals.sitofp_zero

theorem read_k (l : Fin 8) (i : Fin 2176) : iblk m c 1 t (ix3 l i 0) = if p : i.val < 2064 then (args m c).k (ix2 l ⟨i.val, p⟩) else 0 := by
  refine Eq.trans (b := V m c main_v5 (ix3 l i 0)) ?_ ?_
  · obtain ⟨-, e, -⟩ := idx t
    blk_ext [iblk, e]
  · rw [host_k]
    pointwise []
    by_cases p : i.val < 2064
    · rw [dif_pos p, dif_pos (by omega)]
    · rw [dif_neg p, dif_neg (by omega)]; exact Reals.sitofp_zero

theorem read_logit (i : Fin 2064) (l : Fin 8) : iblk m c 2 t (ix2 (⟨i.val, by omega⟩ : Fin 2176) (⟨l.val, by omega⟩ : Fin 128)) = (args m c).z (ix2 i ⟨4096 + l.val, by omega⟩) := by
  refine Eq.trans (b := V m c main_v0 (ix2 (⟨i.val, by omega⟩ : Fin 2176) (⟨4096 + l.val, by omega⟩ : Fin 4224))) ?_ ?_
  · obtain ⟨-, -, e, -⟩ := idx t
    blk_ext [iblk, e]
  · rw [host_logit]
    pointwise []
    rw [dif_pos (by omega)]

theorem read_bias (l : Fin 8) : iblk m c 3 t (ix2 (0 : Fin 1) (⟨l.val, by omega⟩ : Fin 128)) = (args m c).b (ix2 0 l) := by
  refine Eq.trans (b := V m c main_v1 (ix2 (0 : Fin 1) (⟨l.val, by omega⟩ : Fin 128))) ?_ ?_
  · obtain ⟨-, -, -, e, -⟩ := idx t
    blk_ext [iblk, e]
  · rw [host_bias]
    pointwise []

theorem column_entry (l : Fin 128) (i : ℕ) : column (spread (iblk m c 0 t) (iblk m c 1 t)) l i = entry (args m c) l.val i := by
  unfold column entry
  by_cases p : i < 2176
  · rw [dif_pos p, spread_apply]
    by_cases k : l.val < 8
    · rw [dif_pos k, read_q, read_k]
      by_cases e : i < 2064
      · rw [dif_pos e, dif_pos e, dif_pos ⟨k, e⟩]
      · rw [dif_neg e, dif_neg e, dif_neg (by omega), add_zero]
    · rw [dif_neg k, dif_neg (by omega)]
  · rw [dif_neg p, dif_neg (by omega)]

theorem summed_block (i : Fin 2176) (l : Fin 128) : k0_pay21 (iblk m c 0 t) (iblk m c 1 t) (iblk m c 2 t) (iblk m c 3 t) (ix2 i l)
    = run (entry (args m c) l.val) 2064 i.val := by
  rw [summed_apply, show column (spread (iblk m c 0 t) (iblk m c 1 t)) l = entry (args m c) l.val from funext (column_entry m c t l)]
  exact run_longer _ (entry_late _ _) (le_refl _) 2032 _

theorem value (i : Fin 2176) (l : Fin 128) : k0_pay1 (k0_pay21 (iblk m c 0 t) (iblk m c 1 t) (iblk m c 2 t) (iblk m c 3 t)) (iblk m c 2 t) (iblk m c 3 t) (ix2 i l)
    = padded (args m c) i l := by
  pointwise [k0_pay1]
  rw [summed_block, padded]
  by_cases p : i.val < 2064 ∧ l.val < 8
  · rw [dif_pos p, back, Forget.slope, Forget.logit, ← read_logit m c t, ← read_bias m c t]
  · rw [dif_neg p, show run (entry (args m c) l.val) 2064 i.val = 0 from Finset.sum_eq_zero fun j _ => dif_neg (by omega), zero_mul]

theorem tile_logit (i : Fin 2176) (l : Fin 128) : out0_4 (iblk m c 0 t) (iblk m c 1 t) (iblk m c 2 t) (iblk m c 3 t) (ix2 i l) = padded (args m c) i l := by
  rw [← value m c t]
  unfold out0_4
  frame_out
  pointwise [k0_pay2]

theorem tile_bias (l : Fin 128) : out0_5 (iblk m c 0 t) (iblk m c 1 t) (iblk m c 2 t) (iblk m c 3 t) (ix2 0 l) = ∑ i : Fin 2176, padded (args m c) i l := by
  simp only [← value m c t]
  unfold out0_5
  frame_out
  pointwise [k0_pay3]

theorem final_logit : (dats m 0 c).arrAt 4 cfg0.N = resLogit (args m c) := by
  refine (dats m 0 c).arrAt_eq_of_covers 4 _ (by decide +kernel) fun t hf y => ?_
  refine Eq.trans ?_ (congrArg (resLogit (args m c)) (?_ : ix2 (y 0 : Fin 2176) (y 1 : Fin 128) = ((cfg0.win 4).blk t).view.emb y))
  · blk_simp
    rw [after0_4]
    exact (congrArg _ (eq_ix2 y)).trans (tile_logit m c t (y 0) (y 1))
  · obtain ⟨-, -, -, -, e, -⟩ := idx t
    blk_ext [e]

theorem final_bias : (dats m 0 c).arrAt 5 cfg0.N = resBias (args m c) := by
  refine (dats m 0 c).arrAt_eq_of_covers 5 _ (by decide +kernel) fun t hf y => ?_
  refine Eq.trans ?_ (congrArg (resBias (args m c)) (?_ : ix2 (0 : Fin 1) (y 1 : Fin 128) = ((cfg0.win 5).blk t).view.emb y))
  · blk_simp
    rw [after0_5]
    exact (congrArg _ ((eq_ix2 y).trans (congrArg (fun z : Fin 1 => ix2 z (y 1)) (Subsingleton.elim _ _)))).trans (tile_bias m c t (y 1))
  · obtain ⟨-, -, -, -, -, e⟩ := idx t
    blk_ext [e]

end Cert.KernelForgetIdeal.Final
end
-- ==== Proof.Forget.Reference.lean ====
module

public import proofs.«01_k».proof.Proof.Forget.Spec
public import proofs.«01_k».proof.Proof.Forget.Arrays
public import proofs.«01_k».proof.Proof.Gen.ReferenceForgetIdeal.Read

@[expose] public section

set_option maxRecDepth 16384

noncomputable section

open Idealize.ShloMosaic Idealize.ShloMosaic.TcCoe Idealize.SL.Sem
open Idealize.ShloMosaic.Pipeline (Dat)
open scoped BigOperators

namespace Cert.ReferenceForgetIdeal.Final

open Cert.ReferenceForgetIdeal Cert.ReferenceForgetIdeal.Value Cert.ReferenceForgetIdeal.Read Cert.Forget

variable (x : Inputs)

theorem ref_logit (i : Fin 2064) (l : Fin 8) : val_main_v4 (F := Ideal) x.z x.b (ix2 i l) = logit x i l := by
  pointwise [val_main_v4, val_main_v0, val_main_v3, val_main_v2, val_main_v1]
  rfl

theorem max_coe (a b : ℝ) : max (a : EReal) (b : EReal) = ((max a b : ℝ) : EReal) := (EReal.coe_strictMono.monotone.map_max).symm

theorem exp_zero : Ideal.exp 0 = 1 := by
  rw [← EReal.coe_zero, Ideal.exp_coe, Real.exp_zero, EReal.coe_one]

theorem log1p_zero : Ideal.log1p 0 = 0 := by
  rw [Ideal.log1p, add_zero, ← EReal.coe_one, Ideal.log_coe, if_neg (by norm_num), Real.log_one, EReal.coe_zero]

theorem slope_real (r : ℝ) : Forget.slope (r : EReal) = ((1 + Real.exp r)⁻¹ : ℝ) := by
  rw [Forget.slope, Ideal.exp_coe, ← EReal.coe_one, ← EReal.coe_add, Reals.div_coe_coe _ (Gate.denominator_ne _), one_div]

theorem exp_less_log (r : ℝ) : Real.exp (-r - (max (-r) 0 + Real.log (1 + Real.exp (-max (-r) r)))) = (1 + Real.exp r)⁻¹ := by
  have d : 0 < 1 + Real.exp (-max (-r) r) := by positivity
  rw [← sub_sub, Real.exp_sub, Real.exp_log d, div_eq_iff d.ne', eq_comm, inv_mul_eq_iff_eq_mul₀ (Gate.denominator_ne r), add_mul, one_mul, ← Real.exp_add]
  rcases le_total r 0 with k | k
  · rw [max_eq_left (by linarith), max_eq_left (by linarith), sub_self, Real.exp_zero, add_zero, neg_neg]
  · rw [max_eq_right (by linarith), max_eq_right (by linarith), sub_zero, add_neg_cancel, Real.exp_zero, add_comm]

/-- The derivative as the rules of differentiation give it: by the exponential of the argument less the function's value, with the infinite values
    taken apart. -/
theorem slope_of_exp (f : EReal) : Ideal.exp ((if -f = Ideal.ofBits .f32 0x7F800000#32 then 0 else -f)
      - if (if -f ≠ -f then -f else max (-f) 0 + Ideal.log1p (Ideal.exp (-FloatOps.absf (F := Ideal) (φ := .f32) (-f)))) = Ideal.ofBits .f32 0x7F800000#32 then 0
        else if -f ≠ -f then -f else max (-f) 0 + Ideal.log1p (Ideal.exp (-FloatOps.absf (F := Ideal) (φ := .f32) (-f)))) = Forget.slope f := by
  have a : FloatOps.absf (F := Ideal) (φ := .f32) (-f) = max (-f) f := (rfl : _ = max (-f) (-(-f))).trans (by rw [neg_neg])
  rw [Reals.inf_word, a]
  simp only [ne_eq, not_true_eq_false, if_false]
  induction f using EReal.rec with
  | bot => simp [log1p_zero, exp_zero, Forget.slope, Ideal.div]
  | top => simp [log1p_zero, Forget.slope, Ideal.div, EReal.add_top_of_ne_bot (show (1 : EReal) ≠ ⊥ by decide)]
  | coe r =>
    have e : max (-(r : EReal)) 0 + Ideal.log1p (Ideal.exp (-max (-(r : EReal)) r)) = ((max (-r) 0 + Real.log (1 + Real.exp (-max (-r) r)) : ℝ) : EReal) := by
      rw [← EReal.coe_neg, ← EReal.coe_zero, max_coe, max_coe, ← EReal.coe_neg, Ideal.exp_coe, Ideal.log1p, ← EReal.coe_one, ← EReal.coe_add,
        Ideal.log_coe, if_neg (not_le.2 (by positivity)), ← EReal.coe_add]
    rw [e, if_neg (EReal.coe_ne_top _), ← EReal.coe_neg, if_neg (EReal.coe_ne_top _), ← EReal.coe_sub, Ideal.exp_coe, exp_less_log, slope_real]

theorem ref_slope (i : Fin 2064) (l : Fin 8) : val_main_v5_1 (F := Ideal) x.z x.b (ix2 i l) = slope (logit x i l) := by
  rw [← ref_logit]
  pointwise [val_main_v5_1, val_main_call0_call0_v21, val_main_call0_call0_v20, val_main_call0_call0_v19, val_main_call0_call0_cst_3, val_main_call0_call0_v18,
    val_main_call0_call0_v17, val_main_call0_call0_cst_2, val_main_call0_call0_v16, val_main_call0_call0_v15, val_main_call0_call0_cst_1, val_main_call0_call0_v14,
    val_main_call0_call0_v13, val_main_call0_call0_cst_0, val_main_call0_v1_0, val_main_call0_call0_v11, val_main_call0_call0_v10, val_main_call0_call0_v9,
    val_main_call0_call0_v8, val_main_call0_call0_v7, val_main_call0_call0_v6, val_main_call0_call0_v5, val_main_call0_call0_v4, val_main_call0_call0_v3,
    val_main_call0_call0_v2, val_main_call0_call0_v1, val_main_call0_call0_v0, val_main_call0_call0_cst, val_main_call0_v0]
  exact slope_of_exp _

theorem zero_start (j : S_.Idx) : val_main_call2_call0_v0 (F := Ideal) j = 0 := by
  pointwise [val_main_call2_call0_v0, val_main_call2_call0_cst]

theorem ref_run (i : Fin 2064) (l : Fin 8) : val_main_v9 (F := Ideal) x.q x.k (ix2 l i) = run (entry x l.val) 2064 i.val := by
  have row : (fun j => if p : j < 2064 then val_main_v8 (F := Ideal) x.q x.k (ix2 l ⟨j, p⟩) else 0) = entry x l.val := funext fun j => by
    unfold entry
    by_cases p : j < 2064
    · rw [dif_pos p, dif_pos ⟨l.isLt, p⟩]
      pointwise [val_main_v8]
    · rw [dif_neg p, dif_neg (by omega)]
  rw [← row]
  unfold val_main_v9 Host.reduceWindowAdd
  rw [Ideal.hostReduceWindowAdd_def, zero_start]
  exact window_to_end (m := 2063) rfl _ _ l i

theorem ref_back (i : Fin 2064) (l : Fin 8) : val_main_v11 (F := Ideal) x.q x.k x.z x.b (ix2 i l) = back x i l := by
  rw [back, ← ref_run, ← ref_slope]
  pointwise [val_main_v11, val_main_call3_v1, val_main_call3_v0, val_main_v10]
  rw [EReal.neg_mul, neg_neg]

theorem ref_padded (i : Fin 2176) (l : Fin 128) : val_main_v16 (F := Ideal) x.q x.k x.z x.b (ix2 i l) = padded x i l := by
  pointwise [val_main_v16, val_main_call4_v0, val_main_c]
  unfold padded
  by_cases p : i.val < 2064 ∧ l.val < 8
  · rw [dif_pos p, dif_pos (by omega), ref_back]
  · rw [dif_neg p, dif_neg (by omega)]; exact Reals.sitofp_zero

theorem ref_logits : val_main_v17 (F := Ideal) x.q x.k x.z x.b = resLogit x :=
  (funext fun _ => rfl : _ = val_main_v16 (F := Ideal) x.q x.k x.z x.b).trans (funext fun y => by rw [eq_ix2 y]; exact ref_padded x (y 0) (y 1))

theorem ref_bias_at (l : Fin 8) : val_main_v15 (F := Ideal) x.q x.k x.z x.b (ix2 0 l) = ∑ i, back x i l := by
  simp only [← ref_back]
  pointwise [val_main_v15, val_main_v14, val_main_v13, val_main_v12, val_main_cst, val_main_cst_0]
  rw [Fin.sum_univ_one]

/-- The padded rows add nothing to a sum. -/
theorem sum_padded (l : Fin 128) : ∑ i : Fin 2176, padded x i l = if p : l.val < 8 then ∑ i, back x i ⟨l.val, p⟩ else 0 := by
  rw [show ∑ i : Fin 2176, padded x i l = ∑ i : Fin (2064 + 112), padded x i l from rfl, Fin.sum_univ_add,
    Finset.sum_eq_zero (s := (Finset.univ : Finset (Fin 112))) fun i _ => dif_neg fun e => absurd e.1 (by simp), add_zero]
  by_cases p : l.val < 8
  · rw [dif_pos p]
    exact Finset.sum_congr rfl fun i _ => dif_pos ⟨i.isLt, p⟩
  · rw [dif_neg p]
    exact Finset.sum_eq_zero fun i _ => dif_neg fun e => p e.2

theorem ref_bias_padded (l : Fin 128) : val_main_v18 (F := Ideal) x.q x.k x.z x.b (ix2 0 l) = ∑ i : Fin 2176, padded x i l := by
  pointwise [val_main_v18, val_main_call5_v0, val_main_c_1]
  rw [sum_padded]
  by_cases p : l.val < 8
  · rw [dif_pos p, dif_pos (by omega), ref_bias_at]
  · rw [dif_neg p, dif_neg (by omega)]; exact Reals.sitofp_zero

theorem ref_bias : val_main_v18 (F := Ideal) x.q x.k x.z x.b = resBias x := funext fun y => by
  rw [(eq_ix2 y).trans (congrArg (fun z : Fin 1 => ix2 z (y 1)) (Subsingleton.elim _ 0))]
  exact ref_bias_padded x (y 1)

end Cert.ReferenceForgetIdeal.Final
end
-- ==== Proof.Forget.Claims.lean ====
module

public import proofs.«01_k».proof.Proof.Forget.Reference
public import proofs.«01_k».proof.Proof.Gen.KernelForgetIdeal.Frame
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Proof.Forget

open Cert.KernelForgetIdeal.Final Cert.Forget

theorem frame_reference : Cert.quiescent_ReferenceForgetIdeal := by
  intro m g _
  exact (θ_run _ _ _).mono (fun r h => ⟨fun c => (h c).2.2, sem_eq_zero_of_no_sems (by decide) r.2⟩)
    (Cert.ReferenceForgetIdeal.Value.run m g)

theorem equal : Cert.algebraic_KernelForgetIdeal_ReferenceForgetIdeal := by
  intro m g m' g' _ hag
  refine ⟨fun c => resLogit (args m c), fun c => resBias (args m c), ?_, ?_⟩
  · refine (θ_run _ _ _).mono (fun r h c => ?_) (Cert.KernelForgetIdeal.Value.run_blocks m g)
    exact ⟨(h c).1.trans (final_logit m c), (h c).2.1.trans (final_bias m c), (h c).2.2⟩
  · refine (θ_run _ _ _).mono (fun r h c => ?_) (Cert.ReferenceForgetIdeal.Value.run m' g')
    have e := h c
    obtain ⟨a0, a1, a2, a3⟩ := hag c
    have same : Inputs.mk _ _ _ _ = args m c := congr (congr (congr (congrArg Inputs.mk a0) a1) a2) a3
    exact ⟨(e.1.trans (Cert.ReferenceForgetIdeal.Read.val_main_v17_eq m' c)).trans ((Cert.ReferenceForgetIdeal.Final.ref_logits (Inputs.mk _ _ _ _)).trans (congrArg resLogit same)),
      (e.2.1.trans (Cert.ReferenceForgetIdeal.Read.val_main_v18_eq m' c)).trans ((Cert.ReferenceForgetIdeal.Final.ref_bias (Inputs.mk _ _ _ _)).trans (congrArg resBias same)), (h c).2.2⟩

end Cert.Proof.Forget
end
-- ==== Proof.Pool.Math.lean ====
module

public import proofs.«01_k».proof.Proof.Forget.Sums
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.Pool

open Idealize.ShloMosaic Cert.Forget

/-! Windows of a sequence that end at an entry, and the gradient through their sums. -/

/-- The sum of the `w` entries that end with entry `i`, or of all up to `i` where there are fewer. -/
def back (d : ℕ → EReal) (w i : ℕ) : EReal := run d (min w (i + 1)) (i + 1 - min w (i + 1))

theorem back_one (d : ℕ → EReal) (i : ℕ) : back d 1 i = d i := by
  simp only [back, (by omega : min 1 (i + 1) = 1), run_one, Nat.add_sub_cancel]

/-- A window of twice the length is two windows, the second as far back as the first is long. -/
theorem back_double (d : ℕ → EReal) (w i : ℕ) (pos : 0 < w) :
    back d (w + w) i = back d w i + if w ≤ i then back d w (i - w) else 0 := by
  unfold back
  by_cases p : w ≤ i
  · rw [if_pos p, (by omega : min (w + w) (i + 1) = min w (i - w + 1) + min w (i + 1)), run_add, add_comm]
    congr 2 <;> omega
  · rw [if_neg p, add_zero, (by omega : min (w + w) (i + 1) = i + 1), (by omega : min w (i + 1) = i + 1)]

theorem run_coe (e : ℕ → ℝ) (w i : ℕ) : run (fun j => (e j : EReal)) w i = ((∑ j ∈ Finset.range w, e (i + j) : ℝ) : EReal) :=
  (Reals.coe_sum _ _).symm

/-- A window of real numbers is the difference of two sums from the start. -/
theorem back_difference (e : ℕ → ℝ) (w i : ℕ) :
    run (fun j => (e j : EReal)) (i + 1) 0 - run (fun j => (e j : EReal)) (i + 1 - w) 0 = back (fun j => (e j : EReal)) w i := by
  have parts : run (fun j => (e j : EReal)) (i + 1) 0 = run (fun j => (e j : EReal)) (i + 1 - w) 0 + back (fun j => (e j : EReal)) w i := by
    unfold back
    rw [(by omega : i + 1 = i + 1 - w + min w (i + 1)), run_add]
    congr 2 <;> omega
  rw [parts]
  unfold back
  rw [run_coe, run_coe, ← EReal.coe_add, ← EReal.coe_sub, add_sub_cancel_left]

/-- Each entry less the entry `w` further on, summed to the end, is a window of length `w`. -/
theorem ahead (f : ℕ → ℝ) {n : ℕ} (zero : ∀ i, n ≤ i → f i = 0) (w r : ℕ) :
    run (fun j => ((f j : EReal) + -(f (j + w) : EReal))) n r = run (fun j => (f j : EReal)) w r := by
  have real : (fun j => ((f j : EReal) + -(f (j + w) : EReal))) = fun j => ((f j - f (j + w) : ℝ) : EReal) :=
    funext fun j => by rw [EReal.coe_sub, sub_eq_add_neg]
  rw [real, run_coe, run_coe]
  refine congrArg _ ?_
  have long : ∑ j ∈ Finset.range (n + w), f (r + j) = ∑ j ∈ Finset.range n, f (r + j) := by
    rw [Finset.sum_range_add, Finset.sum_eq_zero (s := Finset.range w) fun j _ => zero _ (by omega), add_zero]
  rw [Finset.sum_sub_distrib, ← long, add_comm n w, Finset.sum_range_add]
  simp only [(fun j => by omega : ∀ j, r + (w + j) = r + j + w), add_sub_cancel_right]

variable {n a b : ℕ} (x : (⟨3, ![n, a, b]⟩ : Shape).Idx → EReal)

/-- The sliding windows along the first axis that are as long as the axis. -/
theorem window_first (lo hi : ℕ)
    (h : (⟨3, ![n, a, b]⟩ : Shape).ReduceWindows (![n, 1, 1] : Fin 3 → ℕ) ![1, 1, 1] ![lo, 0, 0] ![hi, 0, 0] ⟨3, ![n, a, b]⟩)
    (i : Fin n) (k : Fin a) (l : Fin b) :
    Ideal.hostReduceWindowAdd ![n, 1, 1] ![1, 1, 1] ![lo, 0, 0] ![hi, 0, 0] h x 0 (ix3 i k l)
      = ∑ j : Fin n, if p : lo ≤ i.val + j.val ∧ i.val + j.val - lo < n then x (ix3 ⟨i.val + j.val - lo, p.2⟩ k l) else 0 := by
  unfold Ideal.hostReduceWindowAdd Host.reduceWindow
  rw [foldl_add, zero_add, ← Fin.sum_univ_def]
  refine (Fintype.sum_bijective (fun j : Fin n => (⟨3, ![n, 1, 1]⟩ : Shape).rowMajor (ix3 j (0 : Fin 1) (0 : Fin 1))) ?_ _ _ fun j => ?_).symm
  · refine ((⟨3, ![n, 1, 1]⟩ : Shape).rowMajor.bijective).comp ⟨fun b c e => congrFun e 0, fun y => ⟨y 0, ?_⟩⟩
    exact (congr (congrArg (fun z w : Fin 1 => ix3 (y 0 : Fin n) z w) ((Subsingleton.elim _ _ : (0 : Fin 1) = y 1))) (Subsingleton.elim _ _ : (0 : Fin 1) = y 2)).trans (eq_ix3 y).symm
  · have given := Equiv.symm_apply_apply (⟨3, ![n, 1, 1]⟩ : Shape).rowMajor (ix3 j (0 : Fin 1) (0 : Fin 1))
    generalize (⟨3, ![n, 1, 1]⟩ : Shape).rowMajor (ix3 j (0 : Fin 1) (0 : Fin 1)) = q at given ⊢
    have w0 : ((⟨3, ![n, 1, 1]⟩ : Shape).rowMajor.symm q 0).val = j.val := by rw [given]; rfl
    have w1 : ((⟨3, ![n, 1, 1]⟩ : Shape).rowMajor.symm q 1).val = 0 := by rw [given]; rfl
    have w2 : ((⟨3, ![n, 1, 1]⟩ : Shape).rowMajor.symm q 2).val = 0 := by rw [given]; rfl
    have hk := k.isLt
    have hl := l.isLt
    by_cases p : lo ≤ i.val + j.val ∧ i.val + j.val - lo < n
    · rw [dif_pos p, dif_pos]
      · refine congrArg x (funext fun axis => Fin.ext ?_)
        match axis with
        | ⟨0, _⟩ => show i.val + j.val - lo = i.val * 1 + ((⟨3, ![n, 1, 1]⟩ : Shape).rowMajor.symm q 0).val - lo; omega
        | ⟨1, _⟩ => show k.val = k.val * 1 + ((⟨3, ![n, 1, 1]⟩ : Shape).rowMajor.symm q 1).val - 0; omega
        | ⟨2, _⟩ => show l.val = l.val * 1 + ((⟨3, ![n, 1, 1]⟩ : Shape).rowMajor.symm q 2).val - 0; omega
      · intro axis
        match axis with
        | ⟨0, _⟩ =>
          show lo ≤ i.val * 1 + ((⟨3, ![n, 1, 1]⟩ : Shape).rowMajor.symm q 0).val ∧ i.val * 1 + ((⟨3, ![n, 1, 1]⟩ : Shape).rowMajor.symm q 0).val - lo < n
          omega
        | ⟨1, _⟩ =>
          show 0 ≤ k.val * 1 + ((⟨3, ![n, 1, 1]⟩ : Shape).rowMajor.symm q 1).val ∧ k.val * 1 + ((⟨3, ![n, 1, 1]⟩ : Shape).rowMajor.symm q 1).val - 0 < a
          omega
        | ⟨2, _⟩ =>
          show 0 ≤ l.val * 1 + ((⟨3, ![n, 1, 1]⟩ : Shape).rowMajor.symm q 2).val ∧ l.val * 1 + ((⟨3, ![n, 1, 1]⟩ : Shape).rowMajor.symm q 2).val - 0 < b
          omega
    · rw [dif_neg p, dif_neg]
      intro every
      have := every 0
      change lo ≤ i.val * 1 + ((⟨3, ![n, 1, 1]⟩ : Shape).rowMajor.symm q 0).val ∧ i.val * 1 + ((⟨3, ![n, 1, 1]⟩ : Shape).rowMajor.symm q 0).val - lo < n at this
      omega

/-- A column of the table as a sequence that ends with zeros. -/
def column (k : Fin a) (l : Fin b) (j : ℕ) : EReal := if p : j < n then x (ix3 ⟨j, p⟩ k l) else 0

/-- The windows that reach to the end. -/
theorem to_end (m : ℕ) (h : (⟨3, ![n, a, b]⟩ : Shape).ReduceWindows (![n, 1, 1] : Fin 3 → ℕ) ![1, 1, 1] ![0, 0, 0] ![m, 0, 0] ⟨3, ![n, a, b]⟩)
    (i : Fin n) (k : Fin a) (l : Fin b) :
    Ideal.hostReduceWindowAdd ![n, 1, 1] ![1, 1, 1] ![0, 0, 0] ![m, 0, 0] h x 0 (ix3 i k l) = run (column x k l) n i.val := by
  rw [window_first, run, Finset.sum_range]
  refine Finset.sum_congr rfl fun j _ => ?_
  unfold column
  by_cases p : i.val + j.val < n
  · rw [dif_pos p, dif_pos ⟨Nat.zero_le _, p⟩]; rfl
  · rw [dif_neg p, dif_neg fun q => p q.2]

/-- The windows that begin at the start. -/
theorem from_start (m : ℕ) (e : m + 1 = n) (h : (⟨3, ![n, a, b]⟩ : Shape).ReduceWindows (![n, 1, 1] : Fin 3 → ℕ) ![1, 1, 1] ![m, 0, 0] ![0, 0, 0] ⟨3, ![n, a, b]⟩)
    (i : Fin n) (k : Fin a) (l : Fin b) :
    Ideal.hostReduceWindowAdd ![n, 1, 1] ![1, 1, 1] ![m, 0, 0] ![0, 0, 0] h x 0 (ix3 i k l) = run (column x k l) (i.val + 1) 0 := by
  rw [window_first, run, ← Finset.sum_range_reflect, ← Equiv.sum_comp Fin.revPerm]
  have hi := i.isLt
  rw [Finset.sum_fin_eq_sum_range, ← Finset.sum_subset (Finset.range_subset_range.2 hi)]
  · refine Finset.sum_congr rfl fun j q => ?_
    have hj := Finset.mem_range.1 q
    have back : (Fin.revPerm (⟨j, by omega⟩ : Fin n)).val = n - 1 - j := by rw [Fin.revPerm_apply, Fin.val_rev]; show n - (j + 1) = _; omega
    unfold column
    rw [dif_pos (by omega), dif_pos (by omega), dif_pos (by omega)]
    exact congrArg x (congrArg (fun r => ix3 r k l) (Fin.ext (by show i.val + (Fin.revPerm (⟨j, by omega⟩ : Fin n)).val - m = 0 + (i.val + 1 - 1 - j); omega)))
  · intro j q out
    have hj := Finset.mem_range.1 q
    have far : ¬ j < i.val + 1 := fun r => out (Finset.mem_range.2 r)
    have back : (Fin.revPerm (⟨j, by omega⟩ : Fin n)).val = n - 1 - j := by rw [Fin.revPerm_apply, Fin.val_rev]; show n - (j + 1) = _; omega
    rw [dif_pos hj, dif_neg (by omega)]

end Cert.Pool

end
-- ==== Proof.Pool.Spec.lean ====
module

public import proofs.«01_k».proof.Proof.Pool.Math
public import proofs.«01_k».proof.Proof.Reals
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Pool

open Idealize.ShloMosaic

/-! The pooling of four groups of lanes, and its gradient. -/

/-- Lane `e` of group `g`. -/
def lane (g : Fin 4) (e : Fin 256) : Fin 1024 := ⟨256 * g.val + e.val, by omega⟩

theorem lane_surjective (l : Fin 1024) : ∃ g e, l = lane g e :=
  ⟨⟨l.val / 256, by omega⟩, ⟨l.val % 256, by omega⟩, Fin.ext (by simp only [lane]; omega)⟩

/-- The length of a group's windows. -/
def window (g : Fin 4) : ℕ := 2 ^ (g.val + 1)

/-- The number of rows of the window that ends with row `i`. -/
def rows (g : Fin 4) (i : ℕ) : ℕ := min (window g) (i + 1)

/-- The arguments: rows, weights, scale and cotangent. -/
structure Inputs where
  p : (⟨2, ![2064, 1024]⟩ : Shape).Idx → EReal
  w : (⟨3, ![4, 256, 256]⟩ : Shape).Idx → EReal
  s : (⟨2, ![1, 1024]⟩ : Shape).Idx → EReal
  ct : (⟨2, ![2064, 1024]⟩ : Shape).Idx → EReal

namespace Inputs

variable (x : Inputs)

/-- A lane's rows, continued by zeros. -/
def row (l : Fin 1024) (i : ℕ) : EReal := if p : i < 2064 then x.p (ix2 ⟨i, p⟩ l) else 0

/-- A row's window divided by its length, less the row. -/
def pooled (g : Fin 4) (e : Fin 256) (i : ℕ) : EReal :=
  Ideal.div (back (x.row (lane g e)) (window g) i) ((rows g i : ℝ) : EReal) - x.row (lane g e) i

/-- The pooled rows times the weights. -/
def mixed (g : Fin 4) (e : Fin 256) (i : ℕ) : EReal := ∑ k : Fin 256, x.pooled g k i * x.w (ix3 g k e)

/-- The cotangent of that product, zero beyond the rows. -/
def back1 (g : Fin 4) (e : Fin 256) (i : ℕ) : EReal := if p : i < 2064 then x.ct (ix2 ⟨i, p⟩ (lane g e)) * x.s (ix2 0 (lane g e)) else 0

/-- The cotangent of the pooled rows. -/
def back2 (g : Fin 4) (e : Fin 256) (i : ℕ) : EReal := ∑ k : Fin 256, x.back1 g k i * x.w (ix3 g e k)

/-- The gradient of the rows. -/
def dp (g : Fin 4) (e : Fin 256) (i : ℕ) : EReal :=
  Forget.run (fun j => Ideal.div (x.back2 g e j) ((rows g j : ℝ) : EReal)) (window g) i - x.back2 g e i

/-- The gradient of the weights. -/
def dw (g : Fin 4) (k e : Fin 256) : EReal := ∑ i : Fin 2064, x.pooled g k i.val * x.back1 g e i.val

/-- The gradient of the scale. -/
def ds (g : Fin 4) (e : Fin 256) : EReal := ∑ i : Fin 2064, x.ct (ix2 i (lane g e)) * x.mixed g e i.val

end Inputs

theorem window_le (g : Fin 4) : 2 ≤ window g ∧ window g ≤ 16 := by revert g; decide

theorem back2_zero (x : Inputs) (g : Fin 4) (e : Fin 256) (r : ℕ) (k : 2064 ≤ r) : x.back2 g e r = 0 := by
  refine Finset.sum_eq_zero fun e _ => ?_
  rw [Inputs.back1, dif_neg (by omega), zero_mul]

theorem rows_pos (g : Fin 4) (i : ℕ) : 0 < rows g i := by
  have := window_le g
  unfold rows
  omega

theorem share_zero (x : Inputs) (g : Fin 4) (e : Fin 256) (r : ℕ) (k : 2064 ≤ r) : Ideal.div (x.back2 g e r) ((rows g r : ℝ) : EReal) = 0 := by
  have := rows_pos g r
  rw [back2_zero x g e r k, ← EReal.coe_zero, Reals.div_coe_coe _ (by positivity), zero_div]

/-- The group of a lane, and its place in the group. -/
def groupIn (l : Fin 1024) : Fin 4 := ⟨l.val / 256, by omega⟩
def placeIn (l : Fin 1024) : Fin 256 := ⟨l.val % 256, by omega⟩

/-- The three results. -/
def resRows (x : Inputs) : FVec Ideal ⟨2, ![2176, 1024]⟩ .bf16 := fun i => x.dp (groupIn (i 1)) (placeIn (i 1)) (i 0).val
def resWeights (x : Inputs) : FVec Ideal ⟨3, ![4, 256, 256]⟩ .bf16 := fun i => x.dw (i 0) (i 1) (i 2)
def resScale (x : Inputs) : FVec Ideal ⟨2, ![1, 1024]⟩ .f32 := fun i => x.ds (groupIn (i 1)) (placeIn (i 1))

/-- The sums beyond the rows are zero. -/
theorem dp_zero (x : Inputs) (g : Fin 4) (e : Fin 256) (r : ℕ) (k : 2064 ≤ r) : x.dp g e r = 0 := by
  rw [Inputs.dp, back2_zero x g e r k, sub_zero, Forget.run]
  exact Finset.sum_eq_zero fun j _ => share_zero x g e _ (by omega)

end Cert.Pool

end
-- ==== Proof.Pool.Index.lean ====
module

public import proofs.«01_k».proof.Proof.Pool.Spec
public import proofs.«01_k».proof.Proof.Gen.ReferencePoolIdeal.Read
public import Idealize.ShloMosaic.Lib.Pointwise
public import Idealize.ShloMosaic.Lib.WordArith
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)
open scoped BigOperators

namespace Cert.ReferencePoolIdeal.Final

open Cert.ReferencePoolIdeal Cert.Pool

/-! Reading and adding at rows and groups that index words name. -/

abbrev taken : GatherDims S2065x4x256 S2064x4x2 S2064x4x256 := gather_S2065x4x256_S2064x4x2_S2064x4x256_2_01_n_n_01_2_11256
abbrev added : ScatterDims S2065x4x256 S2064x4x2 S2064x4x256 := scatter_S2065x4x256_S2064x4x2_S2064x4x256_2_01_01_2

variable (idx : IVec S2064x4x2 32)

theorem taken_apply (x : S2065x4x256.Idx → EReal) (i : Fin 2064) (g : Fin 4) (e : Fin 256) :
    Host.gather taken x idx (ix3 i g e)
      = x (ix3 ⟨min (idx (ix3 i g 0)).toInt.toNat 2064, by omega⟩ ⟨min (idx (ix3 i g 1)).toInt.toNat 3, by omega⟩ e) := by
  unfold Host.gather
  congr 1
  funext a
  refine Fin.ext ?_
  show taken.start (ix3 i g e) idx a + taken.batchCoord (ix3 i g e) a + taken.offCoord (ix3 i g e) a = _
  have first : ∀ q : Fin 2, (fun b => taken.siIdx (ix3 i g e) (Fin.cast (by decide) q) b) = ix3 i g q := fun q => by
    funext b
    refine Fin.ext ?_
    match b with
    | ⟨0, _⟩ => rfl
    | ⟨1, _⟩ => rfl
    | ⟨2, _⟩ => rfl
  have cases : a = 0 ∨ a = 1 ∨ a = 2 := by
    match a with
    | ⟨0, _⟩ => exact .inl rfl
    | ⟨1, _⟩ => exact .inr (.inl rfl)
    | ⟨2, _⟩ => exact .inr (.inr rfl)
  rcases cases with rfl | rfl | rfl
  · unfold GatherDims.start
    rw [dif_pos (by decide)]
    exact congrArg (fun k => min (idx k).toInt.toNat 2064) (first 0)
  · unfold GatherDims.start
    rw [dif_pos (by decide)]
    exact congrArg (fun k => min (idx k).toInt.toNat 3) (first 1)
  · unfold GatherDims.start
    rw [dif_neg (by decide)]
    show 0 + 0 + e.val = e.val
    omega

theorem added_lands (i : Fin 2064) (g : Fin 4) (e : Fin 256) (r : Fin 2065) (h : Fin 4) (f : Fin 256) :
    added.resultIdx? (ix3 i g e) idx = some (ix3 r h f) ↔ (idx (ix3 i g 0)).toInt = r.val ∧ (idx (ix3 i g 1)).toInt = h.val ∧ e = f := by
  have first : ∀ q : Fin 2, (fun b => added.siIdx (ix3 i g e) (Fin.cast (by decide) q) b) = ix3 i g q := fun q => by
    funext b
    refine Fin.ext ?_
    match b with
    | ⟨0, _⟩ => rfl
    | ⟨1, _⟩ => rfl
    | ⟨2, _⟩ => rfl
  have s0 : added.start (ix3 i g e) idx 0 = (idx (ix3 i g 0)).toInt := by
    unfold ScatterDims.start
    rw [dif_pos (by decide)]
    exact congrArg (fun k => (idx k).toInt) (first 0)
  have s1 : added.start (ix3 i g e) idx 1 = (idx (ix3 i g 1)).toInt := by
    unfold ScatterDims.start
    rw [dif_pos (by decide)]
    exact congrArg (fun k => (idx k).toInt) (first 1)
  have s2 : added.start (ix3 i g e) idx 2 = 0 := by
    unfold ScatterDims.start
    rw [dif_neg (by decide)]
  have w0 : added.window (ix3 i g e) 0 = 0 := rfl
  have w1 : added.window (ix3 i g e) 1 = 0 := rfl
  have w2 : added.window (ix3 i g e) 2 = e.val := rfl
  rw [Routing.resultIdx?_eq_some]
  constructor
  · intro k
    have k0 := k 0
    have k1 := k 1
    have k2 := k 2
    rw [s0, w0] at k0
    rw [s1, w1] at k1
    rw [s2, w2] at k2
    refine ⟨by simpa using k0, by simpa using k1, Fin.ext ?_⟩
    have : ((e.val : ℤ)) = f.val := by simpa using k2
    omega
  · rintro ⟨k0, k1, rfl⟩ a
    match a with
    | ⟨0, _⟩ => exact (congrArg₂ (fun u v : ℤ => u + v) s0 (congrArg Nat.cast w0)).trans (by rw [k0]; simp)
    | ⟨1, _⟩ => exact (congrArg₂ (fun u v : ℤ => u + v) s1 (congrArg Nat.cast w1)).trans (by rw [k1]; simp)
    | ⟨2, _⟩ => exact (congrArg₂ (fun u v : ℤ => u + v) s2 (congrArg Nat.cast w2)).trans (by simp)

/-- At most one update lands at a row: the one whose row is `q`. -/
theorem added_apply (u : S2064x4x256.Idx → EReal) (f : ℕ → Fin 4 → ℕ) (rows : ∀ i g, (idx (ix3 i g 0)).toInt = f i.val g)
    (groups : ∀ i g, (idx (ix3 i g 1)).toInt = g.val) (r : Fin 2065) (g : Fin 4) (e : Fin 256) (q : ℕ) (only : ∀ i, f i g = r.val ↔ i = q) :
    ∑ j ∈ Finset.univ.filter (fun j => added.resultIdx? j idx = some (ix3 r g e)), u j = if p : q < 2064 then u (ix3 ⟨q, p⟩ g e) else 0 := by
  have lands : ∀ j : S2064x4x256.Idx, added.resultIdx? j idx = some (ix3 r g e) ↔ (j 0).val = q ∧ j 1 = g ∧ j 2 = e := fun j => by
    obtain ⟨a, b, d, rfl⟩ : ∃ a b d, j = ix3 a b d := ⟨j 0, j 1, j 2, eq_ix3 j⟩
    rw [added_lands, rows, groups]
    show _ ↔ a.val = q ∧ b = g ∧ d = e
    refine ⟨fun ⟨k0, k1, k2⟩ => ?_, fun ⟨k0, k1, k2⟩ => ⟨?_, by rw [k1], k2⟩⟩
    · have k1' : b = g := Fin.ext (by exact_mod_cast k1)
      rw [k1'] at k0
      exact ⟨(only _).1 (by exact_mod_cast k0), k1', k2⟩
    · rw [k1, (only _).2 k0]
  by_cases p : q < 2064
  · rw [dif_pos p]
    refine Finset.sum_eq_single_of_mem _ (Finset.mem_filter.2 ⟨Finset.mem_univ _, (lands _).2 ⟨rfl, rfl, rfl⟩⟩) fun j k l => absurd ?_ l
    obtain ⟨k0, k1, k2⟩ := (lands j).1 (Finset.mem_filter.1 k).2
    exact (eq_ix3 j).trans (congr (congrArg₂ ix3 (Fin.ext k0 : j 0 = (⟨q, p⟩ : Fin 2064)) k1) k2)
  · rw [dif_neg p]
    refine Finset.sum_eq_zero fun j k => absurd ((lands j).1 (Finset.mem_filter.1 k).2).1 ?_
    have : (j 0).val < 2064 := (j 0).isLt
    omega

/-! The words. -/

theorem word_small (n : ℕ) (k : n < 8192) : (BitVec.ofNat 32 n).toInt = n := by
  rw [BitVec.toInt_eq_toNat_of_lt (by rw [BitVec.toNat_ofNat]; omega), BitVec.toNat_ofNat]
  omega

theorem word_less (a b : ℕ) (k : a < 8192) (l : b ≤ a) : IntOp.subi (BitVec.ofNat 32 a) (BitVec.ofNat 32 b) = BitVec.ofNat 32 (a - b) := by
  refine BitVec.eq_of_toNat_eq ?_
  show (BitVec.ofNat 32 a - BitVec.ofNat 32 b).toNat = _
  rw [BitVec.toNat_sub, BitVec.toNat_ofNat, BitVec.toNat_ofNat, BitVec.toNat_ofNat]
  omega

/-- A difference of words cut off at zero is the natural numbers' one. -/
theorem word_start (a b : ℕ) (k : a < 8192) (l : b < 8192) :
    IntOp.maxsi (IntOp.subi (BitVec.ofNat 32 a) (BitVec.ofNat 32 b)) 0#32 = BitVec.ofNat 32 (a - b) := by
  by_cases p : b ≤ a
  · rw [word_less a b k p]
    unfold IntOp.maxsi
    rw [BitVec.slt_eq_decide, word_small _ (by omega)]
    by_cases q : a - b = 0
    · rw [q]; rfl
    · rw [if_pos (decide_eq_true (by rw [word_small _ (by omega)]; omega))]
  · unfold IntOp.maxsi
    have neg : (IntOp.subi (BitVec.ofNat 32 a) (BitVec.ofNat 32 b)).toInt < 0 := by
      show (BitVec.ofNat 32 a - BitVec.ofNat 32 b).toInt < 0
      rw [BitVec.toInt_eq_toNat_cond, BitVec.toNat_sub, BitVec.toNat_ofNat, BitVec.toNat_ofNat]
      split <;> omega
    rw [BitVec.slt_eq_decide, if_neg (by rw [decide_eq_true_eq, BitVec.toInt_zero]; omega), (by omega : a - b = 0)]

/-- A word that is no negative number is not moved. -/
theorem word_kept (n k : ℕ) (l : n < 8192) : Scalar.select (IntOp.cmpi .slt (BitVec.ofNat 32 n) 0#32) (IntOp.addi (BitVec.ofNat 32 n) (BitVec.ofNat 32 k)) (BitVec.ofNat 32 n)
    = BitVec.ofNat 32 n := by
  have e : IntOp.cmpi .slt (BitVec.ofNat 32 n) 0#32 = 0#1 := by
    show BitVec.ofBool (BitVec.slt _ _) = _
    rw [BitVec.slt_eq_decide, word_small n l, decide_eq_false (by simp)]
    rfl
  rw [e]
  rfl

end Cert.ReferencePoolIdeal.Final
end
-- ==== Proof.Pool.Finite.lean ====
module

public import proofs.«01_k».proof.Pre_pool_finite
public import proofs.«01_k».proof.Proof.Pool.Spec
public import proofs.«01_k».proof.Proof.Finite
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open scoped BigOperators

namespace Cert.Pool

/-! Arguments that satisfy the precondition are arrays of real numbers. -/

structure Finite (x : Inputs) : Prop where
  p : ∀ i, ∃ r : ℝ, x.p i = r
  w : ∀ i, ∃ r : ℝ, x.w i = r
  s : ∀ i, ∃ r : ℝ, x.s i = r
  ct : ∀ i, ∃ r : ℝ, x.ct i = r

/-- What the printed precondition needs of its shapes. -/
instance facts : Cert.Pre_pool_finite.Facts := ⟨by decide, by decide, by decide, by decide, by decide, by decide, by decide⟩

open Cert.Pre_pool_finite in
theorem finite_of (x : Inputs) (given : fn (F := Ideal) x.p x.w x.s x.ct = fun _ => 1#1) : Finite x := by
  have e := congrFun given ix0
  simp only [fn] at e
  obtain ⟨e, ec⟩ := IntOp.andi_eq_one.1 e
  obtain ⟨e, es⟩ := IntOp.andi_eq_one.1 e
  obtain ⟨ep, ew⟩ := IntOp.andi_eq_one.1 e
  exact ⟨fun i => ⟨_, Reals.real_of_abs_lt x.p _ (fun _ => Reals.inf_word) i (Host.reduce_andi_all _ _ _ _ _ ep i)⟩,
    fun i => ⟨_, Reals.real_of_abs_lt x.w _ (fun _ => Reals.inf_word) i (Host.reduce_andi_all _ _ _ _ _ ew i)⟩,
    fun i => ⟨_, Reals.real_of_abs_lt x.s _ (fun _ => Reals.inf_word) i (Host.reduce_andi_all _ _ _ _ _ es i)⟩,
    fun i => ⟨_, Reals.real_of_abs_lt x.ct _ (fun _ => Reals.inf_word) i (Host.reduce_andi_all _ _ _ _ _ ec i)⟩⟩

variable {x : Inputs} (given : Finite x)
include given

/-- A lane of finite rows is a sequence of real numbers. -/
theorem row_real (l : Fin 1024) : ∃ d : ℕ → ℝ, x.row l = fun i => (d i : EReal) := by
  choose p e using given.p
  refine ⟨fun i => if k : i < 2064 then p (ix2 ⟨i, k⟩ l) else 0, funext fun i => ?_⟩
  unfold Inputs.row
  by_cases k : i < 2064
  · rw [dif_pos k, e]; simp only [dif_pos k]
  · simp only [dif_neg k]; rfl

/-- So is the gradient of a lane's pooled rows, divided by the number of rows in their windows. -/
theorem share_real (g : Fin 4) (e : Fin 256) : ∃ f : ℕ → ℝ, (fun j => Ideal.div (x.back2 g e j) ((rows g j : ℝ) : EReal)) = fun i => (f i : EReal) := by
  choose ct ec using given.ct
  choose s es using given.s
  choose w ew using given.w
  refine ⟨fun i => (∑ k : Fin 256, (if p : i < 2064 then ct (ix2 ⟨i, p⟩ (lane g k)) * s (ix2 0 (lane g k)) else 0) * w (ix3 g e k)) / rows g i, funext fun i => ?_⟩
  have pos := rows_pos g i
  rw [← Reals.div_coe_coe _ (by positivity), Reals.coe_sum]
  refine congrArg (fun z => Ideal.div z _) (Finset.sum_congr rfl fun k _ => ?_)
  rw [EReal.coe_mul, ew]
  refine congrArg (fun z : EReal => z * _) ?_
  unfold Inputs.back1
  by_cases p : i < 2064
  · rw [dif_pos p, dif_pos p, ec, es, EReal.coe_mul]
  · rw [dif_neg p, dif_neg p]; rfl

end Cert.Pool
end
-- ==== Proof.Pool.Reference.lean ====
module

public import proofs.«01_k».proof.Proof.Pool.Index
public import proofs.«01_k».proof.Proof.Pool.Finite

@[expose] public section

set_option maxRecDepth 16384

noncomputable section

open Idealize.ShloMosaic Idealize.ShloMosaic.TcCoe Idealize.SL.Sem
open Idealize.ShloMosaic.Pipeline (Dat)
open scoped BigOperators

namespace Cert.ReferencePoolIdeal.Final

open Cert.ReferencePoolIdeal Cert.ReferencePoolIdeal.Read Cert.Pool
open Cert.Forget (run)

variable (x : Inputs)

/-! The words that name the windows' rows. -/

theorem ref_window (g : Fin 4) : val_main_v9 (F := Ideal) (ix1 g) = BitVec.ofNat 32 (window g) := by
  match g with
  | ⟨0, _⟩ => rfl
  | ⟨1, _⟩ => rfl
  | ⟨2, _⟩ => rfl
  | ⟨3, _⟩ => rfl

theorem ref_end (i : Fin 2064) (a : Fin 1) : val_main_v13 (F := Ideal) (ix2 i a) = BitVec.ofNat 32 (i.val + 1) := by
  pointwise [val_main_v13, val_main_v12, val_main_v11, val_main_c_4, val_main_v10]
  rw [add_comm]
  exact (BitVec.ofNat_add _ _).symm

theorem ref_start (i : Fin 2064) (g : Fin 4) : val_main_v19 (F := Ideal) (ix2 i g) = BitVec.ofNat 32 (i.val + 1 - window g) := by
  have k := window_le g
  have e := ref_end i 0
  have w := ref_window g
  rw [← word_start _ _ (by omega) (by omega), ← e, ← w]
  pointwise [val_main_v19, val_main_v18, val_main_c_5, val_main_v17, val_main_v16, val_main_v15, val_main_v14]

theorem end_row (i : Fin 2064) (g : Fin 4) : val_main_v36 (F := Ideal) (ix3 i g 0) = BitVec.ofNat 32 (i.val + 1) := by
  rw [← word_kept (i.val + 1) 2065 (by omega), ← ref_end i 0]
  pointwise [val_main_v36, val_main_v34, val_main_v32, val_main_v26, val_main_v23, val_main_v22, val_main_c_6, val_main_v25, val_main_v24, val_main_c_7]

theorem end_group (i : Fin 2064) (g : Fin 4) : val_main_v36 (F := Ideal) (ix3 i g 1) = BitVec.ofNat 32 g.val := by
  rw [← word_kept g.val 4 (by omega)]
  pointwise [val_main_v36, val_main_v35, val_main_v33, val_main_v31, val_main_v30, val_main_v29, val_main_c_9, val_main_v28, val_main_v27, val_main_c_8, val_main_v21, val_main_v20]

theorem start_row (i : Fin 2064) (g : Fin 4) : val_main_v51 (F := Ideal) (ix3 i g 0) = BitVec.ofNat 32 (i.val + 1 - window g) := by
  rw [← word_kept (i.val + 1 - window g) 2065 (by omega), ← ref_start i g]
  pointwise [val_main_v51, val_main_v49, val_main_v42, val_main_v41, val_main_v40, val_main_c_11, val_main_v39, val_main_v38, val_main_c_10]

theorem start_group (i : Fin 2064) (g : Fin 4) : val_main_v51 (F := Ideal) (ix3 i g 1) = BitVec.ofNat 32 g.val := by
  rw [← word_kept g.val 4 (by omega)]
  pointwise [val_main_v51, val_main_v50, val_main_v48, val_main_v47, val_main_v46, val_main_v45, val_main_c_13, val_main_v44, val_main_v43, val_main_c_12, val_main_v21, val_main_v20]

theorem ref_count (i : Fin 2064) (g : Fin 4) (a : Fin 1) : val_main_v57 (F := Ideal) (ix3 i g a) = ((rows g i.val : ℝ) : EReal) := by
  have k := window_le g
  pointwise [val_main_v57, val_main_v56, val_main_v55, val_main_v54]
  rw [ref_end, ref_start, word_less _ _ (by omega) (by omega)]
  show ((((BitVec.ofNat 32 _).toInt : ℝ)) : EReal) = _
  rw [word_small _ (by omega), (by unfold rows; omega : i.val + 1 - (i.val + 1 - window g) = rows g i.val)]
  simp

/-! The forward lines. -/

theorem ref_rows : column (val_main_v0 (F := Ideal) x.p) = fun g e => x.row (lane g e) := by
  funext g e j
  unfold column Inputs.row
  by_cases p : j < 2064
  · rw [dif_pos p, dif_pos p]
    pointwise [val_main_v0]
    refine congrArg (fun l => x.p (ix2 _ l)) (Fin.ext ?_)
    simp only [lane]
    omega
  · rw [dif_neg p, dif_neg p]

theorem first_zero (j : S_.Idx) : val_main_call0_call0_v0 (F := Ideal) j = 0 := by
  pointwise [val_main_call0_call0_v0, val_main_call0_call0_cst]

theorem second_zero (j : S_.Idx) : val_main_call1_call0_v0 (F := Ideal) j = 0 := by
  pointwise [val_main_call1_call0_v0, val_main_call1_call0_cst]

theorem ref_sums (i : Fin 2064) (g : Fin 4) (e : Fin 256) : val_main_v1 (F := Ideal) x.p (ix3 i g e) = run (x.row (lane g e)) (i.val + 1) 0 := by
  unfold val_main_v1 Host.reduceWindowAdd
  rw [Ideal.hostReduceWindowAdd_def, first_zero]
  exact (from_start _ 2063 rfl _ i g e).trans (by rw [ref_rows])

theorem ref_from_zero (r : Fin 2065) (g : Fin 4) (e : Fin 256) : val_main_v3 (F := Ideal) x.p (ix3 r g e) = run (x.row (lane g e)) r.val 0 := by
  pointwise [val_main_v3, val_main_v2, val_main_cst]
  by_cases p : r.val < 1
  · rw [dif_pos p, (by omega : r.val = 0)]; rfl
  · rw [dif_neg p, ref_sums]
    exact congrArg (fun w => run _ w 0) (by show r.val - 1 + 1 = r.val; omega)

theorem ref_pooled (given : Finite x) (i : Fin 2064) (g : Fin 4) (e : Fin 256) : val_main_v60 (F := Ideal) x.p (ix3 i g e) = x.pooled g e i.val := by
  have k := window_le g
  have high : val_main_v37 (F := Ideal) x.p (ix3 i g e) = run (x.row (lane g e)) (i.val + 1) 0 := by
    refine (taken_apply _ _ i g e).trans ((congrArg _ ?_).trans (ref_from_zero x ⟨i.val + 1, by omega⟩ g e))
    refine congrArg₂ (fun u v => ix3 u v e) (Fin.ext ?_) (Fin.ext ?_)
    · show min (val_main_v36 (F := Ideal) (ix3 i g 0)).toInt.toNat 2064 = i.val + 1
      rw [end_row, word_small _ (by omega)]; omega
    · show min (val_main_v36 (F := Ideal) (ix3 i g 1)).toInt.toNat 3 = g.val
      rw [end_group, word_small _ (by omega)]; omega
  have low : val_main_v52 (F := Ideal) x.p (ix3 i g e) = run (x.row (lane g e)) (i.val + 1 - window g) 0 := by
    refine (taken_apply _ _ i g e).trans ((congrArg _ ?_).trans (ref_from_zero x ⟨i.val + 1 - window g, by omega⟩ g e))
    refine congrArg₂ (fun u v => ix3 u v e) (Fin.ext ?_) (Fin.ext ?_)
    · show min (val_main_v51 (F := Ideal) (ix3 i g 0)).toInt.toNat 2064 = i.val + 1 - window g
      rw [start_row, word_small _ (by omega)]; omega
    · show min (val_main_v51 (F := Ideal) (ix3 i g 1)).toInt.toNat 3 = g.val
      rw [start_group, word_small _ (by omega)]; omega
  obtain ⟨d, real⟩ := row_real given (lane g e)
  have rowEntry : val_main_v0 (F := Ideal) x.p (ix3 i g e) = x.row (lane g e) i.val := by
    rw [← congrFun (congrFun (congrFun (ref_rows x) g) e) i.val, column, dif_pos i.isLt]
  unfold Inputs.pooled
  rw [real, ← back_difference, ← real, ← high, ← low, ← rowEntry, ← ref_count i g 0]
  pointwise [val_main_v60, val_main_v59, val_main_v58, val_main_v53]

/-! The results that need no more than the pooled rows. -/

theorem group_of_lane (g : Fin 4) (e : Fin 256) (k : (lane g e).val / 256 < 4) : (⟨(lane g e).val / 256, k⟩ : Fin 4) = g :=
  Fin.ext (by simp only [lane]; omega)
theorem place_of_lane (g : Fin 4) (e : Fin 256) (k : (lane g e).val % 256 < 256) : (⟨(lane g e).val % 256, k⟩ : Fin 256) = e :=
  Fin.ext (by simp only [lane]; omega)
theorem lane_of (g : Fin 4) (e : Fin 256) (k : g.val * 256 + e.val < 1024) : (⟨g.val * 256 + e.val, k⟩ : Fin 1024) = lane g e :=
  Fin.ext (by simp only [lane]; omega)

theorem ref_mixed (given : Finite x) (i : Fin 2064) (g : Fin 4) (e : Fin 256) : val_main_v63 (F := Ideal) x.p x.w (ix2 i (lane g e)) = x.mixed g e i.val := by
  unfold Inputs.mixed
  simp only [← ref_pooled x given]
  pointwise [val_main_v63, val_main_v62, val_main_v61]
  rw [group_of_lane, place_of_lane]
  exact Finset.sum_congr rfl fun k _ => mul_comm _ _

theorem ref_scale (given : Finite x) (g : Fin 4) (e : Fin 256) : val_main_v74 (F := Ideal) x.p x.w x.ct (ix2 0 (lane g e)) = x.ds g e := by
  unfold Inputs.ds
  simp only [← ref_mixed x given]
  pointwise [val_main_v74, val_main_v73, val_main_v70, val_main_v69, val_main_v68, val_main_cst_14, val_main_cst_15]
  rw [Fin.sum_univ_one]
  exact Finset.sum_congr rfl fun k _ => mul_comm _ _

theorem ref_back1 (i : Fin 2064) (g : Fin 4) (e : Fin 256) : val_main_v76 (F := Ideal) x.s x.ct (ix3 g e i) = x.back1 g e i.val := by
  unfold Inputs.back1
  rw [dif_pos i.isLt]
  pointwise [val_main_v76, val_main_v75, val_main_v72, val_main_v71, val_main_v65, val_main_v64]
  rw [lane_of]

theorem ref_weights (given : Finite x) (g : Fin 4) (k e : Fin 256) : val_main_v80 (F := Ideal) x.p x.s x.ct (ix3 g k e) = x.dw g k e := by
  unfold Inputs.dw
  simp only [← ref_pooled x given, ← ref_back1 x]
  pointwise [val_main_v80, val_main_v79]
  exact Finset.sum_congr rfl fun i _ => mul_comm _ _

/-! The gradient of the rows. -/

theorem ref_back2 (i : Fin 2064) (g : Fin 4) (e : Fin 256) : val_main_v78 (F := Ideal) x.w x.s x.ct (ix3 i g e) = x.back2 g e i.val := by
  unfold Inputs.back2
  simp only [← ref_back1 x]
  pointwise [val_main_v78, val_main_v77]

theorem ref_share (i : Fin 2064) (g : Fin 4) (e : Fin 256) :
    val_main_v83 (F := Ideal) x.w x.s x.ct (ix3 i g e) = Ideal.div (x.back2 g e i.val) ((rows g i.val : ℝ) : EReal) := by
  rw [← ref_back2, ← ref_count i g 0]
  pointwise [val_main_v83, val_main_v82]

theorem ref_added (r : Fin 2064) (g : Fin 4) (e : Fin 256) : val_main_v91 (F := Ideal) x.w x.s x.ct (ix3 r g e)
    = Ideal.div (x.back2 g e r.val) ((rows g r.val : ℝ) : EReal) + -Ideal.div (x.back2 g e (r.val + window g)) ((rows g (r.val + window g) : ℝ) : EReal) := by
  have k := window_le g
  have high : val_main_v88 (F := Ideal) x.w x.s x.ct (ix3 (⟨1 + r.val, by omega⟩ : Fin 2065) g e) = Ideal.div (x.back2 g e r.val) ((rows g r.val : ℝ) : EReal) := by
    unfold val_main_v88 Host.scatterAdd
    rw [Ideal.hostScatterAdd_def]
    refine (congrArg₂ (fun u v : EReal => u + v) (?_ : val_main_v87 (F := Ideal) _ = 0) (added_apply _ _ (fun i _ => i + 1)
      (fun i g => by rw [end_row, word_small _ (by omega)]) (fun i g => by rw [end_group, word_small _ (by omega)]) _ g e r.val fun i => by
        show i + 1 = 1 + r.val ↔ _; omega)).trans ?_
    · pointwise [val_main_v87, val_main_cst_17]
    · rw [dif_pos r.isLt, zero_add]; exact ref_share x r g e
  have low : val_main_v86 (F := Ideal) x.w x.s x.ct (ix3 (⟨1 + r.val, by omega⟩ : Fin 2065) g e)
      = -Ideal.div (x.back2 g e (r.val + window g)) ((rows g (r.val + window g) : ℝ) : EReal) := by
    unfold val_main_v86 Host.scatterAdd
    rw [Ideal.hostScatterAdd_def]
    refine (congrArg₂ (fun u v : EReal => u + v) (?_ : val_main_v85 (F := Ideal) _ = 0) (added_apply _ _ (fun i g => i + 1 - window g)
      (fun i g => by rw [start_row, word_small _ (by omega)]) (fun i g => by rw [start_group, word_small _ (by omega)]) _ g e (r.val + window g) fun i => by
        show i + 1 - window g = 1 + r.val ↔ _; omega)).trans ?_
    · pointwise [val_main_v85, val_main_cst_16]
    · rw [zero_add]
      by_cases p : r.val + window g < 2064
      · rw [dif_pos p, ← ref_share x ⟨_, p⟩ g e]; rfl
      · rw [dif_neg p, share_zero x g e _ (by omega), neg_zero]
  rw [← high, ← low, add_comm]
  pointwise [val_main_v91, val_main_v89]

theorem ref_run (given : Finite x) (r : Fin 2064) (g : Fin 4) (e : Fin 256) : val_main_v92 (F := Ideal) x.w x.s x.ct (ix3 r g e)
    = run (fun j => Ideal.div (x.back2 g e j) ((rows g j : ℝ) : EReal)) (window g) r.val := by
  obtain ⟨f, real⟩ := share_real given g e
  have zero : ∀ i, 2064 ≤ i → f i = 0 := fun i k => by
    have := congrFun real i
    rw [share_zero x g e i k] at this
    exact_mod_cast this.symm
  have each : column (val_main_v91 (F := Ideal) x.w x.s x.ct) g e = fun j => ((f j : EReal) + -(f (j + window g) : EReal)) := funext fun j => by
    unfold column
    by_cases p : j < 2064
    · rw [dif_pos p, ref_added]
      exact congrArg₂ (fun u v : EReal => u + -v) (congrFun real j) (congrFun real (j + window g))
    · rw [dif_neg p, zero j (by omega), zero _ (by omega)]; simp
  unfold val_main_v92 Host.reduceWindowAdd
  rw [Ideal.hostReduceWindowAdd_def, second_zero, real, ← ahead f zero, ← each]
  exact to_end _ 2063 _ r g e

theorem ref_dp (given : Finite x) (i : Fin 2064) (g : Fin 4) (e : Fin 256) : val_main_v94 (F := Ideal) x.w x.s x.ct (ix2 i (lane g e)) = x.dp g e i.val := by
  rw [Inputs.dp, ← ref_run x given, ← ref_back2 x, sub_eq_add_neg, add_comm]
  pointwise [val_main_v94, val_main_v93, val_main_v81]
  rw [group_of_lane, place_of_lane]

theorem ref_padded (given : Finite x) (i : Fin 2176) (g : Fin 4) (e : Fin 256) : val_main_v95 (F := Ideal) x.w x.s x.ct (ix2 i (lane g e)) = x.dp g e i.val := by
  pointwise [val_main_v95, val_main_call2_v0, val_main_c_18]
  by_cases p : i.val < 2064
  · rw [dif_pos (by have := (lane g e).isLt; omega)]; exact ref_dp x given ⟨i.val, p⟩ g e
  · rw [dif_neg (by omega), dp_zero x g e _ (by omega)]; exact Reals.sitofp_zero

/-! The three results. -/

theorem ref_res_rows (given : Finite x) : val_main_v96 (F := Ideal) x.w x.s x.ct = resRows x :=
  (funext fun _ => rfl : _ = val_main_v95 (F := Ideal) x.w x.s x.ct).trans (funext fun y => by
    obtain ⟨i, l, rfl⟩ : ∃ i l, y = ix2 i l := ⟨y 0, y 1, eq_ix2 y⟩
    obtain ⟨g, e, rfl⟩ := lane_surjective l
    refine (ref_padded x given i g e).trans ?_
    show _ = x.dp (groupIn (lane g e)) (placeIn (lane g e)) i.val
    rw [groupIn, placeIn, group_of_lane, place_of_lane])

theorem ref_res_weights (given : Finite x) : val_main_v97 (F := Ideal) x.p x.s x.ct = resWeights x :=
  (funext fun _ => rfl : _ = val_main_v80 (F := Ideal) x.p x.s x.ct).trans (funext fun y => by
    obtain ⟨g, k, e, rfl⟩ : ∃ g k e, y = ix3 g k e := ⟨y 0, y 1, y 2, eq_ix3 y⟩
    exact ref_weights x given g k e)

theorem ref_res_scale (given : Finite x) : val_main_v74 (F := Ideal) x.p x.w x.ct = resScale x := funext fun y => by
  obtain ⟨i, l, rfl⟩ : ∃ i l, y = ix2 i l := ⟨y 0, y 1, eq_ix2 y⟩
  obtain rfl : i = (0 : Fin 1) := Subsingleton.elim _ _
  obtain ⟨g, e, rfl⟩ := lane_surjective l
  refine (ref_scale x given g e).trans ?_
  show _ = x.ds (groupIn (lane g e)) (placeIn (lane g e))
  rw [groupIn, placeIn, group_of_lane, place_of_lane]

end Cert.ReferencePoolIdeal.Final
end
-- ==== Proof.Pool.Host.lean ====
module

public import proofs.«01_k».proof.Proof.Pool.Spec
public import proofs.«01_k».proof.Proof.Finite
public import proofs.«01_k».proof.Proof.Forget.Steps
public import proofs.«01_k».proof.Proof.Gen.KernelPoolIdeal.Value
public import Idealize.ShloMosaic.Lib.StableHlo.ReadAt
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)
open scoped BigOperators

namespace Cert.KernelPoolIdeal.Final

open Cert.KernelPoolIdeal Cert.KernelPoolIdeal.Gen Cert.Pool
open Cert.KernelForgetIdeal.Final (zero_word select_if)

variable (m : (ℓ : Loc nD τ sig) → Buf (Elt Ideal) ℓ) (c : Dev nD)

/-! The pooled rows that the host prepares: for each group of lanes windows by doubling, divided by their length, less the row. -/

/-- The host's table of zeros. -/
def zeros : FVec Ideal S2176x1024 .f32 := broadcastInDim S2176x1024 ![] bcast_S_S2176x1024 (constant S_ .f32 0x00000000#32)

/-- One step of the host: each row plus the row `w` before it, where there is one. -/
def later (w v : ℕ) (low : S2176x1024.Slices ![v, 0] ⟨2, ![w, 1024]⟩) (high : S2176x1024.Slices ![0, 0] ⟨2, ![v, 1024]⟩)
    (both : Shape.Concatenates [⟨2, ![w, 1024]⟩, ⟨2, ![v, 1024]⟩] S2176x1024 0) (t : IVec S2176x1 32) (z a : FVec Ideal S2176x1024 .f32) : FVec Ideal S2176x1024 .f32 :=
  addf a (select (broadcastInDim S2176x1024 ![0, 1] bcast_S2176x1_S2176x1024_0_1
      (cmpi .sge t (broadcastInDim S2176x1 ![] bcast_S_S2176x1 (constantI S_ 32 (BitVec.ofNat 32 w)))))
    (concatenate S2176x1024 0 [⟨⟨2, ![w, 1024]⟩, extractStridedSlice ⟨2, ![w, 1024]⟩ ![v, 0] a low⟩, ⟨⟨2, ![v, 1024]⟩, extractStridedSlice ⟨2, ![v, 1024]⟩ ![0, 0] a high⟩] both) z)

theorem later_apply (w v : ℕ) (low : S2176x1024.Slices ![v, 0] ⟨2, ![w, 1024]⟩) (high : S2176x1024.Slices ![0, 0] ⟨2, ![v, 1024]⟩)
    (both : Shape.Concatenates [⟨2, ![w, 1024]⟩, ⟨2, ![v, 1024]⟩] S2176x1024 0) (a : FVec Ideal S2176x1024 .f32) (k : w + v = 2176) (i : Fin 2176) (l : Fin 1024) :
    later w v low high both (iotaInDim S2176x1 32 0) zeros a (ix2 i l) = a (ix2 i l) + if w ≤ i.val then a (ix2 ⟨i.val - w, by omega⟩ l) else 0 := by
  unfold later zeros
  pointwise []
  have e := i.isLt
  have word : IntOp.cmpi CmpIPredicate.sge (BitVec.ofNat 32 i.val) (BitVec.ofNat 32 w) = BitVec.ofBool (decide (w ≤ i.val)) :=
    WordCmp.cmpi_sge_of_lt (by simp; omega) (by simp; omega) |>.trans (by simp [Nat.mod_eq_of_lt (by omega : i.val < 4294967296), Nat.mod_eq_of_lt (by omega : w < 4294967296)])
  rw [word, select_if]
  by_cases p : w ≤ i.val
  · rw [if_pos p, if_pos p, dif_neg (by omega)]; rfl
  · rw [if_neg p, if_neg p]

/-- The lane's group, as the host counts it. -/
def groupOf : IVec S1x1024 32 := shapeCast S1x1024 (iotaInDim S1x4x256 32 1) shapeCasts_S1x4x256_S1x1024

/-- The host's choice of group `n`'s lanes. -/
def choose (n : BitVec 32) (g : IVec S1x1024 32) (a b : FVec Ideal S2176x1024 .f32) : FVec Ideal S2176x1024 .f32 :=
  select (broadcastInDim S2176x1024 ![0, 1] bcast_S1x1024_S2176x1024_0_1 (cmpi .eq g (broadcastInDim S1x1024 ![] bcast_S_S1x1024 (constantI S_ 32 n)))) a b

/-- The number of rows of a window. -/
def count (t : IVec S2176x1 32) (g : IVec S1x1024 32) : FVec Ideal S2176x1024 .f32 :=
  sitofp .f32 (minsi (broadcastInDim S2176x1024 ![0, 1] bcast_S2176x1_S2176x1024_0_1 (addi t (broadcastInDim S2176x1 ![] bcast_S_S2176x1 (constantI S_ 32 1#32))))
    (broadcastInDim S2176x1024 ![0, 1] bcast_S1x1024_S2176x1024_0_1 (Host.shli (broadcastInDim S1x1024 ![] bcast_S_S1x1024 (constantI S_ 32 2#32)) g)))

/-- The host's lines from the `n`-th on, at what the lines before leave. -/
theorem cut (n : ℕ) (b : Ref sig .tc) : V m c b = StableHlo.after (hostOps0.drop n) (StableHlo.upto hostOps0 (fun b => m (c, b)) n) b := by
  unfold V StableHlo.upto
  rw [← StableHlo.after_append, List.take_append_drop]

abbrev argP : FVec Ideal S2064x1024 .f32 := m ((c.tc : Thread nD τ).loc main_arg0)
abbrev argCt : FVec Ideal S2064x1024 .f32 := m ((c.tc : Thread nD τ).loc main_arg3)

theorem host_rows : V m c main_v1 = pad S2176x1024 ![0, 0] ![112, 0] ![0, 0] (argP m c) (constant (F := Ideal) S_ .f32 0x00000000#32) pads_S2064x1024_S2176x1024_01120_000 h_S_ := by
  unfold V; after_reads_simp
theorem host_cotangent : V m c main_v0 = pad S2176x1024 ![0, 0] ![112, 0] ![0, 0] (argCt m c) (constant (F := Ideal) S_ .f32 0x00000000#32) pads_S2064x1024_S2176x1024_01120_000 h_S_ := by
  unfold V; after_reads_simp
theorem host_t : V m c main_v2 = fun j => iotaInDim S2176x1 32 0 j := by unfold V; after_reads_simp
theorem host_g : V m c main_v4 = fun j => groupOf j := by unfold V; after_reads_simp; rfl
theorem host_zeros : V m c main_v5 = fun j => zeros j := by unfold V; after_reads_simp; rfl

/-- The weights as the body reads them. -/
abbrev savedW : FVec Ideal S4x256x256 .bf16 := truncf .bf16 (m ((c.tc : Thread nD τ).loc main_arg1) : FVec Ideal S4x256x256 .f32) bitsLt_bf16_f32

theorem host_weights : V m c main_v65 = fun j => savedW m c j := by unfold savedW V; after_reads_simp

theorem host_s1 : V m c main_v13 = fun j => later 1 2175 slices_S2176x1024_S1x1024_2175_0 slices_S2176x1024_S2175x1024_0_0
    concatenates_S1x1024_S2175x1024_S2176x1024_d0 (V m c main_v2) (V m c main_v5) (V m c main_v1) j := by
  rw [cut m c 9 main_v13, cut m c 9 main_v2, cut m c 9 main_v5, cut m c 9 main_v1]
  generalize StableHlo.upto (hostOps0 (F := Ideal)) _ 9 = U
  simp only [hostOps0, List.drop_succ_cons, List.drop_zero]
  after_reads_simp
  rfl
theorem host_s2 : V m c main_v25 = fun j => later 2 2174 slices_S2176x1024_S2x1024_2174_0 slices_S2176x1024_S2174x1024_0_0
    concatenates_S2x1024_S2174x1024_S2176x1024_d0 (V m c main_v2) (V m c main_v5) (V m c main_v13) j := by
  rw [cut m c 18 main_v25, cut m c 18 main_v2, cut m c 18 main_v5, cut m c 18 main_v13]
  generalize StableHlo.upto (hostOps0 (F := Ideal)) _ 18 = U
  simp only [hostOps0, List.drop_succ_cons, List.drop_zero]
  after_reads_simp
  rfl
theorem host_s4 : V m c main_v37 = fun j => later 4 2172 slices_S2176x1024_S4x1024_2172_0 slices_S2176x1024_S2172x1024_0_0
    concatenates_S4x1024_S2172x1024_S2176x1024_d0 (V m c main_v2) (V m c main_v5) (V m c main_v25) j := by
  rw [cut m c 32 main_v37, cut m c 32 main_v2, cut m c 32 main_v5, cut m c 32 main_v25]
  generalize StableHlo.upto (hostOps0 (F := Ideal)) _ 32 = U
  simp only [hostOps0, List.drop_succ_cons, List.drop_zero]
  after_reads_simp
  rfl
theorem host_s8 : V m c main_v49 = fun j => later 8 2168 slices_S2176x1024_S8x1024_2168_0 slices_S2176x1024_S2168x1024_0_0
    concatenates_S8x1024_S2168x1024_S2176x1024_d0 (V m c main_v2) (V m c main_v5) (V m c main_v37) j := by
  rw [cut m c 46 main_v49, cut m c 46 main_v2, cut m c 46 main_v5, cut m c 46 main_v37]
  generalize StableHlo.upto (hostOps0 (F := Ideal)) _ 46 = U
  simp only [hostOps0, List.drop_succ_cons, List.drop_zero]
  after_reads_simp
  rfl
theorem host_c0 : V m c main_v17 = fun j => choose 0#32 (V m c main_v4) (V m c main_v13) (V m c main_v5) j := by
  rw [cut m c 18 main_v17, cut m c 18 main_v4, cut m c 18 main_v13, cut m c 18 main_v5]
  generalize StableHlo.upto (hostOps0 (F := Ideal)) _ 18 = U
  simp only [hostOps0, List.drop_succ_cons, List.drop_zero]
  after_reads_simp
  rfl
theorem host_c1 : V m c main_v29 = fun j => choose 1#32 (V m c main_v4) (V m c main_v25) (V m c main_v17) j := by
  rw [cut m c 32 main_v29, cut m c 32 main_v4, cut m c 32 main_v25, cut m c 32 main_v17]
  generalize StableHlo.upto (hostOps0 (F := Ideal)) _ 32 = U
  simp only [hostOps0, List.drop_succ_cons, List.drop_zero]
  after_reads_simp
  rfl
theorem host_c2 : V m c main_v41 = fun j => choose 2#32 (V m c main_v4) (V m c main_v37) (V m c main_v29) j := by
  rw [cut m c 46 main_v41, cut m c 46 main_v4, cut m c 46 main_v37, cut m c 46 main_v29]
  generalize StableHlo.upto (hostOps0 (F := Ideal)) _ 46 = U
  simp only [hostOps0, List.drop_succ_cons, List.drop_zero]
  after_reads_simp
  rfl
theorem host_c3 : V m c main_v53 = fun j => choose 3#32 (V m c main_v4) (V m c main_v49) (V m c main_v41) j := by
  rw [cut m c 60 main_v53, cut m c 60 main_v4, cut m c 60 main_v49, cut m c 60 main_v41]
  generalize StableHlo.upto (hostOps0 (F := Ideal)) _ 60 = U
  simp only [hostOps0, List.drop_succ_cons, List.drop_zero]
  after_reads_simp
  rfl
theorem host_pooled : V m c main_v64 = fun j => truncf .bf16 (subf (Host.divf (V m c main_v53) (count (V m c main_v2) (V m c main_v4))) (V m c main_v1)) bitsLt_bf16_f32 j := by
  rw [cut m c 65 main_v64, cut m c 65 main_v53, cut m c 65 main_v2, cut m c 65 main_v4, cut m c 65 main_v1]
  generalize StableHlo.upto (hostOps0 (F := Ideal)) _ 65 = U
  simp only [hostOps0, List.drop_succ_cons, List.drop_zero]
  after_reads_simp
  rfl

/-- The arguments as a device holds them. -/
def args : Inputs where
  p := m ((c.tc : Thread nD τ).loc main_arg0)
  w := m ((c.tc : Thread nD τ).loc main_arg1)
  s := m ((c.tc : Thread nD τ).loc main_arg2)
  ct := m ((c.tc : Thread nD τ).loc main_arg3)

/-- A step of the host doubles the windows. -/
theorem later_back (w v : ℕ) (low : S2176x1024.Slices ![v, 0] ⟨2, ![w, 1024]⟩) (high : S2176x1024.Slices ![0, 0] ⟨2, ![v, 1024]⟩)
    (both : Shape.Concatenates [⟨2, ![w, 1024]⟩, ⟨2, ![v, 1024]⟩] S2176x1024 0) (k : w + v = 2176 ∧ 0 < w)
    (a : FVec Ideal S2176x1024 .f32) (d : Fin 1024 → ℕ → EReal) (given : ∀ i l, a (ix2 i l) = back (d l) w i.val) (i : Fin 2176) (l : Fin 1024) :
    later w v low high both (iotaInDim S2176x1 32 0) zeros a (ix2 i l) = back (d l) (w + w) i.val := by
  rw [later_apply w v low high both a k.1, back_double _ w _ k.2, given, given]

theorem group_word (g : Fin 4) (e : Fin 256) (q : ℕ) (given : q = 256 * g.val + e.val) : BitVec.ofNat 32 (q / 256 % 4) = BitVec.ofNat 32 g.val := by
  have hg := g.isLt
  have he := e.isLt
  rw [given, show (256 * g.val + e.val) / 256 % 4 = g.val by omega]

theorem groupOf_apply (g : Fin 4) (e : Fin 256) : groupOf (ix2 0 (lane g e)) = BitVec.ofNat 32 g.val := by
  unfold groupOf
  pointwise []
  have hg := g.isLt
  have he := e.isLt
  refine congrArg (BitVec.ofNat 32) ?_
  simp only [lane]
  omega

theorem choose_apply (n : ℕ) (k : n < 4) (g : Fin 4) (e : Fin 256) (a b : FVec Ideal S2176x1024 .f32) (i : Fin 2176) :
    choose (BitVec.ofNat 32 n) groupOf a b (ix2 i (lane g e)) = if g.val = n then a (ix2 i (lane g e)) else b (ix2 i (lane g e)) := by
  unfold choose
  pointwise []
  rw [groupOf_apply, WordCmp.cmpi_eq_eq_toNat, select_if, BitVec.toNat_ofNat, BitVec.toNat_ofNat,
    Nat.mod_eq_of_lt (by omega), Nat.mod_eq_of_lt (by omega)]

/-- The four choices together give each group its windows. -/
theorem chosen_apply (d : Fin 1024 → ℕ → EReal) (a₀ a₁ a₂ a₃ z : FVec Ideal S2176x1024 .f32)
    (e₀ : ∀ i l, a₀ (ix2 i l) = back (d l) 2 i.val) (e₁ : ∀ i l, a₁ (ix2 i l) = back (d l) 4 i.val)
    (e₂ : ∀ i l, a₂ (ix2 i l) = back (d l) 8 i.val) (e₃ : ∀ i l, a₃ (ix2 i l) = back (d l) 16 i.val) (g : Fin 4) (e : Fin 256) (i : Fin 2176) :
    choose 3#32 groupOf a₃ (choose 2#32 groupOf a₂ (choose 1#32 groupOf a₁ (choose 0#32 groupOf a₀ z))) (ix2 i (lane g e))
      = back (d (lane g e)) (window g) i.val := by
  rw [choose_apply 3 (by omega), choose_apply 2 (by omega), choose_apply 1 (by omega), choose_apply 0 (by omega), e₀, e₁, e₂, e₃]
  unfold window
  have hg := g.isLt
  generalize g.val = n at hg ⊢
  interval_cases n <;> simp

theorem window_word : ∀ g : Fin 4, IntOp.shli .host 2#32 (BitVec.ofNat 32 g.val) = BitVec.ofNat 32 (window g) := by decide

theorem count_word (a b : ℕ) (k : a < 4096) (l : b < 4096) :
    (FloatOps.sitofp (F := Ideal) .f32 (IntOp.minsi (BitVec.ofNat 32 (a + 1)) (BitVec.ofNat 32 b)) : EReal) = ((min b (a + 1) : ℕ) : ℝ) := by
  have small : ∀ n, n < 5000 → (BitVec.ofNat 32 n).toInt = n := fun n p => by
    rw [BitVec.toInt_eq_toNat_of_lt (by rw [BitVec.toNat_ofNat]; omega), BitVec.toNat_ofNat]; omega
  unfold IntOp.minsi
  rw [BitVec.slt_eq_decide, small _ (by omega), small _ (by omega)]
  by_cases p : a + 1 < b
  · rw [if_pos (decide_eq_true (by omega)), min_eq_right (by omega)]
    show ((((BitVec.ofNat 32 (a + 1)).toInt : ℝ)) : EReal) = _
    rw [small _ (by omega)]; simp
  · rw [if_neg (by rw [decide_eq_true_eq]; omega), min_eq_left (by omega)]
    show ((((BitVec.ofNat 32 b).toInt : ℝ)) : EReal) = _
    rw [small _ (by omega)]; simp

theorem count_apply (g : Fin 4) (e : Fin 256) (i : Fin 2176) :
    count (iotaInDim S2176x1 32 0) groupOf (ix2 i (lane g e)) = ((rows g i.val : ℝ) : EReal) := by
  unfold count
  pointwise []
  rw [groupOf_apply, window_word]
  have k := window_le g
  rw [show IntOp.addi (BitVec.ofNat 32 i.val) 1#32 = BitVec.ofNat 32 (i.val + 1) from (BitVec.ofNat_add _ _).symm]
  exact count_word i.val (window g) (by omega) (by omega)

theorem rows_apply (i : Fin 2176) (l : Fin 1024) : V m c main_v1 (ix2 i l) = (args m c).row l i.val := by
  rw [host_rows]
  pointwise []
  unfold Inputs.row
  by_cases p : i.val < 2064
  · rw [dif_pos p, dif_pos (by omega)]; rfl
  · rw [dif_neg p, dif_neg (by omega)]

theorem pooled_apply (g : Fin 4) (e : Fin 256) (i : Fin 2176) : V m c main_v64 (ix2 i (lane g e)) = (args m c).pooled g e i.val := by
  have s1 : ∀ i l, V m c main_v13 (ix2 i l) = back ((args m c).row l) 2 i.val := fun i l => by
    rw [host_s1, host_t, host_zeros]
    exact later_back 1 2175 _ _ _ (by omega) _ _ (fun i l => by rw [rows_apply, back_one]) i l
  have s2 : ∀ i l, V m c main_v25 (ix2 i l) = back ((args m c).row l) 4 i.val := fun i l => by
    rw [host_s2, host_t, host_zeros]; exact later_back 2 2174 _ _ _ (by omega) _ _ s1 i l
  have s4 : ∀ i l, V m c main_v37 (ix2 i l) = back ((args m c).row l) 8 i.val := fun i l => by
    rw [host_s4, host_t, host_zeros]; exact later_back 4 2172 _ _ _ (by omega) _ _ s2 i l
  have s8 : ∀ i l, V m c main_v49 (ix2 i l) = back ((args m c).row l) 16 i.val := fun i l => by
    rw [host_s8, host_t, host_zeros]; exact later_back 8 2168 _ _ _ (by omega) _ _ s4 i l
  have chosen : V m c main_v53 (ix2 i (lane g e)) = back ((args m c).row (lane g e)) (window g) i.val := by
    rw [host_c3, host_c2, host_c1, host_c0, host_g]
    exact chosen_apply _ _ _ _ _ _ s1 s2 s4 s8 g e i
  rw [host_pooled, host_t, host_g]
  show (Ideal.div (V m c main_v53 (ix2 i (lane g e))) (count (iotaInDim S2176x1 32 0) groupOf (ix2 i (lane g e))) - (V m c main_v1 (ix2 i (lane g e)) : EReal)) = _
  rw [chosen, count_apply, rows_apply]
  rfl

end Cert.KernelPoolIdeal.Final
end
-- ==== Proof.Pool.Steps.lean ====
module

public import proofs.«01_k».proof.Proof.Pool.Spec
public import proofs.«01_k».proof.Proof.Pool.Host
public import proofs.«01_k».proof.Proof.Forget.Steps
public import proofs.«01_k».proof.Proof.Gen.KernelPoolIdeal.Value
public import Idealize.ShloMosaic.Lib.Pointwise
public import Idealize.ShloMosaic.Lib.Claim
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)
open scoped BigOperators

namespace Cert.KernelPoolIdeal.Final

open Cert.KernelPoolIdeal Cert.KernelPoolIdeal.Gen Cert.Pool
open Cert.Forget (run run_one run_double)
open Cert.KernelForgetIdeal.Final (zero_word select_if)

/-! The body's sums over the windows that begin with each row, from doublings of shorter ones. -/

/-- The rows' numbers, as the body holds them. -/
abbrev places : IVec S2176x1 32 := iota .tc S2176x1 32 [0] iota_S2176x1_d0_w32

/-- Rows divided by the number of rows in their windows. -/
def scaled (w : BitVec 32) (v : FVec Ideal S2176x256 .f32) : FVec Ideal S2176x256 .f32 :=
  divf v (broadcastTo S2176x256 (sitofp .f32 (minsi k0_pay9 (broadcast S2176x1 w))) broadcasts_S2176x1_S2176x256)

/-- A table plus the same table moved up, with zeros at its end. -/
def double (n : BitVec 32) (a : FVec Ideal S2176x256 .f32) : FVec Ideal S2176x256 .f32 :=
  addf a (select (broadcastTo S2176x256 (shapeCast S2176x1 (cmpi .slt places (broadcast S2176x1 n)) shapeCasts_S2176x1_S2176x1) broadcasts_S2176x1_S2176x256)
    (dynamicRotate 0 n none a rotates_S2176x256_d0) (broadcast S2176x256 (Scalar.ofBits .f32 0x00000000#32)))

/-- The table kept at one group. -/
def pick (n k : BitVec 32) (a b : FVec Ideal S2176x256 .f32) : FVec Ideal S2176x256 .f32 := Scalar.select (Scalar.cmpi .eq n k) a b

theorem scaled_apply (g : Fin 4) (v : FVec Ideal S2176x256 .f32) (i : Fin 2176) (l : Fin 256) :
    scaled (BitVec.ofNat 32 (window g)) v (ix2 i l) = Ideal.div (v (ix2 i l)) ((rows g i.val : ℝ) : EReal) := by
  unfold scaled
  pointwise [k0_pay9]
  have k := window_le g
  refine congrArg (Ideal.div _) ?_
  rw [show IntOp.addi (BitVec.ofNat 32 i.val) 1#32 = BitVec.ofNat 32 (i.val + 1) from (BitVec.ofNat_add _ _).symm]
  exact count_word i.val (window g) (by omega) (by omega)

theorem double_apply (a : FVec Ideal S2176x256 .f32) (w : ℕ) (k : 0 < w ∧ w < 2176) (i : Fin 2176) (l : Fin 256) :
    double (BitVec.ofNat 32 (2176 - w)) a (ix2 i l) = a (ix2 i l) + if p : i.val + w < 2176 then a (ix2 ⟨i.val + w, p⟩ l) else 0 := by
  unfold double
  pointwise []
  have e := i.isLt
  rw [WordCmp.cmpi_slt_ofNat (by omega) (by omega), select_if]
  by_cases p : i.val + w < 2176
  · rw [dif_pos p, if_pos (by omega)]
    refine congrArg (fun r => (a (ix2 i l) : EReal) + a (ix2 r l)) (Fin.ext ?_)
    show (i.val + 2176 - (BitVec.ofNat 32 (2176 - w)).toNat % 2176) % 2176 = i.val + w
    rw [BitVec.toNat_ofNat]
    omega
  · rw [dif_neg p, if_neg (by omega)]

/-- A lane of a block, continued by zeros. -/
def line (a : FVec Ideal S2176x256 .f32) (l : Fin 256) (i : ℕ) : EReal := if p : i < 2176 then a (ix2 ⟨i, p⟩ l) else 0

theorem line_zero (a : FVec Ideal S2176x256 .f32) (l : Fin 256) (i : ℕ) (k : 2176 ≤ i) : line a l i = 0 := dif_neg (by omega)

/-- A doubling takes sums of `w` entries to sums of twice as many. -/
theorem double_run (a b : FVec Ideal S2176x256 .f32) (w : ℕ) (k : 0 < w ∧ w < 2176) (n : BitVec 32) (e : n = BitVec.ofNat 32 (2176 - w))
    (given : ∀ i l, a (ix2 i l) = run (line b l) w i.val) (i : Fin 2176) (l : Fin 256) : double n a (ix2 i l) = run (line b l) (w + w) i.val := by
  rw [e, double_apply a w k, run_double _ (line_zero b l), given]
  by_cases p : i.val + w < 2176
  · rw [dif_pos p, if_pos p, given]
  · rw [dif_neg p, if_neg p]

/-- The table kept at the end. -/
def kept (n : BitVec 32) (b : FVec Ideal S2176x256 .f32) : FVec Ideal S2176x256 .f32 :=
  pick n 3#32 (double 2168#32 (double 2172#32 (double 2174#32 (double 2175#32 b))))
    (pick n 2#32 (double 2172#32 (double 2174#32 (double 2175#32 b))) (pick n 1#32 (double 2174#32 (double 2175#32 b))
      (pick n 0#32 (double 2175#32 b) (broadcast S2176x256 (Scalar.ofBits .f32 0x00000000#32)))))

theorem kept_apply (g : Fin 4) (b : FVec Ideal S2176x256 .f32) (i : Fin 2176) (l : Fin 256) :
    kept (BitVec.ofNat 32 g.val) b (ix2 i l) = run (line b l) (window g) i.val := by
  have s1 := double_run b b 1 (by omega) 2175#32 rfl fun i l => by rw [run_one, line, dif_pos i.isLt]
  have s2 := double_run _ b 2 (by omega) 2174#32 rfl s1
  have s4 := double_run _ b 4 (by omega) 2172#32 rfl s2
  have s8 := double_run _ b 8 (by omega) 2168#32 rfl s4
  match g with
  | ⟨0, _⟩ => exact s1 i l
  | ⟨1, _⟩ => exact s2 i l
  | ⟨2, _⟩ => exact s4 i l
  | ⟨3, _⟩ => exact s8 i l

/-- The window's length as the body chooses it. -/
abbrev chosen (n : BitVec 32) : BitVec 32 :=
  Scalar.select (Scalar.cmpi .eq n 0#32) 2#32 (Scalar.select (Scalar.cmpi .eq n 1#32) 4#32 (Scalar.select (Scalar.cmpi .eq n 2#32) 8#32 16#32))

theorem chosen_window : ∀ g : Fin 4, chosen (BitVec.ofNat 32 g.val) = BitVec.ofNat 32 (window g) := by decide

variable (i : grid0.Coords) (x0 : Vec Ideal S2176x256 .f32) (x1 : Vec Ideal S2176x256 .bf16) (x2 : Vec Ideal S1x256x256 .bf16) (x3 : Vec Ideal S1x256 .f32)

theorem out_rows (a : FVec Ideal S2176x256 .f32) (n : BitVec 32) (p : BitVec 1) (q : BitVec 32) :
    k0_pay1 n a (k0_pay12 a places k0_pay9 p q) (k0_pay13 n a places k0_pay9 p q) (k0_pay14 a places k0_pay9 p q) (k0_pay15 places) (k0_pay16 (F := Ideal))
      = truncf .bf16 (subf (kept n (scaled (Scalar.select p 2#32 q) a)) a) bitsLt_bf16_f32 := rfl

/-- The cotangent times the scale, and its product with the weights, in one block. -/
theorem product (r : Fin 2176) (e : Fin 256) : k0_pay8 x0 x2 x3 (ix2 r e) = ∑ k : Fin 256, x0 (ix2 r k) * x3 (ix2 0 k) * x2 (ix3 0 e k) := by
  pointwise [k0_pay8, k0_pay6, k0_pay4, k0_pay2]

theorem cotangent_whole : k0_pay18 i x0 x1 x2 x3 = k0_pay8 x0 x2 x3 := by
  unfold k0_pay18
  rw [View.ld_unit_zero, View.ld_unit_zero, View.ld_unit_zero] <;> decide

theorem tile4 (g : Fin 4) (k : (i 0).val = g.val) (r : Fin 2176) (e : Fin 256) :
    out0_4 i x0 x1 x2 x3 (ix2 r e) = run (line (scaled (BitVec.ofNat 32 (window g)) (k0_pay8 x0 x2 x3)) e) (window g) r.val - (k0_pay8 x0 x2 x3 (ix2 r e) : EReal) := by
  unfold out0_4
  frame_out
  rw [k, cotangent_whole, show k0_pay17 i x0 x1 x2 x3 = places from rfl, show k0_pay19 i x0 x1 x2 x3 = k0_pay9 from rfl, out_rows]
  refine congrArg (fun z : EReal => z - _) ?_
  refine (congrArg (fun w => kept (BitVec.ofNat 32 g.val) (scaled w (k0_pay8 x0 x2 x3)) (ix2 r e)) (chosen_window g)).trans ?_
  exact kept_apply g _ r e

theorem tile5 (a : Fin 1) (k e : Fin 256) : out0_5 i x0 x1 x2 x3 (ix3 a k e) = ∑ r : Fin 2176, x1 (ix2 r k) * (x0 (ix2 r e) * x3 (ix2 0 e)) := by
  unfold out0_5
  frame_out
  pointwise [k0_pay7, k0_pay6, k0_pay3, k0_pay2]

theorem tile6 (a : Fin 1) (e : Fin 256) : out0_6 i x0 x1 x2 x3 (ix2 a e) = ∑ r : Fin 2176, x0 (ix2 r e) * ∑ k : Fin 256, x1 (ix2 r k) * x2 (ix3 0 k e) := by
  unfold out0_6
  frame_out
  pointwise [k0_pay5, k0_pay4, k0_pay3, k0_pay2]

end Cert.KernelPoolIdeal.Final
end
-- ==== Proof.Pool.Arrays.lean ====
module

public import proofs.«01_k».proof.Proof.Pool.Steps

@[expose] public section

set_option maxRecDepth 16384

noncomputable section

open Idealize.ShloMosaic Idealize.ShloMosaic.TcCoe Idealize.SL.Sem
open Idealize.ShloMosaic.Pipeline (Dat)
open scoped BigOperators

namespace Cert.KernelPoolIdeal.Final

open Cert.KernelPoolIdeal Cert.KernelPoolIdeal.Gen Cert.Pool
open Cert.Forget (run)

variable (m : (ℓ : Loc nD τ sig) → Buf (Elt Ideal) ℓ) (c : Dev nD)

theorem idx : ∀ t : Fin cfg0.N, win0_0.index t = ![0, t.val] ∧ win0_1.index t = ![0, t.val] ∧ win0_2.index t = ![t.val, 0, 0] ∧ win0_3.index t = ![0, t.val]
    ∧ win0_4.index t = ![0, t.val] ∧ win0_5.index t = ![t.val, 0, 0] ∧ win0_6.index t = ![0, t.val] :=
  (by decide +kernel : ∀ t : Fin grid0.N, _)

theorem coord : ∀ t : Fin cfg0.N, (grid0.coords t 0).val = t.val := (by decide +kernel : ∀ t : Fin grid0.N, _)

/-- The group of a grid point. -/
def group (t : Fin cfg0.N) : Fin 4 := ⟨t.val, t.isLt.trans_eq N_0⟩

variable (t : Fin cfg0.N)

/-- The cotangent, continued by zeros. -/
def ctRow (x : Inputs) (l : Fin 1024) (i : ℕ) : EReal := if p : i < 2064 then x.ct (ix2 ⟨i, p⟩ l) else 0

theorem read_ct (r : Fin 2176) (e : Fin 256) : iblk m c 0 t (ix2 r e) = ctRow (args m c) (lane (group t) e) r.val := by
  refine Eq.trans (b := V m c main_v0 (ix2 r (lane (group t) e))) ?_ ?_
  · obtain ⟨e, -⟩ := idx t
    blk_ext [iblk, e, lane, group]
  · rw [host_cotangent]
    unfold ctRow
    pointwise []
    by_cases p : r.val < 2064
    · rw [dif_pos p, dif_pos (by omega)]; rfl
    · rw [dif_neg p, dif_neg (by omega)]

theorem read_pooled (r : Fin 2176) (e : Fin 256) : iblk m c 1 t (ix2 r e) = (args m c).pooled (group t) e r.val := by
  refine Eq.trans (b := V m c main_v64 (ix2 r (lane (group t) e))) ?_ (pooled_apply m c (group t) e r)
  obtain ⟨-, e, -⟩ := idx t
  blk_ext [iblk, e, lane, group]

theorem read_w (a : Fin 1) (k e : Fin 256) : iblk m c 2 t (ix3 a k e) = (args m c).w (ix3 (group t) k e) := by
  refine Eq.trans (b := V m c main_v65 (ix3 (group t) k e)) ?_ ?_
  · obtain ⟨-, -, e, -⟩ := idx t
    blk_ext [iblk, e, group]
  · rw [host_weights]; rfl

theorem read_s (a : Fin 1) (e : Fin 256) : iblk m c 3 t (ix2 a e) = (args m c).s (ix2 0 (lane (group t) e)) := by
  refine Eq.trans (b := V m c main_arg2 (ix2 0 (lane (group t) e))) ?_ ?_
  · obtain ⟨-, -, -, e, -⟩ := idx t
    blk_ext [iblk, e, lane, group]
  · rfl

/-- The blocks at a grid point. -/
abbrev cotangents : FVec Ideal S2176x256 .f32 := k0_pay8 (iblk m c 0 t) (iblk m c 2 t) (iblk m c 3 t)

theorem weighted (g : Fin 4) (e : Fin 256) (r : ℕ) (x : Inputs) : (ctRow x (lane g e) r * x.s (ix2 0 (lane g e)) : EReal) = x.back1 g e r := by
  unfold ctRow Inputs.back1
  by_cases p : r < 2064
  · rw [dif_pos p, dif_pos p]
  · rw [dif_neg p, dif_neg p, zero_mul]

theorem cotangents_apply (r : Fin 2176) (e : Fin 256) : cotangents m c t (ix2 r e) = (args m c).back2 (group t) e r.val := by
  refine (product _ _ _ r e).trans (Finset.sum_congr rfl fun k _ => ?_)
  rw [read_ct, read_s, read_w, weighted]

theorem line_apply (e : Fin 256) (r : ℕ) : line (scaled (BitVec.ofNat 32 (window (group t))) (cotangents m c t)) e r
    = Ideal.div ((args m c).back2 (group t) e r) ((rows (group t) r : ℝ) : EReal) := by
  unfold line
  by_cases p : r < 2176
  · rw [dif_pos p, scaled_apply, cotangents_apply]
  · rw [dif_neg p, share_zero _ _ _ _ (by omega)]

/-- A sum over the padded rows is one over the rows where the others add nothing. -/
theorem sum_rows (f : ℕ → EReal) (zero : ∀ r, 2064 ≤ r → f r = 0) : ∑ r : Fin 2176, f r.val = ∑ r : Fin 2064, f r.val := by
  refine (Fin.sum_univ_add (a := 2064) (b := 112) fun r => f r.val).trans ?_
  rw [Finset.sum_eq_zero (f := fun i : Fin 112 => f (Fin.natAdd 2064 i).val) fun i _ => zero _ (by simp), add_zero]
  rfl

theorem out4 (r : Fin 2176) (e : Fin 256) :
    out0_4 (grid0.coords t) (iblk m c 0 t) (iblk m c 1 t) (iblk m c 2 t) (iblk m c 3 t) (ix2 r e) = (args m c).dp (group t) e r.val := by
  rw [tile4 _ _ _ _ _ (group t) (coord t)]
  exact congrArg₂ (fun a b : EReal => a - b) (congrArg (fun f => run f (window (group t)) r.val) (funext (line_apply m c t e))) (cotangents_apply m c t r e)

theorem out5 (a : Fin 1) (k e : Fin 256) :
    out0_5 (grid0.coords t) (iblk m c 0 t) (iblk m c 1 t) (iblk m c 2 t) (iblk m c 3 t) (ix3 a k e) = (args m c).dw (group t) k e := by
  rw [tile5]
  simp only [read_pooled, read_ct, read_s, weighted]
  refine sum_rows (fun r => (args m c).pooled (group t) k r * (args m c).back1 (group t) e r) fun r p => ?_
  rw [Inputs.back1, dif_neg (by omega), mul_zero]

theorem out6 (a : Fin 1) (e : Fin 256) :
    out0_6 (grid0.coords t) (iblk m c 0 t) (iblk m c 1 t) (iblk m c 2 t) (iblk m c 3 t) (ix2 a e) = (args m c).ds (group t) e := by
  rw [tile6]
  simp only [read_pooled, read_ct, read_w]
  refine (sum_rows (fun r => ctRow (args m c) (lane (group t) e) r * (args m c).mixed (group t) e r) fun r p => ?_).trans ?_
  · rw [ctRow, dif_neg (by omega), zero_mul]
  · refine Finset.sum_congr rfl fun r _ => ?_
    rw [ctRow, dif_pos r.isLt]

theorem group_lane (e : Fin 256) (k : t.val * 256 + e.val < 1024) : groupIn ⟨t.val * 256 + e.val, k⟩ = group t ∧ placeIn ⟨t.val * 256 + e.val, k⟩ = e :=
  ⟨Fin.ext (show (t.val * 256 + e.val) / 256 = t.val by omega), Fin.ext (show (t.val * 256 + e.val) % 256 = e.val by omega)⟩

theorem final_rows : (dats m 0 c).arrAt 4 cfg0.N = resRows (args m c) := by
  refine (dats m 0 c).arrAt_eq_of_covers 4 _ (by decide +kernel) fun t hf y => ?_
  have ht := t.isLt.trans_eq N_0
  have hr : (y 0).val < 2176 := (y 0).isLt
  have he : (y 1).val < 256 := (y 1).isLt
  refine Eq.trans ?_ (congrArg (resRows (args m c)) (?_ : ix2 (⟨(y 0).val, hr⟩ : Fin 2176) (⟨t.val * 256 + (y 1).val, by omega⟩ : Fin 1024) = ((cfg0.win 4).blk t).view.emb y))
  · blk_simp
    rw [after0_4]
    refine ((congrArg _ (eq_ix2 y)).trans (out4 m c t (y 0) (y 1))).trans ?_
    obtain ⟨p, q⟩ := group_lane t (y 1) (by omega)
    show _ = (args m c).dp (groupIn ⟨t.val * 256 + (y 1).val, _⟩) (placeIn ⟨t.val * 256 + (y 1).val, _⟩) (y 0).val
    rw [p, q]
  · obtain ⟨-, -, -, -, e, -⟩ := idx t
    blk_ext [e]

theorem final_weights : (dats m 0 c).arrAt 5 cfg0.N = resWeights (args m c) := by
  refine (dats m 0 c).arrAt_eq_of_covers 5 _ (by decide +kernel) fun t hf y => ?_
  refine Eq.trans ?_ (congrArg (resWeights (args m c)) (?_ : ix3 (group t) (y 1) (y 2) = ((cfg0.win 5).blk t).view.emb y))
  · blk_simp
    rw [after0_5]
    exact (congrArg _ (eq_ix3 y)).trans (out5 m c t (y 0) (y 1) (y 2))
  · obtain ⟨-, -, -, -, -, e, -⟩ := idx t
    blk_ext [e, group]

theorem final_scale : (dats m 0 c).arrAt 6 cfg0.N = resScale (args m c) := by
  refine (dats m 0 c).arrAt_eq_of_covers 6 _ (by decide +kernel) fun t hf y => ?_
  have ht := t.isLt.trans_eq N_0
  have he : (y 1).val < 256 := (y 1).isLt
  refine Eq.trans ?_ (congrArg (resScale (args m c)) (?_ : ix2 (0 : Fin 1) (⟨t.val * 256 + (y 1).val, by omega⟩ : Fin 1024) = ((cfg0.win 6).blk t).view.emb y))
  · blk_simp
    rw [after0_6]
    refine ((congrArg _ (eq_ix2 y)).trans (out6 m c t (y 0) (y 1))).trans ?_
    obtain ⟨p, q⟩ := group_lane t (y 1) (by omega)
    show _ = (args m c).ds (groupIn ⟨t.val * 256 + (y 1).val, _⟩) (placeIn ⟨t.val * 256 + (y 1).val, _⟩)
    rw [p, q]
  · obtain ⟨-, -, -, -, -, -, e⟩ := idx t
    blk_ext [e]

end Cert.KernelPoolIdeal.Final
end
-- ==== Proof.Pool.Claims.lean ====
module

public import proofs.«01_k».proof.Proof.Pool.Reference
public import proofs.«01_k».proof.Proof.Pool.Arrays
public import proofs.«01_k».proof.Proof.Gen.KernelPoolIdeal.Frame
public import proofs.«01_k».proof.Proof.Gen.ReferencePoolIdeal.Run
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Proof.Pool

open Cert.KernelPoolIdeal.Final Cert.Pool

theorem frame_kernel_finite : Cert.quiescent_KernelPoolIdeal_pre_pool_finite :=
  fun m g _ => Cert.KernelPoolIdeal.Gen.frame m g

theorem frame_reference : Cert.quiescent_ReferencePoolIdeal := by
  intro m g _
  exact (θ_run _ _ _).mono (fun r h => ⟨fun c => (h c).2.2.2, sem_eq_zero_of_no_sems (by decide) r.2⟩)
    (Cert.ReferencePoolIdeal.Value.run m g)

theorem frame_reference_finite : Cert.quiescent_ReferencePoolIdeal_pre_pool_finite :=
  fun m g _ => frame_reference m g trivial

theorem equal : Cert.algebraic_KernelPoolIdeal_ReferencePoolIdeal_pre_pool_finite := by
  intro m g m' g' finite hag
  have given : ∀ c, Finite (args m c) := fun c => finite_of (args m c) (finite c)
  refine ⟨fun c => resRows (args m c), fun c => resWeights (args m c), fun c => resScale (args m c), ?_, ?_⟩
  · refine (θ_run _ _ _).mono (fun r h c => ?_) (Cert.KernelPoolIdeal.Value.run_blocks m g)
    exact ⟨(h c).1.trans (final_rows m c), (h c).2.1.trans (final_weights m c), (h c).2.2.1.trans (final_scale m c), (h c).2.2.2⟩
  · refine (θ_run _ _ _).mono (fun r h c => ?_) (Cert.ReferencePoolIdeal.Value.run m' g')
    have e := h c
    obtain ⟨a0, a1, a2, a3⟩ := hag c
    have same : Inputs.mk _ _ _ _ = args m c := congr (congr (congr (congrArg Inputs.mk a0) a1) a2) a3
    have real : Finite (Inputs.mk _ _ _ _) := same.symm ▸ given c
    exact ⟨(e.1.trans (Cert.ReferencePoolIdeal.Read.val_main_v96_eq m' c)).trans ((Cert.ReferencePoolIdeal.Final.ref_res_rows _ real).trans (congrArg resRows same)),
      (e.2.1.trans (Cert.ReferencePoolIdeal.Read.val_main_v97_eq m' c)).trans ((Cert.ReferencePoolIdeal.Final.ref_res_weights _ real).trans (congrArg resWeights same)),
      (e.2.2.1.trans (Cert.ReferencePoolIdeal.Read.val_main_v74_eq m' c)).trans ((Cert.ReferencePoolIdeal.Final.ref_res_scale _ real).trans (congrArg resScale same)), (h c).2.2.2⟩

end Cert.Proof.Pool
end
-- ==== Proof.AttnFwd.Math.lean ====
module

public import proofs.«01_k».proof.Proof.Attention.Math
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Attention

namespace Inputs

variable {n : ℕ} (x : Inputs n)

/-! What the forward pass of attention computes, and its rows cut off behind the query. -/

/-- The output of the attention. -/
def out (i : Fin n) (h : Fin 8) (e : Fin 128) : ℝ := ∑ j, x.prob h i j * x.v j h e

/-- The logarithm of a row's sum. -/
def logTotal (h : Fin 8) (i : Fin n) : ℝ := Real.log (x.total h i)

/-- The first `w` rows of every argument. -/
def first (w : ℕ) (hw : w ≤ n) : Inputs w where
  q i := x.q (i.castLE hw)
  k i := x.k (i.castLE hw)
  v i := x.v (i.castLE hw)
  cum h i := x.cum h (i.castLE hw)
  ct i := x.ct (i.castLE hw)

section
variable {w : ℕ} (hw : w ≤ n) (h : Fin 8) (i : Fin w)

theorem first_total : (x.first w hw).total h i = x.total h (i.castLE hw) :=
  sum_prefix hw (i := i.castLE hw) i.isLt (fun j => x.weight h (i.castLE hw) j) fun j p => if_neg (by omega)

theorem first_prob (j : Fin w) : (x.first w hw).prob h i j = x.prob h (i.castLE hw) (j.castLE hw) := by
  unfold prob; rw [first_total]; rfl

theorem first_out (e : Fin 128) : (x.first w hw).out i h e = x.out (i.castLE hw) h e := by
  refine Eq.trans (Finset.sum_congr rfl fun j _ => ?_)
    (sum_prefix hw (i := i.castLE hw) i.isLt (fun j => x.prob h (i.castLE hw) j * x.v j h e) fun j p => ?_)
  · rw [first_prob]; rfl
  · rw [x.prob_eq_zero h p, zero_mul]

end

theorem row_log {h : Fin 8} {i : Fin n} {f : Fin n → EReal} (hf : x.Masked h i f) :
    Finset.univ.fold max ⊥ f + Ideal.log (∑ j, Ideal.exp (f j - Finset.univ.fold max ⊥ f)) = (x.logTotal h i : EReal) := by
  obtain ⟨r, hr, hp⟩ := x.row_lse hf
  rw [hr]
  congr 1
  have p := hp i le_rfl
  have t := x.total_pos h i
  rw [prob, weight, if_pos le_rfl, Real.exp_sub] at p
  have e : Real.exp r = x.total h i := by
    have a := Real.exp_pos (x.score h i i)
    have b := Real.exp_pos r
    field_simp at p
    linarith
  rw [logTotal, ← e, Real.log_exp]

theorem row_out {h : Fin 8} {i : Fin n} {f : Fin n → EReal} (hf : x.Masked h i f) (e : Fin 128) :
    (∑ j, Ideal.div (Ideal.exp (f j - Finset.univ.fold max ⊥ f)) (∑ j, Ideal.exp (f j - Finset.univ.fold max ⊥ f)) * (x.v j h e : EReal))
      = (x.out i h e : EReal) := by
  obtain ⟨s, z, hs, hz, hsum, hexp, -⟩ := x.row_max hf
  rw [hs, hsum, out, Reals.coe_sum]
  refine Finset.sum_congr rfl fun j _ => ?_
  rw [hexp, Reals.div_coe_coe _ hz.ne', mul_div_cancel_left₀ _ hz.ne', EReal.coe_mul]

/-! The same for a row of scores that stops behind the query. -/

section
variable {w : ℕ} (hw : w ≤ n) {h : Fin 8} {i : Fin n} (hi : i.val < w)

/-- The entries of a row of masked scores in front of `w`. -/
def cut (h : Fin 8) (i : Fin n) (w : ℕ) (hw : w ≤ n) (j : Fin w) : EReal :=
  if j.val ≤ i.val then (x.score h i ⟨j.val, j.isLt.trans_le hw⟩ : EReal) else ⊥

include hi

theorem cut_log : Finset.univ.fold max ⊥ (x.cut h i w hw)
    + Ideal.log (∑ j, Ideal.exp (x.cut h i w hw j - Finset.univ.fold max ⊥ (x.cut h i w hw))) = (x.logTotal h i : EReal) := by
  refine ((x.first w hw).row_log (h := h) (i := ⟨i.val, hi⟩) (f := x.cut h i w hw) fun _ => rfl).trans ?_
  rw [logTotal, first_total]; rfl

theorem cut_out (e : Fin 128) :
    (∑ j, Ideal.div (Ideal.exp (x.cut h i w hw j - Finset.univ.fold max ⊥ (x.cut h i w hw)))
        (∑ j, Ideal.exp (x.cut h i w hw j - Finset.univ.fold max ⊥ (x.cut h i w hw))) * (x.v ⟨j.val, j.isLt.trans_le hw⟩ h e : EReal))
      = (x.out i h e : EReal) := by
  refine ((x.first w hw).row_out (h := h) (i := ⟨i.val, hi⟩) (f := x.cut h i w hw) (fun _ => rfl) e).trans ?_
  rw [first_out]; rfl

/-! The same for any row with these entries. -/

variable {f : Fin w → EReal}

theorem prefix_log (hf : ∀ j, f j = x.cut h i w hw j) :
    Finset.univ.fold max ⊥ f + Ideal.log (∑ j, Ideal.exp (f j - Finset.univ.fold max ⊥ f)) = (x.logTotal h i : EReal) := by
  rw [funext hf]; exact x.cut_log hw hi

theorem prefix_out (e : Fin 128) (hf : ∀ j, f j = x.cut h i w hw j) :
    (∑ j, Ideal.div (Ideal.exp (f j - Finset.univ.fold max ⊥ f)) (∑ j, Ideal.exp (f j - Finset.univ.fold max ⊥ f))
      * (x.v ⟨j.val, j.isLt.trans_le hw⟩ h e : EReal)) = (x.out i h e : EReal) := by
  rw [funext hf]; exact x.cut_out hw hi e

end

end Inputs

end Cert.Attention
end
-- ==== Proof.AttnFwd.Reads.lean ====
module

public import proofs.«01_k».proof.Proof.Attention.Host
public import proofs.«01_k».proof.Proof.AttnFwd.Math
public import proofs.«01_k».proof.Proof.Gen.KernelAttnFwdIdeal.Value

@[expose] public section

set_option maxRecDepth 16384

noncomputable section

open Idealize.ShloMosaic Idealize.ShloMosaic.TcCoe Idealize.SL.Sem
open Idealize.ShloMosaic.Pipeline (Dat)
open scoped BigOperators

namespace Cert.KernelAttnFwdIdeal.Final

open Cert.KernelAttnFwdIdeal Cert.KernelAttnFwdIdeal.Gen Cert.Attention

/-! What a grid point of the forward call reads. -/

theorem idx : ∀ t : Fin cfg0.N, win0_0.index t = ![t.val % 17, t.val / 17] ∧ win0_1.index t = ![0, t.val / 17]
    ∧ win0_2.index t = ![0, t.val / 17] ∧ win0_3.index t = ![t.val / 17, t.val % 17, 0] ∧ win0_4.index t = ![t.val / 17, 0, 0]
    ∧ win0_5.index t = ![t.val % 17, t.val / 17] ∧ win0_6.index t = ![t.val / 17, t.val % 17]
    ∧ win0_7.index t = ![t.val / 17, t.val % 17, 0] ∧ win0_8.index t = ![t.val / 17, 0, t.val % 17] :=
  (by decide +kernel : ∀ t : Fin grid0.N, _)

theorem coord : ∀ t : Fin cfg0.N, @Fin.val 17 (grid0.coords t 1) = t.val % 17 :=
  (by decide +kernel : ∀ t : Fin grid0.N, _)

/-- The query row of a grid point's tile, and its two heads. -/
def row (t : Fin cfg0.N) (r : Fin 128) : Fin 2176 := ⟨t.val % 17 * 128 + r.val, by omega⟩
def head (t : Fin cfg0.N) (s : Fin 2) : Fin 8 := ⟨t.val / 17 * 2 + s.val, by have := t.isLt.trans_eq N_0; omega⟩

/-- The mask is minus infinity. -/
theorem mask_bot : (Named.named (F := Ideal) κ "mask" (φ := .f32) 0xF149F2CA#32 : EReal) = ⊥ := by
  simp [Named.named, κ]

variable (m : (ℓ : Loc nD τ sig) → Buf (Elt Ideal) ℓ) (c : Dev nD)

abbrev argQ : FVec Ideal Heads .f32 := m ((c.tc : Thread nD τ).loc main_arg0)
abbrev argK : FVec Ideal Heads .f32 := m ((c.tc : Thread nD τ).loc main_arg1)
abbrev argV : FVec Ideal Heads .f32 := m ((c.tc : Thread nD τ).loc main_arg2)
abbrev argC : FVec Ideal Decays .f32 := m ((c.tc : Thread nD τ).loc main_arg3)

theorem host_q : V m c main_v5 = flat (padded (argQ m c)) := by
  unfold V; after_reads_simp; rfl

theorem host_k : V m c main_v9 = flat (padded (argK m c)) := by
  unfold V; after_reads_simp; rfl

theorem host_v : V m c main_v13 = flat (padded (argV m c)) := by
  unfold V; after_reads_simp; rfl

theorem host_cq : V m c main_v14 = fun i => shapeCast S8x2176x1 (decays (argC m c)) shapeCasts_S8x2176_S8x2176x1 i := by
  unfold V; after_reads_simp; rfl

theorem host_ck : V m c main_v15 = fun i => shapeCast S8x1x2176 (decays (argC m c)) shapeCasts_S8x2176_S8x1x2176 i := by
  unfold V; after_reads_simp; rfl

variable {m c} {x : Inputs 2064} (hx : Holds (argQ m c) (argK m c) (argV m c) (argC m c) (argQ m c) x)
include hx

theorem read_cq (h : Fin 8) (i : Fin 2176) : V m c main_v14 (ix3 h i 0) = ((x.pad 2176).cum h i : EReal) := by
  rw [host_cq]; pointwise []
  exact decays_apply _ x hx.cum h i

theorem read_ck (h : Fin 8) (i : Fin 2176) : V m c main_v15 (ix3 h 0 i) = ((x.pad 2176).cum h i : EReal) := by
  rw [host_ck]; pointwise []
  exact decays_apply _ x hx.cum h i

variable (t : Fin cfg0.N) (r e : Fin 128) (j : Fin 2176)

theorem read_q (s : Fin 2) (y : Fin 256) (hy : y.val = s.val * 128 + e.val) :
    iblk m c 0 t (ix2 r y) = ((x.pad 2176).q (row t r) (head t s) e : EReal) := by
  refine Eq.trans ?_ (padded_apply _ _ hx.q _ _ _)
  rw [← flat_apply (padded (argQ m c)), ← host_q]
  obtain ⟨e0, -⟩ := idx t
  blk_ext [iblk, e0, row, head, col, hy]

theorem read_k (s : Fin 2) (y : Fin 256) (hy : y.val = s.val * 128 + e.val) :
    iblk m c 1 t (ix2 j y) = ((x.pad 2176).k j (head t s) e : EReal) := by
  refine Eq.trans ?_ (padded_apply _ _ hx.k _ _ _)
  rw [← flat_apply (padded (argK m c)), ← host_k]
  obtain ⟨-, e0, -⟩ := idx t
  blk_ext [iblk, e0, row, head, col, hy]

theorem read_v (s : Fin 2) (y : Fin 256) (hy : y.val = s.val * 128 + e.val) :
    iblk m c 2 t (ix2 j y) = ((x.pad 2176).v j (head t s) e : EReal) := by
  refine Eq.trans ?_ (padded_apply _ _ hx.v _ _ _)
  rw [← flat_apply (padded (argV m c)), ← host_v]
  obtain ⟨-, -, e0, -⟩ := idx t
  blk_ext [iblk, e0, row, head, col, hy]

theorem q0 (h : e.val < 256) : iblk m c 0 t (ix2 r ⟨e.val, h⟩) = ((x.pad 2176).q (row t r) (head t 0) e : EReal) :=
  read_q hx t r e 0 _ (by simp)

theorem q1 (h : 128 + e.val < 256) : iblk m c 0 t (ix2 r ⟨128 + e.val, h⟩) = ((x.pad 2176).q (row t r) (head t 1) e : EReal) :=
  read_q hx t r e 1 _ (by simp)

theorem k0 (h : e.val < 256) : iblk m c 1 t (ix2 j ⟨e.val, h⟩) = ((x.pad 2176).k j (head t 0) e : EReal) :=
  read_k hx t e j 0 _ (by simp)

theorem k1 (h : 128 + e.val < 256) : iblk m c 1 t (ix2 j ⟨128 + e.val, h⟩) = ((x.pad 2176).k j (head t 1) e : EReal) :=
  read_k hx t e j 1 _ (by simp)

theorem v0 (h : e.val < 256) : iblk m c 2 t (ix2 j ⟨e.val, h⟩) = ((x.pad 2176).v j (head t 0) e : EReal) :=
  read_v hx t e j 0 _ (by simp)

theorem v1 (h : 128 + e.val < 256) : iblk m c 2 t (ix2 j ⟨128 + e.val, h⟩) = ((x.pad 2176).v j (head t 1) e : EReal) :=
  read_v hx t e j 1 _ (by simp)

theorem cq (s : Fin 2) : iblk m c 3 t (ix3 s r 0) = ((x.pad 2176).cum (head t s) (row t r) : EReal) := by
  rw [← read_cq hx]
  obtain ⟨-, -, -, e3, -⟩ := idx t
  blk_ext [iblk, e3, row, head]

theorem ck (s : Fin 2) : iblk m c 4 t (ix3 s 0 j) = ((x.pad 2176).cum (head t s) j : EReal) := by
  rw [← read_ck hx]
  obtain ⟨-, -, -, -, e4, -⟩ := idx t
  blk_ext [iblk, e4, row, head]

omit hx in
/-- A masked score of the tile. -/
theorem masked_tile (X : Inputs 2176) (h : Fin 8) (a : ℕ) (ha : a < 2176) :
    Scalar.select (IntOp.cmpi .sge (IntOp.addi (Scalar.muli (BitVec.ofNat 32 (t.val % 17)) 128#32) (BitVec.ofNat 32 r.val))
        (BitVec.ofNat 32 a))
      (((∑ e, X.q (row t r) h e * X.k ⟨a, ha⟩ h e) * scale + (X.cum h (row t r) - X.cum h ⟨a, ha⟩) : ℝ) : EReal) (⊥ : EReal)
      = if a ≤ (row t r).val then (X.score h (row t r) ⟨a, ha⟩ : EReal) else ⊥ := by
  have w : IntOp.addi (Scalar.muli (BitVec.ofNat 32 (t.val % 17)) 128#32) (BitVec.ofNat 32 r.val) = BitVec.ofNat 32 (t.val % 17 * 128 + r.val) := by
    simp [IntOp.addi, Scalar.muli, IntOp.muli, BitVec.ofNat_add, BitVec.ofNat_mul]
  rw [w]
  have ht : t.val % 17 < 17 := Nat.mod_lt _ (by decide)
  word_cmp
  rfl

end Cert.KernelAttnFwdIdeal.Final
end
-- ==== Proof.AttnFwd.Tiles.lean ====
module

public import proofs.«01_k».proof.Proof.AttnFwd.Reads

@[expose] public section

set_option maxRecDepth 16384

noncomputable section

open Idealize.ShloMosaic Idealize.ShloMosaic.TcCoe Idealize.SL.Sem
open Idealize.ShloMosaic.Pipeline (Dat)
open scoped BigOperators

namespace Cert.KernelAttnFwdIdeal.Final

open Cert.KernelAttnFwdIdeal Cert.KernelAttnFwdIdeal.Gen Cert.Attention

/-- The head of a pair that a column belongs to, and its place in the head. -/
def half (y : Fin 256) : Fin 2 := ⟨y.val / 128, by omega⟩
def lane (y : Fin 256) : Fin 128 := ⟨y.val % 128, by omega⟩

variable {m : (ℓ : Loc nD τ sig) → Buf (Elt Ideal) ℓ} {c : Dev nD} {x : Inputs 2064}
  (given : Holds (argQ m c) (argK m c) (argV m c) (argC m c) (argQ m c) x) (t : Fin cfg0.N)
include given

set_option maxHeartbeats 4000000 in
/-- A tile of the output. -/
theorem tile_out (y : S128x256.Idx) :
    (outsAt0 m c t.val t.isLt).1 y = ((x.pad 2176).out (row t (y 0)) (head t (half (y 1))) (lane (y 1)) : EReal) := by
  obtain k | k | k | k | k | k | k | k | k : t.val % 17 ≤ 1 ∨ (2 ≤ t.val % 17 ∧ t.val % 17 ≤ 3) ∨ (4 ≤ t.val % 17 ∧ t.val % 17 ≤ 5)
      ∨ (6 ≤ t.val % 17 ∧ t.val % 17 ≤ 7) ∨ (8 ≤ t.val % 17 ∧ t.val % 17 ≤ 9) ∨ (10 ≤ t.val % 17 ∧ t.val % 17 ≤ 11)
      ∨ (12 ≤ t.val % 17 ∧ t.val % 17 ≤ 13) ∨ (14 ≤ t.val % 17 ∧ t.val % 17 ≤ 15) ∨ t.val % 17 = 16 := by omega
  on_goal 1 => rw [outsAt0_A m c t (by omega) (by omega) (by omega) (by omega) (by omega) (by omega) (by omega) (by omega) (by omega)]
  on_goal 2 => rw [outsAt0_B m c t (by omega) (by omega) (by omega) (by omega) (by omega) (by omega) (by omega) (by omega) (by omega)]
  on_goal 3 => rw [outsAt0_C m c t (by omega) (by omega) (by omega) (by omega) (by omega) (by omega) (by omega) (by omega) (by omega)]
  on_goal 4 => rw [outsAt0_D m c t (by omega) (by omega) (by omega) (by omega) (by omega) (by omega) (by omega) (by omega) (by omega)]
  on_goal 5 => rw [outsAt0_E m c t (by omega) (by omega) (by omega) (by omega) (by omega) (by omega) (by omega) (by omega) (by omega)]
  on_goal 6 => rw [outsAt0_F m c t (by omega) (by omega) (by omega) (by omega) (by omega) (by omega) (by omega) (by omega) (by omega)]
  on_goal 7 => rw [outsAt0_G m c t (by omega) (by omega) (by omega) (by omega) (by omega) (by omega) (by omega) (by omega) (by omega)]
  on_goal 8 => rw [outsAt0_H m c t (by omega) (by omega) (by omega) (by omega) (by omega) (by omega) (by omega) (by omega) (by omega)]
  on_goal 9 => rw [outsAt0_I m c t (by omega) (by omega) (by omega) (by omega) (by omega) (by omega) (by omega) (by omega) (by omega)]
  all_goals frame_out
  all_goals canon_tiles z h
  all_goals (open_payloads; pointwise)
  all_goals first
    | rw [show half (y 1) = (1 : Fin 2) from Fin.ext (by show (y 1).val / 128 = 1; omega)]
    | rw [show half (y 1) = (0 : Fin 2) from Fin.ext (by show (y 1).val / 128 = 0; omega)]
  all_goals rw [show y 0 = z 0 from Fin.ext (h0)]
  all_goals obtain ⟨r, er, vr⟩ : ∃ r : Fin 128, z 0 = r ∧ (z 0).val = r.val := ⟨z 0, rfl, rfl⟩
  all_goals simp only [vr]
  all_goals simp only [er]
  all_goals rw [show lane (y 1) = z 1 from Fin.ext (by show (y 1).val % 128 = (z 1).val; omega)]
  all_goals obtain ⟨e, ee, ve⟩ : ∃ e : Fin 128, z 1 = e ∧ (z 1).val = e.val := ⟨z 1, rfl, rfl⟩
  all_goals simp only [ve]
  all_goals simp only [ee]
  all_goals simp only [q0 given, q1 given, k0 given, k1 given, v0 given, v1 given, cq given, ck given,
    mask_bot, coord, scale_word, bot_word, ← EReal.coe_mul, ← EReal.coe_sub, ← EReal.coe_add, ← Reals.coe_sum]
  all_goals refine (x.pad 2176).prefix_out ?_ ?_ e ?_
  all_goals first
    | exact fun j => masked_tile t r (x.pad 2176) _ _ _
    | norm_num; done
    | simp only [row]; omega

set_option maxHeartbeats 4000000 in
/-- A tile of the transposed output. -/
theorem tile_outT (y : S256x128.Idx) :
    (outsAt0 m c t.val t.isLt).2.1 y = ((x.pad 2176).out (row t (y 1)) (head t (half (y 0))) (lane (y 0)) : EReal) := by
  obtain k | k | k | k | k | k | k | k | k : t.val % 17 ≤ 1 ∨ (2 ≤ t.val % 17 ∧ t.val % 17 ≤ 3) ∨ (4 ≤ t.val % 17 ∧ t.val % 17 ≤ 5)
      ∨ (6 ≤ t.val % 17 ∧ t.val % 17 ≤ 7) ∨ (8 ≤ t.val % 17 ∧ t.val % 17 ≤ 9) ∨ (10 ≤ t.val % 17 ∧ t.val % 17 ≤ 11)
      ∨ (12 ≤ t.val % 17 ∧ t.val % 17 ≤ 13) ∨ (14 ≤ t.val % 17 ∧ t.val % 17 ≤ 15) ∨ t.val % 17 = 16 := by omega
  on_goal 1 => rw [outsAt0_A m c t (by omega) (by omega) (by omega) (by omega) (by omega) (by omega) (by omega) (by omega) (by omega)]
  on_goal 2 => rw [outsAt0_B m c t (by omega) (by omega) (by omega) (by omega) (by omega) (by omega) (by omega) (by omega) (by omega)]
  on_goal 3 => rw [outsAt0_C m c t (by omega) (by omega) (by omega) (by omega) (by omega) (by omega) (by omega) (by omega) (by omega)]
  on_goal 4 => rw [outsAt0_D m c t (by omega) (by omega) (by omega) (by omega) (by omega) (by omega) (by omega) (by omega) (by omega)]
  on_goal 5 => rw [outsAt0_E m c t (by omega) (by omega) (by omega) (by omega) (by omega) (by omega) (by omega) (by omega) (by omega)]
  on_goal 6 => rw [outsAt0_F m c t (by omega) (by omega) (by omega) (by omega) (by omega) (by omega) (by omega) (by omega) (by omega)]
  on_goal 7 => rw [outsAt0_G m c t (by omega) (by omega) (by omega) (by omega) (by omega) (by omega) (by omega) (by omega) (by omega)]
  on_goal 8 => rw [outsAt0_H m c t (by omega) (by omega) (by omega) (by omega) (by omega) (by omega) (by omega) (by omega) (by omega)]
  on_goal 9 => rw [outsAt0_I m c t (by omega) (by omega) (by omega) (by omega) (by omega) (by omega) (by omega) (by omega) (by omega)]
  all_goals frame_out
  all_goals canon_tiles z h
  all_goals (open_payloads; pointwise)
  all_goals first
    | rw [show half (y 0) = (1 : Fin 2) from Fin.ext (by show (y 0).val / 128 = 1; omega)]
    | rw [show half (y 0) = (0 : Fin 2) from Fin.ext (by show (y 0).val / 128 = 0; omega)]
  all_goals rw [show y 1 = z 1 from Fin.ext (h1)]
  all_goals obtain ⟨r, er, vr⟩ : ∃ r : Fin 128, z 1 = r ∧ (z 1).val = r.val := ⟨z 1, rfl, rfl⟩
  all_goals simp only [vr]
  all_goals simp only [er]
  all_goals rw [show lane (y 0) = z 0 from Fin.ext (by show (y 0).val % 128 = (z 0).val; omega)]
  all_goals obtain ⟨e, ee, ve⟩ : ∃ e : Fin 128, z 0 = e ∧ (z 0).val = e.val := ⟨z 0, rfl, rfl⟩
  all_goals simp only [ve]
  all_goals simp only [ee]
  all_goals simp only [q0 given, q1 given, k0 given, k1 given, v0 given, v1 given, cq given, ck given,
    mask_bot, coord, scale_word, bot_word, ← EReal.coe_mul, ← EReal.coe_sub, ← EReal.coe_add, ← Reals.coe_sum]
  all_goals refine (x.pad 2176).prefix_out ?_ ?_ e ?_
  all_goals first
    | exact fun j => masked_tile t r (x.pad 2176) _ _ _
    | norm_num; done
    | simp only [row]; omega

set_option maxHeartbeats 4000000 in
/-- A tile of the logarithms, down the rows. -/
theorem tile_col (y : S2x128x1.Idx) :
    (outsAt0 m c t.val t.isLt).2.2.1 y = ((x.pad 2176).logTotal (head t (y 0)) (row t (y 1)) : EReal) := by
  obtain k | k | k | k | k | k | k | k | k : t.val % 17 ≤ 1 ∨ (2 ≤ t.val % 17 ∧ t.val % 17 ≤ 3) ∨ (4 ≤ t.val % 17 ∧ t.val % 17 ≤ 5)
      ∨ (6 ≤ t.val % 17 ∧ t.val % 17 ≤ 7) ∨ (8 ≤ t.val % 17 ∧ t.val % 17 ≤ 9) ∨ (10 ≤ t.val % 17 ∧ t.val % 17 ≤ 11)
      ∨ (12 ≤ t.val % 17 ∧ t.val % 17 ≤ 13) ∨ (14 ≤ t.val % 17 ∧ t.val % 17 ≤ 15) ∨ t.val % 17 = 16 := by omega
  on_goal 1 => rw [outsAt0_A m c t (by omega) (by omega) (by omega) (by omega) (by omega) (by omega) (by omega) (by omega) (by omega)]
  on_goal 2 => rw [outsAt0_B m c t (by omega) (by omega) (by omega) (by omega) (by omega) (by omega) (by omega) (by omega) (by omega)]
  on_goal 3 => rw [outsAt0_C m c t (by omega) (by omega) (by omega) (by omega) (by omega) (by omega) (by omega) (by omega) (by omega)]
  on_goal 4 => rw [outsAt0_D m c t (by omega) (by omega) (by omega) (by omega) (by omega) (by omega) (by omega) (by omega) (by omega)]
  on_goal 5 => rw [outsAt0_E m c t (by omega) (by omega) (by omega) (by omega) (by omega) (by omega) (by omega) (by omega) (by omega)]
  on_goal 6 => rw [outsAt0_F m c t (by omega) (by omega) (by omega) (by omega) (by omega) (by omega) (by omega) (by omega) (by omega)]
  on_goal 7 => rw [outsAt0_G m c t (by omega) (by omega) (by omega) (by omega) (by omega) (by omega) (by omega) (by omega) (by omega)]
  on_goal 8 => rw [outsAt0_H m c t (by omega) (by omega) (by omega) (by omega) (by omega) (by omega) (by omega) (by omega) (by omega)]
  on_goal 9 => rw [outsAt0_I m c t (by omega) (by omega) (by omega) (by omega) (by omega) (by omega) (by omega) (by omega) (by omega)]
  all_goals frame_out
  all_goals canon_tiles z h
  all_goals (open_payloads; pointwise)
  all_goals first
    | rw [show y 0 = (1 : Fin 2) from Fin.ext (by show (y 0).val = 1; omega)]
    | rw [show y 0 = (0 : Fin 2) from Fin.ext (by show (y 0).val = 0; omega)]
  all_goals rw [show y 1 = z 1 from Fin.ext (h1)]
  all_goals obtain ⟨r, er, vr⟩ : ∃ r : Fin 128, z 1 = r ∧ (z 1).val = r.val := ⟨z 1, rfl, rfl⟩
  all_goals simp only [vr]
  all_goals simp only [er]
  all_goals simp only [q0 given, q1 given, k0 given, k1 given, v0 given, v1 given, cq given, ck given,
    mask_bot, coord, scale_word, bot_word, ← EReal.coe_mul, ← EReal.coe_sub, ← EReal.coe_add, ← Reals.coe_sum]
  all_goals refine (x.pad 2176).prefix_log ?_ ?_ ?_
  all_goals first
    | exact fun j => masked_tile t r (x.pad 2176) _ _ _
    | norm_num; done
    | simp only [row]; omega

set_option maxHeartbeats 4000000 in
/-- A tile of the logarithms, along the lanes. -/
theorem tile_row (y : S2x1x128.Idx) :
    (outsAt0 m c t.val t.isLt).2.2.2 y = ((x.pad 2176).logTotal (head t (y 0)) (row t (y 2)) : EReal) := by
  obtain k | k | k | k | k | k | k | k | k : t.val % 17 ≤ 1 ∨ (2 ≤ t.val % 17 ∧ t.val % 17 ≤ 3) ∨ (4 ≤ t.val % 17 ∧ t.val % 17 ≤ 5)
      ∨ (6 ≤ t.val % 17 ∧ t.val % 17 ≤ 7) ∨ (8 ≤ t.val % 17 ∧ t.val % 17 ≤ 9) ∨ (10 ≤ t.val % 17 ∧ t.val % 17 ≤ 11)
      ∨ (12 ≤ t.val % 17 ∧ t.val % 17 ≤ 13) ∨ (14 ≤ t.val % 17 ∧ t.val % 17 ≤ 15) ∨ t.val % 17 = 16 := by omega
  on_goal 1 => rw [outsAt0_A m c t (by omega) (by omega) (by omega) (by omega) (by omega) (by omega) (by omega) (by omega) (by omega)]
  on_goal 2 => rw [outsAt0_B m c t (by omega) (by omega) (by omega) (by omega) (by omega) (by omega) (by omega) (by omega) (by omega)]
  on_goal 3 => rw [outsAt0_C m c t (by omega) (by omega) (by omega) (by omega) (by omega) (by omega) (by omega) (by omega) (by omega)]
  on_goal 4 => rw [outsAt0_D m c t (by omega) (by omega) (by omega) (by omega) (by omega) (by omega) (by omega) (by omega) (by omega)]
  on_goal 5 => rw [outsAt0_E m c t (by omega) (by omega) (by omega) (by omega) (by omega) (by omega) (by omega) (by omega) (by omega)]
  on_goal 6 => rw [outsAt0_F m c t (by omega) (by omega) (by omega) (by omega) (by omega) (by omega) (by omega) (by omega) (by omega)]
  on_goal 7 => rw [outsAt0_G m c t (by omega) (by omega) (by omega) (by omega) (by omega) (by omega) (by omega) (by omega) (by omega)]
  on_goal 8 => rw [outsAt0_H m c t (by omega) (by omega) (by omega) (by omega) (by omega) (by omega) (by omega) (by omega) (by omega)]
  on_goal 9 => rw [outsAt0_I m c t (by omega) (by omega) (by omega) (by omega) (by omega) (by omega) (by omega) (by omega) (by omega)]
  all_goals frame_out
  all_goals canon_tiles z h
  all_goals (open_payloads; pointwise)
  all_goals first
    | rw [show y 0 = (1 : Fin 2) from Fin.ext (by show (y 0).val = 1; omega)]
    | rw [show y 0 = (0 : Fin 2) from Fin.ext (by show (y 0).val = 0; omega)]
  all_goals rw [show y 2 = z 2 from Fin.ext (h2)]
  all_goals obtain ⟨r, er, vr⟩ : ∃ r : Fin 128, z 2 = r ∧ (z 2).val = r.val := ⟨z 2, rfl, rfl⟩
  all_goals simp only [vr]
  all_goals simp only [er]
  all_goals simp only [q0 given, q1 given, k0 given, k1 given, v0 given, v1 given, cq given, ck given,
    mask_bot, coord, scale_word, bot_word, ← EReal.coe_mul, ← EReal.coe_sub, ← EReal.coe_add, ← Reals.coe_sum]
  all_goals refine (x.pad 2176).prefix_log ?_ ?_ ?_
  all_goals first
    | exact fun j => masked_tile t r (x.pad 2176) _ _ _
    | norm_num; done
    | simp only [row]; omega

end Cert.KernelAttnFwdIdeal.Final
end
-- ==== Proof.AttnFwd.Arrays.lean ====
module

public import proofs.«01_k».proof.Proof.AttnFwd.Tiles

@[expose] public section

set_option maxRecDepth 16384

noncomputable section

open Idealize.ShloMosaic Idealize.ShloMosaic.TcCoe Idealize.SL.Sem
open Idealize.ShloMosaic.Pipeline (Dat)
open scoped BigOperators

namespace Cert.Attention

variable (X : Inputs 2176)

/-! The arrays that the forward call computes. -/

/-- The head of a column, and its place in the head. -/
def headOf (y : Fin 1024) : Fin 8 := ⟨y.val / 128, by omega⟩
def placeOf (y : Fin 1024) : Fin 128 := ⟨y.val % 128, by omega⟩

/-- The output, heads side by side, and its transpose. -/
def resOut : FVec Ideal ⟨2, ![2176, 1024]⟩ .bf16 := fun i => (X.out (i 0) (headOf (i 1)) (placeOf (i 1)) : EReal)
def resOutT : FVec Ideal ⟨2, ![1024, 2176]⟩ .bf16 := fun i => (X.out (i 1) (headOf (i 0)) (placeOf (i 0)) : EReal)
/-- The logarithms of the sums, down the rows and along the lanes. -/
def resCol : FVec Ideal ⟨3, ![8, 2176, 1]⟩ .f32 := fun i => (X.logTotal (i 0) (i 1) : EReal)
def resRow : FVec Ideal ⟨3, ![8, 1, 2176]⟩ .f32 := fun i => (X.logTotal (i 0) (i 2) : EReal)

end Cert.Attention

namespace Cert.KernelAttnFwdIdeal.Final

open Cert.KernelAttnFwdIdeal Cert.KernelAttnFwdIdeal.Gen Cert.Attention

/-- A column of a grid point's pair of heads. -/
def place (t : Fin cfg0.N) (y : Fin 256) : Fin 1024 := ⟨t.val / 17 * 256 + y.val, by have := t.isLt.trans_eq N_0; omega⟩

theorem head_place (t : Fin cfg0.N) (y : Fin 256) : headOf (place t y) = head t (half y) := by
  refine Fin.ext ?_
  show (t.val / 17 * 256 + y.val) / 128 = t.val / 17 * 2 + y.val / 128
  omega

theorem lane_place (t : Fin cfg0.N) (y : Fin 256) : placeOf (place t y) = lane y := by
  refine Fin.ext ?_
  show (t.val / 17 * 256 + y.val) % 128 = y.val % 128
  omega

variable {m : (ℓ : Loc nD τ sig) → Buf (Elt Ideal) ℓ} {c : Dev nD} {x : Inputs 2064}
  (given : Holds (argQ m c) (argK m c) (argV m c) (argC m c) (argQ m c) x)
include given

theorem final_out : (dats m 0 c).arrAt 5 cfg0.N = resOut (x.pad 2176) := by
  refine (dats m 0 c).arrAt_eq_of_covers 5 _ (by decide +kernel) fun t hf y => ?_
  obtain ⟨-, -, -, -, -, e, -⟩ := idx t
  have hy : ix2 (row t (y 0)) (place t (y 1)) = ((cfg0.win 5).blk t).view.emb y := by blk_ext [e, row, place]
  refine Eq.trans ?_ (congrArg (resOut (x.pad 2176)) hy)
  blk_simp
  rw [after0_5]
  exact (tile_out given t y).trans (congrArg₂ (fun a b => ((x.pad 2176).out (row t (y 0)) a b : EReal))
    (head_place t (y 1)).symm (lane_place t (y 1)).symm)

theorem final_outT : (dats m 0 c).arrAt 6 cfg0.N = resOutT (x.pad 2176) := by
  refine (dats m 0 c).arrAt_eq_of_covers 6 _ (by decide +kernel) fun t hf y => ?_
  obtain ⟨-, -, -, -, -, -, e, -⟩ := idx t
  have hy : ix2 (place t (y 0)) (row t (y 1)) = ((cfg0.win 6).blk t).view.emb y := by blk_ext [e, row, place]
  refine Eq.trans ?_ (congrArg (resOutT (x.pad 2176)) hy)
  blk_simp
  rw [after0_6]
  exact (tile_outT given t y).trans (congrArg₂ (fun a b => ((x.pad 2176).out (row t (y 1)) a b : EReal))
    (head_place t (y 0)).symm (lane_place t (y 0)).symm)

theorem final_col : (dats m 0 c).arrAt 7 cfg0.N = resCol (x.pad 2176) := by
  refine (dats m 0 c).arrAt_eq_of_covers 7 _ (by decide +kernel) fun t hf y => ?_
  obtain ⟨-, -, -, -, -, -, -, e, -⟩ := idx t
  have hy : ix3 (head t (y 0)) (row t (y 1)) (0 : Fin 1) = ((cfg0.win 7).blk t).view.emb y := by blk_ext [e, row, head]
  refine Eq.trans ?_ (congrArg (resCol (x.pad 2176)) hy)
  blk_simp
  rw [after0_7]
  exact tile_col given t y

theorem final_row : (dats m 0 c).arrAt 8 cfg0.N = resRow (x.pad 2176) := by
  refine (dats m 0 c).arrAt_eq_of_covers 8 _ (by decide +kernel) fun t hf y => ?_
  obtain ⟨-, -, -, -, -, -, -, -, e⟩ := idx t
  have hy : ix3 (head t (y 0)) (0 : Fin 1) (row t (y 2)) = ((cfg0.win 8).blk t).view.emb y := by blk_ext [e, row, head]
  refine Eq.trans ?_ (congrArg (resRow (x.pad 2176)) hy)
  blk_simp
  rw [after0_8]
  exact tile_row given t y

end Cert.KernelAttnFwdIdeal.Final
end
-- ==== Proof.AttnFwd.Reference.lean ====
module

public import proofs.«01_k».proof.Proof.Gen.ReferenceAttnFwdIdeal.Read
public import proofs.«01_k».proof.Proof.Attention.Softmax
public import proofs.«01_k».proof.Proof.AttnFwd.Arrays

@[expose] public section

set_option maxRecDepth 16384

noncomputable section

open Idealize.ShloMosaic Idealize.ShloMosaic.TcCoe Idealize.SL.Sem
open Idealize.ShloMosaic.Pipeline (Dat)
open scoped BigOperators

namespace Cert.ReferenceAttnFwdIdeal.Final

open Cert.ReferenceAttnFwdIdeal Cert.ReferenceAttnFwdIdeal.Gen Cert.ReferenceAttnFwdIdeal.Read Cert.Attention

/-! The softmax of the reference, as the host computes it: scores `s`, their greatest `a` along each row, taken once more
against minus infinity, the exponentials and their sums. -/

def bottom : FVec Ideal S_ .f32 := constant S_ .f32 0xFF800000#32

def rowMax (s : FVec Ideal S8x2176x2176 .f32) : FVec Ideal S8x2176 .f32 :=
  Host.reduce FloatOps.maximumf s bottom reducesTo_S8x2176x2176_S8x2176_d2 h_S_

def exps (s : FVec Ideal S8x2176x2176 .f32) (a : FVec Ideal S8x2176 .f32) : FVec Ideal S8x2176x2176 .f32 :=
  Host.exp (subf s (broadcastInDim S8x2176x2176 ![0, 1, 2] bcast_S8x2176x1_S8x2176x2176_0_1_2
    (broadcastInDim S8x2176x1 ![0, 1] bcast_S8x2176_S8x2176x1_0_1 (maximumf (broadcastInDim S8x2176 ![] bcast_S_S8x2176 bottom) a))))

def rowSum (e : FVec Ideal S8x2176x2176 .f32) : FVec Ideal S8x2176 .f32 :=
  Host.reduceAdd e (constant S_ .f32 0x00000000#32) reducesTo_S8x2176x2176_S8x2176_d2 h_S_

section
variable (s : FVec Ideal S8x2176x2176 .f32) (a : FVec Ideal S8x2176 .f32) (h : Fin 8) (i j : Fin 2176)

theorem rowMax_apply : rowMax s (ix2 h i) = Finset.univ.fold max ⊥ fun j => s (ix3 h i j) := by
  pointwise [rowMax, bottom]
  rw [bot_word]

theorem exps_apply : exps s a (ix3 h i j) = Ideal.exp (s (ix3 h i j) - max ⊥ (a (ix2 h i))) := by
  pointwise [exps, bottom]
  rw [bot_word]

theorem rowSum_apply : rowSum s (ix2 h i) = ∑ j, s (ix3 h i j) := by
  pointwise [rowSum]

end

theorem padded_rows {x : Inputs 2176} (s : FVec Ideal S8x2176x2176 .f32) (given : ∀ h i, x.Masked h i fun j => s (ix3 h i j)) :
    Rows x (fun h i j => exps s (rowMax s) (ix3 h i j)) (fun h i => rowSum (exps s (rowMax s)) (ix2 h i)) :=
  rows_of_masked (f := fun h i j => s (ix3 h i j)) given
    (fun h i j => by rw [exps_apply, rowMax_apply]) (fun h i => rowSum_apply _ h i)

/-! What the reference computes. -/

variable {q k v : FVec Ideal Heads .f32} {cum : FVec Ideal Decays .f32} {ct : FVec Ideal Heads .f32} {x : Inputs 2064}
  (given : Holds q k v cum ct x)
include given

theorem pad_q (i : Fin 2176) (h : Fin 8) (e : Fin 128) : val_main_v0 (F := Ideal) q (ix3 i h e) = ((x.pad 2176).q i h e : EReal) := by
  pointwise [val_main_v0, val_main_call0_v0, val_main_c]
  unfold Inputs.pad padRow; dsimp only
  split
  · exact given.q _ _ _
  · exact sitofp_zero

theorem pad_k (i : Fin 2176) (h : Fin 8) (e : Fin 128) : val_main_v1 (F := Ideal) k (ix3 i h e) = ((x.pad 2176).k i h e : EReal) := by
  pointwise [val_main_v1, val_main_call1_v0, val_main_c_0]
  unfold Inputs.pad padRow; dsimp only
  split
  · exact given.k _ _ _
  · exact sitofp_zero

theorem pad_v (i : Fin 2176) (h : Fin 8) (e : Fin 128) : val_main_v2 (F := Ideal) v (ix3 i h e) = ((x.pad 2176).v i h e : EReal) := by
  pointwise [val_main_v2, val_main_call2_v0, val_main_c_1]
  unfold Inputs.pad padRow; dsimp only
  split
  · exact given.v _ _ _
  · exact sitofp_zero

theorem pad_cum (h : Fin 8) (i : Fin 2176) : val_main_v3 (F := Ideal) cum (ix2 h i) = ((x.pad 2176).cum h i : EReal) := by
  pointwise [val_main_v3, val_main_call3_v0, val_main_c_2]
  unfold Inputs.pad; dsimp only
  split
  · exact given.cum _ _
  · exact sitofp_zero

theorem scores (h : Fin 8) : ∀ i, (x.pad 2176).Masked h i fun j => val_main_v19 (F := Ideal) q k cum (ix3 h i j) := by
  intro i j
  pointwise [val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_3, val_main_call4_v0, val_main_call4_v1, val_main_call4_v2]
  simp only [pad_q given, pad_k given, pad_cum given, scale_word, bot_word, ← EReal.coe_mul, ← EReal.coe_sub, ← EReal.coe_add, ← Reals.coe_sum]
  word_cmp
  rfl

theorem rows : Rows (x.pad 2176) (fun h i j => val_main_v26 (F := Ideal) q k cum (ix3 h i j)) (fun h i => val_main_v27 (F := Ideal) q k cum (ix2 h i)) :=
  padded_rows (val_main_v19 (F := Ideal) q k cum) (scores given)

theorem outs (i : Fin 2176) (h : Fin 8) (e : Fin 128) : val_main_v32 (F := Ideal) q k v cum (ix3 i h e) = ((x.pad 2176).out i h e : EReal) := by
  pointwise [val_main_v32, val_main_v31, val_main_v30, val_main_v29, val_main_v28]
  rw [Inputs.out, Reals.coe_sum]
  refine Finset.sum_congr rfl fun j _ => ?_
  rw [pad_v given, EReal.coe_mul, mul_comm]
  exact congrArg (· * _) ((rows given).prob h i j)

theorem logs (h : Fin 8) (i : Fin 2176) : val_main_v37 (F := Ideal) q k cum (ix2 h i) = ((x.pad 2176).logTotal h i : EReal) := by
  pointwise [val_main_v37, val_main_v36, val_main_v35, val_main_cst_7]
  have e : ∑ j, Ideal.exp (val_main_v19 (F := Ideal) q k cum (ix3 h i j)) = ((x.pad 2176).total h i : EReal) := by
    rw [Inputs.total, Reals.coe_sum]
    refine Finset.sum_congr rfl fun j _ => ?_
    rw [show val_main_v19 (F := Ideal) q k cum (ix3 h i j) = _ from scores given h i j, Inputs.weight]
    split
    · rw [Ideal.exp_coe]
    · rw [Ideal.exp_bot]; rfl
  have t := (x.pad 2176).total_pos h i
  rw [e, Ideal.log_coe, if_neg (by linarith)]; rfl

theorem ref_out : val_main_v34 (F := Ideal) q k v cum = resOut (x.pad 2176) := by
  funext y
  obtain ⟨a, b, rfl⟩ : ∃ a b, y = ix2 a b := ⟨y 0, y 1, eq_ix2 y⟩
  pointwise [val_main_v34, val_main_v33]
  exact outs given _ _ _

theorem ref_outT : val_main_v38 (F := Ideal) q k v cum = resOutT (x.pad 2176) := by
  funext y
  obtain ⟨a, b, rfl⟩ : ∃ a b, y = ix2 a b := ⟨y 0, y 1, eq_ix2 y⟩
  pointwise [val_main_v38]
  rw [ref_out given]; rfl

theorem ref_col : val_main_v39 (F := Ideal) q k cum = resCol (x.pad 2176) := by
  funext y
  obtain ⟨a, b, d, rfl⟩ : ∃ a b d, y = ix3 a b d := ⟨y 0, y 1, y 2, eq_ix3 y⟩
  pointwise [val_main_v39]
  exact logs given _ _

theorem ref_row : val_main_v40 (F := Ideal) q k cum = resRow (x.pad 2176) := by
  funext y
  obtain ⟨a, b, d, rfl⟩ : ∃ a b d, y = ix3 a b d := ⟨y 0, y 1, y 2, eq_ix3 y⟩
  pointwise [val_main_v40]
  exact logs given _ _

end Cert.ReferenceAttnFwdIdeal.Final
end
-- ==== Proof.AttnFwd.Finite.lean ====
module

public import proofs.«01_k».proof.Proof.Attention.Finite
public import proofs.«01_k».proof.Pre_attn_fwd_finite
public import proofs.«01_k».proof.Proof.Reals
public import proofs.«01_k».proof.Proof.Finite

@[expose] public section

set_option maxRecDepth 16384

noncomputable section

open Idealize.ShloMosaic Idealize.ShloMosaic.TcCoe Idealize.SL.Sem
open Idealize.ShloMosaic.Pipeline (Dat)
open scoped BigOperators

namespace Cert.Attention

/-! Arguments that satisfy the precondition of the forward call are arrays of real numbers. The forward call has no
cotangent: the queries stand in its place where the reals of the gradients are used. -/

/-- What the printed precondition needs of its shapes. -/
instance fwdFacts : Cert.Pre_attn_fwd_finite.Facts := ⟨by decide, by decide, by decide, by decide, by decide⟩

open Cert.Pre_attn_fwd_finite in
theorem holds_of_fwd_finite (q k v : FVec Ideal Heads .f32) (cum : FVec Ideal Decays .f32)
    (h : fn (F := Ideal) q k v cum = fun _ => 1#1) : ∃ x, Holds q k v cum q x := by
  have e := congrFun h ix0
  simp only [fn, fn_part1] at e
  obtain ⟨e, ec⟩ := IntOp.andi_eq_one.1 e
  obtain ⟨e, ev⟩ := IntOp.andi_eq_one.1 e
  obtain ⟨eq, ek⟩ := IntOp.andi_eq_one.1 e
  have rq : ∀ i h e, q (ix3 i h e) = (EReal.toReal (q (ix3 i h e)) : EReal) :=
    fun i h e => Cert.Reals.real_of_abs_lt q _ (fun _ => Cert.Reals.inf_word) _ (Host.reduce_andi_all _ _ _ _ _ eq _)
  refine ⟨⟨fun i h e => (q (ix3 i h e) : EReal).toReal, fun i h e => (k (ix3 i h e) : EReal).toReal,
    fun i h e => (v (ix3 i h e) : EReal).toReal, fun h i => (cum (ix2 h i) : EReal).toReal,
    fun i h e => (q (ix3 i h e) : EReal).toReal⟩, rq, ?_, ?_, ?_, rq⟩
  · exact fun i h e => Cert.Reals.real_of_abs_lt k _ (fun _ => Cert.Reals.inf_word) _ (Host.reduce_andi_all _ _ _ _ _ ek _)
  · exact fun i h e => Cert.Reals.real_of_abs_lt v _ (fun _ => Cert.Reals.inf_word) _ (Host.reduce_andi_all _ _ _ _ _ ev _)
  · exact fun h i => Cert.Reals.real_of_abs_lt cum _ (fun _ => Cert.Reals.inf_word) _ (Host.reduce_andi_all _ _ _ _ _ ec _)

end Cert.Attention
end
-- ==== Proof.AttnFwd.Claims.lean ====
module

public import proofs.«01_k».proof.Defs
public import proofs.«01_k».proof.Proof.AttnFwd.Reference
public import proofs.«01_k».proof.Proof.AttnFwd.Finite
public import proofs.«01_k».proof.Proof.Gen.ReferenceAttnFwdIdeal.Run
public import proofs.«01_k».proof.Proof.Gen.KernelAttnFwdIdeal.Frame

@[expose] public section

set_option maxRecDepth 16384

noncomputable section

open Idealize.ShloMosaic Idealize.ShloMosaic.TcCoe Idealize.SL.Sem
open Idealize.ShloMosaic.Pipeline (Dat)
open scoped BigOperators

namespace Cert.Proof.AttnFwd

open Cert.KernelAttnFwdIdeal.Final Cert.Attention

theorem frame_kernel_finite : Cert.quiescent_KernelAttnFwdIdeal_pre_attn_fwd_finite :=
  fun m g _ => Cert.KernelAttnFwdIdeal.Gen.frame m g

theorem frame_reference : Cert.quiescent_ReferenceAttnFwdIdeal := by
  intro m g _
  exact (θ_run _ _ _).mono (fun r h => ⟨fun c => (h c).2.2.2.2, sem_eq_zero_of_no_sems (by decide) r.2⟩)
    (Cert.ReferenceAttnFwdIdeal.Value.run m g)

theorem frame_reference_finite : Cert.quiescent_ReferenceAttnFwdIdeal_pre_attn_fwd_finite :=
  fun m g _ => frame_reference m g trivial

theorem preserves : Cert.preserves_KernelAttnFwd_KernelAttnFwdIdeal := IdealRules.named_const.statement _ _ _ _ _ rfl

theorem equal : Cert.algebraic_KernelAttnFwdIdeal_ReferenceAttnFwdIdeal_pre_attn_fwd_finite := by
  intro m g m' g' finite hag
  choose x given using fun c => holds_of_fwd_finite _ _ _ _ (finite c)
  refine ⟨fun c => resOut ((x c).pad 2176), fun c => resOutT ((x c).pad 2176), fun c => resCol ((x c).pad 2176),
    fun c => resRow ((x c).pad 2176), ?_, ?_⟩
  · refine (θ_run _ _ _).mono (fun r h c => ?_) (Cert.KernelAttnFwdIdeal.Value.run_blocks m g)
    exact ⟨(h c).1.trans (final_out (given c)), (h c).2.1.trans (final_outT (given c)), (h c).2.2.1.trans (final_col (given c)),
      (h c).2.2.2.1.trans (final_row (given c)), (h c).2.2.2.2⟩
  · refine (θ_run _ _ _).mono (fun r h c => ?_) (Cert.ReferenceAttnFwdIdeal.Value.run m' g')
    have e := h c
    obtain ⟨a0, a1, a2, a3⟩ := hag c
    have given' := given c
    rw [← a0, ← a1, ← a2, ← a3] at given'
    exact ⟨e.1.trans (Cert.ReferenceAttnFwdIdeal.Final.ref_out given'), e.2.1.trans (Cert.ReferenceAttnFwdIdeal.Final.ref_outT given'),
      e.2.2.1.trans (Cert.ReferenceAttnFwdIdeal.Final.ref_col given'), e.2.2.2.1.trans (Cert.ReferenceAttnFwdIdeal.Final.ref_row given'),
      e.2.2.2.2⟩

end Cert.Proof.AttnFwd
end
-- ==== Proof.RmsFwd.Math.lean ====
module

public import proofs.«01_k».proof.Proof.Norm.Math

@[expose] public section

set_option maxRecDepth 16384

noncomputable section

open Idealize.ShloMosaic Idealize.ShloMosaic.TcCoe Idealize.SL.Sem
open Idealize.ShloMosaic.Pipeline (Dat)
open scoped BigOperators

namespace Cert.Norm

/-! The root-mean-square norm of one row, any numbers or infinities in it. -/

variable {n : ℕ} (N : EReal) (x g : Fin n → EReal)

/-- The reciprocal of the root mean square of a row of length `N`. -/
def root : EReal := Ideal.rsqrt (Ideal.div (∑ j, x j * x j) N + (eps : EReal))
/-- The row, normed and multiplied by the gain. -/
def normed (j : Fin n) : EReal := x j * root N x * g j

theorem normed_zero (j : Fin n) : normed N (fun _ => 0) g j = 0 := by unfold normed; rw [zero_mul, zero_mul]

end Cert.Norm
end
-- ==== Proof.RmsFwd.Arrays.lean ====
module

public import proofs.«01_k».proof.Proof.RmsFwd.Math
public import proofs.«01_k».proof.Proof.Gen.KernelRmsFwdIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.KernelRmsFwdIdeal.Final

open Cert.KernelRmsFwdIdeal Cert.KernelRmsFwdIdeal.Gen Cert.Norm

variable (m : (ℓ : Loc nD τ sig) → Buf (Elt Ideal) ℓ) (c : Dev nD)

/-- The rows and the gain as a device holds them. -/
abbrev argH : FVec Ideal S2064x2048 .f32 := m ((c.tc : Thread nD τ).loc main_arg0)
abbrev argG : FVec Ideal S1x2048 .f32 := m ((c.tc : Thread nD τ).loc main_arg1)

/-- The rows continued by rows of zeros, and the gain as one row. -/
def past (h : FVec Ideal S2064x2048 .f32) (i : Fin 2176) (j : Fin 2048) : EReal := if p : i.val < 2064 then h (ix2 ⟨i.val, p⟩ j) else 0
def gain (g : FVec Ideal S1x2048 .f32) (j : Fin 2048) : EReal := g (ix2 0 j)
/-- The reciprocal root mean square of a row, and the row normed. -/
def rootAt (h : FVec Ideal S2064x2048 .f32) (i : Fin 2176) : EReal := root ((2048 : ℝ) : EReal) (past h i)
def normAt (h : FVec Ideal S2064x2048 .f32) (g : FVec Ideal S1x2048 .f32) (i : Fin 2176) (j : Fin 2048) : EReal :=
  normed ((2048 : ℝ) : EReal) (past h i) (gain g) j

/-- The three results: the normed rows, their transpose, the reciprocal roots. -/
def resN (h : FVec Ideal S2064x2048 .f32) (g : FVec Ideal S1x2048 .f32) : FVec Ideal S2176x2048 .bf16 := fun y => normAt h g (y 0) (y 1)
def resT (h : FVec Ideal S2064x2048 .f32) (g : FVec Ideal S1x2048 .f32) : FVec Ideal S2048x2176 .bf16 := fun y => normAt h g (y 1) (y 0)
def resR (h : FVec Ideal S2064x2048 .f32) : FVec Ideal S2176x1 .f32 := fun y => rootAt h (y 0)

theorem idx : ∀ t : Fin cfg0.N, win0_0.index t = ![t.val, 0] ∧ win0_1.index t = ![0, 0] ∧ win0_2.index t = ![t.val, 0]
    ∧ win0_3.index t = ![0, t.val] ∧ win0_4.index t = ![t.val, 0] :=
  (by decide +kernel : ∀ t : Fin grid0.N, _)

/-- The rows of the tile that a grid point reads. -/
def row (t : Fin cfg0.N) (r : Fin 128) : Fin 2176 := ⟨t.val * 128 + r.val, by have := t.isLt.trans_eq N_0; omega⟩

variable {m c}

theorem host_rows (i : Fin 2176) (j : Fin 2048) : V m c main_v1 (ix2 i j) = past (argH m c) i j := by
  entry_read
  pointwise []
  rfl

variable (t : Fin cfg0.N)

theorem read_rows (r : Fin 128) (j : Fin 2048) : iblk m c 0 t (ix2 r j) = past (argH m c) (row t r) j := by
  refine Eq.trans ?_ (host_rows (row t r) j)
  obtain ⟨e, -⟩ := idx t
  blk_ext [iblk, e, row]

theorem read_gain (b : Fin 1) (j : Fin 2048) : iblk m c 1 t (ix2 b j) = gain (argG m c) j := by
  obtain rfl : b = 0 := Subsingleton.elim _ _
  refine Eq.trans ?_ (rfl : argG m c (ix2 0 j) = gain (argG m c) j)
  obtain ⟨-, e, -⟩ := idx t
  blk_ext [iblk, e]

theorem tile_norm (r : Fin 128) (j : Fin 2048) : (outsAt0 m c t).1 (ix2 r j) = normAt (argH m c) (argG m c) (row t r) j := by
  unfold outsAt0 normAt normed root
  frame_out
  (open_payloads; pointwise)
  simp only [read_rows, read_gain, Reals.n2048, eps_word]

theorem tile_normT (j : Fin 2048) (r : Fin 128) : (outsAt0 m c t).2.1 (ix2 j r) = normAt (argH m c) (argG m c) (row t r) j := by
  unfold outsAt0 normAt normed root
  frame_out
  (open_payloads; pointwise)
  simp only [read_rows, read_gain, Reals.n2048, eps_word]

theorem tile_root (r : Fin 128) (b : Fin 1) : (outsAt0 m c t).2.2 (ix2 r b) = rootAt (argH m c) (row t r) := by
  unfold outsAt0 rootAt root
  frame_out
  (open_payloads; pointwise)
  simp only [read_rows, Reals.n2048, eps_word]

theorem final_norm : (dats m 0 c).arrAt 2 cfg0.N = resN (argH m c) (argG m c) := by
  refine (dats m 0 c).arrAt_eq_of_covers 2 _ (by decide +kernel) fun t hf y => ?_
  obtain ⟨-, -, e, -⟩ := idx t
  have hy : ix2 (row t (y 0)) (y 1) = ((cfg0.win 2).blk t).view.emb y := by blk_ext [e, row]
  refine Eq.trans ?_ (congrArg (resN (argH m c) (argG m c)) hy)
  blk_simp
  rw [after0_2]
  exact (congrArg _ (eq_ix2 y)).trans (tile_norm t (y 0) (y 1))

theorem final_normT : (dats m 0 c).arrAt 3 cfg0.N = resT (argH m c) (argG m c) := by
  refine (dats m 0 c).arrAt_eq_of_covers 3 _ (by decide +kernel) fun t hf y => ?_
  obtain ⟨-, -, -, e, -⟩ := idx t
  have hy : ix2 (y 0) (row t (y 1)) = ((cfg0.win 3).blk t).view.emb y := by blk_ext [e, row]
  refine Eq.trans ?_ (congrArg (resT (argH m c) (argG m c)) hy)
  blk_simp
  rw [after0_3]
  exact (congrArg _ (eq_ix2 y)).trans (tile_normT t (y 0) (y 1))

theorem final_root : (dats m 0 c).arrAt 4 cfg0.N = resR (argH m c) := by
  refine (dats m 0 c).arrAt_eq_of_covers 4 _ (by decide +kernel) fun t hf y => ?_
  obtain ⟨-, -, -, -, e⟩ := idx t
  have hy : ix2 (row t (y 0)) (0 : Fin 1) = ((cfg0.win 4).blk t).view.emb y := by blk_ext [e, row]
  refine Eq.trans ?_ (congrArg (resR (argH m c)) hy)
  blk_simp
  rw [after0_4]
  exact (congrArg _ (eq_ix2 y)).trans (tile_root t (y 0) (y 1))

end Cert.KernelRmsFwdIdeal.Final
end
-- ==== Proof.RmsFwd.Reference.lean ====
module

public import proofs.«01_k».proof.Proof.Gen.ReferenceRmsFwdIdeal.Read
public import proofs.«01_k».proof.Proof.RmsFwd.Arrays

@[expose] public section

set_option maxRecDepth 16384

noncomputable section

open Idealize.ShloMosaic Idealize.ShloMosaic.TcCoe Idealize.SL.Sem
open Idealize.ShloMosaic.Pipeline (Dat)
open scoped BigOperators

namespace Cert.ReferenceRmsFwdIdeal.Final

open Cert.ReferenceRmsFwdIdeal Cert.ReferenceRmsFwdIdeal.Value Cert.ReferenceRmsFwdIdeal.Read Cert.Norm Cert.KernelRmsFwdIdeal.Final

variable (h : FVec Ideal S2064x2048 .f32) (g : FVec Ideal S1x2048 .f32)

theorem rows (i : Fin 2176) (j : Fin 2048) : val_main_v0 (F := Ideal) h (ix2 i j) = past h i j := by
  pointwise [val_main_v0, val_main_call0_v0, val_main_c]
  unfold past
  split
  · rfl
  · exact Reals.sitofp_zero

theorem roots (i : Fin 2176) (b : Fin 1) : val_main_v9 (F := Ideal) h (ix2 i b) = rootAt h i := by
  pointwise [val_main_v9, val_main_v8, val_main_v7, val_main_v6, val_main_v5, val_main_v4, val_main_v3, val_main_v2, val_main_cst, val_main_cst_0, val_main_cst_1]
  simp only [rows, Reals.n2048, eps_word]
  rfl

theorem gains (i : Fin 2176) (j : Fin 2048) : val_main_v13 (F := Ideal) g (ix2 i j) = gain g j := by
  pointwise [val_main_v13, val_main_v12, val_main_v1]
  rfl

theorem normeds (i : Fin 2176) (j : Fin 2048) : val_main_v15 (F := Ideal) h g (ix2 i j) = normAt h g i j := by
  pointwise [val_main_v15, val_main_v14, val_main_v11, val_main_v10]
  rw [rows, roots, gains]
  rfl

theorem ref_norm : val_main_v15 (F := Ideal) h g = resN h g := by
  funext y
  obtain ⟨a, b, rfl⟩ : ∃ a b, y = ix2 a b := ⟨y 0, y 1, eq_ix2 y⟩
  exact normeds h g a b

theorem ref_normT : val_main_v16 (F := Ideal) h g = resT h g := by
  funext y
  obtain ⟨a, b, rfl⟩ : ∃ a b, y = ix2 a b := ⟨y 0, y 1, eq_ix2 y⟩
  refine Eq.trans ?_ (normeds h g b a)
  pointwise [val_main_v16]

theorem ref_root : val_main_v24 (F := Ideal) h = resR h := by
  funext y
  obtain ⟨a, b, rfl⟩ : ∃ a b, y = ix2 a b := ⟨y 0, y 1, eq_ix2 y⟩
  refine Eq.trans ?_ (roots h a b)
  rfl

end Cert.ReferenceRmsFwdIdeal.Final
end
-- ==== Proof.RmsFwd.Claims.lean ====
module

public import proofs.«01_k».proof.Defs
public import proofs.«01_k».proof.Proof.RmsFwd.Reference
public import proofs.«01_k».proof.Proof.Gen.ReferenceRmsFwdIdeal.Run
public import proofs.«01_k».proof.Proof.Gen.KernelRmsFwdIdeal.Frame

@[expose] public section

set_option maxRecDepth 16384

noncomputable section

open Idealize.ShloMosaic Idealize.ShloMosaic.TcCoe Idealize.SL.Sem
open Idealize.ShloMosaic.Pipeline (Dat)
open scoped BigOperators

namespace Cert.Proof.RmsFwd

open Cert.KernelRmsFwdIdeal.Final

theorem frame_reference : Cert.quiescent_ReferenceRmsFwdIdeal := by
  intro m g _
  exact (θ_run _ _ _).mono (fun r h => ⟨fun c => (h c).2.2.2, sem_eq_zero_of_no_sems (by decide) r.2⟩)
    (Cert.ReferenceRmsFwdIdeal.Value.run m g)

theorem equal : Cert.algebraic_KernelRmsFwdIdeal_ReferenceRmsFwdIdeal := by
  intro m g m' g' _ hag
  refine ⟨fun c => resN (argH m c) (argG m c), fun c => resT (argH m c) (argG m c), fun c => resR (argH m c), ?_, ?_⟩
  · refine (θ_run _ _ _).mono (fun r h c => ?_) (Cert.KernelRmsFwdIdeal.Value.run_blocks m g)
    exact ⟨(h c).1.trans final_norm, (h c).2.1.trans final_normT, (h c).2.2.1.trans final_root, (h c).2.2.2⟩
  · refine (θ_run _ _ _).mono (fun r h c => ?_) (Cert.ReferenceRmsFwdIdeal.Value.run m' g')
    have e := h c
    obtain ⟨a0, a1⟩ := hag c
    exact ⟨e.1.trans ((Cert.ReferenceRmsFwdIdeal.Final.ref_norm _ _).trans (congrArg₂ resN a0 a1)),
      e.2.1.trans ((Cert.ReferenceRmsFwdIdeal.Final.ref_normT _ _).trans (congrArg₂ resT a0 a1)),
      e.2.2.1.trans ((Cert.ReferenceRmsFwdIdeal.Final.ref_root _).trans (congrArg resR a0)), e.2.2.2⟩

end Cert.Proof.RmsFwd
end
-- ==== Proof.Prep.Arrays.lean ====
module

public import proofs.«01_k».proof.Proof.RmsFwd.Math
public import proofs.«01_k».proof.Proof.Gen.KernelPrepIdeal.Value
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.KernelPrepIdeal.Final

open Cert.KernelPrepIdeal Cert.KernelPrepIdeal.Gen Cert.Norm

variable (m : (ℓ : Loc nD τ sig) → Buf (Elt Ideal) ℓ) (c : Dev nD)

/-- The projected rows and the two gains as a device holds them. -/
abbrev argZ : FVec Ideal S2064x4104 .f32 := m ((c.tc : Thread nD τ).loc main_arg0)
abbrev argGq : FVec Ideal S1x128 .f32 := m ((c.tc : Thread nD τ).loc main_arg1)
abbrev argGk : FVec Ideal S1x128 .f32 := m ((c.tc : Thread nD τ).loc main_arg2)

/-- One head of the branch that begins at column `b`, its rows continued by rows of zeros. -/
def part (b : ℕ) (hb : b ≤ 3072) (z : FVec Ideal S2064x4104 .f32) (i : Fin 2176) (h : Fin 8) (e : Fin 128) : EReal :=
  if p : i.val < 2064 then z (ix2 ⟨i.val, p⟩ ⟨b + (h.val * 128 + e.val), by omega⟩) else 0
def gain (g : FVec Ideal S1x128 .f32) (e : Fin 128) : EReal := g (ix2 0 e)
/-- One row of one head, normed. -/
def normAt (b : ℕ) (hb : b ≤ 3072) (z : FVec Ideal S2064x4104 .f32) (g : FVec Ideal S1x128 .f32) (i : Fin 2176) (h : Fin 8) (e : Fin 128) : EReal :=
  normed ((128 : ℝ) : EReal) (part b hb z i h) (gain g) e

/-- The head that a column belongs to, and its place in the head. -/
def headOf (y : Fin 1024) : Fin 8 := ⟨y.val / 128, by omega⟩
def laneOf (y : Fin 1024) : Fin 128 := ⟨y.val % 128, by omega⟩

/-- The results, heads side by side: a normed branch, and the branch that is only copied. -/
def resN (b : ℕ) (hb : b ≤ 3072) (z : FVec Ideal S2064x4104 .f32) (g : FVec Ideal S1x128 .f32) : FVec Ideal S2176x1024 .bf16 :=
  fun y => normAt b hb z g (y 0) (headOf (y 1)) (laneOf (y 1))
def resV (z : FVec Ideal S2064x4104 .f32) : FVec Ideal S2176x1024 .bf16 :=
  fun y => part 3072 (by norm_num) z (y 0) (headOf (y 1)) (laneOf (y 1))

theorem idx : ∀ t : Fin cfg0.N, win0_0.index t = ![0, 8 + t.val] ∧ win0_1.index t = ![0, 16 + t.val] ∧ win0_2.index t = ![0, 24 + t.val]
    ∧ win0_3.index t = ![0, 0] ∧ win0_4.index t = ![0, 0] ∧ win0_5.index t = ![0, t.val] ∧ win0_6.index t = ![0, t.val] ∧ win0_7.index t = ![0, t.val] :=
  (by decide +kernel : ∀ t : Fin grid0.N, _)

/-- The head of a grid point, and the columns it writes. -/
def head (t : Fin cfg0.N) : Fin 8 := ⟨t.val, t.isLt.trans_eq N_0⟩
def col (t : Fin cfg0.N) (e : Fin 128) : Fin 1024 := ⟨t.val * 128 + e.val, by have := t.isLt.trans_eq N_0; omega⟩

theorem head_col (t : Fin cfg0.N) (e : Fin 128) : headOf (col t e) = head t :=
  Fin.ext (show (t.val * 128 + e.val) / 128 = t.val by omega)
theorem lane_col (t : Fin cfg0.N) (e : Fin 128) : laneOf (col t e) = e :=
  Fin.ext (show (t.val * 128 + e.val) % 128 = e.val by omega)

/-- What a grid point leaves in the block of each result. -/
abbrev blockAt5 (t : Fin cfg0.N) := out0_5 (iblk m c 0 t) (iblk m c 1 t) (iblk m c 2 t) (iblk m c 3 t) (iblk m c 4 t)
abbrev blockAt6 (t : Fin cfg0.N) := out0_6 (iblk m c 0 t) (iblk m c 1 t) (iblk m c 2 t) (iblk m c 3 t) (iblk m c 4 t)
abbrev blockAt7 (t : Fin cfg0.N) := out0_7 (iblk m c 0 t) (iblk m c 1 t) (iblk m c 2 t) (iblk m c 3 t) (iblk m c 4 t)

variable {m c} (t : Fin cfg0.N)

theorem host_pad : V m c main_v0 = pad S2176x4224 ![0, 0] ![112, 120] ![0, 0] (argZ m c) (sitofp .f32 (constantI S_ 32 0#32)) pads_S2064x4104_S2176x4224_01120_01200 h_S_ := by
  unfold V; after_reads_simp; rfl

theorem host_q (i : Fin 2176) (h : Fin 8) (e : Fin 128) :
    V m c main_v0 (ix2 i ⟨1024 + (h.val * 128 + e.val), by omega⟩) = part 1024 (by norm_num) (argZ m c) i h e := by
  rw [host_pad]
  pointwise []
  unfold part
  by_cases p : i.val < 2064
  · rw [dif_pos p, dif_pos (by omega)]
  · rw [dif_neg p, dif_neg (by omega)]; exact Reals.sitofp_zero

theorem read_q (i : Fin 2176) (e : Fin 128) : iblk m c 0 t (ix2 i e) = part 1024 (by norm_num) (argZ m c) i (head t) e := by
  refine Eq.trans ?_ (host_q i (head t) e)
  obtain ⟨e, -⟩ := idx t
  blk_ext [iblk, e, head]

theorem read_gq (b : Fin 1) (e : Fin 128) : iblk m c 3 t (ix2 b e) = gain (argGq m c) e := by
  obtain rfl : b = 0 := Subsingleton.elim _ _
  refine Eq.trans ?_ (rfl : argGq m c (ix2 0 e) = gain (argGq m c) e)
  obtain ⟨-, -, -, e, -⟩ := idx t
  blk_ext [iblk, e]

theorem tile_q (i : Fin 2176) (e : Fin 128) : blockAt5 m c t (ix2 i e) = normAt 1024 (by norm_num) (argZ m c) (argGq m c) i (head t) e := by
  unfold blockAt5 out0_5 normAt normed root
  frame_out
  pointwise [k0_pay1]
  simp only [read_q, read_gq, n128, eps_word]

theorem host_k (i : Fin 2176) (h : Fin 8) (e : Fin 128) :
    V m c main_v0 (ix2 i ⟨2048 + (h.val * 128 + e.val), by omega⟩) = part 2048 (by norm_num) (argZ m c) i h e := by
  rw [host_pad]
  pointwise []
  unfold part
  by_cases p : i.val < 2064
  · rw [dif_pos p, dif_pos (by omega)]
  · rw [dif_neg p, dif_neg (by omega)]; exact Reals.sitofp_zero

theorem read_k (i : Fin 2176) (e : Fin 128) : iblk m c 1 t (ix2 i e) = part 2048 (by norm_num) (argZ m c) i (head t) e := by
  refine Eq.trans ?_ (host_k i (head t) e)
  obtain ⟨-, e, -⟩ := idx t
  blk_ext [iblk, e, head]

theorem read_gk (b : Fin 1) (e : Fin 128) : iblk m c 4 t (ix2 b e) = gain (argGk m c) e := by
  obtain rfl : b = 0 := Subsingleton.elim _ _
  refine Eq.trans ?_ (rfl : argGk m c (ix2 0 e) = gain (argGk m c) e)
  obtain ⟨-, -, -, -, e, -⟩ := idx t
  blk_ext [iblk, e]

theorem tile_k (i : Fin 2176) (e : Fin 128) : blockAt6 m c t (ix2 i e) = normAt 2048 (by norm_num) (argZ m c) (argGk m c) i (head t) e := by
  unfold blockAt6 out0_6 normAt normed root
  frame_out
  pointwise [k0_pay2]
  simp only [read_k, read_gk, n128, eps_word]

theorem host_v (i : Fin 2176) (h : Fin 8) (e : Fin 128) :
    V m c main_v0 (ix2 i ⟨3072 + (h.val * 128 + e.val), by omega⟩) = part 3072 (by norm_num) (argZ m c) i h e := by
  rw [host_pad]
  pointwise []
  unfold part
  by_cases p : i.val < 2064
  · rw [dif_pos p, dif_pos (by omega)]
  · rw [dif_neg p, dif_neg (by omega)]; exact Reals.sitofp_zero

theorem read_v (i : Fin 2176) (e : Fin 128) : iblk m c 2 t (ix2 i e) = part 3072 (by norm_num) (argZ m c) i (head t) e := by
  refine Eq.trans ?_ (host_v i (head t) e)
  obtain ⟨-, -, e, -⟩ := idx t
  blk_ext [iblk, e, head]

theorem tile_v (i : Fin 2176) (e : Fin 128) : blockAt7 m c t (ix2 i e) = part 3072 (by norm_num) (argZ m c) i (head t) e := by
  unfold blockAt7 out0_7
  frame_out
  pointwise [k0_pay3]
  exact read_v t i e

theorem final_q : (dats m 0 c).arrAt 5 cfg0.N = resN 1024 (by norm_num) (argZ m c) (argGq m c) := by
  refine (dats m 0 c).arrAt_eq_of_covers 5 _ (by decide +kernel) fun t hf y => ?_
  obtain ⟨-, -, -, -, -, e, -⟩ := idx t
  have hy : ix2 (y 0) (col t (y 1)) = ((cfg0.win 5).blk t).view.emb y := by blk_ext [e, col]
  refine Eq.trans ?_ (congrArg (resN 1024 (by norm_num) (argZ m c) (argGq m c)) hy)
  blk_simp
  rw [after0_5]
  exact ((congrArg _ (eq_ix2 y)).trans (tile_q t (y 0) (y 1))).trans
    (congrArg₂ (normAt 1024 (by norm_num) (argZ m c) (argGq m c) (y 0)) (head_col t (y 1)).symm (lane_col t (y 1)).symm)

theorem final_k : (dats m 0 c).arrAt 6 cfg0.N = resN 2048 (by norm_num) (argZ m c) (argGk m c) := by
  refine (dats m 0 c).arrAt_eq_of_covers 6 _ (by decide +kernel) fun t hf y => ?_
  obtain ⟨-, -, -, -, -, -, e, -⟩ := idx t
  have hy : ix2 (y 0) (col t (y 1)) = ((cfg0.win 6).blk t).view.emb y := by blk_ext [e, col]
  refine Eq.trans ?_ (congrArg (resN 2048 (by norm_num) (argZ m c) (argGk m c)) hy)
  blk_simp
  rw [after0_6]
  exact ((congrArg _ (eq_ix2 y)).trans (tile_k t (y 0) (y 1))).trans
    (congrArg₂ (normAt 2048 (by norm_num) (argZ m c) (argGk m c) (y 0)) (head_col t (y 1)).symm (lane_col t (y 1)).symm)

theorem final_v : (dats m 0 c).arrAt 7 cfg0.N = resV (argZ m c) := by
  refine (dats m 0 c).arrAt_eq_of_covers 7 _ (by decide +kernel) fun t hf y => ?_
  obtain ⟨-, -, -, -, -, -, -, e⟩ := idx t
  have hy : ix2 (y 0) (col t (y 1)) = ((cfg0.win 7).blk t).view.emb y := by blk_ext [e, col]
  refine Eq.trans ?_ (congrArg (resV (argZ m c)) hy)
  blk_simp
  rw [after0_7]
  exact ((congrArg _ (eq_ix2 y)).trans (tile_v t (y 0) (y 1))).trans
    (congrArg₂ (part 3072 (by norm_num) (argZ m c) (y 0)) (head_col t (y 1)).symm (lane_col t (y 1)).symm)

end Cert.KernelPrepIdeal.Final
end
-- ==== Proof.Prep.Reference.lean ====
module

public import proofs.«01_k».proof.Proof.Gen.ReferencePrepIdeal.Read
public import proofs.«01_k».proof.Proof.Prep.Arrays

@[expose] public section

set_option maxRecDepth 16384

noncomputable section

open Idealize.ShloMosaic Idealize.ShloMosaic.TcCoe Idealize.SL.Sem
open Idealize.ShloMosaic.Pipeline (Dat)
open scoped BigOperators

namespace Cert.ReferencePrepIdeal.Final

open Cert.ReferencePrepIdeal Cert.ReferencePrepIdeal.Value Cert.ReferencePrepIdeal.Read Cert.Norm Cert.KernelPrepIdeal.Final

variable (z : FVec Ideal S2064x4104 .f32) (g : FVec Ideal S1x128 .f32)

/-- One head of a branch, without the padding. -/
def branch (b : ℕ) (hb : b ≤ 3072) (i : Fin 2064) (h : Fin 8) (e : Fin 128) : EReal := z (ix2 i ⟨b + (h.val * 128 + e.val), by omega⟩)

theorem norm_in (b : ℕ) (hb : b ≤ 3072) {i : Fin 2176} (h : Fin 8) (e : Fin 128) (p : i.val < 2064) :
    normAt b hb z g i h e = normed ((128 : ℝ) : EReal) (branch z b hb ⟨i.val, p⟩ h) (gain g) e := by
  unfold normAt part; simp only [dif_pos p]; rfl

theorem norm_out (b : ℕ) (hb : b ≤ 3072) {i : Fin 2176} (h : Fin 8) (e : Fin 128) (p : ¬ i.val < 2064) : normAt b hb z g i h e = 0 := by
  unfold normAt part; simp only [dif_neg p]; exact normed_zero _ _ e

theorem x_q (i : Fin 2064) (h : Fin 8) (e : Fin 128) : val_main_v1 (F := Ideal) z (ix3 i h e) = branch z 1024 (by norm_num) i h e := by
  pointwise [val_main_v1, val_main_v0]
  rfl

theorem root_q (i : Fin 2064) (h : Fin 8) (b : Fin 1) : val_main_v10 (F := Ideal) z (ix3 i h b) = root ((128 : ℝ) : EReal) (branch z 1024 (by norm_num) i h) := by
  pointwise [val_main_v10, val_main_v9, val_main_v8, val_main_v7, val_main_v6, val_main_v5, val_main_v4, val_main_v3, val_main_cst, val_main_cst_0, val_main_cst_1]
  simp only [x_q, n128, eps_word]
  rfl

theorem normed_q (i : Fin 2064) (h : Fin 8) (e : Fin 128) :
    val_main_v15 (F := Ideal) z g (ix3 i h e) = normed ((128 : ℝ) : EReal) (branch z 1024 (by norm_num) i h) (gain g) e := by
  pointwise [val_main_v15, val_main_v14, val_main_v13, val_main_v12, val_main_v11, val_main_v2]
  rw [x_q, root_q]
  rfl

theorem ref_q_at (i : Fin 2176) (j : Fin 1024) : val_main_v33 (F := Ideal) z g (ix2 i j) = resN 1024 (by norm_num) z g (ix2 i j) := by
  show _ = normAt 1024 _ z g i (headOf j) (laneOf j)
  pointwise [val_main_v33, val_main_v32, val_main_call0_v0, val_main_c]
  by_cases p : i.val < 2064
  · rw [dif_pos (by omega), norm_in _ _ _ _ _ _ p]
    exact normed_q z g ⟨i.val, p⟩ (headOf j) (laneOf j)
  · rw [dif_neg (by omega), norm_out _ _ _ _ _ _ p]; exact Reals.sitofp_zero

theorem ref_q : val_main_v34 (F := Ideal) z g = resN 1024 (by norm_num) z g :=
  (funext fun _ => rfl : _ = val_main_v33 (F := Ideal) z g).trans (funext fun y => by rw [eq_ix2 y]; exact ref_q_at z g (y 0) (y 1))

theorem x_k (i : Fin 2064) (h : Fin 8) (e : Fin 128) : val_main_v17 (F := Ideal) z (ix3 i h e) = branch z 2048 (by norm_num) i h e := by
  pointwise [val_main_v17, val_main_v16]
  rfl

theorem root_k (i : Fin 2064) (h : Fin 8) (b : Fin 1) : val_main_v26 (F := Ideal) z (ix3 i h b) = root ((128 : ℝ) : EReal) (branch z 2048 (by norm_num) i h) := by
  pointwise [val_main_v26, val_main_v25, val_main_v24, val_main_v23, val_main_v22, val_main_v21, val_main_v20, val_main_v19, val_main_cst_2, val_main_cst_3, val_main_cst_4]
  simp only [x_k, n128, eps_word]
  rfl

theorem normed_k (i : Fin 2064) (h : Fin 8) (e : Fin 128) :
    val_main_v31 (F := Ideal) z g (ix3 i h e) = normed ((128 : ℝ) : EReal) (branch z 2048 (by norm_num) i h) (gain g) e := by
  pointwise [val_main_v31, val_main_v30, val_main_v29, val_main_v28, val_main_v27, val_main_v18]
  rw [x_k, root_k]
  rfl

theorem ref_k_at (i : Fin 2176) (j : Fin 1024) : val_main_v36 (F := Ideal) z g (ix2 i j) = resN 2048 (by norm_num) z g (ix2 i j) := by
  show _ = normAt 2048 _ z g i (headOf j) (laneOf j)
  pointwise [val_main_v36, val_main_v35, val_main_call1_v0, val_main_c_5]
  by_cases p : i.val < 2064
  · rw [dif_pos (by omega), norm_in _ _ _ _ _ _ p]
    exact normed_k z g ⟨i.val, p⟩ (headOf j) (laneOf j)
  · rw [dif_neg (by omega), norm_out _ _ _ _ _ _ p]; exact Reals.sitofp_zero

theorem ref_k : val_main_v37 (F := Ideal) z g = resN 2048 (by norm_num) z g :=
  (funext fun _ => rfl : _ = val_main_v36 (F := Ideal) z g).trans (funext fun y => by rw [eq_ix2 y]; exact ref_k_at z g (y 0) (y 1))

theorem ref_v_at (i : Fin 2176) (j : Fin 1024) : val_main_v39 (F := Ideal) z (ix2 i j) = resV z (ix2 i j) := by
  show _ = part 3072 _ z i (headOf j) (laneOf j)
  pointwise [val_main_v39, val_main_v38, val_main_call2_v0, val_main_c_6]
  unfold part
  by_cases p : i.val < 2064
  · rw [dif_pos (by omega), dif_pos p]
    refine congrArg (fun k => z (ix2 ⟨i.val, p⟩ k)) (Fin.ext ?_)
    show 3072 + j.val = 3072 + (j.val / 128 * 128 + j.val % 128)
    omega
  · rw [dif_neg (by omega), dif_neg p]; exact Reals.sitofp_zero

theorem ref_v : val_main_v40 (F := Ideal) z = resV z :=
  (funext fun _ => rfl : _ = val_main_v39 (F := Ideal) z).trans (funext fun y => by rw [eq_ix2 y]; exact ref_v_at z (y 0) (y 1))

end Cert.ReferencePrepIdeal.Final
end
-- ==== Proof.Prep.Claims.lean ====
module

public import proofs.«01_k».proof.Defs
public import proofs.«01_k».proof.Proof.Prep.Reference
public import proofs.«01_k».proof.Proof.Gen.ReferencePrepIdeal.Run
public import proofs.«01_k».proof.Proof.Gen.KernelPrepIdeal.Frame

@[expose] public section

set_option maxRecDepth 16384

noncomputable section

open Idealize.ShloMosaic Idealize.ShloMosaic.TcCoe Idealize.SL.Sem
open Idealize.ShloMosaic.Pipeline (Dat)
open scoped BigOperators

namespace Cert.Proof.Prep

open Cert.KernelPrepIdeal.Final

theorem frame_reference : Cert.quiescent_ReferencePrepIdeal := by
  intro m g _
  exact (θ_run _ _ _).mono (fun r h => ⟨fun c => (h c).2.2.2, sem_eq_zero_of_no_sems (by decide) r.2⟩)
    (Cert.ReferencePrepIdeal.Value.run m g)

theorem equal : Cert.algebraic_KernelPrepIdeal_ReferencePrepIdeal := by
  intro m g m' g' _ hag
  refine ⟨fun c => resN 1024 (by norm_num) (argZ m c) (argGq m c), fun c => resN 2048 (by norm_num) (argZ m c) (argGk m c), fun c => resV (argZ m c), ?_, ?_⟩
  · refine (θ_run _ _ _).mono (fun r h c => ?_) (Cert.KernelPrepIdeal.Value.run_blocks m g)
    exact ⟨(h c).1.trans final_q, (h c).2.1.trans final_k, (h c).2.2.1.trans final_v, (h c).2.2.2⟩
  · refine (θ_run _ _ _).mono (fun r h c => ?_) (Cert.ReferencePrepIdeal.Value.run m' g')
    have e := h c
    obtain ⟨a0, a1, a2⟩ := hag c
    exact ⟨e.1.trans ((Cert.ReferencePrepIdeal.Final.ref_q _ _).trans (congrArg₂ (resN 1024 (by norm_num)) a0 a1)),
      e.2.1.trans ((Cert.ReferencePrepIdeal.Final.ref_k _ _).trans (congrArg₂ (resN 2048 (by norm_num)) a0 a2)),
      e.2.2.1.trans ((Cert.ReferencePrepIdeal.Final.ref_v _).trans (congrArg resV a0)), e.2.2.2⟩

end Cert.Proof.Prep
end
-- ==== Proof.PoolFwd.Finite.lean ====
module

public import proofs.«01_k».proof.Proof.Pool.Finite
public import proofs.«01_k».proof.Pre_pool_fwd_finite
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open scoped BigOperators

namespace Cert.PoolFwd

/-! Rows that satisfy the precondition are arrays of real numbers. -/

open Cert.Pool

/-- What the printed precondition needs of its shapes. -/
instance facts : Cert.Pre_pool_fwd_finite.Facts := ⟨by decide, by decide, by decide⟩

open Cert.Pre_pool_fwd_finite in
theorem real_of (x : Inputs) (given : fn (F := Ideal) x.p x.w x.s = fun _ => 1#1) (l : Fin 1024) : ∃ d : ℕ → ℝ, x.row l = fun i => (d i : EReal) := by
  have e := congrFun given ix0
  simp only [fn] at e
  exact row_real (x := ⟨x.p, fun _ => 0, fun _ => 0, fun _ => 0⟩)
    ⟨fun i => ⟨_, Reals.real_of_abs_lt x.p _ (fun _ => Reals.inf_word) i (Host.reduce_andi_all _ _ _ _ _ e i)⟩,
      fun _ => ⟨0, rfl⟩, fun _ => ⟨0, rfl⟩, fun _ => ⟨0, rfl⟩⟩ l

end Cert.PoolFwd
end
-- ==== Proof.PoolFwd.Steps.lean ====
module

public import proofs.«01_k».proof.Proof.Pool.Steps
public import proofs.«01_k».proof.Proof.Gen.KernelPoolFwdIdeal.Value
public import Idealize.ShloMosaic.Lib.Pointwise
public import Idealize.ShloMosaic.Lib.Claim
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)
open scoped BigOperators

namespace Cert.KernelPoolFwdIdeal.Final

open Cert.KernelPoolFwdIdeal Cert.KernelPoolFwdIdeal.Gen Cert.Pool
open Cert.KernelForgetIdeal.Final (select_if)
open Cert.KernelPoolIdeal.Final (count_word pick)

/-! The sums over the windows that end with each row, from doublings of shorter ones. -/

/-- The rows' numbers, as the body holds them. -/
abbrev places : IVec S2176x1 32 := iota .tc S2176x1 32 [0] iota_S2176x1_d0_w32

/-- Each row plus the row `n` before it, where there is one. -/
def doubled (n : BitVec 32) (a : FVec Ideal S2176x256 .f32) : FVec Ideal S2176x256 .f32 :=
  addf a (select (broadcastTo S2176x256 (shapeCast S2176x1 (cmpi .sge places (broadcast S2176x1 n)) shapeCasts_S2176x1_S2176x1) broadcasts_S2176x1_S2176x256)
    (dynamicRotate 0 n none a rotates_S2176x256_d0) (broadcast S2176x256 (Scalar.ofBits .f32 0x00000000#32)))

theorem doubled_apply (a : FVec Ideal S2176x256 .f32) (w : ℕ) (k : w < 2176) (i : Fin 2176) (l : Fin 256) :
    doubled (BitVec.ofNat 32 w) a (ix2 i l) = a (ix2 i l) + if w ≤ i.val then a (ix2 ⟨i.val - w, by omega⟩ l) else 0 := by
  unfold doubled
  pointwise []
  have e := i.isLt
  rw [WordCmp.cmpi_sge_ofNat (by omega) (by omega), select_if]
  by_cases p : w ≤ i.val
  · rw [if_pos p, if_pos p]
    refine congrArg (fun r => (a (ix2 i l) : EReal) + a (ix2 r l)) (Fin.ext ?_)
    show (i.val + 2176 - (BitVec.ofNat 32 w).toNat % 2176) % 2176 = i.val - w
    rw [BitVec.toNat_ofNat]
    omega
  · rw [if_neg p, if_neg p]

/-- A doubling takes sums of `w` rows to sums of twice as many. -/
theorem doubled_back (d : Fin 256 → ℕ → EReal) (a : FVec Ideal S2176x256 .f32) (w : ℕ) (k : 0 < w ∧ w < 2176)
    (given : ∀ i l, a (ix2 i l) = back (d l) w i.val) (i : Fin 2176) (l : Fin 256) :
    doubled (BitVec.ofNat 32 w) a (ix2 i l) = back (d l) (w + w) i.val := by
  rw [doubled_apply a w k.2, back_double _ _ _ k.1, given]
  by_cases p : w ≤ i.val
  · rw [if_pos p, if_pos p, given]
  · rw [if_neg p, if_neg p]

/-- The sums kept at the end. -/
def kept (n : BitVec 32) (b : FVec Ideal S2176x256 .f32) : FVec Ideal S2176x256 .f32 :=
  pick n 3#32 (doubled 8#32 (doubled 4#32 (doubled 2#32 (doubled 1#32 b))))
    (pick n 2#32 (doubled 4#32 (doubled 2#32 (doubled 1#32 b))) (pick n 1#32 (doubled 2#32 (doubled 1#32 b))
      (pick n 0#32 (doubled 1#32 b) (broadcast S2176x256 (Scalar.ofBits .f32 0x00000000#32)))))

theorem kept_apply (d : Fin 256 → ℕ → EReal) (g : Fin 4) (b : FVec Ideal S2176x256 .f32) (given : ∀ i l, b (ix2 i l) = d l i.val) (i : Fin 2176) (l : Fin 256) :
    kept (BitVec.ofNat 32 g.val) b (ix2 i l) = back (d l) (window g) i.val := by
  have s1 := doubled_back d b 1 (by omega) fun i l => (given i l).trans (back_one _ _).symm
  have s2 := doubled_back d _ 2 (by omega) s1
  have s4 := doubled_back d _ 4 (by omega) s2
  have s8 := doubled_back d _ 8 (by omega) s4
  match g with
  | ⟨0, _⟩ => exact s1 i l
  | ⟨1, _⟩ => exact s2 i l
  | ⟨2, _⟩ => exact s4 i l
  | ⟨3, _⟩ => exact s8 i l

/-- The window's length as the body chooses it. -/
abbrev chosen (n : BitVec 32) : BitVec 32 :=
  Scalar.select (Scalar.cmpi .eq n 0#32) 2#32 (Scalar.select (Scalar.cmpi .eq n 1#32) 4#32 (Scalar.select (Scalar.cmpi .eq n 2#32) 8#32 16#32))

theorem chosen_window : ∀ g : Fin 4, chosen (BitVec.ofNat 32 g.val) = BitVec.ofNat 32 (window g) := by decide

/-- The number of rows in each row's window. -/
def counted (w : BitVec 32) : FVec Ideal S2176x256 .f32 :=
  broadcastTo S2176x256 (sitofp .f32 (minsi (addi places (broadcast S2176x1 1#32)) (broadcast S2176x1 w))) broadcasts_S2176x1_S2176x256

theorem counted_apply (g : Fin 4) (i : Fin 2176) (l : Fin 256) : counted (BitVec.ofNat 32 (window g)) (ix2 i l) = ((rows g i.val : ℝ) : EReal) := by
  unfold counted
  pointwise []
  have k := window_le g
  rw [show IntOp.addi (BitVec.ofNat 32 i.val) 1#32 = BitVec.ofNat 32 (i.val + 1) from (BitVec.ofNat_add _ _).symm]
  exact count_word i.val (window g) (by omega) (by omega)

/-- The pooled rows of a block. -/
def pool (n : BitVec 32) (b : FVec Ideal S2176x256 .f32) : FVec Ideal S2176x256 .f32 := subf (divf (kept n b) (counted (chosen n))) b

theorem pool_apply (d : Fin 256 → ℕ → EReal) (g : Fin 4) (b : FVec Ideal S2176x256 .f32) (given : ∀ i l, b (ix2 i l) = d l i.val) (i : Fin 2176) (l : Fin 256) :
    pool (BitVec.ofNat 32 g.val) b (ix2 i l) = Ideal.div (back (d l) (window g) i.val) ((rows g i.val : ℝ) : EReal) - d l i.val := by
  unfold pool
  rw [chosen_window]
  exact congrArg₂ (fun x y : EReal => x - y) (congrArg₂ Ideal.div (kept_apply d g b given i l) (counted_apply g i l)) (given i l)

variable (i : grid0.Coords) (x0 : Vec Ideal S2176x256 .f32) (x1 : Vec Ideal S1x256x256 .bf16) (x2 : Vec Ideal S1x256 .f32)

theorem body_pool : k0_pay1 (BitVec.ofNat 32 (i 0).val) (k0_pay5 x0) places (k0_pay8 x0) (k0_pay9 i x0) (k0_pay10 x0)
    = truncf .bf16 (pool (BitVec.ofNat 32 (i 0).val) (k0_pay5 x0)) bitsLt_bf16_f32 := rfl

theorem rows_whole : View.ld x0 r0_0 = x0 := by rw [View.ld_unit_zero] <;> decide

theorem same_rows (r : Fin 2176) (e : Fin 256) : k0_pay5 x0 (ix2 r e) = x0 (ix2 r e) := by pointwise [k0_pay5]

theorem tile3 (d : Fin 256 → ℕ → EReal) (g : Fin 4) (k : (i 0).val = g.val) (given : ∀ r e, x0 (ix2 r e) = d e r.val) (r : Fin 2176) (e : Fin 256) :
    out0_3 i x0 x1 x2 (ix2 r e) = Ideal.div (back (d e) (window g) r.val) ((rows g r.val : ℝ) : EReal) - d e r.val := by
  unfold out0_3
  frame_out
  unfold k0_pay12 k0_pay11 k0_pay13 k0_pay14 k0_pay15
  rw [rows_whole, body_pool, k]
  exact pool_apply d g _ (fun r e => (same_rows x0 r e).trans (given r e)) r e

/-- The product of pooled rows with the weights, times the scale. -/
theorem product (n : BitVec 32) (v1 : FVec Ideal S2176x256 .f32) (v2 : IVec S2176x1 32) (v31 v33 v40 : FVec Ideal S2176x256 .f32) (r : Fin 2176) (e : Fin 256) :
    k0_pay2 n v1 v2 v31 v33 v40 x1 x2 (ix2 r e) = (∑ q : Fin 256, k0_pay1 n v1 v2 v31 v33 v40 (ix2 r q) * x1 (ix3 0 q e)) * x2 (ix2 0 e) := by
  pointwise [k0_pay2]

theorem tile4 (r : Fin 2176) (e : Fin 256) : out0_4 i x0 x1 x2 (ix2 r e) = (∑ q : Fin 256, out0_3 i x0 x1 x2 (ix2 r q) * x1 (ix3 0 q e)) * x2 (ix2 0 e) := by
  unfold out0_4 out0_3
  frame_out
  pointwise [k0_pay3]
  rw [product]

theorem tile5 (r : Fin 2176) (e : Fin 256) : out0_5 i x0 x1 x2 (ix2 e r) = (∑ q : Fin 256, out0_3 i x0 x1 x2 (ix2 r q) * x1 (ix3 0 q e)) * x2 (ix2 0 e) := by
  unfold out0_5 out0_3
  frame_out
  pointwise [k0_pay4]
  rw [product]

end Cert.KernelPoolFwdIdeal.Final
end
-- ==== Proof.PoolFwd.Arrays.lean ====
module

public import proofs.«01_k».proof.Proof.PoolFwd.Steps
public import proofs.«01_k».proof.Proof.Gen.KernelPoolFwdIdeal.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.Pool

/-! The forward pass's results. -/

def resPooled (x : Inputs) : FVec Ideal ⟨2, ![2176, 1024]⟩ .bf16 := fun i => x.pooled (groupIn (i 1)) (placeIn (i 1)) (i 0).val
def resMixed (x : Inputs) : FVec Ideal ⟨2, ![2176, 1024]⟩ .bf16 :=
  fun i => x.mixed (groupIn (i 1)) (placeIn (i 1)) (i 0).val * x.s (ix2 0 (lane (groupIn (i 1)) (placeIn (i 1))))
def resTurned (x : Inputs) : FVec Ideal ⟨2, ![1024, 2176]⟩ .bf16 := fun i => resMixed x (ix2 (i 1) (i 0))

end Cert.Pool

namespace Cert.KernelPoolFwdIdeal.Final

open Cert.KernelPoolFwdIdeal Cert.KernelPoolFwdIdeal.Gen Cert.Pool

variable (m : (ℓ : Loc nD τ sig) → Buf (Elt Ideal) ℓ) (c : Dev nD)

/-- The arguments; the forward pass takes no cotangent. -/
def args : Inputs where
  p := m ((c.tc : Thread nD τ).loc main_arg0)
  w := m ((c.tc : Thread nD τ).loc main_arg1)
  s := m ((c.tc : Thread nD τ).loc main_arg2)
  ct := fun _ => 0

abbrev argP : FVec Ideal S2064x1024 .f32 := m ((c.tc : Thread nD τ).loc main_arg0)
abbrev argW : FVec Ideal S4x256x256 .f32 := m ((c.tc : Thread nD τ).loc main_arg1)

theorem host_rows : V m c main_v0 = pad S2176x1024 ![0, 0] ![112, 0] ![0, 0] (argP m c) (sitofp (F := Ideal) .f32 (constantI S_ 32 0#32)) pads_S2064x1024_S2176x1024_01120_000 h_S_ := by
  unfold V; after_reads_simp; rfl

theorem host_weights : V m c main_v1 = fun j => truncf .bf16 (argW m c) bitsLt_bf16_f32 j := by
  unfold V; after_reads_simp

theorem idx : ∀ t : Fin cfg0.N, win0_0.index t = ![0, t.val] ∧ win0_1.index t = ![t.val, 0, 0] ∧ win0_2.index t = ![0, t.val]
    ∧ win0_3.index t = ![0, t.val] ∧ win0_4.index t = ![0, t.val] ∧ win0_5.index t = ![t.val, 0] :=
  (by decide +kernel : ∀ t : Fin grid0.N, _)

theorem coord : ∀ t : Fin cfg0.N, (grid0.coords t 0).val = t.val := (by decide +kernel : ∀ t : Fin grid0.N, _)

/-- The group of a grid point. -/
def group (t : Fin cfg0.N) : Fin 4 := ⟨t.val, t.isLt.trans_eq N_0⟩

variable (t : Fin cfg0.N)

theorem read_rows (r : Fin 2176) (e : Fin 256) : iblk m c 0 t (ix2 r e) = (args m c).row (lane (group t) e) r.val := by
  refine Eq.trans (b := V m c main_v0 (ix2 r (lane (group t) e))) ?_ ?_
  · obtain ⟨e, -⟩ := idx t
    blk_ext [iblk, e, lane, group]
  · rw [host_rows]
    unfold Inputs.row
    pointwise []
    by_cases p : r.val < 2064
    · rw [dif_pos p, dif_pos (by omega)]; rfl
    · rw [dif_neg p, dif_neg (by omega)]; exact Reals.sitofp_zero

theorem read_weights (a : Fin 1) (k e : Fin 256) : iblk m c 1 t (ix3 a k e) = (args m c).w (ix3 (group t) k e) := by
  refine Eq.trans (b := V m c main_v1 (ix3 (group t) k e)) ?_ ?_
  · obtain ⟨-, e, -⟩ := idx t
    blk_ext [iblk, e, group]
  · rw [host_weights]; rfl

theorem read_scale (a : Fin 1) (e : Fin 256) : iblk m c 2 t (ix2 a e) = (args m c).s (ix2 0 (lane (group t) e)) := by
  refine Eq.trans (b := V m c main_arg2 (ix2 0 (lane (group t) e))) ?_ ?_
  · obtain ⟨-, -, e, -⟩ := idx t
    blk_ext [iblk, e, lane, group]
  · rfl

theorem block3 (r : Fin 2176) (e : Fin 256) :
    out0_3 (grid0.coords t) (iblk m c 0 t) (iblk m c 1 t) (iblk m c 2 t) (ix2 r e) = (args m c).pooled (group t) e r.val :=
  tile3 _ _ _ _ (fun e => (args m c).row (lane (group t) e)) (group t) (coord t) (read_rows m c t) r e

theorem block4 (r : Fin 2176) (e : Fin 256) :
    out0_4 (grid0.coords t) (iblk m c 0 t) (iblk m c 1 t) (iblk m c 2 t) (ix2 r e)
      = (args m c).mixed (group t) e r.val * (args m c).s (ix2 0 (lane (group t) e)) := by
  rw [tile4]
  simp only [block3, read_weights, read_scale]
  rfl

theorem block5 (r : Fin 2176) (e : Fin 256) :
    out0_5 (grid0.coords t) (iblk m c 0 t) (iblk m c 1 t) (iblk m c 2 t) (ix2 e r)
      = (args m c).mixed (group t) e r.val * (args m c).s (ix2 0 (lane (group t) e)) := by
  rw [tile5]
  simp only [block3, read_weights, read_scale]
  rfl

theorem group_lane (e : Fin 256) (k : t.val * 256 + e.val < 1024) : groupIn ⟨t.val * 256 + e.val, k⟩ = group t ∧ placeIn ⟨t.val * 256 + e.val, k⟩ = e :=
  ⟨Fin.ext (show (t.val * 256 + e.val) / 256 = t.val by omega), Fin.ext (show (t.val * 256 + e.val) % 256 = e.val by omega)⟩

theorem final_pooled : (dats m 0 c).arrAt 3 cfg0.N = resPooled (args m c) := by
  refine (dats m 0 c).arrAt_eq_of_covers 3 _ (by decide +kernel) fun t hf y => ?_
  have ht := t.isLt.trans_eq N_0
  have he : (y 1).val < 256 := (y 1).isLt
  refine Eq.trans ?_ (congrArg (resPooled (args m c)) (?_ : ix2 (y 0 : Fin 2176) (⟨t.val * 256 + (y 1).val, by omega⟩ : Fin 1024) = ((cfg0.win 3).blk t).view.emb y))
  · blk_simp
    rw [after0_3]
    refine ((congrArg _ (eq_ix2 y)).trans (block3 m c t (y 0) (y 1))).trans ?_
    obtain ⟨p, q⟩ := group_lane t (y 1) (by omega)
    show _ = (args m c).pooled (groupIn ⟨t.val * 256 + (y 1).val, _⟩) (placeIn ⟨t.val * 256 + (y 1).val, _⟩) (y 0).val
    rw [p, q]
  · obtain ⟨-, -, -, e, -⟩ := idx t
    blk_ext [e]

theorem mixed_at (r : Fin 2176) (e : Fin 256) (k : t.val * 256 + e.val < 1024) : resMixed (args m c) (ix2 r ⟨t.val * 256 + e.val, k⟩)
    = (args m c).mixed (group t) e r.val * (args m c).s (ix2 0 (lane (group t) e)) := by
  obtain ⟨p, q⟩ := group_lane t e k
  show (args m c).mixed (groupIn ⟨t.val * 256 + e.val, _⟩) (placeIn ⟨t.val * 256 + e.val, _⟩) r.val
    * (args m c).s (ix2 0 (lane (groupIn ⟨t.val * 256 + e.val, _⟩) (placeIn ⟨t.val * 256 + e.val, _⟩))) = _
  rw [p, q]

theorem final_mixed : (dats m 0 c).arrAt 4 cfg0.N = resMixed (args m c) := by
  refine (dats m 0 c).arrAt_eq_of_covers 4 _ (by decide +kernel) fun t hf y => ?_
  have ht := t.isLt.trans_eq N_0
  have he : (y 1).val < 256 := (y 1).isLt
  refine Eq.trans ?_ (congrArg (resMixed (args m c)) (?_ : ix2 (y 0 : Fin 2176) (⟨t.val * 256 + (y 1).val, by omega⟩ : Fin 1024) = ((cfg0.win 4).blk t).view.emb y))
  · blk_simp
    rw [after0_4]
    exact ((congrArg _ (eq_ix2 y)).trans (block4 m c t (y 0) (y 1))).trans (mixed_at m c t (y 0) (y 1) (by omega)).symm
  · obtain ⟨-, -, -, -, e, -⟩ := idx t
    blk_ext [e]

theorem final_turned : (dats m 0 c).arrAt 5 cfg0.N = resTurned (args m c) := by
  refine (dats m 0 c).arrAt_eq_of_covers 5 _ (by decide +kernel) fun t hf y => ?_
  have ht := t.isLt.trans_eq N_0
  have he : (y 0).val < 256 := (y 0).isLt
  refine Eq.trans ?_ (congrArg (resTurned (args m c)) (?_ : ix2 (⟨t.val * 256 + (y 0).val, by omega⟩ : Fin 1024) (y 1 : Fin 2176) = ((cfg0.win 5).blk t).view.emb y))
  · blk_simp
    rw [after0_5]
    exact ((congrArg _ (eq_ix2 y)).trans (block5 m c t (y 1) (y 0))).trans (mixed_at m c t (y 1) (y 0) (by omega)).symm
  · obtain ⟨-, -, -, -, -, e⟩ := idx t
    blk_ext [e]

end Cert.KernelPoolFwdIdeal.Final
end
-- ==== Proof.PoolFwd.Reference.lean ====
module

public import proofs.«01_k».proof.Proof.Pool.Reference
public import proofs.«01_k».proof.Proof.Gen.ReferencePoolFwdIdeal.Read
public import Idealize.ShloMosaic.Lib.Pointwise
public import Idealize.ShloMosaic.Lib.WordArith
public import Idealize.ShloMosaic.Lib.Routing.OpsPair
public import proofs.«01_k».proof.Proof.PoolFwd.Arrays

@[expose] public section

set_option maxRecDepth 16384

noncomputable section

open Idealize.ShloMosaic Idealize.ShloMosaic.TcCoe Idealize.SL.Sem
open Idealize.ShloMosaic.Pipeline (Dat)
open scoped BigOperators

namespace Cert.ReferencePoolFwdIdeal.Final

open Cert.ReferencePoolFwdIdeal Cert.ReferencePoolFwdIdeal.Read Cert.Pool
open Cert.Forget (run)
open Cert.ReferencePoolIdeal.Final (word_small word_less word_start word_kept group_of_lane place_of_lane)

/-- The reading of a table's entries at the rows and groups that index words name. -/
abbrev taken : GatherDims S2177x4x256 S2176x4x2 S2176x4x256 := gather_S2177x4x256_S2176x4x2_S2176x4x256_2_01_n_n_01_2_11256

theorem taken_apply (idx : IVec S2176x4x2 32) (x : S2177x4x256.Idx → EReal) (i : Fin 2176) (g : Fin 4) (e : Fin 256) :
    Host.gather taken x idx (ix3 i g e)
      = x (ix3 ⟨min (idx (ix3 i g 0)).toInt.toNat 2176, by omega⟩ ⟨min (idx (ix3 i g 1)).toInt.toNat 3, by omega⟩ e) := by
  unfold Host.gather
  congr 1
  funext a
  refine Fin.ext ?_
  show taken.start (ix3 i g e) idx a + taken.batchCoord (ix3 i g e) a + taken.offCoord (ix3 i g e) a = _
  have first : ∀ q : Fin 2, (fun b => taken.siIdx (ix3 i g e) (Fin.cast (by decide) q) b) = ix3 i g q := fun q => by
    funext b
    refine Fin.ext ?_
    match b with
    | ⟨0, _⟩ => rfl
    | ⟨1, _⟩ => rfl
    | ⟨2, _⟩ => rfl
  have cases : a = 0 ∨ a = 1 ∨ a = 2 := by
    match a with
    | ⟨0, _⟩ => exact .inl rfl
    | ⟨1, _⟩ => exact .inr (.inl rfl)
    | ⟨2, _⟩ => exact .inr (.inr rfl)
  rcases cases with rfl | rfl | rfl
  · unfold GatherDims.start
    rw [dif_pos (by decide)]
    exact congrArg (fun k => min (idx k).toInt.toNat 2176) (first 0)
  · unfold GatherDims.start
    rw [dif_pos (by decide)]
    exact congrArg (fun k => min (idx k).toInt.toNat 3) (first 1)
  · unfold GatherDims.start
    rw [dif_neg (by decide)]
    show 0 + 0 + e.val = e.val
    omega

variable (x : Inputs)

/-! The words that name the windows' rows. -/

theorem ref_window (g : Fin 4) : val_main_v9 (F := Ideal) (ix1 g) = BitVec.ofNat 32 (window g) := by
  match g with
  | ⟨0, _⟩ => rfl
  | ⟨1, _⟩ => rfl
  | ⟨2, _⟩ => rfl
  | ⟨3, _⟩ => rfl

theorem ref_end (i : Fin 2176) (a : Fin 1) : val_main_v13 (F := Ideal) (ix2 i a) = BitVec.ofNat 32 (i.val + 1) := by
  pointwise [val_main_v13, val_main_v12, val_main_v11, val_main_c_4, val_main_v10]
  rw [add_comm]
  exact (BitVec.ofNat_add _ _).symm

theorem ref_start (i : Fin 2176) (g : Fin 4) : val_main_v19 (F := Ideal) (ix2 i g) = BitVec.ofNat 32 (i.val + 1 - window g) := by
  have k := window_le g
  have e := ref_end i 0
  have w := ref_window g
  rw [← word_start _ _ (by omega) (by omega), ← e, ← w]
  pointwise [val_main_v19, val_main_v18, val_main_c_5, val_main_v17, val_main_v16, val_main_v15, val_main_v14]

theorem end_row (i : Fin 2176) (g : Fin 4) : val_main_v36 (F := Ideal) (ix3 i g 0) = BitVec.ofNat 32 (i.val + 1) := by
  rw [← word_kept (i.val + 1) 2177 (by omega), ← ref_end i 0]
  pointwise [val_main_v36, val_main_v34, val_main_v32, val_main_v26, val_main_v23, val_main_v22, val_main_c_6, val_main_v25, val_main_v24, val_main_c_7]

theorem end_group (i : Fin 2176) (g : Fin 4) : val_main_v36 (F := Ideal) (ix3 i g 1) = BitVec.ofNat 32 g.val := by
  rw [← word_kept g.val 4 (by omega)]
  pointwise [val_main_v36, val_main_v35, val_main_v33, val_main_v31, val_main_v30, val_main_v29, val_main_c_9, val_main_v28, val_main_v27, val_main_c_8, val_main_v21, val_main_v20]

theorem start_row (i : Fin 2176) (g : Fin 4) : val_main_v51 (F := Ideal) (ix3 i g 0) = BitVec.ofNat 32 (i.val + 1 - window g) := by
  rw [← word_kept (i.val + 1 - window g) 2177 (by omega), ← ref_start i g]
  pointwise [val_main_v51, val_main_v49, val_main_v42, val_main_v41, val_main_v40, val_main_c_11, val_main_v39, val_main_v38, val_main_c_10]

theorem start_group (i : Fin 2176) (g : Fin 4) : val_main_v51 (F := Ideal) (ix3 i g 1) = BitVec.ofNat 32 g.val := by
  rw [← word_kept g.val 4 (by omega)]
  pointwise [val_main_v51, val_main_v50, val_main_v48, val_main_v47, val_main_v46, val_main_v45, val_main_c_13, val_main_v44, val_main_v43, val_main_c_12, val_main_v21, val_main_v20]

theorem ref_count (i : Fin 2176) (g : Fin 4) (a : Fin 1) : val_main_v57 (F := Ideal) (ix3 i g a) = ((rows g i.val : ℝ) : EReal) := by
  have k := window_le g
  pointwise [val_main_v57, val_main_v56, val_main_v55, val_main_v54]
  rw [ref_end, ref_start, word_less _ _ (by omega) (by omega)]
  show ((((BitVec.ofNat 32 _).toInt : ℝ)) : EReal) = _
  rw [word_small _ (by omega), (by unfold rows; omega : i.val + 1 - (i.val + 1 - window g) = rows g i.val)]
  simp

/-! The forward lines. -/

theorem pad_word (j : S_.Idx) : val_main_call0_v0 (F := Ideal) j = 0 := by
  pointwise [val_main_call0_v0, val_main_c]
  exact Reals.sitofp_zero

theorem padded_rows (i : Fin 2176) (g : Fin 4) (e : Fin 256) : val_main_v1 (F := Ideal) x.p (ix3 i g e) = x.row (lane g e) i.val := by
  unfold Inputs.row
  pointwise [val_main_v1, val_main_v0]
  by_cases p : i.val < 2064
  · rw [dif_pos p, dif_pos (by omega)]
    refine congrArg (fun l => x.p (ix2 _ l)) (Fin.ext ?_)
    simp only [lane]
    omega
  · rw [dif_neg p, dif_neg (by omega), pad_word]

theorem sum_zero (j : S_.Idx) : val_main_call1_call0_v0 (F := Ideal) j = 0 := by
  pointwise [val_main_call1_call0_v0, val_main_call1_call0_cst]

theorem ref_rows : column (val_main_v1 (F := Ideal) x.p) = fun g e => x.row (lane g e) := by
  funext g e j
  unfold column
  by_cases p : j < 2176
  · rw [dif_pos p, padded_rows]
  · rw [dif_neg p, Inputs.row, dif_neg (by omega)]

theorem ref_sums (i : Fin 2176) (g : Fin 4) (e : Fin 256) : val_main_v2 (F := Ideal) x.p (ix3 i g e) = run (x.row (lane g e)) (i.val + 1) 0 := by
  unfold val_main_v2 Host.reduceWindowAdd
  rw [Ideal.hostReduceWindowAdd_def, sum_zero]
  exact (from_start _ 2175 rfl _ i g e).trans (by rw [ref_rows])

theorem ref_from_zero (r : Fin 2177) (g : Fin 4) (e : Fin 256) : val_main_v4 (F := Ideal) x.p (ix3 r g e) = run (x.row (lane g e)) r.val 0 := by
  pointwise [val_main_v4, val_main_v3, val_main_cst]
  by_cases p : r.val < 1
  · rw [dif_pos p, (by omega : r.val = 0)]; rfl
  · rw [dif_neg p, ref_sums]
    exact congrArg (fun w => run _ w 0) (by show r.val - 1 + 1 = r.val; omega)

theorem ref_pooled (given : ∀ l, ∃ d : ℕ → ℝ, x.row l = fun i => (d i : EReal)) (i : Fin 2176) (g : Fin 4) (e : Fin 256) : val_main_v60 (F := Ideal) x.p (ix3 i g e) = x.pooled g e i.val := by
  have k := window_le g
  have high : val_main_v37 (F := Ideal) x.p (ix3 i g e) = run (x.row (lane g e)) (i.val + 1) 0 := by
    refine (taken_apply _ _ i g e).trans ((congrArg _ ?_).trans (ref_from_zero x ⟨i.val + 1, by omega⟩ g e))
    refine congrArg₂ (fun u v => ix3 u v e) (Fin.ext ?_) (Fin.ext ?_)
    · show min (val_main_v36 (F := Ideal) (ix3 i g 0)).toInt.toNat 2176 = i.val + 1
      rw [end_row, word_small _ (by omega)]; omega
    · show min (val_main_v36 (F := Ideal) (ix3 i g 1)).toInt.toNat 3 = g.val
      rw [end_group, word_small _ (by omega)]; omega
  have low : val_main_v52 (F := Ideal) x.p (ix3 i g e) = run (x.row (lane g e)) (i.val + 1 - window g) 0 := by
    refine (taken_apply _ _ i g e).trans ((congrArg _ ?_).trans (ref_from_zero x ⟨i.val + 1 - window g, by omega⟩ g e))
    refine congrArg₂ (fun u v => ix3 u v e) (Fin.ext ?_) (Fin.ext ?_)
    · show min (val_main_v51 (F := Ideal) (ix3 i g 0)).toInt.toNat 2176 = i.val + 1 - window g
      rw [start_row, word_small _ (by omega)]; omega
    · show min (val_main_v51 (F := Ideal) (ix3 i g 1)).toInt.toNat 3 = g.val
      rw [start_group, word_small _ (by omega)]; omega
  obtain ⟨d, real⟩ := given (lane g e)
  have rowEntry : val_main_v1 (F := Ideal) x.p (ix3 i g e) = x.row (lane g e) i.val := by
    rw [← congrFun (congrFun (congrFun (ref_rows x) g) e) i.val, column, dif_pos i.isLt]
  unfold Inputs.pooled
  rw [real, ← back_difference, ← real, ← high, ← low, ← rowEntry, ← ref_count i g 0]
  pointwise [val_main_v60, val_main_v59, val_main_v58, val_main_v53]

theorem ref_mixed (given : ∀ l, ∃ d : ℕ → ℝ, x.row l = fun i => (d i : EReal)) (i : Fin 2176) (g : Fin 4) (e : Fin 256) : val_main_v63 (F := Ideal) x.p x.w (ix2 i (lane g e)) = x.mixed g e i.val := by
  unfold Inputs.mixed
  simp only [← ref_pooled x given]
  pointwise [val_main_v63, val_main_v62, val_main_v61]
  rw [group_of_lane, place_of_lane]
  exact Finset.sum_congr rfl fun k _ => mul_comm _ _

/-! The results. -/

variable (given : ∀ l, ∃ d : ℕ → ℝ, x.row l = fun i => (d i : EReal))
include given

theorem ref_res_pooled : val_main_v70 (F := Ideal) x.p = resPooled x := by
  funext y
  obtain ⟨i, l, rfl⟩ : ∃ i l, y = ix2 i l := ⟨y 0, y 1, eq_ix2 y⟩
  refine Eq.trans ?_ (ref_pooled x given i (groupIn l) (placeIn l))
  pointwise [val_main_v70, val_main_v69]
  rfl

theorem ref_res_mixed : val_main_v68 (F := Ideal) x.p x.w x.s = resMixed x := by
  funext y
  obtain ⟨i, l, rfl⟩ : ∃ i l, y = ix2 i l := ⟨y 0, y 1, eq_ix2 y⟩
  obtain ⟨g, e, rfl⟩ := lane_surjective l
  refine Eq.trans (b := val_main_v63 (F := Ideal) x.p x.w (ix2 i (lane g e)) * x.s (ix2 0 (lane g e))) ?_ ?_
  · pointwise [val_main_v68, val_main_v67, val_main_v66, val_main_v65, val_main_v64]
  · rw [ref_mixed x given]
    show _ = x.mixed (groupIn (lane g e)) (placeIn (lane g e)) i.val * x.s (ix2 0 (lane (groupIn (lane g e)) (placeIn (lane g e))))
    rw [show groupIn (lane g e) = g from group_of_lane g e _, show placeIn (lane g e) = e from place_of_lane g e _]

theorem ref_res_turned : val_main_v71 (F := Ideal) x.p x.w x.s = resTurned x := by
  funext y
  obtain ⟨l, i, rfl⟩ : ∃ l i, y = ix2 l i := ⟨y 0, y 1, eq_ix2 y⟩
  refine Eq.trans ?_ (congrFun (ref_res_mixed x given) (ix2 i l))
  pointwise [val_main_v71]

end Cert.ReferencePoolFwdIdeal.Final
end
-- ==== Proof.PoolFwd.Claims.lean ====
module

public import proofs.«01_k».proof.Defs
public import proofs.«01_k».proof.Proof.PoolFwd.Finite
public import proofs.«01_k».proof.Proof.PoolFwd.Arrays
public import proofs.«01_k».proof.Proof.PoolFwd.Reference
public import proofs.«01_k».proof.Proof.Gen.KernelPoolFwdIdeal.Frame
public import proofs.«01_k».proof.Proof.Gen.KernelPoolFwdIdeal.Value
public import proofs.«01_k».proof.Proof.Gen.ReferencePoolFwdIdeal.Run
public import proofs.«01_k».proof.Proof.Gen.ReferencePoolFwdIdeal.Read

@[expose] public section

set_option maxRecDepth 16384

noncomputable section

open Idealize.ShloMosaic Idealize.ShloMosaic.TcCoe Idealize.SL.Sem
open Idealize.ShloMosaic.Pipeline (Dat)
open scoped BigOperators

namespace Cert.Proof.PoolFwd

/-! The claims about the pooling. -/

open Cert.KernelPoolFwdIdeal.Final Cert.Pool

theorem frame_kernel_finite : Cert.quiescent_KernelPoolFwdIdeal_pre_pool_fwd_finite :=
  fun m g _ => Cert.KernelPoolFwdIdeal.Gen.frame m g

theorem frame_reference : Cert.quiescent_ReferencePoolFwdIdeal := by
  intro m g _
  exact (θ_run _ _ _).mono (fun r h => ⟨fun c => (h c).2.2.2, sem_eq_zero_of_no_sems (by decide) r.2⟩)
    (Cert.ReferencePoolFwdIdeal.Value.run m g)

theorem frame_reference_finite : Cert.quiescent_ReferencePoolFwdIdeal_pre_pool_fwd_finite :=
  fun m g _ => frame_reference m g trivial

theorem equal : Cert.algebraic_KernelPoolFwdIdeal_ReferencePoolFwdIdeal_pre_pool_fwd_finite := by
  intro m g m' g' finite hag
  have given : ∀ c l, ∃ d : ℕ → ℝ, (args m c).row l = fun i => (d i : EReal) := fun c => Cert.PoolFwd.real_of (args m c) (finite c)
  refine ⟨fun c => resPooled (args m c), fun c => resMixed (args m c), fun c => resTurned (args m c), ?_, ?_⟩
  · refine (θ_run _ _ _).mono (fun r h c => ?_) (Cert.KernelPoolFwdIdeal.Value.run_blocks m g)
    exact ⟨(h c).1.trans (final_pooled m c), (h c).2.1.trans (final_mixed m c), (h c).2.2.1.trans (final_turned m c), (h c).2.2.2⟩
  · refine (θ_run _ _ _).mono (fun r h c => ?_) (Cert.ReferencePoolFwdIdeal.Value.run m' g')
    have e := h c
    obtain ⟨a0, a1, a2⟩ := hag c
    have same : Inputs.mk _ _ _ (fun _ => 0) = args m c := congrFun (congr (congr (congrArg Inputs.mk a0) a1) a2) _
    have real := same.symm ▸ given c
    exact ⟨(e.1.trans (Cert.ReferencePoolFwdIdeal.Read.val_main_v70_eq m' c)).trans ((Cert.ReferencePoolFwdIdeal.Final.ref_res_pooled _ real).trans (congrArg resPooled same)),
      (e.2.1.trans (Cert.ReferencePoolFwdIdeal.Read.val_main_v68_eq m' c)).trans ((Cert.ReferencePoolFwdIdeal.Final.ref_res_mixed _ real).trans (congrArg resMixed same)),
      (e.2.2.1.trans (Cert.ReferencePoolFwdIdeal.Read.val_main_v71_eq m' c)).trans ((Cert.ReferencePoolFwdIdeal.Final.ref_res_turned _ real).trans (congrArg resTurned same)), (h c).2.2.2⟩

end Cert.Proof.PoolFwd
end
-- ==== Proof.Gate.Forward.lean ====
module

public import proofs.«01_k».proof.Proof.Gate.Math
public import proofs.«01_k».proof.Proof.Finite
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Gate

/-! The gated layer's values, the logistic function of any extended real number included. -/

/-- The logistic function. -/
def squash (a : EReal) : EReal := Ideal.div 1 (1 + Ideal.exp (-a))

/-- The derivative of `a · squash a`. -/
def incline (a : EReal) : EReal := squash a * (1 + a * (1 - squash a))

/-- The derivative times a number, with the product taken apart. -/
theorem slope_apart (a : EReal) (b : ℝ) :
    (b : EReal) * incline a = b * squash a + a * b * (squash a * (1 - squash a)) := by
  unfold incline
  induction a with
  | bot =>
    have t : (1 : EReal) + ⊤ = ⊤ := EReal.add_top_of_ne_bot (EReal.coe_ne_bot 1)
    have e : squash ⊥ = 0 := by simp [squash, Ideal.div, t]
    rw [e]; simp
  | coe a =>
    have e : squash (a : EReal) = (sig a : EReal) := by rw [squash, ← EReal.coe_one, sig_coe]
    rw [e, ← EReal.coe_one]
    norm_cast
    ring
  | top =>
    have e : squash ⊤ = 1 := by simp [squash, Ideal.div]
    have z : (1 : EReal) - 1 = 0 := by rw [← EReal.coe_one, ← EReal.coe_sub, sub_self]; rfl
    rw [e, z]; simp

/-- Rows continued by zeros. -/
def past (A : FVec Ideal ⟨2, ![2064, 5632]⟩ .f32) (r : Fin 2176) (l : Fin 5632) : EReal := if p : r.val < 2064 then A (ix2 ⟨r.val, p⟩ l) else 0

/-- The product of rows and weights. -/
def prod (x : FVec Ideal ⟨2, ![2064, 2048]⟩ .f32) (w : FVec Ideal ⟨2, ![2048, 5632]⟩ .f32) : FVec Ideal ⟨2, ![2064, 5632]⟩ .f32 :=
  fun i => ∑ k : Fin 2048, (x (ix2 (i 0) k) * w (ix2 k (i 1)) : EReal)

/-- The product's rows continued by zeros are the product of the rows continued by zeros. -/
theorem past_prod (x : FVec Ideal ⟨2, ![2064, 2048]⟩ .f32) (w : FVec Ideal ⟨2, ![2048, 5632]⟩ .f32) (X : Fin 2176 → Fin 2048 → EReal)
    (given : ∀ r k, X r k = if p : r.val < 2064 then x (ix2 ⟨r.val, p⟩ k) else 0) (r : Fin 2176) (l : Fin 5632) :
    ∑ k : Fin 2048, X r k * (w (ix2 k l) : EReal) = past (prod x w) r l := by
  unfold past
  by_cases p : r.val < 2064
  · rw [dif_pos p]
    exact Finset.sum_congr rfl fun k _ => by rw [given, dif_pos p]; rfl
  · rw [dif_neg p]
    exact Finset.sum_eq_zero fun k _ => by rw [given, dif_neg p, zero_mul]

theorem prod_real (x : FVec Ideal ⟨2, ![2064, 2048]⟩ .f32) (w : FVec Ideal ⟨2, ![2048, 5632]⟩ .f32)
    (ex : ∀ i, ∃ r : ℝ, x i = r) (ew : ∀ i, ∃ r : ℝ, w i = r) (i) : ∃ r : ℝ, prod x w i = r := by
  choose x' ex using ex
  choose w' ew using ew
  refine ⟨∑ k : Fin 2048, x' (ix2 (i 0) k) * w' (ix2 k (i 1)), ?_⟩
  rw [Reals.coe_sum]
  exact Finset.sum_congr rfl fun k _ => by rw [ex, ew, EReal.coe_mul]

/-! The results, of a layer whose branches are `A` and `B`. -/

variable (A B : FVec Ideal ⟨2, ![2064, 5632]⟩ .f32)

def slopeAt (r : Fin 2176) (l : Fin 5632) : EReal := past B r l * incline (past A r l)
def gateAt (r : Fin 2176) (l : Fin 5632) : EReal := past A r l * squash (past A r l)
def hiddenAt (r : Fin 2176) (l : Fin 5632) : EReal := gateAt A r l * past B r l

/-- An array of bf16 entries, given by rows and lanes. -/
abbrev table (f : Fin 2176 → Fin 5632 → EReal) : FVec Ideal ⟨2, ![2176, 5632]⟩ .bf16 := fun i => f (i 0) (i 1)
abbrev turned (f : Fin 2176 → Fin 5632 → EReal) : FVec Ideal ⟨2, ![5632, 2176]⟩ .bf16 := fun i => f (i 1) (i 0)

theorem slopeAt_apart (real : ∀ i, ∃ b : ℝ, B i = b) (r : Fin 2176) (l : Fin 5632) : slopeAt A B r l
    = if p : r.val < 2064 then (B (ix2 ⟨r.val, p⟩ l) : EReal) * squash (A (ix2 ⟨r.val, p⟩ l))
      + A (ix2 ⟨r.val, p⟩ l) * B (ix2 ⟨r.val, p⟩ l) * (squash (A (ix2 ⟨r.val, p⟩ l)) * (1 - squash (A (ix2 ⟨r.val, p⟩ l)))) else 0 := by
  unfold slopeAt past
  by_cases p : r.val < 2064
  · obtain ⟨b, e⟩ := real (ix2 ⟨r.val, p⟩ l)
    rw [dif_pos p, dif_pos p, dif_pos p, e]
    exact slope_apart _ b
  · rw [dif_neg p, dif_neg p, dif_neg p, zero_mul]

theorem gateAt_eq (r : Fin 2176) (l : Fin 5632) : gateAt A r l
    = if p : r.val < 2064 then (A (ix2 ⟨r.val, p⟩ l) : EReal) * squash (A (ix2 ⟨r.val, p⟩ l)) else 0 := by
  unfold gateAt past
  by_cases p : r.val < 2064
  · rw [dif_pos p, dif_pos p]
  · rw [dif_neg p, dif_neg p, zero_mul]

theorem hiddenAt_eq (r : Fin 2176) (l : Fin 5632) : hiddenAt A B r l
    = if p : r.val < 2064 then (A (ix2 ⟨r.val, p⟩ l) : EReal) * squash (A (ix2 ⟨r.val, p⟩ l)) * B (ix2 ⟨r.val, p⟩ l) else 0 := by
  unfold hiddenAt past
  rw [gateAt_eq]
  by_cases p : r.val < 2064
  · rw [dif_pos p, dif_pos p, dif_pos p]
  · rw [dif_neg p, dif_neg p, dif_neg p, mul_zero]

end Cert.Gate
end
-- ==== Proof.UpGate.Arrays.lean ====
module

public import proofs.«01_k».proof.Proof.Gate.Forward
public import proofs.«01_k».proof.Proof.Gen.KernelUpGateIdeal.Value
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.KernelUpGateIdeal.Final

open Cert.KernelUpGateIdeal Cert.KernelUpGateIdeal.Gen Cert.Gate

/-! The kernel's results, from its blocks. -/

variable (m : (ℓ : Loc nD τ sig) → Buf (Elt Ideal) ℓ) (c : Dev nD)

abbrev argX : FVec Ideal S2064x2048 .f32 := m ((c.tc : Thread nD τ).loc main_arg0)
abbrev argU : FVec Ideal S2048x5632 .f32 := m ((c.tc : Thread nD τ).loc main_arg2)

/-- The two branches. -/
abbrev branchA : FVec Ideal S2064x5632 .f32 := m ((c.tc : Thread nD τ).loc main_arg1)
abbrev branchB : FVec Ideal S2064x5632 .f32 := prod (argX m c) (argU m c)

theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] ∧ win0_6.index t = ![t.val, 0] :=
  (by decide +kernel : ∀ t : Fin grid0.N, _)

/-- The lanes of the block at a grid point. -/
def lane (t : Fin cfg0.N) (l : Fin 256) : Fin 5632 := ⟨t.val * 256 + l.val, by have := t.isLt.trans_eq N_0; omega⟩

variable {m c}

theorem host_x : V m c main_v1 = fun j => truncf .bf16 (pad S2176x2048 ![0, 0] ![112, 0] ![0, 0] (argX m c) (sitofp (F := Ideal) .f32 (constantI S_ 32 0#32)) pads_S2064x2048_S2176x2048_01120_000 h_S_) bitsLt_bf16_f32 j := by
  unfold V; after_reads_simp; rfl

theorem host_rows (r : Fin 2176) (k : Fin 2048) : V m c main_v1 (ix2 r k) = if p : r.val < 2064 then argX m c (ix2 ⟨r.val, p⟩ k) else 0 := by
  rw [host_x]
  pointwise []
  by_cases p : r.val < 2064
  · rw [dif_pos p, dif_pos (by omega)]
  · rw [dif_neg p, dif_neg (by omega)]; exact Reals.sitofp_zero

variable (t : Fin cfg0.N)

theorem read_rows (r : Fin 2176) (k : Fin 2048) : iblk m c 0 t (ix2 r k) = if p : r.val < 2064 then argX m c (ix2 ⟨r.val, p⟩ k) else 0 := by
  refine Eq.trans ?_ (host_rows r k)
  obtain ⟨e, -⟩ := idx t
  blk_ext [iblk, e]

theorem host_ups : V m c main_v3 = fun j => truncf .bf16 (argU m c) bitsLt_bf16_f32 j := by unfold V; after_reads_simp

theorem host_up (k : Fin 2048) (l : Fin 5632) : V m c main_v3 (ix2 k l) = argU m c (ix2 k l) := by rw [host_ups]; rfl

theorem read_up (k : Fin 2048) (l : Fin 256) : iblk m c 2 t (ix2 k l) = argU m c (ix2 k (lane t l)) := by
  refine Eq.trans ?_ (host_up k (lane t l))
  obtain ⟨-, -, e, -⟩ := idx t
  blk_ext [iblk, e, lane]

theorem up_rows (r : Fin 2176) (l : Fin 256) :
    ∑ k : Fin 2048, (show EReal from iblk m c 0 t (ix2 r k)) * (show EReal from iblk m c 2 t (ix2 k l)) = past (branchB m c) r (lane t l) := by
  simp only [read_up]
  exact past_prod (argX m c) (argU m c) (fun r k => iblk m c 0 t (ix2 r k)) (read_rows t) r (lane t l)

theorem host_a : V m c main_v2 = pad S2176x5632 ![0, 0] ![112, 0] ![0, 0] (branchA m c) (sitofp (F := Ideal) .f32 (constantI S_ 32 0#32)) pads_S2064x5632_S2176x5632_01120_000 h_S_ := by
  unfold V; after_reads_simp; rfl

theorem host_gate (r : Fin 2176) (l : Fin 5632) : V m c main_v2 (ix2 r l) = past (branchA m c) r l := by
  rw [host_a]
  unfold past
  pointwise []
  by_cases p : r.val < 2064
  · rw [dif_pos p, dif_pos (by omega)]
  · rw [dif_neg p, dif_neg (by omega)]; exact Reals.sitofp_zero

theorem gate_rows (r : Fin 2176) (l : Fin 256) : iblk m c 1 t (ix2 r l) = past (branchA m c) r (lane t l) := by
  refine Eq.trans ?_ (host_gate r (lane t l))
  obtain ⟨-, e, -⟩ := idx t
  blk_ext [iblk, e, lane]

theorem block_incline (r : Fin 2176) (l : Fin 256) : out0_3 (iblk m c 0 t) (iblk m c 1 t) (iblk m c 2 t) (ix2 r l) = slopeAt (branchA m c) (branchB m c) r (lane t l) := by
  unfold out0_3 slopeAt incline squash
  frame_out
  pointwise [k0_pay5, k0_pay3, k0_pay2, k0_pay1]
  simp only [gate_rows, up_rows, zero_sub]

theorem block_gate (r : Fin 2176) (l : Fin 256) : out0_4 (iblk m c 0 t) (iblk m c 1 t) (iblk m c 2 t) (ix2 r l) = gateAt (branchA m c) r (lane t l) := by
  unfold out0_4 gateAt squash
  frame_out
  pointwise [k0_pay6, k0_pay4, k0_pay3, k0_pay1]
  simp only [gate_rows, zero_sub]

theorem block_hidden (r : Fin 2176) (l : Fin 256) : out0_5 (iblk m c 0 t) (iblk m c 1 t) (iblk m c 2 t) (ix2 r l) = hiddenAt (branchA m c) (branchB m c) r (lane t l) := by
  unfold out0_5 hiddenAt gateAt squash
  frame_out
  pointwise [k0_pay8, k0_pay7, k0_pay4, k0_pay3, k0_pay2, k0_pay1]
  simp only [gate_rows, up_rows, zero_sub]

theorem block_turned (r : Fin 2176) (l : Fin 256) : out0_6 (iblk m c 0 t) (iblk m c 1 t) (iblk m c 2 t) (ix2 l r) = hiddenAt (branchA m c) (branchB m c) r (lane t l) := by
  unfold out0_6 hiddenAt gateAt squash
  frame_out
  pointwise [k0_pay9, k0_pay7, k0_pay4, k0_pay3, k0_pay2, k0_pay1]
  simp only [gate_rows, up_rows, zero_sub]

theorem final_incline : (dats m 0 c).arrAt 3 cfg0.N = table (slopeAt (branchA m c) (branchB m c)) := by
  refine (dats m 0 c).arrAt_eq_of_covers 3 _ (by decide +kernel) fun t hf y => ?_
  refine Eq.trans ?_ (congrArg (table (slopeAt (branchA m c) (branchB m c))) (?_ : ix2 (y 0 : Fin 2176) (lane t (y 1)) = ((cfg0.win 3).blk t).view.emb y))
  · blk_simp
    rw [after0_3]
    exact (congrArg _ (eq_ix2 y)).trans (block_incline t (y 0) (y 1))
  · obtain ⟨-, -, -, e, -⟩ := idx t
    blk_ext [e, lane]

theorem final_gate : (dats m 0 c).arrAt 4 cfg0.N = table (gateAt (branchA m c)) := by
  refine (dats m 0 c).arrAt_eq_of_covers 4 _ (by decide +kernel) fun t hf y => ?_
  refine Eq.trans ?_ (congrArg (table (gateAt (branchA m c))) (?_ : ix2 (y 0 : Fin 2176) (lane t (y 1)) = ((cfg0.win 4).blk t).view.emb y))
  · blk_simp
    rw [after0_4]
    exact (congrArg _ (eq_ix2 y)).trans (block_gate t (y 0) (y 1))
  · obtain ⟨-, -, -, -, e, -⟩ := idx t
    blk_ext [e, lane]

theorem final_hidden : (dats m 0 c).arrAt 5 cfg0.N = table (hiddenAt (branchA m c) (branchB m c)) := by
  refine (dats m 0 c).arrAt_eq_of_covers 5 _ (by decide +kernel) fun t hf y => ?_
  refine Eq.trans ?_ (congrArg (table (hiddenAt (branchA m c) (branchB m c))) (?_ : ix2 (y 0 : Fin 2176) (lane t (y 1)) = ((cfg0.win 5).blk t).view.emb y))
  · blk_simp
    rw [after0_5]
    exact (congrArg _ (eq_ix2 y)).trans (block_hidden t (y 0) (y 1))
  · obtain ⟨-, -, -, -, -, e, -⟩ := idx t
    blk_ext [e, lane]

theorem final_turned : (dats m 0 c).arrAt 6 cfg0.N = turned (hiddenAt (branchA m c) (branchB m c)) := by
  refine (dats m 0 c).arrAt_eq_of_covers 6 _ (by decide +kernel) fun t hf y => ?_
  refine Eq.trans ?_ (congrArg (turned (hiddenAt (branchA m c) (branchB m c))) (?_ : ix2 (lane t (y 0)) (y 1 : Fin 2176) = ((cfg0.win 6).blk t).view.emb y))
  · blk_simp
    rw [after0_6]
    exact (congrArg _ (eq_ix2 y)).trans (block_turned t (y 1) (y 0))
  · obtain ⟨-, -, -, -, -, -, e⟩ := idx t
    blk_ext [e, lane]

end Cert.KernelUpGateIdeal.Final
end
-- ==== Proof.UpGate.Reference.lean ====
module

public import proofs.«01_k».proof.Proof.Gate.Forward
public import proofs.«01_k».proof.Proof.Gen.ReferenceUpGateIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ReferenceUpGateIdeal.Final

open Cert.ReferenceUpGateIdeal Cert.ReferenceUpGateIdeal.Read Cert.Gate

/-! The reference's results. -/

variable (x : FVec Ideal S2064x2048 .f32) (a : FVec Ideal S2064x5632 .f32) (u : FVec Ideal S2048x5632 .f32)

theorem ref_up : val_main_v0 (F := Ideal) x u = prod x u := by
  funext y
  obtain ⟨i, l, rfl⟩ : ∃ i l, y = ix2 i l := ⟨y 0, y 1, eq_ix2 y⟩
  unfold prod
  pointwise [val_main_v0]

theorem ref_squash (i : Fin 2064) (l : Fin 5632) : val_main_v1_2 (F := Ideal) a (ix2 i l) = squash (a (ix2 i l)) := by
  unfold squash
  skip
  pointwise [val_main_v1_2, val_main_call0_v0, val_main_call0_v1, val_main_call0_v2, val_main_call0_v3, val_main_call0_v4, val_main_call0_cst, val_main_call0_cst_0]

theorem ref_silu (i : Fin 2064) (l : Fin 5632) : val_main_v1_0 (F := Ideal) a (ix2 i l) = a (ix2 i l) * squash (a (ix2 i l)) := by
  rw [← ref_squash]
  pointwise [val_main_v1_0]

theorem ref_rise (i : Fin 2064) (l : Fin 5632) :
    val_main_v1_1 (F := Ideal) a (ix2 i l) = squash (a (ix2 i l)) * (1 - squash (a (ix2 i l))) := by
  rw [← ref_squash]
  pointwise [val_main_v1_1, val_main_call0_v7, val_main_call0_v6, val_main_call0_cst_1]

theorem ref_ones (j) : val_main_v3 (F := Ideal) j = 1 := by
  pointwise [val_main_v3, val_main_cst]

theorem ref_hidden (i : Fin 2064) (l : Fin 5632) :
    val_main_v2 (F := Ideal) x a u (ix2 i l) = a (ix2 i l) * squash (a (ix2 i l)) * (prod x u) (ix2 i l) := by
  rw [← ref_silu, ← ref_up]
  pointwise [val_main_v2]

theorem ref_factor (i : Fin 2064) (l : Fin 5632) : val_main_v4 (F := Ideal) a (ix2 i l) = a (ix2 i l) * squash (a (ix2 i l)) := by
  rw [← ref_silu]
  pointwise [val_main_v4]
  rw [ref_ones, mul_one]

theorem ref_branch (i : Fin 2064) (l : Fin 5632) : val_main_v5 (F := Ideal) x u (ix2 i l) = (prod x u) (ix2 i l) := by
  rw [← ref_up]
  pointwise [val_main_v5]
  rw [ref_ones, one_mul]

theorem ref_slope (i : Fin 2064) (l : Fin 5632) : val_main_v6 (F := Ideal) x a u (ix2 i l)
    = (prod x u) (ix2 i l) * squash (a (ix2 i l)) + a (ix2 i l) * (prod x u) (ix2 i l) * (squash (a (ix2 i l)) * (1 - squash (a (ix2 i l)))) := by
  rw [← ref_rise, ← ref_squash, ← ref_branch]
  pointwise [val_main_v6, val_main_call1_v0, val_main_call1_v1, val_main_call1_v2]

/-! The results, continued by zeros. -/

theorem res_slopes (real : ∀ i, ∃ b : ℝ, prod x u i = b) : val_main_v8 (F := Ideal) x a u = table (slopeAt a (prod x u)) := by
  funext y
  obtain ⟨r, l, rfl⟩ : ∃ r l, y = ix2 r l := ⟨y 0, y 1, eq_ix2 y⟩
  refine Eq.trans ?_ (slopeAt_apart _ _ real r l).symm
  pointwise [val_main_v8, val_main_v7]
  by_cases p : r.val < 2064
  · rw [dif_pos p, dif_pos (by omega)]
    exact ref_slope x a u ⟨r.val, p⟩ l
  · rw [dif_neg p, dif_neg (by omega)]
    pointwise [val_main_call2_v0, val_main_c]
    exact Reals.sitofp_zero

theorem res_factors : val_main_v10 (F := Ideal) a = table (gateAt a) := by
  funext y
  obtain ⟨r, l, rfl⟩ : ∃ r l, y = ix2 r l := ⟨y 0, y 1, eq_ix2 y⟩
  refine Eq.trans ?_ (gateAt_eq _ r l).symm
  pointwise [val_main_v10, val_main_v9]
  by_cases p : r.val < 2064
  · rw [dif_pos p, dif_pos (by omega)]
    exact ref_factor a ⟨r.val, p⟩ l
  · rw [dif_neg p, dif_neg (by omega)]
    pointwise [val_main_call3_v0, val_main_c_0]
    exact Reals.sitofp_zero

theorem res_hiddens : val_main_v12 (F := Ideal) x a u = table (hiddenAt a (prod x u)) := by
  funext y
  obtain ⟨r, l, rfl⟩ : ∃ r l, y = ix2 r l := ⟨y 0, y 1, eq_ix2 y⟩
  refine Eq.trans ?_ (hiddenAt_eq _ _ r l).symm
  pointwise [val_main_v12, val_main_v11]
  by_cases p : r.val < 2064
  · rw [dif_pos p, dif_pos (by omega)]
    exact ref_hidden x a u ⟨r.val, p⟩ l
  · rw [dif_neg p, dif_neg (by omega)]
    pointwise [val_main_call4_v0, val_main_c_1]
    exact Reals.sitofp_zero

theorem res_turneds : val_main_v15 (F := Ideal) x a u = turned (hiddenAt a (prod x u)) := by
  funext y
  obtain ⟨l, r, rfl⟩ : ∃ l r, y = ix2 l r := ⟨y 0, y 1, eq_ix2 y⟩
  refine Eq.trans ?_ (hiddenAt_eq _ _ r l).symm
  pointwise [val_main_v15, val_main_v14, val_main_v13]
  by_cases p : r.val < 2064
  · rw [dif_pos p, dif_pos (by omega)]
    exact ref_hidden x a u ⟨r.val, p⟩ l
  · rw [dif_neg p, dif_neg (by omega)]
    pointwise [val_main_call5_v0, val_main_c_2]
    exact Reals.sitofp_zero

end Cert.ReferenceUpGateIdeal.Final
end
-- ==== Proof.UpGate.Claims.lean ====
module

public import proofs.«01_k».proof.Defs
public import proofs.«01_k».proof.Pre_up_gate_finite
public import proofs.«01_k».proof.Proof.UpGate.Arrays
public import proofs.«01_k».proof.Proof.UpGate.Reference
public import proofs.«01_k».proof.Proof.Gen.KernelUpGateIdeal.Frame
public import proofs.«01_k».proof.Proof.Gen.KernelUpGateIdeal.Value
public import proofs.«01_k».proof.Proof.Gen.ReferenceUpGateIdeal.Run
public import proofs.«01_k».proof.Proof.Gen.ReferenceUpGateIdeal.Read
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open scoped BigOperators

namespace Cert.Proof.UpGate

/-! The claims about the gated layer's values. -/

open Cert.KernelUpGateIdeal.Final Cert.Gate

/-- What the printed precondition needs of its shapes. -/
instance facts : Cert.Pre_up_gate_finite.Facts := ⟨by decide, by decide, by decide, by decide, by decide⟩

open Cert.Pre_up_gate_finite in
theorem real_of (x : FVec Ideal S2064x2048 .f32) (g : FVec Ideal S2064x5632 .f32) (u : FVec Ideal S2048x5632 .f32)
    (given : fn (F := Ideal) x g u = fun _ => 1#1) (i) : ∃ r : ℝ, prod x u i = r := by
  have e := congrFun given ix0
  simp only [fn] at e
  obtain ⟨ex, eu⟩ := IntOp.andi_eq_one.1 e
  exact prod_real x u (fun i => ⟨_, Reals.real_of_abs_lt x _ (fun _ => Reals.inf_word) i (Host.reduce_andi_all _ _ _ _ _ ex i)⟩)
    (fun i => ⟨_, Reals.real_of_abs_lt u _ (fun _ => Reals.inf_word) i (Host.reduce_andi_all _ _ _ _ _ eu i)⟩) i

theorem frame_kernel_finite : Cert.quiescent_KernelUpGateIdeal_pre_up_gate_finite :=
  fun m g _ => Cert.KernelUpGateIdeal.Gen.frame m g

theorem frame_reference : Cert.quiescent_ReferenceUpGateIdeal := by
  intro m g _
  exact (θ_run _ _ _).mono (fun r h => ⟨fun c => (h c).2.2.2.2, sem_eq_zero_of_no_sems (by decide) r.2⟩)
    (Cert.ReferenceUpGateIdeal.Value.run m g)

theorem frame_reference_finite : Cert.quiescent_ReferenceUpGateIdeal_pre_up_gate_finite :=
  fun m g _ => frame_reference m g trivial

theorem equal : Cert.algebraic_KernelUpGateIdeal_ReferenceUpGateIdeal_pre_up_gate_finite := by
  intro m g m' g' finite hag
  have given : ∀ c i, ∃ r : ℝ, prod (argX m c) (argU m c) i = r := fun c => real_of _ _ _ (finite c)
  refine ⟨fun c => table (slopeAt (branchA m c) (branchB m c)), fun c => table (gateAt (branchA m c)),
    fun c => table (hiddenAt (branchA m c) (branchB m c)), fun c => turned (hiddenAt (branchA m c) (branchB m c)), ?_, ?_⟩
  · refine (θ_run _ _ _).mono (fun r h c => ?_) (Cert.KernelUpGateIdeal.Value.run_blocks m g)
    exact ⟨(h c).1.trans final_incline, (h c).2.1.trans final_gate, (h c).2.2.1.trans final_hidden, (h c).2.2.2.1.trans final_turned, (h c).2.2.2.2⟩
  · refine (θ_run _ _ _).mono (fun r h c => ?_) (Cert.ReferenceUpGateIdeal.Value.run m' g')
    have e := h c
    obtain ⟨a0, a1, a2⟩ := hag c
    rw [a0, a1, a2] at e
    exact ⟨(e.1.trans (Cert.ReferenceUpGateIdeal.Read.val_main_v8_eq _ _ _)).trans (Cert.ReferenceUpGateIdeal.Final.res_slopes _ _ _ (given c)),
      (e.2.1.trans (Cert.ReferenceUpGateIdeal.Read.val_main_v10_eq _)).trans (Cert.ReferenceUpGateIdeal.Final.res_factors _),
      (e.2.2.1.trans (Cert.ReferenceUpGateIdeal.Read.val_main_v12_eq _ _ _)).trans (Cert.ReferenceUpGateIdeal.Final.res_hiddens _ _ _),
      (e.2.2.2.1.trans (Cert.ReferenceUpGateIdeal.Read.val_main_v15_eq _ _ _)).trans (Cert.ReferenceUpGateIdeal.Final.res_turneds _ _ _), (h c).2.2.2.2⟩

end Cert.Proof.UpGate
end
-- ==== Proof.Up.Arrays.lean ====
module

public import proofs.«01_k».proof.Proof.Gate.Forward
public import proofs.«01_k».proof.Proof.Gen.KernelUpIdeal.Value
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.KernelUpIdeal.Final

open Cert.KernelUpIdeal Cert.KernelUpIdeal.Gen Cert.Gate

/-! The kernel's results, from its blocks. -/

variable (m : (ℓ : Loc nD τ sig) → Buf (Elt Ideal) ℓ) (c : Dev nD)

abbrev argX : FVec Ideal S2064x2048 .f32 := m ((c.tc : Thread nD τ).loc main_arg0)
abbrev argG : FVec Ideal S2048x5632 .f32 := m ((c.tc : Thread nD τ).loc main_arg1)
abbrev argU : FVec Ideal S2048x5632 .f32 := m ((c.tc : Thread nD τ).loc main_arg2)

/-- The two branches. -/
abbrev branchA := prod (argX m c) (argG m c)
abbrev branchB := prod (argX m c) (argU m c)

theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] ∧ win0_6.index t = ![t.val, 0] :=
  (by decide +kernel : ∀ t : Fin grid0.N, _)

/-- The lanes of the block at a grid point. -/
def lane (t : Fin cfg0.N) (l : Fin 256) : Fin 5632 := ⟨t.val * 256 + l.val, by have := t.isLt.trans_eq N_0; omega⟩

variable {m c}

theorem host_x : V m c main_v1 = fun j => truncf .bf16 (pad S2176x2048 ![0, 0] ![112, 0] ![0, 0] (argX m c) (sitofp (F := Ideal) .f32 (constantI S_ 32 0#32)) pads_S2064x2048_S2176x2048_01120_000 h_S_) bitsLt_bf16_f32 j := by
  unfold V; after_reads_simp; rfl

theorem host_rows (r : Fin 2176) (k : Fin 2048) : V m c main_v1 (ix2 r k) = if p : r.val < 2064 then argX m c (ix2 ⟨r.val, p⟩ k) else 0 := by
  rw [host_x]
  pointwise []
  by_cases p : r.val < 2064
  · rw [dif_pos p, dif_pos (by omega)]
  · rw [dif_neg p, dif_neg (by omega)]; exact Reals.sitofp_zero

variable (t : Fin cfg0.N)

theorem read_rows (r : Fin 2176) (k : Fin 2048) : iblk m c 0 t (ix2 r k) = if p : r.val < 2064 then argX m c (ix2 ⟨r.val, p⟩ k) else 0 := by
  refine Eq.trans ?_ (host_rows r k)
  obtain ⟨e, -⟩ := idx t
  blk_ext [iblk, e]

theorem host_ups : V m c main_v3 = fun j => truncf .bf16 (argU m c) bitsLt_bf16_f32 j := by unfold V; after_reads_simp

theorem host_up (k : Fin 2048) (l : Fin 5632) : V m c main_v3 (ix2 k l) = argU m c (ix2 k l) := by rw [host_ups]; rfl

theorem read_up (k : Fin 2048) (l : Fin 256) : iblk m c 2 t (ix2 k l) = argU m c (ix2 k (lane t l)) := by
  refine Eq.trans ?_ (host_up k (lane t l))
  obtain ⟨-, -, e, -⟩ := idx t
  blk_ext [iblk, e, lane]

theorem up_rows (r : Fin 2176) (l : Fin 256) :
    ∑ k : Fin 2048, (show EReal from iblk m c 0 t (ix2 r k)) * (show EReal from iblk m c 2 t (ix2 k l)) = past (branchB m c) r (lane t l) := by
  simp only [read_up]
  exact past_prod (argX m c) (argU m c) (fun r k => iblk m c 0 t (ix2 r k)) (read_rows t) r (lane t l)

theorem host_gates : V m c main_v2 = fun j => truncf .bf16 (argG m c) bitsLt_bf16_f32 j := by unfold V; after_reads_simp

theorem host_gate (k : Fin 2048) (l : Fin 5632) : V m c main_v2 (ix2 k l) = argG m c (ix2 k l) := by rw [host_gates]; rfl

theorem read_gate (k : Fin 2048) (l : Fin 256) : iblk m c 1 t (ix2 k l) = argG m c (ix2 k (lane t l)) := by
  refine Eq.trans ?_ (host_gate k (lane t l))
  obtain ⟨-, e, -⟩ := idx t
  blk_ext [iblk, e, lane]

theorem gate_rows (r : Fin 2176) (l : Fin 256) :
    ∑ k : Fin 2048, (show EReal from iblk m c 0 t (ix2 r k)) * (show EReal from iblk m c 1 t (ix2 k l)) = past (branchA m c) r (lane t l) := by
  simp only [read_gate]
  exact past_prod (argX m c) (argG m c) (fun r k => iblk m c 0 t (ix2 r k)) (read_rows t) r (lane t l)

theorem block_incline (r : Fin 2176) (l : Fin 256) : (outsAt0 m c t).1 (ix2 r l) = slopeAt (branchA m c) (branchB m c) r (lane t l) := by
  unfold outsAt0 slopeAt incline squash
  frame_out
  (open_payloads; pointwise)
  simp only [gate_rows, up_rows, zero_sub]

theorem block_gate (r : Fin 2176) (l : Fin 256) : (outsAt0 m c t).2.1 (ix2 r l) = gateAt (branchA m c) r (lane t l) := by
  unfold outsAt0 gateAt squash
  frame_out
  (open_payloads; pointwise)
  simp only [gate_rows, zero_sub]

theorem block_hidden (r : Fin 2176) (l : Fin 256) : (outsAt0 m c t).2.2.1 (ix2 r l) = hiddenAt (branchA m c) (branchB m c) r (lane t l) := by
  unfold outsAt0 hiddenAt gateAt squash
  frame_out
  (open_payloads; pointwise)
  simp only [gate_rows, up_rows, zero_sub]

theorem block_turned (r : Fin 2176) (l : Fin 256) : (outsAt0 m c t).2.2.2 (ix2 l r) = hiddenAt (branchA m c) (branchB m c) r (lane t l) := by
  unfold outsAt0 hiddenAt gateAt squash
  frame_out
  (open_payloads; pointwise)
  simp only [gate_rows, up_rows, zero_sub]

theorem final_incline : (dats m 0 c).arrAt 3 cfg0.N = table (slopeAt (branchA m c) (branchB m c)) := by
  refine (dats m 0 c).arrAt_eq_of_covers 3 _ (by decide +kernel) fun t hf y => ?_
  refine Eq.trans ?_ (congrArg (table (slopeAt (branchA m c) (branchB m c))) (?_ : ix2 (y 0 : Fin 2176) (lane t (y 1)) = ((cfg0.win 3).blk t).view.emb y))
  · blk_simp
    rw [after0_3]
    exact (congrArg _ (eq_ix2 y)).trans (block_incline t (y 0) (y 1))
  · obtain ⟨-, -, -, e, -⟩ := idx t
    blk_ext [e, lane]

theorem final_gate : (dats m 0 c).arrAt 4 cfg0.N = table (gateAt (branchA m c)) := by
  refine (dats m 0 c).arrAt_eq_of_covers 4 _ (by decide +kernel) fun t hf y => ?_
  refine Eq.trans ?_ (congrArg (table (gateAt (branchA m c))) (?_ : ix2 (y 0 : Fin 2176) (lane t (y 1)) = ((cfg0.win 4).blk t).view.emb y))
  · blk_simp
    rw [after0_4]
    exact (congrArg _ (eq_ix2 y)).trans (block_gate t (y 0) (y 1))
  · obtain ⟨-, -, -, -, e, -⟩ := idx t
    blk_ext [e, lane]

theorem final_hidden : (dats m 0 c).arrAt 5 cfg0.N = table (hiddenAt (branchA m c) (branchB m c)) := by
  refine (dats m 0 c).arrAt_eq_of_covers 5 _ (by decide +kernel) fun t hf y => ?_
  refine Eq.trans ?_ (congrArg (table (hiddenAt (branchA m c) (branchB m c))) (?_ : ix2 (y 0 : Fin 2176) (lane t (y 1)) = ((cfg0.win 5).blk t).view.emb y))
  · blk_simp
    rw [after0_5]
    exact (congrArg _ (eq_ix2 y)).trans (block_hidden t (y 0) (y 1))
  · obtain ⟨-, -, -, -, -, e, -⟩ := idx t
    blk_ext [e, lane]

theorem final_turned : (dats m 0 c).arrAt 6 cfg0.N = turned (hiddenAt (branchA m c) (branchB m c)) := by
  refine (dats m 0 c).arrAt_eq_of_covers 6 _ (by decide +kernel) fun t hf y => ?_
  refine Eq.trans ?_ (congrArg (turned (hiddenAt (branchA m c) (branchB m c))) (?_ : ix2 (lane t (y 0)) (y 1 : Fin 2176) = ((cfg0.win 6).blk t).view.emb y))
  · blk_simp
    rw [after0_6]
    exact (congrArg _ (eq_ix2 y)).trans (block_turned t (y 1) (y 0))
  · obtain ⟨-, -, -, -, -, -, e⟩ := idx t
    blk_ext [e, lane]

end Cert.KernelUpIdeal.Final
end
-- ==== Proof.Up.Reference.lean ====
module

public import proofs.«01_k».proof.Proof.Gate.Forward
public import proofs.«01_k».proof.Proof.Gen.ReferenceUpIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ReferenceUpIdeal.Final

open Cert.ReferenceUpIdeal Cert.ReferenceUpIdeal.Read Cert.Gate

/-! The reference's results. -/

variable (x : FVec Ideal S2064x2048 .f32) (g u : FVec Ideal S2048x5632 .f32)

theorem ref_up : val_main_v1 (F := Ideal) x u = prod x u := by
  funext y
  obtain ⟨i, l, rfl⟩ : ∃ i l, y = ix2 i l := ⟨y 0, y 1, eq_ix2 y⟩
  unfold prod
  pointwise [val_main_v1]

theorem ref_gate : val_main_v0 (F := Ideal) x g = prod x g := by
  funext y
  obtain ⟨i, l, rfl⟩ : ∃ i l, y = ix2 i l := ⟨y 0, y 1, eq_ix2 y⟩
  unfold prod
  pointwise [val_main_v0]

theorem ref_squash (i : Fin 2064) (l : Fin 5632) : val_main_v2_2 (F := Ideal) x g (ix2 i l) = squash ((prod x g) (ix2 i l)) := by
  unfold squash
  simp only [← ref_gate]
  pointwise [val_main_v2_2, val_main_call0_v0, val_main_call0_v1, val_main_call0_v2, val_main_call0_v3, val_main_call0_v4, val_main_call0_cst, val_main_call0_cst_0]

theorem ref_silu (i : Fin 2064) (l : Fin 5632) : val_main_v2_0 (F := Ideal) x g (ix2 i l) = (prod x g) (ix2 i l) * squash ((prod x g) (ix2 i l)) := by
  rw [← ref_squash, ← ref_gate]
  pointwise [val_main_v2_0]

theorem ref_rise (i : Fin 2064) (l : Fin 5632) :
    val_main_v2_1 (F := Ideal) x g (ix2 i l) = squash ((prod x g) (ix2 i l)) * (1 - squash ((prod x g) (ix2 i l))) := by
  rw [← ref_squash]
  pointwise [val_main_v2_1, val_main_call0_v7, val_main_call0_v6, val_main_call0_cst_1]

theorem ref_ones (j) : val_main_v4 (F := Ideal) j = 1 := by
  pointwise [val_main_v4, val_main_cst]

theorem ref_hidden (i : Fin 2064) (l : Fin 5632) :
    val_main_v3 (F := Ideal) x g u (ix2 i l) = (prod x g) (ix2 i l) * squash ((prod x g) (ix2 i l)) * (prod x u) (ix2 i l) := by
  rw [← ref_silu, ← ref_up]
  pointwise [val_main_v3]

theorem ref_factor (i : Fin 2064) (l : Fin 5632) : val_main_v5 (F := Ideal) x g (ix2 i l) = (prod x g) (ix2 i l) * squash ((prod x g) (ix2 i l)) := by
  rw [← ref_silu]
  pointwise [val_main_v5]
  rw [ref_ones, mul_one]

theorem ref_branch (i : Fin 2064) (l : Fin 5632) : val_main_v6 (F := Ideal) x u (ix2 i l) = (prod x u) (ix2 i l) := by
  rw [← ref_up]
  pointwise [val_main_v6]
  rw [ref_ones, one_mul]

theorem ref_slope (i : Fin 2064) (l : Fin 5632) : val_main_v7 (F := Ideal) x g u (ix2 i l)
    = (prod x u) (ix2 i l) * squash ((prod x g) (ix2 i l)) + (prod x g) (ix2 i l) * (prod x u) (ix2 i l) * (squash ((prod x g) (ix2 i l)) * (1 - squash ((prod x g) (ix2 i l)))) := by
  rw [← ref_rise, ← ref_squash, ← ref_branch, ← ref_gate]
  pointwise [val_main_v7, val_main_call1_v0, val_main_call1_v1, val_main_call1_v2]

/-! The results, continued by zeros. -/

theorem res_slopes (real : ∀ i, ∃ b : ℝ, prod x u i = b) : val_main_v9 (F := Ideal) x g u = table (slopeAt (prod x g) (prod x u)) := by
  funext y
  obtain ⟨r, l, rfl⟩ : ∃ r l, y = ix2 r l := ⟨y 0, y 1, eq_ix2 y⟩
  refine Eq.trans ?_ (slopeAt_apart _ _ real r l).symm
  pointwise [val_main_v9, val_main_v8]
  by_cases p : r.val < 2064
  · rw [dif_pos p, dif_pos (by omega)]
    exact ref_slope x g u ⟨r.val, p⟩ l
  · rw [dif_neg p, dif_neg (by omega)]
    pointwise [val_main_call2_v0, val_main_c]
    exact Reals.sitofp_zero

theorem res_factors : val_main_v11 (F := Ideal) x g = table (gateAt (prod x g)) := by
  funext y
  obtain ⟨r, l, rfl⟩ : ∃ r l, y = ix2 r l := ⟨y 0, y 1, eq_ix2 y⟩
  refine Eq.trans ?_ (gateAt_eq _ r l).symm
  pointwise [val_main_v11, val_main_v10]
  by_cases p : r.val < 2064
  · rw [dif_pos p, dif_pos (by omega)]
    exact ref_factor x g ⟨r.val, p⟩ l
  · rw [dif_neg p, dif_neg (by omega)]
    pointwise [val_main_call3_v0, val_main_c_0]
    exact Reals.sitofp_zero

theorem res_hiddens : val_main_v13 (F := Ideal) x g u = table (hiddenAt (prod x g) (prod x u)) := by
  funext y
  obtain ⟨r, l, rfl⟩ : ∃ r l, y = ix2 r l := ⟨y 0, y 1, eq_ix2 y⟩
  refine Eq.trans ?_ (hiddenAt_eq _ _ r l).symm
  pointwise [val_main_v13, val_main_v12]
  by_cases p : r.val < 2064
  · rw [dif_pos p, dif_pos (by omega)]
    exact ref_hidden x g u ⟨r.val, p⟩ l
  · rw [dif_neg p, dif_neg (by omega)]
    pointwise [val_main_call4_v0, val_main_c_1]
    exact Reals.sitofp_zero

theorem res_turneds : val_main_v16 (F := Ideal) x g u = turned (hiddenAt (prod x g) (prod x u)) := by
  funext y
  obtain ⟨l, r, rfl⟩ : ∃ l r, y = ix2 l r := ⟨y 0, y 1, eq_ix2 y⟩
  refine Eq.trans ?_ (hiddenAt_eq _ _ r l).symm
  pointwise [val_main_v16, val_main_v15, val_main_v14]
  by_cases p : r.val < 2064
  · rw [dif_pos p, dif_pos (by omega)]
    exact ref_hidden x g u ⟨r.val, p⟩ l
  · rw [dif_neg p, dif_neg (by omega)]
    pointwise [val_main_call5_v0, val_main_c_2]
    exact Reals.sitofp_zero

end Cert.ReferenceUpIdeal.Final
end
-- ==== Proof.Up.Claims.lean ====
module

public import proofs.«01_k».proof.Defs
public import proofs.«01_k».proof.Pre_up_finite
public import proofs.«01_k».proof.Proof.Up.Arrays
public import proofs.«01_k».proof.Proof.Up.Reference
public import proofs.«01_k».proof.Proof.Gen.KernelUpIdeal.Frame
public import proofs.«01_k».proof.Proof.Gen.KernelUpIdeal.Value
public import proofs.«01_k».proof.Proof.Gen.ReferenceUpIdeal.Run
public import proofs.«01_k».proof.Proof.Gen.ReferenceUpIdeal.Read
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open scoped BigOperators

namespace Cert.Proof.Up

/-! The claims about the gated layer's values. -/

open Cert.KernelUpIdeal.Final Cert.Gate

/-- What the printed precondition needs of its shapes. -/
instance facts : Cert.Pre_up_finite.Facts := ⟨by decide, by decide, by decide, by decide, by decide⟩

open Cert.Pre_up_finite in
theorem real_of (x : FVec Ideal S2064x2048 .f32) (g : FVec Ideal S2048x5632 .f32) (u : FVec Ideal S2048x5632 .f32)
    (given : fn (F := Ideal) x g u = fun _ => 1#1) (i) : ∃ r : ℝ, prod x u i = r := by
  have e := congrFun given ix0
  simp only [fn] at e
  obtain ⟨ex, eu⟩ := IntOp.andi_eq_one.1 e
  exact prod_real x u (fun i => ⟨_, Reals.real_of_abs_lt x _ (fun _ => Reals.inf_word) i (Host.reduce_andi_all _ _ _ _ _ ex i)⟩)
    (fun i => ⟨_, Reals.real_of_abs_lt u _ (fun _ => Reals.inf_word) i (Host.reduce_andi_all _ _ _ _ _ eu i)⟩) i

theorem frame_kernel_finite : Cert.quiescent_KernelUpIdeal_pre_up_finite :=
  fun m g _ => Cert.KernelUpIdeal.Gen.frame m g

theorem frame_reference : Cert.quiescent_ReferenceUpIdeal := by
  intro m g _
  exact (θ_run _ _ _).mono (fun r h => ⟨fun c => (h c).2.2.2.2, sem_eq_zero_of_no_sems (by decide) r.2⟩)
    (Cert.ReferenceUpIdeal.Value.run m g)

theorem frame_reference_finite : Cert.quiescent_ReferenceUpIdeal_pre_up_finite :=
  fun m g _ => frame_reference m g trivial

theorem equal : Cert.algebraic_KernelUpIdeal_ReferenceUpIdeal_pre_up_finite := by
  intro m g m' g' finite hag
  have given : ∀ c i, ∃ r : ℝ, prod (argX m c) (argU m c) i = r := fun c => real_of _ _ _ (finite c)
  refine ⟨fun c => table (slopeAt (branchA m c) (branchB m c)), fun c => table (gateAt (branchA m c)),
    fun c => table (hiddenAt (branchA m c) (branchB m c)), fun c => turned (hiddenAt (branchA m c) (branchB m c)), ?_, ?_⟩
  · refine (θ_run _ _ _).mono (fun r h c => ?_) (Cert.KernelUpIdeal.Value.run_blocks m g)
    exact ⟨(h c).1.trans final_incline, (h c).2.1.trans final_gate, (h c).2.2.1.trans final_hidden, (h c).2.2.2.1.trans final_turned, (h c).2.2.2.2⟩
  · refine (θ_run _ _ _).mono (fun r h c => ?_) (Cert.ReferenceUpIdeal.Value.run m' g')
    have e := h c
    obtain ⟨a0, a1, a2⟩ := hag c
    rw [a0, a1, a2] at e
    exact ⟨(e.1.trans (Cert.ReferenceUpIdeal.Read.val_main_v9_eq _ _ _)).trans (Cert.ReferenceUpIdeal.Final.res_slopes _ _ _ (given c)),
      (e.2.1.trans (Cert.ReferenceUpIdeal.Read.val_main_v11_eq _ _)).trans (Cert.ReferenceUpIdeal.Final.res_factors _ _),
      (e.2.2.1.trans (Cert.ReferenceUpIdeal.Read.val_main_v13_eq _ _ _)).trans (Cert.ReferenceUpIdeal.Final.res_hiddens _ _ _),
      (e.2.2.2.1.trans (Cert.ReferenceUpIdeal.Read.val_main_v16_eq _ _ _)).trans (Cert.ReferenceUpIdeal.Final.res_turneds _ _ _), (h c).2.2.2.2⟩

end Cert.Proof.Up
end
-- ==== Proof.ForgetFwd.Spec.lean ====
module

public import proofs.«01_k».proof.Proof.Pool.Math

@[expose] public section

set_option maxRecDepth 16384

noncomputable section

open Idealize.ShloMosaic Idealize.ShloMosaic.TcCoe Idealize.SL.Sem
open Idealize.ShloMosaic.Pipeline (Dat)
open scoped BigOperators

namespace Cert.ForgetFwd

open Cert.Forget

/-! The forward pass of the forget gate: running sums of the logarithms of the logistic function. -/

/-- The arguments. -/
structure Inputs where
  z : FVec Ideal ⟨2, ![2064, 4104]⟩ .f32
  b : FVec Ideal ⟨2, ![1, 8]⟩ .f32

/-- The logits, continued by zeros. -/
def part (x : Inputs) (i l : ℕ) : EReal := if p : i < 2064 ∧ l < 8 then x.z (ix2 ⟨i, p.1⟩ ⟨4096 + l, by omega⟩) else 0
/-- The bias, continued by zeros. -/
def shift (x : Inputs) (l : ℕ) : EReal := if p : l < 8 then x.b (ix2 0 ⟨l, p⟩) else 0

/-- The logarithm of the logistic function. -/
def logistics (f : EReal) : EReal := min f 0 - Ideal.log (1 + Ideal.exp (-max f (-f)))

/-- A gate's logarithm. -/
def entry (x : Inputs) (l i : ℕ) : EReal := logistics (part x i l + shift x l)

/-- The running sums. -/
def res (x : Inputs) : FVec Ideal ⟨2, ![128, 2176]⟩ .f32 := fun y => run (entry x (y 0).val) ((y 1).val + 1) 0

/-- As the negated softened maximum of the negated argument. -/
theorem logistics_soft (f : EReal) : logistics f = -(max (-f) 0 + Ideal.log1p (Ideal.exp (-max (-f) f))) := by
  have low : min f 0 = -max (-f) 0 := by
    rcases le_total f 0 with k | k
    · rw [min_eq_left k, max_eq_left (EReal.neg_nonneg.2 k), neg_neg]
    · rw [min_eq_right k, max_eq_right (by rw [← neg_zero]; exact EReal.neg_le_neg_iff.2 k), neg_zero]
  have real : ∃ t : ℝ, Ideal.log (1 + Ideal.exp (-max (-f) f)) = t := by
    induction f using EReal.rec with
    | bot => exact ⟨0, by simp [← EReal.coe_one, Ideal.log_coe]⟩
    | top => exact ⟨0, by simp [← EReal.coe_one, Ideal.log_coe]⟩
    | coe r =>
      refine ⟨Real.log (1 + Real.exp (-max (-r) r)), ?_⟩
      rw [← EReal.coe_neg, ← EReal.coe_strictMono.monotone.map_max, ← EReal.coe_neg, Ideal.exp_coe, ← EReal.coe_one, ← EReal.coe_add, Ideal.log_coe,
        if_neg (not_le.2 (by positivity))]
  obtain ⟨t, e⟩ := real
  rw [logistics, low, max_comm f, Ideal.log1p, e, EReal.neg_add (Or.inr (EReal.coe_ne_top _)) (Or.inr (EReal.coe_ne_bot _))]

variable {a n : ℕ} (x : (⟨2, ![a, n]⟩ : Shape).Idx → EReal)

/-- The windows of a table's rows that begin at the start. -/
theorem from_start {m : ℕ} (hm : m + 1 = n)
    (h : (⟨2, ![a, n]⟩ : Shape).ReduceWindows (![1, n] : Fin 2 → ℕ) ![1, 1] ![0, m] ![0, 0] ⟨2, ![a, n]⟩) (k : Fin a) (i : Fin n) :
    Ideal.hostReduceWindowAdd ![1, n] ![1, 1] ![0, m] ![0, 0] h x 0 (ix2 k i)
      = run (fun j => if p : j < n then x (ix2 k ⟨j, p⟩) else 0) (i.val + 1) 0 := by
  have windows : Ideal.hostReduceWindowAdd ![1, n] ![1, 1] ![0, m] ![0, 0] h x 0 (ix2 k i)
      = ∑ j : Fin n, if p : m ≤ i.val + j.val ∧ i.val + j.val - m < n then x (ix2 k ⟨i.val + j.val - m, p.2⟩) else 0 := by
    unfold Ideal.hostReduceWindowAdd Host.reduceWindow
    rw [foldl_add, zero_add, ← Fin.sum_univ_def]
    refine (Fintype.sum_bijective (fun j : Fin n => (⟨2, ![1, n]⟩ : Shape).rowMajor (ix2 (0 : Fin 1) j)) ?_ _ _ fun j => ?_).symm
    · refine ((⟨2, ![1, n]⟩ : Shape).rowMajor.bijective).comp ⟨fun b c e => congrFun e 1, fun y => ⟨y 1, ?_⟩⟩
      exact (congrArg (fun z : Fin 1 => ix2 z (y 1)) (Subsingleton.elim _ _)).trans (eq_ix2 y).symm
    · have given := Equiv.symm_apply_apply (⟨2, ![1, n]⟩ : Shape).rowMajor (ix2 (0 : Fin 1) j)
      generalize (⟨2, ![1, n]⟩ : Shape).rowMajor (ix2 (0 : Fin 1) j) = q at given ⊢
      have w0 : ((⟨2, ![1, n]⟩ : Shape).rowMajor.symm q 0).val = 0 := by rw [given]; rfl
      have w1 : ((⟨2, ![1, n]⟩ : Shape).rowMajor.symm q 1).val = j.val := by rw [given]; rfl
      have hk := k.isLt
      by_cases p : m ≤ i.val + j.val ∧ i.val + j.val - m < n
      · rw [dif_pos p, dif_pos]
        · refine congrArg x (funext fun axis => Fin.ext ?_)
          match axis with
          | ⟨0, _⟩ => show k.val = k.val * 1 + ((⟨2, ![1, n]⟩ : Shape).rowMajor.symm q 0).val - 0; omega
          | ⟨1, _⟩ => show i.val + j.val - m = i.val * 1 + ((⟨2, ![1, n]⟩ : Shape).rowMajor.symm q 1).val - m; omega
        · intro axis
          match axis with
          | ⟨0, _⟩ =>
            show 0 ≤ k.val * 1 + ((⟨2, ![1, n]⟩ : Shape).rowMajor.symm q 0).val ∧ k.val * 1 + ((⟨2, ![1, n]⟩ : Shape).rowMajor.symm q 0).val - 0 < a
            omega
          | ⟨1, _⟩ =>
            show m ≤ i.val * 1 + ((⟨2, ![1, n]⟩ : Shape).rowMajor.symm q 1).val ∧ i.val * 1 + ((⟨2, ![1, n]⟩ : Shape).rowMajor.symm q 1).val - m < n
            omega
      · rw [dif_neg p, dif_neg]
        intro every
        have along := every 1
        change m ≤ i.val * 1 + ((⟨2, ![1, n]⟩ : Shape).rowMajor.symm q 1).val ∧ i.val * 1 + ((⟨2, ![1, n]⟩ : Shape).rowMajor.symm q 1).val - m < n at along
        omega
  have hi := i.isLt
  rw [windows, run, ← Finset.sum_range_reflect, ← Equiv.sum_comp Fin.revPerm, Finset.sum_fin_eq_sum_range, ← Finset.sum_subset (Finset.range_subset_range.2 hi)]
  · refine Finset.sum_congr rfl fun j q => ?_
    have hj := Finset.mem_range.1 q
    have place : (Fin.revPerm (⟨j, by omega⟩ : Fin n)).val = n - 1 - j := by rw [Fin.revPerm_apply, Fin.val_rev]; show n - (j + 1) = _; omega
    rw [dif_pos (by omega), dif_pos (by omega), dif_pos (by omega)]
    exact congrArg x (congrArg (fun r => ix2 k r) (Fin.ext (by show i.val + (Fin.revPerm (⟨j, by omega⟩ : Fin n)).val - m = 0 + (i.val + 1 - 1 - j); omega)))
  · intro j q out
    have hj := Finset.mem_range.1 q
    have far : ¬ j < i.val + 1 := fun r => out (Finset.mem_range.2 r)
    have place : (Fin.revPerm (⟨j, by omega⟩ : Fin n)).val = n - 1 - j := by rw [Fin.revPerm_apply, Fin.val_rev]; show n - (j + 1) = _; omega
    rw [dif_pos (by omega), dif_neg (by omega)]

end Cert.ForgetFwd
end
-- ==== Proof.ForgetFwd.Arrays.lean ====
module

public import proofs.«01_k».proof.Proof.ForgetFwd.Spec
public import proofs.«01_k».proof.Proof.Pool.Steps
public import proofs.«01_k».proof.Proof.Gen.KernelForgetFwdIdeal.Value
public import Idealize.ShloMosaic.Lib.Pointwise
public import Idealize.ShloMosaic.Lib.Claim
public import Idealize.ShloMosaic.Lib.Pipeline.ValueKit
public import Idealize.ShloMosaic.Lib.StableHlo.ReadAt
public import Idealize.ShloMosaic.Lib.WordCmp

@[expose] public section

set_option maxRecDepth 16384

noncomputable section

open Idealize.ShloMosaic Idealize.ShloMosaic.TcCoe Idealize.SL.Sem
open Idealize.ShloMosaic.Pipeline (Dat)
open scoped BigOperators

namespace Cert.KernelForgetFwdIdeal.Final

open Cert.KernelForgetFwdIdeal Cert.KernelForgetFwdIdeal.Gen Cert.Forget Cert.Pool Cert.ForgetFwd
open Cert.KernelForgetIdeal.Final (select_if)

/-! The running sums by doublings, and the array they are written to. -/

/-- Each row plus the row `n` before it, where there is one. -/
def doubled (n : BitVec 32) (a : FVec Ideal S2176x128 .f32) : FVec Ideal S2176x128 .f32 :=
  addf a (select (broadcastTo S2176x128 (shapeCast S2176x1 (cmpi .sge (iota .tc S2176x1 32 [0] iota_S2176x1_d0_w32) (broadcast S2176x1 n))
    shapeCasts_S2176x1_S2176x1) broadcasts_S2176x1_S2176x128) (dynamicRotate 0 n none a rotates_S2176x128_d0) (broadcast S2176x128 (Scalar.ofBits .f32 0x00000000#32)))

/-- A doubling takes sums of `w` rows to sums of twice as many. -/
theorem doubled_back (d : Fin 128 → ℕ → EReal) (a : FVec Ideal S2176x128 .f32) (w : ℕ) (k : 0 < w ∧ w < 2176)
    (given : ∀ i l, a (ix2 i l) = back (d l) w i.val) (i : Fin 2176) (l : Fin 128) :
    doubled (BitVec.ofNat 32 w) a (ix2 i l) = back (d l) (w + w) i.val := by
  rw [back_double _ _ _ k.1]
  unfold doubled
  pointwise []
  have e := i.isLt
  rw [WordCmp.cmpi_sge_ofNat (by omega) (by omega), select_if, given]
  by_cases p : w ≤ i.val
  · rw [if_pos p, if_pos p, ← given ⟨i.val - w, by omega⟩]
    refine congrArg (fun r => (back (d l) w i.val : EReal) + a (ix2 r l)) (Fin.ext ?_)
    show (i.val + 2176 - (BitVec.ofNat 32 w).toNat % 2176) % 2176 = i.val - w
    rw [BitVec.toNat_ofNat]
    omega
  · rw [if_neg p, if_neg p]

/-- All twelve doublings. -/
def summed (a : FVec Ideal S2176x128 .f32) : FVec Ideal S2176x128 .f32 :=
  doubled 2048#32 (doubled 1024#32 (doubled 512#32 (doubled 256#32 (doubled 128#32 (doubled 64#32 (doubled 32#32 (doubled 16#32 (doubled 8#32 (doubled 4#32 (doubled 2#32 (doubled 1#32 a)))))))))))

theorem summed_apply (d : Fin 128 → ℕ → EReal) (a : FVec Ideal S2176x128 .f32) (given : ∀ i l, a (ix2 i l) = d l i.val) (i : Fin 2176) (l : Fin 128) :
    summed a (ix2 i l) = run (d l) (i.val + 1) 0 := by
  have s1 := doubled_back d a 1 (by omega) fun i l => (given i l).trans (back_one _ _).symm
  have s2 := doubled_back d _ 2 (by omega) s1
  have s4 := doubled_back d _ 4 (by omega) s2
  have s8 := doubled_back d _ 8 (by omega) s4
  have s16 := doubled_back d _ 16 (by omega) s8
  have s32 := doubled_back d _ 32 (by omega) s16
  have s64 := doubled_back d _ 64 (by omega) s32
  have s128 := doubled_back d _ 128 (by omega) s64
  have s256 := doubled_back d _ 256 (by omega) s128
  have s512 := doubled_back d _ 512 (by omega) s256
  have s1024 := doubled_back d _ 1024 (by omega) s512
  have s2048 := doubled_back d _ 2048 (by omega) s1024
  refine (s2048 i l).trans ?_
  have e := i.isLt
  rw [back, min_eq_right (by omega), Nat.sub_self]

/-- The logarithms of the gates. -/
def gates (z : FVec Ideal S2176x128 .f32) (b : FVec Ideal S1x128 .f32) : FVec Ideal S2176x128 .f32 :=
  have f := addf z (broadcastTo S2176x128 b broadcasts_S1x128_S2176x128)
  subf (minimumf f (broadcast S2176x128 (Scalar.ofBits .f32 0x00000000#32)))
    (log (addf (broadcast S2176x128 (Scalar.ofBits .f32 0x3F800000#32)) (exp (subf (broadcast S2176x128 (Scalar.ofBits .f32 0x00000000#32)) (absf f)))))

theorem gates_apply (z : FVec Ideal S2176x128 .f32) (b : FVec Ideal S1x128 .f32) (i : Fin 2176) (l : Fin 128) :
    gates z b (ix2 i l) = logistics ((z (ix2 i l) : EReal) + b (ix2 0 l)) := by
  unfold gates logistics
  pointwise []
  rw [zero_sub]
  rfl

variable (x0 : Vec Ideal S2176x128 .f32) (x1 : Vec Ideal S1x128 .f32)

theorem rows_whole : View.ld x0 r0_0 = x0 := by rw [View.ld_unit_zero] <;> decide
theorem bias_whole : View.ld x1 r0_1 = x1 := by rw [View.ld_unit_zero] <;> decide

theorem same_rows : shapeCast S2176x128 x0 shapeCasts_S2176x128_S2176x128 = x0 := funext fun y => by rw [eq_ix2 y]; pointwise []
theorem same_bias : shapeCast S1x128 x1 shapeCasts_S1x128_S1x128 = x1 := funext fun y => by rw [eq_ix2 y]; pointwise []

theorem body : k0_pay1 (k0_pay7 x0 x1) (k0_pay4 (k0_pay7 x0 x1) (k0_pay8 x0 x1) (k0_pay9 x0 x1)) (k0_pay5 (k0_pay7 x0 x1) (k0_pay8 x0 x1) (k0_pay9 x0 x1))
    (Scalar.ofBits .f32 0x00000000#32) (k0_pay6 (k0_pay7 x0 x1)) = transpose S128x2176 [1, 0]
      (summed (gates (shapeCast S2176x128 (View.ld x0 r0_0) shapeCasts_S2176x128_S2176x128) (shapeCast S1x128 (View.ld x1 r0_1) shapeCasts_S1x128_S1x128)))
      transposes_S2176x128_p1_0_S128x2176 := rfl

theorem tile (d : Fin 128 → ℕ → EReal) (given : ∀ i l, logistics ((x0 (ix2 i l) : EReal) + x1 (ix2 0 l)) = d l i.val) (l : Fin 128) (i : Fin 2176) :
    out0_2 x0 x1 (ix2 l i) = run (d l) (i.val + 1) 0 := by
  unfold out0_2
  frame_out
  rw [body, rows_whole, bias_whole, same_rows, same_bias]
  pointwise []
  exact summed_apply d _ (fun i l => (gates_apply x0 x1 i l).trans (given i l)) i l

variable (m : (ℓ : Loc nD τ sig) → Buf (Elt Ideal) ℓ) (c : Dev nD)

/-- The arguments as a device holds them. -/
def args : Cert.ForgetFwd.Inputs where
  z := m ((c.tc : Thread nD τ).loc main_arg0)
  b := m ((c.tc : Thread nD τ).loc main_arg1)

theorem host_logit : V m c main_v0 = pad S2176x4224 ![0, 0] ![112, 120] ![0, 0] (args m c).z (sitofp (F := Ideal) .f32 (constantI S_ 32 0#32)) pads_S2064x4104_S2176x4224_01120_01200 h_S_ := by
  unfold V; after_reads_simp; rfl
theorem host_bias : V m c main_v1 = pad S1x128 ![0, 0] ![0, 120] ![0, 0] (args m c).b (sitofp (F := Ideal) .f32 (constantI S_ 32 0#32)) pads_S1x8_S1x128_000_01200 h_S_ := by
  unfold V; after_reads_simp; rfl

theorem idx : ∀ t : Fin cfg0.N, win0_0.index t = ![0, 32] ∧ win0_1.index t = ![0, 0] ∧ win0_2.index t = ![0, 0] :=
  (by decide +kernel : ∀ t : Fin grid0.N, _)

variable (t : Fin cfg0.N)

theorem read_logit (i : Fin 2176) (l : Fin 128) : iblk m c 0 t (ix2 i l) = part (args m c) i.val l.val := by
  refine Eq.trans (b := V m c main_v0 (ix2 i (⟨4096 + l.val, by omega⟩ : Fin 4224))) ?_ ?_
  · obtain ⟨e, -⟩ := idx t
    blk_ext [iblk, e]
  · rw [host_logit]
    unfold part
    pointwise []
    by_cases p : i.val < 2064 ∧ l.val < 8
    · rw [dif_pos p, dif_pos (by omega)]
    · rw [dif_neg p, dif_neg (by omega)]; exact Reals.sitofp_zero

theorem read_bias (l : Fin 128) : iblk m c 1 t (ix2 0 l) = shift (args m c) l.val := by
  refine Eq.trans (b := V m c main_v1 (ix2 (0 : Fin 1) l)) ?_ ?_
  · obtain ⟨-, e, -⟩ := idx t
    blk_ext [iblk, e]
  · rw [host_bias]
    unfold shift
    pointwise []
    by_cases p : l.val < 8
    · rw [dif_pos p, dif_pos (by omega)]
    · rw [dif_neg p, dif_neg (by omega)]; exact Reals.sitofp_zero

theorem final : (dats m 0 c).arrAt 2 cfg0.N = res (args m c) := by
  refine (dats m 0 c).arrAt_eq_of_covers 2 _ (by decide +kernel) fun t hf y => ?_
  refine Eq.trans ?_ (congrArg (res (args m c)) (?_ : ix2 (y 0 : Fin 128) (y 1 : Fin 2176) = ((cfg0.win 2).blk t).view.emb y))
  · blk_simp
    rw [after0_2]
    refine (congrArg _ (eq_ix2 y)).trans (tile _ _ (fun l => entry (args m c) l.val) (fun i l => ?_) (y 0) (y 1))
    exact congrArg logistics (congrArg₂ (fun u v : EReal => u + v) (read_logit m c t i l) (read_bias m c t l))
  · obtain ⟨-, -, e⟩ := idx t
    blk_ext [e]

end Cert.KernelForgetFwdIdeal.Final
end
-- ==== Proof.ForgetFwd.Reference.lean ====
module

public import proofs.«01_k».proof.Proof.ForgetFwd.Spec
public import proofs.«01_k».proof.Proof.Finite
public import proofs.«01_k».proof.Proof.Gen.ReferenceForgetFwdIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ReferenceForgetFwdIdeal.Final

open Cert.ReferenceForgetFwdIdeal Cert.ReferenceForgetFwdIdeal.Value Cert.ReferenceForgetFwdIdeal.Read Cert.Forget Cert.ForgetFwd

variable (x : Inputs)

theorem ref_logit (i : Fin 2176) (l : Fin 128) : val_main_v6 (F := Ideal) x.z x.b (ix2 i l) = part x i.val l.val + shift x l.val := by
  pointwise [val_main_v6, val_main_v5, val_main_v4, val_main_v3, val_main_v2, val_main_v1, val_main_v0, val_main_call0_v0, val_main_c, val_main_call1_v0, val_main_c_0]
  refine congrArg₂ (fun u v : EReal => u + v) ?_ ?_
  · unfold part
    by_cases p : i.val < 2064 ∧ l.val < 8
    · rw [dif_pos p, dif_pos (by omega)]
    · rw [dif_neg p, dif_neg (by omega)]; exact Reals.sitofp_zero
  · unfold shift
    by_cases p : l.val < 8
    · rw [dif_pos p, dif_pos (by omega)]
    · rw [dif_neg p, dif_neg (by omega)]; exact Reals.sitofp_zero

theorem ref_log (i : Fin 2176) (l : Fin 128) : val_main_v7 (F := Ideal) x.z x.b (ix2 i l) = entry x l.val i.val := by
  rw [entry, ← ref_logit, logistics_soft]
  pointwise [val_main_v7, val_main_call2_v1, val_main_call2_call0_v11, val_main_call2_call0_v10, val_main_call2_call0_v9, val_main_call2_call0_v8, val_main_call2_call0_v7,
    val_main_call2_call0_v6, val_main_call2_call0_v5, val_main_call2_call0_v4, val_main_call2_call0_v3, val_main_call2_call0_v2, val_main_call2_call0_v1,
    val_main_call2_call0_v0, val_main_call2_call0_cst, val_main_call2_v0]
  have size (f : EReal) : FloatOps.absf (F := Ideal) (φ := .f32) (-f) = max (-f) f := (rfl : _ = max (-f) (-(-f))).trans (by rw [neg_neg])
  rw [if_neg fun k => k rfl, size]

theorem zero_start (j : S_.Idx) : val_main_call3_call0_v0 (F := Ideal) j = 0 := by
  pointwise [val_main_call3_call0_v0, val_main_call3_call0_cst]

theorem ref_run : val_main_v9 (F := Ideal) x.z x.b = res x := funext fun y => by
  rw [eq_ix2 y]
  have row : (fun j => if p : j < 2176 then val_main_v8 (F := Ideal) x.z x.b (ix2 (y 0 : Fin 128) ⟨j, p⟩) else 0) = fun j => if j < 2176 then entry x (y 0).val j else 0 :=
    funext fun j => by
      by_cases p : j < 2176
      · rw [dif_pos p, if_pos p, ← ref_log x ⟨j, p⟩ (y 0)]
        pointwise [val_main_v8]
      · rw [dif_neg p, if_neg p]
  unfold val_main_v9 Host.reduceWindowAdd
  rw [Ideal.hostReduceWindowAdd_def, zero_start]
  refine (from_start (m := 2175) _ rfl _ (y 0) (y 1)).trans ((congrArg (fun d : ℕ → EReal => run d ((y 1 : Fin 2176).val + 1) 0) row).trans ?_)
  have e : (y 1 : Fin 2176).val < 2176 := (y 1 : Fin 2176).isLt
  exact Finset.sum_congr rfl fun j q => if_pos (by have := Finset.mem_range.1 q; omega)

end Cert.ReferenceForgetFwdIdeal.Final
end
-- ==== Proof.ForgetFwd.Claims.lean ====
module

public import proofs.«01_k».proof.Proof.ForgetFwd.Arrays
public import proofs.«01_k».proof.Proof.ForgetFwd.Reference
public import proofs.«01_k».proof.Proof.Gen.KernelForgetFwdIdeal.Frame
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Proof.ForgetFwd

open Cert.KernelForgetFwdIdeal.Final Cert.ForgetFwd

theorem frame_reference : Cert.quiescent_ReferenceForgetFwdIdeal := by
  intro m g _
  exact (θ_run _ _ _).mono (fun r h => ⟨fun c => (h c).2, sem_eq_zero_of_no_sems (by decide) r.2⟩)
    (Cert.ReferenceForgetFwdIdeal.Value.run m g)

theorem equal : Cert.algebraic_KernelForgetFwdIdeal_ReferenceForgetFwdIdeal := by
  intro m g m' g' _ hag
  refine ⟨fun c => res (args m c), ?_, ?_⟩
  · refine (θ_run _ _ _).mono (fun r h c => ?_) (Cert.KernelForgetFwdIdeal.Value.run_blocks m g)
    exact ⟨(h c).1.trans (final m c), (h c).2⟩
  · refine (θ_run _ _ _).mono (fun r h c => ?_) (Cert.ReferenceForgetFwdIdeal.Value.run m' g')
    have e := h c
    obtain ⟨a0, a1⟩ := hag c
    have same : Inputs.mk _ _ = args m c := congr (congrArg Inputs.mk a0) a1
    exact ⟨(e.1.trans (Cert.ReferenceForgetFwdIdeal.Read.val_main_v9_eq _ _)).trans
      ((Cert.ReferenceForgetFwdIdeal.Final.ref_run (Inputs.mk _ _)).trans (congrArg res same)), e.2⟩

end Cert.Proof.ForgetFwd
end
-- ==== Proof.Products.lean ====
module

public import proofs.«01_k».proof.Proof.Finite

@[expose] public section

set_option maxRecDepth 16384

noncomputable section

open Idealize.ShloMosaic Idealize.ShloMosaic.TcCoe Idealize.SL.Sem
open Idealize.ShloMosaic.Pipeline (Dat)
open scoped BigOperators

namespace Cert.Products

/-! Products of tables whose rows are continued by zeros. -/

/-- Every entry of a row times a factor of its own: a row past the end gives zero. -/
theorem past_sum {K : ℕ} {p : Prop} [Decidable p] (f : p → Fin K → EReal) (g : Fin K → EReal) :
    ∑ k, (if h : p then f h k else 0) * g k = if h : p then ∑ k, f h k * g k else 0 := by
  by_cases h : p
  · simp only [dif_pos h]
  · simp only [dif_neg h, zero_mul, Finset.sum_const_zero]

/-- A sum over rows of which those past the end are zero. -/
theorem short_sum (f : Fin 2064 → EReal) (g : Fin 2176 → EReal) :
    ∑ r : Fin 2176, (if p : r.val < 2064 then f ⟨r.val, p⟩ else 0) * g r = ∑ r : Fin 2064, f r * g ⟨r.val, by omega⟩ := by
  rw [show ∑ r : Fin 2176, (if p : r.val < 2064 then f ⟨r.val, p⟩ else 0) * g r
    = ∑ r : Fin (2064 + 112), (if p : r.val < 2064 then f ⟨r.val, p⟩ else 0) * g r from rfl, Fin.sum_univ_add,
    Finset.sum_eq_zero (s := (Finset.univ : Finset (Fin 112))) fun r _ => by rw [dif_neg (by simp), zero_mul], add_zero]
  exact Finset.sum_congr rfl fun r _ => congrArg (fun v : EReal => v * _) (dif_pos r.isLt)

end Cert.Products
end
-- ==== Proof.MmNn.Arrays.lean ====
module

public import proofs.«01_k».proof.Proof.Products
public import proofs.«01_k».proof.Proof.Gen.KernelMmNnIdeal.Value
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.KernelMmNnIdeal.Final

open Cert.KernelMmNnIdeal Cert.KernelMmNnIdeal.Gen Cert.Products

/-! A product, one block of columns at a time. -/

variable (m : (ℓ : Loc nD τ sig) → Buf (Elt Ideal) ℓ) (c : Dev nD)

abbrev argX : FVec Ideal S2064x2048 .f32 := m ((c.tc : Thread nD τ).loc main_arg0)
abbrev argW : FVec Ideal S2048x5632 .f32 := m ((c.tc : Thread nD τ).loc main_arg1)

/-- The product, its rows continued by zeros. -/
def res (x : FVec Ideal S2064x2048 .f32) (w : FVec Ideal S2048x5632 .f32) : FVec Ideal S2176x5632 .f32 := fun y =>
  if p : (y 0).val < 2064 then ∑ k : Fin 2048, (x (ix2 ⟨(y 0).val, p⟩ k) : EReal) * w (ix2 k (y 1)) else 0

theorem idx : ∀ t : Fin cfg0.N, win0_0.index t = ![0, 0] ∧ win0_1.index t = ![0, t.val] ∧ win0_2.index t = ![0, t.val] :=
  (by decide +kernel : ∀ t : Fin grid0.N, _)

/-- The column of a lane of the block at a grid point. -/
def lane (t : Fin cfg0.N) (l : Fin 256) : Fin 5632 := ⟨t.val * 256 + l.val, by have := t.isLt.trans_eq N_0; omega⟩

variable {m c}

theorem host_rows (r : Fin 2176) (k : Fin 2048) : V m c main_v1 (ix2 r k) = if p : r.val < 2064 then argX m c (ix2 ⟨r.val, p⟩ k) else 0 := by
  rw [show V m c main_v1 = fun j => truncf .bf16 (pad S2176x2048 ![0, 0] ![112, 0] ![0, 0] (argX m c) (sitofp (F := Ideal) .f32 (constantI S_ 32 0#32))
    pads_S2064x2048_S2176x2048_01120_000 h_S_) bitsLt_bf16_f32 j from by unfold V; after_reads_simp; rfl]
  pointwise []
  by_cases p : r.val < 2064
  · rw [dif_pos p, dif_pos (by omega)]
  · rw [dif_neg p, dif_neg (by omega)]; exact Reals.sitofp_zero

theorem host_weights (k : Fin 2048) (l : Fin 5632) : V m c main_v2 (ix2 k l) = argW m c (ix2 k l) := by
  rw [show V m c main_v2 = fun j => truncf .bf16 (argW m c) bitsLt_bf16_f32 j from by unfold V; after_reads_simp]; rfl

variable (t : Fin cfg0.N)

theorem read_rows (r : Fin 2176) (k : Fin 2048) : iblk m c 0 t (ix2 r k) = if p : r.val < 2064 then argX m c (ix2 ⟨r.val, p⟩ k) else 0 := by
  refine Eq.trans ?_ (host_rows r k)
  obtain ⟨e, -⟩ := idx t
  blk_ext [iblk, e]

theorem read_weights (k : Fin 2048) (l : Fin 256) : iblk m c 1 t (ix2 k l) = argW m c (ix2 k (lane t l)) := by
  refine Eq.trans ?_ (host_weights k (lane t l))
  obtain ⟨-, e, -⟩ := idx t
  blk_ext [iblk, e, lane]

theorem block (r : Fin 2176) (l : Fin 256) : out0_2 (iblk m c 0 t) (iblk m c 1 t) (ix2 r l) = res (argX m c) (argW m c) (ix2 r (lane t l)) := by
  unfold out0_2
  frame_out
  pointwise [k0_pay1]
  simp only [read_rows, read_weights]
  exact past_sum _ _

theorem final : (dats m 0 c).arrAt 2 cfg0.N = res (argX m c) (argW m c) := by
  refine (dats m 0 c).arrAt_eq_of_covers 2 _ (by decide +kernel) fun t hf y => ?_
  refine Eq.trans ?_ (congrArg (res (argX m c) (argW m c)) (?_ : ix2 (y 0 : Fin 2176) (lane t (y 1)) = ((cfg0.win 2).blk t).view.emb y))
  · blk_simp
    rw [after0_2]
    exact (congrArg _ (eq_ix2 y)).trans (block t (y 0) (y 1))
  · obtain ⟨-, -, e⟩ := idx t
    blk_ext [e, lane]

end Cert.KernelMmNnIdeal.Final
end
-- ==== Proof.MmNn.Reference.lean ====
module

public import proofs.«01_k».proof.Proof.MmNn.Arrays
public import proofs.«01_k».proof.Proof.Gen.ReferenceMmNnIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ReferenceMmNnIdeal.Final

open Cert.ReferenceMmNnIdeal Cert.ReferenceMmNnIdeal.Read Cert.KernelMmNnIdeal.Final

/-! The product, continued by zeros. -/

variable (x : FVec Ideal S2064x2048 .f32) (w : FVec Ideal S2048x5632 .f32)

theorem ref_prod (r : Fin 2064) (l : Fin 5632) :
    val_main_v0 (F := Ideal) x w (ix2 r l) = ∑ k : Fin 2048, (x (ix2 r k) : EReal) * w (ix2 k l) := by
  pointwise [val_main_v0]

theorem ref_res : val_main_v1 (F := Ideal) x w = res x w := by
  funext y
  obtain ⟨r, l, rfl⟩ : ∃ r l, y = ix2 r l := ⟨y 0, y 1, eq_ix2 y⟩
  unfold res
  pointwise [val_main_v1]
  by_cases p : r.val < 2064
  · rw [dif_pos (by omega), dif_pos p]
    exact ref_prod x w ⟨r.val, p⟩ l
  · rw [dif_neg (by omega), dif_neg p]
    pointwise [val_main_call0_v0, val_main_c]
    exact Reals.sitofp_zero

end Cert.ReferenceMmNnIdeal.Final
end
-- ==== Proof.MmNn.Claims.lean ====
module

public import proofs.«01_k».proof.Defs
public import proofs.«01_k».proof.Proof.MmNn.Arrays
public import proofs.«01_k».proof.Proof.MmNn.Reference
public import proofs.«01_k».proof.Proof.Gen.KernelMmNnIdeal.Value
public import proofs.«01_k».proof.Proof.Gen.ReferenceMmNnIdeal.Run
public import proofs.«01_k».proof.Proof.Gen.ReferenceMmNnIdeal.Read

@[expose] public section

set_option maxRecDepth 16384

noncomputable section

open Idealize.ShloMosaic Idealize.ShloMosaic.TcCoe Idealize.SL.Sem
open Idealize.ShloMosaic.Pipeline (Dat)
open scoped BigOperators

namespace Cert.Proof.MmNn

/-! The plain product. -/

open Cert.KernelMmNnIdeal.Final

theorem frame_reference : Cert.quiescent_ReferenceMmNnIdeal := by
  intro m g _
  exact (θ_run _ _ _).mono (fun r h => ⟨fun c => (h c).2, sem_eq_zero_of_no_sems (by decide) r.2⟩)
    (Cert.ReferenceMmNnIdeal.Value.run m g)

theorem equal : Cert.algebraic_KernelMmNnIdeal_ReferenceMmNnIdeal := by
  intro m g m' g' _ hag
  refine ⟨fun c => res (argX m c) (argW m c), ?_, ?_⟩
  · refine (θ_run _ _ _).mono (fun r h c => ?_) (Cert.KernelMmNnIdeal.Value.run_blocks m g)
    exact ⟨(h c).1.trans final, (h c).2⟩
  · refine (θ_run _ _ _).mono (fun r h c => ?_) (Cert.ReferenceMmNnIdeal.Value.run m' g')
    have e := h c
    obtain ⟨a0, a1⟩ := hag c
    exact ⟨(e.1.trans (Cert.ReferenceMmNnIdeal.Read.val_main_v1_eq _ _)).trans
      ((Cert.ReferenceMmNnIdeal.Final.ref_res _ _).trans (congr (congrArg res a0) a1)), e.2⟩

end Cert.Proof.MmNn
end
-- ==== Proof.MmRes.Arrays.lean ====
module

public import proofs.«01_k».proof.Proof.Products
public import proofs.«01_k».proof.Proof.Gen.KernelMmResIdeal.Value
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.KernelMmResIdeal.Final

open Cert.KernelMmResIdeal Cert.KernelMmResIdeal.Gen Cert.Products

/-! Half a product added to a table, one block of columns at a time. -/

variable (m : (ℓ : Loc nD τ sig) → Buf (Elt Ideal) ℓ) (c : Dev nD)

abbrev argS : FVec Ideal S2064x5632 .f32 := m ((c.tc : Thread nD τ).loc main_arg0)
abbrev argW : FVec Ideal S5632x2048 .f32 := m ((c.tc : Thread nD τ).loc main_arg1)
abbrev argH : FVec Ideal S2064x2048 .f32 := m ((c.tc : Thread nD τ).loc main_arg2)

/-- The table plus half the product, the rows continued by zeros. -/
def res (s : FVec Ideal S2064x5632 .f32) (w : FVec Ideal S5632x2048 .f32) (h : FVec Ideal S2064x2048 .f32) : FVec Ideal S2176x2048 .f32 := fun y =>
  if p : (y 0).val < 2064 then (h (ix2 ⟨(y 0).val, p⟩ (y 1)) : EReal)
    + Ideal.ofBits .f32 0x3F000000#32 * ∑ k : Fin 5632, (s (ix2 ⟨(y 0).val, p⟩ k) : EReal) * w (ix2 k (y 1)) else 0

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The column of a lane of the block at a grid point. -/
def lane (t : Fin cfg0.N) (l : Fin 256) : Fin 2048 := ⟨t.val * 256 + l.val, by have := t.isLt.trans_eq N_0; omega⟩

variable {m c}

theorem host_rows (r : Fin 2176) (k : Fin 5632) : V m c main_v1 (ix2 r k) = if p : r.val < 2064 then argS m c (ix2 ⟨r.val, p⟩ k) else 0 := by
  rw [show V m c main_v1 = fun j => truncf .bf16 (pad S2176x5632 ![0, 0] ![112, 0] ![0, 0] (argS m c) (sitofp (F := Ideal) .f32 (constantI S_ 32 0#32))
    pads_S2064x5632_S2176x5632_01120_000 h_S_) bitsLt_bf16_f32 j from by unfold V; after_reads_simp; rfl]
  pointwise []
  by_cases p : r.val < 2064
  · rw [dif_pos p, dif_pos (by omega)]
  · rw [dif_neg p, dif_neg (by omega)]; exact Reals.sitofp_zero

theorem host_weights (k : Fin 5632) (l : Fin 2048) : V m c main_v2 (ix2 k l) = argW m c (ix2 k l) := by
  rw [show V m c main_v2 = fun j => truncf .bf16 (argW m c) bitsLt_bf16_f32 j from by unfold V; after_reads_simp]; rfl

theorem host_table (r : Fin 2176) (k : Fin 2048) : V m c main_v3 (ix2 r k) = if p : r.val < 2064 then argH m c (ix2 ⟨r.val, p⟩ k) else 0 := by
  rw [show V m c main_v3 = pad S2176x2048 ![0, 0] ![112, 0] ![0, 0] (argH m c) (sitofp (F := Ideal) .f32 (constantI S_ 32 0#32))
    pads_S2064x2048_S2176x2048_01120_000 h_S_ from by unfold V; after_reads_simp; rfl]
  pointwise []
  by_cases p : r.val < 2064
  · rw [dif_pos p, dif_pos (by omega)]
  · rw [dif_neg p, dif_neg (by omega)]; exact Reals.sitofp_zero

variable (t : Fin cfg0.N)

theorem read_rows (r : Fin 2176) (k : Fin 5632) : iblk m c 0 t (ix2 r k) = if p : r.val < 2064 then argS m c (ix2 ⟨r.val, p⟩ k) else 0 := by
  refine Eq.trans ?_ (host_rows r k)
  obtain ⟨e, -⟩ := idx t
  blk_ext [iblk, e]

theorem read_weights (k : Fin 5632) (l : Fin 256) : iblk m c 1 t (ix2 k l) = argW m c (ix2 k (lane t l)) := by
  refine Eq.trans ?_ (host_weights k (lane t l))
  obtain ⟨-, e, -⟩ := idx t
  blk_ext [iblk, e, lane]

theorem read_table (r : Fin 2176) (l : Fin 256) : iblk m c 2 t (ix2 r l) = if p : r.val < 2064 then argH m c (ix2 ⟨r.val, p⟩ (lane t l)) else 0 := by
  refine Eq.trans ?_ (host_table r (lane t l))
  obtain ⟨-, -, e, -⟩ := idx t
  blk_ext [iblk, e, lane]

theorem block (r : Fin 2176) (l : Fin 256) : outsAt0 m c t (ix2 r l) = res (argS m c) (argW m c) (argH m c) (ix2 r (lane t l)) := by
  unfold outsAt0 res
  frame_out
  (open_payloads; pointwise)
  simp only [read_rows, read_weights, read_table, past_sum]
  by_cases p : r.val < 2064
  · simp only [dif_pos p]
  · simp only [dif_neg p, mul_zero, add_zero]

theorem final : (dats m 0 c).arrAt 3 cfg0.N = res (argS m c) (argW m c) (argH m c) := by
  refine (dats m 0 c).arrAt_eq_of_covers 3 _ (by decide +kernel) fun t hf y => ?_
  refine Eq.trans ?_ (congrArg (res (argS m c) (argW m c) (argH m c)) (?_ : ix2 (y 0 : Fin 2176) (lane t (y 1)) = ((cfg0.win 3).blk t).view.emb y))
  · blk_simp
    rw [after0_3]
    exact (congrArg _ (eq_ix2 y)).trans (block t (y 0) (y 1))
  · obtain ⟨-, -, -, e⟩ := idx t
    blk_ext [e, lane]

end Cert.KernelMmResIdeal.Final
end
-- ==== Proof.MmRes.Reference.lean ====
module

public import proofs.«01_k».proof.Proof.MmRes.Arrays
public import proofs.«01_k».proof.Proof.Gen.ReferenceMmResIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ReferenceMmResIdeal.Final

open Cert.ReferenceMmResIdeal Cert.ReferenceMmResIdeal.Read Cert.KernelMmResIdeal.Final

/-! The table plus half the product, continued by zeros. -/

variable (s : FVec Ideal S2064x5632 .f32) (w : FVec Ideal S5632x2048 .f32) (h : FVec Ideal S2064x2048 .f32)

theorem ref_sum (r : Fin 2064) (l : Fin 2048) : val_main_v3 (F := Ideal) s w h (ix2 r l)
    = (h (ix2 r l) : EReal) + Ideal.ofBits .f32 0x3F000000#32 * ∑ k : Fin 5632, (s (ix2 r k) : EReal) * w (ix2 k l) := by
  pointwise [val_main_v3, val_main_v2, val_main_v1, val_main_v0, val_main_cst]

theorem ref_res : val_main_v4 (F := Ideal) s w h = res s w h := by
  funext y
  obtain ⟨r, l, rfl⟩ : ∃ r l, y = ix2 r l := ⟨y 0, y 1, eq_ix2 y⟩
  unfold res
  pointwise [val_main_v4]
  by_cases p : r.val < 2064
  · rw [dif_pos (by omega), dif_pos p]
    exact ref_sum s w h ⟨r.val, p⟩ l
  · rw [dif_neg (by omega), dif_neg p]
    pointwise [val_main_call0_v0, val_main_c]
    exact Reals.sitofp_zero

end Cert.ReferenceMmResIdeal.Final
end
-- ==== Proof.MmRes.Claims.lean ====
module

public import proofs.«01_k».proof.Defs
public import proofs.«01_k».proof.Proof.MmRes.Arrays
public import proofs.«01_k».proof.Proof.MmRes.Reference
public import proofs.«01_k».proof.Proof.Gen.KernelMmResIdeal.Value
public import proofs.«01_k».proof.Proof.Gen.ReferenceMmResIdeal.Run
public import proofs.«01_k».proof.Proof.Gen.ReferenceMmResIdeal.Read

@[expose] public section

set_option maxRecDepth 16384

noncomputable section

open Idealize.ShloMosaic Idealize.ShloMosaic.TcCoe Idealize.SL.Sem
open Idealize.ShloMosaic.Pipeline (Dat)
open scoped BigOperators

namespace Cert.Proof.MmRes

/-! The product added to a table. -/

open Cert.KernelMmResIdeal.Final

theorem frame_reference : Cert.quiescent_ReferenceMmResIdeal := by
  intro m g _
  exact (θ_run _ _ _).mono (fun r h => ⟨fun c => (h c).2, sem_eq_zero_of_no_sems (by decide) r.2⟩)
    (Cert.ReferenceMmResIdeal.Value.run m g)

theorem equal : Cert.algebraic_KernelMmResIdeal_ReferenceMmResIdeal := by
  intro m g m' g' _ hag
  refine ⟨fun c => res (argS m c) (argW m c) (argH m c), ?_, ?_⟩
  · refine (θ_run _ _ _).mono (fun r h c => ?_) (Cert.KernelMmResIdeal.Value.run_blocks m g)
    exact ⟨(h c).1.trans final, (h c).2⟩
  · refine (θ_run _ _ _).mono (fun r h c => ?_) (Cert.ReferenceMmResIdeal.Value.run m' g')
    have e := h c
    obtain ⟨a0, a1, a2⟩ := hag c
    exact ⟨(e.1.trans (Cert.ReferenceMmResIdeal.Read.val_main_v4_eq _ _ _)).trans
      ((Cert.ReferenceMmResIdeal.Final.ref_res _ _ _).trans (congr (congr (congrArg res a0) a1) a2)), e.2⟩

end Cert.Proof.MmRes
end
-- ==== Proof.MmNt.Arrays.lean ====
module

public import proofs.«01_k».proof.Proof.Products
public import proofs.«01_k».proof.Proof.Gen.KernelMmNtIdeal.Value
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.KernelMmNtIdeal.Final

open Cert.KernelMmNtIdeal Cert.KernelMmNtIdeal.Gen Cert.Products

/-! A product with a transposed table, one block of columns at a time. -/

variable (m : (ℓ : Loc nD τ sig) → Buf (Elt Ideal) ℓ) (c : Dev nD)

abbrev argD : FVec Ideal S2064x2048 .f32 := m ((c.tc : Thread nD τ).loc main_arg0)
abbrev argW : FVec Ideal S2048x2048 .f32 := m ((c.tc : Thread nD τ).loc main_arg1)

/-- Rows times rows, the result's rows continued by zeros. -/
def res (d : FVec Ideal S2064x2048 .f32) (w : FVec Ideal S2048x2048 .f32) : FVec Ideal S2176x2048 .f32 := fun y =>
  if p : (y 0).val < 2064 then ∑ k : Fin 2048, (d (ix2 ⟨(y 0).val, p⟩ k) : EReal) * w (ix2 (y 1) k) else 0

theorem idx : ∀ t : Fin cfg0.N, win0_0.index t = ![0, 0] ∧ win0_1.index t = ![t.val, 0] ∧ win0_2.index t = ![0, t.val] :=
  (by decide +kernel : ∀ t : Fin grid0.N, _)

/-- The weights' row, and the result's column, of a place in the block at a grid point. -/
def lane (t : Fin cfg0.N) (l : Fin 512) : Fin 2048 := ⟨t.val * 512 + l.val, by have := t.isLt.trans_eq N_0; omega⟩

variable {m c}

theorem host_rows (r : Fin 2176) (k : Fin 2048) : V m c main_v1 (ix2 r k) = if p : r.val < 2064 then argD m c (ix2 ⟨r.val, p⟩ k) else 0 := by
  rw [show V m c main_v1 = fun j => truncf .bf16 (pad S2176x2048 ![0, 0] ![112, 0] ![0, 0] (argD m c) (sitofp (F := Ideal) .f32 (constantI S_ 32 0#32))
    pads_S2064x2048_S2176x2048_01120_000 h_S_) bitsLt_bf16_f32 j from by unfold V; after_reads_simp; rfl]
  pointwise []
  by_cases p : r.val < 2064
  · rw [dif_pos p, dif_pos (by omega)]
  · rw [dif_neg p, dif_neg (by omega)]; exact Reals.sitofp_zero

theorem host_weights (k l : Fin 2048) : V m c main_v2 (ix2 k l) = argW m c (ix2 k l) := by
  rw [show V m c main_v2 = fun j => truncf .bf16 (argW m c) bitsLt_bf16_f32 j from by unfold V; after_reads_simp]; rfl

variable (t : Fin cfg0.N)

theorem read_rows (r : Fin 2176) (k : Fin 2048) : iblk m c 0 t (ix2 r k) = if p : r.val < 2064 then argD m c (ix2 ⟨r.val, p⟩ k) else 0 := by
  refine Eq.trans ?_ (host_rows r k)
  obtain ⟨e, -⟩ := idx t
  blk_ext [iblk, e]

theorem read_weights (l : Fin 512) (k : Fin 2048) : iblk m c 1 t (ix2 l k) = argW m c (ix2 (lane t l) k) := by
  refine Eq.trans ?_ (host_weights (lane t l) k)
  obtain ⟨-, e, -⟩ := idx t
  blk_ext [iblk, e, lane]

theorem block (r : Fin 2176) (l : Fin 512) : outsAt0 m c t (ix2 r l) = res (argD m c) (argW m c) (ix2 r (lane t l)) := by
  unfold outsAt0
  frame_out
  (open_payloads; pointwise)
  simp only [read_rows, read_weights]
  exact past_sum _ _

theorem final : (dats m 0 c).arrAt 2 cfg0.N = res (argD m c) (argW m c) := by
  refine (dats m 0 c).arrAt_eq_of_covers 2 _ (by decide +kernel) fun t hf y => ?_
  refine Eq.trans ?_ (congrArg (res (argD m c) (argW m c)) (?_ : ix2 (y 0 : Fin 2176) (lane t (y 1)) = ((cfg0.win 2).blk t).view.emb y))
  · blk_simp
    rw [after0_2]
    exact (congrArg _ (eq_ix2 y)).trans (block t (y 0) (y 1))
  · obtain ⟨-, -, e⟩ := idx t
    blk_ext [e, lane]

end Cert.KernelMmNtIdeal.Final
end
-- ==== Proof.MmNt.Reference.lean ====
module

public import proofs.«01_k».proof.Proof.MmNt.Arrays
public import proofs.«01_k».proof.Proof.Gen.ReferenceMmNtIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ReferenceMmNtIdeal.Final

open Cert.ReferenceMmNtIdeal Cert.ReferenceMmNtIdeal.Read Cert.KernelMmNtIdeal.Final

/-! The derivative of a product in its first factor, continued by zeros. -/

variable (d : FVec Ideal S2064x2048 .f32) (w : FVec Ideal S2048x2048 .f32)

theorem ref_prod (r : Fin 2064) (l : Fin 2048) :
    val_main_v2 (F := Ideal) d w (ix2 r l) = ∑ k : Fin 2048, (d (ix2 r k) : EReal) * w (ix2 l k) := by
  pointwise [val_main_v2]

theorem ref_res : val_main_v3 (F := Ideal) d w = res d w := by
  funext y
  obtain ⟨r, l, rfl⟩ : ∃ r l, y = ix2 r l := ⟨y 0, y 1, eq_ix2 y⟩
  unfold res
  pointwise [val_main_v3]
  by_cases p : r.val < 2064
  · rw [dif_pos (by omega), dif_pos p]
    exact ref_prod d w ⟨r.val, p⟩ l
  · rw [dif_neg (by omega), dif_neg p]
    pointwise [val_main_call0_v0, val_main_c]
    exact Reals.sitofp_zero

end Cert.ReferenceMmNtIdeal.Final
end
-- ==== Proof.MmNt.Claims.lean ====
module

public import proofs.«01_k».proof.Defs
public import proofs.«01_k».proof.Proof.MmNt.Arrays
public import proofs.«01_k».proof.Proof.MmNt.Reference
public import proofs.«01_k».proof.Proof.Gen.KernelMmNtIdeal.Value
public import proofs.«01_k».proof.Proof.Gen.ReferenceMmNtIdeal.Run
public import proofs.«01_k».proof.Proof.Gen.ReferenceMmNtIdeal.Read

@[expose] public section

set_option maxRecDepth 16384

noncomputable section

open Idealize.ShloMosaic Idealize.ShloMosaic.TcCoe Idealize.SL.Sem
open Idealize.ShloMosaic.Pipeline (Dat)
open scoped BigOperators

namespace Cert.Proof.MmNt

/-! The product with a transposed table. -/

open Cert.KernelMmNtIdeal.Final

theorem frame_reference : Cert.quiescent_ReferenceMmNtIdeal := by
  intro m g _
  exact (θ_run _ _ _).mono (fun r h => ⟨fun c => (h c).2, sem_eq_zero_of_no_sems (by decide) r.2⟩)
    (Cert.ReferenceMmNtIdeal.Value.run m g)

theorem equal : Cert.algebraic_KernelMmNtIdeal_ReferenceMmNtIdeal := by
  intro m g m' g' _ hag
  refine ⟨fun c => res (argD m c) (argW m c), ?_, ?_⟩
  · refine (θ_run _ _ _).mono (fun r h c => ?_) (Cert.KernelMmNtIdeal.Value.run_blocks m g)
    exact ⟨(h c).1.trans final, (h c).2⟩
  · refine (θ_run _ _ _).mono (fun r h c => ?_) (Cert.ReferenceMmNtIdeal.Value.run m' g')
    have e := h c
    obtain ⟨a0, a1⟩ := hag c
    exact ⟨(e.1.trans (Cert.ReferenceMmNtIdeal.Read.val_main_v3_eq _ _)).trans
      ((Cert.ReferenceMmNtIdeal.Final.ref_res _ _).trans (congr (congrArg res a0) a1)), e.2⟩

end Cert.Proof.MmNt
end
-- ==== Proof.MmSum.Arrays.lean ====
module

public import proofs.«01_k».proof.Proof.Products
public import proofs.«01_k».proof.Proof.Gen.KernelMmSumIdeal.Value
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.KernelMmSumIdeal.Final

open Cert.KernelMmSumIdeal Cert.KernelMmSumIdeal.Gen Cert.Products

/-! Two products with transposed tables, summed a stretch of columns at a time. -/

variable (m : (ℓ : Loc nD τ sig) → Buf (Elt Ideal) ℓ) (c : Dev nD)

abbrev argA : FVec Ideal S2064x5632 .f32 := m ((c.tc : Thread nD τ).loc main_arg0)
abbrev argB : FVec Ideal S2064x5632 .f32 := m ((c.tc : Thread nD τ).loc main_arg1)
abbrev argG : FVec Ideal S2048x5632 .f32 := m ((c.tc : Thread nD τ).loc main_arg2)
abbrev argU : FVec Ideal S2048x5632 .f32 := m ((c.tc : Thread nD τ).loc main_arg3)

/-- The two products' sum, its rows continued by zeros. -/
def res (a b : FVec Ideal S2064x5632 .f32) (g u : FVec Ideal S2048x5632 .f32) : FVec Ideal S2176x2048 .f32 := fun y =>
  if p : (y 0).val < 2064 then (∑ k : Fin 5632, (b (ix2 ⟨(y 0).val, p⟩ k) : EReal) * u (ix2 (y 1) k))
    + ∑ k : Fin 5632, (a (ix2 ⟨(y 0).val, p⟩ k) : EReal) * g (ix2 (y 1) k) else 0

theorem res_at (a b : FVec Ideal S2064x5632 .f32) (g u : FVec Ideal S2048x5632 .f32) (r : Fin 2176) (l : Fin 2048) : res a b g u (ix2 r l)
    = if p : r.val < 2064 then (∑ k : Fin 5632, (b (ix2 ⟨r.val, p⟩ k) : EReal) * u (ix2 l k))
      + ∑ k : Fin 5632, (a (ix2 ⟨r.val, p⟩ k) : EReal) * g (ix2 l k) else 0 := rfl

theorem idx : ∀ t : Fin cfg0.N, win0_0.index t = ![0, t.val % 4] ∧ win0_1.index t = ![0, t.val % 4] ∧ win0_2.index t = ![t.val / 4, t.val % 4]
    ∧ win0_3.index t = ![t.val / 4, t.val % 4] ∧ win0_4.index t = ![0, t.val / 4] :=
  (by decide +kernel : ∀ t : Fin grid0.N, _)

/-- The result's column, and the summed column, of a place in the blocks at a grid point. -/
def lane (t : Fin cfg0.N) (l : Fin 512) : Fin 2048 := ⟨t.val / 4 * 512 + l.val, by have := t.isLt.trans_eq N_0; omega⟩
def stretch (s : Fin 4) (k : Fin 1408) : Fin 5632 := ⟨s.val * 1408 + k.val, by omega⟩
def turn (t : Fin cfg0.N) : Fin 4 := ⟨t.val % 4, by omega⟩

/-- A sum over all columns, one stretch after the other. -/
theorem stretches (f : Fin 5632 → EReal) : ∑ k, f k
    = (∑ k, f (stretch 0 k)) + (∑ k, f (stretch 1 k)) + (∑ k, f (stretch 2 k)) + ∑ k, f (stretch 3 k) := by
  rw [← Fin.sum_univ_four (fun s => ∑ k, f (stretch s k)), ← Fintype.sum_prod_type']
  exact (Fintype.sum_equiv (finProdFinEquiv (m := 4) (n := 1408)) _ _ fun x => congrArg f (Fin.ext (by
    show x.1.val * 1408 + x.2.val = x.2.val + 1408 * x.1.val; omega))).symm

variable {m c}

theorem host_first (r : Fin 2176) (k : Fin 5632) : V m c main_v1 (ix2 r k) = if p : r.val < 2064 then argA m c (ix2 ⟨r.val, p⟩ k) else 0 := by
  rw [show V m c main_v1 = fun j => truncf .bf16 (pad S2176x5632 ![0, 0] ![112, 0] ![0, 0] (argA m c) (sitofp (F := Ideal) .f32 (constantI S_ 32 0#32))
    pads_S2064x5632_S2176x5632_01120_000 h_S_) bitsLt_bf16_f32 j from by unfold V; after_reads_simp; rfl]
  pointwise []
  by_cases p : r.val < 2064
  · rw [dif_pos p, dif_pos (by omega)]
  · rw [dif_neg p, dif_neg (by omega)]; exact Reals.sitofp_zero

theorem host_second (r : Fin 2176) (k : Fin 5632) : V m c main_v3 (ix2 r k) = if p : r.val < 2064 then argB m c (ix2 ⟨r.val, p⟩ k) else 0 := by
  rw [show V m c main_v3 = fun j => truncf .bf16 (pad S2176x5632 ![0, 0] ![112, 0] ![0, 0] (argB m c) (sitofp (F := Ideal) .f32 (constantI S_ 32 0#32))
    pads_S2064x5632_S2176x5632_01120_000 h_S_) bitsLt_bf16_f32 j from by unfold V; after_reads_simp; rfl]
  pointwise []
  by_cases p : r.val < 2064
  · rw [dif_pos p, dif_pos (by omega)]
  · rw [dif_neg p, dif_neg (by omega)]; exact Reals.sitofp_zero

theorem host_gate (k : Fin 2048) (l : Fin 5632) : V m c main_v4 (ix2 k l) = argG m c (ix2 k l) := by
  rw [show V m c main_v4 = fun j => truncf .bf16 (argG m c) bitsLt_bf16_f32 j from by unfold V; after_reads_simp]; rfl

theorem host_up (k : Fin 2048) (l : Fin 5632) : V m c main_v5 (ix2 k l) = argU m c (ix2 k l) := by
  rw [show V m c main_v5 = fun j => truncf .bf16 (argU m c) bitsLt_bf16_f32 j from by unfold V; after_reads_simp]; rfl

section
variable (t : Fin cfg0.N)

theorem read_first (r : Fin 2176) (k : Fin 1408) :
    iblk m c 0 t (ix2 r k) = if p : r.val < 2064 then argA m c (ix2 ⟨r.val, p⟩ (stretch (turn t) k)) else 0 := by
  refine Eq.trans ?_ (host_first r (stretch (turn t) k))
  obtain ⟨e, -⟩ := idx t
  blk_ext [iblk, e, stretch, turn]

theorem read_second (r : Fin 2176) (k : Fin 1408) :
    iblk m c 1 t (ix2 r k) = if p : r.val < 2064 then argB m c (ix2 ⟨r.val, p⟩ (stretch (turn t) k)) else 0 := by
  refine Eq.trans ?_ (host_second r (stretch (turn t) k))
  obtain ⟨-, e, -⟩ := idx t
  blk_ext [iblk, e, stretch, turn]

theorem read_gate (l : Fin 512) (k : Fin 1408) : iblk m c 2 t (ix2 l k) = argG m c (ix2 (lane t l) (stretch (turn t) k)) := by
  refine Eq.trans ?_ (host_gate (lane t l) (stretch (turn t) k))
  obtain ⟨-, -, e, -⟩ := idx t
  blk_ext [iblk, e, lane, stretch, turn]

theorem read_up (l : Fin 512) (k : Fin 1408) : iblk m c 3 t (ix2 l k) = argU m c (ix2 (lane t l) (stretch (turn t) k)) := by
  refine Eq.trans ?_ (host_up (lane t l) (stretch (turn t) k))
  obtain ⟨-, -, -, e, -⟩ := idx t
  blk_ext [iblk, e, lane, stretch, turn]
end

/-- What one stretch adds, from either product. -/
def addA (r : Fin 2176) (l : Fin 2048) (s : Fin 4) : EReal :=
  if p : r.val < 2064 then ∑ k, (argA m c (ix2 ⟨r.val, p⟩ (stretch s k)) : EReal) * argG m c (ix2 l (stretch s k)) else 0
def addB (r : Fin 2176) (l : Fin 2048) (s : Fin 4) : EReal :=
  if p : r.val < 2064 then ∑ k, (argB m c (ix2 ⟨r.val, p⟩ (stretch s k)) : EReal) * argU m c (ix2 l (stretch s k)) else 0

section
variable (t : Fin cfg0.N) (r : Fin 2176) (l : Fin 512)

/-- The running sum after the first point of a run, -/
theorem start (z : t.val % 4 = 0) : (outsAt0 m c t.val t.isLt).2 (ix2 r l)
    = (0 + addA (m := m) (c := c) r (lane t l) (turn t)) + addB (m := m) (c := c) r (lane t l) (turn t) := by
  rw [outsAt0_A m c t z (by omega)]
  frame_out
  (open_payloads; pointwise)
  simp only [read_first, read_second, read_gate, read_up, past_sum]
  rfl

/-- after a later one, -/
theorem further (z : ¬t.val % 4 = 0) : (outsAt0 m c t.val t.isLt).2 (ix2 r l)
    = ((outsAt0 m c (t.val - 1) (Nat.lt_of_le_of_lt (Nat.sub_le _ _) t.isLt)).2 (ix2 r l)
      + addA (m := m) (c := c) r (lane t l) (turn t)) + addB (m := m) (c := c) r (lane t l) (turn t) := by
  by_cases e : t.val % 4 = 3
  on_goal 1 => rw [outsAt0_C m c t z e]
  on_goal 2 => rw [outsAt0_B m c t z e]
  all_goals
    frame_out
    (open_payloads; pointwise)
    simp only [read_first, read_second, read_gate, read_up, past_sum]
    exact congrArg (fun v : EReal => v + addA (m := m) (c := c) r (lane t l) (turn t) + addB (m := m) (c := c) r (lane t l) (turn t))
      (congrFun ((Memref.isWhole_whole cc0_scratch0).read_unread _) (ix2 r l))

/-- and the block written at the last one is the running sum. -/
theorem written (z : t.val % 4 = 3) : (outsAt0 m c t.val t.isLt).1 (ix2 r l) = (outsAt0 m c t.val t.isLt).2 (ix2 r l) := by
  rw [outsAt0_C m c t (by omega) z]
  frame_out

theorem block (z : t.val % 4 = 3) : (outsAt0 m c t.val t.isLt).1 (ix2 r l)
    = res (argA m c) (argB m c) (argG m c) (argU m c) (ix2 r (lane t l)) := by
  have b := t.isLt.trans_eq N_0
  have at1 (d : ℕ) (q : d ≤ 3) : t.val - d < cfg0.N := Nat.lt_of_le_of_lt (Nat.sub_le _ _) t.isLt
  have place (d : ℕ) (q : d ≤ 3) : lane ⟨t.val - d, at1 d q⟩ l = lane t l := Fin.ext (by show (t.val - d) / 4 * 512 + _ = t.val / 4 * 512 + _; omega)
  have step (d : ℕ) (q : d ≤ 3) (s : Fin 4) (e : d + s.val = 3) : turn ⟨t.val - d, at1 d q⟩ = s := Fin.ext (by show (t.val - d) % 4 = s.val; omega)
  have s0 := start (m := m) (c := c) ⟨t.val - 3, at1 3 (by omega)⟩ r l (by show (t.val - 3) % 4 = 0; omega)
  have s1 := further (m := m) (c := c) ⟨t.val - 2, at1 2 (by omega)⟩ r l (by show ¬(t.val - 2) % 4 = 0; omega)
  have s2 := further (m := m) (c := c) ⟨t.val - 1, at1 1 (by omega)⟩ r l (by show ¬(t.val - 1) % 4 = 0; omega)
  have s3 := further (m := m) (c := c) t r l (by omega)
  rw [place 3 (by omega), step 3 (by omega) 0 rfl] at s0
  rw [place 2 (by omega), step 2 (by omega) 1 rfl] at s1
  rw [place 1 (by omega), step 1 (by omega) 2 rfl] at s2
  rw [show turn t = 3 from Fin.ext z] at s3
  rw [written t r l z, s3]
  refine (congrArg (fun v : EReal => v + _ + _) s2).trans ?_
  refine (congrArg (fun v : EReal => v + _ + _ + _ + _) s1).trans ?_
  refine (congrArg (fun v : EReal => v + _ + _ + _ + _ + _ + _) s0).trans ?_
  rw [res_at]
  unfold addA addB
  by_cases p : r.val < 2064
  · simp only [dif_pos p, stretches, zero_add]
    ac_rfl
  · simp only [dif_neg p, add_zero]
end

theorem final : (dats m 0 c).arrAt 4 cfg0.N = res (argA m c) (argB m c) (argG m c) (argU m c) := by
  refine (dats m 0 c).arrAt_eq_of_covers 4 _ (by decide +kernel) fun t hf y => ?_
  refine Eq.trans ?_ (congrArg (res (argA m c) (argB m c) (argG m c) (argU m c)) (?_ : ix2 (y 0 : Fin 2176) (lane t (y 1)) = ((cfg0.win 4).blk t).view.emb y))
  · blk_simp
    rw [after0_4]
    exact (congrArg _ (eq_ix2 y)).trans (block t (y 0) (y 1) ((flush0_4 t).1 hf))
  · obtain ⟨-, -, -, -, e⟩ := idx t
    blk_ext [e, lane]

end Cert.KernelMmSumIdeal.Final
end
-- ==== Proof.MmSum.Reference.lean ====
module

public import proofs.«01_k».proof.Proof.MmSum.Arrays
public import proofs.«01_k».proof.Proof.Gen.ReferenceMmSumIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ReferenceMmSumIdeal.Final

open Cert.ReferenceMmSumIdeal Cert.ReferenceMmSumIdeal.Read Cert.KernelMmSumIdeal.Final

/-! The derivative of two products in their common factor, continued by zeros. -/

variable (a b : FVec Ideal S2064x5632 .f32) (g u : FVec Ideal S2048x5632 .f32)

theorem ref_sum (r : Fin 2064) (l : Fin 2048) : val_main_v5 (F := Ideal) a b g u (ix2 r l)
    = (∑ k : Fin 5632, (b (ix2 r k) : EReal) * u (ix2 l k)) + ∑ k : Fin 5632, (a (ix2 r k) : EReal) * g (ix2 l k) := by
  pointwise [val_main_v5, val_main_v4, val_main_v3]

theorem ref_res : val_main_v6 (F := Ideal) a b g u = res a b g u := by
  funext y
  obtain ⟨r, l, rfl⟩ : ∃ r l, y = ix2 r l := ⟨y 0, y 1, eq_ix2 y⟩
  unfold res
  pointwise [val_main_v6]
  by_cases p : r.val < 2064
  · rw [dif_pos (by omega), dif_pos p]
    exact ref_sum a b g u ⟨r.val, p⟩ l
  · rw [dif_neg (by omega), dif_neg p]
    pointwise [val_main_call0_v0, val_main_c]
    exact Reals.sitofp_zero

end Cert.ReferenceMmSumIdeal.Final
end
-- ==== Proof.MmSum.Claims.lean ====
module

public import proofs.«01_k».proof.Defs
public import proofs.«01_k».proof.Proof.MmSum.Arrays
public import proofs.«01_k».proof.Proof.MmSum.Reference
public import proofs.«01_k».proof.Proof.Gen.KernelMmSumIdeal.Value
public import proofs.«01_k».proof.Proof.Gen.ReferenceMmSumIdeal.Run
public import proofs.«01_k».proof.Proof.Gen.ReferenceMmSumIdeal.Read

@[expose] public section

set_option maxRecDepth 16384

noncomputable section

open Idealize.ShloMosaic Idealize.ShloMosaic.TcCoe Idealize.SL.Sem
open Idealize.ShloMosaic.Pipeline (Dat)
open scoped BigOperators

namespace Cert.Proof.MmSum

/-! The sum of two products with transposed tables. -/

open Cert.KernelMmSumIdeal.Final

theorem frame_reference : Cert.quiescent_ReferenceMmSumIdeal := by
  intro m g _
  exact (θ_run _ _ _).mono (fun r h => ⟨fun c => (h c).2, sem_eq_zero_of_no_sems (by decide) r.2⟩)
    (Cert.ReferenceMmSumIdeal.Value.run m g)

theorem equal : Cert.algebraic_KernelMmSumIdeal_ReferenceMmSumIdeal := by
  intro m g m' g' _ hag
  refine ⟨fun c => res (argA m c) (argB m c) (argG m c) (argU m c), ?_, ?_⟩
  · refine (θ_run _ _ _).mono (fun r h c => ?_) (Cert.KernelMmSumIdeal.Value.run_blocks m g)
    exact ⟨(h c).1.trans final, (h c).2⟩
  · refine (θ_run _ _ _).mono (fun r h c => ?_) (Cert.ReferenceMmSumIdeal.Value.run m' g')
    have e := h c
    obtain ⟨a0, a1, a2, a3⟩ := hag c
    exact ⟨(e.1.trans (Cert.ReferenceMmSumIdeal.Read.val_main_v6_eq _ _ _ _)).trans
      ((Cert.ReferenceMmSumIdeal.Final.ref_res _ _ _ _).trans (congr (congr (congr (congrArg res a0) a1) a2) a3)), e.2⟩

end Cert.Proof.MmSum
end
-- ==== Proof.MmTn.Arrays.lean ====
module

public import proofs.«01_k».proof.Proof.Products
public import proofs.«01_k».proof.Proof.Gen.KernelMmTnIdeal.Value
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.KernelMmTnIdeal.Final

open Cert.KernelMmTnIdeal Cert.KernelMmTnIdeal.Gen Cert.Products

/-! A product summed over the rows of both tables, in blocks, the blocks of columns stacked. -/

variable (m : (ℓ : Loc nD τ sig) → Buf (Elt Ideal) ℓ) (c : Dev nD)

abbrev argN : FVec Ideal S2064x2048 .f32 := m ((c.tc : Thread nD τ).loc main_arg0)
abbrev argD : FVec Ideal S2064x5632 .f32 := m ((c.tc : Thread nD τ).loc main_arg1)

/-- Column times column, the columns of the second table in four stacks. -/
def res (n : FVec Ideal S2064x2048 .f32) (d : FVec Ideal S2064x5632 .f32) : FVec Ideal S4x2048x1408 .bf16 := fun y =>
  ∑ r : Fin 2064, (n (ix2 r (y 1)) : EReal) * d (ix2 r (⟨(y 0).val * 1408 + (y 2).val, by have := (y 0).isLt; have := (y 2).isLt; simp at *; omega⟩ : Fin 5632))

theorem idx : ∀ t : Fin cfg0.N, win0_0.index t = ![t.val / 4, 0] ∧ win0_1.index t = ![0, t.val % 4] ∧ win0_2.index t = ![t.val % 4, t.val / 4, 0] :=
  (by decide +kernel : ∀ t : Fin grid0.N, _)

/-- The row of the result, the stack and the column of the second table, at a grid point. -/
def place (t : Fin cfg0.N) (l : Fin 1024) : Fin 2048 := ⟨t.val / 4 * 1024 + l.val, by have := t.isLt.trans_eq N_0; omega⟩
def stack (t : Fin cfg0.N) : Fin 4 := ⟨t.val % 4, by omega⟩
def lane (t : Fin cfg0.N) (l : Fin 1408) : Fin 5632 := ⟨t.val % 4 * 1408 + l.val, by omega⟩

variable {m c}

theorem host_turned (k : Fin 2048) (r : Fin 2176) : V m c main_v2 (ix2 k r) = if p : r.val < 2064 then argN m c (ix2 ⟨r.val, p⟩ k) else 0 := by
  rw [show V m c main_v2 = fun j => truncf .bf16 (transpose S2048x2176 [1, 0] (pad S2176x2048 ![0, 0] ![112, 0] ![0, 0] (argN m c)
    (sitofp (F := Ideal) .f32 (constantI S_ 32 0#32)) pads_S2064x2048_S2176x2048_01120_000 h_S_) transposes_S2176x2048_S2048x2176_1_0) bitsLt_bf16_f32 j from by
    unfold V; after_reads_simp; rfl]
  pointwise []
  by_cases p : r.val < 2064
  · rw [dif_pos p, dif_pos (by omega)]
  · rw [dif_neg p, dif_neg (by omega)]; exact Reals.sitofp_zero

theorem host_rows (r : Fin 2176) (k : Fin 5632) : V m c main_v4 (ix2 r k) = if p : r.val < 2064 then argD m c (ix2 ⟨r.val, p⟩ k) else 0 := by
  rw [show V m c main_v4 = fun j => truncf .bf16 (pad S2176x5632 ![0, 0] ![112, 0] ![0, 0] (argD m c) (sitofp (F := Ideal) .f32 (constantI S_ 32 0#32))
    pads_S2064x5632_S2176x5632_01120_000 h_S_) bitsLt_bf16_f32 j from by unfold V; after_reads_simp; rfl]
  pointwise []
  by_cases p : r.val < 2064
  · rw [dif_pos p, dif_pos (by omega)]
  · rw [dif_neg p, dif_neg (by omega)]; exact Reals.sitofp_zero

variable (t : Fin cfg0.N)

theorem read_turned (k : Fin 1024) (r : Fin 2176) : iblk m c 0 t (ix2 k r) = if p : r.val < 2064 then argN m c (ix2 ⟨r.val, p⟩ (place t k)) else 0 := by
  refine Eq.trans ?_ (host_turned (place t k) r)
  obtain ⟨e, -⟩ := idx t
  blk_ext [iblk, e, place]

theorem read_rows (r : Fin 2176) (l : Fin 1408) : iblk m c 1 t (ix2 r l) = if p : r.val < 2064 then argD m c (ix2 ⟨r.val, p⟩ (lane t l)) else 0 := by
  refine Eq.trans ?_ (host_rows r (lane t l))
  obtain ⟨-, e, -⟩ := idx t
  blk_ext [iblk, e, lane]

theorem block (k : Fin 1024) (l : Fin 1408) : outsAt0 m c t (ix3 0 k l) = res (argN m c) (argD m c) (ix3 (stack t) (place t k) l) := by
  unfold outsAt0
  frame_out
  (open_payloads; pointwise)
  simp only [read_turned]
  refine (short_sum (fun r => argN m c (ix2 r (place t k))) (fun r => iblk m c 1 t (ix2 r l))).trans (Finset.sum_congr rfl fun r _ => ?_)
  rw [read_rows, dif_pos r.isLt]
  rfl

theorem final : (dats m 0 c).arrAt 2 cfg0.N = res (argN m c) (argD m c) := by
  refine (dats m 0 c).arrAt_eq_of_covers 2 _ (by decide +kernel) fun t hf y => ?_
  refine Eq.trans ?_ (congrArg (res (argN m c) (argD m c)) (?_ : ix3 (stack t) (place t (y 1)) (y 2 : Fin 1408) = ((cfg0.win 2).blk t).view.emb y))
  · blk_simp
    rw [after0_2]
    exact (congrArg _ ((eq_ix3 y).trans (congrArg (fun z : Fin 1 => ix3 z (y 1) (y 2)) (Subsingleton.elim _ 0)))).trans (block t (y 1) (y 2))
  · obtain ⟨-, -, e⟩ := idx t
    blk_ext [e, place, stack]

end Cert.KernelMmTnIdeal.Final
end
-- ==== Proof.MmTn.Reference.lean ====
module

public import proofs.«01_k».proof.Proof.MmTn.Arrays
public import proofs.«01_k».proof.Proof.Gen.ReferenceMmTnIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ReferenceMmTnIdeal.Final

open Cert.ReferenceMmTnIdeal Cert.ReferenceMmTnIdeal.Read Cert.KernelMmTnIdeal.Final

/-! The derivative of a product in its second factor, its columns in four stacks. -/

variable (n : FVec Ideal S2064x2048 .f32) (d : FVec Ideal S2064x5632 .f32)

theorem ref_prod (l : Fin 5632) (k : Fin 2048) :
    val_main_v2 (F := Ideal) n d (ix2 l k) = ∑ r : Fin 2064, (d (ix2 r l) : EReal) * n (ix2 r k) := by
  pointwise [val_main_v2]

theorem ref_res : val_main_v6 (F := Ideal) n d = res n d := by
  funext y
  obtain ⟨s, k, l, rfl⟩ : ∃ s k l, y = ix3 s k l := ⟨y 0, y 1, y 2, eq_ix3 y⟩
  rw [val_main_v6_apply, val_main_v5_apply, val_main_v4_apply, val_main_v3_apply]
  refine Eq.trans (congrArg (val_main_v2 (F := Ideal) n d) (?_ : _ = ix2 (⟨s.val * 1408 + l.val, by omega⟩ : Fin 5632) k))
    ((ref_prod n d _ k).trans (Finset.sum_congr rfl fun r _ => mul_comm _ _))
  funext a
  fin_cases a <;> apply Fin.ext <;> simp [idx_main_v3, idx_main_v4, idx_main_v5] <;> omega

end Cert.ReferenceMmTnIdeal.Final
end
-- ==== Proof.MmTn.Claims.lean ====
module

public import proofs.«01_k».proof.Defs
public import proofs.«01_k».proof.Proof.MmTn.Arrays
public import proofs.«01_k».proof.Proof.MmTn.Reference
public import proofs.«01_k».proof.Proof.Gen.KernelMmTnIdeal.Value
public import proofs.«01_k».proof.Proof.Gen.ReferenceMmTnIdeal.Run
public import proofs.«01_k».proof.Proof.Gen.ReferenceMmTnIdeal.Read

@[expose] public section

set_option maxRecDepth 16384

noncomputable section

open Idealize.ShloMosaic Idealize.ShloMosaic.TcCoe Idealize.SL.Sem
open Idealize.ShloMosaic.Pipeline (Dat)
open scoped BigOperators

namespace Cert.Proof.MmTn

/-! The product summed over rows. -/

open Cert.KernelMmTnIdeal.Final

theorem frame_reference : Cert.quiescent_ReferenceMmTnIdeal := by
  intro m g _
  exact (θ_run _ _ _).mono (fun r h => ⟨fun c => (h c).2, sem_eq_zero_of_no_sems (by decide) r.2⟩)
    (Cert.ReferenceMmTnIdeal.Value.run m g)

theorem equal : Cert.algebraic_KernelMmTnIdeal_ReferenceMmTnIdeal := by
  intro m g m' g' _ hag
  refine ⟨fun c => res (argN m c) (argD m c), ?_, ?_⟩
  · refine (θ_run _ _ _).mono (fun r h c => ?_) (Cert.KernelMmTnIdeal.Value.run_blocks m g)
    exact ⟨(h c).1.trans final, (h c).2⟩
  · refine (θ_run _ _ _).mono (fun r h c => ?_) (Cert.ReferenceMmTnIdeal.Value.run m' g')
    have e := h c
    obtain ⟨a0, a1⟩ := hag c
    exact ⟨(e.1.trans (Cert.ReferenceMmTnIdeal.Read.val_main_v6_eq _ _)).trans
      ((Cert.ReferenceMmTnIdeal.Final.ref_res _ _).trans (congr (congrArg res a0) a1)), e.2⟩

end Cert.Proof.MmTn
end
-- ==== Proof.Adamw.Arrays.lean ====
module

public import proofs.«01_k».proof.Proof.Gen.KernelAdamwIdeal.Value
public import proofs.«01_k».proof.Proof.Gen.ReferenceAdamwIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Adamw

/-! One step of the optimiser, entry by entry: the kernel's three new tables are the reference's. -/

open Cert.ReferenceAdamwIdeal Cert.ReferenceAdamwIdeal.Read

variable {w g a b : FVec Ideal S16x2048 .f32}

theorem first : Cert.KernelAdamwIdeal.Value.G6 (F := Ideal) g w a b = val_main_v4 (F := Ideal) g a := by
  funext y
  obtain ⟨r, l, rfl⟩ : ∃ r l, y = ix2 r l := ⟨y 0, y 1, eq_ix2 y⟩
  pointwise [Cert.KernelAdamwIdeal.Value.G6, Cert.KernelAdamwIdeal.Gen.k0_pay1, val_main_v4, val_main_v3, val_main_v2, val_main_v1, val_main_v0,
    val_main_cst, val_main_cst_0]

theorem second : Cert.KernelAdamwIdeal.Value.G7 (F := Ideal) g w a b = val_main_v10 (F := Ideal) g b := by
  funext y
  obtain ⟨r, l, rfl⟩ : ∃ r l, y = ix2 r l := ⟨y 0, y 1, eq_ix2 y⟩
  pointwise [Cert.KernelAdamwIdeal.Value.G7, Cert.KernelAdamwIdeal.Gen.k0_pay2, val_main_v10, val_main_v9, val_main_v8, val_main_v7, val_main_v6,
    val_main_v5, val_main_cst_1, val_main_cst_2]

theorem change : Cert.KernelAdamwIdeal.Value.G5 (F := Ideal) g w a b = val_main_v23 (F := Ideal) w g a b := by
  funext y
  obtain ⟨r, l, rfl⟩ : ∃ r l, y = ix2 r l := ⟨y 0, y 1, eq_ix2 y⟩
  have e : Cert.KernelAdamwIdeal.Gen.k0_pay1 (F := Ideal) g a (ix2 r l) = _ := congrFun (first (w := w) (g := g) (a := a) (b := b)) (ix2 r l)
  have f : Cert.KernelAdamwIdeal.Gen.k0_pay2 (F := Ideal) g b (ix2 r l) = _ := congrFun (second (w := w) (g := g) (a := a) (b := b)) (ix2 r l)
  pointwise [Cert.KernelAdamwIdeal.Value.G5, Cert.KernelAdamwIdeal.Gen.k0_pay3, val_main_v23, val_main_v22, val_main_v21, val_main_v20, val_main_v19,
    val_main_v18, val_main_v17, val_main_v16, val_main_v15, val_main_v14, val_main_v13, val_main_v12, val_main_v11, val_main_cst_3, val_main_cst_4,
    val_main_cst_5, val_main_cst_6, val_main_cst_7]
  rw [e, f]

end Cert.Adamw
end
-- ==== Proof.Adamw.Claims.lean ====
module

public import proofs.«01_k».proof.Defs
public import proofs.«01_k».proof.Proof.Adamw.Arrays
public import proofs.«01_k».proof.Proof.Gen.KernelAdamwIdeal.Value
public import proofs.«01_k».proof.Proof.Gen.ReferenceAdamwIdeal.Run
public import proofs.«01_k».proof.Proof.Gen.ReferenceAdamwIdeal.Read

@[expose] public section

set_option maxRecDepth 16384

noncomputable section

open Idealize.ShloMosaic Idealize.ShloMosaic.TcCoe Idealize.SL.Sem
open Idealize.ShloMosaic.Pipeline (Dat)
open scoped BigOperators

namespace Cert.Proof.Adamw

/-! One step of the optimiser. -/

open Cert.Adamw Cert.KernelAdamwIdeal

theorem frame_reference : Cert.quiescent_ReferenceAdamwIdeal := by
  intro m g _
  exact (θ_run _ _ _).mono (fun r h => ⟨fun c => (h c).2.2.2.2, sem_eq_zero_of_no_sems (by decide) r.2⟩)
    (Cert.ReferenceAdamwIdeal.Value.run m g)

/-- The tables of a device when the step begins. -/
abbrev weights (m : (ℓ : Loc nD τ sig) → Buf (Elt Ideal) ℓ) (c : Dev nD) : FVec Ideal S16x2048 .f32 := m ((c.tc : Thread nD τ).loc main_arg0)
abbrev slopes (m : (ℓ : Loc nD τ sig) → Buf (Elt Ideal) ℓ) (c : Dev nD) : FVec Ideal S16x2048 .f32 := m ((c.tc : Thread nD τ).loc main_arg1)
abbrev means (m : (ℓ : Loc nD τ sig) → Buf (Elt Ideal) ℓ) (c : Dev nD) : FVec Ideal S16x2048 .f32 := m ((c.tc : Thread nD τ).loc main_arg2)
abbrev squares (m : (ℓ : Loc nD τ sig) → Buf (Elt Ideal) ℓ) (c : Dev nD) : FVec Ideal S16x2048 .f32 := m ((c.tc : Thread nD τ).loc main_arg3)

open Cert.ReferenceAdamwIdeal.Read in
theorem equal : Cert.algebraic_KernelAdamwIdeal_ReferenceAdamwIdeal := by
  intro m g m' g' _ hag
  refine ⟨fun c => slopes m c, fun c => val_main_v23 (F := Ideal) (weights m c) (slopes m c) (means m c) (squares m c),
    fun c => val_main_v4 (F := Ideal) (slopes m c) (means m c), fun c => val_main_v10 (F := Ideal) (slopes m c) (squares m c), ?_, ?_⟩
  · refine (θ_run _ _ _).mono (fun r h c => ?_) (Cert.KernelAdamwIdeal.Value.run_blocks m g)
    have e := h c
    exact ⟨e.1.trans (Cert.KernelAdamwIdeal.Value.final4 m c), e.2.1.trans ((Cert.KernelAdamwIdeal.Value.final5 m c).trans change),
      e.2.2.1.trans ((Cert.KernelAdamwIdeal.Value.final6 m c).trans first),
      e.2.2.2.1.trans ((Cert.KernelAdamwIdeal.Value.final7 m c).trans second), e.2.2.2.2⟩
  · refine (θ_run _ _ _).mono (fun r h c => ?_) (Cert.ReferenceAdamwIdeal.Value.run m' g')
    have e := h c
    obtain ⟨a0, a1, a2, a3⟩ := hag c
    have p : ∀ {w g a b}, w = weights m c → g = slopes m c → a = means m c → b = squares m c → val_main_v23 (F := Ideal) w g a b
        = val_main_v23 (F := Ideal) (weights m c) (slopes m c) (means m c) (squares m c) := fun p q r s => by rw [p, q, r, s]
    exact ⟨e.1.trans a1, (e.2.1.trans (val_main_v23_eq _ _ _ _)).trans (p a0 a1 a2 a3),
      (e.2.2.1.trans (val_main_v4_eq _ _)).trans (congr (congrArg (val_main_v4 (F := Ideal)) a1) a2),
      (e.2.2.2.1.trans (val_main_v10_eq _ _)).trans (congr (congrArg (val_main_v10 (F := Ideal)) a1) a3), e.2.2.2.2⟩

end Cert.Proof.Adamw
end
-- ==== Proof.lean ====
/- The claims about the kernels, put together from the modules that prove them. -/
module

public import proofs.«01_k».proof.Defs
public import proofs.«01_k».proof.Proof.Gen.KernelLoss.Frame
public import proofs.«01_k».proof.Proof.Gen.KernelLossIdeal.Frame
public import proofs.«01_k».proof.Proof.Gen.KernelLossIdeal.Value
public import proofs.«01_k».proof.Proof.Gen.ReferenceLossIdeal.Run
public import proofs.«01_k».proof.Proof.Gen.ReferenceLossIdeal.Read
public import proofs.«01_k».proof.Proof.Loss.Claims
public import proofs.«01_k».proof.Proof.Gen.KernelAttnQ.Frame
public import proofs.«01_k».proof.Proof.Gen.KernelAttnQIdeal.Frame
public import proofs.«01_k».proof.Proof.Gen.KernelAttnQIdeal.Value
public import proofs.«01_k».proof.Proof.Gen.ReferenceAttnQIdeal.Run
public import proofs.«01_k».proof.Proof.Gen.ReferenceAttnQIdeal.Read
public import proofs.«01_k».proof.Proof.AttnQ.Claims
public import proofs.«01_k».proof.Proof.Gen.KernelAttnKv.Frame
public import proofs.«01_k».proof.Proof.Gen.KernelAttnKvIdeal.Frame
public import proofs.«01_k».proof.Proof.Gen.KernelAttnKvIdeal.Value
public import proofs.«01_k».proof.Proof.Gen.ReferenceAttnKvIdeal.Run
public import proofs.«01_k».proof.Proof.Gen.ReferenceAttnKvIdeal.Read
public import proofs.«01_k».proof.Proof.AttnKv.Claims
public import proofs.«01_k».proof.Proof.Gen.KernelRms.Frame
public import proofs.«01_k».proof.Proof.Gen.KernelRmsIdeal.Frame
public import proofs.«01_k».proof.Proof.Gen.KernelRmsIdeal.Value
public import proofs.«01_k».proof.Proof.Gen.ReferenceRmsIdeal.Run
public import proofs.«01_k».proof.Proof.Gen.ReferenceRmsIdeal.Read
public import proofs.«01_k».proof.Proof.Rms.Claims
public import proofs.«01_k».proof.Proof.Gen.KernelQkNorm.Frame
public import proofs.«01_k».proof.Proof.Gen.KernelQkNormIdeal.Frame
public import proofs.«01_k».proof.Proof.Gen.KernelQkNormIdeal.Value
public import proofs.«01_k».proof.Proof.Gen.ReferenceQkNormIdeal.Run
public import proofs.«01_k».proof.Proof.Gen.ReferenceQkNormIdeal.Read
public import proofs.«01_k».proof.Proof.QkNorm.Claims
public import proofs.«01_k».proof.Proof.Gen.KernelFfn.Frame
public import proofs.«01_k».proof.Proof.Gen.KernelFfnIdeal.Frame
public import proofs.«01_k».proof.Proof.Gen.KernelFfnIdeal.Value
public import proofs.«01_k».proof.Proof.Gen.ReferenceFfnIdeal.Run
public import proofs.«01_k».proof.Proof.Gen.ReferenceFfnIdeal.Read
public import proofs.«01_k».proof.Proof.Ffn.Claims
public import proofs.«01_k».proof.Proof.Gen.KernelForget.Frame
public import proofs.«01_k».proof.Proof.Gen.KernelForgetIdeal.Frame
public import proofs.«01_k».proof.Proof.Gen.KernelForgetIdeal.Value
public import proofs.«01_k».proof.Proof.Gen.ReferenceForgetIdeal.Run
public import proofs.«01_k».proof.Proof.Gen.ReferenceForgetIdeal.Read
public import proofs.«01_k».proof.Proof.Forget.Claims
public import proofs.«01_k».proof.Proof.Gen.KernelPool.Frame
public import proofs.«01_k».proof.Proof.Gen.KernelPoolIdeal.Frame
public import proofs.«01_k».proof.Proof.Gen.KernelPoolIdeal.Value
public import proofs.«01_k».proof.Proof.Gen.ReferencePoolIdeal.Run
public import proofs.«01_k».proof.Proof.Gen.ReferencePoolIdeal.Read
public import proofs.«01_k».proof.Proof.Pool.Claims
public import proofs.«01_k».proof.Proof.Gen.KernelAttnFwd.Frame
public import proofs.«01_k».proof.Proof.Gen.KernelAttnFwdIdeal.Frame
public import proofs.«01_k».proof.Proof.Gen.KernelAttnFwdIdeal.Value
public import proofs.«01_k».proof.Proof.Gen.ReferenceAttnFwdIdeal.Run
public import proofs.«01_k».proof.Proof.Gen.ReferenceAttnFwdIdeal.Read
public import proofs.«01_k».proof.Proof.AttnFwd.Claims
public import proofs.«01_k».proof.Proof.Gen.KernelRmsFwd.Frame
public import proofs.«01_k».proof.Proof.Gen.KernelRmsFwdIdeal.Frame
public import proofs.«01_k».proof.Proof.Gen.KernelRmsFwdIdeal.Value
public import proofs.«01_k».proof.Proof.Gen.ReferenceRmsFwdIdeal.Run
public import proofs.«01_k».proof.Proof.Gen.ReferenceRmsFwdIdeal.Read
public import proofs.«01_k».proof.Proof.RmsFwd.Claims
public import proofs.«01_k».proof.Proof.Gen.KernelPrep.Frame
public import proofs.«01_k».proof.Proof.Gen.KernelPrepIdeal.Frame
public import proofs.«01_k».proof.Proof.Gen.KernelPrepIdeal.Value
public import proofs.«01_k».proof.Proof.Gen.ReferencePrepIdeal.Run
public import proofs.«01_k».proof.Proof.Gen.ReferencePrepIdeal.Read
public import proofs.«01_k».proof.Proof.Prep.Claims
public import proofs.«01_k».proof.Proof.Gen.KernelPoolFwd.Frame
public import proofs.«01_k».proof.Proof.Gen.KernelPoolFwdIdeal.Frame
public import proofs.«01_k».proof.Proof.Gen.KernelPoolFwdIdeal.Value
public import proofs.«01_k».proof.Proof.Gen.ReferencePoolFwdIdeal.Run
public import proofs.«01_k».proof.Proof.Gen.ReferencePoolFwdIdeal.Read
public import proofs.«01_k».proof.Proof.PoolFwd.Claims
public import proofs.«01_k».proof.Proof.Gen.KernelUpGate.Frame
public import proofs.«01_k».proof.Proof.Gen.KernelUpGateIdeal.Frame
public import proofs.«01_k».proof.Proof.Gen.KernelUpGateIdeal.Value
public import proofs.«01_k».proof.Proof.Gen.ReferenceUpGateIdeal.Run
public import proofs.«01_k».proof.Proof.Gen.ReferenceUpGateIdeal.Read
public import proofs.«01_k».proof.Proof.UpGate.Claims
public import proofs.«01_k».proof.Proof.Gen.KernelUp.Frame
public import proofs.«01_k».proof.Proof.Gen.KernelUpIdeal.Frame
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Up.Claims
public import proofs.«01_k».proof.Proof.Gen.KernelForgetFwd.Frame
public import proofs.«01_k».proof.Proof.Gen.KernelForgetFwdIdeal.Frame
public import proofs.«01_k».proof.Proof.Gen.KernelForgetFwdIdeal.Value
public import proofs.«01_k».proof.Proof.Gen.ReferenceForgetFwdIdeal.Run
public import proofs.«01_k».proof.Proof.Gen.ReferenceForgetFwdIdeal.Read
public import proofs.«01_k».proof.Proof.ForgetFwd.Claims
public import proofs.«01_k».proof.Proof.Gen.KernelMmNn.Frame
public import proofs.«01_k».proof.Proof.Gen.KernelMmNnIdeal.Frame
public import proofs.«01_k».proof.Proof.Gen.KernelMmNnIdeal.Value
public import proofs.«01_k».proof.Proof.Gen.ReferenceMmNnIdeal.Run
public import proofs.«01_k».proof.Proof.Gen.ReferenceMmNnIdeal.Read
public import proofs.«01_k».proof.Proof.MmNn.Claims
public import proofs.«01_k».proof.Proof.Gen.KernelMmRes.Frame
public import proofs.«01_k».proof.Proof.Gen.KernelMmResIdeal.Frame
public import proofs.«01_k».proof.Proof.Gen.KernelMmResIdeal.Value
public import proofs.«01_k».proof.Proof.Gen.ReferenceMmResIdeal.Run
public import proofs.«01_k».proof.Proof.Gen.ReferenceMmResIdeal.Read
public import proofs.«01_k».proof.Proof.MmRes.Claims
public import proofs.«01_k».proof.Proof.Gen.KernelMmNt.Frame
public import proofs.«01_k».proof.Proof.Gen.KernelMmNtIdeal.Frame
public import proofs.«01_k».proof.Proof.Gen.KernelMmNtIdeal.Value
public import proofs.«01_k».proof.Proof.Gen.ReferenceMmNtIdeal.Run
public import proofs.«01_k».proof.Proof.Gen.ReferenceMmNtIdeal.Read
public import proofs.«01_k».proof.Proof.MmNt.Claims
public import proofs.«01_k».proof.Proof.Gen.KernelMmSum.Frame
public import proofs.«01_k».proof.Proof.Gen.KernelMmSumIdeal.Frame
public import proofs.«01_k».proof.Proof.Gen.KernelMmSumIdeal.Value
public import proofs.«01_k».proof.Proof.Gen.ReferenceMmSumIdeal.Run
public import proofs.«01_k».proof.Proof.Gen.ReferenceMmSumIdeal.Read
public import proofs.«01_k».proof.Proof.MmSum.Claims
public import proofs.«01_k».proof.Proof.Gen.KernelMmTn.Frame
public import proofs.«01_k».proof.Proof.Gen.KernelMmTnIdeal.Frame
public import proofs.«01_k».proof.Proof.Gen.KernelMmTnIdeal.Value
public import proofs.«01_k».proof.Proof.Gen.ReferenceMmTnIdeal.Run
public import proofs.«01_k».proof.Proof.Gen.ReferenceMmTnIdeal.Read
public import proofs.«01_k».proof.Proof.MmTn.Claims
public import proofs.«01_k».proof.Proof.Gen.KernelAdamw.Frame
public import proofs.«01_k».proof.Proof.Gen.KernelAdamwIdeal.Frame
public import proofs.«01_k».proof.Proof.Gen.KernelAdamwIdeal.Value
public import proofs.«01_k».proof.Proof.Gen.ReferenceAdamwIdeal.Run
public import proofs.«01_k».proof.Proof.Gen.ReferenceAdamwIdeal.Read
public import proofs.«01_k».proof.Proof.Adamw.Claims
public import Idealize.ShloMosaic.Adequacy
public import Idealize.ShloMosaic.Init

@[expose] public section

noncomputable section

namespace Cert.Proof

open Idealize.ShloMosaic

theorem claim : Cert.Claim := ⟨Cert.KernelLoss.Gen.facts,
  Cert.KernelLossIdeal.Gen.facts,
  Cert.ReferenceLossIdeal.Gen.facts,
  Cert.KernelAttnQ.Gen.facts,
  Cert.KernelAttnQIdeal.Gen.facts,
  Cert.ReferenceAttnQIdeal.Gen.facts,
  Cert.KernelAttnKv.Gen.facts,
  Cert.KernelAttnKvIdeal.Gen.facts,
  Cert.ReferenceAttnKvIdeal.Gen.facts,
  Cert.KernelRms.Gen.facts,
  Cert.KernelRmsIdeal.Gen.facts,
  Cert.ReferenceRmsIdeal.Gen.facts,
  Cert.KernelQkNorm.Gen.facts,
  Cert.KernelQkNormIdeal.Gen.facts,
  Cert.ReferenceQkNormIdeal.Gen.facts,
  Cert.KernelFfn.Gen.facts,
  Cert.KernelFfnIdeal.Gen.facts,
  Cert.ReferenceFfnIdeal.Gen.facts,
  Cert.KernelForget.Gen.facts,
  Cert.KernelForgetIdeal.Gen.facts,
  Cert.ReferenceForgetIdeal.Gen.facts,
  Cert.KernelPool.Gen.facts,
  Cert.KernelPoolIdeal.Gen.facts,
  Cert.ReferencePoolIdeal.Gen.facts,
  Cert.KernelAttnFwd.Gen.facts,
  Cert.KernelAttnFwdIdeal.Gen.facts,
  Cert.ReferenceAttnFwdIdeal.Gen.facts,
  Cert.KernelRmsFwd.Gen.facts,
  Cert.KernelRmsFwdIdeal.Gen.facts,
  Cert.ReferenceRmsFwdIdeal.Gen.facts,
  Cert.KernelPrep.Gen.facts,
  Cert.KernelPrepIdeal.Gen.facts,
  Cert.ReferencePrepIdeal.Gen.facts,
  Cert.KernelPoolFwd.Gen.facts,
  Cert.KernelPoolFwdIdeal.Gen.facts,
  Cert.ReferencePoolFwdIdeal.Gen.facts,
  Cert.KernelUpGate.Gen.facts,
  Cert.KernelUpGateIdeal.Gen.facts,
  Cert.ReferenceUpGateIdeal.Gen.facts,
  Cert.KernelUp.Gen.facts,
  Cert.KernelUpIdeal.Gen.facts,
  Cert.ReferenceUpIdeal.Gen.facts,
  Cert.KernelForgetFwd.Gen.facts,
  Cert.KernelForgetFwdIdeal.Gen.facts,
  Cert.ReferenceForgetFwdIdeal.Gen.facts,
  Cert.KernelMmNn.Gen.facts,
  Cert.KernelMmNnIdeal.Gen.facts,
  Cert.ReferenceMmNnIdeal.Gen.facts,
  Cert.KernelMmRes.Gen.facts,
  Cert.KernelMmResIdeal.Gen.facts,
  Cert.ReferenceMmResIdeal.Gen.facts,
  Cert.KernelMmNt.Gen.facts,
  Cert.KernelMmNtIdeal.Gen.facts,
  Cert.ReferenceMmNtIdeal.Gen.facts,
  Cert.KernelMmSum.Gen.facts,
  Cert.KernelMmSumIdeal.Gen.facts,
  Cert.ReferenceMmSumIdeal.Gen.facts,
  Cert.KernelMmTn.Gen.facts,
  Cert.KernelMmTnIdeal.Gen.facts,
  Cert.ReferenceMmTnIdeal.Gen.facts,
  Cert.KernelAdamw.Gen.facts,
  Cert.KernelAdamwIdeal.Gen.facts,
  Cert.ReferenceAdamwIdeal.Gen.facts,
  inferInstance,
  inferInstance,
  inferInstance,
  inferInstance,
  inferInstance,
  inferInstance,
  inferInstance,
  inferInstance,
  inferInstance,
  fun m ρ _ => Cert.KernelLoss.Gen.frame m ρ,
  fun m ρ _ => Cert.KernelLossIdeal.Gen.frame m ρ,
  Loss.frame_reference,
  fun m ρ _ => Cert.KernelAttnQ.Gen.frame m ρ,
  fun m ρ _ => Cert.KernelAttnQIdeal.Gen.frame m ρ,
  AttnQ.frame_kernel_finite,
  AttnQ.frame_reference,
  AttnQ.frame_reference_finite,
  fun m ρ _ => Cert.KernelAttnKv.Gen.frame m ρ,
  fun m ρ _ => Cert.KernelAttnKvIdeal.Gen.frame m ρ,
  AttnKv.frame_kernel_finite,
  AttnKv.frame_reference,
  AttnKv.frame_reference_finite,
  fun m ρ _ => Cert.KernelRms.Gen.frame m ρ,
  fun m ρ _ => Cert.KernelRmsIdeal.Gen.frame m ρ,
  Rms.frame_kernel_finite,
  Rms.frame_reference,
  Rms.frame_reference_finite,
  fun m ρ _ => Cert.KernelQkNorm.Gen.frame m ρ,
  fun m ρ _ => Cert.KernelQkNormIdeal.Gen.frame m ρ,
  QkNorm.frame_kernel_finite,
  QkNorm.frame_reference,
  QkNorm.frame_reference_finite,
  fun m ρ _ => Cert.KernelFfn.Gen.frame m ρ,
  fun m ρ _ => Cert.KernelFfnIdeal.Gen.frame m ρ,
  Ffn.frame_kernel_finite,
  Ffn.frame_reference,
  Ffn.frame_reference_finite,
  fun m ρ _ => Cert.KernelForget.Gen.frame m ρ,
  fun m ρ _ => Cert.KernelForgetIdeal.Gen.frame m ρ,
  Forget.frame_reference,
  fun m ρ _ => Cert.KernelPool.Gen.frame m ρ,
  fun m ρ _ => Cert.KernelPoolIdeal.Gen.frame m ρ,
  Pool.frame_kernel_finite,
  Pool.frame_reference,
  Pool.frame_reference_finite,
  fun m ρ _ => Cert.KernelAttnFwd.Gen.frame m ρ,
  fun m ρ _ => Cert.KernelAttnFwdIdeal.Gen.frame m ρ,
  AttnFwd.frame_kernel_finite,
  AttnFwd.frame_reference,
  AttnFwd.frame_reference_finite,
  fun m ρ _ => Cert.KernelRmsFwd.Gen.frame m ρ,
  fun m ρ _ => Cert.KernelRmsFwdIdeal.Gen.frame m ρ,
  RmsFwd.frame_reference,
  fun m ρ _ => Cert.KernelPrep.Gen.frame m ρ,
  fun m ρ _ => Cert.KernelPrepIdeal.Gen.frame m ρ,
  Prep.frame_reference,
  fun m ρ _ => Cert.KernelPoolFwd.Gen.frame m ρ,
  fun m ρ _ => Cert.KernelPoolFwdIdeal.Gen.frame m ρ,
  PoolFwd.frame_kernel_finite,
  PoolFwd.frame_reference,
  PoolFwd.frame_reference_finite,
  fun m ρ _ => Cert.KernelUpGate.Gen.frame m ρ,
  fun m ρ _ => Cert.KernelUpGateIdeal.Gen.frame m ρ,
  UpGate.frame_kernel_finite,
  UpGate.frame_reference,
  UpGate.frame_reference_finite,
  fun m ρ _ => Cert.KernelUp.Gen.frame m ρ,
  fun m ρ _ => Cert.KernelUpIdeal.Gen.frame m ρ,
  Up.frame_kernel_finite,
  Up.frame_reference,
  Up.frame_reference_finite,
  fun m ρ _ => Cert.KernelForgetFwd.Gen.frame m ρ,
  fun m ρ _ => Cert.KernelForgetFwdIdeal.Gen.frame m ρ,
  ForgetFwd.frame_reference,
  fun m ρ _ => Cert.KernelMmNn.Gen.frame m ρ,
  fun m ρ _ => Cert.KernelMmNnIdeal.Gen.frame m ρ,
  MmNn.frame_reference,
  fun m ρ _ => Cert.KernelMmRes.Gen.frame m ρ,
  fun m ρ _ => Cert.KernelMmResIdeal.Gen.frame m ρ,
  MmRes.frame_reference,
  fun m ρ _ => Cert.KernelMmNt.Gen.frame m ρ,
  fun m ρ _ => Cert.KernelMmNtIdeal.Gen.frame m ρ,
  MmNt.frame_reference,
  fun m ρ _ => Cert.KernelMmSum.Gen.frame m ρ,
  fun m ρ _ => Cert.KernelMmSumIdeal.Gen.frame m ρ,
  MmSum.frame_reference,
  fun m ρ _ => Cert.KernelMmTn.Gen.frame m ρ,
  fun m ρ _ => Cert.KernelMmTnIdeal.Gen.frame m ρ,
  MmTn.frame_reference,
  fun m ρ _ => Cert.KernelAdamw.Gen.frame m ρ,
  fun m ρ _ => Cert.KernelAdamwIdeal.Gen.frame m ρ,
  Adamw.frame_reference,
  trivial,
  Loss.equal,
  AttnQ.preserves,
  AttnQ.equal,
  AttnKv.preserves,
  AttnKv.equal,
  trivial,
  Rms.equal,
  trivial,
  QkNorm.equal,
  trivial,
  Ffn.equal,
  trivial,
  Forget.equal,
  trivial,
  Pool.equal,
  AttnFwd.preserves,
  AttnFwd.equal,
  trivial,
  RmsFwd.equal,
  trivial,
  Prep.equal,
  trivial,
  PoolFwd.equal,
  trivial,
  UpGate.equal,
  trivial,
  Up.equal,
  trivial,
  ForgetFwd.equal,
  trivial,
  MmNn.equal,
  trivial,
  MmRes.equal,
  trivial,
  MmNt.equal,
  trivial,
  MmSum.equal,
  trivial,
  MmTn.equal,
  trivial,
  Adamw.equal⟩

end Cert.Proof

end
